-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_in [hPre_finite_in : Cert.Pre_finite_in.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_in [hPre_finite_in : Cert.Pre_finite_in.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mlp [hPre_finite_mlp : Cert.Pre_finite_mlp.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mlp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite_mlp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite_mlp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite_mlp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite_mlp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite_mlp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite_mlp.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mlp [hPre_finite_mlp : Cert.Pre_finite_mlp.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mlp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite_mlp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite_mlp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite_mlp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite_mlp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite_mlp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite_mlp.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_loss [hPre_finite_loss : Cert.Pre_finite_loss.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_loss [hPre_finite_loss : Cert.Pre_finite_loss.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_fwd [hPre_finite_fwd : Cert.Pre_finite_fwd.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_fwd.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite_fwd.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.1 = (fun _ => 1#1)
    ∧ (Cert.Pre_finite_fwd.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_fwd [hPre_finite_fwd : Cert.Pre_finite_fwd.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_fwd.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite_fwd.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.1 = (fun _ => 1#1)
    ∧ (Cert.Pre_finite_fwd.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_qk [hPre_finite_qk : Cert.Pre_finite_qk.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_qk.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).1 = (fun _ => 1#1)
    ∧ (Cert.Pre_finite_qk.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.1 = (fun _ => 1#1)
    ∧ (Cert.Pre_finite_qk.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.1 = (fun _ => 1#1)
    ∧ (Cert.Pre_finite_qk.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.1 = (fun _ => 1#1)
    ∧ (Cert.Pre_finite_qk.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.1 = (fun _ => 1#1)
    ∧ (Cert.Pre_finite_qk.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_qk [hPre_finite_qk : Cert.Pre_finite_qk.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_qk.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).1 = (fun _ => 1#1)
    ∧ (Cert.Pre_finite_qk.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.1 = (fun _ => 1#1)
    ∧ (Cert.Pre_finite_qk.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.1 = (fun _ => 1#1)
    ∧ (Cert.Pre_finite_qk.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.1 = (fun _ => 1#1)
    ∧ (Cert.Pre_finite_qk.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.1 = (fun _ => 1#1)
    ∧ (Cert.Pre_finite_qk.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_inproj [hPre_finite_inproj : Cert.Pre_finite_inproj.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_inproj.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).1 = (fun _ => 1#1)
    ∧ (Cert.Pre_finite_inproj.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.1 = (fun _ => 1#1)
    ∧ (Cert.Pre_finite_inproj.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.1 = (fun _ => 1#1)
    ∧ (Cert.Pre_finite_inproj.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_inproj [hPre_finite_inproj : Cert.Pre_finite_inproj.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_inproj.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).1 = (fun _ => 1#1)
    ∧ (Cert.Pre_finite_inproj.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.1 = (fun _ => 1#1)
    ∧ (Cert.Pre_finite_inproj.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.1 = (fun _ => 1#1)
    ∧ (Cert.Pre_finite_inproj.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_in [hKernel3Ideal : Cert.Kernel3Ideal.Facts] [hPre_finite_in : Cert.Pre_finite_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_in m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_in [hReference3Ideal : Cert.Reference3Ideal.Facts] [hPre_finite_in : Cert.Pre_finite_in.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_in m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_mlp [hKernel4Ideal : Cert.Kernel4Ideal.Facts] [hPre_finite_mlp : Cert.Pre_finite_mlp.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mlp m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_mlp [hReference4Ideal : Cert.Reference4Ideal.Facts] [hPre_finite_mlp : Cert.Pre_finite_mlp.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mlp m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_loss [hKernel5Ideal : Cert.Kernel5Ideal.Facts] [hPre_finite_loss : Cert.Pre_finite_loss.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_loss m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_loss [hReference5Ideal : Cert.Reference5Ideal.Facts] [hPre_finite_loss : Cert.Pre_finite_loss.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_loss m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_fwd [hKernel6Ideal : Cert.Kernel6Ideal.Facts] [hPre_finite_fwd : Cert.Pre_finite_fwd.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_fwd m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_fwd [hReference6Ideal : Cert.Reference6Ideal.Facts] [hPre_finite_fwd : Cert.Pre_finite_fwd.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_fwd m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel7Ideal_pre_finite_qk [hKernel7Ideal : Cert.Kernel7Ideal.Facts] [hPre_finite_qk : Cert.Pre_finite_qk.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_qk m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Reference7Ideal_pre_finite_qk [hReference7Ideal : Cert.Reference7Ideal.Facts] [hPre_finite_qk : Cert.Pre_finite_qk.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_qk m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite_inproj [hKernel10Ideal : Cert.Kernel10Ideal.Facts] [hPre_finite_inproj : Cert.Pre_finite_inproj.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_inproj m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite_inproj [hReference10Ideal : Cert.Reference10Ideal.Facts] [hPre_finite_inproj : Cert.Pre_finite_inproj.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_inproj m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)) (v4 : (c : Dev Cert.KernelIdeal.nD) → Buf (Elt Ideal) ((c.tc : Thread Cert.KernelIdeal.nD Cert.KernelIdeal.τ).loc Cert.KernelIdeal.main_v22_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_v22_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v36_0)) (v1 : (c : Dev Cert.Kernel2Ideal.nD) → Buf (Elt Ideal) ((c.tc : Thread Cert.Kernel2Ideal.nD Cert.Kernel2Ideal.τ).loc Cert.Kernel2Ideal.main_v36_1)) (v2 : (c : Dev Cert.Kernel2Ideal.nD) → Buf (Elt Ideal) ((c.tc : Thread Cert.Kernel2Ideal.nD Cert.Kernel2Ideal.τ).loc Cert.Kernel2Ideal.main_v36_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36_0) = v0 c
          ∧ r.2.mem ((c.tc : Thread Cert.Kernel2Ideal.nD Cert.Kernel2Ideal.τ).loc Cert.Kernel2Ideal.main_v36_1) = v1 c
          ∧ r.2.mem ((c.tc : Thread Cert.Kernel2Ideal.nD Cert.Kernel2Ideal.τ).loc Cert.Kernel2Ideal.main_v36_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v70) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_in [hKernel3Ideal : Cert.Kernel3Ideal.Facts] [hReference3Ideal : Cert.Reference3Ideal.Facts] [hPre_finite_in : Cert.Pre_finite_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_in m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_mlp [hKernel4Ideal : Cert.Kernel4Ideal.Facts] [hReference4Ideal : Cert.Reference4Ideal.Facts] [hPre_finite_mlp : Cert.Pre_finite_mlp.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mlp m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v80) = v0 c
          ∧ r.2.mem ((c.tc : Thread Cert.Reference4Ideal.nD Cert.Reference4Ideal.τ).loc Cert.Reference4Ideal.main_v82) = v1 c
          ∧ r.2.mem ((c.tc : Thread Cert.Reference4Ideal.nD Cert.Reference4Ideal.τ).loc Cert.Reference4Ideal.main_v84) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_loss [hKernel5Ideal : Cert.Kernel5Ideal.Facts] [hReference5Ideal : Cert.Reference5Ideal.Facts] [hPre_finite_loss : Cert.Pre_finite_loss.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_loss m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v88) = v0 c
          ∧ r.2.mem ((c.tc : Thread Cert.Reference5Ideal.nD Cert.Reference5Ideal.τ).loc Cert.Reference5Ideal.main_v90) = v1 c
          ∧ r.2.mem ((c.tc : Thread Cert.Reference5Ideal.nD Cert.Reference5Ideal.τ).loc Cert.Reference5Ideal.main_v92) = v2 c
          ∧ r.2.mem ((c.tc : Thread Cert.Reference5Ideal.nD Cert.Reference5Ideal.τ).loc Cert.Reference5Ideal.main_v87) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite_fwd [hKernel6Ideal : Cert.Kernel6Ideal.Facts] [hReference6Ideal : Cert.Reference6Ideal.Facts] [hPre_finite_fwd : Cert.Pre_finite_fwd.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_fwd m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)) (v2 : (c : Dev Cert.Kernel6Ideal.nD) → Buf (Elt Ideal) ((c.tc : Thread Cert.Kernel6Ideal.nD Cert.Kernel6Ideal.τ).loc Cert.Kernel6Ideal.main_v14_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_v14_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v27) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_qk [hKernel7Ideal : Cert.Kernel7Ideal.Facts] [hReference7Ideal : Cert.Reference7Ideal.Facts] [hPre_finite_qk : Cert.Pre_finite_qk.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_qk m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v123_0)) (v1 : (c : Dev Cert.Kernel7Ideal.nD) → Buf (Elt Ideal) ((c.tc : Thread Cert.Kernel7Ideal.nD Cert.Kernel7Ideal.τ).loc Cert.Kernel7Ideal.main_v123_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v123_0) = v0 c
          ∧ r.2.mem ((c.tc : Thread Cert.Kernel7Ideal.nD Cert.Kernel7Ideal.τ).loc Cert.Kernel7Ideal.main_v123_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v404) = v0 c
          ∧ r.2.mem ((c.tc : Thread Cert.Reference7Ideal.nD Cert.Reference7Ideal.τ).loc Cert.Reference7Ideal.main_v408) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v16_0)) (v1 : (c : Dev Cert.Kernel8Ideal.nD) → Buf (Elt Ideal) ((c.tc : Thread Cert.Kernel8Ideal.nD Cert.Kernel8Ideal.τ).loc Cert.Kernel8Ideal.main_v16_1)) (v2 : (c : Dev Cert.Kernel8Ideal.nD) → Buf (Elt Ideal) ((c.tc : Thread Cert.Kernel8Ideal.nD Cert.Kernel8Ideal.τ).loc Cert.Kernel8Ideal.main_v16_2)) (v3 : (c : Dev Cert.Kernel8Ideal.nD) → Buf (Elt Ideal) ((c.tc : Thread Cert.Kernel8Ideal.nD Cert.Kernel8Ideal.τ).loc Cert.Kernel8Ideal.main_v16_3)) (v4 : (c : Dev Cert.Kernel8Ideal.nD) → Buf (Elt Ideal) ((c.tc : Thread Cert.Kernel8Ideal.nD Cert.Kernel8Ideal.τ).loc Cert.Kernel8Ideal.main_v16_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16_0) = v0 c
          ∧ r.2.mem ((c.tc : Thread Cert.Kernel8Ideal.nD Cert.Kernel8Ideal.τ).loc Cert.Kernel8Ideal.main_v16_1) = v1 c
          ∧ r.2.mem ((c.tc : Thread Cert.Kernel8Ideal.nD Cert.Kernel8Ideal.τ).loc Cert.Kernel8Ideal.main_v16_2) = v2 c
          ∧ r.2.mem ((c.tc : Thread Cert.Kernel8Ideal.nD Cert.Kernel8Ideal.τ).loc Cert.Kernel8Ideal.main_v16_3) = v3 c
          ∧ r.2.mem ((c.tc : Thread Cert.Kernel8Ideal.nD Cert.Kernel8Ideal.τ).loc Cert.Kernel8Ideal.main_v16_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_v38) = v2 c
          ∧ r.2.mem ((c.tc : Thread Cert.Reference8Ideal.nD Cert.Reference8Ideal.τ).loc Cert.Reference8Ideal.main_v40) = v3 c
          ∧ r.2.mem ((c.tc : Thread Cert.Reference8Ideal.nD Cert.Reference8Ideal.τ).loc Cert.Reference8Ideal.main_v41) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_v35) = v1 c
          ∧ r.2.mem ((c.tc : Thread Cert.Reference9Ideal.nD Cert.Reference9Ideal.τ).loc Cert.Reference9Ideal.main_v37) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite_inproj [hKernel10Ideal : Cert.Kernel10Ideal.Facts] [hReference10Ideal : Cert.Reference10Ideal.Facts] [hPre_finite_inproj : Cert.Pre_finite_inproj.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_inproj m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v108_0)) (v1 : (c : Dev Cert.Kernel10Ideal.nD) → Buf (Elt Ideal) ((c.tc : Thread Cert.Kernel10Ideal.nD Cert.Kernel10Ideal.τ).loc Cert.Kernel10Ideal.main_v108_1)) (v2 : (c : Dev Cert.Kernel10Ideal.nD) → Buf (Elt Ideal) ((c.tc : Thread Cert.Kernel10Ideal.nD Cert.Kernel10Ideal.τ).loc Cert.Kernel10Ideal.main_v108_2)) (v3 : (c : Dev Cert.Kernel10Ideal.nD) → Buf (Elt Ideal) ((c.tc : Thread Cert.Kernel10Ideal.nD Cert.Kernel10Ideal.τ).loc Cert.Kernel10Ideal.main_v108_3)) (v4 : (c : Dev Cert.Kernel10Ideal.nD) → Buf (Elt Ideal) ((c.tc : Thread Cert.Kernel10Ideal.nD Cert.Kernel10Ideal.τ).loc Cert.Kernel10Ideal.main_v108_4)) (v5 : (c : Dev Cert.Kernel10Ideal.nD) → Buf (Elt Ideal) ((c.tc : Thread Cert.Kernel10Ideal.nD Cert.Kernel10Ideal.τ).loc Cert.Kernel10Ideal.main_v108_5)) (v6 : (c : Dev Cert.Kernel10Ideal.nD) → Buf (Elt Ideal) ((c.tc : Thread Cert.Kernel10Ideal.nD Cert.Kernel10Ideal.τ).loc Cert.Kernel10Ideal.main_v108_6)) (v7 : (c : Dev Cert.Kernel10Ideal.nD) → Buf (Elt Ideal) ((c.tc : Thread Cert.Kernel10Ideal.nD Cert.Kernel10Ideal.τ).loc Cert.Kernel10Ideal.main_v108_7)) (v8 : (c : Dev Cert.Kernel10Ideal.nD) → Buf (Elt Ideal) ((c.tc : Thread Cert.Kernel10Ideal.nD Cert.Kernel10Ideal.τ).loc Cert.Kernel10Ideal.main_v108_8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v108_0) = v0 c
          ∧ r.2.mem ((c.tc : Thread Cert.Kernel10Ideal.nD Cert.Kernel10Ideal.τ).loc Cert.Kernel10Ideal.main_v108_1) = v1 c
          ∧ r.2.mem ((c.tc : Thread Cert.Kernel10Ideal.nD Cert.Kernel10Ideal.τ).loc Cert.Kernel10Ideal.main_v108_2) = v2 c
          ∧ r.2.mem ((c.tc : Thread Cert.Kernel10Ideal.nD Cert.Kernel10Ideal.τ).loc Cert.Kernel10Ideal.main_v108_3) = v3 c
          ∧ r.2.mem ((c.tc : Thread Cert.Kernel10Ideal.nD Cert.Kernel10Ideal.τ).loc Cert.Kernel10Ideal.main_v108_4) = v4 c
          ∧ r.2.mem ((c.tc : Thread Cert.Kernel10Ideal.nD Cert.Kernel10Ideal.τ).loc Cert.Kernel10Ideal.main_v108_5) = v5 c
          ∧ r.2.mem ((c.tc : Thread Cert.Kernel10Ideal.nD Cert.Kernel10Ideal.τ).loc Cert.Kernel10Ideal.main_v108_6) = v6 c
          ∧ r.2.mem ((c.tc : Thread Cert.Kernel10Ideal.nD Cert.Kernel10Ideal.τ).loc Cert.Kernel10Ideal.main_v108_7) = v7 c
          ∧ r.2.mem ((c.tc : Thread Cert.Kernel10Ideal.nD Cert.Kernel10Ideal.τ).loc Cert.Kernel10Ideal.main_v108_8) = v8 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v58) = v0 c
          ∧ r.2.mem ((c.tc : Thread Cert.Reference10Ideal.nD Cert.Reference10Ideal.τ).loc Cert.Reference10Ideal.main_v61) = v1 c
          ∧ r.2.mem ((c.tc : Thread Cert.Reference10Ideal.nD Cert.Reference10Ideal.τ).loc Cert.Reference10Ideal.main_v152) = v2 c
          ∧ r.2.mem ((c.tc : Thread Cert.Reference10Ideal.nD Cert.Reference10Ideal.τ).loc Cert.Reference10Ideal.main_v241) = v3 c
          ∧ r.2.mem ((c.tc : Thread Cert.Reference10Ideal.nD Cert.Reference10Ideal.τ).loc Cert.Reference10Ideal.main_v246) = v4 c
          ∧ r.2.mem ((c.tc : Thread Cert.Reference10Ideal.nD Cert.Reference10Ideal.τ).loc Cert.Reference10Ideal.main_v267) = v5 c
          ∧ r.2.mem ((c.tc : Thread Cert.Reference10Ideal.nD Cert.Reference10Ideal.τ).loc Cert.Reference10Ideal.main_v286) = v6 c
          ∧ r.2.mem ((c.tc : Thread Cert.Reference10Ideal.nD Cert.Reference10Ideal.τ).loc Cert.Reference10Ideal.main_v291) = v7 c
          ∧ r.2.mem ((c.tc : Thread Cert.Reference10Ideal.nD Cert.Reference10Ideal.τ).loc Cert.Reference10Ideal.main_v293) = v8 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite_in : Cert.Pre_finite_in.Facts) (hPre_finite_mlp : Cert.Pre_finite_mlp.Facts) (hPre_finite_loss : Cert.Pre_finite_loss.Facts) (hPre_finite_fwd : Cert.Pre_finite_fwd.Facts) (hPre_finite_qk : Cert.Pre_finite_qk.Facts) (hPre_finite_inproj : Cert.Pre_finite_inproj.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite_in (hKernel3Ideal := hKernel3Ideal) (hPre_finite_in := hPre_finite_in)
    ∧ quiescent_Reference3Ideal (hReference3Ideal := hReference3Ideal)
    ∧ quiescent_Reference3Ideal_pre_finite_in (hReference3Ideal := hReference3Ideal) (hPre_finite_in := hPre_finite_in)
    ∧ quiescent_Kernel4 (hKernel4 := hKernel4)
    ∧ quiescent_Kernel4Ideal (hKernel4Ideal := hKernel4Ideal)
    ∧ quiescent_Kernel4Ideal_pre_finite_mlp (hKernel4Ideal := hKernel4Ideal) (hPre_finite_mlp := hPre_finite_mlp)
    ∧ quiescent_Reference4Ideal (hReference4Ideal := hReference4Ideal)
    ∧ quiescent_Reference4Ideal_pre_finite_mlp (hReference4Ideal := hReference4Ideal) (hPre_finite_mlp := hPre_finite_mlp)
    ∧ quiescent_Kernel5 (hKernel5 := hKernel5)
    ∧ quiescent_Kernel5Ideal (hKernel5Ideal := hKernel5Ideal)
    ∧ quiescent_Kernel5Ideal_pre_finite_loss (hKernel5Ideal := hKernel5Ideal) (hPre_finite_loss := hPre_finite_loss)
    ∧ quiescent_Reference5Ideal (hReference5Ideal := hReference5Ideal)
    ∧ quiescent_Reference5Ideal_pre_finite_loss (hReference5Ideal := hReference5Ideal) (hPre_finite_loss := hPre_finite_loss)
    ∧ quiescent_Kernel6 (hKernel6 := hKernel6)
    ∧ quiescent_Kernel6Ideal (hKernel6Ideal := hKernel6Ideal)
    ∧ quiescent_Kernel6Ideal_pre_finite_fwd (hKernel6Ideal := hKernel6Ideal) (hPre_finite_fwd := hPre_finite_fwd)
    ∧ quiescent_Reference6Ideal (hReference6Ideal := hReference6Ideal)
    ∧ quiescent_Reference6Ideal_pre_finite_fwd (hReference6Ideal := hReference6Ideal) (hPre_finite_fwd := hPre_finite_fwd)
    ∧ quiescent_Kernel7 (hKernel7 := hKernel7)
    ∧ quiescent_Kernel7Ideal (hKernel7Ideal := hKernel7Ideal)
    ∧ quiescent_Kernel7Ideal_pre_finite_qk (hKernel7Ideal := hKernel7Ideal) (hPre_finite_qk := hPre_finite_qk)
    ∧ quiescent_Reference7Ideal (hReference7Ideal := hReference7Ideal)
    ∧ quiescent_Reference7Ideal_pre_finite_qk (hReference7Ideal := hReference7Ideal) (hPre_finite_qk := hPre_finite_qk)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_inproj (hKernel10Ideal := hKernel10Ideal) (hPre_finite_inproj := hPre_finite_inproj)
    ∧ quiescent_Reference10Ideal (hReference10Ideal := hReference10Ideal)
    ∧ quiescent_Reference10Ideal_pre_finite_inproj (hReference10Ideal := hReference10Ideal) (hPre_finite_inproj := hPre_finite_inproj)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite_in (hKernel3Ideal := hKernel3Ideal) (hReference3Ideal := hReference3Ideal) (hPre_finite_in := hPre_finite_in)
    ∧ preserves_Kernel4_Kernel4Ideal
    ∧ algebraic_Kernel4Ideal_Reference4Ideal_pre_finite_mlp (hKernel4Ideal := hKernel4Ideal) (hReference4Ideal := hReference4Ideal) (hPre_finite_mlp := hPre_finite_mlp)
    ∧ preserves_Kernel5_Kernel5Ideal
    ∧ algebraic_Kernel5Ideal_Reference5Ideal_pre_finite_loss (hKernel5Ideal := hKernel5Ideal) (hReference5Ideal := hReference5Ideal) (hPre_finite_loss := hPre_finite_loss)
    ∧ preserves_Kernel6_Kernel6Ideal
    ∧ algebraic_Kernel6Ideal_Reference6Ideal_pre_finite_fwd (hKernel6Ideal := hKernel6Ideal) (hReference6Ideal := hReference6Ideal) (hPre_finite_fwd := hPre_finite_fwd)
    ∧ preserves_Kernel7_Kernel7Ideal
    ∧ algebraic_Kernel7Ideal_Reference7Ideal_pre_finite_qk (hKernel7Ideal := hKernel7Ideal) (hReference7Ideal := hReference7Ideal) (hPre_finite_qk := hPre_finite_qk)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_inproj (hKernel10Ideal := hKernel10Ideal) (hReference10Ideal := hReference10Ideal) (hPre_finite_inproj := hPre_finite_inproj)
-- ==== Pre_finite.lean ====
abbrev S1x8192x8x64 : Shape := ⟨4, ![1, 8192, 8, 64]⟩
abbrev S1x8192x2x64 : Shape := ⟨4, ![1, 8192, 2, 64]⟩
abbrev S1x8192x512 : Shape := ⟨3, ![1, 8192, 512]⟩
abbrev S_ : Shape := ⟨0, ![]⟩

class Facts : Prop where
  bcast_S_S1x8192x8x64 : S_.BroadcastsInDim S1x8192x8x64 (![] : Fin 0 → Fin S1x8192x8x64.rank)
  bcast_S_S1x8192x2x64 : S_.BroadcastsInDim S1x8192x2x64 (![] : Fin 0 → Fin S1x8192x2x64.rank)
  bcast_S_S1x8192x512 : S_.BroadcastsInDim S1x8192x512 (![] : Fin 0 → Fin S1x8192x512.rank)

variable [Facts]

def fn {F : FTy → Type} [FloatOps F] (main_arg0 : FVec F S1x8192x8x64 .f32) (main_arg1 : FVec F S1x8192x2x64 .f32) (main_arg2 : FVec F S1x8192x2x64 .f32) (main_arg3 : FVec F S1x8192x512 .f32) : IVec S1x8192x8x64 1 × IVec S1x8192x2x64 1 × IVec S1x8192x2x64 1 × IVec S1x8192x512 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_v3 : FVec F S1x8192x2x64 .f32 := Host.absf main_arg1
  let main_cst_0 : FVec F S_ .f32 := constant S_ .f32 0x7F800000#32
  let main_v4 : FVec F S1x8192x2x64 .f32 := broadcastInDim S1x8192x2x64 ![] bcast_S_S1x8192x2x64 main_cst_0
  let main_v5 : IVec S1x8192x2x64 1 := cmpf .olt main_v3 main_v4
  let main_v6 : FVec F S1x8192x2x64 .f32 := Host.absf main_arg2
  let main_cst_1 : FVec F S_ .f32 := constant S_ .f32 0x7F800000#32
  let main_v7 : FVec F S1x8192x2x64 .f32 := broadcastInDim S1x8192x2x64 ![] bcast_S_S1x8192x2x64 main_cst_1
  let main_v8 : IVec S1x8192x2x64 1 := cmpf .olt main_v6 main_v7
  let main_v9 : FVec F S1x8192x512 .f32 := Host.absf main_arg3
  let main_cst_2 : FVec F S_ .f32 := constant S_ .f32 0x7F800000#32
  let main_v10 : FVec F S1x8192x512 .f32 := broadcastInDim S1x8192x512 ![] bcast_S_S1x8192x512 main_cst_2
  let main_v11 : IVec S1x8192x512 1 := cmpf .olt main_v9 main_v10
  (main_v2, main_v5, main_v8, main_v11)
-- ==== Pre_finite_fwd.lean ====
abbrev S1x8192x8x64 : Shape := ⟨4, ![1, 8192, 8, 64]⟩
abbrev S1x8192x2x64 : Shape := ⟨4, ![1, 8192, 2, 64]⟩
abbrev S_ : Shape := ⟨0, ![]⟩

class Facts : Prop where
  bcast_S_S1x8192x8x64 : S_.BroadcastsInDim S1x8192x8x64 (![] : Fin 0 → Fin S1x8192x8x64.rank)
  bcast_S_S1x8192x2x64 : S_.BroadcastsInDim S1x8192x2x64 (![] : Fin 0 → Fin S1x8192x2x64.rank)

variable [Facts]

def fn {F : FTy → Type} [FloatOps F] (main_arg0 : FVec F S1x8192x8x64 .f32) (main_arg1 : FVec F S1x8192x2x64 .f32) (main_arg2 : FVec F S1x8192x2x64 .f32) : IVec S1x8192x8x64 1 × IVec S1x8192x2x64 1 × IVec S1x8192x2x64 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_v3 : FVec F S1x8192x2x64 .f32 := Host.absf main_arg1
  let main_cst_0 : FVec F S_ .f32 := constant S_ .f32 0x7F800000#32
  let main_v4 : FVec F S1x8192x2x64 .f32 := broadcastInDim S1x8192x2x64 ![] bcast_S_S1x8192x2x64 main_cst_0
  let main_v5 : IVec S1x8192x2x64 1 := cmpf .olt main_v3 main_v4
  let main_v6 : FVec F S1x8192x2x64 .f32 := Host.absf main_arg2
  let main_cst_1 : FVec F S_ .f32 := constant S_ .f32 0x7F800000#32
  let main_v7 : FVec F S1x8192x2x64 .f32 := broadcastInDim S1x8192x2x64 ![] bcast_S_S1x8192x2x64 main_cst_1
  let main_v8 : IVec S1x8192x2x64 1 := cmpf .olt main_v6 main_v7
  (main_v2, main_v5, main_v8)
-- ==== Pre_finite_in.lean ====
abbrev S1x8192x1024 : Shape := ⟨3, ![1, 8192, 1024]⟩
abbrev S1x8192x3584 : Shape := ⟨3, ![1, 8192, 3584]⟩
abbrev S1x6144 : Shape := ⟨2, ![1, 6144]⟩
abbrev S1x1024 : Shape := ⟨2, ![1, 1024]⟩
abbrev S1x1024x3584 : Shape := ⟨3, ![1, 1024, 3584]⟩
abbrev S_ : Shape := ⟨0, ![]⟩

class Facts : Prop where
  bcast_S_S1x8192x1024 : S_.BroadcastsInDim S1x8192x1024 (![] : Fin 0 → Fin S1x8192x1024.rank)
  bcast_S_S1x8192x3584 : S_.BroadcastsInDim S1x8192x3584 (![] : Fin 0 → Fin S1x8192x3584.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x3584 : S_.BroadcastsInDim S1x1024x3584 (![] : Fin 0 → Fin S1x1024x3584.rank)

variable [Facts]

def fn {F : FTy → Type} [FloatOps F] (main_arg0 : FVec F S1x8192x1024 .f32) (main_arg1 : FVec F S1x8192x3584 .f32) (main_arg2 : FVec F S1x8192x1024 .f32) (main_arg3 : FVec F S1x6144 .f32) (main_arg4 : FVec F S1x1024 .f32) (main_arg5 : FVec F S1x1024x3584 .f32) : IVec S1x8192x1024 1 × IVec S1x8192x3584 1 × IVec S1x6144 1 × IVec S1x1024 1 × IVec S1x1024x3584 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x3584 .f32 := Host.absf main_arg1
  let main_cst_0 : FVec F S_ .f32 := constant S_ .f32 0x7F800000#32
  let main_v4 : FVec F S1x8192x3584 .f32 := broadcastInDim S1x8192x3584 ![] bcast_S_S1x8192x3584 main_cst_0
  let main_v5 : IVec S1x8192x3584 1 := cmpf .olt main_v3 main_v4
  let main_v6 : FVec F S1x6144 .f32 := Host.absf main_arg3
  let main_cst_1 : FVec F S_ .f32 := constant S_ .f32 0x7F800000#32
  let main_v7 : FVec F S1x6144 .f32 := broadcastInDim S1x6144 ![] bcast_S_S1x6144 main_cst_1
  let main_v8 : IVec S1x6144 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x3584 .f32 := Host.absf main_arg5
  let main_cst_3 : FVec F S_ .f32 := constant S_ .f32 0x7F800000#32
  let main_v13 : FVec F S1x1024x3584 .f32 := broadcastInDim S1x1024x3584 ![] bcast_S_S1x1024x3584 main_cst_3
  let main_v14 : IVec S1x1024x3584 1 := cmpf .olt main_v12 main_v13
  (main_v2, main_v5, main_v8, main_v11, main_v14)
-- ==== Pre_finite_inproj.lean ====
abbrev S1x8192x1024 : Shape := ⟨3, ![1, 8192, 1024]⟩
abbrev S1x6144 : Shape := ⟨2, ![1, 6144]⟩
abbrev S1x1024 : Shape := ⟨2, ![1, 1024]⟩
abbrev S1x1024x3584 : Shape := ⟨3, ![1, 1024, 3584]⟩
abbrev S1x64 : Shape := ⟨2, ![1, 64]⟩
abbrev S_ : Shape := ⟨0, ![]⟩

class Facts : Prop where
  bcast_S_S1x8192x1024 : S_.BroadcastsInDim S1x8192x1024 (![] : Fin 0 → Fin S1x8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x3584 : S_.BroadcastsInDim S1x1024x3584 (![] : Fin 0 → Fin S1x1024x3584.rank)

variable [Facts]

def fn {F : FTy → Type} [FloatOps F] (main_arg0 : FVec F S1x8192x1024 .f32) (main_arg1 : FVec F S1x6144 .f32) (main_arg2 : FVec F S1x1024 .f32) (main_arg3 : FVec F S1x1024x3584 .f32) (main_arg4 : FVec F S1x64 .f32) (main_arg5 : FVec F S1x64 .f32) : IVec S1x8192x1024 1 × IVec S1x6144 1 × IVec S1x1024 1 × IVec S1x1024x3584 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x6144 .f32 := Host.absf main_arg1
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x3584 .f32 := Host.absf main_arg3
  let main_cst_2 : FVec F S_ .f32 := constant S_ .f32 0x7F800000#32
  let main_v10 : FVec F S1x1024x3584 .f32 := broadcastInDim S1x1024x3584 ![] bcast_S_S1x1024x3584 main_cst_2
  let main_v11 : IVec S1x1024x3584 1 := cmpf .olt main_v9 main_v10
  (main_v2, main_v5, main_v8, main_v11)
-- ==== Pre_finite_loss.lean ====
abbrev S1x8192x1024 : Shape := ⟨3, ![1, 8192, 1024]⟩
abbrev S1x8192x4096 : Shape := ⟨3, ![1, 8192, 4096]⟩
abbrev S1x6144 : Shape := ⟨2, ![1, 6144]⟩
abbrev S1024 : Shape := ⟨1, ![1024]⟩
abbrev S1x4096x1024 : Shape := ⟨3, ![1, 4096, 1024]⟩
abbrev S_ : Shape := ⟨0, ![]⟩

class Facts : Prop where
  bcast_S_S1x8192x1024 : S_.BroadcastsInDim S1x8192x1024 (![] : Fin 0 → Fin S1x8192x1024.rank)
  bcast_S_S1x8192x4096 : S_.BroadcastsInDim S1x8192x4096 (![] : Fin 0 → Fin S1x8192x4096.rank)
  bcast_S_S1x6144 : S_.BroadcastsInDim S1x6144 (![] : Fin 0 → Fin S1x6144.rank)
  bcast_S_S1024 : S_.BroadcastsInDim S1024 (![] : Fin 0 → Fin S1024.rank)
  bcast_S_S1x4096x1024 : S_.BroadcastsInDim S1x4096x1024 (![] : Fin 0 → Fin S1x4096x1024.rank)

variable [Facts]

def fn {F : FTy → Type} [FloatOps F] (main_arg0 : FVec F S1x8192x1024 .f32) (main_arg1 : FVec F S1x8192x4096 .f32) (main_arg2 : FVec F S1x8192x1024 .f32) (main_arg3 : FVec F S1x6144 .f32) (main_arg4 : FVec F S1024 .f32) (main_arg5 : FVec F S1x4096x1024 .f32) : IVec S1x8192x1024 1 × IVec S1x8192x4096 1 × IVec S1x8192x1024 1 × IVec S1x6144 1 × IVec S1024 1 × IVec S1x4096x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x4096 .f32 := Host.absf main_arg1
  let main_cst_0 : FVec F S_ .f32 := constant S_ .f32 0x7F800000#32
  let main_v4 : FVec F S1x8192x4096 .f32 := broadcastInDim S1x8192x4096 ![] bcast_S_S1x8192x4096 main_cst_0
  let main_v5 : IVec S1x8192x4096 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  let main_v9 : FVec F S1x6144 .f32 := Host.absf main_arg3
  let main_cst_2 : FVec F S_ .f32 := constant S_ .f32 0x7F800000#32
  let main_v10 : FVec F S1x6144 .f32 := broadcastInDim S1x6144 ![] bcast_S_S1x6144 main_cst_2
  let main_v11 : IVec S1x6144 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  (main_v2, main_v5, main_v8, main_v11, main_v14, main_v17)
-- ==== Pre_finite_mlp.lean ====
abbrev S1x8192x1024 : Shape := ⟨3, ![1, 8192, 1024]⟩
abbrev S1x8192x4096 : Shape := ⟨3, ![1, 8192, 4096]⟩
abbrev S1x6144 : Shape := ⟨2, ![1, 6144]⟩
abbrev S1x1024 : Shape := ⟨2, ![1, 1024]⟩
abbrev S1x1024x4096 : Shape := ⟨3, ![1, 1024, 4096]⟩
abbrev S_ : Shape := ⟨0, ![]⟩

class Facts : Prop where
  bcast_S_S1x8192x1024 : S_.BroadcastsInDim S1x8192x1024 (![] : Fin 0 → Fin S1x8192x1024.rank)
  bcast_S_S1x8192x4096 : S_.BroadcastsInDim S1x8192x4096 (![] : Fin 0 → Fin S1x8192x4096.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)

variable [Facts]

def fn_part1 {F : FTy → Type} [FloatOps F] (main_arg6 : FVec F S1x1024x4096 .f32) (main_v2 : IVec S1x8192x1024 1) (main_v5 : IVec S1x8192x1024 1) (main_v8 : IVec S1x8192x4096 1) (main_v11 : IVec S1x8192x1024 1) (main_v14 : IVec S1x6144 1) (main_v17 : IVec S1x1024 1) : IVec S1x8192x1024 1 × IVec S1x8192x1024 1 × IVec S1x8192x4096 1 × IVec S1x8192x1024 1 × IVec S1x6144 1 × IVec S1x1024 1 × IVec S1x1024x4096 1 :=
  let main_v18 : FVec F S1x1024x4096 .f32 := Host.absf main_arg6
  let main_cst_5 : FVec F S_ .f32 := constant S_ .f32 0x7F800000#32
  let main_v19 : FVec F S1x1024x4096 .f32 := broadcastInDim S1x1024x4096 ![] bcast_S_S1x1024x4096 main_cst_5
  let main_v20 : IVec S1x1024x4096 1 := cmpf .olt main_v18 main_v19
  (main_v2, main_v5, main_v8, main_v11, main_v14, main_v17, main_v20)

def fn {F : FTy → Type} [FloatOps F] (main_arg0 : FVec F S1x8192x1024 .f32) (main_arg1 : FVec F S1x8192x1024 .f32) (main_arg2 : FVec F S1x8192x4096 .f32) (main_arg3 : FVec F S1x8192x1024 .f32) (main_arg4 : FVec F S1x6144 .f32) (main_arg5 : FVec F S1x1024 .f32) (main_arg6 : FVec F S1x1024x4096 .f32) : IVec S1x8192x1024 1 × IVec S1x8192x1024 1 × IVec S1x8192x4096 1 × IVec S1x8192x1024 1 × IVec S1x6144 1 × IVec S1x1024 1 × IVec S1x1024x4096 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x8192x4096 .f32 := Host.absf main_arg2
  let main_cst_1 : FVec F S_ .f32 := constant S_ .f32 0x7F800000#32
  let main_v7 : FVec F S1x8192x4096 .f32 := broadcastInDim S1x8192x4096 ![] bcast_S_S1x8192x4096 main_cst_1
  let main_v8 : IVec S1x8192x4096 1 := cmpf .olt main_v6 main_v7
  let main_v9 : FVec F S1x8192x1024 .f32 := Host.absf main_arg3
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_v12 : FVec F S1x6144 .f32 := Host.absf main_arg4
  let main_cst_3 : FVec F S_ .f32 := constant S_ .f32 0x7F800000#32
  let main_v13 : FVec F S1x6144 .f32 := broadcastInDim S1x6144 ![] bcast_S_S1x6144 main_cst_3
  let main_v14 : IVec S1x6144 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_finite_qk.lean ====
abbrev S1x8192x512 : Shape := ⟨3, ![1, 8192, 512]⟩
abbrev S1x8192x128 : Shape := ⟨3, ![1, 8192, 128]⟩
abbrev S1x64 : Shape := ⟨2, ![1, 64]⟩
abbrev S1x8192x8x64 : Shape := ⟨4, ![1, 8192, 8, 64]⟩
abbrev S1x8192x2x64 : Shape := ⟨4, ![1, 8192, 2, 64]⟩
abbrev S1x8192x1024 : Shape := ⟨3, ![1, 8192, 1024]⟩
abbrev S_ : Shape := ⟨0, ![]⟩

class Facts : Prop where
  bcast_S_S1x8192x512 : S_.BroadcastsInDim S1x8192x512 (![] : Fin 0 → Fin S1x8192x512.rank)
  bcast_S_S1x8192x128 : S_.BroadcastsInDim S1x8192x128 (![] : Fin 0 → Fin S1x8192x128.rank)
  bcast_S_S1x64 : S_.BroadcastsInDim S1x64 (![] : Fin 0 → Fin S1x64.rank)
  bcast_S_S1x8192x8x64 : S_.BroadcastsInDim S1x8192x8x64 (![] : Fin 0 → Fin S1x8192x8x64.rank)
  bcast_S_S1x8192x2x64 : S_.BroadcastsInDim S1x8192x2x64 (![] : Fin 0 → Fin S1x8192x2x64.rank)

variable [Facts]

def fn {F : FTy → Type} [FloatOps F] (main_arg0 : FVec F S1x8192x512 .f32) (main_arg1 : FVec F S1x8192x128 .f32) (main_arg2 : FVec F S1x64 .f32) (main_arg3 : FVec F S1x64 .f32) (main_arg4 : FVec F S1x8192x8x64 .f32) (main_arg5 : FVec F S1x8192x2x64 .f32) (main_arg6 : FVec F S1x8192x2x64 .f32) (main_arg7 : FVec F S1x8192x8x64 .f32) (main_arg8 : FVec F S1x8192x2x64 .f32) (main_arg9 : FVec F S1x8192x2x64 .f32) (main_arg10 : FVec F S1x8192x1024 .f32) (main_arg11 : FVec F S1x8192x1024 .f32) : IVec S1x8192x512 1 × IVec S1x8192x128 1 × IVec S1x64 1 × IVec S1x64 1 × IVec S1x8192x8x64 1 × IVec S1x8192x2x64 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_v3 : FVec F S1x8192x128 .f32 := Host.absf main_arg1
  let main_cst_0 : FVec F S_ .f32 := constant S_ .f32 0x7F800000#32
  let main_v4 : FVec F S1x8192x128 .f32 := broadcastInDim S1x8192x128 ![] bcast_S_S1x8192x128 main_cst_0
  let main_v5 : IVec S1x8192x128 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x8192x8x64 .f32 := Host.absf main_arg4
  let main_cst_3 : FVec F S_ .f32 := constant S_ .f32 0x7F800000#32
  let main_v13 : FVec F S1x8192x8x64 .f32 := broadcastInDim S1x8192x8x64 ![] bcast_S_S1x8192x8x64 main_cst_3
  let main_v14 : IVec S1x8192x8x64 1 := cmpf .olt main_v12 main_v13
  let main_v15 : FVec F S1x8192x2x64 .f32 := Host.absf main_arg5
  let main_cst_4 : FVec F S_ .f32 := constant S_ .f32 0x7F800000#32
  let main_v16 : FVec F S1x8192x2x64 .f32 := broadcastInDim S1x8192x2x64 ![] bcast_S_S1x8192x2x64 main_cst_4
  let main_v17 : IVec S1x8192x2x64 1 := cmpf .olt main_v15 main_v16
  (main_v2, main_v5, main_v8, main_v11, main_v14, main_v17)
-- ==== Kernel.lean ====
abbrev S1x8192x1024 : Shape := ⟨3, ![1, 8192, 1024]⟩
abbrev S1x8192x512 : Shape := ⟨3, ![1, 8192, 512]⟩
abbrev S1x2x512x1024 : Shape := ⟨4, ![1, 2, 512, 1024]⟩
abbrev S1x1024x1024 : Shape := ⟨3, ![1, 1024, 1024]⟩
abbrev S8192x1024 : Shape := ⟨2, ![8192, 1024]⟩
abbrev S8192x2048 : Shape := ⟨2, ![8192, 2048]⟩
abbrev S2x512x1024 : Shape := ⟨3, ![2, 512, 1024]⟩
abbrev S2x512x4x256 : Shape := ⟨4, ![2, 512, 4, 256]⟩
abbrev S4x2x512x256 : Shape := ⟨4, ![4, 2, 512, 256]⟩
abbrev S8192x512 : Shape := ⟨2, ![8192, 512]⟩
abbrev S1x1x512x1024 : Shape := ⟨4, ![1, 1, 512, 1024]⟩
abbrev S512x1024 : Shape := ⟨2, ![512, 1024]⟩
abbrev S1024x1024 : Shape := ⟨2, ![1024, 1024]⟩
abbrev S8x8192x64 : Shape := ⟨3, ![8, 8192, 64]⟩
abbrev S512x2048 : Shape := ⟨2, ![512, 2048]⟩
abbrev S8x512x64 : Shape := ⟨3, ![8, 512, 64]⟩
abbrev S512x256 : Shape := ⟨2, ![512, 256]⟩
abbrev S1x1x512x256 : Shape := ⟨4, ![1, 1, 512, 256]⟩
abbrev S512x512 : Shape := ⟨2, ![512, 512]⟩
abbrev S512x64 : Shape := ⟨2, ![512, 64]⟩
abbrev S1x512x64 : Shape := ⟨3, ![1, 512, 64]⟩

abbrev nBuf : Space → Nat
  | .hbm => 34
  | .vmem => 20
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x512, .f32⟩
  | .hbm, ⟨3, _⟩ => ⟨S1x8192x512, .f32⟩
  | .hbm, ⟨4, _⟩ => ⟨S1x2x512x1024, .f32⟩
  | .hbm, ⟨5, _⟩ => ⟨S1x1024x1024, .f32⟩
  | .hbm, ⟨6, _⟩ => ⟨S1x8192x1024, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x2048, .bf16⟩
  | .hbm, ⟨11, _⟩ => ⟨S2x512x1024, .f32⟩
  | .hbm, ⟨12, _⟩ => ⟨S2x512x4x256, .f32⟩
  | .hbm, ⟨13, _⟩ => ⟨S4x2x512x256, .f32⟩
  | .hbm, ⟨14, _⟩ => ⟨S4x2x512x256, .bf16⟩
  | .hbm, ⟨15, _⟩ => ⟨S8192x512, .f32⟩
  | .hbm, ⟨16, _⟩ => ⟨S1x1x512x1024, .f32⟩
  | .hbm, ⟨17, _⟩ => ⟨S512x1024, .f32⟩
  | .hbm, ⟨18, _⟩ => ⟨S8192x1024, .f32⟩
  | .hbm, ⟨19, _⟩ => ⟨S8192x1024, .bf16⟩
  | .hbm, ⟨20, _⟩ => ⟨S8192x512, .f32⟩
  | .hbm, ⟨21, _⟩ => ⟨S1x1x512x1024, .f32⟩
  | .hbm, ⟨22, _⟩ => ⟨S512x1024, .f32⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S8192x1024, .bf16⟩
  | .hbm, ⟨27, _⟩ => ⟨S1024x1024, .f32⟩
  | .hbm, ⟨28, _⟩ => ⟨S1024x1024, .bf16⟩
  | .hbm, ⟨29, _⟩ => ⟨S8192x1024, .bf16⟩
  | .hbm, ⟨30, _⟩ => ⟨S8192x1024, .bf16⟩
  | .hbm, ⟨31, _⟩ => ⟨S8192x2048, .bf16⟩
  | .hbm, ⟨32, _⟩ => ⟨S8x8192x64, .bf16⟩
  | .hbm, ⟨33, _⟩ => ⟨S8x8192x64, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S4x2x512x256, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S8x512x64, .bf16⟩
  | .local _ .vmem, ⟨17, _⟩ => ⟨S8x512x64, .bf16⟩
  | .local _ .vmem, ⟨18, _⟩ => ⟨S8x512x64, .bf16⟩
  | .local _ .vmem, ⟨19, _⟩ => ⟨S8x512x64, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v22_3 : Ref sig .tc := ⟨.hbm, 32, rfl⟩
abbrev main_v22_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x2x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1x8192x1024 : Shape := ⟨3, ![1, 8192, 1024]⟩
abbrev S1x8192x512 : Shape := ⟨3, ![1, 8192, 512]⟩
abbrev S1x2x512x1024 : Shape := ⟨4, ![1, 2, 512, 1024]⟩
abbrev S1x1024x1024 : Shape := ⟨3, ![1, 1024, 1024]⟩
abbrev S1x1x512x1024 : Shape := ⟨4, ![1, 1, 512, 1024]⟩
abbrev S512x1024 : Shape := ⟨2, ![512, 1024]⟩
abbrev S_ : Shape := ⟨0, ![]⟩
abbrev S1024x1024 : Shape := ⟨2, ![1024, 1024]⟩
abbrev S8192x1024 : Shape := ⟨2, ![8192, 1024]⟩
abbrev S8192x2048 : Shape := ⟨2, ![8192, 2048]⟩
abbrev S8192x512 : Shape := ⟨2, ![8192, 512]⟩
abbrev S8192x8x64 : Shape := ⟨3, ![8192, 8, 64]⟩
abbrev S8x8192x64 : Shape := ⟨3, ![8, 8192, 64]⟩

abbrev nBuf : Space → Nat
  | .hbm => 67
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x512, .f32⟩
  | .hbm, ⟨3, _⟩ => ⟨S1x8192x512, .f32⟩
  | .hbm, ⟨4, _⟩ => ⟨S1x2x512x1024, .f32⟩
  | .hbm, ⟨5, _⟩ => ⟨S1x1024x1024, .f32⟩
  | .hbm, ⟨6, _⟩ => ⟨S1x8192x1024, .f32⟩
  | .hbm, ⟨7, _⟩ => ⟨S1x1x512x1024, .f32⟩
  | .hbm, ⟨8, _⟩ => ⟨S512x1024, .f32⟩
  | .hbm, ⟨9, _⟩ => ⟨S1x8192x1024, .f32⟩
  | .hbm, ⟨10, _⟩ => ⟨S1x1x512x1024, .f32⟩
  | .hbm, ⟨11, _⟩ => ⟨S512x1024, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S_, .f32⟩
  | .hbm, ⟨16, _⟩ => ⟨S1x8192x1024, .f32⟩
  | .hbm, ⟨17, _⟩ => ⟨S1x8192x1024, .f32⟩
  | .hbm, ⟨18, _⟩ => ⟨S_, .f32⟩
  | .hbm, ⟨19, _⟩ => ⟨S1x8192x1024, .f32⟩
  | .hbm, ⟨20, _⟩ => ⟨S1x8192x1024, .f32⟩
  | .hbm, ⟨21, _⟩ => ⟨S_, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S_, .f32⟩
  | .hbm, ⟨29, _⟩ => ⟨S1x8192x1024, .f32⟩
  | .hbm, ⟨30, _⟩ => ⟨S1x8192x1024, .f32⟩
  | .hbm, ⟨31, _⟩ => ⟨S_, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1x8192x1024, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S1024x1024, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S1x8192x512, .f32⟩
  | .hbm, ⟨50, _⟩ => ⟨S1x8192x512, .f32⟩
  | .hbm, ⟨51, _⟩ => ⟨S8192x1024, .f32⟩
  | .hbm, ⟨52, _⟩ => ⟨S8192x1024, .f32⟩
  | .hbm, ⟨53, _⟩ => ⟨S8192x2048, .f32⟩
  | .hbm, ⟨54, _⟩ => ⟨S8192x512, .f32⟩
  | .hbm, ⟨55, _⟩ => ⟨S8192x8x64, .f32⟩
  | .hbm, ⟨56, _⟩ => ⟨S8x8192x64, .f32⟩
  | .hbm, ⟨57, _⟩ => ⟨S8192x512, .f32⟩
  | .hbm, ⟨58, _⟩ => ⟨S8192x8x64, .f32⟩
  | .hbm, ⟨59, _⟩ => ⟨S8x8192x64, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S8192x1024, .bf16⟩
  | .hbm, ⟨64, _⟩ => ⟨S8192x2048, .bf16⟩
  | .hbm, ⟨65, _⟩ => ⟨S8x8192x64, .bf16⟩
  | .hbm, ⟨66, _⟩ => ⟨S8x8192x64, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Kernel2.lean ====
abbrev S1x8192x8x64 : Shape := ⟨4, ![1, 8192, 8, 64]⟩
abbrev S1x8192x2x64 : Shape := ⟨4, ![1, 8192, 2, 64]⟩
abbrev S1x8192x512 : Shape := ⟨3, ![1, 8192, 512]⟩
abbrev S8192x8x64 : Shape := ⟨3, ![8192, 8, 64]⟩
abbrev S_ : Shape := ⟨0, ![]⟩
abbrev S8x8192x64 : Shape := ⟨3, ![8, 8192, 64]⟩
abbrev S8192x2x64 : Shape := ⟨3, ![8192, 2, 64]⟩
abbrev S2x8192x64 : Shape := ⟨3, ![2, 8192, 64]⟩
abbrev S2x8192x128 : Shape := ⟨3, ![2, 8192, 128]⟩
abbrev S8192x512 : Shape := ⟨2, ![8192, 512]⟩
abbrev S2x4x8192x64 : Shape := ⟨4, ![2, 4, 8192, 64]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S1x4x256x64 : Shape := ⟨4, ![1, 4, 256, 64]⟩
abbrev S1x8192x64 : Shape := ⟨3, ![1, 8192, 64]⟩
abbrev S1x8192x128 : Shape := ⟨3, ![1, 8192, 128]⟩
abbrev S1x4x256x1 : Shape := ⟨4, ![1, 4, 256, 1]⟩
abbrev S1024x512 : Shape := ⟨2, ![1024, 512]⟩
abbrev S1024x64 : Shape := ⟨2, ![1024, 64]⟩
abbrev S8192x64 : Shape := ⟨2, ![8192, 64]⟩
abbrev S4x256x64 : Shape := ⟨3, ![4, 256, 64]⟩
abbrev S4x256x1 : Shape := ⟨3, ![4, 256, 1]⟩
abbrev S1024x1 : Shape := ⟨2, ![1024, 1]⟩
abbrev S1024 : Shape := ⟨1, ![1024]⟩
abbrev S1x512x64 : Shape := ⟨3, ![1, 512, 64]⟩
abbrev S512x64 : Shape := ⟨2, ![512, 64]⟩

abbrev nBuf : Space → Nat
  | .hbm => 48
  | .vmem => 27
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S1x8192x512, .f32⟩
  | .hbm, ⟨4, _⟩ => ⟨S8192x8x64, .f32⟩
  | .hbm, ⟨5, _⟩ => ⟨S_, .f32⟩
  | .hbm, ⟨6, _⟩ => ⟨S8192x8x64, .f32⟩
  | .hbm, ⟨7, _⟩ => ⟨S8192x8x64, .f32⟩
  | .hbm, ⟨8, _⟩ => ⟨S8x8192x64, .f32⟩
  | .hbm, ⟨9, _⟩ => ⟨S8192x2x64, .f32⟩
  | .hbm, ⟨10, _⟩ => ⟨S2x8192x64, .f32⟩
  | .hbm, ⟨11, _⟩ => ⟨S8192x2x64, .f32⟩
  | .hbm, ⟨12, _⟩ => ⟨S2x8192x64, .f32⟩
  | .hbm, ⟨13, _⟩ => ⟨S_, .f32⟩
  | .hbm, ⟨14, _⟩ => ⟨S2x8192x64, .f32⟩
  | .hbm, ⟨15, _⟩ => ⟨S2x8192x128, .f32⟩
  | .hbm, ⟨16, _⟩ => ⟨S2x8192x128, .bf16⟩
  | .hbm, ⟨17, _⟩ => ⟨S8192x512, .f32⟩
  | .hbm, ⟨18, _⟩ => ⟨S8192x8x64, .f32⟩
  | .hbm, ⟨19, _⟩ => ⟨S8x8192x64, .f32⟩
  | .hbm, ⟨20, _⟩ => ⟨S8x8192x64, .bf16⟩
  | .hbm, ⟨21, _⟩ => ⟨S2x4x8192x64, .f32⟩
  | .hbm, ⟨22, _⟩ => ⟨S2x4x8192x8192, .f32⟩
  | .hbm, ⟨23, _⟩ => ⟨S_, .f32⟩
  | .hbm, ⟨24, _⟩ => ⟨S2x4x8192, .f32⟩
  | .hbm, ⟨25, _⟩ => ⟨S2x4x8192x1, .f32⟩
  | .hbm, ⟨26, _⟩ => ⟨S2x4x8192x8192, .f32⟩
  | .hbm, ⟨27, _⟩ => ⟨S2x4x8192x8192, .f32⟩
  | .hbm, ⟨28, _⟩ => ⟨S2x4x8192x8192, .f32⟩
  | .hbm, ⟨29, _⟩ => ⟨S_, .f32⟩
  | .hbm, ⟨30, _⟩ => ⟨S2x4x8192, .f32⟩
  | .hbm, ⟨31, _⟩ => ⟨S2x4x8192x1, .f32⟩
  | .hbm, ⟨32, _⟩ => ⟨S_, .f32⟩
  | .hbm, ⟨33, _⟩ => ⟨S2x4x8192, .f32⟩
  | .hbm, ⟨34, _⟩ => ⟨S2x4x8192x1, .f32⟩
  | .hbm, ⟨35, _⟩ => ⟨S2x4x8192x1, .f32⟩
  | .hbm, ⟨36, _⟩ => ⟨S2x4x8192x1, .f32⟩
  | .hbm, ⟨37, _⟩ => ⟨S2x4x8192x64, .f32⟩
  | .hbm, ⟨38, _⟩ => ⟨S2x4x8192x64, .f32⟩
  | .hbm, ⟨39, _⟩ => ⟨S2x4x8192x64, .f32⟩
  | .hbm, ⟨40, _⟩ => ⟨S2x4x8192x64, .bf16⟩
  | .hbm, ⟨41, _⟩ => ⟨S8x8192x64, .bf16⟩
  | .hbm, ⟨42, _⟩ => ⟨S2x8192x64, .bf16⟩
  | .hbm, ⟨43, _⟩ => ⟨S2x4x8192x64, .bf16⟩
  | .hbm, ⟨44, _⟩ => ⟨S2x4x8192x64, .bf16⟩
  | .hbm, ⟨45, _⟩ => ⟨S2x4x8192x64, .bf16⟩
  | .hbm, ⟨46, _⟩ => ⟨S2x8192x64, .f32⟩
  | .hbm, ⟨47, _⟩ => ⟨S2x8192x64, .f32⟩
  | .local _ .vmem, ⟨0, _⟩ => ⟨S1x4x256x64, .bf16⟩
  | .local _ .vmem, ⟨1, _⟩ => ⟨S1x4x256x64, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x4x256x64, .bf16⟩
  | .local _ .vmem, ⟨7, _⟩ => ⟨S1x4x256x64, .bf16⟩
  | .local _ .vmem, ⟨8, _⟩ => ⟨S1x4x256x64, .bf16⟩
  | .local _ .vmem, ⟨9, _⟩ => ⟨S1x4x256x64, .bf16⟩
  | .local _ .vmem, ⟨10, _⟩ => ⟨S1x4x256x1, .f32⟩
  | .local _ .vmem, ⟨11, _⟩ => ⟨S1x4x256x1, .f32⟩
  | .local _ .vmem, ⟨12, _⟩ => ⟨S1x4x256x64, .bf16⟩
  | .local _ .vmem, ⟨13, _⟩ => ⟨S1x4x256x64, .bf16⟩
  | .local _ .vmem, ⟨14, _⟩ => ⟨S1x8192x64, .f32⟩
  | .local _ .vmem, ⟨15, _⟩ => ⟨S1x8192x64, .f32⟩
  | .local _ .vmem, ⟨16, _⟩ => ⟨S1x8192x64, .f32⟩
  | .local _ .vmem, ⟨17, _⟩ => ⟨S1x8192x64, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x64, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev main_v36_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def k0_mult1 : BitVec 32 :=
  let c0_i32_19 : BitVec 32 := 0#32
  c0_i32_19
def k0_mult2 : BitVec 32 :=
  let c0_i32_25 : BitVec 32 := 0#32
  c0_i32_25
def k0_mult3 : BitVec 32 :=
  let c512_i32 : BitVec 32 := 512#32
  c512_i32
def k0_mult4 : BitVec 32 :=
  let c512_i32_44 : BitVec 32 := 512#32
  c512_i32_44
def k0_mult5 : BitVec 32 :=
  let c2_i32 : BitVec 32 := 2#32
  let c0_i32_50 : BitVec 32 := 0#32
  let v72 : BitVec 32 := Scalar.muli c2_i32 c0_i32_50
  let c1_i32 : BitVec 32 := 1#32
  let v73 : BitVec 32 := Scalar.addi v72 c1_i32
  let c1_i32_51 : BitVec 32 := 1#32
  let v74 : BitVec 32 := Scalar.subi v73 c1_i32_51
  let c512_i32_52 : BitVec 32 := 512#32
  let v75 : BitVec 32 := Scalar.muli v74 c512_i32_52
  v75
def k0_off1 (c0_i32_50 : BitVec 32) : Fin 3 → Nat :=
  let c0_53 : Index := 0#32
  let c2_i32 : BitVec 32 := 2#32
  let v72 : BitVec 32 := Scalar.muli c2_i32 c0_i32_50
  let c1_i32 : BitVec 32 := 1#32
  let v73 : BitVec 32 := Scalar.addi v72 c1_i32
  let c1_i32_51 : BitVec 32 := 1#32
  let v74 : BitVec 32 := Scalar.subi v73 c1_i32_51
  let c512_i32_52 : BitVec 32 := 512#32
  let v75 : BitVec 32 := Scalar.muli v74 c512_i32_52
  let v76 : BitVec 32 := v75
  let v77 : Index := Scalar.indexCast v76
  let c0_54 : Index := 0#32
  ![0, v77.toNat, 0]
def k0_mult6 : BitVec 32 :=
  let c2_i32 : BitVec 32 := 2#32
  let c0_i32_50 : BitVec 32 := 0#32
  let v72 : BitVec 32 := Scalar.muli c2_i32 c0_i32_50
  let c1_i32 : BitVec 32 := 1#32
  let v73 : BitVec 32 := Scalar.addi v72 c1_i32
  let c1_i32_51 : BitVec 32 := 1#32
  let v74 : BitVec 32 := Scalar.subi v73 c1_i32_51
  let c512_i32_60 : BitVec 32 := 512#32
  let v87 : BitVec 32 := Scalar.muli v74 c512_i32_60
  v87
def k0_mult7 : BitVec 32 :=
  let c2_i32 : BitVec 32 := 2#32
  let c0_i32_50 : BitVec 32 := 0#32
  let v72 : BitVec 32 := Scalar.muli c2_i32 c0_i32_50
  let c1_i32 : BitVec 32 := 1#32
  let v73 : BitVec 32 := Scalar.addi v72 c1_i32
  let c1_i32_51 : BitVec 32 := 1#32
  let v74 : BitVec 32 := Scalar.subi v73 c1_i32_51
  let c512_i32_72 : BitVec 32 := 512#32
  let v101 : BitVec 32 := Scalar.muli v74 c512_i32_72
  v101
def k0_mult8 : BitVec 32 :=
  let c2_i32 : BitVec 32 := 2#32
  let c0_i32_50 : BitVec 32 := 0#32
  let v72 : BitVec 32 := Scalar.muli c2_i32 c0_i32_50
  let c1_i32 : BitVec 32 := 1#32
  let v73 : BitVec 32 := Scalar.addi v72 c1_i32
  let c1_i32_86 : BitVec 32 := 1#32
  let v127 : BitVec 32 := Scalar.addi v73 c1_i32_86
  let c512_i32_87 : BitVec 32 := 512#32
  let v128 : BitVec 32 := Scalar.muli v127 c512_i32_87
  v128
def k0_off2 (c0_i32_50 : BitVec 32) (c1_i32_86 : BitVec 32) : Fin 3 → Nat :=
  let c0_88 : Index := 0#32
  let c2_i32 : BitVec 32 := 2#32
  let v72 : BitVec 32 := Scalar.muli c2_i32 c0_i32_50
  let c1_i32 : BitVec 32 := 1#32
  let v73 : BitVec 32 := Scalar.addi v72 c1_i32
  let v127 : BitVec 32 := Scalar.addi v73 c1_i32_86
  let c512_i32_87 : BitVec 32 := 512#32
  let v128 : BitVec 32 := Scalar.muli v127 c512_i32_87
  let v129 : BitVec 32 := v128
  let v130 : Index := Scalar.indexCast v129
  let c0_89 : Index := 0#32
  ![0, v130.toNat, 0]
def k0_mult9 : BitVec 32 :=
  let c2_i32 : BitVec 32 := 2#32
  let c0_i32_50 : BitVec 32 := 0#32
  let v72 : BitVec 32 := Scalar.muli c2_i32 c0_i32_50
  let c1_i32 : BitVec 32 := 1#32
  let v73 : BitVec 32 := Scalar.addi v72 c1_i32
  let c1_i32_86 : BitVec 32 := 1#32
  let v127 : BitVec 32 := Scalar.addi v73 c1_i32_86
  let c512_i32_93 : BitVec 32 := 512#32
  let v137 : BitVec 32 := Scalar.muli v127 c512_i32_93
  v137
def k0_off3 (c0_i32_50 : BitVec 32) (c1_i32_86 : BitVec 32) : Fin 3 → Nat :=
  let c0_94 : Index := 0#32
  let c2_i32 : BitVec 32 := 2#32
  let v72 : BitVec 32 := Scalar.muli c2_i32 c0_i32_50
  let c1_i32 : BitVec 32 := 1#32
  let v73 : BitVec 32 := Scalar.addi v72 c1_i32
  let v127 : BitVec 32 := Scalar.addi v73 c1_i32_86
  let c512_i32_93 : BitVec 32 := 512#32
  let v137 : BitVec 32 := Scalar.muli v127 c512_i32_93
  let v138 : BitVec 32 := v137
  let v139 : Index := Scalar.indexCast v138
  let c0_95 : Index := 0#32
  ![0, v139.toNat, 0]
def k0_mult10 : BitVec 32 :=
  let c2_i32 : BitVec 32 := 2#32
  let c0_i32_50 : BitVec 32 := 0#32
  let v72 : BitVec 32 := Scalar.muli c2_i32 c0_i32_50
  let c1_i32 : BitVec 32 := 1#32
  let v73 : BitVec 32 := Scalar.addi v72 c1_i32
  let c512_i32_99 : BitVec 32 := 512#32
  let v146 : BitVec 32 := Scalar.muli v73 c512_i32_99
  v146
def k0_off4 (c0_i32_50 : BitVec 32) : Fin 3 → Nat :=
  let c0_100 : Index := 0#32
  let c2_i32 : BitVec 32 := 2#32
  let v72 : BitVec 32 := Scalar.muli c2_i32 c0_i32_50
  let c1_i32 : BitVec 32 := 1#32
  let v73 : BitVec 32 := Scalar.addi v72 c1_i32
  let c512_i32_99 : BitVec 32 := 512#32
  let v146 : BitVec 32 := Scalar.muli v73 c512_i32_99
  let v147 : BitVec 32 := v146
  let v148 : Index := Scalar.indexCast v147
  let c0_101 : Index := 0#32
  ![0, v148.toNat, 0]
def k0_mult11 : BitVec 32 :=
  let c2_i32 : BitVec 32 := 2#32
  let c0_i32_50 : BitVec 32 := 0#32
  let v72 : BitVec 32 := Scalar.muli c2_i32 c0_i32_50
  let c1_i32 : BitVec 32 := 1#32
  let v73 : BitVec 32 := Scalar.addi v72 c1_i32
  let c512_i32_107 : BitVec 32 := 512#32
  let v158 : BitVec 32 := Scalar.muli v73 c512_i32_107
  v158
def k0_mult12 : BitVec 32 :=
  let c2_i32 : BitVec 32 := 2#32
  let c0_i32_50 : BitVec 32 := 0#32
  let v72 : BitVec 32 := Scalar.muli c2_i32 c0_i32_50
  let c1_i32 : BitVec 32 := 1#32
  let v73 : BitVec 32 := Scalar.addi v72 c1_i32
  let c512_i32_119 : BitVec 32 := 512#32
  let v172 : BitVec 32 := Scalar.muli v73 c512_i32_119
  v172
def k0_mult13 : BitVec 32 :=
  let c2_i32 : BitVec 32 := 2#32
  let c0_i32_50 : BitVec 32 := 0#32
  let v72 : BitVec 32 := Scalar.muli c2_i32 c0_i32_50
  let c1_i32 : BitVec 32 := 1#32
  let v73 : BitVec 32 := Scalar.addi v72 c1_i32
  let c2_i32_133 : BitVec 32 := 2#32
  let v198 : BitVec 32 := Scalar.addi v73 c2_i32_133
  let c512_i32_134 : BitVec 32 := 512#32
  let v199 : BitVec 32 := Scalar.muli v198 c512_i32_134
  v199
def k0_mult14 : BitVec 32 :=
  let c2_i32 : BitVec 32 := 2#32
  let c0_i32_50 : BitVec 32 := 0#32
  let v72 : BitVec 32 := Scalar.muli c2_i32 c0_i32_50
  let c1_i32 : BitVec 32 := 1#32
  let v73 : BitVec 32 := Scalar.addi v72 c1_i32
  let c2_i32_133 : BitVec 32 := 2#32
  let v198 : BitVec 32 := Scalar.addi v73 c2_i32_133
  let c512_i32_140 : BitVec 32 := 512#32
  let v208 : BitVec 32 := Scalar.muli v198 c512_i32_140
  v208
def k0_mult15 : BitVec 32 :=
  let c2_i32_147 : BitVec 32 := 2#32
  let c1_i32_146 : BitVec 32 := 1#32
  let v217 : BitVec 32 := Scalar.muli c2_i32_147 c1_i32_146
  let c1_i32_148 : BitVec 32 := 1#32
  let v218 : BitVec 32 := Scalar.addi v217 c1_i32_148
  let c1_i32_149 : BitVec 32 := 1#32
  let v219 : BitVec 32 := Scalar.subi v218 c1_i32_149
  let c512_i32_150 : BitVec 32 := 512#32
  let v220 : BitVec 32 := Scalar.muli v219 c512_i32_150
  v220
def k0_mult16 : BitVec 32 :=
  let c2_i32_147 : BitVec 32 := 2#32
  let c1_i32_146 : BitVec 32 := 1#32
  let v217 : BitVec 32 := Scalar.muli c2_i32_147 c1_i32_146
  let c1_i32_148 : BitVec 32 := 1#32
  let v218 : BitVec 32 := Scalar.addi v217 c1_i32_148
  let c1_i32_149 : BitVec 32 := 1#32
  let v219 : BitVec 32 := Scalar.subi v218 c1_i32_149
  let c512_i32_158 : BitVec 32 := 512#32
  let v232 : BitVec 32 := Scalar.muli v219 c512_i32_158
  v232
def k0_mult17 : BitVec 32 :=
  let c2_i32_147 : BitVec 32 := 2#32
  let c1_i32_146 : BitVec 32 := 1#32
  let v217 : BitVec 32 := Scalar.muli c2_i32_147 c1_i32_146
  let c1_i32_148 : BitVec 32 := 1#32
  let v218 : BitVec 32 := Scalar.addi v217 c1_i32_148
  let c1_i32_149 : BitVec 32 := 1#32
  let v219 : BitVec 32 := Scalar.subi v218 c1_i32_149
  let c512_i32_170 : BitVec 32 := 512#32
  let v246 : BitVec 32 := Scalar.muli v219 c512_i32_170
  v246
def k0_mult18 : BitVec 32 :=
  let c2_i32_147 : BitVec 32 := 2#32
  let c1_i32_146 : BitVec 32 := 1#32
  let v217 : BitVec 32 := Scalar.muli c2_i32_147 c1_i32_146
  let c1_i32_148 : BitVec 32 := 1#32
  let v218 : BitVec 32 := Scalar.addi v217 c1_i32_148
  let c1_i32_184 : BitVec 32 := 1#32
  let v272 : BitVec 32 := Scalar.addi v218 c1_i32_184
  let c512_i32_185 : BitVec 32 := 512#32
  let v273 : BitVec 32 := Scalar.muli v272 c512_i32_185
  v273
def k0_mult19 : BitVec 32 :=
  let c2_i32_147 : BitVec 32 := 2#32
  let c1_i32_146 : BitVec 32 := 1#32
  let v217 : BitVec 32 := Scalar.muli c2_i32_147 c1_i32_146
  let c1_i32_148 : BitVec 32 := 1#32
  let v218 : BitVec 32 := Scalar.addi v217 c1_i32_148
  let c1_i32_184 : BitVec 32 := 1#32
  let v272 : BitVec 32 := Scalar.addi v218 c1_i32_184
  let c512_i32_191 : BitVec 32 := 512#32
  let v282 : BitVec 32 := Scalar.muli v272 c512_i32_191
  v282
def k0_mult20 : BitVec 32 :=
  let c2_i32_147 : BitVec 32 := 2#32
  let c1_i32_146 : BitVec 32 := 1#32
  let v217 : BitVec 32 := Scalar.muli c2_i32_147 c1_i32_146
  let c1_i32_148 : BitVec 32 := 1#32
  let v218 : BitVec 32 := Scalar.addi v217 c1_i32_148
  let c512_i32_197 : BitVec 32 := 512#32
  let v291 : BitVec 32 := Scalar.muli v218 c512_i32_197
  v291
def k0_mult21 : BitVec 32 :=
  let c2_i32_147 : BitVec 32 := 2#32
  let c1_i32_146 : BitVec 32 := 1#32
  let v217 : BitVec 32 := Scalar.muli c2_i32_147 c1_i32_146
  let c1_i32_148 : BitVec 32 := 1#32
  let v218 : BitVec 32 := Scalar.addi v217 c1_i32_148
  let c512_i32_205 : BitVec 32 := 512#32
  let v303 : BitVec 32 := Scalar.muli v218 c512_i32_205
  v303
def k0_mult22 : BitVec 32 :=
  let c2_i32_147 : BitVec 32 := 2#32
  let c1_i32_146 : BitVec 32 := 1#32
  let v217 : BitVec 32 := Scalar.muli c2_i32_147 c1_i32_146
  let c1_i32_148 : BitVec 32 := 1#32
  let v218 : BitVec 32 := Scalar.addi v217 c1_i32_148
  let c512_i32_217 : BitVec 32 := 512#32
  let v317 : BitVec 32 := Scalar.muli v218 c512_i32_217
  v317
def k0_mult23 : BitVec 32 :=
  let c2_i32_147 : BitVec 32 := 2#32
  let c1_i32_146 : BitVec 32 := 1#32
  let v217 : BitVec 32 := Scalar.muli c2_i32_147 c1_i32_146
  let c1_i32_148 : BitVec 32 := 1#32
  let v218 : BitVec 32 := Scalar.addi v217 c1_i32_148
  let c2_i32_231 : BitVec 32 := 2#32
  let v343 : BitVec 32 := Scalar.addi v218 c2_i32_231
  let c512_i32_232 : BitVec 32 := 512#32
  let v344 : BitVec 32 := Scalar.muli v343 c512_i32_232
  v344
def k0_mult24 : BitVec 32 :=
  let c2_i32_147 : BitVec 32 := 2#32
  let c1_i32_146 : BitVec 32 := 1#32
  let v217 : BitVec 32 := Scalar.muli c2_i32_147 c1_i32_146
  let c1_i32_148 : BitVec 32 := 1#32
  let v218 : BitVec 32 := Scalar.addi v217 c1_i32_148
  let c2_i32_231 : BitVec 32 := 2#32
  let v343 : BitVec 32 := Scalar.addi v218 c2_i32_231
  let c512_i32_238 : BitVec 32 := 512#32
  let v353 : BitVec 32 := Scalar.muli v343 c512_i32_238
  v353
def k0_mult25 : BitVec 32 :=
  let c2_i32_245 : BitVec 32 := 2#32
  let c2_i32_244 : BitVec 32 := 2#32
  let v362 : BitVec 32 := Scalar.muli c2_i32_245 c2_i32_244
  let c1_i32_246 : BitVec 32 := 1#32
  let v363 : BitVec 32 := Scalar.addi v362 c1_i32_246
  let c1_i32_247 : BitVec 32 := 1#32
  let v364 : BitVec 32 := Scalar.subi v363 c1_i32_247
  let c512_i32_248 : BitVec 32 := 512#32
  let v365 : BitVec 32 := Scalar.muli v364 c512_i32_248
  v365
def k0_mult26 : BitVec 32 :=
  let c2_i32_245 : BitVec 32 := 2#32
  let c2_i32_244 : BitVec 32 := 2#32
  let v362 : BitVec 32 := Scalar.muli c2_i32_245 c2_i32_244
  let c1_i32_246 : BitVec 32 := 1#32
  let v363 : BitVec 32 := Scalar.addi v362 c1_i32_246
  let c1_i32_247 : BitVec 32 := 1#32
  let v364 : BitVec 32 := Scalar.subi v363 c1_i32_247
  let c512_i32_256 : BitVec 32 := 512#32
  let v377 : BitVec 32 := Scalar.muli v364 c512_i32_256
  v377
def k0_mult27 : BitVec 32 :=
  let c2_i32_245 : BitVec 32 := 2#32
  let c2_i32_244 : BitVec 32 := 2#32
  let v362 : BitVec 32 := Scalar.muli c2_i32_245 c2_i32_244
  let c1_i32_246 : BitVec 32 := 1#32
  let v363 : BitVec 32 := Scalar.addi v362 c1_i32_246
  let c1_i32_247 : BitVec 32 := 1#32
  let v364 : BitVec 32 := Scalar.subi v363 c1_i32_247
  let c512_i32_268 : BitVec 32 := 512#32
  let v391 : BitVec 32 := Scalar.muli v364 c512_i32_268
  v391
def k0_mult28 : BitVec 32 :=
  let c2_i32_245 : BitVec 32 := 2#32
  let c2_i32_244 : BitVec 32 := 2#32
  let v362 : BitVec 32 := Scalar.muli c2_i32_245 c2_i32_244
  let c1_i32_246 : BitVec 32 := 1#32
  let v363 : BitVec 32 := Scalar.addi v362 c1_i32_246
  let c1_i32_282 : BitVec 32 := 1#32
  let v417 : BitVec 32 := Scalar.addi v363 c1_i32_282
  let c512_i32_283 : BitVec 32 := 512#32
  let v418 : BitVec 32 := Scalar.muli v417 c512_i32_283
  v418
def k0_mult29 : BitVec 32 :=
  let c2_i32_245 : BitVec 32 := 2#32
  let c2_i32_244 : BitVec 32 := 2#32
  let v362 : BitVec 32 := Scalar.muli c2_i32_245 c2_i32_244
  let c1_i32_246 : BitVec 32 := 1#32
  let v363 : BitVec 32 := Scalar.addi v362 c1_i32_246
  let c1_i32_282 : BitVec 32 := 1#32
  let v417 : BitVec 32 := Scalar.addi v363 c1_i32_282
  let c512_i32_289 : BitVec 32 := 512#32
  let v427 : BitVec 32 := Scalar.muli v417 c512_i32_289
  v427
def k0_mult30 : BitVec 32 :=
  let c2_i32_245 : BitVec 32 := 2#32
  let c2_i32_244 : BitVec 32 := 2#32
  let v362 : BitVec 32 := Scalar.muli c2_i32_245 c2_i32_244
  let c1_i32_246 : BitVec 32 := 1#32
  let v363 : BitVec 32 := Scalar.addi v362 c1_i32_246
  let c512_i32_295 : BitVec 32 := 512#32
  let v436 : BitVec 32 := Scalar.muli v363 c512_i32_295
  v436
def k0_mult31 : BitVec 32 :=
  let c2_i32_245 : BitVec 32 := 2#32
  let c2_i32_244 : BitVec 32 := 2#32
  let v362 : BitVec 32 := Scalar.muli c2_i32_245 c2_i32_244
  let c1_i32_246 : BitVec 32 := 1#32
  let v363 : BitVec 32 := Scalar.addi v362 c1_i32_246
  let c512_i32_303 : BitVec 32 := 512#32
  let v448 : BitVec 32 := Scalar.muli v363 c512_i32_303
  v448
def k0_mult32 : BitVec 32 :=
  let c2_i32_245 : BitVec 32 := 2#32
  let c2_i32_244 : BitVec 32 := 2#32
  let v362 : BitVec 32 := Scalar.muli c2_i32_245 c2_i32_244
  let c1_i32_246 : BitVec 32 := 1#32
  let v363 : BitVec 32 := Scalar.addi v362 c1_i32_246
  let c512_i32_315 : BitVec 32 := 512#32
  let v462 : BitVec 32 := Scalar.muli v363 c512_i32_315
  v462
def k0_mult33 : BitVec 32 :=
  let c2_i32_245 : BitVec 32 := 2#32
  let c2_i32_244 : BitVec 32 := 2#32
  let v362 : BitVec 32 := Scalar.muli c2_i32_245 c2_i32_244
  let c1_i32_246 : BitVec 32 := 1#32
  let v363 : BitVec 32 := Scalar.addi v362 c1_i32_246
  let c2_i32_329 : BitVec 32 := 2#32
  let v488 : BitVec 32 := Scalar.addi v363 c2_i32_329
  let c512_i32_330 : BitVec 32 := 512#32
  let v489 : BitVec 32 := Scalar.muli v488 c512_i32_330
  v489
def k0_mult34 : BitVec 32 :=
  let c2_i32_245 : BitVec 32 := 2#32
  let c2_i32_244 : BitVec 32 := 2#32
  let v362 : BitVec 32 := Scalar.muli c2_i32_245 c2_i32_244
  let c1_i32_246 : BitVec 32 := 1#32
  let v363 : BitVec 32 := Scalar.addi v362 c1_i32_246
  let c2_i32_329 : BitVec 32 := 2#32
  let v488 : BitVec 32 := Scalar.addi v363 c2_i32_329
  let c512_i32_336 : BitVec 32 := 512#32
  let v498 : BitVec 32 := Scalar.muli v488 c512_i32_336
  v498
def k0_mult35 : BitVec 32 :=
  let c2_i32_342 : BitVec 32 := 2#32
  let c3_i32 : BitVec 32 := 3#32
  let v507 : BitVec 32 := Scalar.muli c2_i32_342 c3_i32
  let c1_i32_343 : BitVec 32 := 1#32
  let v508 : BitVec 32 := Scalar.addi v507 c1_i32_343
  let c1_i32_344 : BitVec 32 := 1#32
  let v509 : BitVec 32 := Scalar.subi v508 c1_i32_344
  let c512_i32_345 : BitVec 32 := 512#32
  let v510 : BitVec 32 := Scalar.muli v509 c512_i32_345
  v510
def k0_mult36 : BitVec 32 :=
  let c2_i32_342 : BitVec 32 := 2#32
  let c3_i32 : BitVec 32 := 3#32
  let v507 : BitVec 32 := Scalar.muli c2_i32_342 c3_i32
  let c1_i32_343 : BitVec 32 := 1#32
  let v508 : BitVec 32 := Scalar.addi v507 c1_i32_343
  let c1_i32_344 : BitVec 32 := 1#32
  let v509 : BitVec 32 := Scalar.subi v508 c1_i32_344
  let c512_i32_353 : BitVec 32 := 512#32
  let v522 : BitVec 32 := Scalar.muli v509 c512_i32_353
  v522
def k0_mult37 : BitVec 32 :=
  let c2_i32_342 : BitVec 32 := 2#32
  let c3_i32 : BitVec 32 := 3#32
  let v507 : BitVec 32 := Scalar.muli c2_i32_342 c3_i32
  let c1_i32_343 : BitVec 32 := 1#32
  let v508 : BitVec 32 := Scalar.addi v507 c1_i32_343
  let c1_i32_344 : BitVec 32 := 1#32
  let v509 : BitVec 32 := Scalar.subi v508 c1_i32_344
  let c512_i32_365 : BitVec 32 := 512#32
  let v536 : BitVec 32 := Scalar.muli v509 c512_i32_365
  v536
def k0_mult38 : BitVec 32 :=
  let c2_i32_342 : BitVec 32 := 2#32
  let c3_i32 : BitVec 32 := 3#32
  let v507 : BitVec 32 := Scalar.muli c2_i32_342 c3_i32
  let c1_i32_343 : BitVec 32 := 1#32
  let v508 : BitVec 32 := Scalar.addi v507 c1_i32_343
  let c1_i32_379 : BitVec 32 := 1#32
  let v562 : BitVec 32 := Scalar.addi v508 c1_i32_379
  let c512_i32_380 : BitVec 32 := 512#32
  let v563 : BitVec 32 := Scalar.muli v562 c512_i32_380
  v563
def k0_mult39 : BitVec 32 :=
  let c2_i32_342 : BitVec 32 := 2#32
  let c3_i32 : BitVec 32 := 3#32
  let v507 : BitVec 32 := Scalar.muli c2_i32_342 c3_i32
  let c1_i32_343 : BitVec 32 := 1#32
  let v508 : BitVec 32 := Scalar.addi v507 c1_i32_343
  let c1_i32_379 : BitVec 32 := 1#32
  let v562 : BitVec 32 := Scalar.addi v508 c1_i32_379
  let c512_i32_386 : BitVec 32 := 512#32
  let v572 : BitVec 32 := Scalar.muli v562 c512_i32_386
  v572
def k0_mult40 : BitVec 32 :=
  let c2_i32_342 : BitVec 32 := 2#32
  let c3_i32 : BitVec 32 := 3#32
  let v507 : BitVec 32 := Scalar.muli c2_i32_342 c3_i32
  let c1_i32_343 : BitVec 32 := 1#32
  let v508 : BitVec 32 := Scalar.addi v507 c1_i32_343
  let c512_i32_392 : BitVec 32 := 512#32
  let v581 : BitVec 32 := Scalar.muli v508 c512_i32_392
  v581
def k0_mult41 : BitVec 32 :=
  let c2_i32_342 : BitVec 32 := 2#32
  let c3_i32 : BitVec 32 := 3#32
  let v507 : BitVec 32 := Scalar.muli c2_i32_342 c3_i32
  let c1_i32_343 : BitVec 32 := 1#32
  let v508 : BitVec 32 := Scalar.addi v507 c1_i32_343
  let c512_i32_400 : BitVec 32 := 512#32
  let v593 : BitVec 32 := Scalar.muli v508 c512_i32_400
  v593
def k0_mult42 : BitVec 32 :=
  let c2_i32_342 : BitVec 32 := 2#32
  let c3_i32 : BitVec 32 := 3#32
  let v507 : BitVec 32 := Scalar.muli c2_i32_342 c3_i32
  let c1_i32_343 : BitVec 32 := 1#32
  let v508 : BitVec 32 := Scalar.addi v507 c1_i32_343
  let c512_i32_412 : BitVec 32 := 512#32
  let v607 : BitVec 32 := Scalar.muli v508 c512_i32_412
  v607
def k0_mult43 : BitVec 32 :=
  let c2_i32_342 : BitVec 32 := 2#32
  let c3_i32 : BitVec 32 := 3#32
  let v507 : BitVec 32 := Scalar.muli c2_i32_342 c3_i32
  let c1_i32_343 : BitVec 32 := 1#32
  let v508 : BitVec 32 := Scalar.addi v507 c1_i32_343
  let c2_i32_426 : BitVec 32 := 2#32
  let v633 : BitVec 32 := Scalar.addi v508 c2_i32_426
  let c512_i32_427 : BitVec 32 := 512#32
  let v634 : BitVec 32 := Scalar.muli v633 c512_i32_427
  v634
def k0_mult44 : BitVec 32 :=
  let c2_i32_342 : BitVec 32 := 2#32
  let c3_i32 : BitVec 32 := 3#32
  let v507 : BitVec 32 := Scalar.muli c2_i32_342 c3_i32
  let c1_i32_343 : BitVec 32 := 1#32
  let v508 : BitVec 32 := Scalar.addi v507 c1_i32_343
  let c2_i32_426 : BitVec 32 := 2#32
  let v633 : BitVec 32 := Scalar.addi v508 c2_i32_426
  let c512_i32_433 : BitVec 32 := 512#32
  let v643 : BitVec 32 := Scalar.muli v633 c512_i32_433
  v643
def k0_mult45 : BitVec 32 :=
  let c2_i32_439 : BitVec 32 := 2#32
  let c4_i32 : BitVec 32 := 4#32
  let v652 : BitVec 32 := Scalar.muli c2_i32_439 c4_i32
  let c1_i32_440 : BitVec 32 := 1#32
  let v653 : BitVec 32 := Scalar.addi v652 c1_i32_440
  let c1_i32_441 : BitVec 32 := 1#32
  let v654 : BitVec 32 := Scalar.subi v653 c1_i32_441
  let c512_i32_442 : BitVec 32 := 512#32
  let v655 : BitVec 32 := Scalar.muli v654 c512_i32_442
  v655
def k0_mult46 : BitVec 32 :=
  let c2_i32_439 : BitVec 32 := 2#32
  let c4_i32 : BitVec 32 := 4#32
  let v652 : BitVec 32 := Scalar.muli c2_i32_439 c4_i32
  let c1_i32_440 : BitVec 32 := 1#32
  let v653 : BitVec 32 := Scalar.addi v652 c1_i32_440
  let c1_i32_441 : BitVec 32 := 1#32
  let v654 : BitVec 32 := Scalar.subi v653 c1_i32_441
  let c512_i32_450 : BitVec 32 := 512#32
  let v667 : BitVec 32 := Scalar.muli v654 c512_i32_450
  v667
def k0_mult47 : BitVec 32 :=
  let c2_i32_439 : BitVec 32 := 2#32
  let c4_i32 : BitVec 32 := 4#32
  let v652 : BitVec 32 := Scalar.muli c2_i32_439 c4_i32
  let c1_i32_440 : BitVec 32 := 1#32
  let v653 : BitVec 32 := Scalar.addi v652 c1_i32_440
  let c1_i32_441 : BitVec 32 := 1#32
  let v654 : BitVec 32 := Scalar.subi v653 c1_i32_441
  let c512_i32_462 : BitVec 32 := 512#32
  let v681 : BitVec 32 := Scalar.muli v654 c512_i32_462
  v681
def k0_mult48 : BitVec 32 :=
  let c2_i32_439 : BitVec 32 := 2#32
  let c4_i32 : BitVec 32 := 4#32
  let v652 : BitVec 32 := Scalar.muli c2_i32_439 c4_i32
  let c1_i32_440 : BitVec 32 := 1#32
  let v653 : BitVec 32 := Scalar.addi v652 c1_i32_440
  let c1_i32_476 : BitVec 32 := 1#32
  let v707 : BitVec 32 := Scalar.addi v653 c1_i32_476
  let c512_i32_477 : BitVec 32 := 512#32
  let v708 : BitVec 32 := Scalar.muli v707 c512_i32_477
  v708
def k0_mult49 : BitVec 32 :=
  let c2_i32_439 : BitVec 32 := 2#32
  let c4_i32 : BitVec 32 := 4#32
  let v652 : BitVec 32 := Scalar.muli c2_i32_439 c4_i32
  let c1_i32_440 : BitVec 32 := 1#32
  let v653 : BitVec 32 := Scalar.addi v652 c1_i32_440
  let c1_i32_476 : BitVec 32 := 1#32
  let v707 : BitVec 32 := Scalar.addi v653 c1_i32_476
  let c512_i32_483 : BitVec 32 := 512#32
  let v717 : BitVec 32 := Scalar.muli v707 c512_i32_483
  v717
def k0_mult50 : BitVec 32 :=
  let c2_i32_439 : BitVec 32 := 2#32
  let c4_i32 : BitVec 32 := 4#32
  let v652 : BitVec 32 := Scalar.muli c2_i32_439 c4_i32
  let c1_i32_440 : BitVec 32 := 1#32
  let v653 : BitVec 32 := Scalar.addi v652 c1_i32_440
  let c512_i32_489 : BitVec 32 := 512#32
  let v726 : BitVec 32 := Scalar.muli v653 c512_i32_489
  v726
def k0_mult51 : BitVec 32 :=
  let c2_i32_439 : BitVec 32 := 2#32
  let c4_i32 : BitVec 32 := 4#32
  let v652 : BitVec 32 := Scalar.muli c2_i32_439 c4_i32
  let c1_i32_440 : BitVec 32 := 1#32
  let v653 : BitVec 32 := Scalar.addi v652 c1_i32_440
  let c512_i32_497 : BitVec 32 := 512#32
  let v738 : BitVec 32 := Scalar.muli v653 c512_i32_497
  v738
def k0_mult52 : BitVec 32 :=
  let c2_i32_439 : BitVec 32 := 2#32
  let c4_i32 : BitVec 32 := 4#32
  let v652 : BitVec 32 := Scalar.muli c2_i32_439 c4_i32
  let c1_i32_440 : BitVec 32 := 1#32
  let v653 : BitVec 32 := Scalar.addi v652 c1_i32_440
  let c512_i32_509 : BitVec 32 := 512#32
  let v752 : BitVec 32 := Scalar.muli v653 c512_i32_509
  v752
def k0_mult53 : BitVec 32 :=
  let c2_i32_439 : BitVec 32 := 2#32
  let c4_i32 : BitVec 32 := 4#32
  let v652 : BitVec 32 := Scalar.muli c2_i32_439 c4_i32
  let c1_i32_440 : BitVec 32 := 1#32
  let v653 : BitVec 32 := Scalar.addi v652 c1_i32_440
  let c2_i32_523 : BitVec 32 := 2#32
  let v778 : BitVec 32 := Scalar.addi v653 c2_i32_523
  let c512_i32_524 : BitVec 32 := 512#32
  let v779 : BitVec 32 := Scalar.muli v778 c512_i32_524
  v779
def k0_mult54 : BitVec 32 :=
  let c2_i32_439 : BitVec 32 := 2#32
  let c4_i32 : BitVec 32 := 4#32
  let v652 : BitVec 32 := Scalar.muli c2_i32_439 c4_i32
  let c1_i32_440 : BitVec 32 := 1#32
  let v653 : BitVec 32 := Scalar.addi v652 c1_i32_440
  let c2_i32_523 : BitVec 32 := 2#32
  let v778 : BitVec 32 := Scalar.addi v653 c2_i32_523
  let c512_i32_530 : BitVec 32 := 512#32
  let v788 : BitVec 32 := Scalar.muli v778 c512_i32_530
  v788
def k0_mult55 : BitVec 32 :=
  let c2_i32_536 : BitVec 32 := 2#32
  let c5_i32 : BitVec 32 := 5#32
  let v797 : BitVec 32 := Scalar.muli c2_i32_536 c5_i32
  let c1_i32_537 : BitVec 32 := 1#32
  let v798 : BitVec 32 := Scalar.addi v797 c1_i32_537
  let c1_i32_538 : BitVec 32 := 1#32
  let v799 : BitVec 32 := Scalar.subi v798 c1_i32_538
  let c512_i32_539 : BitVec 32 := 512#32
  let v800 : BitVec 32 := Scalar.muli v799 c512_i32_539
  v800
def k0_mult56 : BitVec 32 :=
  let c2_i32_536 : BitVec 32 := 2#32
  let c5_i32 : BitVec 32 := 5#32
  let v797 : BitVec 32 := Scalar.muli c2_i32_536 c5_i32
  let c1_i32_537 : BitVec 32 := 1#32
  let v798 : BitVec 32 := Scalar.addi v797 c1_i32_537
  let c1_i32_538 : BitVec 32 := 1#32
  let v799 : BitVec 32 := Scalar.subi v798 c1_i32_538
  let c512_i32_547 : BitVec 32 := 512#32
  let v812 : BitVec 32 := Scalar.muli v799 c512_i32_547
  v812
def k0_mult57 : BitVec 32 :=
  let c2_i32_536 : BitVec 32 := 2#32
  let c5_i32 : BitVec 32 := 5#32
  let v797 : BitVec 32 := Scalar.muli c2_i32_536 c5_i32
  let c1_i32_537 : BitVec 32 := 1#32
  let v798 : BitVec 32 := Scalar.addi v797 c1_i32_537
  let c1_i32_538 : BitVec 32 := 1#32
  let v799 : BitVec 32 := Scalar.subi v798 c1_i32_538
  let c512_i32_559 : BitVec 32 := 512#32
  let v826 : BitVec 32 := Scalar.muli v799 c512_i32_559
  v826
def k0_mult58 : BitVec 32 :=
  let c2_i32_536 : BitVec 32 := 2#32
  let c5_i32 : BitVec 32 := 5#32
  let v797 : BitVec 32 := Scalar.muli c2_i32_536 c5_i32
  let c1_i32_537 : BitVec 32 := 1#32
  let v798 : BitVec 32 := Scalar.addi v797 c1_i32_537
  let c1_i32_573 : BitVec 32 := 1#32
  let v852 : BitVec 32 := Scalar.addi v798 c1_i32_573
  let c512_i32_574 : BitVec 32 := 512#32
  let v853 : BitVec 32 := Scalar.muli v852 c512_i32_574
  v853
def k0_mult59 : BitVec 32 :=
  let c2_i32_536 : BitVec 32 := 2#32
  let c5_i32 : BitVec 32 := 5#32
  let v797 : BitVec 32 := Scalar.muli c2_i32_536 c5_i32
  let c1_i32_537 : BitVec 32 := 1#32
  let v798 : BitVec 32 := Scalar.addi v797 c1_i32_537
  let c1_i32_573 : BitVec 32 := 1#32
  let v852 : BitVec 32 := Scalar.addi v798 c1_i32_573
  let c512_i32_580 : BitVec 32 := 512#32
  let v862 : BitVec 32 := Scalar.muli v852 c512_i32_580
  v862
def k0_mult60 : BitVec 32 :=
  let c2_i32_536 : BitVec 32 := 2#32
  let c5_i32 : BitVec 32 := 5#32
  let v797 : BitVec 32 := Scalar.muli c2_i32_536 c5_i32
  let c1_i32_537 : BitVec 32 := 1#32
  let v798 : BitVec 32 := Scalar.addi v797 c1_i32_537
  let c512_i32_586 : BitVec 32 := 512#32
  let v871 : BitVec 32 := Scalar.muli v798 c512_i32_586
  v871
def k0_mult61 : BitVec 32 :=
  let c2_i32_536 : BitVec 32 := 2#32
  let c5_i32 : BitVec 32 := 5#32
  let v797 : BitVec 32 := Scalar.muli c2_i32_536 c5_i32
  let c1_i32_537 : BitVec 32 := 1#32
  let v798 : BitVec 32 := Scalar.addi v797 c1_i32_537
  let c512_i32_594 : BitVec 32 := 512#32
  let v883 : BitVec 32 := Scalar.muli v798 c512_i32_594
  v883
def k0_mult62 : BitVec 32 :=
  let c2_i32_536 : BitVec 32 := 2#32
  let c5_i32 : BitVec 32 := 5#32
  let v797 : BitVec 32 := Scalar.muli c2_i32_536 c5_i32
  let c1_i32_537 : BitVec 32 := 1#32
  let v798 : BitVec 32 := Scalar.addi v797 c1_i32_537
  let c512_i32_606 : BitVec 32 := 512#32
  let v897 : BitVec 32 := Scalar.muli v798 c512_i32_606
  v897
def k0_mult63 : BitVec 32 :=
  let c2_i32_536 : BitVec 32 := 2#32
  let c5_i32 : BitVec 32 := 5#32
  let v797 : BitVec 32 := Scalar.muli c2_i32_536 c5_i32
  let c1_i32_537 : BitVec 32 := 1#32
  let v798 : BitVec 32 := Scalar.addi v797 c1_i32_537
  let c2_i32_620 : BitVec 32 := 2#32
  let v923 : BitVec 32 := Scalar.addi v798 c2_i32_620
  let c512_i32_621 : BitVec 32 := 512#32
  let v924 : BitVec 32 := Scalar.muli v923 c512_i32_621
  v924
def k0_mult64 : BitVec 32 :=
  let c2_i32_536 : BitVec 32 := 2#32
  let c5_i32 : BitVec 32 := 5#32
  let v797 : BitVec 32 := Scalar.muli c2_i32_536 c5_i32
  let c1_i32_537 : BitVec 32 := 1#32
  let v798 : BitVec 32 := Scalar.addi v797 c1_i32_537
  let c2_i32_620 : BitVec 32 := 2#32
  let v923 : BitVec 32 := Scalar.addi v798 c2_i32_620
  let c512_i32_627 : BitVec 32 := 512#32
  let v933 : BitVec 32 := Scalar.muli v923 c512_i32_627
  v933
def k0_mult65 : BitVec 32 :=
  let c2_i32_633 : BitVec 32 := 2#32
  let c6_i32 : BitVec 32 := 6#32
  let v942 : BitVec 32 := Scalar.muli c2_i32_633 c6_i32
  let c1_i32_634 : BitVec 32 := 1#32
  let v943 : BitVec 32 := Scalar.addi v942 c1_i32_634
  let c1_i32_635 : BitVec 32 := 1#32
  let v944 : BitVec 32 := Scalar.subi v943 c1_i32_635
  let c512_i32_636 : BitVec 32 := 512#32
  let v945 : BitVec 32 := Scalar.muli v944 c512_i32_636
  v945
def k0_mult66 : BitVec 32 :=
  let c2_i32_633 : BitVec 32 := 2#32
  let c6_i32 : BitVec 32 := 6#32
  let v942 : BitVec 32 := Scalar.muli c2_i32_633 c6_i32
  let c1_i32_634 : BitVec 32 := 1#32
  let v943 : BitVec 32 := Scalar.addi v942 c1_i32_634
  let c1_i32_635 : BitVec 32 := 1#32
  let v944 : BitVec 32 := Scalar.subi v943 c1_i32_635
  let c512_i32_644 : BitVec 32 := 512#32
  let v957 : BitVec 32 := Scalar.muli v944 c512_i32_644
  v957
def k0_mult67 : BitVec 32 :=
  let c2_i32_633 : BitVec 32 := 2#32
  let c6_i32 : BitVec 32 := 6#32
  let v942 : BitVec 32 := Scalar.muli c2_i32_633 c6_i32
  let c1_i32_634 : BitVec 32 := 1#32
  let v943 : BitVec 32 := Scalar.addi v942 c1_i32_634
  let c1_i32_635 : BitVec 32 := 1#32
  let v944 : BitVec 32 := Scalar.subi v943 c1_i32_635
  let c512_i32_656 : BitVec 32 := 512#32
  let v971 : BitVec 32 := Scalar.muli v944 c512_i32_656
  v971
def k0_mult68 : BitVec 32 :=
  let c2_i32_633 : BitVec 32 := 2#32
  let c6_i32 : BitVec 32 := 6#32
  let v942 : BitVec 32 := Scalar.muli c2_i32_633 c6_i32
  let c1_i32_634 : BitVec 32 := 1#32
  let v943 : BitVec 32 := Scalar.addi v942 c1_i32_634
  let c1_i32_670 : BitVec 32 := 1#32
  let v997 : BitVec 32 := Scalar.addi v943 c1_i32_670
  let c512_i32_671 : BitVec 32 := 512#32
  let v998 : BitVec 32 := Scalar.muli v997 c512_i32_671
  v998
def k0_mult69 : BitVec 32 :=
  let c2_i32_633 : BitVec 32 := 2#32
  let c6_i32 : BitVec 32 := 6#32
  let v942 : BitVec 32 := Scalar.muli c2_i32_633 c6_i32
  let c1_i32_634 : BitVec 32 := 1#32
  let v943 : BitVec 32 := Scalar.addi v942 c1_i32_634
  let c1_i32_670 : BitVec 32 := 1#32
  let v997 : BitVec 32 := Scalar.addi v943 c1_i32_670
  let c512_i32_677 : BitVec 32 := 512#32
  let v1007 : BitVec 32 := Scalar.muli v997 c512_i32_677
  v1007
def k0_mult70 : BitVec 32 :=
  let c2_i32_633 : BitVec 32 := 2#32
  let c6_i32 : BitVec 32 := 6#32
  let v942 : BitVec 32 := Scalar.muli c2_i32_633 c6_i32
  let c1_i32_634 : BitVec 32 := 1#32
  let v943 : BitVec 32 := Scalar.addi v942 c1_i32_634
  let c512_i32_683 : BitVec 32 := 512#32
  let v1016 : BitVec 32 := Scalar.muli v943 c512_i32_683
  v1016
def k0_mult71 : BitVec 32 :=
  let c2_i32_633 : BitVec 32 := 2#32
  let c6_i32 : BitVec 32 := 6#32
  let v942 : BitVec 32 := Scalar.muli c2_i32_633 c6_i32
  let c1_i32_634 : BitVec 32 := 1#32
  let v943 : BitVec 32 := Scalar.addi v942 c1_i32_634
  let c512_i32_691 : BitVec 32 := 512#32
  let v1028 : BitVec 32 := Scalar.muli v943 c512_i32_691
  v1028
def k0_mult72 : BitVec 32 :=
  let c2_i32_633 : BitVec 32 := 2#32
  let c6_i32 : BitVec 32 := 6#32
  let v942 : BitVec 32 := Scalar.muli c2_i32_633 c6_i32
  let c1_i32_634 : BitVec 32 := 1#32
  let v943 : BitVec 32 := Scalar.addi v942 c1_i32_634
  let c512_i32_703 : BitVec 32 := 512#32
  let v1042 : BitVec 32 := Scalar.muli v943 c512_i32_703
  v1042
def k0_mult73 : BitVec 32 :=
  let c2_i32_633 : BitVec 32 := 2#32
  let c6_i32 : BitVec 32 := 6#32
  let v942 : BitVec 32 := Scalar.muli c2_i32_633 c6_i32
  let c1_i32_634 : BitVec 32 := 1#32
  let v943 : BitVec 32 := Scalar.addi v942 c1_i32_634
  let c2_i32_717 : BitVec 32 := 2#32
  let v1068 : BitVec 32 := Scalar.addi v943 c2_i32_717
  let c512_i32_718 : BitVec 32 := 512#32
  let v1069 : BitVec 32 := Scalar.muli v1068 c512_i32_718
  v1069
def k0_mult74 : BitVec 32 :=
  let c2_i32_633 : BitVec 32 := 2#32
  let c6_i32 : BitVec 32 := 6#32
  let v942 : BitVec 32 := Scalar.muli c2_i32_633 c6_i32
  let c1_i32_634 : BitVec 32 := 1#32
  let v943 : BitVec 32 := Scalar.addi v942 c1_i32_634
  let c2_i32_717 : BitVec 32 := 2#32
  let v1068 : BitVec 32 := Scalar.addi v943 c2_i32_717
  let c512_i32_724 : BitVec 32 := 512#32
  let v1078 : BitVec 32 := Scalar.muli v1068 c512_i32_724
  v1078
def k0_mult75 : BitVec 32 :=
  let c7168_i32 : BitVec 32 := 7168#32
  c7168_i32
def k0_mult76 : BitVec 32 :=
  let c7168_i32_737 : BitVec 32 := 7168#32
  c7168_i32_737
def k0_mult77 : BitVec 32 :=
  let c7168_i32_749 : BitVec 32 := 7168#32
  c7168_i32_749
def k0_mult78 : BitVec 32 :=
  let c7680_i32 : BitVec 32 := 7680#32
  c7680_i32
def k0_mult79 : BitVec 32 :=
  let c7680_i32_770 : BitVec 32 := 7680#32
  c7680_i32_770
def k0_mult80 : BitVec 32 :=
  let c7680_i32_782 : BitVec 32 := 7680#32
  c7680_i32_782
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8192x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S1x8192x8x64 : Shape := ⟨4, ![1, 8192, 8, 64]⟩
abbrev S1x8192x2x64 : Shape := ⟨4, ![1, 8192, 2, 64]⟩
abbrev S1x8192x512 : Shape := ⟨3, ![1, 8192, 512]⟩
abbrev S1x8192x2x4x64 : Shape := ⟨5, ![1, 8192, 2, 4, 64]⟩
abbrev S1x2x8192x8192x4 : Shape := ⟨5, ![1, 2, 8192, 8192, 4]⟩
abbrev S1x2x4x8192x8192 : Shape := ⟨5, ![1, 2, 4, 8192, 8192]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S1x2x64x4x8192 : Shape := ⟨5, ![1, 2, 64, 4, 8192]⟩
abbrev S1x2x64x8192 : Shape := ⟨4, ![1, 2, 64, 8192]⟩
abbrev S2x4x8192 : Shape := ⟨3, ![2, 4, 8192]⟩
abbrev S1x2x8192x4x64 : Shape := ⟨5, ![1, 2, 8192, 4, 64]⟩
abbrev S1x2x8192x64 : Shape := ⟨4, ![1, 2, 8192, 64]⟩
abbrev S8192x2x4x64 : Shape := ⟨4, ![8192, 2, 4, 64]⟩
abbrev S2x4x8192x64 : Shape := ⟨4, ![2, 4, 8192, 64]⟩
abbrev S8192x2x64 : Shape := ⟨3, ![8192, 2, 64]⟩
abbrev S2x8192x64 : Shape := ⟨3, ![2, 8192, 64]⟩

abbrev nBuf : Space → Nat
  | .hbm => 90
  | .vmem => 0
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S1x8192x512, .f32⟩
  | .hbm, ⟨4, _⟩ => ⟨S1x8192x2x4x64, .f32⟩
  | .hbm, ⟨5, _⟩ => ⟨S1x2x8192x8192x4, .f32⟩
  | .hbm, ⟨6, _⟩ => ⟨S1x2x4x8192x8192, .f32⟩
  | .hbm, ⟨7, _⟩ => ⟨S_, .f32⟩
  | .hbm, ⟨8, _⟩ => ⟨S1x2x4x8192x8192, .f32⟩
  | .hbm, ⟨9, _⟩ => ⟨S1x2x4x8192x8192, .f32⟩
  | .hbm, ⟨10, _⟩ => ⟨S_, .f32⟩
  | .hbm, ⟨11, _⟩ => ⟨S1x2x4x8192, .f32⟩
  | .hbm, ⟨12, _⟩ => ⟨S1x2x4x8192x1, .f32⟩
  | .hbm, ⟨13, _⟩ => ⟨S1x2x4x8192x8192, .f32⟩
  | .hbm, ⟨14, _⟩ => ⟨S1x2x4x8192x8192, .i1⟩
  | .hbm, ⟨15, _⟩ => ⟨S1x2x4x8192x8192, .f32⟩
  | .hbm, ⟨16, _⟩ => ⟨S_, .f32⟩
  | .hbm, ⟨17, _⟩ => ⟨S1x2x4x8192, .f32⟩
  | .hbm, ⟨18, _⟩ => ⟨S_, .f32⟩
  | .hbm, ⟨19, _⟩ => ⟨S1x2x4x8192, .f32⟩
  | .hbm, ⟨20, _⟩ => ⟨S1x2x4x8192, .f32⟩
  | .hbm, ⟨21, _⟩ => ⟨S_, .f32⟩
  | .hbm, ⟨22, _⟩ => ⟨S1x2x4x8192, .f32⟩
  | .hbm, ⟨23, _⟩ => ⟨S1x2x4x8192, .i1⟩
  | .hbm, ⟨24, _⟩ => ⟨S_, .f32⟩
  | .hbm, ⟨25, _⟩ => ⟨S1x2x4x8192, .f32⟩
  | .hbm, ⟨26, _⟩ => ⟨S1x2x4x8192, .i1⟩
  | .hbm, ⟨27, _⟩ => ⟨S_, .f32⟩
  | .hbm, ⟨28, _⟩ => ⟨S1x2x4x8192, .f32⟩
  | .hbm, ⟨29, _⟩ => ⟨S_, .f32⟩
  | .hbm, ⟨30, _⟩ => ⟨S1x2x4x8192, .f32⟩
  | .hbm, ⟨31, _⟩ => ⟨S_, .f32⟩
  | .hbm, ⟨32, _⟩ => ⟨S1x2x4x8192, .f32⟩
  | .hbm, ⟨33, _⟩ => ⟨S1x2x4x8192, .f32⟩
  | .hbm, ⟨34, _⟩ => ⟨S1x2x4x8192, .f32⟩
  | .hbm, ⟨35, _⟩ => ⟨S1x2x4x8192x1, .f32⟩
  | .hbm, ⟨36, _⟩ => ⟨S1x2x4x8192x8192, .f32⟩
  | .hbm, ⟨37, _⟩ => ⟨S1x2x4x8192x8192, .f32⟩
  | .hbm, ⟨38, _⟩ => ⟨S1x2x4x8192x8192, .f32⟩
  | .hbm, ⟨39, _⟩ => ⟨S_, .f32⟩
  | .hbm, ⟨40, _⟩ => ⟨S1x2x4x8192, .f32⟩
  | .hbm, ⟨41, _⟩ => ⟨S1x2x4x8192x1, .f32⟩
  | .hbm, ⟨42, _⟩ => ⟨S1x2x4x8192x8192, .f32⟩
  | .hbm, ⟨43, _⟩ => ⟨S1x2x4x8192x8192, .f32⟩
  | .hbm, ⟨44, _⟩ => ⟨S1x2x4x8192x1, .f32⟩
  | .hbm, ⟨45, _⟩ => ⟨S_, .f32⟩
  | .hbm, ⟨46, _⟩ => ⟨S1x2x4x8192x1, .f32⟩
  | .hbm, ⟨47, _⟩ => ⟨S1x2x4x8192x1, .f32⟩
  | .hbm, ⟨48, _⟩ => ⟨S1x2x64x4x8192, .f32⟩
  | .hbm, ⟨49, _⟩ => ⟨S1x8192x2x4x64, .f32⟩
  | .hbm, ⟨50, _⟩ => ⟨S1x8192x512, .f32⟩
  | .hbm, ⟨51, _⟩ => ⟨S1x8192x2x4x64, .f32⟩
  | .hbm, ⟨52, _⟩ => ⟨S1x2x64x4x8192, .f32⟩
  | .hbm, ⟨53, _⟩ => ⟨S1x2x4x8192x8192, .f32⟩
  | .hbm, ⟨54, _⟩ => ⟨S1x2x64x8192, .f32⟩
  | .hbm, ⟨55, _⟩ => ⟨S1x8192x2x64, .f32⟩
  | .hbm, ⟨56, _⟩ => ⟨S1x2x4x8192x8192, .f32⟩
  | .hbm, ⟨57, _⟩ => ⟨S1x2x4x8192x8192, .f32⟩
  | .hbm, ⟨58, _⟩ => ⟨S1x2x4x8192x8192, .f32⟩
  | .hbm, ⟨59, _⟩ => ⟨S_, .f32⟩
  | .hbm, ⟨60, _⟩ => ⟨S1x2x4x8192, .f32⟩
  | .hbm, ⟨61, _⟩ => ⟨S1x2x4x8192x1, .f32⟩
  | .hbm, ⟨62, _⟩ => ⟨S1x2x4x8192x1, .f32⟩
  | .hbm, ⟨63, _⟩ => ⟨S1x2x4x8192x8192, .f32⟩
  | .hbm, ⟨64, _⟩ => ⟨S1x2x4x8192x8192, .f32⟩
  | .hbm, ⟨65, _⟩ => ⟨S_, .f32⟩
  | .hbm, ⟨66, _⟩ => ⟨S2x4x8192, .f32⟩
  | .hbm, ⟨67, _⟩ => ⟨S1x2x4x8192, .f32⟩
  | .hbm, ⟨68, _⟩ => ⟨S1x2x4x8192x8192, .f32⟩
  | .hbm, ⟨69, _⟩ => ⟨S1x2x4x8192x8192, .f32⟩
  | .hbm, ⟨70, _⟩ => ⟨S1x2x4x8192x8192, .f32⟩
  | .hbm, ⟨71, _⟩ => ⟨S_, .f32⟩
  | .hbm, ⟨72, _⟩ => ⟨S1x2x4x8192x8192, .f32⟩
  | .hbm, ⟨73, _⟩ => ⟨S1x2x4x8192x8192, .f32⟩
  | .hbm, ⟨74, _⟩ => ⟨S1x2x8192x8192x4, .f32⟩
  | .hbm, ⟨75, _⟩ => ⟨S1x2x8192x4x64, .f32⟩
  | .hbm, ⟨76, _⟩ => ⟨S1x8192x2x4x64, .f32⟩
  | .hbm, ⟨77, _⟩ => ⟨S1x2x8192x64, .f32⟩
  | .hbm, ⟨78, _⟩ => ⟨S1x8192x2x64, .f32⟩
  | .hbm, ⟨79, _⟩ => ⟨S1x8192x8x64, .f32⟩
  | .hbm, ⟨80, _⟩ => ⟨S_, .f32⟩
  | .hbm, ⟨81, _⟩ => ⟨S1x8192x8x64, .f32⟩
  | .hbm, ⟨82, _⟩ => ⟨S1x8192x8x64, .f32⟩
  | .hbm, ⟨83, _⟩ => ⟨S8192x2x4x64, .f32⟩
  | .hbm, ⟨84, _⟩ => ⟨S2x4x8192x64, .f32⟩
  | .hbm, ⟨85, _⟩ => ⟨S2x4x8192x64, .bf16⟩
  | .hbm, ⟨86, _⟩ => ⟨S8192x2x64, .f32⟩
  | .hbm, ⟨87, _⟩ => ⟨S2x8192x64, .f32⟩
  | .hbm, ⟨88, _⟩ => ⟨S8192x2x64, .f32⟩
  | .hbm, ⟨89, _⟩ => ⟨S2x8192x64, .f32⟩
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Kernel3.lean ====
abbrev S1x8192x1024 : Shape := ⟨3, ![1, 8192, 1024]⟩
abbrev S1x8192x3584 : Shape := ⟨3, ![1, 8192, 3584]⟩
abbrev S1x6144 : Shape := ⟨2, ![1, 6144]⟩
abbrev S1x1024 : Shape := ⟨2, ![1, 1024]⟩
abbrev S1x1024x3584 : Shape := ⟨3, ![1, 1024, 3584]⟩
abbrev S1024x3584 : Shape := ⟨2, ![1024, 3584]⟩
abbrev S1024x4x896 : Shape := ⟨3, ![1024, 4, 896]⟩
abbrev S4x1024x896 : Shape := ⟨3, ![4, 1024, 896]⟩
abbrev S8192x3584 : Shape := ⟨2, ![8192, 3584]⟩
abbrev S8192x1024 : Shape := ⟨2, ![8192, 1024]⟩
abbrev S6x1024 : Shape := ⟨2, ![6, 1024]⟩
abbrev S8x1024 : Shape := ⟨2, ![8, 1024]⟩
abbrev S512x3584 : Shape := ⟨2, ![512, 3584]⟩
abbrev S512x1024 : Shape := ⟨2, ![512, 1024]⟩
abbrev S512x896 : Shape := ⟨2, ![512, 896]⟩
abbrev S1x1024x896 : Shape := ⟨3, ![1, 1024, 896]⟩
abbrev S1024x896 : Shape := ⟨2, ![1024, 896]⟩
abbrev S512 : Shape := ⟨1, ![512]⟩
abbrev S512x1 : Shape := ⟨2, ![512, 1]⟩
abbrev S1024 : Shape := ⟨1, ![1024]⟩

abbrev nBuf : Space → Nat
  | .hbm => 17
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x8192x3584, .f32⟩
  | .hbm, ⟨2, _⟩ => ⟨S1x8192x1024, .f32⟩
  | .hbm, ⟨3, _⟩ => ⟨S1x6144, .f32⟩
  | .hbm, ⟨4, _⟩ => ⟨S1x1024, .f32⟩
  | .hbm, ⟨5, _⟩ => ⟨S1x1024x3584, .f32⟩
  | .hbm, ⟨6, _⟩ => ⟨S1024x3584, .f32⟩
  | .hbm, ⟨7, _⟩ => ⟨S1024x4x896, .f32⟩
  | .hbm, ⟨8, _⟩ => ⟨S4x1024x896, .f32⟩
  | .hbm, ⟨9, _⟩ => ⟨S4x1024x896, .bf16⟩
  | .hbm, ⟨10, _⟩ => ⟨S8192x3584, .f32⟩
  | .hbm, ⟨11, _⟩ => ⟨S8192x3584, .bf16⟩
  | .hbm, ⟨12, _⟩ => ⟨S8192x1024, .f32⟩
  | .hbm, ⟨13, _⟩ => ⟨S8192x1024, .f32⟩
  | .hbm, ⟨14, _⟩ => ⟨S6x1024, .f32⟩
  | .hbm, ⟨15, _⟩ => ⟨S8192x1024, .f32⟩
  | .hbm, ⟨16, _⟩ => ⟨S8x1024, .f32⟩
  | .local _ .vmem, ⟨0, _⟩ => ⟨S512x3584, .bf16⟩
  | .local _ .vmem, ⟨1, _⟩ => ⟨S512x3584, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S6x1024, .f32⟩
  | .local _ .vmem, ⟨7, _⟩ => ⟨S1x1024, .f32⟩
  | .local _ .vmem, ⟨8, _⟩ => ⟨S4x1024x896, .bf16⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S1x8192x1024 : Shape := ⟨3, ![1, 8192, 1024]⟩
abbrev S1x8192x3584 : Shape := ⟨3, ![1, 8192, 3584]⟩
abbrev S1x6144 : Shape := ⟨2, ![1, 6144]⟩
abbrev S1x1024 : Shape := ⟨2, ![1, 1024]⟩
abbrev S1x1024x3584 : Shape := ⟨3, ![1, 1024, 3584]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3584 : Shape := ⟨2, ![1024, 3584]⟩
abbrev S8192 : Shape := ⟨1, ![8192]⟩
abbrev S8192x1024 : Shape := ⟨2, ![8192, 1024]⟩
abbrev S5x1024 : Shape := ⟨2, ![5, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x3584, .f32⟩
  | .hbm, ⟨2, _⟩ => ⟨S1x8192x1024, .f32⟩
  | .hbm, ⟨3, _⟩ => ⟨S1x6144, .f32⟩
  | .hbm, ⟨4, _⟩ => ⟨S1x1024, .f32⟩
  | .hbm, ⟨5, _⟩ => ⟨S1x1024x3584, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x8192x1024, .f32⟩
  | .hbm, ⟨14, _⟩ => ⟨S_, .f32⟩
  | .hbm, ⟨15, _⟩ => ⟨S1x8192, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S_, .f32⟩
  | .hbm, ⟨26, _⟩ => ⟨S1x8192x1, .f32⟩
  | .hbm, ⟨27, _⟩ => ⟨S1x8192x1, .f32⟩
  | .hbm, ⟨28, _⟩ => ⟨S1x8192x1024, .f32⟩
  | .hbm, ⟨29, _⟩ => ⟨S1x8192x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S1x1x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S1x1x1024, .f32⟩
  | .hbm, ⟨40, _⟩ => ⟨S1x8192x1024, .f32⟩
  | .hbm, ⟨41, _⟩ => ⟨S1x8192x1024, .f32⟩
  | .hbm, ⟨42, _⟩ => ⟨S1024x3584, .f32⟩
  | .hbm, ⟨43, _⟩ => ⟨S1x8192x3584, .f32⟩
  | .hbm, ⟨44, _⟩ => ⟨S1x8192x1024, .f32⟩
  | .hbm, ⟨45, _⟩ => ⟨S_, .f32⟩
  | .hbm, ⟨46, _⟩ => ⟨S1x1024, .f32⟩
  | .hbm, ⟨47, _⟩ => ⟨S1x1x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S1x8192x1024, .f32⟩
  | .hbm, ⟨52, _⟩ => ⟨S_, .f32⟩
  | .hbm, ⟨53, _⟩ => ⟨S1x1024, .f32⟩
  | .hbm, ⟨54, _⟩ => ⟨S1x1x1024, .f32⟩
  | .hbm, ⟨55, _⟩ => ⟨S1x8192x1024, .f32⟩
  | .hbm, ⟨56, _⟩ => ⟨S1x8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S1x8192x1024, .f32⟩
  | .hbm, ⟨61, _⟩ => ⟨S_, .f32⟩
  | .hbm, ⟨62, _⟩ => ⟨S1x1024, .f32⟩
  | .hbm, ⟨63, _⟩ => ⟨S1x1x1024, .f32⟩
  | .hbm, ⟨64, _⟩ => ⟨S1x8192x1024, .f32⟩
  | .hbm, ⟨65, _⟩ => ⟨S1x8192x1024, .f32⟩
  | .hbm, ⟨66, _⟩ => ⟨S_, .f32⟩
  | .hbm, ⟨67, _⟩ => ⟨S1024, .f32⟩
  | .hbm, ⟨68, _⟩ => ⟨S1x8192x1024, .f32⟩
  | .hbm, ⟨69, _⟩ => ⟨S_, .f32⟩
  | .hbm, ⟨70, _⟩ => ⟨S1x8192, .f32⟩
  | .hbm, ⟨71, _⟩ => ⟨S1x8192x1, .f32⟩
  | .hbm, ⟨72, _⟩ => ⟨S1x8192x1024, .f32⟩
  | .hbm, ⟨73, _⟩ => ⟨S1x8192x1024, .f32⟩
  | .hbm, ⟨74, _⟩ => ⟨S1x8192x1024, .f32⟩
  | .hbm, ⟨75, _⟩ => ⟨S1x8192x1, .f32⟩
  | .hbm, ⟨76, _⟩ => ⟨S_, .f32⟩
  | .hbm, ⟨77, _⟩ => ⟨S1x8192x1, .f32⟩
  | .hbm, ⟨78, _⟩ => ⟨S1x8192x1, .f32⟩
  | .hbm, ⟨79, _⟩ => ⟨S_, .f32⟩
  | .hbm, ⟨80, _⟩ => ⟨S8192, .f32⟩
  | .hbm, ⟨81, _⟩ => ⟨S1x8192, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S1x1024, .f32⟩
  | .hbm, ⟨88, _⟩ => ⟨S8192x1024, .f32⟩
  | .hbm, ⟨89, _⟩ => ⟨S_, .f32⟩
  | .hbm, ⟨90, _⟩ => ⟨S5x1024, .f32⟩
  | .hbm, ⟨91, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel4.lean ====
abbrev S1x8192x1024 : Shape := ⟨3, ![1, 8192, 1024]⟩
abbrev S1x8192x4096 : Shape := ⟨3, ![1, 8192, 4096]⟩
abbrev S1x6144 : Shape := ⟨2, ![1, 6144]⟩
abbrev S1x1024 : Shape := ⟨2, ![1, 1024]⟩
abbrev S1x1024x4096 : Shape := ⟨3, ![1, 1024, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S6x1024 : Shape := ⟨2, ![6, 1024]⟩
abbrev S8192x1024 : Shape := ⟨2, ![8192, 1024]⟩
abbrev S8192x4096 : Shape := ⟨2, ![8192, 4096]⟩
abbrev S8x1024 : Shape := ⟨2, ![8, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 26
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x4096, .f32⟩
  | .hbm, ⟨3, _⟩ => ⟨S1x8192x1024, .f32⟩
  | .hbm, ⟨4, _⟩ => ⟨S1x6144, .f32⟩
  | .hbm, ⟨5, _⟩ => ⟨S1x1024, .f32⟩
  | .hbm, ⟨6, _⟩ => ⟨S1x1024x4096, .f32⟩
  | .hbm, ⟨7, _⟩ => ⟨S1024x4096, .f32⟩
  | .hbm, ⟨8, _⟩ => ⟨S1024x4x1024, .f32⟩
  | .hbm, ⟨9, _⟩ => ⟨S4x1024x1024, .f32⟩
  | .hbm, ⟨10, _⟩ => ⟨S4x1024x1024, .bf16⟩
  | .hbm, ⟨11, _⟩ => ⟨S6x1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .bf16⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S8192x1024, .bf16⟩
  | .hbm, ⟨25, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S6x1024, .f32⟩
  | .local _ .vmem, ⟨9, _⟩ => ⟨S1x1024, .f32⟩
  | .local _ .vmem, ⟨10, _⟩ => ⟨S4x1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S1x8192x1024 : Shape := ⟨3, ![1, 8192, 1024]⟩
abbrev S1x8192x4096 : Shape := ⟨3, ![1, 8192, 4096]⟩
abbrev S1x6144 : Shape := ⟨2, ![1, 6144]⟩
abbrev S1x1024 : Shape := ⟨2, ![1, 1024]⟩
abbrev S1x1024x4096 : Shape := ⟨3, ![1, 1024, 4096]⟩
abbrev S1x1x1024 : Shape := ⟨3, ![1, 1, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1024x4096 : Shape := ⟨2, ![1024, 4096]⟩
abbrev S8192 : Shape := ⟨1, ![8192]⟩
abbrev S8192x1024 : Shape := ⟨2, ![8192, 1024]⟩
abbrev S4x1024 : Shape := ⟨2, ![4, 1024]⟩
abbrev S8x1024 : Shape := ⟨2, ![8, 1024]⟩

abbrev nBuf : Space → Nat
  | .hbm => 109
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x4096, .f32⟩
  | .hbm, ⟨3, _⟩ => ⟨S1x8192x1024, .f32⟩
  | .hbm, ⟨4, _⟩ => ⟨S1x6144, .f32⟩
  | .hbm, ⟨5, _⟩ => ⟨S1x1024, .f32⟩
  | .hbm, ⟨6, _⟩ => ⟨S1x1024x4096, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1x1024, .f32⟩
  | .hbm, ⟨14, _⟩ => ⟨S1x8192x1024, .f32⟩
  | .hbm, ⟨15, _⟩ => ⟨S1x8192x1024, .f32⟩
  | .hbm, ⟨16, _⟩ => ⟨S1x8192x1024, .f32⟩
  | .hbm, ⟨17, _⟩ => ⟨S1024, .f32⟩
  | .hbm, ⟨18, _⟩ => ⟨S1x8192x1024, .f32⟩
  | .hbm, ⟨19, _⟩ => ⟨S_, .f32⟩
  | .hbm, ⟨20, _⟩ => ⟨S1x8192, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S_, .f32⟩
  | .hbm, ⟨26, _⟩ => ⟨S1x8192x1, .f32⟩
  | .hbm, ⟨27, _⟩ => ⟨S1x8192x1, .f32⟩
  | .hbm, ⟨28, _⟩ => ⟨S1x8192x1, .f32⟩
  | .hbm, ⟨29, _⟩ => ⟨S1x8192x1, .f32⟩
  | .hbm, ⟨30, _⟩ => ⟨S_, .f32⟩
  | .hbm, ⟨31, _⟩ => ⟨S1x8192x1, .f32⟩
  | .hbm, ⟨32, _⟩ => ⟨S1x8192x1, .f32⟩
  | .hbm, ⟨33, _⟩ => ⟨S1x8192x1024, .f32⟩
  | .hbm, ⟨34, _⟩ => ⟨S1x8192x1024, .f32⟩
  | .hbm, ⟨35, _⟩ => ⟨S1x1x1024, .f32⟩
  | .hbm, ⟨36, _⟩ => ⟨S1x8192x1024, .f32⟩
  | .hbm, ⟨37, _⟩ => ⟨S1x8192x1024, .f32⟩
  | .hbm, ⟨38, _⟩ => ⟨S1x1x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S1x8192x1024, .f32⟩
  | .hbm, ⟨43, _⟩ => ⟨S1x8192x1024, .f32⟩
  | .hbm, ⟨44, _⟩ => ⟨S1x1x1024, .f32⟩
  | .hbm, ⟨45, _⟩ => ⟨S1x8192x1024, .f32⟩
  | .hbm, ⟨46, _⟩ => ⟨S1x8192x1024, .f32⟩
  | .hbm, ⟨47, _⟩ => ⟨S1024x4096, .f32⟩
  | .hbm, ⟨48, _⟩ => ⟨S1x8192x4096, .f32⟩
  | .hbm, ⟨49, _⟩ => ⟨S1x8192x1024, .f32⟩
  | .hbm, ⟨50, _⟩ => ⟨S_, .f32⟩
  | .hbm, ⟨51, _⟩ => ⟨S1x1024, .f32⟩
  | .hbm, ⟨52, _⟩ => ⟨S1x1x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S1x8192x1024, .f32⟩
  | .hbm, ⟨57, _⟩ => ⟨S_, .f32⟩
  | .hbm, ⟨58, _⟩ => ⟨S1x1024, .f32⟩
  | .hbm, ⟨59, _⟩ => ⟨S1x1x1024, .f32⟩
  | .hbm, ⟨60, _⟩ => ⟨S1x8192x1024, .f32⟩
  | .hbm, ⟨61, _⟩ => ⟨S1x8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S1x8192x1024, .f32⟩
  | .hbm, ⟨66, _⟩ => ⟨S_, .f32⟩
  | .hbm, ⟨67, _⟩ => ⟨S1x1024, .f32⟩
  | .hbm, ⟨68, _⟩ => ⟨S1x1x1024, .f32⟩
  | .hbm, ⟨69, _⟩ => ⟨S1x8192x1024, .f32⟩
  | .hbm, ⟨70, _⟩ => ⟨S1x8192x1024, .f32⟩
  | .hbm, ⟨71, _⟩ => ⟨S_, .f32⟩
  | .hbm, ⟨72, _⟩ => ⟨S1024, .f32⟩
  | .hbm, ⟨73, _⟩ => ⟨S1x8192x1024, .f32⟩
  | .hbm, ⟨74, _⟩ => ⟨S_, .f32⟩
  | .hbm, ⟨75, _⟩ => ⟨S1x8192, .f32⟩
  | .hbm, ⟨76, _⟩ => ⟨S1x8192x1, .f32⟩
  | .hbm, ⟨77, _⟩ => ⟨S1x8192x1024, .f32⟩
  | .hbm, ⟨78, _⟩ => ⟨S1x8192x1024, .f32⟩
  | .hbm, ⟨79, _⟩ => ⟨S1x8192x1024, .f32⟩
  | .hbm, ⟨80, _⟩ => ⟨S1x8192x1, .f32⟩
  | .hbm, ⟨81, _⟩ => ⟨S_, .f32⟩
  | .hbm, ⟨82, _⟩ => ⟨S1x8192x1, .f32⟩
  | .hbm, ⟨83, _⟩ => ⟨S1x8192x1, .f32⟩
  | .hbm, ⟨84, _⟩ => ⟨S_, .f32⟩
  | .hbm, ⟨85, _⟩ => ⟨S8192, .f32⟩
  | .hbm, ⟨86, _⟩ => ⟨S1x8192, .f32⟩
  | .hbm, ⟨87, _⟩ => ⟨S1x8192x1024, .f32⟩
  | .hbm, ⟨88, _⟩ => ⟨S1x8192x1024, .f32⟩
  | .hbm, ⟨89, _⟩ => ⟨S1x8192x1024, .f32⟩
  | .hbm, ⟨90, _⟩ => ⟨S1x8192x1024, .f32⟩
  | .hbm, ⟨91, _⟩ => ⟨S1x8192x1024, .f32⟩
  | .hbm, ⟨92, _⟩ => ⟨S1x1024, .f32⟩
  | .hbm, ⟨93, _⟩ => ⟨S1x8192x1024, .f32⟩
  | .hbm, ⟨94, _⟩ => ⟨S1x8192x1024, .f32⟩
  | .hbm, ⟨95, _⟩ => ⟨S1x8192x1024, .f32⟩
  | .hbm, ⟨96, _⟩ => ⟨S1x8192x1024, .f32⟩
  | .hbm, ⟨97, _⟩ => ⟨S_, .f32⟩
  | .hbm, ⟨98, _⟩ => ⟨S1x1024, .f32⟩
  | .hbm, ⟨99, _⟩ => ⟨S1x1x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S8192x1024, .f32⟩
  | .hbm, ⟨104, _⟩ => ⟨S8192x1024, .f32⟩
  | .hbm, ⟨105, _⟩ => ⟨S8192x1024, .bf16⟩
  | .hbm, ⟨106, _⟩ => ⟨S_, .f32⟩
  | .hbm, ⟨107, _⟩ => ⟨S4x1024, .f32⟩
  | .hbm, ⟨108, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_v77 : Ref sig .tc := ⟨.hbm, 99, rfl⟩
abbrev main_cst_14 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_15 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== Kernel5.lean ====
abbrev S1x8192x1024 : Shape := ⟨3, ![1, 8192, 1024]⟩
abbrev S1x8192x4096 : Shape := ⟨3, ![1, 8192, 4096]⟩
abbrev S1x6144 : Shape := ⟨2, ![1, 6144]⟩
abbrev S1024 : Shape := ⟨1, ![1024]⟩
abbrev S1x4096x1024 : Shape := ⟨3, ![1, 4096, 1024]⟩
abbrev S8192x4096 : Shape := ⟨2, ![8192, 4096]⟩
abbrev S_ : Shape := ⟨0, ![]⟩
abbrev S8192x1024 : Shape := ⟨2, ![8192, 1024]⟩
abbrev S6x1024 : Shape := ⟨2, ![6, 1024]⟩
abbrev S1x1024 : Shape := ⟨2, ![1, 1024]⟩
abbrev S4096x1024 : Shape := ⟨2, ![4096, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 24
  | .vmem => 18
  | .smem => 0
  | _ => 0

abbrev bufTy : (tb : Table) → Fin (tcTables nBuf tb) → BufTy
  | .hbm, ⟨0, _⟩ => ⟨S1x8192x1024, .f32⟩
  | .hbm, ⟨1, _⟩ => ⟨S1x8192x4096, .f32⟩
  | .hbm, ⟨2, _⟩ => ⟨S1x8192x1024, .f32⟩
  | .hbm, ⟨3, _⟩ => ⟨S1x6144, .f32⟩
  | .hbm, ⟨4, _⟩ => ⟨S1024, .f32⟩
  | .hbm, ⟨5, _⟩ => ⟨S1x4096x1024, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | .hbm, ⟨12, _⟩ => ⟨S8192x1024, .f32⟩
  | .hbm, ⟨13, _⟩ => ⟨S8192x4096, .f32⟩
  | .hbm, ⟨14, _⟩ => ⟨S8192x4096, .bf16⟩
  | .hbm, ⟨15, _⟩ => ⟨S8192x1024, .f32⟩
  | .hbm, ⟨16, _⟩ => ⟨S6x1024, .f32⟩
  | .hbm, ⟨17, _⟩ => ⟨S1x1024, .f32⟩
  | .hbm, ⟨18, _⟩ => ⟨S4096x1024, .f32⟩
  | .hbm, ⟨19, _⟩ => ⟨S4096x1024, .bf16⟩
  | .hbm, ⟨20, _⟩ => ⟨S8192x1024, .f32⟩
  | .hbm, ⟨21, _⟩ => ⟨S8192x1024, .bf16⟩
  | .hbm, ⟨22, _⟩ => ⟨S8192x4096, .bf16⟩
  | .hbm, ⟨23, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S512x1024, .f32⟩
  | .local _ .vmem, ⟨7, _⟩ => ⟨S512x1024, .f32⟩
  | .local _ .vmem, ⟨8, _⟩ => ⟨S6x1024, .f32⟩
  | .local _ .vmem, ⟨9, _⟩ => ⟨S1x1024, .f32⟩
  | .local _ .vmem, ⟨10, _⟩ => ⟨S4096x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x4096, .bf16⟩
  | .local _ .vmem, ⟨16, _⟩ => ⟨S512x4096, .bf16⟩
  | .local _ .vmem, ⟨17, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S1x8192x1024 : Shape := ⟨3, ![1, 8192, 1024]⟩
abbrev S1x8192x4096 : Shape := ⟨3, ![1, 8192, 4096]⟩
abbrev S1x6144 : Shape := ⟨2, ![1, 6144]⟩
abbrev S1024 : Shape := ⟨1, ![1024]⟩
abbrev S1x4096x1024 : Shape := ⟨3, ![1, 4096, 1024]⟩
abbrev S1x1024 : Shape := ⟨2, ![1, 1024]⟩
abbrev S_ : Shape := ⟨0, ![]⟩
abbrev S4096x1024 : Shape := ⟨2, ![4096, 1024]⟩
abbrev S1x1x1024 : Shape := ⟨3, ![1, 1, 1024]⟩
abbrev S1x8192 : Shape := ⟨2, ![1, 8192]⟩
abbrev S1x8192x1 : Shape := ⟨3, ![1, 8192, 1]⟩
abbrev S8192 : Shape := ⟨1, ![8192]⟩
abbrev S8192x1024 : Shape := ⟨2, ![8192, 1024]⟩
abbrev S5x1024 : Shape := ⟨2, ![5, 1024]⟩
abbrev S8x1024 : Shape := ⟨2, ![8, 1024]⟩
abbrev S8192x4096 : Shape := ⟨2, ![8192, 4096]⟩

abbrev nBuf : Space → Nat
  | .hbm => 126
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x4096, .f32⟩
  | .hbm, ⟨2, _⟩ => ⟨S1x8192x1024, .f32⟩
  | .hbm, ⟨3, _⟩ => ⟨S1x6144, .f32⟩
  | .hbm, ⟨4, _⟩ => ⟨S1024, .f32⟩
  | .hbm, ⟨5, _⟩ => ⟨S1x4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x8192x4096, .f32⟩
  | .hbm, ⟨14, _⟩ => ⟨S1x8192x4096, .f32⟩
  | .hbm, ⟨15, _⟩ => ⟨S_, .f32⟩
  | .hbm, ⟨16, _⟩ => ⟨S1x8192x4096, .f32⟩
  | .hbm, ⟨17, _⟩ => ⟨S1x8192x4096, .i1⟩
  | .hbm, ⟨18, _⟩ => ⟨S_, .f32⟩
  | .hbm, ⟨19, _⟩ => ⟨S1x8192x4096, .f32⟩
  | .hbm, ⟨20, _⟩ => ⟨S1x8192x4096, .f32⟩
  | .hbm, ⟨21, _⟩ => ⟨S_, .f32⟩
  | .hbm, ⟨22, _⟩ => ⟨S1x8192x4096, .f32⟩
  | .hbm, ⟨23, _⟩ => ⟨S1x8192x4096, .f32⟩
  | .hbm, ⟨24, _⟩ => ⟨S4096x1024, .f32⟩
  | .hbm, ⟨25, _⟩ => ⟨S1x8192x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S1x8192x1024, .f32⟩
  | .hbm, ⟨31, _⟩ => ⟨S_, .f32⟩
  | .hbm, ⟨32, _⟩ => ⟨S1x8192, .f32⟩
  | .hbm, ⟨33, _⟩ => ⟨S1x8192x1, .f32⟩
  | .hbm, ⟨34, _⟩ => ⟨S_, .f32⟩
  | .hbm, ⟨35, _⟩ => ⟨S1x8192x1, .f32⟩
  | .hbm, ⟨36, _⟩ => ⟨S1x8192x1, .f32⟩
  | .hbm, ⟨37, _⟩ => ⟨S_, .f32⟩
  | .hbm, ⟨38, _⟩ => ⟨S1x8192x1, .f32⟩
  | .hbm, ⟨39, _⟩ => ⟨S1x8192x1, .f32⟩
  | .hbm, ⟨40, _⟩ => ⟨S1x8192x1, .f32⟩
  | .hbm, ⟨41, _⟩ => ⟨S1x8192x1, .f32⟩
  | .hbm, ⟨42, _⟩ => ⟨S_, .f32⟩
  | .hbm, ⟨43, _⟩ => ⟨S1x8192x1, .f32⟩
  | .hbm, ⟨44, _⟩ => ⟨S1x8192x1, .f32⟩
  | .hbm, ⟨45, _⟩ => ⟨S1x8192x1024, .f32⟩
  | .hbm, ⟨46, _⟩ => ⟨S1x8192x1024, .f32⟩
  | .hbm, ⟨47, _⟩ => ⟨S1x1x1024, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S1x8192x1024, .f32⟩
  | .hbm, ⟨52, _⟩ => ⟨S_, .f32⟩
  | .hbm, ⟨53, _⟩ => ⟨S1x8192x1024, .f32⟩
  | .hbm, ⟨54, _⟩ => ⟨S1x8192x1024, .f32⟩
  | .hbm, ⟨55, _⟩ => ⟨S_, .f32⟩
  | .hbm, ⟨56, _⟩ => ⟨S1x8192, .f32⟩
  | .hbm, ⟨57, _⟩ => ⟨S_, .f32⟩
  | .hbm, ⟨58, _⟩ => ⟨S1x8192, .f32⟩
  | .hbm, ⟨59, _⟩ => ⟨S1x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1x8192, .f32⟩
  | .hbm, ⟨68, _⟩ => ⟨S_, .f32⟩
  | .hbm, ⟨69, _⟩ => ⟨S1x8192, .f32⟩
  | .hbm, ⟨70, _⟩ => ⟨S1x8192, .f32⟩
  | .hbm, ⟨71, _⟩ => ⟨S1x8192x1024, .f32⟩
  | .hbm, ⟨72, _⟩ => ⟨S1x8192x1024, .f32⟩
  | .hbm, ⟨73, _⟩ => ⟨S1x8192x1024, .f32⟩
  | .hbm, ⟨74, _⟩ => ⟨S_, .f32⟩
  | .hbm, ⟨75, _⟩ => ⟨S1x1024, .f32⟩
  | .hbm, ⟨76, _⟩ => ⟨S1x1x1024, .f32⟩
  | .hbm, ⟨77, _⟩ => ⟨S1x8192x1024, .f32⟩
  | .hbm, ⟨78, _⟩ => ⟨S1x8192x1024, .f32⟩
  | .hbm, ⟨79, _⟩ => ⟨S_, .f32⟩
  | .hbm, ⟨80, _⟩ => ⟨S1024, .f32⟩
  | .hbm, ⟨81, _⟩ => ⟨S1x8192x1024, .f32⟩
  | .hbm, ⟨82, _⟩ => ⟨S_, .f32⟩
  | .hbm, ⟨83, _⟩ => ⟨S1x8192, .f32⟩
  | .hbm, ⟨84, _⟩ => ⟨S1x8192x1, .f32⟩
  | .hbm, ⟨85, _⟩ => ⟨S1x8192x1024, .f32⟩
  | .hbm, ⟨86, _⟩ => ⟨S1x8192x1024, .f32⟩
  | .hbm, ⟨87, _⟩ => ⟨S1x8192x1, .f32⟩
  | .hbm, ⟨88, _⟩ => ⟨S_, .f32⟩
  | .hbm, ⟨89, _⟩ => ⟨S1x8192x1, .f32⟩
  | .hbm, ⟨90, _⟩ => ⟨S1x8192x1, .f32⟩
  | .hbm, ⟨91, _⟩ => ⟨S_, .f32⟩
  | .hbm, ⟨92, _⟩ => ⟨S8192, .f32⟩
  | .hbm, ⟨93, _⟩ => ⟨S1x8192, .f32⟩
  | .hbm, ⟨94, _⟩ => ⟨S1x8192x1024, .f32⟩
  | .hbm, ⟨95, _⟩ => ⟨S1x8192x1024, .f32⟩
  | .hbm, ⟨96, _⟩ => ⟨S1x8192x1024, .f32⟩
  | .hbm, ⟨97, _⟩ => ⟨S1x8192x1024, .f32⟩
  | .hbm, ⟨98, _⟩ => ⟨S1x8192x1024, .f32⟩
  | .hbm, ⟨99, _⟩ => ⟨S1x8192x1024, .f32⟩
  | .hbm, ⟨100, _⟩ => ⟨S1x8192x1024, .f32⟩
  | .hbm, ⟨101, _⟩ => ⟨S1x8192x1024, .f32⟩
  | .hbm, ⟨102, _⟩ => ⟨S_, .f32⟩
  | .hbm, ⟨103, _⟩ => ⟨S1x1024, .f32⟩
  | .hbm, ⟨104, _⟩ => ⟨S1x1x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S1x8192x4096, .f32⟩
  | .hbm, ⟨109, _⟩ => ⟨S1x8192x4096, .f32⟩
  | .hbm, ⟨110, _⟩ => ⟨S_, .f32⟩
  | .hbm, ⟨111, _⟩ => ⟨S1x8192x4096, .f32⟩
  | .hbm, ⟨112, _⟩ => ⟨S1x8192x4096, .f32⟩
  | .hbm, ⟨113, _⟩ => ⟨S8192x1024, .f32⟩
  | .hbm, ⟨114, _⟩ => ⟨S_, .f32⟩
  | .hbm, ⟨115, _⟩ => ⟨S1024, .f32⟩
  | .hbm, ⟨116, _⟩ => ⟨S1x1024, .f32⟩
  | .hbm, ⟨117, _⟩ => ⟨S1x1024, .f32⟩
  | .hbm, ⟨118, _⟩ => ⟨S_, .f32⟩
  | .hbm, ⟨119, _⟩ => ⟨S5x1024, .f32⟩
  | .hbm, ⟨120, _⟩ => ⟨S8x1024, .f32⟩
  | .hbm, ⟨121, _⟩ => ⟨S8192x1024, .f32⟩
  | .hbm, ⟨122, _⟩ => ⟨S8192x1024, .f32⟩
  | .hbm, ⟨123, _⟩ => ⟨S8192x1024, .bf16⟩
  | .hbm, ⟨124, _⟩ => ⟨S8192x4096, .f32⟩
  | .hbm, ⟨125, _⟩ => ⟨S8192x4096, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_cst_11 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_v56 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_v75 : Ref sig .tc := ⟨.hbm, 104, rfl⟩
abbrev main_cst_20 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_21 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_22 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_23 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩

abbrev nD : Nat := 1
abbrev τ : Topo := Topo.v7x

variable {F : FTy → Type} [FloatOps F]
-- ==== Kernel6.lean ====
abbrev S1x8192x8x64 : Shape := ⟨4, ![1, 8192, 8, 64]⟩
abbrev S1x8192x2x64 : Shape := ⟨4, ![1, 8192, 2, 64]⟩
abbrev S8192x2x64 : Shape := ⟨3, ![8192, 2, 64]⟩
abbrev S2x8192x64 : Shape := ⟨3, ![2, 8192, 64]⟩
abbrev S_ : Shape := ⟨0, ![]⟩
abbrev S2x8192x128 : Shape := ⟨3, ![2, 8192, 128]⟩
abbrev S8192x8x64 : Shape := ⟨3, ![8192, 8, 64]⟩
abbrev S8x8192x64 : Shape := ⟨3, ![8, 8192, 64]⟩
abbrev S2x4x8192x64 : Shape := ⟨4, ![2, 4, 8192, 64]⟩
abbrev S8192x512 : Shape := ⟨2, ![8192, 512]⟩
abbrev S2x4x8192x1 : Shape := ⟨4, ![2, 4, 8192, 1]⟩
abbrev S1x4x256x64 : Shape := ⟨4, ![1, 4, 256, 64]⟩
abbrev S1x8192x64 : Shape := ⟨3, ![1, 8192, 64]⟩
abbrev S1x8192x128 : Shape := ⟨3, ![1, 8192, 128]⟩
abbrev S256x256 : Shape := ⟨2, ![256, 256]⟩
abbrev S1x4x256x1 : Shape := ⟨4, ![1, 4, 256, 1]⟩
abbrev S1024x2048 : Shape := ⟨2, ![1024, 2048]⟩
abbrev S1024x1 : Shape := ⟨2, ![1024, 1]⟩
abbrev S1024x128 : Shape := ⟨2, ![1024, 128]⟩
abbrev S4x256x64 : Shape := ⟨3, ![4, 256, 64]⟩
abbrev S1024x64 : Shape := ⟨2, ![1024, 64]⟩
abbrev S1x2048x64 : Shape := ⟨3, ![1, 2048, 64]⟩
abbrev S2048x64 : Shape := ⟨2, ![2048, 64]⟩
abbrev S1024 : Shape := ⟨1, ![1024]⟩
abbrev S1x2048x128 : Shape := ⟨3, ![1, 2048, 128]⟩
abbrev S2048x128 : Shape := ⟨2, ![2048, 128]⟩
abbrev S256x64 : Shape := ⟨2, ![256, 64]⟩
abbrev S4x256x1 : Shape := ⟨3, ![4, 256, 1]⟩

abbrev nBuf : Space → Nat
  | .hbm => 22
  | .vmem => 19
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S8192x2x64, .f32⟩
  | .hbm, ⟨4, _⟩ => ⟨S2x8192x64, .f32⟩
  | .hbm, ⟨5, _⟩ => ⟨S_, .f32⟩
  | .hbm, ⟨6, _⟩ => ⟨S2x8192x64, .f32⟩
  | .hbm, ⟨7, _⟩ => ⟨S2x8192x128, .f32⟩
  | .hbm, ⟨8, _⟩ => ⟨S2x8192x128, .bf16⟩
  | .hbm, ⟨9, _⟩ => ⟨S8192x8x64, .f32⟩
  | .hbm, ⟨10, _⟩ => ⟨S_, .f32⟩
  | .hbm, ⟨11, _⟩ => ⟨S8192x8x64, .f32⟩
  | .hbm, ⟨12, _⟩ => ⟨S8192x8x64, .f32⟩
  | .hbm, ⟨13, _⟩ => ⟨S8x8192x64, .f32⟩
  | .hbm, ⟨14, _⟩ => ⟨S8x8192x64, .bf16⟩
  | .hbm, ⟨15, _⟩ => ⟨S8192x2x64, .f32⟩
  | .hbm, ⟨16, _⟩ => ⟨S2x8192x64, .f32⟩
  | .hbm, ⟨17, _⟩ => ⟨S2x8192x64, .bf16⟩
  | .hbm, ⟨18, _⟩ => ⟨S2x4x8192x64, .bf16⟩
  | .hbm, ⟨19, _⟩ => ⟨S8192x512, .bf16⟩
  | .hbm, ⟨20, _⟩ => ⟨S2x4x8192x64, .bf16⟩
  | .hbm, ⟨21, _⟩ => ⟨S2x4x8192x1, .f32⟩
  | .local _ .vmem, ⟨0, _⟩ => ⟨S1x4x256x64, .bf16⟩
  | .local _ .vmem, ⟨1, _⟩ => ⟨S1x4x256x64, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x256, .bf16⟩
  | .local _ .vmem, ⟨7, _⟩ => ⟨S256x256, .bf16⟩
  | .local _ .vmem, ⟨8, _⟩ => ⟨S1x4x256x64, .bf16⟩
  | .local _ .vmem, ⟨9, _⟩ => ⟨S1x4x256x64, .bf16⟩
  | .local _ .vmem, ⟨10, _⟩ => ⟨S1x4x256x1, .f32⟩
  | .local _ .vmem, ⟨11, _⟩ => ⟨S1x4x256x1, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | .local _ .vmem, ⟨15, _⟩ => ⟨S1024x2048, .bf16⟩
  | .local _ .vmem, ⟨16, _⟩ => ⟨S1024x1, .f32⟩
  | .local _ .vmem, ⟨17, _⟩ => ⟨S1024x1, .f32⟩
  | .local _ .vmem, ⟨18, _⟩ => ⟨S1024x128, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def k0_mult1 : BitVec 32 :=
  let c0_i32 : BitVec 32 := 0#32
  c0_i32
def k0_mult2 : BitVec 32 :=
  let c2048_i32 : BitVec 32 := 2048#32
  c2048_i32
def k0_mult3 : BitVec 32 :=
  let c2_i32 : BitVec 32 := 2#32
  let c0_i32_29 : BitVec 32 := 0#32
  let v47 : BitVec 32 := Scalar.muli c2_i32 c0_i32_29
  let c1_i32 : BitVec 32 := 1#32
  let v48 : BitVec 32 := Scalar.addi v47 c1_i32
  let c1_i32_30 : BitVec 32 := 1#32
  let v49 : BitVec 32 := Scalar.subi v48 c1_i32_30
  let c2048_i32_37 : BitVec 32 := 2048#32
  let v55 : BitVec 32 := Scalar.muli v49 c2048_i32_37
  v55
def k0_off1 : Fin 3 → Nat :=
  let c0_38 : Index := 0#32
  let c2_i32 : BitVec 32 := 2#32
  let c0_i32_29 : BitVec 32 := 0#32
  let v47 : BitVec 32 := Scalar.muli c2_i32 c0_i32_29
  let c1_i32 : BitVec 32 := 1#32
  let v48 : BitVec 32 := Scalar.addi v47 c1_i32
  let c1_i32_30 : BitVec 32 := 1#32
  let v49 : BitVec 32 := Scalar.subi v48 c1_i32_30
  let c2048_i32_37 : BitVec 32 := 2048#32
  let v55 : BitVec 32 := Scalar.muli v49 c2048_i32_37
  let v56 : BitVec 32 := v55
  let v57 : Index := Scalar.indexCast v56
  let c0_39 : Index := 0#32
  ![0, v57.toNat, 0]
def k0_mult4 : BitVec 32 :=
  let c2_i32 : BitVec 32 := 2#32
  let c0_i32_29 : BitVec 32 := 0#32
  let v47 : BitVec 32 := Scalar.muli c2_i32 c0_i32_29
  let c1_i32 : BitVec 32 := 1#32
  let v48 : BitVec 32 := Scalar.addi v47 c1_i32
  let c1_i32_54 : BitVec 32 := 1#32
  let v85 : BitVec 32 := Scalar.addi v48 c1_i32_54
  let c2048_i32_55 : BitVec 32 := 2048#32
  let v86 : BitVec 32 := Scalar.muli v85 c2048_i32_55
  v86
def k0_off2 (c1_i32_54 : BitVec 32) : Fin 3 → Nat :=
  let c0_56 : Index := 0#32
  let c2_i32 : BitVec 32 := 2#32
  let c0_i32_29 : BitVec 32 := 0#32
  let v47 : BitVec 32 := Scalar.muli c2_i32 c0_i32_29
  let c1_i32 : BitVec 32 := 1#32
  let v48 : BitVec 32 := Scalar.addi v47 c1_i32
  let v85 : BitVec 32 := Scalar.addi v48 c1_i32_54
  let c2048_i32_55 : BitVec 32 := 2048#32
  let v86 : BitVec 32 := Scalar.muli v85 c2048_i32_55
  let v87 : BitVec 32 := v86
  let v88 : Index := Scalar.indexCast v87
  let c0_57 : Index := 0#32
  ![0, v88.toNat, 0]
def k0_mult5 : BitVec 32 :=
  let c2_i32 : BitVec 32 := 2#32
  let c0_i32_29 : BitVec 32 := 0#32
  let v47 : BitVec 32 := Scalar.muli c2_i32 c0_i32_29
  let c1_i32 : BitVec 32 := 1#32
  let v48 : BitVec 32 := Scalar.addi v47 c1_i32
  let c2048_i32_67 : BitVec 32 := 2048#32
  let v100 : BitVec 32 := Scalar.muli v48 c2048_i32_67
  v100
def k0_off3 : Fin 3 → Nat :=
  let c0_68 : Index := 0#32
  let c2_i32 : BitVec 32 := 2#32
  let c0_i32_29 : BitVec 32 := 0#32
  let v47 : BitVec 32 := Scalar.muli c2_i32 c0_i32_29
  let c1_i32 : BitVec 32 := 1#32
  let v48 : BitVec 32 := Scalar.addi v47 c1_i32
  let c2048_i32_67 : BitVec 32 := 2048#32
  let v100 : BitVec 32 := Scalar.muli v48 c2048_i32_67
  let v101 : BitVec 32 := v100
  let v102 : Index := Scalar.indexCast v101
  let c0_69 : Index := 0#32
  ![0, v102.toNat, 0]
def k0_mult6 : BitVec 32 :=
  let c2_i32 : BitVec 32 := 2#32
  let c0_i32_29 : BitVec 32 := 0#32
  let v47 : BitVec 32 := Scalar.muli c2_i32 c0_i32_29
  let c1_i32 : BitVec 32 := 1#32
  let v48 : BitVec 32 := Scalar.addi v47 c1_i32
  let c2_i32_84 : BitVec 32 := 2#32
  let v130 : BitVec 32 := Scalar.addi v48 c2_i32_84
  let c2048_i32_85 : BitVec 32 := 2048#32
  let v131 : BitVec 32 := Scalar.muli v130 c2048_i32_85
  v131
def k0_mult7 : BitVec 32 :=
  let c4096_i32 : BitVec 32 := 4096#32
  c4096_i32
def k0_mult8 : BitVec 32 :=
  let c6144_i32 : BitVec 32 := 6144#32
  c6144_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S1x8192x8x64 : Shape := ⟨4, ![1, 8192, 8, 64]⟩
abbrev S1x8192x2x64 : Shape := ⟨4, ![1, 8192, 2, 64]⟩
abbrev S1x8192x2x4x64 : Shape := ⟨5, ![1, 8192, 2, 4, 64]⟩
abbrev S1x2x8192x8192x4 : Shape := ⟨5, ![1, 2, 8192, 8192, 4]⟩
abbrev S1x2x4x8192x8192 : Shape := ⟨5, ![1, 2, 4, 8192, 8192]⟩
abbrev S_ : Shape := ⟨0, ![]⟩
abbrev S1x2x4x8192 : Shape := ⟨4, ![1, 2, 4, 8192]⟩
abbrev S1x2x4x8192x1 : Shape := ⟨5, ![1, 2, 4, 8192, 1]⟩
abbrev S1x2x64x4x8192 : Shape := ⟨5, ![1, 2, 64, 4, 8192]⟩
abbrev S8192x512 : Shape := ⟨2, ![8192, 512]⟩
abbrev S8192x2x4x64 : Shape := ⟨4, ![8192, 2, 4, 64]⟩
abbrev S2x4x8192x64 : Shape := ⟨4, ![2, 4, 8192, 64]⟩
abbrev S2x4x8192x1 : Shape := ⟨4, ![2, 4, 8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S1x8192x2x4x64, .f32⟩
  | .hbm, ⟨4, _⟩ => ⟨S1x2x8192x8192x4, .f32⟩
  | .hbm, ⟨5, _⟩ => ⟨S1x2x4x8192x8192, .f32⟩
  | .hbm, ⟨6, _⟩ => ⟨S_, .f32⟩
  | .hbm, ⟨7, _⟩ => ⟨S1x2x4x8192x8192, .f32⟩
  | .hbm, ⟨8, _⟩ => ⟨S1x2x4x8192x8192, .f32⟩
  | .hbm, ⟨9, _⟩ => ⟨S_, .f32⟩
  | .hbm, ⟨10, _⟩ => ⟨S1x2x4x8192, .f32⟩
  | .hbm, ⟨11, _⟩ => ⟨S_, .f32⟩
  | .hbm, ⟨12, _⟩ => ⟨S1x2x4x8192, .f32⟩
  | .hbm, ⟨13, _⟩ => ⟨S1x2x4x8192, .f32⟩
  | .hbm, ⟨14, _⟩ => ⟨S1x2x4x8192x1, .f32⟩
  | .hbm, ⟨15, _⟩ => ⟨S1x2x4x8192x8192, .f32⟩
  | .hbm, ⟨16, _⟩ => ⟨S1x2x4x8192x8192, .f32⟩
  | .hbm, ⟨17, _⟩ => ⟨S1x2x4x8192x8192, .f32⟩
  | .hbm, ⟨18, _⟩ => ⟨S_, .f32⟩
  | .hbm, ⟨19, _⟩ => ⟨S1x2x4x8192, .f32⟩
  | .hbm, ⟨20, _⟩ => ⟨S1x2x4x8192x1, .f32⟩
  | .hbm, ⟨21, _⟩ => ⟨S1x2x4x8192x8192, .f32⟩
  | .hbm, ⟨22, _⟩ => ⟨S1x2x4x8192x8192, .f32⟩
  | .hbm, ⟨23, _⟩ => ⟨S1x2x64x4x8192, .f32⟩
  | .hbm, ⟨24, _⟩ => ⟨S1x8192x2x4x64, .f32⟩
  | .hbm, ⟨25, _⟩ => ⟨S1x2x4x8192x8192, .f32⟩
  | .hbm, ⟨26, _⟩ => ⟨S_, .f32⟩
  | .hbm, ⟨27, _⟩ => ⟨S1x2x4x8192, .f32⟩
  | .hbm, ⟨28, _⟩ => ⟨S1x2x4x8192x1, .f32⟩
  | .hbm, ⟨29, _⟩ => ⟨S1x2x4x8192x1, .f32⟩
  | .hbm, ⟨30, _⟩ => ⟨S8192x512, .f32⟩
  | .hbm, ⟨31, _⟩ => ⟨S8192x512, .bf16⟩
  | .hbm, ⟨32, _⟩ => ⟨S8192x2x4x64, .f32⟩
  | .hbm, ⟨33, _⟩ => ⟨S2x4x8192x64, .f32⟩
  | .hbm, ⟨34, _⟩ => ⟨S2x4x8192x64, .bf16⟩
  | .hbm, ⟨35, _⟩ => ⟨S2x4x8192x1, .f32⟩
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel7.lean ====
abbrev S1x8192x512 : Shape := ⟨3, ![1, 8192, 512]⟩
abbrev S1x8192x128 : Shape := ⟨3, ![1, 8192, 128]⟩
abbrev S1x64 : Shape := ⟨2, ![1, 64]⟩
abbrev S1x8192x8x64 : Shape := ⟨4, ![1, 8192, 8, 64]⟩
abbrev S1x8192x2x64 : Shape := ⟨4, ![1, 8192, 2, 64]⟩
abbrev S1x8192x1024 : Shape := ⟨3, ![1, 8192, 1024]⟩
abbrev S1x1x1x64 : Shape := ⟨4, ![1, 1, 1, 64]⟩
abbrev S1x1x2x64 : Shape := ⟨4, ![1, 1, 2, 64]⟩
abbrev S1x128 : Shape := ⟨2, ![1, 128]⟩
abbrev S8192x512 : Shape := ⟨2, ![8192, 512]⟩
abbrev S8192x128 : Shape := ⟨2, ![8192, 128]⟩
abbrev S8192x640 : Shape := ⟨2, ![8192, 640]⟩
abbrev S8192x1024 : Shape := ⟨2, ![8192, 1024]⟩
abbrev S8192x2048 : Shape := ⟨2, ![8192, 2048]⟩
abbrev S8192x8x64 : Shape := ⟨3, ![8192, 8, 64]⟩
abbrev S8x8192x64 : Shape := ⟨3, ![8, 8192, 64]⟩
abbrev S8192x2x64 : Shape := ⟨3, ![8192, 2, 64]⟩
abbrev S2x8192x64 : Shape := ⟨3, ![2, 8192, 64]⟩
abbrev S128 : Shape := ⟨1, ![128]⟩
abbrev S128x1 : Shape := ⟨2, ![128, 1]⟩
abbrev S_ : Shape := ⟨0, ![]⟩
abbrev S128x128 : Shape := ⟨2, ![128, 128]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S32 : Shape := ⟨1, ![32]⟩
abbrev S1x32 : Shape := ⟨2, ![1, 32]⟩
abbrev S8192x32 : Shape := ⟨2, ![8192, 32]⟩
abbrev S8192x3584 : Shape := ⟨2, ![8192, 3584]⟩
abbrev S8x128 : Shape := ⟨2, ![8, 128]⟩
abbrev S8x512x64 : Shape := ⟨3, ![8, 512, 64]⟩
abbrev S2x512x64 : Shape := ⟨3, ![2, 512, 64]⟩
abbrev S512x640 : Shape := ⟨2, ![512, 640]⟩
abbrev S512x2048 : Shape := ⟨2, ![512, 2048]⟩
abbrev S512x128 : Shape := ⟨2, ![512, 128]⟩
abbrev S512x3584 : Shape := ⟨2, ![512, 3584]⟩
abbrev S1x512x64 : Shape := ⟨3, ![1, 512, 64]⟩
abbrev S512x64 : Shape := ⟨2, ![512, 64]⟩

abbrev nBuf : Space → Nat
  | .hbm => 285
  | .vmem => 35
  | .smem => 0
  | _ => 0

abbrev hbmTy0_0 (i : Nat) : BufTy := match i % 128 with
  | 0 => ⟨S1x8192x512, .f32⟩
  | 1 => ⟨S1x8192x128, .f32⟩
  | 2 => ⟨S1x64, .f32⟩
  | 3 => ⟨S1x64, .f32⟩
  | 4 => ⟨S1x8192x8x64, .f32⟩
  | 5 => ⟨S1x8192x2x64, .f32⟩
  | 6 => ⟨S1x8192x2x64, .f32⟩
  | 7 => ⟨S1x8192x8x64, .f32⟩
  | 8 => ⟨S1x8192x2x64, .f32⟩
  | 9 => ⟨S1x8192x2x64, .f32⟩
  | 10 => ⟨S1x8192x1024, .f32⟩
  | 11 => ⟨S1x8192x1024, .f32⟩
  | 12 => ⟨S1x1x1x64, .f32⟩
  | 13 => ⟨S1x1x2x64, .f32⟩
  | 14 => ⟨S1x128, .f32⟩
  | 15 => ⟨S1x1x1x64, .f32⟩
  | 16 => ⟨S1x1x2x64, .f32⟩
  | 17 => ⟨S1x128, .f32⟩
  | 18 => ⟨S8192x512, .f32⟩
  | 19 => ⟨S8192x128, .f32⟩
  | 20 => ⟨S8192x640, .f32⟩
  | 21 => ⟨S8192x1024, .f32⟩
  | 22 => ⟨S8192x1024, .f32⟩
  | 23 => ⟨S8192x2048, .f32⟩
  | 24 => ⟨S8192x2048, .bf16⟩
  | 25 => ⟨S8192x8x64, .f32⟩
  | 26 => ⟨S8x8192x64, .f32⟩
  | 27 => ⟨S8x8192x64, .bf16⟩
  | 28 => ⟨S8192x2x64, .f32⟩
  | 29 => ⟨S2x8192x64, .f32⟩
  | 30 => ⟨S8192x2x64, .f32⟩
  | 31 => ⟨S2x8192x64, .f32⟩
  | 32 => ⟨S8192x8x64, .f32⟩
  | 33 => ⟨S8x8192x64, .f32⟩
  | 34 => ⟨S8x8192x64, .bf16⟩
  | 35 => ⟨S8192x2x64, .f32⟩
  | 36 => ⟨S2x8192x64, .f32⟩
  | 37 => ⟨S8192x2x64, .f32⟩
  | 38 => ⟨S2x8192x64, .f32⟩
  | 39 => ⟨S128, .i32⟩
  | 40 => ⟨S128x1, .i32⟩
  | 41 => ⟨S_, .i32⟩
  | 42 => ⟨S_, .i32⟩
  | 43 => ⟨S128x1, .i32⟩
  | 44 => ⟨S128x1, .i32⟩
  | 45 => ⟨S128x1, .i32⟩
  | 46 => ⟨S_, .i32⟩
  | 47 => ⟨S128x1, .i32⟩
  | 48 => ⟨S128x1, .i1⟩
  | 49 => ⟨S128x1, .i32⟩
  | 50 => ⟨S128x1, .i32⟩
  | 51 => ⟨S_, .i32⟩
  | 52 => ⟨S128x1, .i32⟩
  | 53 => ⟨S128x1, .i1⟩
  | 54 => ⟨S128x1, .i1⟩
  | 55 => ⟨S_, .i32⟩
  | 56 => ⟨S128x1, .i32⟩
  | 57 => ⟨S128x1, .i32⟩
  | 58 => ⟨S128x1, .i32⟩
  | 59 => ⟨S1x128, .i32⟩
  | 60 => ⟨S_, .i32⟩
  | 61 => ⟨S_, .i32⟩
  | 62 => ⟨S1x128, .i32⟩
  | 63 => ⟨S1x128, .i32⟩
  | 64 => ⟨S1x128, .i32⟩
  | 65 => ⟨S_, .i32⟩
  | 66 => ⟨S1x128, .i32⟩
  | 67 => ⟨S1x128, .i1⟩
  | 68 => ⟨S1x128, .i32⟩
  | 69 => ⟨S1x128, .i32⟩
  | 70 => ⟨S_, .i32⟩
  | 71 => ⟨S1x128, .i32⟩
  | 72 => ⟨S1x128, .i1⟩
  | 73 => ⟨S1x128, .i1⟩
  | 74 => ⟨S_, .i32⟩
  | 75 => ⟨S1x128, .i32⟩
  | 76 => ⟨S1x128, .i32⟩
  | 77 => ⟨S1x128, .i32⟩
  | 78 => ⟨S128x128, .i32⟩
  | 79 => ⟨S128x128, .i32⟩
  | 80 => ⟨S128x128, .i1⟩
  | 81 => ⟨S_, .f32⟩
  | 82 => ⟨S_, .f32⟩
  | 83 => ⟨S128x128, .f32⟩
  | 84 => ⟨S128x128, .f32⟩
  | 85 => ⟨S128x128, .f32⟩
  | 86 => ⟨S128x128, .bf16⟩
  | 87 => ⟨S8192, .i32⟩
  | 88 => ⟨S128, .i32⟩
  | 89 => ⟨S_, .i32⟩
  | 90 => ⟨S_, .i32⟩
  | 91 => ⟨S8192, .i32⟩
  | 92 => ⟨S8192, .i32⟩
  | 93 => ⟨S8192, .i32⟩
  | 94 => ⟨S_, .i32⟩
  | 95 => ⟨S8192, .i32⟩
  | 96 => ⟨S8192, .i1⟩
  | 97 => ⟨S8192, .i32⟩
  | 98 => ⟨S8192, .i32⟩
  | 99 => ⟨S_, .i32⟩
  | 100 => ⟨S8192, .i32⟩
  | 101 => ⟨S8192, .i1⟩
  | 102 => ⟨S8192, .i1⟩
  | 103 => ⟨S_, .i32⟩
  | 104 => ⟨S8192, .i32⟩
  | 105 => ⟨S8192, .i32⟩
  | 106 => ⟨S8192, .i32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S8192, .f32⟩
  | 122 => ⟨S8192x1, .f32⟩
  | 123 => ⟨S1x16, .f32⟩
  | 124 => ⟨S8192x16, .f32⟩
  | 125 => ⟨S8192x16, .f32⟩
  | 126 => ⟨S8192x16, .f32⟩
  | 127 => ⟨S8192x16, .f32⟩
  | _ => ⟨S1x8192x512, .f32⟩

abbrev hbmTy0_1 (i : Nat) : BufTy := match i % 128 with
  | 0 => ⟨S8192x16, .f32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S8192, .i32⟩
  | 8 => ⟨S8192, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i1⟩
  | 15 => ⟨S_, .i32⟩
  | 16 => ⟨S_, .i1⟩
  | 17 => ⟨S8192, .i1⟩
  | 18 => ⟨S8192, .i1⟩
  | 19 => ⟨S8192, .i1⟩
  | 20 => ⟨S8192, .i32⟩
  | 21 => ⟨S8192, .i32⟩
  | 22 => ⟨S8192, .i32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S8192, .f32⟩
  | 38 => ⟨S8192x1, .f32⟩
  | 39 => ⟨S1x16, .f32⟩
  | 40 => ⟨S8192x16, .f32⟩
  | 41 => ⟨S8192x16, .f32⟩
  | 42 => ⟨S8192x16, .f32⟩
  | 43 => ⟨S8192x16, .f32⟩
  | 44 => ⟨S8192x16, .f32⟩
  | 45 => ⟨S8192x64, .f32⟩
  | 46 => ⟨S1x8192x1x64, .f32⟩
  | 47 => ⟨S1x8192x2x64, .f32⟩
  | 48 => ⟨S8192x128, .f32⟩
  | 49 => ⟨S8192x64, .f32⟩
  | 50 => ⟨S1x8192x1x64, .f32⟩
  | 51 => ⟨S1x8192x2x64, .f32⟩
  | 52 => ⟨S8192x128, .f32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S128, .i32⟩
  | 60 => ⟨S128, .i32⟩
  | 61 => ⟨S_, .i32⟩
  | 62 => ⟨S128, .i32⟩
  | 63 => ⟨S128, .i1⟩
  | 64 => ⟨S_, .i32⟩
  | 65 => ⟨S128, .i32⟩
  | 66 => ⟨S128, .i1⟩
  | 67 => ⟨S_, .i32⟩
  | 68 => ⟨S_, .i1⟩
  | 69 => ⟨S128, .i1⟩
  | 70 => ⟨S128, .i1⟩
  | 71 => ⟨S128, .i1⟩
  | 72 => ⟨S128, .i32⟩
  | 73 => ⟨S128, .i32⟩
  | 74 => ⟨S128, .i32⟩
  | 75 => ⟨S_, .i32⟩
  | 76 => ⟨S128, .i32⟩
  | 77 => ⟨S128, .i1⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S8192, .f32⟩
  | 93 => ⟨S8192x1, .f32⟩
  | 94 => ⟨S1x32, .f32⟩
  | 95 => ⟨S8192x32, .f32⟩
  | 96 => ⟨S8192x32, .f32⟩
  | 97 => ⟨S8192x32, .f32⟩
  | 98 => ⟨S8192x32, .f32⟩
  | 99 => ⟨S8192x32, .f32⟩
  | 100 => ⟨S8192x64, .f32⟩
  | 101 => ⟨S1x8192x1x64, .f32⟩
  | 102 => ⟨S1x8192x2x64, .f32⟩
  | 103 => ⟨S8192x128, .f32⟩
  | 104 => ⟨S8192x64, .f32⟩
  | 105 => ⟨S1x8192x1x64, .f32⟩
  | 106 => ⟨S1x8192x2x64, .f32⟩
  | 107 => ⟨S8192x128, .f32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S128, .i32⟩
  | 115 => ⟨S128, .i32⟩
  | 116 => ⟨S_, .i32⟩
  | 117 => ⟨S128, .i32⟩
  | 118 => ⟨S128, .i1⟩
  | 119 => ⟨S_, .i32⟩
  | 120 => ⟨S128, .i32⟩
  | 121 => ⟨S128, .i1⟩
  | 122 => ⟨S_, .i32⟩
  | 123 => ⟨S_, .i1⟩
  | 124 => ⟨S128, .i1⟩
  | 125 => ⟨S128, .i1⟩
  | 126 => ⟨S128, .i1⟩
  | 127 => ⟨S128, .i32⟩
  | _ => ⟨S1x8192x512, .f32⟩

abbrev hbmTy0_2 (i : Nat) : BufTy := match i % 128 with
  | 0 => ⟨S128, .i32⟩
  | 1 => ⟨S128, .i32⟩
  | 2 => ⟨S_, .i32⟩
  | 3 => ⟨S128, .i32⟩
  | 4 => ⟨S128, .i1⟩
  | 5 => ⟨S8192x128, .f32⟩
  | 6 => ⟨S_, .f32⟩
  | 7 => ⟨S_, .f32⟩
  | 8 => ⟨S8192x128, .i1⟩
  | 9 => ⟨S8192x128, .f32⟩
  | 10 => ⟨S8192x128, .f32⟩
  | 11 => ⟨S_, .f32⟩
  | 12 => ⟨S_, .f32⟩
  | 13 => ⟨S8192x128, .i1⟩
  | 14 => ⟨S8192x128, .f32⟩
  | 15 => ⟨S8192x128, .f32⟩
  | 16 => ⟨S8192x128, .f32⟩
  | 17 => ⟨S_, .f32⟩
  | 18 => ⟨S_, .f32⟩
  | 19 => ⟨S8192x128, .i1⟩
  | 20 => ⟨S8192x128, .f32⟩
  | 21 => ⟨S8192x128, .f32⟩
  | 22 => ⟨S_, .f32⟩
  | 23 => ⟨S_, .f32⟩
  | 24 => ⟨S8192x128, .i1⟩
  | 25 => ⟨S8192x128, .f32⟩
  | 26 => ⟨S8192x128, .f32⟩
  | 27 => ⟨S8192x3584, .bf16⟩
  | 28 => ⟨S8x128, .f32⟩
  | _ => ⟨S1x8192x512, .f32⟩

abbrev hbmTy (i : Nat) : BufTy := match i / 128 with
  | 0 => hbmTy0_0 i
  | 1 => hbmTy0_1 i
  | 2 => hbmTy0_2 i
  | _ => ⟨S1x8192x512, .f32⟩

abbrev bufTy : (tb : Table) → Fin (tcTables nBuf tb) → BufTy
  | .hbm, ⟨i, _⟩ => hbmTy i
  | .local _ .vmem, ⟨0, _⟩ => ⟨S8x512x64, .bf16⟩
  | .local _ .vmem, ⟨1, _⟩ => ⟨S8x512x64, .bf16⟩
  | .local _ .vmem, ⟨2, _⟩ => ⟨S2x512x64, .f32⟩
  | .local _ .vmem, ⟨3, _⟩ => ⟨S2x512x64, .f32⟩
  | .local _ .vmem, ⟨4, _⟩ => ⟨S2x512x64, .f32⟩
  | .local _ .vmem, ⟨5, _⟩ => ⟨S2x512x64, .f32⟩
  | .local _ .vmem, ⟨6, _⟩ => ⟨S8x512x64, .bf16⟩
  | .local _ .vmem, ⟨7, _⟩ => ⟨S8x512x64, .bf16⟩
  | .local _ .vmem, ⟨8, _⟩ => ⟨S2x512x64, .f32⟩
  | .local _ .vmem, ⟨9, _⟩ => ⟨S2x512x64, .f32⟩
  | .local _ .vmem, ⟨10, _⟩ => ⟨S2x512x64, .f32⟩
  | .local _ .vmem, ⟨11, _⟩ => ⟨S2x512x64, .f32⟩
  | .local _ .vmem, ⟨12, _⟩ => ⟨S512x640, .f32⟩
  | .local _ .vmem, ⟨13, _⟩ => ⟨S512x640, .f32⟩
  | .local _ .vmem, ⟨14, _⟩ => ⟨S512x2048, .bf16⟩
  | .local _ .vmem, ⟨15, _⟩ => ⟨S512x2048, .bf16⟩
  | .local _ .vmem, ⟨16, _⟩ => ⟨S1x128, .f32⟩
  | .local _ .vmem, ⟨17, _⟩ => ⟨S1x128, .f32⟩
  | .local _ .vmem, ⟨18, _⟩ => ⟨S128x128, .bf16⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x3584, .bf16⟩
  | .local _ .vmem, ⟨32, _⟩ => ⟨S512x3584, .bf16⟩
  | .local _ .vmem, ⟨33, _⟩ => ⟨S8x128, .f32⟩
  | .local _ .vmem, ⟨34, _⟩ => ⟨S512x128, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v29 : Ref sig .tc := ⟨.hbm, 58, rfl⟩
abbrev main_v30 : Ref sig .tc := ⟨.hbm, 59, rfl⟩
abbrev main_c_0 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_c : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_0 : Ref sig .tc := ⟨.hbm, 74, rfl⟩
abbrev main_call1_v12 : Ref sig .tc := ⟨.hbm, 75, rfl⟩
abbrev main_call1_v13 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst : Ref sig .tc := ⟨.hbm, 81, rfl⟩
abbrev main_cst_1 : Ref sig .tc := ⟨.hbm, 82, rfl⟩
abbrev main_call2_v0 : Ref sig .tc := ⟨.hbm, 83, rfl⟩
abbrev main_call2_v1 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_c_2 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_c : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_0 : Ref sig .tc := ⟨.hbm, 103, rfl⟩
abbrev main_call3_v12 : Ref sig .tc := ⟨.hbm, 104, rfl⟩
abbrev main_call3_v13 : Ref sig .tc := ⟨.hbm, 105, rfl⟩
abbrev main_v39 : Ref sig .tc := ⟨.hbm, 106, rfl⟩
abbrev main_v40 : Ref sig .tc := ⟨.hbm, 107, rfl⟩
abbrev main_cst_3 : Ref sig .tc := ⟨.hbm, 108, rfl⟩
abbrev main_v41 : Ref sig .tc := ⟨.hbm, 109, rfl⟩
abbrev main_v42 : Ref sig .tc := ⟨.hbm, 110, rfl⟩
abbrev main_cst_4 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_5 : Ref sig .tc := ⟨.hbm, 115, rfl⟩
abbrev main_v46 : Ref sig .tc := ⟨.hbm, 116, rfl⟩
abbrev main_v47 : Ref sig .tc := ⟨.hbm, 117, rfl⟩
abbrev main_cst_6 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_c_7 : Ref sig .tc := ⟨.hbm, 129, rfl⟩
abbrev main_call4_v0 : Ref sig .tc := ⟨.hbm, 130, rfl⟩
abbrev main_call4_c : Ref sig .tc := ⟨.hbm, 131, rfl⟩
abbrev main_call4_v1 : Ref sig .tc := ⟨.hbm, 132, rfl⟩
abbrev main_call4_c_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_c_1 : Ref sig .tc := ⟨.hbm, 137, rfl⟩
abbrev main_call4_v5 : Ref sig .tc := ⟨.hbm, 138, rfl⟩
abbrev main_call4_v6 : Ref sig .tc := ⟨.hbm, 139, rfl⟩
abbrev main_call4_c_2 : Ref sig .tc := ⟨.hbm, 140, rfl⟩
abbrev main_call4_v7 : Ref sig .tc := ⟨.hbm, 141, rfl⟩
abbrev main_call4_v8 : Ref sig .tc := ⟨.hbm, 142, rfl⟩
abbrev main_call4_c_3 : Ref sig .tc := ⟨.hbm, 143, rfl⟩
abbrev main_call4_v9 : Ref sig .tc := ⟨.hbm, 144, rfl⟩
abbrev main_call4_v10 : Ref sig .tc := ⟨.hbm, 145, rfl⟩
abbrev main_call4_v11 : Ref sig .tc := ⟨.hbm, 146, rfl⟩
abbrev main_call4_v12 : Ref sig .tc := ⟨.hbm, 147, rfl⟩
abbrev main_call4_v13 : Ref sig .tc := ⟨.hbm, 148, rfl⟩
abbrev main_call4_v14 : Ref sig .tc := ⟨.hbm, 149, rfl⟩
abbrev main_v58 : Ref sig .tc := ⟨.hbm, 150, rfl⟩
abbrev main_v59 : Ref sig .tc := ⟨.hbm, 151, rfl⟩
abbrev main_cst_8 : Ref sig .tc := ⟨.hbm, 152, rfl⟩
abbrev main_v60 : Ref sig .tc := ⟨.hbm, 153, rfl⟩
abbrev main_v61 : Ref sig .tc := ⟨.hbm, 154, rfl⟩
abbrev main_cst_9 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_cst_10 : Ref sig .tc := ⟨.hbm, 159, rfl⟩
abbrev main_v65 : Ref sig .tc := ⟨.hbm, 160, rfl⟩
abbrev main_v66 : Ref sig .tc := ⟨.hbm, 161, rfl⟩
abbrev main_cst_11 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_c_12 : Ref sig .tc := ⟨.hbm, 181, rfl⟩
abbrev main_call5_v0 : Ref sig .tc := ⟨.hbm, 182, rfl⟩
abbrev main_call5_c : Ref sig .tc := ⟨.hbm, 183, rfl⟩
abbrev main_call5_v1 : Ref sig .tc := ⟨.hbm, 184, rfl⟩
abbrev main_call5_c_0 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_call5_c_1 : Ref sig .tc := ⟨.hbm, 189, rfl⟩
abbrev main_call5_v5 : Ref sig .tc := ⟨.hbm, 190, rfl⟩
abbrev main_call5_v6 : Ref sig .tc := ⟨.hbm, 191, rfl⟩
abbrev main_call5_c_2 : Ref sig .tc := ⟨.hbm, 192, rfl⟩
abbrev main_call5_v7 : Ref sig .tc := ⟨.hbm, 193, rfl⟩
abbrev main_call5_v8 : Ref sig .tc := ⟨.hbm, 194, rfl⟩
abbrev main_call5_c_3 : Ref sig .tc := ⟨.hbm, 195, rfl⟩
abbrev main_call5_v9 : Ref sig .tc := ⟨.hbm, 196, rfl⟩
abbrev main_call5_v10 : Ref sig .tc := ⟨.hbm, 197, rfl⟩
abbrev main_call5_v11 : Ref sig .tc := ⟨.hbm, 198, rfl⟩
abbrev main_call5_v12 : Ref sig .tc := ⟨.hbm, 199, rfl⟩
abbrev main_call5_v13 : Ref sig .tc := ⟨.hbm, 200, rfl⟩
abbrev main_call5_v14 : Ref sig .tc := ⟨.hbm, 201, rfl⟩
abbrev main_v85 : Ref sig .tc := ⟨.hbm, 202, rfl⟩
abbrev main_c_13 : Ref sig .tc := ⟨.hbm, 203, rfl⟩
abbrev main_v86 : Ref sig .tc := ⟨.hbm, 204, rfl⟩
abbrev main_v87 : Ref sig .tc := ⟨.hbm, 205, rfl⟩
abbrev main_v88 : Ref sig .tc := ⟨.hbm, 206, rfl⟩
abbrev main_cst_14 : Ref sig .tc := ⟨.hbm, 207, rfl⟩
abbrev main_v89 : Ref sig .tc := ⟨.hbm, 208, rfl⟩
abbrev main_v90 : Ref sig .tc := ⟨.hbm, 209, rfl⟩
abbrev main_cst_15 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_cst_16 : Ref sig .tc := ⟨.hbm, 214, rfl⟩
abbrev main_v94 : Ref sig .tc := ⟨.hbm, 215, rfl⟩
abbrev main_v95 : Ref sig .tc := ⟨.hbm, 216, rfl⟩
abbrev main_cst_17 : Ref sig .tc := ⟨.hbm, 217, rfl⟩
abbrev main_v96 : Ref sig .tc := ⟨.hbm, 218, rfl⟩
abbrev main_v97 : Ref sig .tc := ⟨.hbm, 219, rfl⟩
abbrev main_v98 : Ref sig .tc := ⟨.hbm, 220, rfl⟩
abbrev main_v99 : Ref sig .tc := ⟨.hbm, 221, rfl⟩
abbrev main_v100 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_v106 : Ref sig .tc := ⟨.hbm, 228, rfl⟩
abbrev main_v107 : Ref sig .tc := ⟨.hbm, 229, rfl⟩
abbrev main_v108 : Ref sig .tc := ⟨.hbm, 230, rfl⟩
abbrev main_v109 : Ref sig .tc := ⟨.hbm, 231, rfl⟩
abbrev main_v110 : Ref sig .tc := ⟨.hbm, 232, rfl⟩
abbrev main_v111 : Ref sig .tc := ⟨.hbm, 233, rfl⟩
abbrev main_v112 : Ref sig .tc := ⟨.hbm, 234, rfl⟩
abbrev main_v113 : Ref sig .tc := ⟨.hbm, 235, rfl⟩
abbrev main_c_18 : Ref sig .tc := ⟨.hbm, 236, rfl⟩
abbrev main_call6_v0 : Ref sig .tc := ⟨.hbm, 237, rfl⟩
abbrev main_call6_c : Ref sig .tc := ⟨.hbm, 238, rfl⟩
abbrev main_call6_v1 : Ref sig .tc := ⟨.hbm, 239, rfl⟩
abbrev main_call6_c_0 : Ref sig .tc := ⟨.hbm, 240, rfl⟩
abbrev main_call6_v2 : Ref sig .tc := ⟨.hbm, 241, rfl⟩
abbrev main_call6_v3 : Ref sig .tc := ⟨.hbm, 242, rfl⟩
abbrev main_call6_v4 : Ref sig .tc := ⟨.hbm, 243, rfl⟩
abbrev main_call6_c_1 : Ref sig .tc := ⟨.hbm, 244, rfl⟩
abbrev main_call6_v5 : Ref sig .tc := ⟨.hbm, 245, rfl⟩
abbrev main_call6_v6 : Ref sig .tc := ⟨.hbm, 246, rfl⟩
abbrev main_call6_c_2 : Ref sig .tc := ⟨.hbm, 247, rfl⟩
abbrev main_call6_v7 : Ref sig .tc := ⟨.hbm, 248, rfl⟩
abbrev main_call6_v8 : Ref sig .tc := ⟨.hbm, 249, rfl⟩
abbrev main_call6_c_3 : Ref sig .tc := ⟨.hbm, 250, rfl⟩
abbrev main_call6_v9 : Ref sig .tc := ⟨.hbm, 251, rfl⟩
abbrev main_call6_v10 : Ref sig .tc := ⟨.hbm, 252, rfl⟩
abbrev main_call6_v11 : Ref sig .tc := ⟨.hbm, 253, rfl⟩
abbrev main_call6_v12 : Ref sig .tc := ⟨.hbm, 254, rfl⟩
abbrev main_call6_v13 : Ref sig .tc := ⟨.hbm, 255, rfl⟩
abbrev main_call6_v14 : Ref sig .tc := ⟨.hbm, 256, rfl⟩
abbrev main_v114 : Ref sig .tc := ⟨.hbm, 257, rfl⟩
abbrev main_c_19 : Ref sig .tc := ⟨.hbm, 258, rfl⟩
abbrev main_v115 : Ref sig .tc := ⟨.hbm, 259, rfl⟩
abbrev main_v116 : Ref sig .tc := ⟨.hbm, 260, rfl⟩
abbrev main_v117 : Ref sig .tc := ⟨.hbm, 261, rfl⟩
abbrev main_cst_20 : Ref sig .tc := ⟨.hbm, 262, rfl⟩
abbrev main_call7_v0 : Ref sig .tc := ⟨.hbm, 263, rfl⟩
abbrev main_call7_v1 : Ref sig .tc := ⟨.hbm, 264, rfl⟩
abbrev main_call7_v2 : Ref sig .tc := ⟨.hbm, 265, rfl⟩
abbrev main_v118 : Ref sig .tc := ⟨.hbm, 266, rfl⟩
abbrev main_cst_21 : Ref sig .tc := ⟨.hbm, 267, rfl⟩
abbrev main_call8_v0 : Ref sig .tc := ⟨.hbm, 268, rfl⟩
abbrev main_call8_v1 : Ref sig .tc := ⟨.hbm, 269, rfl⟩
abbrev main_call8_v2 : Ref sig .tc := ⟨.hbm, 270, rfl⟩
abbrev main_v119 : Ref sig .tc := ⟨.hbm, 271, rfl⟩
abbrev main_v120 : Ref sig .tc := ⟨.hbm, 272, rfl⟩
abbrev main_cst_22 : Ref sig .tc := ⟨.hbm, 273, rfl⟩
abbrev main_call9_v0 : Ref sig .tc := ⟨.hbm, 274, rfl⟩
abbrev main_call9_v1 : Ref sig .tc := ⟨.hbm, 275, rfl⟩
abbrev main_call9_v2 : Ref sig .tc := ⟨.hbm, 276, rfl⟩
abbrev main_v121 : Ref sig .tc := ⟨.hbm, 277, rfl⟩
abbrev main_cst_23 : Ref sig .tc := ⟨.hbm, 278, rfl⟩
abbrev main_call10_v0 : Ref sig .tc := ⟨.hbm, 279, rfl⟩
abbrev main_call10_v1 : Ref sig .tc := ⟨.hbm, 280, rfl⟩
abbrev main_call10_v2 : Ref sig .tc := ⟨.hbm, 281, rfl⟩
abbrev main_v122 : Ref sig .tc := ⟨.hbm, 282, rfl⟩
abbrev main_v123_0 : Ref sig .tc := ⟨.hbm, 283, rfl⟩
abbrev main_v123_1 : Ref sig .tc := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x3584 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference7Ideal.lean ====
abbrev S1x8192x512 : Shape := ⟨3, ![1, 8192, 512]⟩
abbrev S1x8192x128 : Shape := ⟨3, ![1, 8192, 128]⟩
abbrev S1x64 : Shape := ⟨2, ![1, 64]⟩
abbrev S1x8192x8x64 : Shape := ⟨4, ![1, 8192, 8, 64]⟩
abbrev S1x8192x2x64 : Shape := ⟨4, ![1, 8192, 2, 64]⟩
abbrev S1x8192x1024 : Shape := ⟨3, ![1, 8192, 1024]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x1x1x64 : Shape := ⟨4, ![1, 1, 1, 64]⟩
abbrev S2x1x1x64 : Shape := ⟨4, ![2, 1, 1, 64]⟩
abbrev S2x64 : Shape := ⟨2, ![2, 64]⟩
abbrev S1x8192x4x2x64 : Shape := ⟨5, ![1, 8192, 4, 2, 64]⟩
abbrev S1x8192x4x2 : Shape := ⟨4, ![1, 8192, 4, 2]⟩
abbrev S1x8192x4x2x1 : Shape := ⟨5, ![1, 8192, 4, 2, 1]⟩
abbrev S1x1x1x2x64 : Shape := ⟨5, ![1, 1, 1, 2, 64]⟩
abbrev S16 : Shape := ⟨1, ![16]⟩
abbrev S1x16 : Shape := ⟨2, ![1, 16]⟩
abbrev S8192x16 : Shape := ⟨2, ![8192, 16]⟩
abbrev S1x8192x8x32 : Shape := ⟨4, ![1, 8192, 8, 32]⟩
abbrev S1x8192x8x16 : Shape := ⟨4, ![1, 8192, 8, 16]⟩
abbrev S1x8192x1x16 : Shape := ⟨4, ![1, 8192, 1, 16]⟩
abbrev S1x2x64 : Shape := ⟨3, ![1, 2, 64]⟩
abbrev S8192x4x2 : Shape := ⟨3, ![8192, 4, 2]⟩
abbrev S1x8192x1x2x64 : Shape := ⟨5, ![1, 8192, 1, 2, 64]⟩
abbrev S1x8192x1x2 : Shape := ⟨4, ![1, 8192, 1, 2]⟩
abbrev S1x8192x1x2x1 : Shape := ⟨5, ![1, 8192, 1, 2, 1]⟩
abbrev S1x8192x2x32 : Shape := ⟨4, ![1, 8192, 2, 32]⟩
abbrev S1x8192x2x16 : Shape := ⟨4, ![1, 8192, 2, 16]⟩
abbrev S1x1x2x64 : Shape := ⟨4, ![1, 1, 2, 64]⟩
abbrev S8192x2 : Shape := ⟨2, ![8192, 2]⟩
abbrev S1x8192x1x32 : Shape := ⟨4, ![1, 8192, 1, 32]⟩
abbrev S8192x512 : Shape := ⟨2, ![8192, 512]⟩
abbrev S8192x128 : Shape := ⟨2, ![8192, 128]⟩
abbrev S8192x1024 : Shape := ⟨2, ![8192, 1024]⟩
abbrev S8192x3584 : Shape := ⟨2, ![8192, 3584]⟩
abbrev S1x128 : Shape := ⟨2, ![1, 128]⟩
abbrev S6x128 : Shape := ⟨2, ![6, 128]⟩
abbrev S8x128 : Shape := ⟨2, ![8, 128]⟩

abbrev nBuf : Space → Nat
  | .hbm => 558
  | .vmem => 0
  | .smem => 0
  | _ => 0

abbrev hbmTy0_0 (i : Nat) : BufTy := match i % 128 with
  | 0 => ⟨S1x8192x512, .f32⟩
  | 1 => ⟨S1x8192x128, .f32⟩
  | 2 => ⟨S1x64, .f32⟩
  | 3 => ⟨S1x64, .f32⟩
  | 4 => ⟨S1x8192x8x64, .f32⟩
  | 5 => ⟨S1x8192x2x64, .f32⟩
  | 6 => ⟨S1x8192x2x64, .f32⟩
  | 7 => ⟨S1x8192x8x64, .f32⟩
  | 8 => ⟨S1x8192x2x64, .f32⟩
  | 9 => ⟨S1x8192x2x64, .f32⟩
  | 10 => ⟨S1x8192x1024, .f32⟩
  | 11 => ⟨S1x8192x1024, .f32⟩
  | 12 => ⟨S8192, .i32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S8192, .f32⟩
  | 28 => ⟨S8192x1, .f32⟩
  | 29 => ⟨S1x32, .f32⟩
  | 30 => ⟨S8192x32, .f32⟩
  | 31 => ⟨S8192x32, .f32⟩
  | 32 => ⟨S8192x32, .f32⟩
  | 33 => ⟨S8192x32, .f32⟩
  | 34 => ⟨S8192x32, .f32⟩
  | 35 => ⟨S1x1x1x64, .f32⟩
  | 36 => ⟨S2x1x1x64, .f32⟩
  | 37 => ⟨S2x64, .f32⟩
  | 38 => ⟨S1x8192x4x2x64, .f32⟩
  | 39 => ⟨S1x8192x4x2x64, .f32⟩
  | 40 => ⟨S_, .f32⟩
  | 41 => ⟨S1x8192x4x2, .f32⟩
  | 42 => ⟨S1x8192x4x2x1, .f32⟩
  | 43 => ⟨S_, .f32⟩
  | 44 => ⟨S1x8192x4x2x1, .f32⟩
  | 45 => ⟨S1x8192x4x2x1, .f32⟩
  | 46 => ⟨S_, .f32⟩
  | 47 => ⟨S1x8192x4x2x1, .f32⟩
  | 48 => ⟨S1x8192x4x2x1, .f32⟩
  | 49 => ⟨S1x8192x4x2x1, .f32⟩
  | 50 => ⟨S1x8192x4x2x1, .f32⟩
  | 51 => ⟨S_, .f32⟩
  | 52 => ⟨S1x8192x4x2x1, .f32⟩
  | 53 => ⟨S1x8192x4x2x1, .f32⟩
  | 54 => ⟨S1x8192x4x2x64, .f32⟩
  | 55 => ⟨S1x8192x4x2x64, .f32⟩
  | 56 => ⟨S1x1x1x2x64, .f32⟩
  | 57 => ⟨S1x8192x4x2x64, .f32⟩
  | 58 => ⟨S1x8192x4x2x64, .f32⟩
  | 59 => ⟨S1x8192x8x64, .f32⟩
  | 60 => ⟨S_, .i32⟩
  | 61 => ⟨S_, .i32⟩
  | 62 => ⟨S8192, .i32⟩
  | 63 => ⟨S8192, .i32⟩
  | 64 => ⟨S8192, .i32⟩
  | 65 => ⟨S_, .i32⟩
  | 66 => ⟨S8192, .i32⟩
  | 67 => ⟨S8192, .i1⟩
  | 68 => ⟨S8192, .i32⟩
  | 69 => ⟨S8192, .i32⟩
  | 70 => ⟨S_, .i32⟩
  | 71 => ⟨S8192, .i32⟩
  | 72 => ⟨S8192, .i1⟩
  | 73 => ⟨S8192, .i1⟩
  | 74 => ⟨S_, .i32⟩
  | 75 => ⟨S8192, .i32⟩
  | 76 => ⟨S8192, .i32⟩
  | 77 => ⟨S8192, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S8192, .i32⟩
  | 85 => ⟨S8192, .i32⟩
  | 86 => ⟨S_, .i32⟩
  | 87 => ⟨S8192, .i32⟩
  | 88 => ⟨S8192, .i1⟩
  | 89 => ⟨S_, .i32⟩
  | 90 => ⟨S8192, .i32⟩
  | 91 => ⟨S8192, .i1⟩
  | 92 => ⟨S_, .i32⟩
  | 93 => ⟨S_, .i1⟩
  | 94 => ⟨S8192, .i1⟩
  | 95 => ⟨S8192, .i1⟩
  | 96 => ⟨S8192, .i1⟩
  | 97 => ⟨S8192, .i32⟩
  | 98 => ⟨S8192, .i32⟩
  | 99 => ⟨S8192, .i32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S8192, .f32⟩
  | 115 => ⟨S8192x1, .f32⟩
  | 116 => ⟨S1x16, .f32⟩
  | 117 => ⟨S8192x16, .f32⟩
  | 118 => ⟨S8192x16, .f32⟩
  | 119 => ⟨S8192x16, .f32⟩
  | 120 => ⟨S8192x16, .f32⟩
  | 121 => ⟨S8192x16, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S1x8192x512, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S_, .f32⟩
  | 6 => ⟨S16, .f32⟩
  | 7 => ⟨S16, .f32⟩
  | 8 => ⟨S8192, .f32⟩
  | 9 => ⟨S8192x1, .f32⟩
  | 10 => ⟨S1x16, .f32⟩
  | 11 => ⟨S8192x16, .f32⟩
  | 12 => ⟨S8192x16, .f32⟩
  | 13 => ⟨S8192x16, .f32⟩
  | 14 => ⟨S8192x16, .f32⟩
  | 15 => ⟨S8192x16, .f32⟩
  | 16 => ⟨S1x8192x8x32, .f32⟩
  | 17 => ⟨S1x8192x8x16, .f32⟩
  | 18 => ⟨S1x8192x8x16, .f32⟩
  | 19 => ⟨S1x8192x1x16, .f32⟩
  | 20 => ⟨S1x8192x1x16, .f32⟩
  | 21 => ⟨S1x8192x8x16, .f32⟩
  | 22 => ⟨S1x8192x8x16, .f32⟩
  | 23 => ⟨S1x8192x8x16, .f32⟩
  | 24 => ⟨S1x8192x8x16, .f32⟩
  | 25 => ⟨S1x8192x8x16, .f32⟩
  | 26 => ⟨S1x8192x8x16, .f32⟩
  | 27 => ⟨S1x8192x8x16, .f32⟩
  | 28 => ⟨S1x8192x8x16, .f32⟩
  | 29 => ⟨S1x8192x8x16, .f32⟩
  | 30 => ⟨S1x8192x8x16, .f32⟩
  | 31 => ⟨S1x8192x8x32, .f32⟩
  | 32 => ⟨S1x8192x8x32, .f32⟩
  | 33 => ⟨S1x8192x8x16, .f32⟩
  | 34 => ⟨S1x8192x8x16, .f32⟩
  | 35 => ⟨S1x8192x1x16, .f32⟩
  | 36 => ⟨S1x8192x1x16, .f32⟩
  | 37 => ⟨S1x8192x8x16, .f32⟩
  | 38 => ⟨S1x8192x8x16, .f32⟩
  | 39 => ⟨S1x8192x8x16, .f32⟩
  | 40 => ⟨S1x8192x8x16, .f32⟩
  | 41 => ⟨S1x8192x8x16, .f32⟩
  | 42 => ⟨S1x8192x8x16, .f32⟩
  | 43 => ⟨S1x8192x8x16, .f32⟩
  | 44 => ⟨S1x8192x8x16, .f32⟩
  | 45 => ⟨S1x8192x8x16, .f32⟩
  | 46 => ⟨S1x8192x8x16, .f32⟩
  | 47 => ⟨S1x8192x8x32, .f32⟩
  | 48 => ⟨S1x8192x8x64, .f32⟩
  | 49 => ⟨S_, .f32⟩
  | 50 => ⟨S1x8192x8x64, .f32⟩
  | 51 => ⟨S1x8192x8x64, .f32⟩
  | 52 => ⟨S_, .f32⟩
  | 53 => ⟨S1x8192x8x64, .f32⟩
  | 54 => ⟨S1x8192x8x64, .f32⟩
  | 55 => ⟨S1x8192x8x32, .f32⟩
  | 56 => ⟨S1x8192x8x32, .f32⟩
  | 57 => ⟨S1x8192x8x16, .f32⟩
  | 58 => ⟨S1x8192x8x16, .f32⟩
  | 59 => ⟨S1x8192x8x16, .f32⟩
  | 60 => ⟨S1x8192x8x16, .f32⟩
  | 61 => ⟨S1x8192x8x16, .f32⟩
  | 62 => ⟨S1x8192x8x16, .f32⟩
  | 63 => ⟨S1x8192x8x16, .f32⟩
  | 64 => ⟨S1x8192x8x16, .f32⟩
  | 65 => ⟨S1x8192x8x16, .f32⟩
  | 66 => ⟨S1x8192x8x16, .f32⟩
  | 67 => ⟨S1x8192x8x16, .f32⟩
  | 68 => ⟨S1x8192x8x16, .f32⟩
  | 69 => ⟨S1x8192x8x16, .f32⟩
  | 70 => ⟨S_, .f32⟩
  | 71 => ⟨S1x8192x8x32, .f32⟩
  | 72 => ⟨S_, .f32⟩
  | 73 => ⟨S1x8192x8x32, .f32⟩
  | 74 => ⟨S1x8192x8x32, .f32⟩
  | 75 => ⟨S_, .f32⟩
  | 76 => ⟨S1x8192x8x64, .f32⟩
  | 77 => ⟨S1x8192x8x16, .f32⟩
  | 78 => ⟨S1x8192x8x16, .f32⟩
  | 79 => ⟨S1x8192x8x16, .f32⟩
  | 80 => ⟨S1x8192x8x16, .f32⟩
  | 81 => ⟨S1x8192x8x16, .f32⟩
  | 82 => ⟨S1x8192x8x16, .f32⟩
  | 83 => ⟨S1x8192x8x16, .f32⟩
  | 84 => ⟨S1x8192x8x16, .f32⟩
  | 85 => ⟨S1x8192x8x16, .f32⟩
  | 86 => ⟨S1x8192x8x16, .f32⟩
  | 87 => ⟨S1x8192x8x16, .f32⟩
  | 88 => ⟨S1x8192x8x16, .f32⟩
  | 89 => ⟨S1x8192x8x16, .f32⟩
  | 90 => ⟨S_, .f32⟩
  | 91 => ⟨S1x8192x8x32, .f32⟩
  | 92 => ⟨S_, .f32⟩
  | 93 => ⟨S1x8192x8x32, .f32⟩
  | 94 => ⟨S1x8192x8x32, .f32⟩
  | 95 => ⟨S_, .f32⟩
  | 96 => ⟨S1x8192x8x64, .f32⟩
  | 97 => ⟨S1x8192x8x64, .f32⟩
  | 98 => ⟨S1x8192x4x2x64, .f32⟩
  | 99 => ⟨S1x8192x4x2x64, .f32⟩
  | 100 => ⟨S_, .f32⟩
  | 101 => ⟨S1x2x64, .f32⟩
  | 102 => ⟨S1x1x1x2x64, .f32⟩
  | 103 => ⟨S1x8192x4x2x64, .f32⟩
  | 104 => ⟨S1x8192x4x2x64, .f32⟩
  | 105 => ⟨S_, .f32⟩
  | 106 => ⟨S2x64, .f32⟩
  | 107 => ⟨S1x8192x4x2x64, .f32⟩
  | 108 => ⟨S_, .f32⟩
  | 109 => ⟨S1x8192x4x2, .f32⟩
  | 110 => ⟨S1x8192x4x2x1, .f32⟩
  | 111 => ⟨S1x8192x4x2x64, .f32⟩
  | 112 => ⟨S1x8192x4x2x64, .f32⟩
  | 113 => ⟨S1x8192x4x2x1, .f32⟩
  | 114 => ⟨S_, .f32⟩
  | 115 => ⟨S1x8192x4x2x1, .f32⟩
  | 116 => ⟨S1x8192x4x2x1, .f32⟩
  | 117 => ⟨S_, .f32⟩
  | 118 => ⟨S8192x4x2, .f32⟩
  | 119 => ⟨S1x8192x4x2, .f32⟩
  | 120 => ⟨S1x8192x4x2x64, .f32⟩
  | 121 => ⟨S1x8192x4x2x64, .f32⟩
  | 122 => ⟨S1x8192x4x2x64, .f32⟩
  | 123 => ⟨S1x8192x4x2x64, .f32⟩
  | 124 => ⟨S1x8192x4x2x64, .f32⟩
  | 125 => ⟨S1x8192x512, .f32⟩
  | 126 => ⟨S1x1x1x64, .f32⟩
  | 127 => ⟨S2x1x1x64, .f32⟩
  | _ => ⟨S1x8192x512, .f32⟩

abbrev hbmTy0_2 (i : Nat) : BufTy := match i % 128 with
  | 0 => ⟨S2x64, .f32⟩
  | 1 => ⟨S1x8192x1x2x64, .f32⟩
  | 2 => ⟨S1x8192x1x2x64, .f32⟩
  | 3 => ⟨S_, .f32⟩
  | 4 => ⟨S1x8192x1x2, .f32⟩
  | 5 => ⟨S1x8192x1x2x1, .f32⟩
  | 6 => ⟨S_, .f32⟩
  | 7 => ⟨S1x8192x1x2x1, .f32⟩
  | 8 => ⟨S1x8192x1x2x1, .f32⟩
  | 9 => ⟨S_, .f32⟩
  | 10 => ⟨S1x8192x1x2x1, .f32⟩
  | 11 => ⟨S1x8192x1x2x1, .f32⟩
  | 12 => ⟨S1x8192x1x2x1, .f32⟩
  | 13 => ⟨S1x8192x1x2x1, .f32⟩
  | 14 => ⟨S_, .f32⟩
  | 15 => ⟨S1x8192x1x2x1, .f32⟩
  | 16 => ⟨S1x8192x1x2x1, .f32⟩
  | 17 => ⟨S1x8192x1x2x64, .f32⟩
  | 18 => ⟨S1x8192x1x2x64, .f32⟩
  | 19 => ⟨S1x1x1x2x64, .f32⟩
  | 20 => ⟨S1x8192x1x2x64, .f32⟩
  | 21 => ⟨S1x8192x1x2x64, .f32⟩
  | 22 => ⟨S1x8192x2x64, .f32⟩
  | 23 => ⟨S_, .i32⟩
  | 24 => ⟨S_, .i32⟩
  | 25 => ⟨S8192, .i32⟩
  | 26 => ⟨S8192, .i32⟩
  | 27 => ⟨S8192, .i32⟩
  | 28 => ⟨S_, .i32⟩
  | 29 => ⟨S8192, .i32⟩
  | 30 => ⟨S8192, .i1⟩
  | 31 => ⟨S8192, .i32⟩
  | 32 => ⟨S8192, .i32⟩
  | 33 => ⟨S_, .i32⟩
  | 34 => ⟨S8192, .i32⟩
  | 35 => ⟨S8192, .i1⟩
  | 36 => ⟨S8192, .i1⟩
  | 37 => ⟨S_, .i32⟩
  | 38 => ⟨S8192, .i32⟩
  | 39 => ⟨S8192, .i32⟩
  | 40 => ⟨S8192, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S8192, .i32⟩
  | 48 => ⟨S8192, .i32⟩
  | 49 => ⟨S_, .i32⟩
  | 50 => ⟨S8192, .i32⟩
  | 51 => ⟨S8192, .i1⟩
  | 52 => ⟨S_, .i32⟩
  | 53 => ⟨S8192, .i32⟩
  | 54 => ⟨S8192, .i1⟩
  | 55 => ⟨S_, .i32⟩
  | 56 => ⟨S_, .i1⟩
  | 57 => ⟨S8192, .i1⟩
  | 58 => ⟨S8192, .i1⟩
  | 59 => ⟨S8192, .i1⟩
  | 60 => ⟨S8192, .i32⟩
  | 61 => ⟨S8192, .i32⟩
  | 62 => ⟨S8192, .i32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S8192, .f32⟩
  | 78 => ⟨S8192x1, .f32⟩
  | 79 => ⟨S1x16, .f32⟩
  | 80 => ⟨S8192x16, .f32⟩
  | 81 => ⟨S8192x16, .f32⟩
  | 82 => ⟨S8192x16, .f32⟩
  | 83 => ⟨S8192x16, .f32⟩
  | 84 => ⟨S8192x16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S8192, .f32⟩
  | 100 => ⟨S8192x1, .f32⟩
  | 101 => ⟨S1x16, .f32⟩
  | 102 => ⟨S8192x16, .f32⟩
  | 103 => ⟨S8192x16, .f32⟩
  | 104 => ⟨S8192x16, .f32⟩
  | 105 => ⟨S8192x16, .f32⟩
  | 106 => ⟨S8192x16, .f32⟩
  | 107 => ⟨S1x8192x2x32, .f32⟩
  | 108 => ⟨S1x8192x2x16, .f32⟩
  | 109 => ⟨S1x8192x2x16, .f32⟩
  | 110 => ⟨S1x8192x1x16, .f32⟩
  | 111 => ⟨S1x8192x1x16, .f32⟩
  | 112 => ⟨S1x8192x2x16, .f32⟩
  | 113 => ⟨S1x8192x2x16, .f32⟩
  | 114 => ⟨S1x8192x2x16, .f32⟩
  | 115 => ⟨S1x8192x2x16, .f32⟩
  | 116 => ⟨S1x8192x2x16, .f32⟩
  | 117 => ⟨S1x8192x2x16, .f32⟩
  | 118 => ⟨S1x8192x2x16, .f32⟩
  | 119 => ⟨S1x8192x2x16, .f32⟩
  | 120 => ⟨S1x8192x2x16, .f32⟩
  | 121 => ⟨S1x8192x2x16, .f32⟩
  | 122 => ⟨S1x8192x2x32, .f32⟩
  | 123 => ⟨S1x8192x2x32, .f32⟩
  | 124 => ⟨S1x8192x2x16, .f32⟩
  | 125 => ⟨S1x8192x2x16, .f32⟩
  | 126 => ⟨S1x8192x1x16, .f32⟩
  | 127 => ⟨S1x8192x1x16, .f32⟩
  | _ => ⟨S1x8192x512, .f32⟩

abbrev hbmTy0_3 (i : Nat) : BufTy := match i % 128 with
  | 0 => ⟨S1x8192x2x16, .f32⟩
  | 1 => ⟨S1x8192x2x16, .f32⟩
  | 2 => ⟨S1x8192x2x16, .f32⟩
  | 3 => ⟨S1x8192x2x16, .f32⟩
  | 4 => ⟨S1x8192x2x16, .f32⟩
  | 5 => ⟨S1x8192x2x16, .f32⟩
  | 6 => ⟨S1x8192x2x16, .f32⟩
  | 7 => ⟨S1x8192x2x16, .f32⟩
  | 8 => ⟨S1x8192x2x16, .f32⟩
  | 9 => ⟨S1x8192x2x16, .f32⟩
  | 10 => ⟨S1x8192x2x32, .f32⟩
  | 11 => ⟨S1x8192x2x64, .f32⟩
  | 12 => ⟨S1x8192x2x32, .f32⟩
  | 13 => ⟨S1x8192x2x32, .f32⟩
  | 14 => ⟨S1x8192x2x16, .f32⟩
  | 15 => ⟨S1x8192x2x16, .f32⟩
  | 16 => ⟨S1x8192x2x16, .f32⟩
  | 17 => ⟨S1x8192x2x16, .f32⟩
  | 18 => ⟨S1x8192x2x16, .f32⟩
  | 19 => ⟨S1x8192x2x16, .f32⟩
  | 20 => ⟨S1x8192x2x16, .f32⟩
  | 21 => ⟨S1x8192x2x16, .f32⟩
  | 22 => ⟨S1x8192x2x16, .f32⟩
  | 23 => ⟨S1x8192x2x16, .f32⟩
  | 24 => ⟨S1x8192x2x16, .f32⟩
  | 25 => ⟨S1x8192x2x16, .f32⟩
  | 26 => ⟨S1x8192x2x16, .f32⟩
  | 27 => ⟨S_, .f32⟩
  | 28 => ⟨S1x8192x2x32, .f32⟩
  | 29 => ⟨S_, .f32⟩
  | 30 => ⟨S1x8192x2x32, .f32⟩
  | 31 => ⟨S1x8192x2x32, .f32⟩
  | 32 => ⟨S_, .f32⟩
  | 33 => ⟨S1x8192x2x64, .f32⟩
  | 34 => ⟨S1x8192x2x16, .f32⟩
  | 35 => ⟨S1x8192x2x16, .f32⟩
  | 36 => ⟨S1x8192x2x16, .f32⟩
  | 37 => ⟨S1x8192x2x16, .f32⟩
  | 38 => ⟨S1x8192x2x16, .f32⟩
  | 39 => ⟨S1x8192x2x16, .f32⟩
  | 40 => ⟨S1x8192x2x16, .f32⟩
  | 41 => ⟨S1x8192x2x16, .f32⟩
  | 42 => ⟨S1x8192x2x16, .f32⟩
  | 43 => ⟨S1x8192x2x16, .f32⟩
  | 44 => ⟨S1x8192x2x16, .f32⟩
  | 45 => ⟨S1x8192x2x16, .f32⟩
  | 46 => ⟨S1x8192x2x16, .f32⟩
  | 47 => ⟨S_, .f32⟩
  | 48 => ⟨S1x8192x2x32, .f32⟩
  | 49 => ⟨S_, .f32⟩
  | 50 => ⟨S1x8192x2x32, .f32⟩
  | 51 => ⟨S1x8192x2x32, .f32⟩
  | 52 => ⟨S_, .f32⟩
  | 53 => ⟨S1x8192x2x64, .f32⟩
  | 54 => ⟨S1x8192x2x64, .f32⟩
  | 55 => ⟨S1x8192x1x2x64, .f32⟩
  | 56 => ⟨S1x8192x1x2x64, .f32⟩
  | 57 => ⟨S_, .f32⟩
  | 58 => ⟨S1x1x2x64, .f32⟩
  | 59 => ⟨S1x1x1x2x64, .f32⟩
  | 60 => ⟨S1x8192x1x2x64, .f32⟩
  | 61 => ⟨S1x8192x1x2x64, .f32⟩
  | 62 => ⟨S_, .f32⟩
  | 63 => ⟨S2x64, .f32⟩
  | 64 => ⟨S1x8192x1x2x64, .f32⟩
  | 65 => ⟨S_, .f32⟩
  | 66 => ⟨S1x8192x1x2, .f32⟩
  | 67 => ⟨S1x8192x1x2x1, .f32⟩
  | 68 => ⟨S1x8192x1x2x64, .f32⟩
  | 69 => ⟨S1x8192x1x2x64, .f32⟩
  | 70 => ⟨S1x8192x1x2x1, .f32⟩
  | 71 => ⟨S_, .f32⟩
  | 72 => ⟨S1x8192x1x2x1, .f32⟩
  | 73 => ⟨S1x8192x1x2x1, .f32⟩
  | 74 => ⟨S_, .f32⟩
  | 75 => ⟨S8192x2, .f32⟩
  | 76 => ⟨S1x8192x1x2, .f32⟩
  | 77 => ⟨S1x8192x1x2x64, .f32⟩
  | 78 => ⟨S1x8192x1x2x64, .f32⟩
  | 79 => ⟨S1x8192x1x2x64, .f32⟩
  | 80 => ⟨S1x8192x1x2x64, .f32⟩
  | 81 => ⟨S1x8192x1x2x64, .f32⟩
  | 82 => ⟨S1x8192x128, .f32⟩
  | 83 => ⟨S_, .f32⟩
  | 84 => ⟨S1x8192x8x64, .f32⟩
  | 85 => ⟨S1x8192x8x32, .f32⟩
  | 86 => ⟨S1x8192x8x32, .f32⟩
  | 87 => ⟨S1x8192x1x32, .f32⟩
  | 88 => ⟨S1x8192x1x32, .f32⟩
  | 89 => ⟨S1x8192x8x32, .f32⟩
  | 90 => ⟨S1x8192x8x32, .f32⟩
  | 91 => ⟨S1x8192x8x32, .f32⟩
  | 92 => ⟨S1x8192x8x32, .f32⟩
  | 93 => ⟨S1x8192x8x32, .f32⟩
  | 94 => ⟨S1x8192x8x32, .f32⟩
  | 95 => ⟨S1x8192x8x32, .f32⟩
  | 96 => ⟨S1x8192x8x32, .f32⟩
  | 97 => ⟨S1x8192x8x32, .f32⟩
  | 98 => ⟨S1x8192x8x32, .f32⟩
  | 99 => ⟨S1x8192x8x64, .f32⟩
  | 100 => ⟨S_, .f32⟩
  | 101 => ⟨S1x8192x8x64, .f32⟩
  | 102 => ⟨S1x8192x8x64, .f32⟩
  | 103 => ⟨S_, .f32⟩
  | 104 => ⟨S1x8192x8x64, .f32⟩
  | 105 => ⟨S1x8192x8x64, .f32⟩
  | 106 => ⟨S1x8192x8x32, .f32⟩
  | 107 => ⟨S1x8192x8x32, .f32⟩
  | 108 => ⟨S1x8192x8x32, .f32⟩
  | 109 => ⟨S1x8192x8x32, .f32⟩
  | 110 => ⟨S1x8192x8x32, .f32⟩
  | 111 => ⟨S1x8192x8x32, .f32⟩
  | 112 => ⟨S1x8192x8x32, .f32⟩
  | 113 => ⟨S1x8192x8x32, .f32⟩
  | 114 => ⟨S1x8192x8x32, .f32⟩
  | 115 => ⟨S1x8192x8x32, .f32⟩
  | 116 => ⟨S1x8192x8x32, .f32⟩
  | 117 => ⟨S1x8192x8x32, .f32⟩
  | 118 => ⟨S1x8192x8x32, .f32⟩
  | 119 => ⟨S_, .f32⟩
  | 120 => ⟨S1x8192x8x64, .f32⟩
  | 121 => ⟨S_, .f32⟩
  | 122 => ⟨S1x8192x8x64, .f32⟩
  | 123 => ⟨S1x8192x8x64, .f32⟩
  | 124 => ⟨S_, .f32⟩
  | 125 => ⟨S1x8192x2x64, .f32⟩
  | 126 => ⟨S1x8192x2x32, .f32⟩
  | 127 => ⟨S1x8192x2x32, .f32⟩
  | _ => ⟨S1x8192x512, .f32⟩

abbrev hbmTy0_4 (i : Nat) : BufTy := match i % 128 with
  | 0 => ⟨S1x8192x1x32, .f32⟩
  | 1 => ⟨S1x8192x1x32, .f32⟩
  | 2 => ⟨S1x8192x2x32, .f32⟩
  | 3 => ⟨S1x8192x2x32, .f32⟩
  | 4 => ⟨S1x8192x2x32, .f32⟩
  | 5 => ⟨S1x8192x2x32, .f32⟩
  | 6 => ⟨S1x8192x2x32, .f32⟩
  | 7 => ⟨S1x8192x2x32, .f32⟩
  | 8 => ⟨S1x8192x2x32, .f32⟩
  | 9 => ⟨S1x8192x2x32, .f32⟩
  | 10 => ⟨S1x8192x2x32, .f32⟩
  | 11 => ⟨S1x8192x2x32, .f32⟩
  | 12 => ⟨S1x8192x2x64, .f32⟩
  | 13 => ⟨S1x8192x2x32, .f32⟩
  | 14 => ⟨S1x8192x2x32, .f32⟩
  | 15 => ⟨S1x8192x2x32, .f32⟩
  | 16 => ⟨S1x8192x2x32, .f32⟩
  | 17 => ⟨S1x8192x2x32, .f32⟩
  | 18 => ⟨S1x8192x2x32, .f32⟩
  | 19 => ⟨S1x8192x2x32, .f32⟩
  | 20 => ⟨S1x8192x2x32, .f32⟩
  | 21 => ⟨S1x8192x2x32, .f32⟩
  | 22 => ⟨S1x8192x2x32, .f32⟩
  | 23 => ⟨S1x8192x2x32, .f32⟩
  | 24 => ⟨S1x8192x2x32, .f32⟩
  | 25 => ⟨S1x8192x2x32, .f32⟩
  | 26 => ⟨S_, .f32⟩
  | 27 => ⟨S1x8192x2x64, .f32⟩
  | 28 => ⟨S_, .f32⟩
  | 29 => ⟨S1x8192x2x64, .f32⟩
  | 30 => ⟨S1x8192x2x64, .f32⟩
  | 31 => ⟨S8192x512, .f32⟩
  | 32 => ⟨S8192x128, .f32⟩
  | 33 => ⟨S8192x128, .f32⟩
  | 34 => ⟨S8192x512, .f32⟩
  | 35 => ⟨S8192x128, .f32⟩
  | 36 => ⟨S8192x128, .f32⟩
  | 37 => ⟨S8192x1024, .f32⟩
  | 38 => ⟨S8192x1024, .f32⟩
  | 39 => ⟨S8192x3584, .f32⟩
  | 40 => ⟨S8192x3584, .bf16⟩
  | 41 => ⟨S1x128, .f32⟩
  | 42 => ⟨S1x128, .f32⟩
  | 43 => ⟨S_, .f32⟩
  | 44 => ⟨S6x128, .f32⟩
  | 45 => ⟨S8x128, .f32⟩
  | _ => ⟨S1x8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_c : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_0 : Ref sig .tc := ⟨.hbm, 74, rfl⟩
abbrev main_call0_v12 : Ref sig .tc := ⟨.hbm, 75, rfl⟩
abbrev main_call0_v13 : Ref sig .tc := ⟨.hbm, 76, rfl⟩
abbrev main_v40 : Ref sig .tc := ⟨.hbm, 77, rfl⟩
abbrev main_c_7 : Ref sig .tc := ⟨.hbm, 78, rfl⟩
abbrev main_call1_v0 : Ref sig .tc := ⟨.hbm, 79, rfl⟩
abbrev main_call1_c : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_c_1 : Ref sig .tc := ⟨.hbm, 86, rfl⟩
abbrev main_call1_v5 : Ref sig .tc := ⟨.hbm, 87, rfl⟩
abbrev main_call1_v6 : Ref sig .tc := ⟨.hbm, 88, rfl⟩
abbrev main_call1_c_2 : Ref sig .tc := ⟨.hbm, 89, rfl⟩
abbrev main_call1_v7 : Ref sig .tc := ⟨.hbm, 90, rfl⟩
abbrev main_call1_v8 : Ref sig .tc := ⟨.hbm, 91, rfl⟩
abbrev main_call1_c_3 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_v12 : Ref sig .tc := ⟨.hbm, 96, rfl⟩
abbrev main_call1_v13 : Ref sig .tc := ⟨.hbm, 97, rfl⟩
abbrev main_call1_v14 : Ref sig .tc := ⟨.hbm, 98, rfl⟩
abbrev main_v41 : Ref sig .tc := ⟨.hbm, 99, rfl⟩
abbrev main_v42 : Ref sig .tc := ⟨.hbm, 100, rfl⟩
abbrev main_cst_8 : Ref sig .tc := ⟨.hbm, 101, rfl⟩
abbrev main_v43 : Ref sig .tc := ⟨.hbm, 102, rfl⟩
abbrev main_v44 : Ref sig .tc := ⟨.hbm, 103, rfl⟩
abbrev main_cst_9 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_cst_10 : Ref sig .tc := ⟨.hbm, 108, rfl⟩
abbrev main_v48 : Ref sig .tc := ⟨.hbm, 109, rfl⟩
abbrev main_v49 : Ref sig .tc := ⟨.hbm, 110, rfl⟩
abbrev main_cst_11 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_cst_12 : Ref sig .tc := ⟨.hbm, 123, rfl⟩
abbrev main_v61 : Ref sig .tc := ⟨.hbm, 124, rfl⟩
abbrev main_v62 : Ref sig .tc := ⟨.hbm, 125, rfl⟩
abbrev main_cst_13 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_14 : Ref sig .tc := ⟨.hbm, 130, rfl⟩
abbrev main_v66 : Ref sig .tc := ⟨.hbm, 131, rfl⟩
abbrev main_v67 : Ref sig .tc := ⟨.hbm, 132, rfl⟩
abbrev main_cst_15 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_cst_16 : Ref sig .tc := ⟨.hbm, 177, rfl⟩
abbrev main_v111 : Ref sig .tc := ⟨.hbm, 178, rfl⟩
abbrev main_v112 : Ref sig .tc := ⟨.hbm, 179, rfl⟩
abbrev main_cst_17 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_cst_18 : Ref sig .tc := ⟨.hbm, 198, rfl⟩
abbrev main_v130 : Ref sig .tc := ⟨.hbm, 199, rfl⟩
abbrev main_cst_19 : Ref sig .tc := ⟨.hbm, 200, rfl⟩
abbrev main_v131 : Ref sig .tc := ⟨.hbm, 201, rfl⟩
abbrev main_v132 : Ref sig .tc := ⟨.hbm, 202, rfl⟩
abbrev main_cst_20 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_cst_21 : Ref sig .tc := ⟨.hbm, 218, rfl⟩
abbrev main_v147 : Ref sig .tc := ⟨.hbm, 219, rfl⟩
abbrev main_cst_22 : Ref sig .tc := ⟨.hbm, 220, rfl⟩
abbrev main_v148 : Ref sig .tc := ⟨.hbm, 221, rfl⟩
abbrev main_v149 : Ref sig .tc := ⟨.hbm, 222, rfl⟩
abbrev main_cst_23 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_cst_24 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_cst_25 : Ref sig .tc := ⟨.hbm, 233, rfl⟩
abbrev main_v158 : Ref sig .tc := ⟨.hbm, 234, rfl⟩
abbrev main_v159 : Ref sig .tc := ⟨.hbm, 235, rfl⟩
abbrev main_cst_26 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_cst_27 : Ref sig .tc := ⟨.hbm, 242, rfl⟩
abbrev main_v165 : Ref sig .tc := ⟨.hbm, 243, rfl⟩
abbrev main_v166 : Ref sig .tc := ⟨.hbm, 244, rfl⟩
abbrev main_cst_28 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_cst_29 : Ref sig .tc := ⟨.hbm, 259, rfl⟩
abbrev main_v180 : Ref sig .tc := ⟨.hbm, 260, rfl⟩
abbrev main_v181 : Ref sig .tc := ⟨.hbm, 261, rfl⟩
abbrev main_cst_30 : Ref sig .tc := ⟨.hbm, 262, rfl⟩
abbrev main_v182 : Ref sig .tc := ⟨.hbm, 263, rfl⟩
abbrev main_v183 : Ref sig .tc := ⟨.hbm, 264, rfl⟩
abbrev main_cst_31 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_cst_32 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_c_33 : Ref sig .tc := ⟨.hbm, 279, rfl⟩
abbrev main_call2_v0 : Ref sig .tc := ⟨.hbm, 280, rfl⟩
abbrev main_call2_v1 : Ref sig .tc := ⟨.hbm, 281, rfl⟩
abbrev main_call2_v2 : Ref sig .tc := ⟨.hbm, 282, rfl⟩
abbrev main_call2_v3 : Ref sig .tc := ⟨.hbm, 283, rfl⟩
abbrev main_call2_v4 : Ref sig .tc := ⟨.hbm, 284, rfl⟩
abbrev main_call2_v5 : Ref sig .tc := ⟨.hbm, 285, rfl⟩
abbrev main_call2_v6 : Ref sig .tc := ⟨.hbm, 286, rfl⟩
abbrev main_call2_v7 : Ref sig .tc := ⟨.hbm, 287, rfl⟩
abbrev main_call2_v8 : Ref sig .tc := ⟨.hbm, 288, rfl⟩
abbrev main_call2_c : Ref sig .tc := ⟨.hbm, 289, rfl⟩
abbrev main_call2_v9 : Ref sig .tc := ⟨.hbm, 290, rfl⟩
abbrev main_call2_v10 : Ref sig .tc := ⟨.hbm, 291, rfl⟩
abbrev main_call2_v11 : Ref sig .tc := ⟨.hbm, 292, rfl⟩
abbrev main_call2_c_0 : Ref sig .tc := ⟨.hbm, 293, rfl⟩
abbrev main_call2_v12 : Ref sig .tc := ⟨.hbm, 294, rfl⟩
abbrev main_call2_v13 : Ref sig .tc := ⟨.hbm, 295, rfl⟩
abbrev main_v196 : Ref sig .tc := ⟨.hbm, 296, rfl⟩
abbrev main_c_34 : Ref sig .tc := ⟨.hbm, 297, rfl⟩
abbrev main_call3_v0 : Ref sig .tc := ⟨.hbm, 298, rfl⟩
abbrev main_call3_c : Ref sig .tc := ⟨.hbm, 299, rfl⟩
abbrev main_call3_v1 : Ref sig .tc := ⟨.hbm, 300, rfl⟩
abbrev main_call3_c_0 : Ref sig .tc := ⟨.hbm, 301, rfl⟩
abbrev main_call3_v2 : Ref sig .tc := ⟨.hbm, 302, rfl⟩
abbrev main_call3_v3 : Ref sig .tc := ⟨.hbm, 303, rfl⟩
abbrev main_call3_v4 : Ref sig .tc := ⟨.hbm, 304, rfl⟩
abbrev main_call3_c_1 : Ref sig .tc := ⟨.hbm, 305, rfl⟩
abbrev main_call3_v5 : Ref sig .tc := ⟨.hbm, 306, rfl⟩
abbrev main_call3_v6 : Ref sig .tc := ⟨.hbm, 307, rfl⟩
abbrev main_call3_c_2 : Ref sig .tc := ⟨.hbm, 308, rfl⟩
abbrev main_call3_v7 : Ref sig .tc := ⟨.hbm, 309, rfl⟩
abbrev main_call3_v8 : Ref sig .tc := ⟨.hbm, 310, rfl⟩
abbrev main_call3_c_3 : Ref sig .tc := ⟨.hbm, 311, rfl⟩
abbrev main_call3_v9 : Ref sig .tc := ⟨.hbm, 312, rfl⟩
abbrev main_call3_v10 : Ref sig .tc := ⟨.hbm, 313, rfl⟩
abbrev main_call3_v11 : Ref sig .tc := ⟨.hbm, 314, rfl⟩
abbrev main_call3_v12 : Ref sig .tc := ⟨.hbm, 315, rfl⟩
abbrev main_call3_v13 : Ref sig .tc := ⟨.hbm, 316, rfl⟩
abbrev main_call3_v14 : Ref sig .tc := ⟨.hbm, 317, rfl⟩
abbrev main_v197 : Ref sig .tc := ⟨.hbm, 318, rfl⟩
abbrev main_v198 : Ref sig .tc := ⟨.hbm, 319, rfl⟩
abbrev main_cst_35 : Ref sig .tc := ⟨.hbm, 320, rfl⟩
abbrev main_v199 : Ref sig .tc := ⟨.hbm, 321, rfl⟩
abbrev main_v200 : Ref sig .tc := ⟨.hbm, 322, rfl⟩
abbrev main_cst_36 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_cst_37 : Ref sig .tc := ⟨.hbm, 327, rfl⟩
abbrev main_v204 : Ref sig .tc := ⟨.hbm, 328, rfl⟩
abbrev main_v205 : Ref sig .tc := ⟨.hbm, 329, rfl⟩
abbrev main_cst_38 : Ref sig .tc := ⟨.hbm, 330, rfl⟩
abbrev main_v206 : Ref sig .tc := ⟨.hbm, 331, rfl⟩
abbrev main_v207 : Ref sig .tc := ⟨.hbm, 332, rfl⟩
abbrev main_v208 : Ref sig .tc := ⟨.hbm, 333, rfl⟩
abbrev main_v209 : Ref sig .tc := ⟨.hbm, 334, rfl⟩
abbrev main_v210 : Ref sig .tc := ⟨.hbm, 335, rfl⟩
abbrev main_v211 : Ref sig .tc := ⟨.hbm, 336, rfl⟩
abbrev main_v212 : Ref sig .tc := ⟨.hbm, 337, rfl⟩
abbrev main_v213 : Ref sig .tc := ⟨.hbm, 338, rfl⟩
abbrev main_v214 : Ref sig .tc := ⟨.hbm, 339, rfl⟩
abbrev main_v215 : Ref sig .tc := ⟨.hbm, 340, rfl⟩
abbrev main_v216 : Ref sig .tc := ⟨.hbm, 341, rfl⟩
abbrev main_cst_39 : Ref sig .tc := ⟨.hbm, 342, rfl⟩
abbrev main_v217 : Ref sig .tc := ⟨.hbm, 343, rfl⟩
abbrev main_v218 : Ref sig .tc := ⟨.hbm, 344, rfl⟩
abbrev main_cst_40 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩
abbrev main_cst_41 : Ref sig .tc := ⟨.hbm, 349, rfl⟩
abbrev main_v222 : Ref sig .tc := ⟨.hbm, 350, rfl⟩
abbrev main_v223 : Ref sig .tc := ⟨.hbm, 351, rfl⟩
abbrev main_cst_42 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_v228 : Ref sig .tc := ⟨.hbm, 357, rfl⟩
abbrev main_v229 : Ref sig .tc := ⟨.hbm, 358, rfl⟩
abbrev main_v230 : Ref sig .tc := ⟨.hbm, 359, rfl⟩
abbrev main_v231 : Ref sig .tc := ⟨.hbm, 360, rfl⟩
abbrev main_v232 : Ref sig .tc := ⟨.hbm, 361, rfl⟩
abbrev main_v233 : Ref sig .tc := ⟨.hbm, 362, rfl⟩
abbrev main_v234 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_v238 : Ref sig .tc := ⟨.hbm, 367, rfl⟩
abbrev main_v239 : Ref sig .tc := ⟨.hbm, 368, rfl⟩
abbrev main_v240 : Ref sig .tc := ⟨.hbm, 369, rfl⟩
abbrev main_v241 : Ref sig .tc := ⟨.hbm, 370, rfl⟩
abbrev main_v242 : Ref sig .tc := ⟨.hbm, 371, rfl⟩
abbrev main_v243 : Ref sig .tc := ⟨.hbm, 372, rfl⟩
abbrev main_v244 : Ref sig .tc := ⟨.hbm, 373, rfl⟩
abbrev main_v245 : Ref sig .tc := ⟨.hbm, 374, rfl⟩
abbrev main_v246 : Ref sig .tc := ⟨.hbm, 375, rfl⟩
abbrev main_v247 : Ref sig .tc := ⟨.hbm, 376, rfl⟩
abbrev main_v248 : Ref sig .tc := ⟨.hbm, 377, rfl⟩
abbrev main_v249 : Ref sig .tc := ⟨.hbm, 378, rfl⟩
abbrev main_v250 : Ref sig .tc := ⟨.hbm, 379, rfl⟩
abbrev main_v251 : Ref sig .tc := ⟨.hbm, 380, rfl⟩
abbrev main_v252 : Ref sig .tc := ⟨.hbm, 381, rfl⟩
abbrev main_v253 : Ref sig .tc := ⟨.hbm, 382, rfl⟩
abbrev main_v254 : Ref sig .tc := ⟨.hbm, 383, rfl⟩
abbrev main_v255 : Ref sig .tc := ⟨.hbm, 384, rfl⟩
abbrev main_v256 : Ref sig .tc := ⟨.hbm, 385, rfl⟩
abbrev main_v257 : Ref sig .tc := ⟨.hbm, 386, rfl⟩
abbrev main_v258 : Ref sig .tc := ⟨.hbm, 387, rfl⟩
abbrev main_v259 : Ref sig .tc := ⟨.hbm, 388, rfl⟩
abbrev main_v260 : Ref sig .tc := ⟨.hbm, 389, rfl⟩
abbrev main_v261 : Ref sig .tc := ⟨.hbm, 390, rfl⟩
abbrev main_v262 : Ref sig .tc := ⟨.hbm, 391, rfl⟩
abbrev main_v263 : Ref sig .tc := ⟨.hbm, 392, rfl⟩
abbrev main_v264 : Ref sig .tc := ⟨.hbm, 393, rfl⟩
abbrev main_v265 : Ref sig .tc := ⟨.hbm, 394, rfl⟩
abbrev main_v266 : Ref sig .tc := ⟨.hbm, 395, rfl⟩
abbrev main_v267 : Ref sig .tc := ⟨.hbm, 396, rfl⟩
abbrev main_v268 : Ref sig .tc := ⟨.hbm, 397, rfl⟩
abbrev main_v269 : Ref sig .tc := ⟨.hbm, 398, rfl⟩
abbrev main_v270 : Ref sig .tc := ⟨.hbm, 399, rfl⟩
abbrev main_v271 : Ref sig .tc := ⟨.hbm, 400, rfl⟩
abbrev main_v272 : Ref sig .tc := ⟨.hbm, 401, rfl⟩
abbrev main_v273 : Ref sig .tc := ⟨.hbm, 402, rfl⟩
abbrev main_v274 : Ref sig .tc := ⟨.hbm, 403, rfl⟩
abbrev main_v275 : Ref sig .tc := ⟨.hbm, 404, rfl⟩
abbrev main_v276 : Ref sig .tc := ⟨.hbm, 405, rfl⟩
abbrev main_v277 : Ref sig .tc := ⟨.hbm, 406, rfl⟩
abbrev main_v278 : Ref sig .tc := ⟨.hbm, 407, rfl⟩
abbrev main_v279 : Ref sig .tc := ⟨.hbm, 408, rfl⟩
abbrev main_v280 : Ref sig .tc := ⟨.hbm, 409, rfl⟩
abbrev main_v281 : Ref sig .tc := ⟨.hbm, 410, rfl⟩
abbrev main_cst_43 : Ref sig .tc := ⟨.hbm, 411, rfl⟩
abbrev main_v282 : Ref sig .tc := ⟨.hbm, 412, rfl⟩
abbrev main_cst_44 : Ref sig .tc := ⟨.hbm, 413, rfl⟩
abbrev main_v283 : Ref sig .tc := ⟨.hbm, 414, rfl⟩
abbrev main_v284 : Ref sig .tc := ⟨.hbm, 415, rfl⟩
abbrev main_cst_45 : Ref sig .tc := ⟨.hbm, 416, rfl⟩
abbrev main_v285 : Ref sig .tc := ⟨.hbm, 417, rfl⟩
abbrev main_v286 : Ref sig .tc := ⟨.hbm, 418, rfl⟩
abbrev main_v287 : Ref sig .tc := ⟨.hbm, 419, rfl⟩
abbrev main_v288 : Ref sig .tc := ⟨.hbm, 420, rfl⟩
abbrev main_v289 : Ref sig .tc := ⟨.hbm, 421, rfl⟩
abbrev main_v290 : Ref sig .tc := ⟨.hbm, 422, rfl⟩
abbrev main_v291 : Ref sig .tc := ⟨.hbm, 423, rfl⟩
abbrev main_v292 : Ref sig .tc := ⟨.hbm, 424, rfl⟩
abbrev main_v293 : Ref sig .tc := ⟨.hbm, 425, rfl⟩
abbrev main_v294 : Ref sig .tc := ⟨.hbm, 426, rfl⟩
abbrev main_v295 : Ref sig .tc := ⟨.hbm, 427, rfl⟩
abbrev main_v296 : Ref sig .tc := ⟨.hbm, 428, rfl⟩
abbrev main_v297 : Ref sig .tc := ⟨.hbm, 429, rfl⟩
abbrev main_v298 : Ref sig .tc := ⟨.hbm, 430, rfl⟩
abbrev main_cst_46 : Ref sig .tc := ⟨.hbm, 431, rfl⟩
abbrev main_v299 : Ref sig .tc := ⟨.hbm, 432, rfl⟩
abbrev main_cst_47 : Ref sig .tc := ⟨.hbm, 433, rfl⟩
abbrev main_v300 : Ref sig .tc := ⟨.hbm, 434, rfl⟩
abbrev main_v301 : Ref sig .tc := ⟨.hbm, 435, rfl⟩
abbrev main_cst_48 : Ref sig .tc := ⟨.hbm, 436, rfl⟩
abbrev main_v302 : Ref sig .tc := ⟨.hbm, 437, rfl⟩
abbrev main_v303 : Ref sig .tc := ⟨.hbm, 438, rfl⟩
abbrev main_v304 : Ref sig .tc := ⟨.hbm, 439, rfl⟩
abbrev main_v305 : Ref sig .tc := ⟨.hbm, 440, rfl⟩
abbrev main_cst_49 : Ref sig .tc := ⟨.hbm, 441, rfl⟩
abbrev main_v306 : Ref sig .tc := ⟨.hbm, 442, rfl⟩
abbrev main_v307 : Ref sig .tc := ⟨.hbm, 443, rfl⟩
abbrev main_v308 : Ref sig .tc := ⟨.hbm, 444, rfl⟩
abbrev main_v309 : Ref sig .tc := ⟨.hbm, 445, rfl⟩
abbrev main_cst_50 : Ref sig .tc := ⟨.hbm, 446, rfl⟩
abbrev main_v310 : Ref sig .tc := ⟨.hbm, 447, rfl⟩
abbrev main_v311 : Ref sig .tc := ⟨.hbm, 448, rfl⟩
abbrev main_cst_51 : Ref sig .tc := ⟨.hbm, 449, rfl⟩
abbrev main_v312 : Ref sig .tc := ⟨.hbm, 450, rfl⟩
abbrev main_v313 : Ref sig .tc := ⟨.hbm, 451, rfl⟩
abbrev main_v314 : Ref sig .tc := ⟨.hbm, 452, rfl⟩
abbrev main_v315 : Ref sig .tc := ⟨.hbm, 453, rfl⟩
abbrev main_v316 : Ref sig .tc := ⟨.hbm, 454, rfl⟩
abbrev main_cst_52 : Ref sig .tc := ⟨.hbm, 455, rfl⟩
abbrev main_v317 : Ref sig .tc := ⟨.hbm, 456, rfl⟩
abbrev main_v318 : Ref sig .tc := ⟨.hbm, 457, rfl⟩
abbrev main_cst_53 : Ref sig .tc := ⟨.hbm, 458, rfl⟩
abbrev main_v319 : Ref sig .tc := ⟨.hbm, 459, rfl⟩
abbrev main_v320 : Ref sig .tc := ⟨.hbm, 460, rfl⟩
abbrev main_v321 : Ref sig .tc := ⟨.hbm, 461, rfl⟩
abbrev main_v322 : Ref sig .tc := ⟨.hbm, 462, rfl⟩
abbrev main_v323 : Ref sig .tc := ⟨.hbm, 463, rfl⟩
abbrev main_v324 : Ref sig .tc := ⟨.hbm, 464, rfl⟩
abbrev main_v325 : Ref sig .tc := ⟨.hbm, 465, rfl⟩
abbrev main_v326 : Ref sig .tc := ⟨.hbm, 466, rfl⟩
abbrev main_cst_54 : Ref sig .tc := ⟨.hbm, 467, rfl⟩
abbrev main_v327 : Ref sig .tc := ⟨.hbm, 468, rfl⟩
abbrev main_v328 : Ref sig .tc := ⟨.hbm, 469, rfl⟩
abbrev main_v329 : Ref sig .tc := ⟨.hbm, 470, rfl⟩
abbrev main_v330 : Ref sig .tc := ⟨.hbm, 471, rfl⟩
abbrev main_v331 : Ref sig .tc := ⟨.hbm, 472, rfl⟩
abbrev main_v332 : Ref sig .tc := ⟨.hbm, 473, rfl⟩
abbrev main_v333 : Ref sig .tc := ⟨.hbm, 474, rfl⟩
abbrev main_v334 : Ref sig .tc := ⟨.hbm, 475, rfl⟩
abbrev main_v335 : Ref sig .tc := ⟨.hbm, 476, rfl⟩
abbrev main_v336 : Ref sig .tc := ⟨.hbm, 477, rfl⟩
abbrev main_v337 : Ref sig .tc := ⟨.hbm, 478, rfl⟩
abbrev main_v338 : Ref sig .tc := ⟨.hbm, 479, rfl⟩
abbrev main_v339 : Ref sig .tc := ⟨.hbm, 480, rfl⟩
abbrev main_v340 : Ref sig .tc := ⟨.hbm, 481, rfl⟩
abbrev main_v341 : Ref sig .tc := ⟨.hbm, 482, rfl⟩
abbrev main_v342 : Ref sig .tc := ⟨.hbm, 483, rfl⟩
abbrev main_cst_55 : Ref sig .tc := ⟨.hbm, 484, rfl⟩
abbrev main_v343 : Ref sig .tc := ⟨.hbm, 485, rfl⟩
abbrev main_v344 : Ref sig .tc := ⟨.hbm, 486, rfl⟩
abbrev main_cst_56 : Ref sig .tc := ⟨.hbm, 487, rfl⟩
abbrev main_v345 : Ref sig .tc := ⟨.hbm, 488, rfl⟩
abbrev main_v346 : Ref sig .tc := ⟨.hbm, 489, rfl⟩
abbrev main_v347 : Ref sig .tc := ⟨.hbm, 490, rfl⟩
abbrev main_v348 : Ref sig .tc := ⟨.hbm, 491, rfl⟩
abbrev main_v349 : Ref sig .tc := ⟨.hbm, 492, rfl⟩
abbrev main_v350 : Ref sig .tc := ⟨.hbm, 493, rfl⟩
abbrev main_v351 : Ref sig .tc := ⟨.hbm, 494, rfl⟩
abbrev main_v352 : Ref sig .tc := ⟨.hbm, 495, rfl⟩
abbrev main_v353 : Ref sig .tc := ⟨.hbm, 496, rfl⟩
abbrev main_v354 : Ref sig .tc := ⟨.hbm, 497, rfl⟩
abbrev main_v355 : Ref sig .tc := ⟨.hbm, 498, rfl⟩
abbrev main_v356 : Ref sig .tc := ⟨.hbm, 499, rfl⟩
abbrev main_v357 : Ref sig .tc := ⟨.hbm, 500, rfl⟩
abbrev main_v358 : Ref sig .tc := ⟨.hbm, 501, rfl⟩
abbrev main_v359 : Ref sig .tc := ⟨.hbm, 502, rfl⟩
abbrev main_cst_57 : Ref sig .tc := ⟨.hbm, 503, rfl⟩
abbrev main_v360 : Ref sig .tc := ⟨.hbm, 504, rfl⟩
abbrev main_cst_58 : Ref sig .tc := ⟨.hbm, 505, rfl⟩
abbrev main_v361 : Ref sig .tc := ⟨.hbm, 506, rfl⟩
abbrev main_v362 : Ref sig .tc := ⟨.hbm, 507, rfl⟩
abbrev main_cst_59 : Ref sig .tc := ⟨.hbm, 508, rfl⟩
abbrev main_v363 : Ref sig .tc := ⟨.hbm, 509, rfl⟩
abbrev main_v364 : Ref sig .tc := ⟨.hbm, 510, rfl⟩
abbrev main_v365 : Ref sig .tc := ⟨.hbm, 511, rfl⟩
abbrev main_v366 : Ref sig .tc := ⟨.hbm, 512, rfl⟩
abbrev main_v367 : Ref sig .tc := ⟨.hbm, 513, rfl⟩
abbrev main_v368 : Ref sig .tc := ⟨.hbm, 514, rfl⟩
abbrev main_v369 : Ref sig .tc := ⟨.hbm, 515, rfl⟩
abbrev main_v370 : Ref sig .tc := ⟨.hbm, 516, rfl⟩
abbrev main_v371 : Ref sig .tc := ⟨.hbm, 517, rfl⟩
abbrev main_v372 : Ref sig .tc := ⟨.hbm, 518, rfl⟩
abbrev main_v373 : Ref sig .tc := ⟨.hbm, 519, rfl⟩
abbrev main_v374 : Ref sig .tc := ⟨.hbm, 520, rfl⟩
abbrev main_v375 : Ref sig .tc := ⟨.hbm, 521, rfl⟩
abbrev main_v376 : Ref sig .tc := ⟨.hbm, 522, rfl⟩
abbrev main_v377 : Ref sig .tc := ⟨.hbm, 523, rfl⟩
abbrev main_v378 : Ref sig .tc := ⟨.hbm, 524, rfl⟩
abbrev main_v379 : Ref sig .tc := ⟨.hbm, 525, rfl⟩
abbrev main_v380 : Ref sig .tc := ⟨.hbm, 526, rfl⟩
abbrev main_v381 : Ref sig .tc := ⟨.hbm, 527, rfl⟩
abbrev main_v382 : Ref sig .tc := ⟨.hbm, 528, rfl⟩
abbrev main_v383 : Ref sig .tc := ⟨.hbm, 529, rfl⟩
abbrev main_v384 : Ref sig .tc := ⟨.hbm, 530, rfl⟩
abbrev main_v385 : Ref sig .tc := ⟨.hbm, 531, rfl⟩
abbrev main_v386 : Ref sig .tc := ⟨.hbm, 532, rfl⟩
abbrev main_v387 : Ref sig .tc := ⟨.hbm, 533, rfl⟩
abbrev main_v388 : Ref sig .tc := ⟨.hbm, 534, rfl⟩
abbrev main_v389 : Ref sig .tc := ⟨.hbm, 535, rfl⟩
abbrev main_v390 : Ref sig .tc := ⟨.hbm, 536, rfl⟩
abbrev main_v391 : Ref sig .tc := ⟨.hbm, 537, rfl⟩
abbrev main_cst_60 : Ref sig .tc := ⟨.hbm, 538, rfl⟩
abbrev main_v392 : Ref sig .tc := ⟨.hbm, 539, rfl⟩
abbrev main_cst_61 : Ref sig .tc := ⟨.hbm, 540, rfl⟩
abbrev main_v393 : Ref sig .tc := ⟨.hbm, 541, rfl⟩
abbrev main_v394 : Ref sig .tc := ⟨.hbm, 542, rfl⟩
abbrev main_v395 : Ref sig .tc := ⟨.hbm, 543, rfl⟩
abbrev main_v396 : Ref sig .tc := ⟨.hbm, 544, rfl⟩
abbrev main_v397 : Ref sig .tc := ⟨.hbm, 545, rfl⟩
abbrev main_v398 : Ref sig .tc := ⟨.hbm, 546, rfl⟩
abbrev main_v399 : Ref sig .tc := ⟨.hbm, 547, rfl⟩
abbrev main_v400 : Ref sig .tc := ⟨.hbm, 548, rfl⟩
abbrev main_v401 : Ref sig .tc := ⟨.hbm, 549, rfl⟩
abbrev main_v402 : Ref sig .tc := ⟨.hbm, 550, rfl⟩
abbrev main_v403 : Ref sig .tc := ⟨.hbm, 551, rfl⟩
abbrev main_v404 : Ref sig .tc := ⟨.hbm, 552, rfl⟩
abbrev main_v405 : Ref sig .tc := ⟨.hbm, 553, rfl⟩
abbrev main_v406 : Ref sig .tc := ⟨.hbm, 554, rfl⟩
abbrev main_cst_62 : Ref sig .tc := ⟨.hbm, 555, rfl⟩
abbrev main_v407 : Ref sig .tc := ⟨.hbm, 556, rfl⟩
abbrev main_v408 : Ref sig .tc := ⟨.hbm, 557, rfl⟩

abbrev nD : Nat := 1
abbrev τ : Topo := Topo.v7x

variable {F : FTy → Type} [FloatOps F]
-- ==== Kernel8.lean ====
abbrev S1x8192x512 : Shape := ⟨3, ![1, 8192, 512]⟩
abbrev S1x8192x1024 : Shape := ⟨3, ![1, 8192, 1024]⟩
abbrev S1x6144 : Shape := ⟨2, ![1, 6144]⟩
abbrev S1x2x512x1024 : Shape := ⟨4, ![1, 2, 512, 1024]⟩
abbrev S1x1024x1024 : Shape := ⟨3, ![1, 1024, 1024]⟩
abbrev S8192x1024 : Shape := ⟨2, ![8192, 1024]⟩
abbrev S8192x2048 : Shape := ⟨2, ![8192, 2048]⟩
abbrev S2x512x1024 : Shape := ⟨3, ![2, 512, 1024]⟩
abbrev S2x512x4x256 : Shape := ⟨4, ![2, 512, 4, 256]⟩
abbrev S4x2x512x256 : Shape := ⟨4, ![4, 2, 512, 256]⟩
abbrev S8192x512 : Shape := ⟨2, ![8192, 512]⟩
abbrev S6x1024 : Shape := ⟨2, ![6, 1024]⟩
abbrev S1024x1024 : Shape := ⟨2, ![1024, 1024]⟩
abbrev S512x512 : Shape := ⟨2, ![512, 512]⟩
abbrev S512x2048 : Shape := ⟨2, ![512, 2048]⟩
abbrev S512x1024 : Shape := ⟨2, ![512, 1024]⟩
abbrev S1x1x512x256 : Shape := ⟨4, ![1, 1, 512, 256]⟩
abbrev S512x256 : Shape := ⟨2, ![512, 256]⟩
abbrev S1x1024 : Shape := ⟨2, ![1, 1024]⟩

abbrev nBuf : Space → Nat
  | .hbm => 29
  | .vmem => 21
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S1x6144, .f32⟩
  | .hbm, ⟨6, _⟩ => ⟨S1x2x512x1024, .f32⟩
  | .hbm, ⟨7, _⟩ => ⟨S1x1024x1024, .f32⟩
  | .hbm, ⟨8, _⟩ => ⟨S8192x1024, .f32⟩
  | .hbm, ⟨9, _⟩ => ⟨S8192x1024, .f32⟩
  | .hbm, ⟨10, _⟩ => ⟨S8192x2048, .f32⟩
  | .hbm, ⟨11, _⟩ => ⟨S8192x2048, .bf16⟩
  | .hbm, ⟨12, _⟩ => ⟨S2x512x1024, .f32⟩
  | .hbm, ⟨13, _⟩ => ⟨S2x512x4x256, .f32⟩
  | .hbm, ⟨14, _⟩ => ⟨S4x2x512x256, .f32⟩
  | .hbm, ⟨15, _⟩ => ⟨S4x2x512x256, .bf16⟩
  | .hbm, ⟨16, _⟩ => ⟨S8192x512, .f32⟩
  | .hbm, ⟨17, _⟩ => ⟨S8192x512, .bf16⟩
  | .hbm, ⟨18, _⟩ => ⟨S8192x512, .f32⟩
  | .hbm, ⟨19, _⟩ => ⟨S8192x512, .bf16⟩
  | .hbm, ⟨20, _⟩ => ⟨S8192x1024, .f32⟩
  | .hbm, ⟨21, _⟩ => ⟨S6x1024, .f32⟩
  | .hbm, ⟨22, _⟩ => ⟨S1024x1024, .f32⟩
  | .hbm, ⟨23, _⟩ => ⟨S1024x1024, .bf16⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S8192x1024, .bf16⟩
  | .hbm, ⟨28, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S6x1024, .f32⟩
  | .local _ .vmem, ⟨9, _⟩ => ⟨S4x2x512x256, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x2x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S1x8192x512 : Shape := ⟨3, ![1, 8192, 512]⟩
abbrev S1x8192x1024 : Shape := ⟨3, ![1, 8192, 1024]⟩
abbrev S1x6144 : Shape := ⟨2, ![1, 6144]⟩
abbrev S1x2x512x1024 : Shape := ⟨4, ![1, 2, 512, 1024]⟩
abbrev S1x1024x1024 : Shape := ⟨3, ![1, 1024, 1024]⟩
abbrev S1x1024 : Shape := ⟨2, ![1, 1024]⟩
abbrev S1x1x512x1024 : Shape := ⟨4, ![1, 1, 512, 1024]⟩
abbrev S512x1024 : Shape := ⟨2, ![512, 1024]⟩
abbrev S_ : Shape := ⟨0, ![]⟩
abbrev S1024x1024 : Shape := ⟨2, ![1024, 1024]⟩
abbrev S1x1x1024 : Shape := ⟨3, ![1, 1, 1024]⟩
abbrev S8192x1024 : Shape := ⟨2, ![8192, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S1x6144, .f32⟩
  | .hbm, ⟨6, _⟩ => ⟨S1x2x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1x512x1024, .f32⟩
  | .hbm, ⟨15, _⟩ => ⟨S512x1024, .f32⟩
  | .hbm, ⟨16, _⟩ => ⟨S1x8192x1024, .f32⟩
  | .hbm, ⟨17, _⟩ => ⟨S1x1x512x1024, .f32⟩
  | .hbm, ⟨18, _⟩ => ⟨S512x1024, .f32⟩
  | .hbm, ⟨19, _⟩ => ⟨S1x8192x1024, .f32⟩
  | .hbm, ⟨20, _⟩ => ⟨S1x8192x1024, .f32⟩
  | .hbm, ⟨21, _⟩ => ⟨S1x8192x1024, .f32⟩
  | .hbm, ⟨22, _⟩ => ⟨S_, .f32⟩
  | .hbm, ⟨23, _⟩ => ⟨S1x8192x1024, .f32⟩
  | .hbm, ⟨24, _⟩ => ⟨S1x8192x1024, .f32⟩
  | .hbm, ⟨25, _⟩ => ⟨S_, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S1x8192x1024, .f32⟩
  | .hbm, ⟨31, _⟩ => ⟨S_, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1x8192x1024, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S1024x1024, .f32⟩
  | .hbm, ⟨40, _⟩ => ⟨S1x8192x1024, .f32⟩
  | .hbm, ⟨41, _⟩ => ⟨S1x1x1024, .f32⟩
  | .hbm, ⟨42, _⟩ => ⟨S1x8192x1024, .f32⟩
  | .hbm, ⟨43, _⟩ => ⟨S1x8192x1024, .f32⟩
  | .hbm, ⟨44, _⟩ => ⟨S1x8192x1024, .f32⟩
  | .hbm, ⟨45, _⟩ => ⟨S8192x1024, .f32⟩
  | .hbm, ⟨46, _⟩ => ⟨S8192x1024, .bf16⟩
  | .hbm, ⟨47, _⟩ => ⟨S8192x1024, .f32⟩
  | .hbm, ⟨48, _⟩ => ⟨S8192x1024, .bf16⟩
  | .hbm, ⟨49, _⟩ => ⟨S8192x1024, .f32⟩
  | .hbm, ⟨50, _⟩ => ⟨S8192x1024, .bf16⟩
  | .hbm, ⟨51, _⟩ => ⟨S8192x1024, .f32⟩
  | .hbm, ⟨52, _⟩ => ⟨S8192x1024, .bf16⟩
  | .hbm, ⟨53, _⟩ => ⟨S8192x1024, .f32⟩
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel9.lean ====
abbrev S1x8192x1024 : Shape := ⟨3, ![1, 8192, 1024]⟩
abbrev S1x6144 : Shape := ⟨2, ![1, 6144]⟩
abbrev S1x1024 : Shape := ⟨2, ![1, 1024]⟩
abbrev S1x1024x4096 : Shape := ⟨3, ![1, 1024, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8192x1024 : Shape := ⟨2, ![8192, 1024]⟩
abbrev S6x1024 : Shape := ⟨2, ![6, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024x4096, .f32⟩
  | .hbm, ⟨4, _⟩ => ⟨S1024x4096, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S8192x1024, .f32⟩
  | .hbm, ⟨9, _⟩ => ⟨S6x1024, .f32⟩
  | .hbm, ⟨10, _⟩ => ⟨S8192x1024, .bf16⟩
  | .hbm, ⟨11, _⟩ => ⟨S8192x4096, .bf16⟩
  | .hbm, ⟨12, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024, .f32⟩
  | .local _ .vmem, ⟨4, _⟩ => ⟨S4x1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S1x8192x1024 : Shape := ⟨3, ![1, 8192, 1024]⟩
abbrev S1x6144 : Shape := ⟨2, ![1, 6144]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x4096 : Shape := ⟨2, ![1024, 4096]⟩
abbrev S1x8192x4096 : Shape := ⟨3, ![1, 8192, 4096]⟩
abbrev S8192x1024 : Shape := ⟨2, ![8192, 1024]⟩
abbrev S8192x4096 : Shape := ⟨2, ![8192, 4096]⟩

abbrev nBuf : Space → Nat
  | .hbm => 48
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024x4096, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1x8192x1024, .f32⟩
  | .hbm, ⟨12, _⟩ => ⟨S_, .f32⟩
  | .hbm, ⟨13, _⟩ => ⟨S1x8192, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1, .f32⟩
  | .hbm, ⟨22, _⟩ => ⟨S1x8192x1024, .f32⟩
  | .hbm, ⟨23, _⟩ => ⟨S1x8192x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x1x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S1x1x1024, .f32⟩
  | .hbm, ⟨34, _⟩ => ⟨S1x8192x1024, .f32⟩
  | .hbm, ⟨35, _⟩ => ⟨S1x8192x1024, .f32⟩
  | .hbm, ⟨36, _⟩ => ⟨S1024x4096, .f32⟩
  | .hbm, ⟨37, _⟩ => ⟨S1x8192x4096, .f32⟩
  | .hbm, ⟨38, _⟩ => ⟨S_, .f32⟩
  | .hbm, ⟨39, _⟩ => ⟨S1x8192x4096, .f32⟩
  | .hbm, ⟨40, _⟩ => ⟨S1x8192x4096, .f32⟩
  | .hbm, ⟨41, _⟩ => ⟨S1x8192x4096, .f32⟩
  | .hbm, ⟨42, _⟩ => ⟨S8192x1024, .f32⟩
  | .hbm, ⟨43, _⟩ => ⟨S8192x1024, .bf16⟩
  | .hbm, ⟨44, _⟩ => ⟨S8192x4096, .f32⟩
  | .hbm, ⟨45, _⟩ => ⟨S8192x4096, .bf16⟩
  | .hbm, ⟨46, _⟩ => ⟨S8192x4096, .f32⟩
  | .hbm, ⟨47, _⟩ => ⟨S8192x4096, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_cst : Ref sig .tc := ⟨.hbm, 38, rfl⟩
abbrev main_call0_v0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel10.lean ====
abbrev S1x8192x1024 : Shape := ⟨3, ![1, 8192, 1024]⟩
abbrev S1x6144 : Shape := ⟨2, ![1, 6144]⟩
abbrev S1x1024 : Shape := ⟨2, ![1, 1024]⟩
abbrev S1x1024x3584 : Shape := ⟨3, ![1, 1024, 3584]⟩
abbrev S1x64 : Shape := ⟨2, ![1, 64]⟩
abbrev S1024x3584 : Shape := ⟨2, ![1024, 3584]⟩
abbrev S1024x4x896 : Shape := ⟨3, ![1024, 4, 896]⟩
abbrev S4x1024x896 : Shape := ⟨3, ![4, 1024, 896]⟩
abbrev S1x1x1x64 : Shape := ⟨4, ![1, 1, 1, 64]⟩
abbrev S1x1x2x64 : Shape := ⟨4, ![1, 1, 2, 64]⟩
abbrev S1x128 : Shape := ⟨2, ![1, 128]⟩
abbrev S8192x1024 : Shape := ⟨2, ![8192, 1024]⟩
abbrev S6x1024 : Shape := ⟨2, ![6, 1024]⟩
abbrev S128 : Shape := ⟨1, ![128]⟩
abbrev S128x1 : Shape := ⟨2, ![128, 1]⟩
abbrev S_ : Shape := ⟨0, ![]⟩
abbrev S128x128 : Shape := ⟨2, ![128, 128]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S32 : Shape := ⟨1, ![32]⟩
abbrev S1x32 : Shape := ⟨2, ![1, 32]⟩
abbrev S8192x32 : Shape := ⟨2, ![8192, 32]⟩
abbrev S8192x640 : Shape := ⟨2, ![8192, 640]⟩
abbrev S8x8192x64 : Shape := ⟨3, ![8, 8192, 64]⟩
abbrev S2x8192x64 : Shape := ⟨3, ![2, 8192, 64]⟩
abbrev S2x8192x128 : Shape := ⟨3, ![2, 8192, 128]⟩
abbrev S8192x2048 : Shape := ⟨2, ![8192, 2048]⟩
abbrev S512x1024 : Shape := ⟨2, ![512, 1024]⟩
abbrev S512x128 : Shape := ⟨2, ![512, 128]⟩
abbrev S512x640 : Shape := ⟨2, ![512, 640]⟩
abbrev S8x512x64 : Shape := ⟨3, ![8, 512, 64]⟩
abbrev S2x512x64 : Shape := ⟨3, ![2, 512, 64]⟩
abbrev S2x512x128 : Shape := ⟨3, ![2, 512, 128]⟩
abbrev S512x2048 : Shape := ⟨2, ![512, 2048]⟩
abbrev S512 : Shape := ⟨1, ![512]⟩
abbrev S512x1 : Shape := ⟨2, ![512, 1]⟩
abbrev S1x1024x896 : Shape := ⟨3, ![1, 1024, 896]⟩
abbrev S1024x896 : Shape := ⟨2, ![1024, 896]⟩
abbrev S512x896 : Shape := ⟨2, ![512, 896]⟩
abbrev S512x3584 : Shape := ⟨2, ![512, 3584]⟩
abbrev S512x64 : Shape := ⟨2, ![512, 64]⟩
abbrev S1x512x64 : Shape := ⟨3, ![1, 512, 64]⟩

abbrev nBuf : Space → Nat
  | .hbm => 271
  | .vmem => 38
  | .smem => 0
  | _ => 0

abbrev hbmTy0_0 (i : Nat) : BufTy := match i % 128 with
  | 0 => ⟨S1x8192x1024, .f32⟩
  | 1 => ⟨S1x6144, .f32⟩
  | 2 => ⟨S1x1024, .f32⟩
  | 3 => ⟨S1x1024x3584, .f32⟩
  | 4 => ⟨S1x64, .f32⟩
  | 5 => ⟨S1x64, .f32⟩
  | 6 => ⟨S1024x3584, .f32⟩
  | 7 => ⟨S1024x4x896, .f32⟩
  | 8 => ⟨S4x1024x896, .f32⟩
  | 9 => ⟨S4x1024x896, .bf16⟩
  | 10 => ⟨S1x1x1x64, .f32⟩
  | 11 => ⟨S1x1x2x64, .f32⟩
  | 12 => ⟨S1x128, .f32⟩
  | 13 => ⟨S1x1x1x64, .f32⟩
  | 14 => ⟨S1x1x2x64, .f32⟩
  | 15 => ⟨S1x128, .f32⟩
  | 16 => ⟨S8192x1024, .f32⟩
  | 17 => ⟨S6x1024, .f32⟩
  | 18 => ⟨S128, .i32⟩
  | 19 => ⟨S128x1, .i32⟩
  | 20 => ⟨S_, .i32⟩
  | 21 => ⟨S_, .i32⟩
  | 22 => ⟨S128x1, .i32⟩
  | 23 => ⟨S128x1, .i32⟩
  | 24 => ⟨S128x1, .i32⟩
  | 25 => ⟨S_, .i32⟩
  | 26 => ⟨S128x1, .i32⟩
  | 27 => ⟨S128x1, .i1⟩
  | 28 => ⟨S128x1, .i32⟩
  | 29 => ⟨S128x1, .i32⟩
  | 30 => ⟨S_, .i32⟩
  | 31 => ⟨S128x1, .i32⟩
  | 32 => ⟨S128x1, .i1⟩
  | 33 => ⟨S128x1, .i1⟩
  | 34 => ⟨S_, .i32⟩
  | 35 => ⟨S128x1, .i32⟩
  | 36 => ⟨S128x1, .i32⟩
  | 37 => ⟨S128x1, .i32⟩
  | 38 => ⟨S1x128, .i32⟩
  | 39 => ⟨S_, .i32⟩
  | 40 => ⟨S_, .i32⟩
  | 41 => ⟨S1x128, .i32⟩
  | 42 => ⟨S1x128, .i32⟩
  | 43 => ⟨S1x128, .i32⟩
  | 44 => ⟨S_, .i32⟩
  | 45 => ⟨S1x128, .i32⟩
  | 46 => ⟨S1x128, .i1⟩
  | 47 => ⟨S1x128, .i32⟩
  | 48 => ⟨S1x128, .i32⟩
  | 49 => ⟨S_, .i32⟩
  | 50 => ⟨S1x128, .i32⟩
  | 51 => ⟨S1x128, .i1⟩
  | 52 => ⟨S1x128, .i1⟩
  | 53 => ⟨S_, .i32⟩
  | 54 => ⟨S1x128, .i32⟩
  | 55 => ⟨S1x128, .i32⟩
  | 56 => ⟨S1x128, .i32⟩
  | 57 => ⟨S128x128, .i32⟩
  | 58 => ⟨S128x128, .i32⟩
  | 59 => ⟨S128x128, .i1⟩
  | 60 => ⟨S_, .f32⟩
  | 61 => ⟨S_, .f32⟩
  | 62 => ⟨S128x128, .f32⟩
  | 63 => ⟨S128x128, .f32⟩
  | 64 => ⟨S128x128, .f32⟩
  | 65 => ⟨S128x128, .bf16⟩
  | 66 => ⟨S8192, .i32⟩
  | 67 => ⟨S128, .i32⟩
  | 68 => ⟨S_, .i32⟩
  | 69 => ⟨S_, .i32⟩
  | 70 => ⟨S8192, .i32⟩
  | 71 => ⟨S8192, .i32⟩
  | 72 => ⟨S8192, .i32⟩
  | 73 => ⟨S_, .i32⟩
  | 74 => ⟨S8192, .i32⟩
  | 75 => ⟨S8192, .i1⟩
  | 76 => ⟨S8192, .i32⟩
  | 77 => ⟨S8192, .i32⟩
  | 78 => ⟨S_, .i32⟩
  | 79 => ⟨S8192, .i32⟩
  | 80 => ⟨S8192, .i1⟩
  | 81 => ⟨S8192, .i1⟩
  | 82 => ⟨S_, .i32⟩
  | 83 => ⟨S8192, .i32⟩
  | 84 => ⟨S8192, .i32⟩
  | 85 => ⟨S8192, .i32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S8192, .f32⟩
  | 101 => ⟨S8192x1, .f32⟩
  | 102 => ⟨S1x16, .f32⟩
  | 103 => ⟨S8192x16, .f32⟩
  | 104 => ⟨S8192x16, .f32⟩
  | 105 => ⟨S8192x16, .f32⟩
  | 106 => ⟨S8192x16, .f32⟩
  | 107 => ⟨S8192x16, .f32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S8192, .i32⟩
  | 115 => ⟨S8192, .i32⟩
  | 116 => ⟨S_, .i32⟩
  | 117 => ⟨S8192, .i32⟩
  | 118 => ⟨S8192, .i1⟩
  | 119 => ⟨S_, .i32⟩
  | 120 => ⟨S8192, .i32⟩
  | 121 => ⟨S8192, .i1⟩
  | 122 => ⟨S_, .i32⟩
  | 123 => ⟨S_, .i1⟩
  | 124 => ⟨S8192, .i1⟩
  | 125 => ⟨S8192, .i1⟩
  | 126 => ⟨S8192, .i1⟩
  | 127 => ⟨S8192, .i32⟩
  | _ => ⟨S1x8192x1024, .f32⟩

abbrev hbmTy0_1 (i : Nat) : BufTy := match i % 128 with
  | 0 => ⟨S8192, .i32⟩
  | 1 => ⟨S8192, .i32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S8192, .f32⟩
  | 17 => ⟨S8192x1, .f32⟩
  | 18 => ⟨S1x16, .f32⟩
  | 19 => ⟨S8192x16, .f32⟩
  | 20 => ⟨S8192x16, .f32⟩
  | 21 => ⟨S8192x16, .f32⟩
  | 22 => ⟨S8192x16, .f32⟩
  | 23 => ⟨S8192x16, .f32⟩
  | 24 => ⟨S8192x64, .f32⟩
  | 25 => ⟨S1x8192x1x64, .f32⟩
  | 26 => ⟨S1x8192x2x64, .f32⟩
  | 27 => ⟨S8192x128, .f32⟩
  | 28 => ⟨S8192x64, .f32⟩
  | 29 => ⟨S1x8192x1x64, .f32⟩
  | 30 => ⟨S1x8192x2x64, .f32⟩
  | 31 => ⟨S8192x128, .f32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S128, .i32⟩
  | 39 => ⟨S128, .i32⟩
  | 40 => ⟨S_, .i32⟩
  | 41 => ⟨S128, .i32⟩
  | 42 => ⟨S128, .i1⟩
  | 43 => ⟨S_, .i32⟩
  | 44 => ⟨S128, .i32⟩
  | 45 => ⟨S128, .i1⟩
  | 46 => ⟨S_, .i32⟩
  | 47 => ⟨S_, .i1⟩
  | 48 => ⟨S128, .i1⟩
  | 49 => ⟨S128, .i1⟩
  | 50 => ⟨S128, .i1⟩
  | 51 => ⟨S128, .i32⟩
  | 52 => ⟨S128, .i32⟩
  | 53 => ⟨S128, .i32⟩
  | 54 => ⟨S_, .i32⟩
  | 55 => ⟨S128, .i32⟩
  | 56 => ⟨S128, .i1⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S8192, .f32⟩
  | 72 => ⟨S8192x1, .f32⟩
  | 73 => ⟨S1x32, .f32⟩
  | 74 => ⟨S8192x32, .f32⟩
  | 75 => ⟨S8192x32, .f32⟩
  | 76 => ⟨S8192x32, .f32⟩
  | 77 => ⟨S8192x32, .f32⟩
  | 78 => ⟨S8192x32, .f32⟩
  | 79 => ⟨S8192x64, .f32⟩
  | 80 => ⟨S1x8192x1x64, .f32⟩
  | 81 => ⟨S1x8192x2x64, .f32⟩
  | 82 => ⟨S8192x128, .f32⟩
  | 83 => ⟨S8192x64, .f32⟩
  | 84 => ⟨S1x8192x1x64, .f32⟩
  | 85 => ⟨S1x8192x2x64, .f32⟩
  | 86 => ⟨S8192x128, .f32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S128, .i32⟩
  | 94 => ⟨S128, .i32⟩
  | 95 => ⟨S_, .i32⟩
  | 96 => ⟨S128, .i32⟩
  | 97 => ⟨S128, .i1⟩
  | 98 => ⟨S_, .i32⟩
  | 99 => ⟨S128, .i32⟩
  | 100 => ⟨S128, .i1⟩
  | 101 => ⟨S_, .i32⟩
  | 102 => ⟨S_, .i1⟩
  | 103 => ⟨S128, .i1⟩
  | 104 => ⟨S128, .i1⟩
  | 105 => ⟨S128, .i1⟩
  | 106 => ⟨S128, .i32⟩
  | 107 => ⟨S128, .i32⟩
  | 108 => ⟨S128, .i32⟩
  | 109 => ⟨S_, .i32⟩
  | 110 => ⟨S128, .i32⟩
  | 111 => ⟨S128, .i1⟩
  | 112 => ⟨S8192x128, .f32⟩
  | 113 => ⟨S_, .f32⟩
  | 114 => ⟨S_, .f32⟩
  | 115 => ⟨S8192x128, .i1⟩
  | 116 => ⟨S8192x128, .f32⟩
  | 117 => ⟨S8192x128, .f32⟩
  | 118 => ⟨S_, .f32⟩
  | 119 => ⟨S_, .f32⟩
  | 120 => ⟨S8192x128, .i1⟩
  | 121 => ⟨S8192x128, .f32⟩
  | 122 => ⟨S8192x128, .f32⟩
  | 123 => ⟨S8192x128, .f32⟩
  | 124 => ⟨S_, .f32⟩
  | 125 => ⟨S_, .f32⟩
  | 126 => ⟨S8192x128, .i1⟩
  | 127 => ⟨S8192x128, .f32⟩
  | _ => ⟨S1x8192x1024, .f32⟩

abbrev hbmTy0_2 (i : Nat) : BufTy := match i % 128 with
  | 0 => ⟨S8192x128, .f32⟩
  | 1 => ⟨S_, .f32⟩
  | 2 => ⟨S_, .f32⟩
  | 3 => ⟨S8192x128, .i1⟩
  | 4 => ⟨S8192x128, .f32⟩
  | 5 => ⟨S8192x128, .f32⟩
  | 6 => ⟨S8192x1024, .bf16⟩
  | 7 => ⟨S8192x640, .f32⟩
  | 8 => ⟨S8x8192x64, .bf16⟩
  | 9 => ⟨S2x8192x64, .bf16⟩
  | 10 => ⟨S2x8192x128, .bf16⟩
  | 11 => ⟨S8x8192x64, .bf16⟩
  | 12 => ⟨S2x8192x64, .bf16⟩
  | 13 => ⟨S2x8192x128, .bf16⟩
  | 14 => ⟨S8192x2048, .bf16⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1x1024, .f32⟩
  | .local _ .vmem, ⟨4, _⟩ => ⟨S4x1024x896, .bf16⟩
  | .local _ .vmem, ⟨5, _⟩ => ⟨S1x128, .f32⟩
  | .local _ .vmem, ⟨6, _⟩ => ⟨S1x128, .f32⟩
  | .local _ .vmem, ⟨7, _⟩ => ⟨S128x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x1024, .bf16⟩
  | .local _ .vmem, ⟨21, _⟩ => ⟨S512x1024, .bf16⟩
  | .local _ .vmem, ⟨22, _⟩ => ⟨S512x640, .f32⟩
  | .local _ .vmem, ⟨23, _⟩ => ⟨S512x640, .f32⟩
  | .local _ .vmem, ⟨24, _⟩ => ⟨S8x512x64, .bf16⟩
  | .local _ .vmem, ⟨25, _⟩ => ⟨S8x512x64, .bf16⟩
  | .local _ .vmem, ⟨26, _⟩ => ⟨S2x512x64, .bf16⟩
  | .local _ .vmem, ⟨27, _⟩ => ⟨S2x512x64, .bf16⟩
  | .local _ .vmem, ⟨28, _⟩ => ⟨S2x512x128, .bf16⟩
  | .local _ .vmem, ⟨29, _⟩ => ⟨S2x512x128, .bf16⟩
  | .local _ .vmem, ⟨30, _⟩ => ⟨S8x512x64, .bf16⟩
  | .local _ .vmem, ⟨31, _⟩ => ⟨S8x512x64, .bf16⟩
  | .local _ .vmem, ⟨32, _⟩ => ⟨S2x512x64, .bf16⟩
  | .local _ .vmem, ⟨33, _⟩ => ⟨S2x512x64, .bf16⟩
  | .local _ .vmem, ⟨34, _⟩ => ⟨S2x512x128, .bf16⟩
  | .local _ .vmem, ⟨35, _⟩ => ⟨S2x512x128, .bf16⟩
  | .local _ .vmem, ⟨36, _⟩ => ⟨S512x2048, .bf16⟩
  | .local _ .vmem, ⟨37, _⟩ => ⟨S512x2048, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v14 : Ref sig .tc := ⟨.hbm, 37, rfl⟩
abbrev main_v15 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_c_2 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_c : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_0 : Ref sig .tc := ⟨.hbm, 82, rfl⟩
abbrev main_call3_v12 : Ref sig .tc := ⟨.hbm, 83, rfl⟩
abbrev main_call3_v13 : Ref sig .tc := ⟨.hbm, 84, rfl⟩
abbrev main_v24 : Ref sig .tc := ⟨.hbm, 85, rfl⟩
abbrev main_v25 : Ref sig .tc := ⟨.hbm, 86, rfl⟩
abbrev main_cst_3 : Ref sig .tc := ⟨.hbm, 87, rfl⟩
abbrev main_v26 : Ref sig .tc := ⟨.hbm, 88, rfl⟩
abbrev main_v27 : Ref sig .tc := ⟨.hbm, 89, rfl⟩
abbrev main_cst_4 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_5 : Ref sig .tc := ⟨.hbm, 94, rfl⟩
abbrev main_v31 : Ref sig .tc := ⟨.hbm, 95, rfl⟩
abbrev main_v32 : Ref sig .tc := ⟨.hbm, 96, rfl⟩
abbrev main_cst_6 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_c_7 : Ref sig .tc := ⟨.hbm, 108, rfl⟩
abbrev main_call4_v0 : Ref sig .tc := ⟨.hbm, 109, rfl⟩
abbrev main_call4_c : Ref sig .tc := ⟨.hbm, 110, rfl⟩
abbrev main_call4_v1 : Ref sig .tc := ⟨.hbm, 111, rfl⟩
abbrev main_call4_c_0 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_c_1 : Ref sig .tc := ⟨.hbm, 116, rfl⟩
abbrev main_call4_v5 : Ref sig .tc := ⟨.hbm, 117, rfl⟩
abbrev main_call4_v6 : Ref sig .tc := ⟨.hbm, 118, rfl⟩
abbrev main_call4_c_2 : Ref sig .tc := ⟨.hbm, 119, rfl⟩
abbrev main_call4_v7 : Ref sig .tc := ⟨.hbm, 120, rfl⟩
abbrev main_call4_v8 : Ref sig .tc := ⟨.hbm, 121, rfl⟩
abbrev main_call4_c_3 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_v12 : Ref sig .tc := ⟨.hbm, 126, rfl⟩
abbrev main_call4_v13 : Ref sig .tc := ⟨.hbm, 127, rfl⟩
abbrev main_call4_v14 : Ref sig .tc := ⟨.hbm, 128, rfl⟩
abbrev main_v43 : Ref sig .tc := ⟨.hbm, 129, rfl⟩
abbrev main_v44 : Ref sig .tc := ⟨.hbm, 130, rfl⟩
abbrev main_cst_8 : Ref sig .tc := ⟨.hbm, 131, rfl⟩
abbrev main_v45 : Ref sig .tc := ⟨.hbm, 132, rfl⟩
abbrev main_v46 : Ref sig .tc := ⟨.hbm, 133, rfl⟩
abbrev main_cst_9 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_cst_10 : Ref sig .tc := ⟨.hbm, 138, rfl⟩
abbrev main_v50 : Ref sig .tc := ⟨.hbm, 139, rfl⟩
abbrev main_v51 : Ref sig .tc := ⟨.hbm, 140, rfl⟩
abbrev main_cst_11 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_c_12 : Ref sig .tc := ⟨.hbm, 160, rfl⟩
abbrev main_call5_v0 : Ref sig .tc := ⟨.hbm, 161, rfl⟩
abbrev main_call5_c : Ref sig .tc := ⟨.hbm, 162, rfl⟩
abbrev main_call5_v1 : Ref sig .tc := ⟨.hbm, 163, rfl⟩
abbrev main_call5_c_0 : Ref sig .tc := ⟨.hbm, 164, rfl⟩
abbrev main_call5_v2 : Ref sig .tc := ⟨.hbm, 165, rfl⟩
abbrev main_call5_v3 : Ref sig .tc := ⟨.hbm, 166, rfl⟩
abbrev main_call5_v4 : Ref sig .tc := ⟨.hbm, 167, rfl⟩
abbrev main_call5_c_1 : Ref sig .tc := ⟨.hbm, 168, rfl⟩
abbrev main_call5_v5 : Ref sig .tc := ⟨.hbm, 169, rfl⟩
abbrev main_call5_v6 : Ref sig .tc := ⟨.hbm, 170, rfl⟩
abbrev main_call5_c_2 : Ref sig .tc := ⟨.hbm, 171, rfl⟩
abbrev main_call5_v7 : Ref sig .tc := ⟨.hbm, 172, rfl⟩
abbrev main_call5_v8 : Ref sig .tc := ⟨.hbm, 173, rfl⟩
abbrev main_call5_c_3 : Ref sig .tc := ⟨.hbm, 174, rfl⟩
abbrev main_call5_v9 : Ref sig .tc := ⟨.hbm, 175, rfl⟩
abbrev main_call5_v10 : Ref sig .tc := ⟨.hbm, 176, rfl⟩
abbrev main_call5_v11 : Ref sig .tc := ⟨.hbm, 177, rfl⟩
abbrev main_call5_v12 : Ref sig .tc := ⟨.hbm, 178, rfl⟩
abbrev main_call5_v13 : Ref sig .tc := ⟨.hbm, 179, rfl⟩
abbrev main_call5_v14 : Ref sig .tc := ⟨.hbm, 180, rfl⟩
abbrev main_v70 : Ref sig .tc := ⟨.hbm, 181, rfl⟩
abbrev main_c_13 : Ref sig .tc := ⟨.hbm, 182, rfl⟩
abbrev main_v71 : Ref sig .tc := ⟨.hbm, 183, rfl⟩
abbrev main_v72 : Ref sig .tc := ⟨.hbm, 184, rfl⟩
abbrev main_v73 : Ref sig .tc := ⟨.hbm, 185, rfl⟩
abbrev main_cst_14 : Ref sig .tc := ⟨.hbm, 186, rfl⟩
abbrev main_v74 : Ref sig .tc := ⟨.hbm, 187, rfl⟩
abbrev main_v75 : Ref sig .tc := ⟨.hbm, 188, rfl⟩
abbrev main_cst_15 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_cst_16 : Ref sig .tc := ⟨.hbm, 193, rfl⟩
abbrev main_v79 : Ref sig .tc := ⟨.hbm, 194, rfl⟩
abbrev main_v80 : Ref sig .tc := ⟨.hbm, 195, rfl⟩
abbrev main_cst_17 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_v87 : Ref sig .tc := ⟨.hbm, 203, rfl⟩
abbrev main_v88 : Ref sig .tc := ⟨.hbm, 204, rfl⟩
abbrev main_v89 : Ref sig .tc := ⟨.hbm, 205, rfl⟩
abbrev main_v90 : Ref sig .tc := ⟨.hbm, 206, rfl⟩
abbrev main_v91 : Ref sig .tc := ⟨.hbm, 207, rfl⟩
abbrev main_v92 : Ref sig .tc := ⟨.hbm, 208, rfl⟩
abbrev main_v93 : Ref sig .tc := ⟨.hbm, 209, rfl⟩
abbrev main_v94 : Ref sig .tc := ⟨.hbm, 210, rfl⟩
abbrev main_v95 : Ref sig .tc := ⟨.hbm, 211, rfl⟩
abbrev main_v96 : Ref sig .tc := ⟨.hbm, 212, rfl⟩
abbrev main_v97 : Ref sig .tc := ⟨.hbm, 213, rfl⟩
abbrev main_v98 : Ref sig .tc := ⟨.hbm, 214, rfl⟩
abbrev main_c_18 : Ref sig .tc := ⟨.hbm, 215, rfl⟩
abbrev main_call6_v0 : Ref sig .tc := ⟨.hbm, 216, rfl⟩
abbrev main_call6_c : Ref sig .tc := ⟨.hbm, 217, rfl⟩
abbrev main_call6_v1 : Ref sig .tc := ⟨.hbm, 218, rfl⟩
abbrev main_call6_c_0 : Ref sig .tc := ⟨.hbm, 219, rfl⟩
abbrev main_call6_v2 : Ref sig .tc := ⟨.hbm, 220, rfl⟩
abbrev main_call6_v3 : Ref sig .tc := ⟨.hbm, 221, rfl⟩
abbrev main_call6_v4 : Ref sig .tc := ⟨.hbm, 222, rfl⟩
abbrev main_call6_c_1 : Ref sig .tc := ⟨.hbm, 223, rfl⟩
abbrev main_call6_v5 : Ref sig .tc := ⟨.hbm, 224, rfl⟩
abbrev main_call6_v6 : Ref sig .tc := ⟨.hbm, 225, rfl⟩
abbrev main_call6_c_2 : Ref sig .tc := ⟨.hbm, 226, rfl⟩
abbrev main_call6_v7 : Ref sig .tc := ⟨.hbm, 227, rfl⟩
abbrev main_call6_v8 : Ref sig .tc := ⟨.hbm, 228, rfl⟩
abbrev main_call6_c_3 : Ref sig .tc := ⟨.hbm, 229, rfl⟩
abbrev main_call6_v9 : Ref sig .tc := ⟨.hbm, 230, rfl⟩
abbrev main_call6_v10 : Ref sig .tc := ⟨.hbm, 231, rfl⟩
abbrev main_call6_v11 : Ref sig .tc := ⟨.hbm, 232, rfl⟩
abbrev main_call6_v12 : Ref sig .tc := ⟨.hbm, 233, rfl⟩
abbrev main_call6_v13 : Ref sig .tc := ⟨.hbm, 234, rfl⟩
abbrev main_call6_v14 : Ref sig .tc := ⟨.hbm, 235, rfl⟩
abbrev main_v99 : Ref sig .tc := ⟨.hbm, 236, rfl⟩
abbrev main_c_19 : Ref sig .tc := ⟨.hbm, 237, rfl⟩
abbrev main_v100 : Ref sig .tc := ⟨.hbm, 238, rfl⟩
abbrev main_v101 : Ref sig .tc := ⟨.hbm, 239, rfl⟩
abbrev main_v102 : Ref sig .tc := ⟨.hbm, 240, rfl⟩
abbrev main_cst_20 : Ref sig .tc := ⟨.hbm, 241, rfl⟩
abbrev main_call7_v0 : Ref sig .tc := ⟨.hbm, 242, rfl⟩
abbrev main_call7_v1 : Ref sig .tc := ⟨.hbm, 243, rfl⟩
abbrev main_call7_v2 : Ref sig .tc := ⟨.hbm, 244, rfl⟩
abbrev main_v103 : Ref sig .tc := ⟨.hbm, 245, rfl⟩
abbrev main_cst_21 : Ref sig .tc := ⟨.hbm, 246, rfl⟩
abbrev main_call8_v0 : Ref sig .tc := ⟨.hbm, 247, rfl⟩
abbrev main_call8_v1 : Ref sig .tc := ⟨.hbm, 248, rfl⟩
abbrev main_call8_v2 : Ref sig .tc := ⟨.hbm, 249, rfl⟩
abbrev main_v104 : Ref sig .tc := ⟨.hbm, 250, rfl⟩
abbrev main_v105 : Ref sig .tc := ⟨.hbm, 251, rfl⟩
abbrev main_cst_22 : Ref sig .tc := ⟨.hbm, 252, rfl⟩
abbrev main_call9_v0 : Ref sig .tc := ⟨.hbm, 253, rfl⟩
abbrev main_call9_v1 : Ref sig .tc := ⟨.hbm, 254, rfl⟩
abbrev main_call9_v2 : Ref sig .tc := ⟨.hbm, 255, rfl⟩
abbrev main_v106 : Ref sig .tc := ⟨.hbm, 256, rfl⟩
abbrev main_cst_23 : Ref sig .tc := ⟨.hbm, 257, rfl⟩
abbrev main_call10_v0 : Ref sig .tc := ⟨.hbm, 258, rfl⟩
abbrev main_call10_v1 : Ref sig .tc := ⟨.hbm, 259, rfl⟩
abbrev main_call10_v2 : Ref sig .tc := ⟨.hbm, 260, rfl⟩
abbrev main_v107 : Ref sig .tc := ⟨.hbm, 261, rfl⟩
abbrev main_v108_0 : Ref sig .tc := ⟨.hbm, 262, rfl⟩
abbrev main_v108_1 : Ref sig .tc := ⟨.hbm, 263, rfl⟩
abbrev main_v108_2 : Ref sig .tc := ⟨.hbm, 264, rfl⟩
abbrev main_v108_3 : Ref sig .tc := ⟨.hbm, 265, rfl⟩
abbrev main_v108_4 : Ref sig .tc := ⟨.hbm, 266, rfl⟩
abbrev main_v108_5 : Ref sig .tc := ⟨.hbm, 267, rfl⟩
abbrev main_v108_6 : Ref sig .tc := ⟨.hbm, 268, rfl⟩
abbrev main_v108_7 : Ref sig .tc := ⟨.hbm, 269, rfl⟩
abbrev main_v108_8 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x640 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x512x64 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference10Ideal.lean ====
abbrev S1x8192x1024 : Shape := ⟨3, ![1, 8192, 1024]⟩
abbrev S1x6144 : Shape := ⟨2, ![1, 6144]⟩
abbrev S1x1024 : Shape := ⟨2, ![1, 1024]⟩
abbrev S1x1024x3584 : Shape := ⟨3, ![1, 1024, 3584]⟩
abbrev S1x64 : Shape := ⟨2, ![1, 64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x3584 : Shape := ⟨2, ![1024, 3584]⟩
abbrev S1x8192x3584 : Shape := ⟨3, ![1, 8192, 3584]⟩
abbrev S1x8192x512 : Shape := ⟨3, ![1, 8192, 512]⟩
abbrev S1x8192x128 : Shape := ⟨3, ![1, 8192, 128]⟩
abbrev S1x8192x2048 : Shape := ⟨3, ![1, 8192, 2048]⟩
abbrev S1x8192x2x64 : Shape := ⟨4, ![1, 8192, 2, 64]⟩
abbrev S8192x1024 : Shape := ⟨2, ![8192, 1024]⟩
abbrev S8192x512 : Shape := ⟨2, ![8192, 512]⟩
abbrev S8192x128 : Shape := ⟨2, ![8192, 128]⟩
abbrev S8192x640 : Shape := ⟨2, ![8192, 640]⟩
abbrev S1x8192x8x64 : Shape := ⟨4, ![1, 8192, 8, 64]⟩
abbrev S64 : Shape := ⟨1, ![64]⟩
abbrev S1x8192x8 : Shape := ⟨3, ![1, 8192, 8]⟩
abbrev S1x8192x8x1 : Shape := ⟨4, ![1, 8192, 8, 1]⟩
abbrev S1x1x1x64 : Shape := ⟨4, ![1, 1, 1, 64]⟩
abbrev S16 : Shape := ⟨1, ![16]⟩
abbrev S1x16 : Shape := ⟨2, ![1, 16]⟩
abbrev S8192x16 : Shape := ⟨2, ![8192, 16]⟩
abbrev S1x8192x8x32 : Shape := ⟨4, ![1, 8192, 8, 32]⟩
abbrev S1x8192x8x16 : Shape := ⟨4, ![1, 8192, 8, 16]⟩
abbrev S1x8192x1x16 : Shape := ⟨4, ![1, 8192, 1, 16]⟩
abbrev S8192x8x64 : Shape := ⟨3, ![8192, 8, 64]⟩
abbrev S8x8192x64 : Shape := ⟨3, ![8, 8192, 64]⟩
abbrev S1x8192x2 : Shape := ⟨3, ![1, 8192, 2]⟩
abbrev S1x8192x2x1 : Shape := ⟨4, ![1, 8192, 2, 1]⟩
abbrev S1x8192x2x32 : Shape := ⟨4, ![1, 8192, 2, 32]⟩
abbrev S1x8192x2x16 : Shape := ⟨4, ![1, 8192, 2, 16]⟩
abbrev S8192x2x64 : Shape := ⟨3, ![8192, 2, 64]⟩
abbrev S2x8192x64 : Shape := ⟨3, ![2, 8192, 64]⟩
abbrev S1x8192x2x128 : Shape := ⟨4, ![1, 8192, 2, 128]⟩
abbrev S8192x2x128 : Shape := ⟨3, ![8192, 2, 128]⟩
abbrev S2x8192x128 : Shape := ⟨3, ![2, 8192, 128]⟩
abbrev S1x8192x1x32 : Shape := ⟨4, ![1, 8192, 1, 32]⟩
abbrev S8192x2048 : Shape := ⟨2, ![8192, 2048]⟩

abbrev nBuf : Space → Nat
  | .hbm => 409
  | .vmem => 0
  | .smem => 0
  | _ => 0

abbrev hbmTy0_0 (i : Nat) : BufTy := match i % 128 with
  | 0 => ⟨S1x8192x1024, .f32⟩
  | 1 => ⟨S1x6144, .f32⟩
  | 2 => ⟨S1x1024, .f32⟩
  | 3 => ⟨S1x1024x3584, .f32⟩
  | 4 => ⟨S1x64, .f32⟩
  | 5 => ⟨S1x64, .f32⟩
  | 6 => ⟨S8192, .i32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S8192, .f32⟩
  | 22 => ⟨S8192x1, .f32⟩
  | 23 => ⟨S1x32, .f32⟩
  | 24 => ⟨S8192x32, .f32⟩
  | 25 => ⟨S8192x32, .f32⟩
  | 26 => ⟨S8192x32, .f32⟩
  | 27 => ⟨S8192x32, .f32⟩
  | 28 => ⟨S8192x32, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1024, .f32⟩
  | 36 => ⟨S1x8192x1024, .f32⟩
  | 37 => ⟨S_, .f32⟩
  | 38 => ⟨S1x8192, .f32⟩
  | 39 => ⟨S1x8192x1, .f32⟩
  | 40 => ⟨S_, .f32⟩
  | 41 => ⟨S1x8192x1, .f32⟩
  | 42 => ⟨S1x8192x1, .f32⟩
  | 43 => ⟨S_, .f32⟩
  | 44 => ⟨S1x8192x1, .f32⟩
  | 45 => ⟨S1x8192x1, .f32⟩
  | 46 => ⟨S1x8192x1, .f32⟩
  | 47 => ⟨S1x8192x1024, .f32⟩
  | 48 => ⟨S1x8192x1024, .f32⟩
  | 49 => ⟨S1x1x1024, .f32⟩
  | 50 => ⟨S1x8192x1024, .f32⟩
  | 51 => ⟨S1x8192x1024, .f32⟩
  | 52 => ⟨S1x1x1024, .f32⟩
  | 53 => ⟨S_, .f32⟩
  | 54 => ⟨S1x1x1024, .f32⟩
  | 55 => ⟨S1x1x1024, .f32⟩
  | 56 => ⟨S1x8192x1024, .f32⟩
  | 57 => ⟨S1x8192x1024, .f32⟩
  | 58 => ⟨S1x1x1024, .f32⟩
  | 59 => ⟨S1x8192x1024, .f32⟩
  | 60 => ⟨S1x8192x1024, .f32⟩
  | 61 => ⟨S1024x3584, .f32⟩
  | 62 => ⟨S1x8192x3584, .f32⟩
  | 63 => ⟨S1x8192x512, .f32⟩
  | 64 => ⟨S1x8192x128, .f32⟩
  | 65 => ⟨S1x8192x128, .f32⟩
  | 66 => ⟨S1x8192x512, .f32⟩
  | 67 => ⟨S1x8192x128, .f32⟩
  | 68 => ⟨S1x8192x128, .f32⟩
  | 69 => ⟨S1x8192x2048, .f32⟩
  | 70 => ⟨S_, .f32⟩
  | 71 => ⟨S1x8192x2x64, .f32⟩
  | 72 => ⟨S8192x1024, .f32⟩
  | 73 => ⟨S8192x1024, .bf16⟩
  | 74 => ⟨S8192x512, .f32⟩
  | 75 => ⟨S8192x128, .f32⟩
  | 76 => ⟨S8192x640, .f32⟩
  | 77 => ⟨S1x8192x8x64, .f32⟩
  | 78 => ⟨S64, .f32⟩
  | 79 => ⟨S1x8192x8x64, .f32⟩
  | 80 => ⟨S_, .f32⟩
  | 81 => ⟨S1x8192x8, .f32⟩
  | 82 => ⟨S1x8192x8x1, .f32⟩
  | 83 => ⟨S_, .f32⟩
  | 84 => ⟨S1x8192x8x1, .f32⟩
  | 85 => ⟨S1x8192x8x1, .f32⟩
  | 86 => ⟨S_, .f32⟩
  | 87 => ⟨S1x8192x8x1, .f32⟩
  | 88 => ⟨S1x8192x8x1, .f32⟩
  | 89 => ⟨S1x8192x8x1, .f32⟩
  | 90 => ⟨S1x8192x8x64, .f32⟩
  | 91 => ⟨S1x8192x8x64, .f32⟩
  | 92 => ⟨S1x1x1x64, .f32⟩
  | 93 => ⟨S1x8192x8x64, .f32⟩
  | 94 => ⟨S1x8192x8x64, .f32⟩
  | 95 => ⟨S_, .i32⟩
  | 96 => ⟨S_, .i32⟩
  | 97 => ⟨S8192, .i32⟩
  | 98 => ⟨S8192, .i32⟩
  | 99 => ⟨S8192, .i32⟩
  | 100 => ⟨S_, .i32⟩
  | 101 => ⟨S8192, .i32⟩
  | 102 => ⟨S8192, .i1⟩
  | 103 => ⟨S8192, .i32⟩
  | 104 => ⟨S8192, .i32⟩
  | 105 => ⟨S_, .i32⟩
  | 106 => ⟨S8192, .i32⟩
  | 107 => ⟨S8192, .i1⟩
  | 108 => ⟨S8192, .i1⟩
  | 109 => ⟨S_, .i32⟩
  | 110 => ⟨S8192, .i32⟩
  | 111 => ⟨S8192, .i32⟩
  | 112 => ⟨S8192, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S8192, .i32⟩
  | 120 => ⟨S8192, .i32⟩
  | 121 => ⟨S_, .i32⟩
  | 122 => ⟨S8192, .i32⟩
  | 123 => ⟨S8192, .i1⟩
  | 124 => ⟨S_, .i32⟩
  | 125 => ⟨S8192, .i32⟩
  | 126 => ⟨S8192, .i1⟩
  | 127 => ⟨S_, .i32⟩
  | _ => ⟨S1x8192x1024, .f32⟩

abbrev hbmTy0_1 (i : Nat) : BufTy := match i % 128 with
  | 0 => ⟨S_, .i1⟩
  | 1 => ⟨S8192, .i1⟩
  | 2 => ⟨S8192, .i1⟩
  | 3 => ⟨S8192, .i1⟩
  | 4 => ⟨S8192, .i32⟩
  | 5 => ⟨S8192, .i32⟩
  | 6 => ⟨S8192, .i32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S8192, .f32⟩
  | 22 => ⟨S8192x1, .f32⟩
  | 23 => ⟨S1x16, .f32⟩
  | 24 => ⟨S8192x16, .f32⟩
  | 25 => ⟨S8192x16, .f32⟩
  | 26 => ⟨S8192x16, .f32⟩
  | 27 => ⟨S8192x16, .f32⟩
  | 28 => ⟨S8192x16, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S8192, .f32⟩
  | 44 => ⟨S8192x1, .f32⟩
  | 45 => ⟨S1x16, .f32⟩
  | 46 => ⟨S8192x16, .f32⟩
  | 47 => ⟨S8192x16, .f32⟩
  | 48 => ⟨S8192x16, .f32⟩
  | 49 => ⟨S8192x16, .f32⟩
  | 50 => ⟨S8192x16, .f32⟩
  | 51 => ⟨S1x8192x8x32, .f32⟩
  | 52 => ⟨S1x8192x8x16, .f32⟩
  | 53 => ⟨S1x8192x8x16, .f32⟩
  | 54 => ⟨S1x8192x1x16, .f32⟩
  | 55 => ⟨S1x8192x1x16, .f32⟩
  | 56 => ⟨S1x8192x8x16, .f32⟩
  | 57 => ⟨S1x8192x8x16, .f32⟩
  | 58 => ⟨S1x8192x8x16, .f32⟩
  | 59 => ⟨S1x8192x8x16, .f32⟩
  | 60 => ⟨S1x8192x8x16, .f32⟩
  | 61 => ⟨S1x8192x8x16, .f32⟩
  | 62 => ⟨S1x8192x8x16, .f32⟩
  | 63 => ⟨S1x8192x8x16, .f32⟩
  | 64 => ⟨S1x8192x8x16, .f32⟩
  | 65 => ⟨S1x8192x8x16, .f32⟩
  | 66 => ⟨S1x8192x8x32, .f32⟩
  | 67 => ⟨S1x8192x8x32, .f32⟩
  | 68 => ⟨S1x8192x8x16, .f32⟩
  | 69 => ⟨S1x8192x8x16, .f32⟩
  | 70 => ⟨S1x8192x1x16, .f32⟩
  | 71 => ⟨S1x8192x1x16, .f32⟩
  | 72 => ⟨S1x8192x8x16, .f32⟩
  | 73 => ⟨S1x8192x8x16, .f32⟩
  | 74 => ⟨S1x8192x8x16, .f32⟩
  | 75 => ⟨S1x8192x8x16, .f32⟩
  | 76 => ⟨S1x8192x8x16, .f32⟩
  | 77 => ⟨S1x8192x8x16, .f32⟩
  | 78 => ⟨S1x8192x8x16, .f32⟩
  | 79 => ⟨S1x8192x8x16, .f32⟩
  | 80 => ⟨S1x8192x8x16, .f32⟩
  | 81 => ⟨S1x8192x8x16, .f32⟩
  | 82 => ⟨S1x8192x8x32, .f32⟩
  | 83 => ⟨S1x8192x8x64, .f32⟩
  | 84 => ⟨S_, .f32⟩
  | 85 => ⟨S1x8192x8x64, .f32⟩
  | 86 => ⟨S1x8192x8x64, .f32⟩
  | 87 => ⟨S8192x8x64, .f32⟩
  | 88 => ⟨S8x8192x64, .f32⟩
  | 89 => ⟨S8x8192x64, .bf16⟩
  | 90 => ⟨S1x8192x2x64, .f32⟩
  | 91 => ⟨S64, .f32⟩
  | 92 => ⟨S1x8192x2x64, .f32⟩
  | 93 => ⟨S_, .f32⟩
  | 94 => ⟨S1x8192x2, .f32⟩
  | 95 => ⟨S1x8192x2x1, .f32⟩
  | 96 => ⟨S_, .f32⟩
  | 97 => ⟨S1x8192x2x1, .f32⟩
  | 98 => ⟨S1x8192x2x1, .f32⟩
  | 99 => ⟨S_, .f32⟩
  | 100 => ⟨S1x8192x2x1, .f32⟩
  | 101 => ⟨S1x8192x2x1, .f32⟩
  | 102 => ⟨S1x8192x2x1, .f32⟩
  | 103 => ⟨S1x8192x2x64, .f32⟩
  | 104 => ⟨S1x8192x2x64, .f32⟩
  | 105 => ⟨S1x1x1x64, .f32⟩
  | 106 => ⟨S1x8192x2x64, .f32⟩
  | 107 => ⟨S1x8192x2x64, .f32⟩
  | 108 => ⟨S_, .i32⟩
  | 109 => ⟨S_, .i32⟩
  | 110 => ⟨S8192, .i32⟩
  | 111 => ⟨S8192, .i32⟩
  | 112 => ⟨S8192, .i32⟩
  | 113 => ⟨S_, .i32⟩
  | 114 => ⟨S8192, .i32⟩
  | 115 => ⟨S8192, .i1⟩
  | 116 => ⟨S8192, .i32⟩
  | 117 => ⟨S8192, .i32⟩
  | 118 => ⟨S_, .i32⟩
  | 119 => ⟨S8192, .i32⟩
  | 120 => ⟨S8192, .i1⟩
  | 121 => ⟨S8192, .i1⟩
  | 122 => ⟨S_, .i32⟩
  | 123 => ⟨S8192, .i32⟩
  | 124 => ⟨S8192, .i32⟩
  | 125 => ⟨S8192, .i32⟩
  | 126 => ⟨S_, .i32⟩
  | 127 => ⟨S_, .i32⟩
  | _ => ⟨S1x8192x1024, .f32⟩

abbrev hbmTy0_2 (i : Nat) : BufTy := match i % 128 with
  | 0 => ⟨S_, .i32⟩
  | 1 => ⟨S_, .i1⟩
  | 2 => ⟨S_, .i32⟩
  | 3 => ⟨S_, .i32⟩
  | 4 => ⟨S8192, .i32⟩
  | 5 => ⟨S8192, .i32⟩
  | 6 => ⟨S_, .i32⟩
  | 7 => ⟨S8192, .i32⟩
  | 8 => ⟨S8192, .i1⟩
  | 9 => ⟨S_, .i32⟩
  | 10 => ⟨S8192, .i32⟩
  | 11 => ⟨S8192, .i1⟩
  | 12 => ⟨S_, .i32⟩
  | 13 => ⟨S_, .i1⟩
  | 14 => ⟨S8192, .i1⟩
  | 15 => ⟨S8192, .i1⟩
  | 16 => ⟨S8192, .i1⟩
  | 17 => ⟨S8192, .i32⟩
  | 18 => ⟨S8192, .i32⟩
  | 19 => ⟨S8192, .i32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S8192, .f32⟩
  | 35 => ⟨S8192x1, .f32⟩
  | 36 => ⟨S1x16, .f32⟩
  | 37 => ⟨S8192x16, .f32⟩
  | 38 => ⟨S8192x16, .f32⟩
  | 39 => ⟨S8192x16, .f32⟩
  | 40 => ⟨S8192x16, .f32⟩
  | 41 => ⟨S8192x16, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S8192, .f32⟩
  | 57 => ⟨S8192x1, .f32⟩
  | 58 => ⟨S1x16, .f32⟩
  | 59 => ⟨S8192x16, .f32⟩
  | 60 => ⟨S8192x16, .f32⟩
  | 61 => ⟨S8192x16, .f32⟩
  | 62 => ⟨S8192x16, .f32⟩
  | 63 => ⟨S8192x16, .f32⟩
  | 64 => ⟨S1x8192x2x32, .f32⟩
  | 65 => ⟨S1x8192x2x16, .f32⟩
  | 66 => ⟨S1x8192x2x16, .f32⟩
  | 67 => ⟨S1x8192x1x16, .f32⟩
  | 68 => ⟨S1x8192x1x16, .f32⟩
  | 69 => ⟨S1x8192x2x16, .f32⟩
  | 70 => ⟨S1x8192x2x16, .f32⟩
  | 71 => ⟨S1x8192x2x16, .f32⟩
  | 72 => ⟨S1x8192x2x16, .f32⟩
  | 73 => ⟨S1x8192x2x16, .f32⟩
  | 74 => ⟨S1x8192x2x16, .f32⟩
  | 75 => ⟨S1x8192x2x16, .f32⟩
  | 76 => ⟨S1x8192x2x16, .f32⟩
  | 77 => ⟨S1x8192x2x16, .f32⟩
  | 78 => ⟨S1x8192x2x16, .f32⟩
  | 79 => ⟨S1x8192x2x32, .f32⟩
  | 80 => ⟨S1x8192x2x32, .f32⟩
  | 81 => ⟨S1x8192x2x16, .f32⟩
  | 82 => ⟨S1x8192x2x16, .f32⟩
  | 83 => ⟨S1x8192x1x16, .f32⟩
  | 84 => ⟨S1x8192x1x16, .f32⟩
  | 85 => ⟨S1x8192x2x16, .f32⟩
  | 86 => ⟨S1x8192x2x16, .f32⟩
  | 87 => ⟨S1x8192x2x16, .f32⟩
  | 88 => ⟨S1x8192x2x16, .f32⟩
  | 89 => ⟨S1x8192x2x16, .f32⟩
  | 90 => ⟨S1x8192x2x16, .f32⟩
  | 91 => ⟨S1x8192x2x16, .f32⟩
  | 92 => ⟨S1x8192x2x16, .f32⟩
  | 93 => ⟨S1x8192x2x16, .f32⟩
  | 94 => ⟨S1x8192x2x16, .f32⟩
  | 95 => ⟨S1x8192x2x32, .f32⟩
  | 96 => ⟨S1x8192x2x64, .f32⟩
  | 97 => ⟨S8192x2x64, .f32⟩
  | 98 => ⟨S2x8192x64, .f32⟩
  | 99 => ⟨S2x8192x64, .bf16⟩
  | 100 => ⟨S1x8192x2x64, .f32⟩
  | 101 => ⟨S1x8192x2x128, .f32⟩
  | 102 => ⟨S8192x2x128, .f32⟩
  | 103 => ⟨S2x8192x128, .f32⟩
  | 104 => ⟨S2x8192x128, .bf16⟩
  | 105 => ⟨S1x8192x8x64, .f32⟩
  | 106 => ⟨S1x8192x8x32, .f32⟩
  | 107 => ⟨S1x8192x8x32, .f32⟩
  | 108 => ⟨S1x8192x1x32, .f32⟩
  | 109 => ⟨S1x8192x1x32, .f32⟩
  | 110 => ⟨S1x8192x8x32, .f32⟩
  | 111 => ⟨S1x8192x8x32, .f32⟩
  | 112 => ⟨S1x8192x8x32, .f32⟩
  | 113 => ⟨S1x8192x8x32, .f32⟩
  | 114 => ⟨S1x8192x8x32, .f32⟩
  | 115 => ⟨S1x8192x8x32, .f32⟩
  | 116 => ⟨S1x8192x8x32, .f32⟩
  | 117 => ⟨S1x8192x8x32, .f32⟩
  | 118 => ⟨S1x8192x8x32, .f32⟩
  | 119 => ⟨S1x8192x8x32, .f32⟩
  | 120 => ⟨S1x8192x8x64, .f32⟩
  | 121 => ⟨S_, .f32⟩
  | 122 => ⟨S1x8192x8x64, .f32⟩
  | 123 => ⟨S1x8192x8x64, .f32⟩
  | 124 => ⟨S8192x8x64, .f32⟩
  | 125 => ⟨S8x8192x64, .f32⟩
  | 126 => ⟨S8x8192x64, .bf16⟩
  | 127 => ⟨S1x8192x2x64, .f32⟩
  | _ => ⟨S1x8192x1024, .f32⟩

abbrev hbmTy0_3 (i : Nat) : BufTy := match i % 128 with
  | 0 => ⟨S1x8192x2x32, .f32⟩
  | 1 => ⟨S1x8192x2x32, .f32⟩
  | 2 => ⟨S1x8192x1x32, .f32⟩
  | 3 => ⟨S1x8192x1x32, .f32⟩
  | 4 => ⟨S1x8192x2x32, .f32⟩
  | 5 => ⟨S1x8192x2x32, .f32⟩
  | 6 => ⟨S1x8192x2x32, .f32⟩
  | 7 => ⟨S1x8192x2x32, .f32⟩
  | 8 => ⟨S1x8192x2x32, .f32⟩
  | 9 => ⟨S1x8192x2x32, .f32⟩
  | 10 => ⟨S1x8192x2x32, .f32⟩
  | 11 => ⟨S1x8192x2x32, .f32⟩
  | 12 => ⟨S1x8192x2x32, .f32⟩
  | 13 => ⟨S1x8192x2x32, .f32⟩
  | 14 => ⟨S1x8192x2x64, .f32⟩
  | 15 => ⟨S8192x2x64, .f32⟩
  | 16 => ⟨S2x8192x64, .f32⟩
  | 17 => ⟨S2x8192x64, .bf16⟩
  | 18 => ⟨S1x8192x2x64, .f32⟩
  | 19 => ⟨S1x8192x2x128, .f32⟩
  | 20 => ⟨S8192x2x128, .f32⟩
  | 21 => ⟨S2x8192x128, .f32⟩
  | 22 => ⟨S2x8192x128, .bf16⟩
  | 23 => ⟨S8192x2048, .f32⟩
  | 24 => ⟨S8192x2048, .bf16⟩
  | _ => ⟨S1x8192x1024, .f32⟩

abbrev hbmTy (i : Nat) : BufTy := match i / 128 with
  | 0 => hbmTy0_0 i
  | 1 => hbmTy0_1 i
  | 2 => hbmTy0_2 i
  | 3 => hbmTy0_3 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_8 : Ref sig .tc := ⟨.hbm, 80, rfl⟩
abbrev main_v65 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_v5 : Ref sig .tc := ⟨.hbm, 101, rfl⟩
abbrev main_call0_v6 : Ref sig .tc := ⟨.hbm, 102, rfl⟩
abbrev main_call0_v7 : Ref sig .tc := ⟨.hbm, 103, rfl⟩
abbrev main_call0_v8 : Ref sig .tc := ⟨.hbm, 104, rfl⟩
abbrev main_call0_c : Ref sig .tc := ⟨.hbm, 105, rfl⟩
abbrev main_call0_v9 : Ref sig .tc := ⟨.hbm, 106, rfl⟩
abbrev main_call0_v10 : Ref sig .tc := ⟨.hbm, 107, rfl⟩
abbrev main_call0_v11 : Ref sig .tc := ⟨.hbm, 108, rfl⟩
abbrev main_call0_c_0 : Ref sig .tc := ⟨.hbm, 109, rfl⟩
abbrev main_call0_v12 : Ref sig .tc := ⟨.hbm, 110, rfl⟩
abbrev main_call0_v13 : Ref sig .tc := ⟨.hbm, 111, rfl⟩
abbrev main_v77 : Ref sig .tc := ⟨.hbm, 112, rfl⟩
abbrev main_c_11 : Ref sig .tc := ⟨.hbm, 113, rfl⟩
abbrev main_call1_v0 : Ref sig .tc := ⟨.hbm, 114, rfl⟩
abbrev main_call1_c : Ref sig .tc := ⟨.hbm, 115, rfl⟩
abbrev main_call1_v1 : Ref sig .tc := ⟨.hbm, 116, rfl⟩
abbrev main_call1_c_0 : Ref sig .tc := ⟨.hbm, 117, rfl⟩
abbrev main_call1_v2 : Ref sig .tc := ⟨.hbm, 118, rfl⟩
abbrev main_call1_v3 : Ref sig .tc := ⟨.hbm, 119, rfl⟩
abbrev main_call1_v4 : Ref sig .tc := ⟨.hbm, 120, rfl⟩
abbrev main_call1_c_1 : Ref sig .tc := ⟨.hbm, 121, rfl⟩
abbrev main_call1_v5 : Ref sig .tc := ⟨.hbm, 122, rfl⟩
abbrev main_call1_v6 : Ref sig .tc := ⟨.hbm, 123, rfl⟩
abbrev main_call1_c_2 : Ref sig .tc := ⟨.hbm, 124, rfl⟩
abbrev main_call1_v7 : Ref sig .tc := ⟨.hbm, 125, rfl⟩
abbrev main_call1_v8 : Ref sig .tc := ⟨.hbm, 126, rfl⟩
abbrev main_call1_c_3 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_v12 : Ref sig .tc := ⟨.hbm, 131, rfl⟩
abbrev main_call1_v13 : Ref sig .tc := ⟨.hbm, 132, rfl⟩
abbrev main_call1_v14 : Ref sig .tc := ⟨.hbm, 133, rfl⟩
abbrev main_v78 : Ref sig .tc := ⟨.hbm, 134, rfl⟩
abbrev main_v79 : Ref sig .tc := ⟨.hbm, 135, rfl⟩
abbrev main_cst_12 : Ref sig .tc := ⟨.hbm, 136, rfl⟩
abbrev main_v80 : Ref sig .tc := ⟨.hbm, 137, rfl⟩
abbrev main_v81 : Ref sig .tc := ⟨.hbm, 138, rfl⟩
abbrev main_cst_13 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_14 : Ref sig .tc := ⟨.hbm, 143, rfl⟩
abbrev main_v85 : Ref sig .tc := ⟨.hbm, 144, rfl⟩
abbrev main_v86 : Ref sig .tc := ⟨.hbm, 145, rfl⟩
abbrev main_cst_15 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_cst_16 : Ref sig .tc := ⟨.hbm, 158, rfl⟩
abbrev main_v98 : Ref sig .tc := ⟨.hbm, 159, rfl⟩
abbrev main_v99 : Ref sig .tc := ⟨.hbm, 160, rfl⟩
abbrev main_cst_17 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_cst_18 : Ref sig .tc := ⟨.hbm, 165, rfl⟩
abbrev main_v103 : Ref sig .tc := ⟨.hbm, 166, rfl⟩
abbrev main_v104 : Ref sig .tc := ⟨.hbm, 167, rfl⟩
abbrev main_cst_19 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_cst_20 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_cst_21 : Ref sig .tc := ⟨.hbm, 221, rfl⟩
abbrev main_v156 : Ref sig .tc := ⟨.hbm, 222, rfl⟩
abbrev main_v157 : Ref sig .tc := ⟨.hbm, 223, rfl⟩
abbrev main_cst_22 : Ref sig .tc := ⟨.hbm, 224, rfl⟩
abbrev main_v158 : Ref sig .tc := ⟨.hbm, 225, rfl⟩
abbrev main_v159 : Ref sig .tc := ⟨.hbm, 226, rfl⟩
abbrev main_cst_23 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_c_24 : Ref sig .tc := ⟨.hbm, 236, rfl⟩
abbrev main_call2_v0 : Ref sig .tc := ⟨.hbm, 237, rfl⟩
abbrev main_call2_v1 : Ref sig .tc := ⟨.hbm, 238, rfl⟩
abbrev main_call2_v2 : Ref sig .tc := ⟨.hbm, 239, rfl⟩
abbrev main_call2_v3 : Ref sig .tc := ⟨.hbm, 240, rfl⟩
abbrev main_call2_v4 : Ref sig .tc := ⟨.hbm, 241, rfl⟩
abbrev main_call2_v5 : Ref sig .tc := ⟨.hbm, 242, rfl⟩
abbrev main_call2_v6 : Ref sig .tc := ⟨.hbm, 243, rfl⟩
abbrev main_call2_v7 : Ref sig .tc := ⟨.hbm, 244, rfl⟩
abbrev main_call2_v8 : Ref sig .tc := ⟨.hbm, 245, rfl⟩
abbrev main_call2_c : Ref sig .tc := ⟨.hbm, 246, rfl⟩
abbrev main_call2_v9 : Ref sig .tc := ⟨.hbm, 247, rfl⟩
abbrev main_call2_v10 : Ref sig .tc := ⟨.hbm, 248, rfl⟩
abbrev main_call2_v11 : Ref sig .tc := ⟨.hbm, 249, rfl⟩
abbrev main_call2_c_0 : Ref sig .tc := ⟨.hbm, 250, rfl⟩
abbrev main_call2_v12 : Ref sig .tc := ⟨.hbm, 251, rfl⟩
abbrev main_call2_v13 : Ref sig .tc := ⟨.hbm, 252, rfl⟩
abbrev main_v168 : Ref sig .tc := ⟨.hbm, 253, rfl⟩
abbrev main_c_25 : Ref sig .tc := ⟨.hbm, 254, rfl⟩
abbrev main_call3_v0 : Ref sig .tc := ⟨.hbm, 255, rfl⟩
abbrev main_call3_c : Ref sig .tc := ⟨.hbm, 256, rfl⟩
abbrev main_call3_v1 : Ref sig .tc := ⟨.hbm, 257, rfl⟩
abbrev main_call3_c_0 : Ref sig .tc := ⟨.hbm, 258, rfl⟩
abbrev main_call3_v2 : Ref sig .tc := ⟨.hbm, 259, rfl⟩
abbrev main_call3_v3 : Ref sig .tc := ⟨.hbm, 260, rfl⟩
abbrev main_call3_v4 : Ref sig .tc := ⟨.hbm, 261, rfl⟩
abbrev main_call3_c_1 : Ref sig .tc := ⟨.hbm, 262, rfl⟩
abbrev main_call3_v5 : Ref sig .tc := ⟨.hbm, 263, rfl⟩
abbrev main_call3_v6 : Ref sig .tc := ⟨.hbm, 264, rfl⟩
abbrev main_call3_c_2 : Ref sig .tc := ⟨.hbm, 265, rfl⟩
abbrev main_call3_v7 : Ref sig .tc := ⟨.hbm, 266, rfl⟩
abbrev main_call3_v8 : Ref sig .tc := ⟨.hbm, 267, rfl⟩
abbrev main_call3_c_3 : Ref sig .tc := ⟨.hbm, 268, rfl⟩
abbrev main_call3_v9 : Ref sig .tc := ⟨.hbm, 269, rfl⟩
abbrev main_call3_v10 : Ref sig .tc := ⟨.hbm, 270, rfl⟩
abbrev main_call3_v11 : Ref sig .tc := ⟨.hbm, 271, rfl⟩
abbrev main_call3_v12 : Ref sig .tc := ⟨.hbm, 272, rfl⟩
abbrev main_call3_v13 : Ref sig .tc := ⟨.hbm, 273, rfl⟩
abbrev main_call3_v14 : Ref sig .tc := ⟨.hbm, 274, rfl⟩
abbrev main_v169 : Ref sig .tc := ⟨.hbm, 275, rfl⟩
abbrev main_v170 : Ref sig .tc := ⟨.hbm, 276, rfl⟩
abbrev main_cst_26 : Ref sig .tc := ⟨.hbm, 277, rfl⟩
abbrev main_v171 : Ref sig .tc := ⟨.hbm, 278, rfl⟩
abbrev main_v172 : Ref sig .tc := ⟨.hbm, 279, rfl⟩
abbrev main_cst_27 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_cst_28 : Ref sig .tc := ⟨.hbm, 284, rfl⟩
abbrev main_v176 : Ref sig .tc := ⟨.hbm, 285, rfl⟩
abbrev main_v177 : Ref sig .tc := ⟨.hbm, 286, rfl⟩
abbrev main_cst_29 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_cst_30 : Ref sig .tc := ⟨.hbm, 299, rfl⟩
abbrev main_v189 : Ref sig .tc := ⟨.hbm, 300, rfl⟩
abbrev main_v190 : Ref sig .tc := ⟨.hbm, 301, rfl⟩
abbrev main_cst_31 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_cst_32 : Ref sig .tc := ⟨.hbm, 306, rfl⟩
abbrev main_v194 : Ref sig .tc := ⟨.hbm, 307, rfl⟩
abbrev main_v195 : Ref sig .tc := ⟨.hbm, 308, rfl⟩
abbrev main_cst_33 : Ref sig .tc := ⟨.hbm, 309, rfl⟩
abbrev main_v196 : Ref sig .tc := ⟨.hbm, 310, rfl⟩
abbrev main_v197 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_v215 : Ref sig .tc := ⟨.hbm, 329, rfl⟩
abbrev main_v216 : Ref sig .tc := ⟨.hbm, 330, rfl⟩
abbrev main_v217 : Ref sig .tc := ⟨.hbm, 331, rfl⟩
abbrev main_v218 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_v222 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_v235 : Ref sig .tc := ⟨.hbm, 349, rfl⟩
abbrev main_v236 : Ref sig .tc := ⟨.hbm, 350, rfl⟩
abbrev main_v237 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_v241 : Ref sig .tc := ⟨.hbm, 355, rfl⟩
abbrev main_v242 : Ref sig .tc := ⟨.hbm, 356, rfl⟩
abbrev main_v243 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_v248 : Ref sig .tc := ⟨.hbm, 362, rfl⟩
abbrev main_v249 : Ref sig .tc := ⟨.hbm, 363, rfl⟩
abbrev main_v250 : Ref sig .tc := ⟨.hbm, 364, rfl⟩
abbrev main_v251 : Ref sig .tc := ⟨.hbm, 365, rfl⟩
abbrev main_v252 : Ref sig .tc := ⟨.hbm, 366, rfl⟩
abbrev main_v253 : Ref sig .tc := ⟨.hbm, 367, rfl⟩
abbrev main_v254 : Ref sig .tc := ⟨.hbm, 368, rfl⟩
abbrev main_v255 : Ref sig .tc := ⟨.hbm, 369, rfl⟩
abbrev main_v256 : Ref sig .tc := ⟨.hbm, 370, rfl⟩
abbrev main_v257 : Ref sig .tc := ⟨.hbm, 371, rfl⟩
abbrev main_v258 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_v262 : Ref sig .tc := ⟨.hbm, 376, rfl⟩
abbrev main_cst_34 : Ref sig .tc := ⟨.hbm, 377, rfl⟩
abbrev main_v263 : Ref sig .tc := ⟨.hbm, 378, rfl⟩
abbrev main_v264 : Ref sig .tc := ⟨.hbm, 379, rfl⟩
abbrev main_v265 : Ref sig .tc := ⟨.hbm, 380, rfl⟩
abbrev main_v266 : Ref sig .tc := ⟨.hbm, 381, rfl⟩
abbrev main_v267 : Ref sig .tc := ⟨.hbm, 382, rfl⟩
abbrev main_v268 : Ref sig .tc := ⟨.hbm, 383, rfl⟩
abbrev main_v269 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev main_v273 : Ref sig .tc := ⟨.hbm, 388, rfl⟩
abbrev main_v274 : Ref sig .tc := ⟨.hbm, 389, rfl⟩
abbrev main_v275 : Ref sig .tc := ⟨.hbm, 390, rfl⟩
abbrev main_v276 : Ref sig .tc := ⟨.hbm, 391, rfl⟩
abbrev main_v277 : Ref sig .tc := ⟨.hbm, 392, rfl⟩
abbrev main_v278 : Ref sig .tc := ⟨.hbm, 393, rfl⟩
abbrev main_v279 : Ref sig .tc := ⟨.hbm, 394, rfl⟩
abbrev main_v280 : Ref sig .tc := ⟨.hbm, 395, rfl⟩
abbrev main_v281 : Ref sig .tc := ⟨.hbm, 396, rfl⟩
abbrev main_v282 : Ref sig .tc := ⟨.hbm, 397, rfl⟩
abbrev main_v283 : Ref sig .tc := ⟨.hbm, 398, rfl⟩
abbrev main_v284 : Ref sig .tc := ⟨.hbm, 399, rfl⟩
abbrev main_v285 : Ref sig .tc := ⟨.hbm, 400, rfl⟩
abbrev main_v286 : Ref sig .tc := ⟨.hbm, 401, rfl⟩
abbrev main_v287 : Ref sig .tc := ⟨.hbm, 402, rfl⟩
abbrev main_v288 : Ref sig .tc := ⟨.hbm, 403, rfl⟩
abbrev main_v289 : Ref sig .tc := ⟨.hbm, 404, rfl⟩
abbrev main_v290 : Ref sig .tc := ⟨.hbm, 405, rfl⟩
abbrev main_v291 : Ref sig .tc := ⟨.hbm, 406, rfl⟩
abbrev main_v292 : Ref sig .tc := ⟨.hbm, 407, rfl⟩
abbrev main_v293 : Ref sig .tc := ⟨.hbm, 408, rfl⟩

abbrev nD : Nat := 1
abbrev τ : Topo := Topo.v7x

variable {F : FTy → Type} [FloatOps F]
-- ==== Proof.Finite.lean ====
module

public import Idealize.ShloMosaic.Lib.Pointwise

@[expose] public section

noncomputable section

/-! A precondition that says an array's absolute values are below infinity makes its entries real numbers. -/

namespace Cert.Proof.Finite

open Idealize.ShloMosaic

theorem top : Ideal.ofBits .f32 0x7F800000#32 = ⊤ := by simp [Ideal.ofBits, Ideal.ieee]

theorem real_of_lt {s : Shape} (a : FVec Ideal s .f32) (b : FVec Ideal s .f32) (hb : ∀ i, b i = Ideal.ofBits .f32 0x7F800000#32)
    (h : cmpf .olt (Host.absf a) b = fun _ => 1#1) (i : s.Idx) : a i = ((a i : EReal).toReal : EReal) := by
  have e : Ideal.cmp .olt (max (a i : EReal) (-(a i : EReal))) (b i) = 1#1 := congrFun h i
  rw [hb, top] at e
  revert e
  generalize (a i : EReal) = x
  intro e
  induction x using EReal.rec with
  | bot => exact absurd e (by simp [Ideal.cmp])
  | coe r => rfl
  | top => exact absurd e (by simp [Ideal.cmp])

/-- An extended real that is a real number; sums and products of such are such. -/
def Re (a : EReal) : Prop := ∃ r : ℝ, a = (r : EReal)

theorem Re.mul {a b : EReal} : Re a → Re b → Re (a * b) := fun ⟨x, hx⟩ ⟨y, hy⟩ => ⟨x * y, by rw [hx, hy, EReal.coe_mul]⟩
theorem Re.add {a b : EReal} : Re a → Re b → Re (a + b) := fun ⟨x, hx⟩ ⟨y, hy⟩ => ⟨x + y, by rw [hx, hy, EReal.coe_add]⟩
theorem Re.sub {a b : EReal} : Re a → Re b → Re (a - b) := fun ⟨x, hx⟩ ⟨y, hy⟩ => ⟨x - y, by rw [hx, hy, EReal.coe_sub]⟩
theorem Re.max {a b : EReal} (ha : Re a) (hb : Re b) : Re (max a b) := by
  rcases max_choice a b with h | h <;> rw [h]
  · exact ha
  · exact hb
theorem Re.sum {ι : Type*} (s : Finset ι) (f : ι → EReal) (h : ∀ i, Re (f i)) : Re (∑ i ∈ s, f i) := by
  classical
  induction s using Finset.induction_on with
  | empty => exact ⟨0, by simp⟩
  | insert a s ha ih => rw [Finset.sum_insert ha]; exact (h a).add ih

theorem re_of_lt {s : Shape} (a : FVec Ideal s .f32) (b : FVec Ideal s .f32) (hb : ∀ i, b i = Ideal.ofBits .f32 0x7F800000#32)
    (h : cmpf .olt (Host.absf a) b = fun _ => 1#1) (i : s.Idx) : Re (a i) := ⟨_, real_of_lt a b hb h i⟩

end Cert.Proof.Finite
-- ==== Proof.AttnMath.lean ====
module

public import Idealize.ShloMosaic.PureOps
public import Idealize.ShloMosaic.Lib.Pointwise

@[expose] public section

noncomputable section

/-! The softmax's backward pass over the reals, row by row: the weights from the saved logarithm of the row's sum, and
    the scores' gradient from the saved output, are the weights and the gradient of the plain softmax. -/

namespace Cert.Proof.AttnMath

open Idealize.ShloMosaic

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem negInf : Ideal.ofBits .f32 0xFF800000#32 = ⊥ := by
  simp [Ideal.ofBits, Ideal.ieee]

theorem eighth : Ideal.ofBits .f32 0x3E000000#32 = ((1 / 8 : ℝ) : EReal) := by
  simp [Ideal.ofBits, Ideal.ieee]
  refine (EReal.coe_mul _ _).symm.trans ?_
  norm_num

/-- The largest of finitely many reals, not below −∞, is real. -/
theorem fold_max_real {J : Type} [Fintype J] [Nonempty J] (r : J → ℝ) :
    ∃ M : ℝ, max ⊥ (Finset.univ.fold max ⊥ fun j => (r j : EReal)) = (M : EReal) := by
  obtain ⟨j, -, h⟩ := Finset.exists_mem_eq_sup (Finset.univ : Finset J) Finset.univ_nonempty fun j => (r j : EReal)
  refine ⟨r j, ?_⟩
  rw [max_eq_right bot_le]
  exact h

variable {J D : Type} [Fintype J] [Fintype D] [Nonempty J]

/-- A row's sum of exponentials is positive. -/
theorem sumExp_pos (s : J → ℝ) (M : ℝ) : 0 < ∑ j, Real.exp (s j - M) :=
  Finset.sum_pos (fun _ _ => Real.exp_pos _) Finset.univ_nonempty

theorem sumExp_coe (s : J → ℝ) (M : ℝ) :
    ∑ j, Ideal.exp ((s j : EReal) - (M : EReal)) = ((∑ j, Real.exp (s j - M) : ℝ) : EReal) := by
  rw [← coe_sum]
  exact Finset.sum_congr rfl fun j _ => by rw [← EReal.coe_sub, Ideal.exp_coe]

/-- The softmax's weight of entry `j`. -/
def weight (s : J → ℝ) (j : J) : ℝ := Real.exp (s j) / ∑ j', Real.exp (s j')

theorem weight_shift (s : J → ℝ) (M : ℝ) (j : J) : Real.exp (s j - M) / ∑ j', Real.exp (s j' - M) = weight s j := by
  have h : ∀ j', Real.exp (s j' - M) = Real.exp (s j') * Real.exp (-M) := fun j' => by rw [← Real.exp_add, sub_eq_add_neg]
  simp only [weight, h, ← Finset.sum_mul]
  exact mul_div_mul_right _ _ (Real.exp_pos _).ne'

/-- The kernel's weight: the exponential of the score less the saved logarithm. -/
theorem saved_weight (s : J → ℝ) (M : ℝ) (j : J) :
    Ideal.exp ((s j : EReal) - ((M : EReal) + Ideal.log (∑ j', Ideal.exp ((s j' : EReal) - (M : EReal))))) = (weight s j : EReal) := by
  have hp := sumExp_pos s M
  rw [sumExp_coe, Ideal.log_coe, if_neg hp.not_ge, ← EReal.coe_add, ← EReal.coe_sub, Ideal.exp_coe, ← sub_sub, Real.exp_sub,
    Real.exp_log hp, weight_shift]

/-- The plain softmax's weight. -/
theorem plain_weight (s : J → ℝ) (M : ℝ) (j : J) :
    Ideal.div (Ideal.exp ((s j : EReal) - (M : EReal))) (∑ j', Ideal.exp ((s j' : EReal) - (M : EReal))) = (weight s j : EReal) := by
  have hp := sumExp_pos s M
  rw [sumExp_coe, Ideal.div_coe hp.ne', ← EReal.coe_sub, Ideal.exp_coe, ← EReal.coe_mul, mul_one_div, weight_shift]

/-- The scores' gradient of a row whose weights' gradient is `x`. -/
def grad (s x : J → ℝ) (j : J) : ℝ := weight s j * (x j - ∑ j', weight s j' * x j')

/-- The kernel's way: the weights' gradient less the product of the saved output with the cotangent. -/
theorem saved_grad (s : J → ℝ) (v : J → D → ℝ) (ct : D → ℝ) (M : ℝ) (j : J) :
    (weight s j : EReal) * ((∑ d, (ct d : EReal) * (v j d : EReal)) - ∑ d, (ct d : EReal)
      * Ideal.div (∑ j', Ideal.exp ((s j' : EReal) - (M : EReal)) * (v j' d : EReal)) (∑ j', Ideal.exp ((s j' : EReal) - (M : EReal))))
      = (grad s (fun j => ∑ d, ct d * v j d) j : EReal) := by
  have hp := sumExp_pos s M
  have h1 : ∀ d, Ideal.div (∑ j', Ideal.exp ((s j' : EReal) - (M : EReal)) * (v j' d : EReal)) (∑ j', Ideal.exp ((s j' : EReal) - (M : EReal)))
      = ((∑ j', weight s j' * v j' d : ℝ) : EReal) := fun d => by
    rw [sumExp_coe, Ideal.div_coe hp.ne']
    simp only [← EReal.coe_sub, Ideal.exp_coe, ← EReal.coe_mul, coe_sum]
    rw [Finset.sum_mul]
    refine congrArg _ (Finset.sum_congr rfl fun j' _ => ?_)
    rw [← weight_shift s M j']; ring
  simp only [h1]
  simp only [← EReal.coe_mul, coe_sum, ← EReal.coe_sub]
  refine congrArg _ ?_
  unfold grad
  refine congrArg _ (congrArg _ ?_)
  simp only [Finset.mul_sum]
  rw [Finset.sum_comm]
  exact Finset.sum_congr rfl fun _ _ => Finset.sum_congr rfl fun _ _ => by ring

/-- The plain way: through the quotient and the row's sum. -/
theorem plain_grad (s x : J → ℝ) (M : ℝ) (j : J) :
    (Ideal.div (x j : EReal) (∑ j', Ideal.exp ((s j' : EReal) - (M : EReal)))
      + -∑ j', (x j' : EReal) * Ideal.div 1 ((∑ j', Ideal.exp ((s j' : EReal) - (M : EReal))) * (∑ j', Ideal.exp ((s j' : EReal) - (M : EReal))))
        * Ideal.exp ((s j' : EReal) - (M : EReal))) * Ideal.exp ((s j : EReal) - (M : EReal)) = (grad s x j : EReal) := by
  have hp := sumExp_pos s M
  rw [sumExp_coe, ← EReal.coe_mul, Ideal.div_coe hp.ne', Ideal.div_coe (mul_pos hp hp).ne', ← EReal.coe_one]
  simp only [← EReal.coe_sub, Ideal.exp_coe, ← EReal.coe_mul, coe_sum, ← EReal.coe_neg, ← EReal.coe_add]
  refine congrArg _ ?_
  unfold grad
  simp only [← weight_shift s M]
  set L := ∑ j', Real.exp (s j' - M)
  have hL : L ≠ 0 := hp.ne'
  have h2 : ∀ j', x j' * (1 * (1 / (L * L))) * Real.exp (s j' - M) = (Real.exp (s j' - M) / L * x j') / L := fun j' => by
    field_simp
  simp only [h2, ← Finset.sum_div]
  field_simp
  ring

end Cert.Proof.AttnMath
-- ==== Proof.NormMath.lean ====
module

public import Idealize.ShloMosaic.PureOps
public import Idealize.ShloMosaic.Lib.Pointwise
public import proofs.«01_k».proof.Proof.AttnMath
public import proofs.«01_k».proof.Proof.Finite

@[expose] public section

noncomputable section

/-! The gradient of a row's root mean square norm: the kernel's form, which takes the mean of the gradient times the normalised
    row, and the derivative through the sum of squares, the reciprocal square root and the product. -/

namespace Cert.Proof.NormMath

open Idealize.ShloMosaic Cert.Proof.AttnMath

/-- The number of columns, the small number added to the mean square, and minus one half. -/
def W : EReal := Ideal.ofBits .f32 0x44800000#32
def E : EReal := Ideal.ofBits .f32 0x358637BD#32
def H : EReal := Ideal.ofBits .f32 0xBF000000#32
def O : EReal := Ideal.ofBits .f32 0x3F800000#32

def eR : ℝ := (E : EReal).toReal

theorem W_real : W = ((1024 : ℝ) : EReal) := by
  simp [W, Ideal.ofBits, Ideal.ieee]
  refine (EReal.coe_mul _ _).symm.trans ?_
  norm_num

theorem H_real : H = ((-(1 / 2) : ℝ) : EReal) := by
  simp [H, Ideal.ofBits, Ideal.ieee]
  refine (EReal.coe_mul _ _).symm.trans ?_
  norm_num

theorem O_real : O = ((1 : ℝ) : EReal) := by
  simp [O, Ideal.ofBits, Ideal.ieee]
  refine (EReal.coe_mul _ _).symm.trans ?_
  norm_num

theorem E_real : E = (eR : EReal) ∧ 0 < eR := by
  have h : ∃ r : ℝ, E = (r : EReal) ∧ 0 < r := by
    simp only [E, Ideal.ofBits, Ideal.ieee]
    refine ⟨_, rfl, ?_⟩
    simp
  obtain ⟨r, h, hr⟩ := h
  unfold eR
  rw [h]
  exact ⟨rfl, hr⟩

/-- The mean square of a row plus the small number, and the factor of the norm. -/
def msq {n : ℕ} (x : Fin n → EReal) : EReal := Ideal.div (∑ i, x i * x i) W + E
def rs {n : ℕ} (x : Fin n → EReal) : EReal := Ideal.rsqrt (msq x)

def msqR {n : ℕ} (x : Fin n → ℝ) : ℝ := (∑ i, x i * x i) / 1024 + eR
def rsR {n : ℕ} (x : Fin n → ℝ) : ℝ := (Real.sqrt (msqR x))⁻¹

variable {n : ℕ} (x D : Fin n → ℝ)

theorem div_real (a b : ℝ) (hb : b ≠ 0) : Ideal.div (a : EReal) (b : EReal) = ((a / b : ℝ) : EReal) := by
  rw [Ideal.div_coe hb, ← EReal.coe_mul, mul_one_div]

theorem msqR_pos : 0 < msqR x :=
  add_pos_of_nonneg_of_pos (div_nonneg (Finset.sum_nonneg fun i _ => mul_self_nonneg _) (by norm_num)) E_real.2

theorem msq_coe : msq (fun i => (x i : EReal)) = (msqR x : EReal) := by
  unfold msq msqR
  rw [W_real, E_real.1, EReal.coe_add, ← div_real _ _ (by norm_num), ← coe_sum]
  simp only [EReal.coe_mul]

theorem rs_coe : rs (fun i => (x i : EReal)) = (rsR x : EReal) := by
  have h := msqR_pos x
  rw [rs, msq_coe, Ideal.rsqrt_coe, if_neg h.le.not_gt, if_neg h.ne', rsR]

/-- The kernel's form of the row's gradient, and the derivative's. -/
def kern {n : ℕ} (x D : Fin n → EReal) (b : EReal) (k : Fin n) : EReal :=
  b + rs x * (D k - x k * rs x * Ideal.div (∑ i, D i * (x i * rs x)) W)
def half {n : ℕ} (x D : Fin n → EReal) : EReal := Ideal.div ((∑ i, x i * D i) * (H * Ideal.div (rs x) (msq x))) W
def plain {n : ℕ} (x D : Fin n → EReal) (b : EReal) (k : Fin n) : EReal := b + D k * rs x + x k * half x D + half x D * x k

theorem plain_eq (b : EReal) (k : Fin n) :
    plain (fun i => (x i : EReal)) (fun i => (D i : EReal)) b k = kern (fun i => (x i : EReal)) (fun i => (D i : EReal)) b k := by
  have hp := msqR_pos x
  have hs : Real.sqrt (msqR x) ^ 2 = msqR x := Real.sq_sqrt hp.le
  have hr : 0 < Real.sqrt (msqR x) := Real.sqrt_pos.mpr hp
  unfold plain kern half
  rw [rs_coe, msq_coe, W_real, H_real, div_real _ _ hp.ne']
  simp only [← EReal.coe_mul, coe_sum]
  rw [div_real _ _ (by norm_num), div_real _ _ (by norm_num)]
  simp only [← EReal.coe_mul, ← EReal.coe_sub]
  rw [add_assoc, add_assoc, ← EReal.coe_add, ← EReal.coe_add]
  refine congrArg (b + ·) ((EReal.coe_eq_coe_iff).mpr ?_)
  have e : ∑ i, D i * (x i * rsR x) = (∑ i, x i * D i) * rsR x := by
    rw [Finset.sum_mul]; exact Finset.sum_congr rfl fun i _ => by ring
  rw [e]
  generalize ∑ i, x i * D i = S
  have hm : rsR x / msqR x = rsR x * rsR x * rsR x := by
    unfold rsR
    rw [← hs]
    generalize Real.sqrt (msqR x) = q at *
    rw [Real.sqrt_sq hr.le]
    field_simp
  rw [hm]
  ring

/-- The same at entries known to be real. -/
theorem plain_kern {n : ℕ} (x D : Fin n → EReal) (b : EReal) (k : Fin n) (hx : ∀ i, Finite.Re (x i)) (hD : ∀ i, Finite.Re (D i)) :
    plain x D b k = kern x D b k := by
  choose x' hx using hx
  choose D' hD using hD
  obtain rfl : x = fun i => (x' i : EReal) := funext hx
  obtain rfl : D = fun i => (D' i : EReal) := funext hD
  exact plain_eq x' D' b k

theorem O_re : Finite.Re O := ⟨1, O_real⟩

theorem rs_re {n : ℕ} (x : Fin n → EReal) (hx : ∀ i, Finite.Re (x i)) : Finite.Re (rs x) := by
  choose x' hx using hx
  obtain rfl : x = fun i => (x' i : EReal) := funext hx
  exact ⟨_, rs_coe x'⟩

end Cert.Proof.NormMath
-- ==== Proof.QkMath.lean ====
module

public import Idealize.ShloMosaic.PureOps
public import Idealize.ShloMosaic.Lib.Pointwise
public import proofs.«01_k».proof.Proof.NormMath

@[expose] public section

noncomputable section

/-! Two heads of 64 lanes side by side in a row of 128: the rotation by position turned back, and the gradient of each head's root
    mean square norm with the mean taken by a product with a block diagonal matrix. -/

namespace Cert.Proof.QkMath

open Idealize.ShloMosaic Cert.Proof.AttnMath Cert.Proof.Finite
open Cert.Proof.NormMath (E H eR E_real H_real div_real)

/-- The number of lanes of a head, its reciprocal, and minus one. -/
def W : EReal := Ideal.ofBits .f32 0x42800000#32
def C : EReal := Ideal.ofBits .f32 0x3C800000#32
def M : EReal := Ideal.ofBits .f32 0xBF800000#32

theorem W_real : W = ((64 : ℝ) : EReal) := by
  simp [W, Ideal.ofBits, Ideal.ieee]
  refine (EReal.coe_mul _ _).symm.trans ?_
  norm_num

theorem C_real : C = ((1 / 64 : ℝ) : EReal) := by
  simp [C, Ideal.ofBits, Ideal.ieee]
  refine (EReal.coe_mul _ _).symm.trans ?_
  norm_num

theorem M_real : M = -1 := by
  simp [M, Ideal.ofBits, Ideal.ieee]
  refine (EReal.coe_mul _ _).symm.trans ?_
  norm_num

/-- Lane `j` of head `h`. -/
def lane (h : Fin 2) (j : Fin 64) : Fin 128 := ⟨h.val * 64 + j.val, by omega⟩

theorem lane_split (l : Fin 128) : ∃ h j, l = lane h j :=
  ⟨⟨l.val / 64, by omega⟩, ⟨l.val % 64, by omega⟩, Fin.ext (by show l.val = l.val / 64 * 64 + l.val % 64; omega)⟩

/-- The block diagonal matrix, and the mean over a lane's head by a matrix `B`: once of the entries, once of what their rounding left. -/
def bd (k l : Fin 128) : EReal := if k.val / 64 = l.val / 64 then C else 0
def hm (B : Fin 128 → Fin 128 → EReal) (z : Fin 128 → EReal) (l : Fin 128) : EReal := (∑ k, z k * B k l) + ∑ k, (z k - z k) * B k l

theorem hm_real (z : Fin 128 → ℝ) (h : Fin 2) (j : Fin 64) :
    hm bd (fun k => (z k : EReal)) (lane h j) = (((∑ i, z (lane h i)) / 64 : ℝ) : EReal) := by
  have e0 : ∑ k, ((z k : EReal) - (z k : EReal)) * bd k (lane h j) = 0 := Finset.sum_eq_zero fun k _ => by
    rw [← EReal.coe_sub, sub_self, EReal.coe_zero, zero_mul]
  have e1 : ∀ k, (z k : EReal) * bd k (lane h j) = ((z k * (if k.val / 64 = h.val then 1 / 64 else 0) : ℝ) : EReal) := fun k => by
    have : (lane h j).val / 64 = h.val := by show (h.val * 64 + j.val) / 64 = h.val; omega
    unfold bd
    rw [this, EReal.coe_mul]
    split_ifs
    · rw [C_real]
    · rw [EReal.coe_zero]
  unfold hm
  rw [e0, add_zero]
  simp only [e1]
  rw [coe_sum]
  refine EReal.coe_eq_coe_iff.mpr ?_
  rw [Fin.sum_univ_tiles 2 64 rfl, Fin.sum_univ_two, Finset.sum_div]
  have key : ∀ (h' : Fin 2), (∑ k : Fin 64, z ⟨h'.val * 64 + k.val, by omega⟩ * (if (h'.val * 64 + k.val) / 64 = h.val then 1 / 64 else 0 : ℝ))
      = if h' = h then ∑ i : Fin 64, z (lane h i) / 64 else 0 := fun h' => by
    have e : ∀ k : Fin 64, (h'.val * 64 + k.val) / 64 = h'.val := fun k => by omega
    simp only [e]
    split_ifs with hh hh' hh'
    · subst hh'
      exact Finset.sum_congr rfl fun k _ => mul_one_div _ _
    · exact absurd (Fin.ext hh) hh'
    · exact absurd (congrArg Fin.val hh') hh
    · exact Finset.sum_eq_zero fun k _ => mul_zero _
  refine (congrArg₂ (· + ·) (key 0) (key 1)).trans ?_
  fin_cases h <;> simp

/-- The head's mean square plus the small number and the norm's factor: over the two heads' lanes, and over one head's. -/
def rk (B : Fin 128 → Fin 128 → EReal) (x : Fin 128 → EReal) (l : Fin 128) : EReal := Ideal.rsqrt (hm B (fun k => x k * x k) l + E)
def msq (x : Fin 64 → EReal) : EReal := Ideal.div (∑ i, x i * x i) W + E
def rs (x : Fin 64 → EReal) : EReal := Ideal.rsqrt (msq x)

/-- The gradient of the norm, in the kernel's form and as the derivative. -/
def kern (B : Fin 128 → Fin 128 → EReal) (x D : Fin 128 → EReal) (l : Fin 128) : EReal :=
  rk B x l * (D l - x l * rk B x l * hm B (fun k => D k * (x k * rk B x k)) l)
def half (x D : Fin 64 → EReal) : EReal := Ideal.div ((∑ i, x i * D i) * (H * Ideal.div (rs x) (msq x))) W
def plain (x D : Fin 64 → EReal) (j : Fin 64) : EReal := D j * rs x + x j * half x D + half x D * x j

def msqR (x : Fin 64 → ℝ) : ℝ := (∑ i, x i * x i) / 64 + eR
def rsR (x : Fin 64 → ℝ) : ℝ := (Real.sqrt (msqR x))⁻¹

section Real

variable (x D : Fin 128 → ℝ) (y : Fin 64 → ℝ)

theorem msqR_pos : 0 < msqR y :=
  add_pos_of_nonneg_of_pos (div_nonneg (Finset.sum_nonneg fun i _ => mul_self_nonneg _) (by norm_num)) E_real.2

theorem msq_coe : msq (fun i => (y i : EReal)) = (msqR y : EReal) := by
  unfold msq msqR
  rw [W_real, E_real.1, EReal.coe_add, ← div_real _ _ (by norm_num), ← coe_sum]
  simp only [EReal.coe_mul]

theorem rsqrt_pos (a : ℝ) (h : 0 < a) : Ideal.rsqrt (a : EReal) = (((Real.sqrt a)⁻¹ : ℝ) : EReal) := by
  rw [Ideal.rsqrt_coe, if_neg h.le.not_gt, if_neg h.ne']

theorem rs_coe : rs (fun i => (y i : EReal)) = (rsR y : EReal) := by
  rw [rs, msq_coe, rsqrt_pos _ (msqR_pos y), rsR]

theorem rk_coe (h : Fin 2) (j : Fin 64) : rk bd (fun k => (x k : EReal)) (lane h j) = (rsR (fun i => x (lane h i)) : EReal) := by
  unfold rk
  simp only [← EReal.coe_mul]
  rw [hm_real, E_real.1, ← EReal.coe_add]
  exact rsqrt_pos _ (msqR_pos fun i => x (lane h i))

theorem rk_rs (h : Fin 2) (j : Fin 64) : rk bd (fun k => (x k : EReal)) (lane h j) = rs (fun i => (x (lane h i) : EReal)) :=
  (rk_coe x h j).trans (rs_coe fun i => x (lane h i)).symm

theorem kern_coe (h : Fin 2) (j : Fin 64) :
    kern bd (fun k => (x k : EReal)) (fun k => (D k : EReal)) (lane h j) = plain (fun i => (x (lane h i) : EReal)) (fun i => (D (lane h i) : EReal)) j := by
  have hp := msqR_pos fun i => x (lane h i)
  have hr : 0 < Real.sqrt (msqR fun i => x (lane h i)) := Real.sqrt_pos.mpr hp
  have hs : Real.sqrt (msqR fun i => x (lane h i)) ^ 2 = msqR fun i => x (lane h i) := Real.sq_sqrt hp.le
  have ek : ∀ k, rk bd (fun k => (x k : EReal)) k = ((rk bd (fun k => (x k : EReal)) k).toReal : EReal) := fun k => by
    obtain ⟨h', j', rfl⟩ := lane_split k
    rw [rk_coe]
    rfl
  have em : hm bd (fun k => (D k : EReal) * ((x k : EReal) * rk bd (fun k => (x k : EReal)) k)) (lane h j)
      = (((∑ i, x (lane h i) * D (lane h i)) * rsR (fun i => x (lane h i)) / 64 : ℝ) : EReal) := by
    have e : (fun k => (D k : EReal) * ((x k : EReal) * rk bd (fun k => (x k : EReal)) k))
        = fun k => ((D k * (x k * (rk bd (fun k => (x k : EReal)) k).toReal) : ℝ) : EReal) := funext fun k => by
      rw [EReal.coe_mul, EReal.coe_mul, ← ek]
    rw [e, hm_real]
    refine congrArg (fun r : ℝ => ((r / 64 : ℝ) : EReal)) ?_
    rw [Finset.sum_mul]
    refine Finset.sum_congr rfl fun i _ => ?_
    rw [rk_coe, EReal.toReal_coe]
    ring
  unfold kern plain half
  rw [em, rk_coe, rs_coe fun i => x (lane h i), msq_coe fun i => x (lane h i), W_real, H_real, div_real _ _ hp.ne']
  simp only [← EReal.coe_mul, coe_sum]
  rw [div_real _ _ (by norm_num)]
  simp only [← EReal.coe_mul, ← EReal.coe_sub, ← EReal.coe_add]
  refine EReal.coe_eq_coe_iff.mpr ?_
  generalize ∑ i, x (lane h i) * D (lane h i) = S
  have hm : rsR (fun i => x (lane h i)) / msqR (fun i => x (lane h i))
      = rsR (fun i => x (lane h i)) * rsR (fun i => x (lane h i)) * rsR (fun i => x (lane h i)) := by
    unfold rsR
    rw [← hs]
    generalize Real.sqrt (msqR fun i => x (lane h i)) = q at *
    rw [Real.sqrt_sq hr.le]
    field_simp
  rw [hm]
  ring

end Real

/-- The two forms agree at entries known to be real. -/
theorem kern_plain (x D : Fin 128 → EReal) (h : Fin 2) (j : Fin 64) (hx : ∀ k, Re (x k)) (hD : ∀ k, Re (D k)) :
    kern bd x D (lane h j) = plain (fun i => x (lane h i)) (fun i => D (lane h i)) j := by
  choose x' hx using hx
  choose D' hD using hD
  obtain rfl : x = fun i => (x' i : EReal) := funext hx
  obtain rfl : D = fun i => (D' i : EReal) := funext hD
  exact kern_coe x' D' h j

theorem rk_eq (x : Fin 128 → EReal) (h : Fin 2) (j : Fin 64) (hx : ∀ k, Re (x k)) : rk bd x (lane h j) = rs fun i => x (lane h i) := by
  choose x' hx using hx
  obtain rfl : x = fun i => (x' i : EReal) := funext hx
  exact rk_rs x' h j

/-- The lane from which a row turned right by `n` lanes takes its entry. -/
def roll (n : ℕ) (l : Fin 128) : Fin 128 := ⟨(l.val + 128 - n) % 128, Nat.mod_lt _ (by decide)⟩

/-- A row turned back by the angles of its lanes: the kernel's form, of the row and of its copies turned by `n` and `n'` lanes, and one
    head's as the derivative of the rotation gives it, in pairs of lanes `w` apart. -/
def ropeK (n n' : ℕ) (z c a b : Fin 128 → EReal) (l : Fin 128) : EReal := z l * c l + M * (z (roll n l) * a l + z (roll n' l) * b l)
def unrope (w : ℕ) (z c s : Fin 64 → EReal) (j : Fin 64) : EReal :=
  if j.val % (2 * w) < w then z j * c j + z ⟨(j.val + w) % 64, Nat.mod_lt _ (by decide)⟩ * s j
  else z j * c j + -z ⟨(j.val + 64 - w) % 64, Nat.mod_lt _ (by decide)⟩ * s j

theorem rope_eq (w n : ℕ) (hw : w = 16 ∧ n = 112 ∨ w = 32 ∧ n = 96) (z c a b : Fin 128 → EReal) (c' s : Fin 64 → EReal)
    (hc : ∀ h j, c (lane h j) = c' j) (ha : ∀ h j, a (lane h j) = if j.val % (2 * w) < w then -s j else 0)
    (hb : ∀ h j, b (lane h j) = if j.val % (2 * w) < w then 0 else s j) (h : Fin 2) (j : Fin 64) :
    ropeK n w z c a b (lane h j) = unrope w (fun i => z (lane h i)) c' s j := by
  unfold ropeK unrope
  rw [M_real, hc, ha, hb]
  by_cases hj : j.val % (2 * w) < w
  · simp only [if_pos hj]
    have e : roll n (lane h j) = lane h ⟨(j.val + w) % 64, Nat.mod_lt _ (by decide)⟩ := Fin.ext (by
      show (h.val * 64 + j.val + 128 - n) % 128 = h.val * 64 + (j.val + w) % 64
      rcases hw with ⟨rfl, rfl⟩ | ⟨rfl, rfl⟩ <;> omega)
    rw [e, mul_zero, add_zero, mul_neg, neg_mul_neg, one_mul]
  · simp only [if_neg hj]
    have e : roll w (lane h j) = lane h ⟨(j.val + 64 - w) % 64, Nat.mod_lt _ (by decide)⟩ := Fin.ext (by
      show (h.val * 64 + j.val + 128 - w) % 128 = h.val * 64 + (j.val + 64 - w) % 64
      rcases hw with ⟨rfl, rfl⟩ | ⟨rfl, rfl⟩ <;> omega)
    rw [e, mul_zero, zero_add, neg_mul, one_mul, neg_mul]

theorem unrope_re (w : ℕ) (z c s : Fin 64 → EReal) (hz : ∀ j, Re (z j)) (hc : ∀ j, Re (c j)) (hs : ∀ j, Re (s j)) (j : Fin 64) : Re (unrope w z c s j) := by
  have neg : ∀ a, Re a → Re (-a) := fun a ⟨r, h⟩ => ⟨-r, by rw [h, EReal.coe_neg]⟩
  unfold unrope
  split_ifs
  · exact ((hz _).mul (hc _)).add ((hz _).mul (hs _))
  · exact ((hz _).mul (hc _)).add ((neg _ (hz _)).mul (hs _))

/-- Two neighbouring heads' lanes as one row, of eight heads and of two. -/
def pair8 (z : Fin 8 → Fin 64 → EReal) (k : Fin 4) (l : Fin 128) : EReal := z ⟨2 * k.val + l.val / 64, by omega⟩ ⟨l.val % 64, by omega⟩
def pair2 (z : Fin 2 → Fin 64 → EReal) (l : Fin 128) : EReal := z ⟨l.val / 64, by omega⟩ ⟨l.val % 64, by omega⟩

theorem pair8_lane (z : Fin 8 → Fin 64 → EReal) (k : Fin 4) (h : Fin 2) (j : Fin 64) : pair8 z k (lane h j) = z ⟨2 * k.val + h.val, by omega⟩ j := by
  unfold pair8 lane
  congr 1
  · exact Fin.ext (by show 2 * k.val + (h.val * 64 + j.val) / 64 = 2 * k.val + h.val; omega)
  · exact Fin.ext (by show (h.val * 64 + j.val) % 64 = j.val; omega)

theorem pair2_lane (z : Fin 2 → Fin 64 → EReal) (h : Fin 2) (j : Fin 64) : pair2 z (lane h j) = z h j := by
  unfold pair2 lane
  congr 1
  · exact Fin.ext (by show (h.val * 64 + j.val) / 64 = h.val; omega)
  · exact Fin.ext (by show (h.val * 64 + j.val) % 64 = j.val; omega)

/-- The scale of the queries. -/
def S : EReal := Ideal.ofBits .f32 0x3E000000#32

/-- A row's data: the heads' cotangents, the rows before the norm, the two gates' columns, the gains and the six tables' rows. -/
structure Row where
  B : Fin 128 → Fin 128 → EReal
  dq : Fin 8 → Fin 64 → EReal
  dk : Fin 2 → Fin 64 → EReal
  dv : Fin 2 → Fin 64 → EReal
  dqb : Fin 8 → Fin 64 → EReal
  dkb : Fin 2 → Fin 64 → EReal
  dvb : Fin 2 → Fin 64 → EReal
  raw : Fin 640 → EReal
  gt : Fin 2048 → EReal
  gq : Fin 128 → EReal
  gk : Fin 128 → EReal
  ca : Fin 128 → EReal
  la : Fin 128 → EReal
  ha : Fin 128 → EReal
  cb : Fin 128 → EReal
  lb : Fin 128 → EReal
  hb : Fin 128 → EReal

namespace Row

variable (R : Row)

/-- The queries before the norm and the keys, and their turned back cotangents. -/
def rawq (k : Fin 4) (l : Fin 128) : EReal := R.raw ⟨k.val * 128 + l.val, by omega⟩
def rawk (l : Fin 128) : EReal := R.raw ⟨512 + l.val, by omega⟩
def zq (k : Fin 4) (l : Fin 128) : EReal := ropeK 112 16 (fun l => pair8 R.dq k l * S) R.ca R.la R.ha l
def zk (l : Fin 128) : EReal := ropeK 112 16 (pair2 R.dk) R.ca R.la R.ha l

/-- The row's 3584 columns. -/
def col (q : Fin 3584) : EReal :=
  if q.val < 512 then kern R.B (R.rawq ⟨q.val / 128 % 4, by omega⟩) (fun l => R.zq ⟨q.val / 128 % 4, by omega⟩ l * R.gq l) ⟨q.val % 128, by omega⟩
  else if q.val < 640 then kern R.B R.rawk (fun l => R.zk l * R.gk l) ⟨q.val % 128, by omega⟩
  else if q.val < 768 then pair2 R.dv ⟨q.val % 128, by omega⟩
  else if q.val < 1280 then ropeK 96 32 (fun l => pair8 R.dqb ⟨(q.val - 768) / 128 % 4, by omega⟩ l * S) R.cb R.lb R.hb ⟨q.val % 128, by omega⟩
  else if q.val < 1408 then ropeK 96 32 (pair2 R.dkb) R.cb R.lb R.hb ⟨q.val % 128, by omega⟩
  else if q.val < 1536 then pair2 R.dvb ⟨q.val % 128, by omega⟩
  else R.gt ⟨(q.val - 1536) % 2048, by omega⟩

/-- The columns, named by the piece they lie in. -/
theorem col_q (k : Fin 4) (l : Fin 128) (q : Fin 3584) (h : q.val = k.val * 128 + l.val) :
    R.col q = kern R.B (R.rawq k) (fun l => R.zq k l * R.gq l) l := by
  unfold col
  rw [if_pos (by omega), show (⟨q.val / 128 % 4, by omega⟩ : Fin 4) = k from Fin.ext (by show q.val / 128 % 4 = k.val; omega),
    show (⟨q.val % 128, by omega⟩ : Fin 128) = l from Fin.ext (by show q.val % 128 = l.val; omega)]

theorem col_k (l : Fin 128) (q : Fin 3584) (h : q.val = 512 + l.val) : R.col q = kern R.B R.rawk (fun l => R.zk l * R.gk l) l := by
  unfold col
  rw [if_neg (by omega), if_pos (by omega), show (⟨q.val % 128, by omega⟩ : Fin 128) = l from Fin.ext (by show q.val % 128 = l.val; omega)]

theorem col_v (l : Fin 128) (q : Fin 3584) (h : q.val = 640 + l.val) : R.col q = pair2 R.dv l := by
  unfold col
  rw [if_neg (by omega), if_neg (by omega), if_pos (by omega),
    show (⟨q.val % 128, by omega⟩ : Fin 128) = l from Fin.ext (by show q.val % 128 = l.val; omega)]

theorem col_qb (k : Fin 4) (l : Fin 128) (q : Fin 3584) (h : q.val = 768 + (k.val * 128 + l.val)) :
    R.col q = ropeK 96 32 (fun l => pair8 R.dqb k l * S) R.cb R.lb R.hb l := by
  unfold col
  rw [if_neg (by omega), if_neg (by omega), if_neg (by omega), if_pos (by omega),
    show (⟨(q.val - 768) / 128 % 4, by omega⟩ : Fin 4) = k from Fin.ext (by show (q.val - 768) / 128 % 4 = k.val; omega),
    show (⟨q.val % 128, by omega⟩ : Fin 128) = l from Fin.ext (by show q.val % 128 = l.val; omega)]

theorem col_kb (l : Fin 128) (q : Fin 3584) (h : q.val = 1280 + l.val) : R.col q = ropeK 96 32 (pair2 R.dkb) R.cb R.lb R.hb l := by
  unfold col
  rw [if_neg (by omega), if_neg (by omega), if_neg (by omega), if_neg (by omega), if_pos (by omega),
    show (⟨q.val % 128, by omega⟩ : Fin 128) = l from Fin.ext (by show q.val % 128 = l.val; omega)]

theorem col_vb (l : Fin 128) (q : Fin 3584) (h : q.val = 1408 + l.val) : R.col q = pair2 R.dvb l := by
  unfold col
  rw [if_neg (by omega), if_neg (by omega), if_neg (by omega), if_neg (by omega), if_neg (by omega), if_pos (by omega),
    show (⟨q.val % 128, by omega⟩ : Fin 128) = l from Fin.ext (by show q.val % 128 = l.val; omega)]

theorem col_g (l : Fin 2048) (q : Fin 3584) (h : q.val = 1536 + l.val) : R.col q = R.gt l := by
  unfold col
  rw [if_neg (by omega), if_neg (by omega), if_neg (by omega), if_neg (by omega), if_neg (by omega), if_neg (by omega),
    show (⟨(q.val - 1536) % 2048, by omega⟩ : Fin 2048) = l from Fin.ext (by show (q.val - 1536) % 2048 = l.val; omega)]

/-- What the row adds to the eight rows of sums: the two gains' gradients, two heads side by side, and nothing to the others. -/
def gainq (k : Fin 4) (l : Fin 128) : EReal := R.zq k l * (R.rawq k l * rk R.B (R.rawq k) l)
def gaink (l : Fin 128) : EReal := R.zk l * (R.rawk l * rk R.B R.rawk l)
def sums (a : Fin 8) (l : Fin 128) : EReal :=
  if a.val = 0 then ∑ k, R.gainq k l else if a.val = 1 then R.gaink l else 0

end Row

end Cert.Proof.QkMath
-- ==== Proof.QkTile.lean ====
module

public import proofs.«01_k».proof.Proof.Gen.Kernel7Ideal.Value
public import Idealize.ShloMosaic.Lib.Pipeline.ValueKit
public import Idealize.ShloMosaic.Lib.Pointwise
public import proofs.«01_k».proof.Proof.QkMath
public import Idealize.ShloMosaic.Lib.Pipeline.ReadBack

@[expose] public section

set_option maxRecDepth 16384

noncomputable section

/-! One grid point's arithmetic over arrays: two heads put side by side, turned back, and taken through the norm. -/

namespace Cert.Kernel7Ideal.Qk

open Cert.Kernel7Ideal Cert.Kernel7Ideal.Gen Idealize.ShloMosaic Idealize.ShloMosaic.TcCoe Idealize.SL.Sem
open Cert.Proof.QkMath

variable (v1 : FVec Ideal S128x128 .bf16) (z c a b raw dz u acc : FVec Ideal S512x128 .f32) (g : FVec Ideal S1x128 .f32)

theorem pay50_at (p : Fin 512) (l : Fin 128) : k0_pay50 c a b z (ix2 p l)
    = ropeK 112 16 (fun k => z (ix2 p k)) (fun k => c (ix2 p k)) (fun k => a (ix2 p k)) (fun k => b (ix2 p k)) l := by
  unfold ropeK roll Cert.Proof.QkMath.M
  pointwise [k0_pay50]

theorem pay78_at (p : Fin 512) (l : Fin 128) : k0_pay78 c a b z (ix2 p l)
    = ropeK 96 32 (fun k => z (ix2 p k)) (fun k => c (ix2 p k)) (fun k => a (ix2 p k)) (fun k => b (ix2 p k)) l := by
  unfold ropeK roll Cert.Proof.QkMath.M
  pointwise [k0_pay78]

/-- The norm's factor of a row of two heads, the normalised row, and the gradient through the norm. -/
theorem pay52_at (p : Fin 512) (l : Fin 128) : k0_pay52 v1 (mulf raw raw) (ix2 p l) = rk (fun k l => v1 (ix2 k l)) (fun k => raw (ix2 p k)) l := by
  unfold rk hm Cert.Proof.NormMath.E
  pointwise [k0_pay52]

theorem pay53_at (p : Fin 512) (l : Fin 128) : k0_pay53 v1 raw (mulf raw raw) (ix2 p l)
    = raw (ix2 p l) * rk (fun k l => v1 (ix2 k l)) (fun k => raw (ix2 p k)) l := by
  rw [← pay52_at]
  pointwise [k0_pay53]

/-- The turned back cotangent times the normalised row, summed over the rows for the gain. -/
def gn : FVec Ideal S512x128 .f32 := k0_pay54 v1 raw dz (mulf raw raw)

theorem gn_at (p : Fin 512) (l : Fin 128) : gn v1 raw dz (ix2 p l)
    = dz (ix2 p l) * (raw (ix2 p l) * rk (fun k l => v1 (ix2 k l)) (fun k => raw (ix2 p k)) l) := by
  rw [← pay53_at]
  unfold gn
  pointwise [k0_pay54]

/-- The rows' gradient through the norm. -/
def nr : FVec Ideal S512x128 .bf16 := k0_pay55 v1 raw g dz (mulf raw raw)

theorem nr_at (p : Fin 512) (l : Fin 128) : nr v1 raw dz g (ix2 p l)
    = kern (fun k l => v1 (ix2 k l)) (fun k => raw (ix2 p k)) (fun k => dz (ix2 p k) * g (ix2 0 k)) l := by
  unfold kern hm
  simp only [← pay53_at, ← pay52_at v1 raw]
  unfold nr
  generalize e : mulf raw raw = s
  have h (k : Fin 128) : k0_pay53 v1 raw s (ix2 p k) = raw (ix2 p k) * k0_pay52 v1 s (ix2 p k) := by pointwise [k0_pay53]
  pointwise [k0_pay55]
  simp only [h]

theorem mulS_at (p : Fin 512) (l : Fin 128) : mulf u k0_pay11 (ix2 p l) = u (ix2 p l) * S := by
  unfold S
  pointwise [k0_pay11]

/-- A shape change to the same shape. -/
theorem same (x : FVec Ideal S512x128 .f32) : k0_pay49 x = x := by
  funext y
  idx_vars y
  pointwise [k0_pay49]

/-- The five pieces through the norm, in these words. -/
theorem q0 : k0_pay16 v1 c a b u k0_pay11 raw g = nr v1 (k0_pay49 raw) (k0_pay50 c a b (mulf u k0_pay11)) g := rfl
theorem q1 : k0_pay24 v1 (k0_pay20 raw) g (k0_pay21 c a b u) (k0_pay22 v1 raw) = nr v1 (k0_pay49 raw) (k0_pay50 c a b (mulf u k0_pay11)) g := rfl
theorem q2 : k0_pay33 v1 c a b (k0_pay28 u) (k0_pay29 raw) g = nr v1 (k0_pay49 raw) (k0_pay50 c a b (mulf u k0_pay11)) g := rfl
theorem q3 : k0_pay45 v1 (k0_pay39 v1 raw) (k0_pay40 v1 raw) (k0_pay41 c a b u g) (k0_pay43 v1 c a b u raw g) (k0_pay44 v1 c a b u raw g)
    = nr v1 (k0_pay49 raw) (k0_pay50 c a b (mulf u k0_pay11)) g := rfl
theorem sq (x : FVec Ideal S512x128 .f32) : k0_pay51 x = mulf x x := by
  show mulf (k0_pay49 (F := Ideal) x) (k0_pay49 (F := Ideal) x) = _
  rw [same]

theorem kk : k0_pay55 v1 raw g dz (mulf raw raw) = nr v1 raw dz g := rfl

theorem g0 : k0_pay17 v1 c a b acc u k0_pay11 raw = addf acc (gn v1 (k0_pay49 raw) (k0_pay50 c a b (mulf u k0_pay11))) := rfl
theorem g1 : k0_pay25 acc (k0_pay20 raw) (k0_pay21 c a b u) (k0_pay22 v1 raw) = addf acc (gn v1 (k0_pay49 raw) (k0_pay50 c a b (mulf u k0_pay11))) := rfl
theorem g2 : k0_pay34 v1 c a b acc (k0_pay28 u) (k0_pay29 raw) = addf acc (gn v1 (k0_pay49 raw) (k0_pay50 c a b (mulf u k0_pay11))) := rfl
theorem g3 : k0_pay46 acc (k0_pay38 c a b u) (k0_pay40 v1 raw) = addf acc (gn v1 (k0_pay49 raw) (k0_pay50 c a b (mulf u k0_pay11))) := rfl
theorem gkk : k0_pay54 v1 raw dz (mulf raw raw) = gn v1 raw dz := rfl

/-- The four scaled pieces that are only turned back. -/
theorem b0 : k0_pay61 c a b u = k0_pay78 c a b (mulf u k0_pay11) := rfl
theorem b1 : k0_pay65 c a b u = k0_pay78 c a b (mulf u k0_pay11) := rfl
theorem b2 : k0_pay69 c a b u = k0_pay78 c a b (mulf u k0_pay11) := rfl
theorem b3 : k0_pay75 c a b (k0_pay72 u) (k0_pay73 u) (k0_pay74 u) = k0_pay78 c a b (mulf u k0_pay11) := rfl

/-- A row of sums with a block's column sums added, and four gains' terms from nothing. -/
theorem pay85_at (w : Vec Ideal S1x128 .f32) (l : Fin 128) : k0_pay85 u w (ix2 0 l) = w (ix2 0 l) + ∑ p, u (ix2 p l) := by
  pointwise [k0_pay85]

theorem pay86_at (w : Vec Ideal S1x128 .f32) (l : Fin 128) : k0_pay86 u w (ix2 0 l) = w (ix2 0 l) + ∑ p, u (ix2 p l) := by
  pointwise [k0_pay86]

theorem four_at (s t u v : FVec Ideal S512x128 .f32) (p : Fin 512) (l : Fin 128) : addf (addf (addf (addf k0_pay8 s) t) u) v (ix2 p l)
    = s (ix2 p l) + t (ix2 p l) + u (ix2 p l) + v (ix2 p l) := by
  pointwise [k0_pay8]

theorem fill_at (a : Fin 8) (l : Fin 128) : k0_pay84 (F := Ideal) (ix2 a l) = (0 : EReal) := by
  pointwise [k0_pay84]

theorem row_at (x : Vec Ideal S8x128 .f32) (r : ℕ) (hr : r < 8) (inb : ∀ a, (![r, 0] : Fin 2 → ℕ) a + (![1, 128] : Fin 2 → ℕ) a ≤ S8x128.size a) (l : Fin 128) :
    View.ld (Val := Elt Ideal) (e' := .f32) x (Rect.unit (s := S8x128) ![r, 0] ![1, 128] inb) (ix2 0 l : S1x128.Idx) = x (ix2 ⟨r, hr⟩ l) := by
  refine congrArg x (funext fun a => ?_)
  fin_cases a
  · exact Fin.ext (by show r + 1 * 0 = r; omega)
  · exact Fin.ext (by show 0 + 1 * l.val = l.val; omega)

/-- Two heads side by side. -/
def side (s t : FVec Ideal S512x64 .f32) : FVec Ideal S512x128 .f32 := fun y =>
  if h : (y 1).val < 64 then s (ix2 (y 0) ⟨(y 1).val, h⟩) else t (ix2 (y 0) ⟨(y 1).val - 64, by have : (y 1).val < 128 := (y 1).isLt; omega⟩)

theorem side_at (s t : FVec Ideal S512x64 .f32) (p : Fin 512) (l : Fin 128) :
    side s t (ix2 p l) = if h : l.val < 64 then s (ix2 p ⟨l.val, h⟩) else t (ix2 p ⟨l.val - 64, by omega⟩) := rfl

theorem side_read {sig : RefSig} {κ : Kind} {sp : Space} (v : View sig κ sp S512x128 .f32) (s t : FVec Ideal S512x64 .f32)
    (L : List (View.Piece (Elt Ideal) S512x128 .f32)) (i0 : ∀ a, (![0, 0] : Fin 2 → ℕ) a + (![512, 64] : Fin 2 → ℕ) a ≤ S512x128.size a)
    (i1 : ∀ a, (![0, 64] : Fin 2 → ℕ) a + (![512, 64] : Fin 2 → ℕ) a ≤ S512x128.size a)
    (i2 : ∀ a, (![0, 0] : Fin 2 → ℕ) a + (![512, 128] : Fin 2 → ℕ) a ≤ S512x128.size a) :
    v.readCov ((⟨Rect.unit (s := S512x128) ![0, 64] ![512, 64] i1, t⟩ : View.Piece (Elt Ideal) S512x128 .f32)
      :: (⟨Rect.unit (s := S512x128) ![0, 0] ![512, 64] i0, s⟩ : View.Piece (Elt Ideal) S512x128 .f32) :: L)
      (Rect.unit (s := S512x128) ![0, 0] ![512, 128] i2).toLoadRect = side s t := by
  rw [View.readCov_eq_canon']
  funext y
  obtain ⟨p, l, rfl⟩ : ∃ p l, y = ix2 p l := ⟨y 0, y 1, by funext a; fin_cases a <;> rfl⟩
  refine (congrArg _ (show _ = ix2 p l from ?_)).trans ?_
  · funext a
    fin_cases a
    · exact Fin.ext (by show 0 + 1 * p.val = p.val; omega)
    · exact Fin.ext (by show 0 + 1 * l.val = l.val; omega)
  by_cases h : l.val < 64
  · refine (View.canon_cons_of_not_mem _ _ fun hm => ?_).trans ?_
    · obtain ⟨i, hi, he⟩ := (LoadRect.mem_set _).mp hm (1 : Fin 2)
      have he' : l.val = 64 + 1 * i := he
      omega
    have e : (Rect.unit (s := S512x128) ![0, 0] ![512, 64] i0).emb (ix2 p ⟨l.val, h⟩ : S512x64.Idx) = ix2 p l := by
      funext a
      fin_cases a
      · exact Fin.ext (by show 0 + 1 * p.val = p.val; omega)
      · exact Fin.ext (by show 0 + 1 * l.val = l.val; omega)
    rw [side_at, dif_pos h, ← e, View.canon_cons_emb]
  · have e : (Rect.unit (s := S512x128) ![0, 64] ![512, 64] i1).emb (ix2 p ⟨l.val - 64, by omega⟩ : S512x64.Idx) = ix2 p l := by
      funext a
      fin_cases a
      · exact Fin.ext (by show 0 + 1 * p.val = p.val; omega)
      · exact Fin.ext (by show 64 + 1 * (l.val - 64) = l.val; omega)
    rw [side_at, dif_neg h, ← e, View.canon_cons_emb]

/-- Every head is stored in the same way. -/
theorem heads8 (x : Vec Ideal S1x512x64 .bf16) : k0_pay10 x = k0_pay9 x ∧ k0_pay18 x = k0_pay9 x ∧ k0_pay19 x = k0_pay9 x ∧ k0_pay26 x = k0_pay9 x
    ∧ k0_pay27 x = k0_pay9 x ∧ k0_pay35 x = k0_pay9 x ∧ k0_pay36 x = k0_pay9 x ∧ k0_pay59 x = k0_pay9 x ∧ k0_pay60 x = k0_pay9 x
    ∧ k0_pay63 (k0_pay62 x) = k0_pay9 x ∧ k0_pay64 x = k0_pay9 x ∧ k0_pay66 x = k0_pay9 x ∧ k0_pay68 (k0_pay67 x) = k0_pay9 x
    ∧ k0_pay70 x = k0_pay9 x ∧ k0_pay71 x = k0_pay9 x :=
  ⟨rfl, rfl, rfl, rfl, rfl, rfl, rfl, rfl, rfl, rfl, rfl, rfl, rfl, rfl, rfl⟩

theorem heads2 (x : Vec Ideal S1x512x64 .f32) : k0_pay48 x = k0_pay47 x ∧ k0_pay56 x = k0_pay47 x ∧ k0_pay57 x = k0_pay47 x ∧ k0_pay76 x = k0_pay47 x
    ∧ k0_pay77 x = k0_pay47 x ∧ k0_pay80 (k0_pay79 x) = k0_pay47 x ∧ k0_pay81 x = k0_pay47 x := ⟨rfl, rfl, rfl, rfl, rfl, rfl, rfl⟩

/-- A head of a block, as its rows. -/
theorem head8 (x : FVec Ideal S8x512x64 .bf16) (o : ℕ) (ho : o < 8) (inb : ∀ a, (![o, 0, 0] : Fin 3 → ℕ) a + (![1, 512, 64] : Fin 3 → ℕ) a ≤ S8x512x64.size a)
    (p : Fin 512) (j : Fin 64) :
    (k0_pay9 (F := Ideal) (View.ld x (Rect.unit (s := S8x512x64) ![o, 0, 0] ![1, 512, 64] inb)) (ix2 p j) : EReal) = (x (ix3 ⟨o, ho⟩ p j) : EReal) := by
  pointwise [k0_pay9]

theorem head2 (x : FVec Ideal S2x512x64 .f32) (o : ℕ) (ho : o < 2) (inb : ∀ a, (![o, 0, 0] : Fin 3 → ℕ) a + (![1, 512, 64] : Fin 3 → ℕ) a ≤ S2x512x64.size a)
    (p : Fin 512) (j : Fin 64) :
    (k0_pay47 (F := Ideal) (View.ld x (Rect.unit (s := S2x512x64) ![o, 0, 0] ![1, 512, 64] inb)) (ix2 p j) : EReal) = (x (ix3 ⟨o, ho⟩ p j) : EReal) := by
  pointwise [k0_pay47]

/-- A head's pair of an eight-head and of a two-head block. -/
theorem pair8_at (x : FVec Ideal S8x512x64 .bf16) (k : ℕ) (hk : k < 4)
    (i0 : ∀ a, (![2 * k, 0, 0] : Fin 3 → ℕ) a + (![1, 512, 64] : Fin 3 → ℕ) a ≤ S8x512x64.size a)
    (i1 : ∀ a, (![2 * k + 1, 0, 0] : Fin 3 → ℕ) a + (![1, 512, 64] : Fin 3 → ℕ) a ≤ S8x512x64.size a) (p : Fin 512) (l : Fin 128) :
    (side (k0_pay9 (F := Ideal) (View.ld x (Rect.unit (s := S8x512x64) ![2 * k, 0, 0] ![1, 512, 64] i0)))
      (k0_pay9 (F := Ideal) (View.ld x (Rect.unit (s := S8x512x64) ![2 * k + 1, 0, 0] ![1, 512, 64] i1))) (ix2 p l) : EReal)
      = pair8 (fun h j => x (ix3 h p j)) ⟨k, hk⟩ l := by
  rw [side_at]
  split_ifs with h
  · rw [head8 x (2 * k) (by omega)]
    unfold pair8
    congr 2
    · exact Fin.ext (by show 2 * k = 2 * k + l.val / 64; omega)
    · exact Fin.ext (by show l.val = l.val % 64; omega)
  · rw [head8 x (2 * k + 1) (by omega)]
    unfold pair8
    congr 2
    · exact Fin.ext (by show 2 * k + 1 = 2 * k + l.val / 64; omega)
    · exact Fin.ext (by show l.val - 64 = l.val % 64; omega)

theorem pair2_at (x : FVec Ideal S2x512x64 .f32)
    (i0 : ∀ a, (![0, 0, 0] : Fin 3 → ℕ) a + (![1, 512, 64] : Fin 3 → ℕ) a ≤ S2x512x64.size a)
    (i1 : ∀ a, (![1, 0, 0] : Fin 3 → ℕ) a + (![1, 512, 64] : Fin 3 → ℕ) a ≤ S2x512x64.size a) (p : Fin 512) (l : Fin 128) :
    (side (k0_pay47 (F := Ideal) (View.ld x (Rect.unit (s := S2x512x64) ![0, 0, 0] ![1, 512, 64] i0)))
      (k0_pay47 (F := Ideal) (View.ld x (Rect.unit (s := S2x512x64) ![1, 0, 0] ![1, 512, 64] i1))) (ix2 p l) : EReal)
      = pair2 (fun h j => x (ix3 h p j)) l := by
  rw [side_at]
  split_ifs with h
  · rw [head2 x 0 (by omega)]
    unfold pair2
    congr 2
    · exact Fin.ext (by show 0 = l.val / 64; omega)
    · exact Fin.ext (by show l.val = l.val % 64; omega)
  · rw [head2 x 1 (by omega)]
    unfold pair2
    congr 2
    · exact Fin.ext (by show 1 = l.val / 64; omega)
    · exact Fin.ext (by show l.val - 64 = l.val % 64; omega)

end Cert.Kernel7Ideal.Qk
-- ==== Proof.RowStores.lean ====
module

public import Idealize.ShloMosaic.Lib.Pipeline.ValueKit
public import Idealize.ShloMosaic.Lib.Pipeline.ReadBack
public import Idealize.ShloMosaic.Lib.VecWindow
public import Idealize.ShloMosaic.Lib.WritesUnit
public import Idealize.ShloMosaic.Lib.Pointwise

@[expose] public section

noncomputable section

/-! A store of one row of a block of eight rows, read back: the row's payload on that row, what was there before elsewhere. -/

namespace Cert.Proof.RowStores

open Idealize.ShloMosaic

theorem read_row {sig : RefSig} {κ : Kind} {sp : Space} {e : EltTy} {Val : EltTy → Type} {n : ℕ} (v : View sig κ sp ⟨2, ![8, n]⟩ e)
    (f : v.ty.Contents Val) (r : ℕ) (inb : ∀ a, (![r, 0] : Fin 2 → ℕ) a + (![1, n] : Fin 2 → ℕ) a ≤ (![8, n] : Fin 2 → ℕ) a)
    (w : (⟨2, ![1, n]⟩ : Shape).Idx → Val e) (L : List (View.Piece Val ⟨2, ![8, n]⟩ e)) (a : Fin 8) (q : Fin n) :
    v.read Val (v.writes Val f (⟨Rect.unit (s := ⟨2, ![8, n]⟩) ![r, 0] ![1, n] inb, w⟩ :: L)) (ix2 a q)
      = if a.val = r then w (ix2 0 q) else v.read Val (v.writes Val f L) (ix2 a q) := by
  split_ifs with h
  · exact View.read_writes_cons_rows_of_mem v f inb w L (ix2 a q) (ix2 0 q) rfl h rfl
  · refine View.read_writes_cons_rows_of_not_mem (W := 1) v f inb w L (ix2 a q) rfl rfl ?_
    have h' : a.val ≠ r := h
    show a.val < r ∨ r + 1 ≤ a.val
    omega

/-- A store of the whole block, read back. -/
theorem read_fill {sig : RefSig} {κ : Kind} {sp : Space} {e : EltTy} {Val : EltTy → Type} {n : ℕ} (v : View sig κ sp ⟨2, ![8, n]⟩ e)
    (f : v.ty.Contents Val) (inb : ∀ a, (![0, 0] : Fin 2 → ℕ) a + (![8, n] : Fin 2 → ℕ) a ≤ (![8, n] : Fin 2 → ℕ) a)
    (w : (⟨2, ![8, n]⟩ : Shape).Idx → Val e) (L : List (View.Piece Val ⟨2, ![8, n]⟩ e)) (a : Fin 8) (q : Fin n) :
    v.read Val (v.writes Val f (⟨Rect.unit (s := ⟨2, ![8, n]⟩) ![0, 0] ![8, n] inb, w⟩ :: L)) (ix2 a q) = w (ix2 a q) :=
  View.read_writes_cons_rows_of_mem v f inb w L (ix2 a q) (ix2 a q) rfl (Nat.zero_add _).symm rfl

end Cert.Proof.RowStores
-- ==== Proof.QkRun.lean ====
module

public import proofs.«01_k».proof.Proof.QkTile
public import proofs.«01_k».proof.Proof.RowStores

@[expose] public section

set_option maxRecDepth 16384

noncomputable section

/-! A grid point's two stored blocks as functions of the blocks it read: the columns by cases of their offset, the rows of sums. -/

namespace Cert.Kernel7Ideal.Qk

open Cert.Kernel7Ideal Cert.Kernel7Ideal.Gen Idealize.ShloMosaic Idealize.ShloMosaic.TcCoe Idealize.SL.Sem
open Cert.Proof.QkMath

variable (c : Dev nD) (i : grid0.Coords) (arg1 : Memref sig .tc .vmem S8x512x64 .bf16) (harg1 : arg1.IsWhole) (arg2 : Memref sig .tc .vmem S2x512x64 .f32) (harg2 : arg2.IsWhole) (arg3 : Memref sig .tc .vmem S2x512x64 .f32) (harg3 : arg3.IsWhole) (arg4 : Memref sig .tc .vmem S8x512x64 .bf16) (harg4 : arg4.IsWhole) (arg5 : Memref sig .tc .vmem S2x512x64 .f32) (harg5 : arg5.IsWhole) (arg6 : Memref sig .tc .vmem S2x512x64 .f32) (harg6 : arg6.IsWhole) (arg7 : Memref sig .tc .vmem S512x640 .f32) (harg7 : arg7.IsWhole) (arg8 : Memref sig .tc .vmem S512x2048 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x3584 .bf16) (harg18 : arg18.IsWhole) (arg19 : Memref sig .tc .vmem S8x128 .f32) (harg19 : arg19.IsWhole) (arg20 : Memref sig .tc .vmem S512x128 .f32) (harg20 : arg20.IsWhole)
  (x0 : Vec Ideal S8x512x64 .bf16) (x1 : Vec Ideal S2x512x64 .f32) (x2 : Vec Ideal S2x512x64 .f32) (x3 : Vec Ideal S8x512x64 .bf16) (x4 : Vec Ideal S2x512x64 .f32) (x5 : Vec Ideal S2x512x64 .f32) (x6 : Vec Ideal S512x640 .f32) (x7 : Vec Ideal S512x2048 .bf16) (x8 : Vec Ideal S1x128 .f32) (x9 : Vec Ideal S1x128 .f32) (x10 : Vec Ideal S128x128 .bf16) (x11 : Vec Ideal S512x128 .f32) (x12 : Vec Ideal S512x128 .f32) (x13 : Vec Ideal S512x128 .f32) (x14 : Vec Ideal S512x128 .f32) (x15 : Vec Ideal S512x128 .f32) (x16 : Vec Ideal S512x128 .f32) (xo18 : Vec Ideal S8x128 .f32)

/-- A row of the blocks. -/
def rowB (p : Fin 512) : Row where
  B := fun k l => x10 (ix2 k l)
  dq := fun h j => x0 (ix3 h p j)
  dk := fun h j => x1 (ix3 h p j)
  dv := fun h j => x2 (ix3 h p j)
  dqb := fun h j => x3 (ix3 h p j)
  dkb := fun h j => x4 (ix3 h p j)
  dvb := fun h j => x5 (ix3 h p j)
  raw := fun q => x6 (ix2 p q)
  gt := fun q => x7 (ix2 p q)
  gq := fun l => x8 (ix2 0 l)
  gk := fun l => x9 (ix2 0 l)
  ca := fun l => x11 (ix2 p l)
  la := fun l => x12 (ix2 p l)
  ha := fun l => x13 (ix2 p l)
  cb := fun l => x14 (ix2 p l)
  lb := fun l => x15 (ix2 p l)
  hb := fun l => x16 (ix2 p l)

/-- A store of some columns, read back. -/
theorem canon_col (o n : ℕ) (inb : ∀ a, (![0, o] : Fin 2 → ℕ) a + (![512, n] : Fin 2 → ℕ) a ≤ S512x3584.size a)
    (w : FVec Ideal ⟨2, ![512, n]⟩ .bf16) (L : List (View.Piece (Elt Ideal) S512x3584 .bf16)) (p : Fin 512) (q : Fin 3584) :
    View.canon ((⟨Rect.unit (s := S512x3584) ![0, o] ![512, n] inb, w⟩ : View.Piece (Elt Ideal) S512x3584 .bf16) :: L) (ix2 p q)
      = if h : o ≤ q.val ∧ q.val < o + n then w (ix2 p ⟨q.val - o, by omega⟩) else View.canon L (ix2 p q) := by
  split_ifs with h
  · have e : (Rect.unit (s := S512x3584) ![0, o] ![512, n] inb).emb (ix2 p ⟨q.val - o, by omega⟩ : (⟨2, ![512, n]⟩ : Shape).Idx) = ix2 p q := by
      funext a
      fin_cases a
      · exact Fin.ext (by show 0 + 1 * p.val = p.val; omega)
      · exact Fin.ext (by show o + 1 * (q.val - o) = q.val; omega)
    rw [← e, View.canon_cons_emb]
  · refine View.canon_cons_of_not_mem _ _ fun hm => h ?_
    obtain ⟨i, hi, he⟩ := (LoadRect.mem_set _).mp hm (1 : Fin 2)
    have hi' : i < n := hi
    have he' : q.val = o + 1 * i := he
    omega

theorem id1 (x : FVec Ideal S128x128 .bf16) : k0_pay1 x = x := by
  funext y
  idx_vars y
  pointwise [k0_pay1]

theorem tables (x : FVec Ideal S512x128 .f32) : k0_pay2 x = x ∧ k0_pay3 x = x ∧ k0_pay4 x = x ∧ k0_pay5 x = x ∧ k0_pay6 x = x ∧ k0_pay7 x = x :=
  ⟨same x, same x, same x, same x, same x, same x⟩

theorem raw_at (x : Vec Ideal S512x640 .f32) (o : ℕ) (inb : ∀ a, (![0, o] : Fin 2 → ℕ) a + (![512, 128] : Fin 2 → ℕ) a ≤ S512x640.size a)
    (ho : o + 128 ≤ 640) (p : Fin 512) (l : Fin 128) :
    View.ld (Val := Elt Ideal) (e' := .f32) x (Rect.unit (s := S512x640) ![0, o] ![512, 128] inb) (ix2 p l : S512x128.Idx)
      = x (ix2 p ⟨o + l.val, by omega⟩) := by
  refine congrArg x (funext fun a => ?_)
  fin_cases a
  · exact Fin.ext (by show 0 + 1 * p.val = p.val; omega)
  · exact Fin.ext (by show o + 1 * l.val = o + l.val; omega)

/-- The pieces' entries: through the norm, only turned back, and plain. -/
theorem piece_q (k : Fin 4) (i0 i1 i2) (p : Fin 512) (l : Fin 128) :
    (nr x10 (View.ld x6 (Rect.unit (s := S512x640) ![0, k.val * 128] ![512, 128] i2))
      (k0_pay50 x11 x12 x13 (mulf (side (k0_pay9 (F := Ideal) (View.ld x0 (Rect.unit (s := S8x512x64) ![2 * k.val, 0, 0] ![1, 512, 64] i0)))
        (k0_pay9 (F := Ideal) (View.ld x0 (Rect.unit (s := S8x512x64) ![2 * k.val + 1, 0, 0] ![1, 512, 64] i1)))) k0_pay11)) x8 (ix2 p l) : EReal)
      = kern (rowB x0 x1 x2 x3 x4 x5 x6 x7 x8 x9 x10 x11 x12 x13 x14 x15 x16 p).B ((rowB x0 x1 x2 x3 x4 x5 x6 x7 x8 x9 x10 x11 x12 x13 x14 x15 x16 p).rawq k) (fun l => (rowB x0 x1 x2 x3 x4 x5 x6 x7 x8 x9 x10 x11 x12 x13 x14 x15 x16 p).zq k l * (rowB x0 x1 x2 x3 x4 x5 x6 x7 x8 x9 x10 x11 x12 x13 x14 x15 x16 p).gq l) l := by
  rw [nr_at]
  simp only [pay50_at, mulS_at, pair8_at x0 k.val k.isLt, raw_at x6 _ _ (show k.val * 128 + 128 ≤ 640 by omega)]
  rfl

theorem gain_q (k : Fin 4) (i0 i1 i2) (p : Fin 512) (l : Fin 128) :
    (gn x10 (View.ld x6 (Rect.unit (s := S512x640) ![0, k.val * 128] ![512, 128] i2))
      (k0_pay50 x11 x12 x13 (mulf (side (k0_pay9 (F := Ideal) (View.ld x0 (Rect.unit (s := S8x512x64) ![2 * k.val, 0, 0] ![1, 512, 64] i0)))
        (k0_pay9 (F := Ideal) (View.ld x0 (Rect.unit (s := S8x512x64) ![2 * k.val + 1, 0, 0] ![1, 512, 64] i1)))) k0_pay11)) (ix2 p l) : EReal)
      = (rowB x0 x1 x2 x3 x4 x5 x6 x7 x8 x9 x10 x11 x12 x13 x14 x15 x16 p).gainq k l := by
  rw [gn_at]
  simp only [pay50_at, mulS_at, pair8_at x0 k.val k.isLt, raw_at x6 _ _ (show k.val * 128 + 128 ≤ 640 by omega)]
  rfl

theorem piece_k (i0 i1 i2) (p : Fin 512) (l : Fin 128) :
    (nr x10 (View.ld x6 (Rect.unit (s := S512x640) ![0, 512] ![512, 128] i2))
      (k0_pay50 x11 x12 x13 (side (k0_pay47 (F := Ideal) (View.ld x1 (Rect.unit (s := S2x512x64) ![0, 0, 0] ![1, 512, 64] i0)))
        (k0_pay47 (F := Ideal) (View.ld x1 (Rect.unit (s := S2x512x64) ![1, 0, 0] ![1, 512, 64] i1))))) x9 (ix2 p l) : EReal)
      = kern (rowB x0 x1 x2 x3 x4 x5 x6 x7 x8 x9 x10 x11 x12 x13 x14 x15 x16 p).B (rowB x0 x1 x2 x3 x4 x5 x6 x7 x8 x9 x10 x11 x12 x13 x14 x15 x16 p).rawk (fun l => (rowB x0 x1 x2 x3 x4 x5 x6 x7 x8 x9 x10 x11 x12 x13 x14 x15 x16 p).zk l * (rowB x0 x1 x2 x3 x4 x5 x6 x7 x8 x9 x10 x11 x12 x13 x14 x15 x16 p).gk l) l := by
  rw [nr_at]
  simp only [pay50_at, pair2_at x1, raw_at x6 _ _ (show 512 + 128 ≤ 640 by omega)]
  rfl

theorem gain_k (i0 i1 i2) (p : Fin 512) (l : Fin 128) :
    (gn x10 (View.ld x6 (Rect.unit (s := S512x640) ![0, 512] ![512, 128] i2))
      (k0_pay50 x11 x12 x13 (side (k0_pay47 (F := Ideal) (View.ld x1 (Rect.unit (s := S2x512x64) ![0, 0, 0] ![1, 512, 64] i0)))
        (k0_pay47 (F := Ideal) (View.ld x1 (Rect.unit (s := S2x512x64) ![1, 0, 0] ![1, 512, 64] i1))))) (ix2 p l) : EReal)
      = (rowB x0 x1 x2 x3 x4 x5 x6 x7 x8 x9 x10 x11 x12 x13 x14 x15 x16 p).gaink l := by
  rw [gn_at]
  simp only [pay50_at, pair2_at x1, raw_at x6 _ _ (show 512 + 128 ≤ 640 by omega)]
  rfl

theorem piece_qb (k : Fin 4) (i0 i1) (p : Fin 512) (l : Fin 128) :
    (k0_pay78 (F := Ideal) x14 x15 x16 (mulf (side (k0_pay9 (F := Ideal) (View.ld x3 (Rect.unit (s := S8x512x64) ![2 * k.val, 0, 0] ![1, 512, 64] i0)))
        (k0_pay9 (F := Ideal) (View.ld x3 (Rect.unit (s := S8x512x64) ![2 * k.val + 1, 0, 0] ![1, 512, 64] i1)))) k0_pay11) (ix2 p l) : EReal)
      = ropeK 96 32 (fun l => pair8 (rowB x0 x1 x2 x3 x4 x5 x6 x7 x8 x9 x10 x11 x12 x13 x14 x15 x16 p).dqb k l * S) (rowB x0 x1 x2 x3 x4 x5 x6 x7 x8 x9 x10 x11 x12 x13 x14 x15 x16 p).cb (rowB x0 x1 x2 x3 x4 x5 x6 x7 x8 x9 x10 x11 x12 x13 x14 x15 x16 p).lb (rowB x0 x1 x2 x3 x4 x5 x6 x7 x8 x9 x10 x11 x12 x13 x14 x15 x16 p).hb l := by
  rw [pay78_at]
  simp only [mulS_at, pair8_at x3 k.val k.isLt]
  rfl

theorem piece_kb (i0 i1) (p : Fin 512) (l : Fin 128) :
    (k0_pay78 (F := Ideal) x14 x15 x16 (side (k0_pay47 (F := Ideal) (View.ld x4 (Rect.unit (s := S2x512x64) ![0, 0, 0] ![1, 512, 64] i0)))
        (k0_pay47 (F := Ideal) (View.ld x4 (Rect.unit (s := S2x512x64) ![1, 0, 0] ![1, 512, 64] i1)))) (ix2 p l) : EReal)
      = ropeK 96 32 (pair2 (rowB x0 x1 x2 x3 x4 x5 x6 x7 x8 x9 x10 x11 x12 x13 x14 x15 x16 p).dkb) (rowB x0 x1 x2 x3 x4 x5 x6 x7 x8 x9 x10 x11 x12 x13 x14 x15 x16 p).cb (rowB x0 x1 x2 x3 x4 x5 x6 x7 x8 x9 x10 x11 x12 x13 x14 x15 x16 p).lb (rowB x0 x1 x2 x3 x4 x5 x6 x7 x8 x9 x10 x11 x12 x13 x14 x15 x16 p).hb l := by
  rw [pay78_at]
  simp only [pair2_at x4]
  rfl

theorem plain_v (x : FVec Ideal S2x512x64 .f32) (i0 i1) (p : Fin 512) (l : Fin 128) :
    (k0_pay58 (F := Ideal) (side (k0_pay47 (F := Ideal) (View.ld x (Rect.unit (s := S2x512x64) ![0, 0, 0] ![1, 512, 64] i0)))
        (k0_pay47 (F := Ideal) (View.ld x (Rect.unit (s := S2x512x64) ![1, 0, 0] ![1, 512, 64] i1)))) (ix2 p l) : EReal)
      = pair2 (fun h j => x (ix3 h p j)) l := by
  rw [← pair2_at x i0 i1]
  pointwise [k0_pay58]

theorem plain_g (p : Fin 512) (l : Fin 2048) : k0_pay83 x7 (ix2 p l) = x7 (ix2 p l) := by
  pointwise [k0_pay83]

theorem v82 (x : Vec Ideal S512x128 .f32) : k0_pay82 x = k0_pay58 x := rfl

/-- The thirteen pieces together. -/
theorem cols_of (R : Row) (p : Fin 512) (q : Fin 3584) (G : FVec Ideal S512x2048 .bf16) (V1 K1 B3 B2 B1 B0 V0 K0 A3 A2 A1 A0 : FVec Ideal S512x128 .bf16)
    (iG : ∀ a, (![0, 1536] : Fin 2 → ℕ) a + (![512, 2048] : Fin 2 → ℕ) a ≤ S512x3584.size a)
    (iV1 : ∀ a, (![0, 1408] : Fin 2 → ℕ) a + (![512, 128] : Fin 2 → ℕ) a ≤ S512x3584.size a)
    (iK1 : ∀ a, (![0, 1280] : Fin 2 → ℕ) a + (![512, 128] : Fin 2 → ℕ) a ≤ S512x3584.size a)
    (iB3 : ∀ a, (![0, 1152] : Fin 2 → ℕ) a + (![512, 128] : Fin 2 → ℕ) a ≤ S512x3584.size a)
    (iB2 : ∀ a, (![0, 1024] : Fin 2 → ℕ) a + (![512, 128] : Fin 2 → ℕ) a ≤ S512x3584.size a)
    (iB1 : ∀ a, (![0, 896] : Fin 2 → ℕ) a + (![512, 128] : Fin 2 → ℕ) a ≤ S512x3584.size a)
    (iB0 : ∀ a, (![0, 768] : Fin 2 → ℕ) a + (![512, 128] : Fin 2 → ℕ) a ≤ S512x3584.size a)
    (iV0 : ∀ a, (![0, 640] : Fin 2 → ℕ) a + (![512, 128] : Fin 2 → ℕ) a ≤ S512x3584.size a)
    (iK0 : ∀ a, (![0, 512] : Fin 2 → ℕ) a + (![512, 128] : Fin 2 → ℕ) a ≤ S512x3584.size a)
    (iA3 : ∀ a, (![0, 384] : Fin 2 → ℕ) a + (![512, 128] : Fin 2 → ℕ) a ≤ S512x3584.size a)
    (iA2 : ∀ a, (![0, 256] : Fin 2 → ℕ) a + (![512, 128] : Fin 2 → ℕ) a ≤ S512x3584.size a)
    (iA1 : ∀ a, (![0, 128] : Fin 2 → ℕ) a + (![512, 128] : Fin 2 → ℕ) a ≤ S512x3584.size a)
    (iA0 : ∀ a, (![0, 0] : Fin 2 → ℕ) a + (![512, 128] : Fin 2 → ℕ) a ≤ S512x3584.size a)
    (hG : ∀ l, G (ix2 p l) = R.gt l)
    (hV1 : ∀ l, V1 (ix2 p l) = pair2 R.dvb l)
    (hK1 : ∀ l, K1 (ix2 p l) = ropeK 96 32 (pair2 R.dkb) R.cb R.lb R.hb l)
    (hB3 : ∀ l, B3 (ix2 p l) = ropeK 96 32 (fun l => pair8 R.dqb 3 l * S) R.cb R.lb R.hb l)
    (hB2 : ∀ l, B2 (ix2 p l) = ropeK 96 32 (fun l => pair8 R.dqb 2 l * S) R.cb R.lb R.hb l)
    (hB1 : ∀ l, B1 (ix2 p l) = ropeK 96 32 (fun l => pair8 R.dqb 1 l * S) R.cb R.lb R.hb l)
    (hB0 : ∀ l, B0 (ix2 p l) = ropeK 96 32 (fun l => pair8 R.dqb 0 l * S) R.cb R.lb R.hb l)
    (hV0 : ∀ l, V0 (ix2 p l) = pair2 R.dv l)
    (hK0 : ∀ l, K0 (ix2 p l) = kern R.B R.rawk (fun l => R.zk l * R.gk l) l)
    (hA3 : ∀ l, A3 (ix2 p l) = kern R.B (R.rawq 3) (fun l => R.zq 3 l * R.gq l) l)
    (hA2 : ∀ l, A2 (ix2 p l) = kern R.B (R.rawq 2) (fun l => R.zq 2 l * R.gq l) l)
    (hA1 : ∀ l, A1 (ix2 p l) = kern R.B (R.rawq 1) (fun l => R.zq 1 l * R.gq l) l)
    (hA0 : ∀ l, A0 (ix2 p l) = kern R.B (R.rawq 0) (fun l => R.zq 0 l * R.gq l) l) :
    View.canon (Val := Elt Ideal) (s := S512x3584) (e := .bf16) [⟨Rect.unit (s := S512x3584) ![0, 1536] ![512, 2048] iG, G⟩,
      ⟨Rect.unit (s := S512x3584) ![0, 1408] ![512, 128] iV1, V1⟩,
      ⟨Rect.unit (s := S512x3584) ![0, 1280] ![512, 128] iK1, K1⟩,
      ⟨Rect.unit (s := S512x3584) ![0, 1152] ![512, 128] iB3, B3⟩,
      ⟨Rect.unit (s := S512x3584) ![0, 1024] ![512, 128] iB2, B2⟩,
      ⟨Rect.unit (s := S512x3584) ![0, 896] ![512, 128] iB1, B1⟩,
      ⟨Rect.unit (s := S512x3584) ![0, 768] ![512, 128] iB0, B0⟩,
      ⟨Rect.unit (s := S512x3584) ![0, 640] ![512, 128] iV0, V0⟩,
      ⟨Rect.unit (s := S512x3584) ![0, 512] ![512, 128] iK0, K0⟩,
      ⟨Rect.unit (s := S512x3584) ![0, 384] ![512, 128] iA3, A3⟩,
      ⟨Rect.unit (s := S512x3584) ![0, 256] ![512, 128] iA2, A2⟩,
      ⟨Rect.unit (s := S512x3584) ![0, 128] ![512, 128] iA1, A1⟩,
      ⟨Rect.unit (s := S512x3584) ![0, 0] ![512, 128] iA0, A0⟩] (ix2 p q) = R.col q := by
  have hq := q.isLt
  refine (canon_col _ _ _ _ _ p q).trans ?_
  split_ifs with k0
  · exact (hG _).trans (R.col_g ⟨q.val - 1536, by omega⟩ q (by show q.val = 1536 + (q.val - 1536); omega)).symm
  refine (canon_col _ _ _ _ _ p q).trans ?_
  split_ifs with k1
  · exact (hV1 _).trans (R.col_vb ⟨q.val - 1408, by omega⟩ q (by show q.val = 1408 + (q.val - 1408); omega)).symm
  refine (canon_col _ _ _ _ _ p q).trans ?_
  split_ifs with k2
  · exact (hK1 _).trans (R.col_kb ⟨q.val - 1280, by omega⟩ q (by show q.val = 1280 + (q.val - 1280); omega)).symm
  refine (canon_col _ _ _ _ _ p q).trans ?_
  split_ifs with k3
  · exact (hB3 _).trans (R.col_qb 3 ⟨q.val - 1152, by omega⟩ q (by show q.val = 768 + (3 * 128 + (q.val - 1152)); omega)).symm
  refine (canon_col _ _ _ _ _ p q).trans ?_
  split_ifs with k4
  · exact (hB2 _).trans (R.col_qb 2 ⟨q.val - 1024, by omega⟩ q (by show q.val = 768 + (2 * 128 + (q.val - 1024)); omega)).symm
  refine (canon_col _ _ _ _ _ p q).trans ?_
  split_ifs with k5
  · exact (hB1 _).trans (R.col_qb 1 ⟨q.val - 896, by omega⟩ q (by show q.val = 768 + (1 * 128 + (q.val - 896)); omega)).symm
  refine (canon_col _ _ _ _ _ p q).trans ?_
  split_ifs with k6
  · exact (hB0 _).trans (R.col_qb 0 ⟨q.val - 768, by omega⟩ q (by show q.val = 768 + (0 * 128 + (q.val - 768)); omega)).symm
  refine (canon_col _ _ _ _ _ p q).trans ?_
  split_ifs with k7
  · exact (hV0 _).trans (R.col_v ⟨q.val - 640, by omega⟩ q (by show q.val = 640 + (q.val - 640); omega)).symm
  refine (canon_col _ _ _ _ _ p q).trans ?_
  split_ifs with k8
  · exact (hK0 _).trans (R.col_k ⟨q.val - 512, by omega⟩ q (by show q.val = 512 + (q.val - 512); omega)).symm
  refine (canon_col _ _ _ _ _ p q).trans ?_
  split_ifs with k9
  · exact (hA3 _).trans (R.col_q 3 ⟨q.val - 384, by omega⟩ q (by show q.val = 3 * 128 + (q.val - 384); omega)).symm
  refine (canon_col _ _ _ _ _ p q).trans ?_
  split_ifs with k10
  · exact (hA2 _).trans (R.col_q 2 ⟨q.val - 256, by omega⟩ q (by show q.val = 2 * 128 + (q.val - 256); omega)).symm
  refine (canon_col _ _ _ _ _ p q).trans ?_
  split_ifs with k11
  · exact (hA1 _).trans (R.col_q 1 ⟨q.val - 128, by omega⟩ q (by show q.val = 1 * 128 + (q.val - 128); omega)).symm
  refine (canon_col _ _ _ _ _ p q).trans ?_
  split_ifs with k12
  · exact (hA0 _).trans (R.col_q 0 ⟨q.val - 0, by omega⟩ q (by show q.val = 0 * 128 + (q.val - 0); omega)).symm
  exfalso
  omega

theorem out_A_17 (hc0 : cond0_0 i) (y : S512x3584.Idx) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 x16 y = (rowB x0 x1 x2 x3 x4 x5 x6 x7 x8 x9 x10 x11 x12 x13 x14 x15 x16 (y 0)).col (y 1) := by
  frame_out
  obtain ⟨p, q, rfl⟩ : ∃ p q, y = ix2 p q := ⟨y 0, y 1, by funext a; fin_cases a <;> rfl⟩
  simp only [heads8, heads2, side_read, q0, q1, q2, q3, kk, sq, b0, b1, b2, b3, v82, id1, tables, same]
  refine cols_of (rowB x0 x1 x2 x3 x4 x5 x6 x7 x8 x9 x10 x11 x12 x13 x14 x15 x16 p) p q _ _ _ _ _ _ _ _ _ _ _ _ _ _ _ _ _ _ _ _ _ _ _ _ _ _ ?_ ?_ ?_ ?_ ?_ ?_ ?_ ?_ ?_ ?_ ?_ ?_ ?_
  · exact fun l => plain_g x7 p l
  · exact fun l => plain_v x5 _ _ p l
  · exact fun l => piece_kb x0 x1 x2 x3 x4 x5 x6 x7 x8 x9 x10 x11 x12 x13 x14 x15 x16 _ _ p l
  · exact fun l => piece_qb x0 x1 x2 x3 x4 x5 x6 x7 x8 x9 x10 x11 x12 x13 x14 x15 x16 3 _ _ p l
  · exact fun l => piece_qb x0 x1 x2 x3 x4 x5 x6 x7 x8 x9 x10 x11 x12 x13 x14 x15 x16 2 _ _ p l
  · exact fun l => piece_qb x0 x1 x2 x3 x4 x5 x6 x7 x8 x9 x10 x11 x12 x13 x14 x15 x16 1 _ _ p l
  · exact fun l => piece_qb x0 x1 x2 x3 x4 x5 x6 x7 x8 x9 x10 x11 x12 x13 x14 x15 x16 0 _ _ p l
  · exact fun l => plain_v x2 _ _ p l
  · exact fun l => piece_k x0 x1 x2 x3 x4 x5 x6 x7 x8 x9 x10 x11 x12 x13 x14 x15 x16 _ _ _ p l
  · exact fun l => piece_q x0 x1 x2 x3 x4 x5 x6 x7 x8 x9 x10 x11 x12 x13 x14 x15 x16 3 _ _ _ p l
  · exact fun l => piece_q x0 x1 x2 x3 x4 x5 x6 x7 x8 x9 x10 x11 x12 x13 x14 x15 x16 2 _ _ _ p l
  · exact fun l => piece_q x0 x1 x2 x3 x4 x5 x6 x7 x8 x9 x10 x11 x12 x13 x14 x15 x16 1 _ _ _ p l
  · exact fun l => piece_q x0 x1 x2 x3 x4 x5 x6 x7 x8 x9 x10 x11 x12 x13 x14 x15 x16 0 _ _ _ p l

theorem out_B_17 (hc0 : ¬cond0_0 i) (y : S512x3584.Idx) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 x16 xo18 y = (rowB x0 x1 x2 x3 x4 x5 x6 x7 x8 x9 x10 x11 x12 x13 x14 x15 x16 (y 0)).col (y 1) := by
  frame_out
  obtain ⟨p, q, rfl⟩ : ∃ p q, y = ix2 p q := ⟨y 0, y 1, by funext a; fin_cases a <;> rfl⟩
  simp only [heads8, heads2, side_read, q0, q1, q2, q3, kk, sq, b0, b1, b2, b3, v82, id1, tables, same]
  refine cols_of (rowB x0 x1 x2 x3 x4 x5 x6 x7 x8 x9 x10 x11 x12 x13 x14 x15 x16 p) p q _ _ _ _ _ _ _ _ _ _ _ _ _ _ _ _ _ _ _ _ _ _ _ _ _ _ ?_ ?_ ?_ ?_ ?_ ?_ ?_ ?_ ?_ ?_ ?_ ?_ ?_
  · exact fun l => plain_g x7 p l
  · exact fun l => plain_v x5 _ _ p l
  · exact fun l => piece_kb x0 x1 x2 x3 x4 x5 x6 x7 x8 x9 x10 x11 x12 x13 x14 x15 x16 _ _ p l
  · exact fun l => piece_qb x0 x1 x2 x3 x4 x5 x6 x7 x8 x9 x10 x11 x12 x13 x14 x15 x16 3 _ _ p l
  · exact fun l => piece_qb x0 x1 x2 x3 x4 x5 x6 x7 x8 x9 x10 x11 x12 x13 x14 x15 x16 2 _ _ p l
  · exact fun l => piece_qb x0 x1 x2 x3 x4 x5 x6 x7 x8 x9 x10 x11 x12 x13 x14 x15 x16 1 _ _ p l
  · exact fun l => piece_qb x0 x1 x2 x3 x4 x5 x6 x7 x8 x9 x10 x11 x12 x13 x14 x15 x16 0 _ _ p l
  · exact fun l => plain_v x2 _ _ p l
  · exact fun l => piece_k x0 x1 x2 x3 x4 x5 x6 x7 x8 x9 x10 x11 x12 x13 x14 x15 x16 _ _ _ p l
  · exact fun l => piece_q x0 x1 x2 x3 x4 x5 x6 x7 x8 x9 x10 x11 x12 x13 x14 x15 x16 3 _ _ _ p l
  · exact fun l => piece_q x0 x1 x2 x3 x4 x5 x6 x7 x8 x9 x10 x11 x12 x13 x14 x15 x16 2 _ _ _ p l
  · exact fun l => piece_q x0 x1 x2 x3 x4 x5 x6 x7 x8 x9 x10 x11 x12 x13 x14 x15 x16 1 _ _ _ p l
  · exact fun l => piece_q x0 x1 x2 x3 x4 x5 x6 x7 x8 x9 x10 x11 x12 x13 x14 x15 x16 0 _ _ _ p l

/-- The rows of sums after a point: what was there and the point's rows' terms. -/
theorem sum_rows (u v : FVec Ideal S512x128 .f32) (xo18 : Vec Ideal S8x128 .f32) (i1 i0) (R : Fin 512 → Row) (a : Fin 8) (l : Fin 128) (Z : EReal)
    (hZ : Z = xo18 (ix2 a l)) (hu : ∀ p, u (ix2 p l) = (R p).gaink l) (hv : ∀ p, v (ix2 p l) = ∑ k, (R p).gainq k l) :
    (if a.val = 1 then k0_pay86 (F := Ideal) u (View.ld xo18 (Rect.unit (s := S8x128) ![1, 0] ![1, 128] i1)) (ix2 0 l : S1x128.Idx)
      else if a.val = 0 then k0_pay85 (F := Ideal) v (View.ld xo18 (Rect.unit (s := S8x128) ![0, 0] ![1, 128] i0)) (ix2 0 l : S1x128.Idx) else Z)
      = xo18 (ix2 a l) + ∑ p, (R p).sums a l := by
  by_cases h1 : a.val = 1
  · obtain rfl : a = 1 := Fin.ext h1
    rw [if_pos h1, pay86_at, row_at xo18 1 (by omega)]
    exact congrArg _ (Finset.sum_congr rfl fun p _ => (hu p).trans (by unfold Row.sums; rw [if_neg (by decide), if_pos (by decide)]))
  by_cases h0 : a.val = 0
  · obtain rfl : a = 0 := Fin.ext h0
    rw [if_neg h1, if_pos h0, pay85_at, row_at xo18 0 (by omega)]
    exact congrArg _ (Finset.sum_congr rfl fun p _ => (hv p).trans (by unfold Row.sums; rw [if_pos (by decide)]))
  rw [if_neg h1, if_neg h0, hZ]
  unfold Row.sums
  simp only [h1, h0, if_false, Finset.sum_const_zero, add_zero]

theorem four_sum (R : Fin 512 → Row) (s t u v : FVec Ideal S512x128 .f32) (l : Fin 128) (hs : ∀ p, s (ix2 p l) = (R p).gainq 0 l)
    (ht : ∀ p, t (ix2 p l) = (R p).gainq 1 l) (hu : ∀ p, u (ix2 p l) = (R p).gainq 2 l) (hv : ∀ p, v (ix2 p l) = (R p).gainq 3 l) (p : Fin 512) :
    addf (addf (addf (addf k0_pay8 s) t) u) v (ix2 p l) = ∑ k, (R p).gainq k l := by
  rw [four_at, hs, ht, hu, hv, Fin.sum_univ_four]

theorem out_B_18 (hc0 : ¬cond0_0 i) (y : S8x128.Idx) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 x16 xo18 y = xo18 y + ∑ p, (rowB x0 x1 x2 x3 x4 x5 x6 x7 x8 x9 x10 x11 x12 x13 x14 x15 x16 p).sums (y 0) (y 1) := by
  frame_out
  idx_vars y
  simp only [heads8, heads2, side_read, g0, g1, g2, g3, gkk, sq, v82, id1, tables, same]
  simp only [Cert.Proof.RowStores.read_row]
  rw [View.writes_nil, harg19.read_unread]
  exact sum_rows _ _ xo18 _ _ (rowB x0 x1 x2 x3 x4 x5 x6 x7 x8 x9 x10 x11 x12 x13 x14 x15 x16) y0 y1 _ rfl (fun p => gain_k x0 x1 x2 x3 x4 x5 x6 x7 x8 x9 x10 x11 x12 x13 x14 x15 x16 _ _ _ p y1)
    (four_sum (rowB x0 x1 x2 x3 x4 x5 x6 x7 x8 x9 x10 x11 x12 x13 x14 x15 x16) _ _ _ _ y1 (fun p => gain_q x0 x1 x2 x3 x4 x5 x6 x7 x8 x9 x10 x11 x12 x13 x14 x15 x16 0 _ _ _ p y1) (fun p => gain_q x0 x1 x2 x3 x4 x5 x6 x7 x8 x9 x10 x11 x12 x13 x14 x15 x16 1 _ _ _ p y1)
      (fun p => gain_q x0 x1 x2 x3 x4 x5 x6 x7 x8 x9 x10 x11 x12 x13 x14 x15 x16 2 _ _ _ p y1) (fun p => gain_q x0 x1 x2 x3 x4 x5 x6 x7 x8 x9 x10 x11 x12 x13 x14 x15 x16 3 _ _ _ p y1))

theorem out_A_18 (hc0 : cond0_0 i) (y : S8x128.Idx) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 x16 y = ∑ p, (rowB x0 x1 x2 x3 x4 x5 x6 x7 x8 x9 x10 x11 x12 x13 x14 x15 x16 p).sums (y 0) (y 1) := by
  frame_open
  simp (disch := decide) only [↓ View.readCov_skip, ↓ View.readCov_cons_toLoadRect, ↓ View.readCov_fill]
  frame_out
  idx_vars y
  rw [← View.read_writes_junk_eq_canon VO0_18]
  simp only [heads8, heads2, side_read, g0, g1, g2, g3, gkk, sq, v82, id1, tables, same]
  simp only [Cert.Proof.RowStores.read_row]
  rw [Cert.Proof.RowStores.read_fill]
  refine Eq.trans ?_ ((congrArg (· + ∑ p, (rowB x0 x1 x2 x3 x4 x5 x6 x7 x8 x9 x10 x11 x12 x13 x14 x15 x16 p).sums y0 y1) (fill_at y0 y1)).trans (zero_add _))
  exact sum_rows _ _ (k0_pay84 (F := Ideal)) _ _ (rowB x0 x1 x2 x3 x4 x5 x6 x7 x8 x9 x10 x11 x12 x13 x14 x15 x16) y0 y1 _ rfl (fun p => gain_k x0 x1 x2 x3 x4 x5 x6 x7 x8 x9 x10 x11 x12 x13 x14 x15 x16 _ _ _ p y1)
    (four_sum (rowB x0 x1 x2 x3 x4 x5 x6 x7 x8 x9 x10 x11 x12 x13 x14 x15 x16) _ _ _ _ y1 (fun p => gain_q x0 x1 x2 x3 x4 x5 x6 x7 x8 x9 x10 x11 x12 x13 x14 x15 x16 0 _ _ _ p y1) (fun p => gain_q x0 x1 x2 x3 x4 x5 x6 x7 x8 x9 x10 x11 x12 x13 x14 x15 x16 1 _ _ _ p y1)
      (fun p => gain_q x0 x1 x2 x3 x4 x5 x6 x7 x8 x9 x10 x11 x12 x13 x14 x15 x16 2 _ _ _ p y1) (fun p => gain_q x0 x1 x2 x3 x4 x5 x6 x7 x8 x9 x10 x11 x12 x13 x14 x15 x16 3 _ _ _ p y1))

end Cert.Kernel7Ideal.Qk
-- ==== Proof.QkTables.lean ====
module

public import proofs.«01_k».proof.Proof.QkMath

@[expose] public section

set_option maxRecDepth 16384

noncomputable section

namespace Cert.Proof.QkMath

open Idealize.ShloMosaic Cert.Proof.AttnMath Cert.Proof.Finite
open Cert.Proof.NormMath (E H eR E_real H_real div_real)

/-! The angles of the two rotations: of a place's row and column in the grid, sixteen angles each, and of its number, thirty-two. -/

/-- The quotient rounded down and the remainder of the divisor's sign, of words. -/
def sgn (x : BitVec 32) : BitVec 32 := if x = 0 then 0 else if x.msb = true then -1 else 1
def fdiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)
def safe (d : BitVec 32) : BitVec 32 := Scalar.select (IntOp.cmpi .eq d 0#32) 1#32 d
def frem (x d : BitVec 32) : BitVec 32 :=
  Scalar.select (IntOp.andi (IntOp.cmpi .ne (IntOp.cmpi .slt (IntOp.remsi .host x (safe d)) 0#32) (IntOp.cmpi .slt (safe d) 0#32))
      (IntOp.cmpi .ne (IntOp.remsi .host x (safe d)) 0#32))
    (IntOp.addi (IntOp.remsi .host x (safe d)) (safe d)) (IntOp.remsi .host x (safe d))

/-- The angle number `j` of place `n`, of a rotation of `d` lanes. -/
def ang (n : BitVec 32) (d : BitVec 32) (j : ℕ) : EReal :=
  FloatOps.sitofp (F := Ideal) .f32 n * Ideal.pow (Ideal.ofBits .f32 0x461C4000#32)
    (Ideal.div (-(Ideal.ofBits .f32 0x40000000#32 * FloatOps.sitofp (F := Ideal) .f32 (BitVec.ofNat 32 j))) (Ideal.ofBits .f32 d))
def angRow (r : Fin 8192) (j : ℕ) : EReal := ang (fdiv (BitVec.ofNat 32 r.val) 64#32) 0x42000000#32 j
def angCol (r : Fin 8192) (j : ℕ) : EReal := ang (frem (BitVec.ofNat 32 r.val) 64#32) 0x42000000#32 j
def angOne (r : Fin 8192) (j : ℕ) : EReal := ang (BitVec.ofNat 32 r.val) 0x42800000#32 j

/-- A head's lanes of a function of the angles, of the two axes and of one. -/
def tabA (f : EReal → EReal) (r : Fin 8192) (j : Fin 64) : EReal :=
  if j.val < 16 then f (angRow r j.val) else if j.val - 16 < 16 then f (angRow r (j.val - 16))
  else if j.val - 16 - 16 < 16 then f (angCol r (j.val - 16 - 16)) else f (angCol r (j.val - 16 - 16 - 16))
def tabB (f : EReal → EReal) (r : Fin 8192) (j : Fin 64) : EReal := if j.val < 32 then f (angOne r j.val) else f (angOne r (j.val - 32))

def inHead (l : Fin 128) : Fin 64 := ⟨l.val % 64, by omega⟩

theorem inHead_lane (h : Fin 2) (j : Fin 64) : inHead (lane h j) = j := Fin.ext (by show (h.val * 64 + j.val) % 64 = j.val; omega)

/-- The kernel's three tables of a rotation, whose halves are `w` lanes wide. -/
def cosT (t : (EReal → EReal) → Fin 8192 → Fin 64 → EReal) (r : Fin 8192) (l : Fin 128) : EReal := t Ideal.cos r (inHead l)
def lowT (w : ℕ) (t : (EReal → EReal) → Fin 8192 → Fin 64 → EReal) (r : Fin 8192) (l : Fin 128) : EReal :=
  if (inHead l).val % (2 * w) < w then -t Ideal.sin r (inHead l) else 0
def highT (w : ℕ) (t : (EReal → EReal) → Fin 8192 → Fin 64 → EReal) (r : Fin 8192) (l : Fin 128) : EReal :=
  if (inHead l).val % (2 * w) < w then 0 else t Ideal.sin r (inHead l)

theorem first32 : ∀ l : Fin 128, IntOp.cmpi .slt (frem (BitVec.ofNat 32 l.val) 32#32) 16#32 = if (inHead l).val % (2 * 16) < 16 then 1#1 else 0#1 := by
  decide +kernel
theorem first64 : ∀ l : Fin 128, IntOp.cmpi .slt (frem (BitVec.ofNat 32 l.val) 64#32) 32#32 = if (inHead l).val % (2 * 32) < 32 then 1#1 else 0#1 := by
  decide +kernel
theorem head_of : ∀ l : Fin 128, fdiv (BitVec.ofNat 32 l.val) 64#32 = BitVec.ofNat 32 (l.val / 64) := by decide +kernel
theorem same_head : ∀ a b : Fin 2, IntOp.cmpi .eq (BitVec.ofNat 32 a.val) (BitVec.ofNat 32 b.val) = if a.val = b.val then 1#1 else 0#1 := by decide +kernel

theorem select_if (p : Prop) [Decidable p] (a b : EReal) : Scalar.select (if p then 1#1 else 0#1) a b = if p then a else b := by
  by_cases h : p
  · rw [if_pos h, if_pos h]; rfl
  · rw [if_neg h, if_neg h]; rfl

theorem bd_select (k l : Fin 128) :
    Scalar.select (IntOp.cmpi .eq (fdiv (BitVec.ofNat 32 k.val) 64#32) (fdiv (BitVec.ofNat 32 l.val) 64#32)) (Ideal.ofBits .f32 0x3C800000#32) (0 : EReal) = bd k l := by
  rw [head_of, head_of, same_head ⟨k.val / 64, by omega⟩ ⟨l.val / 64, by omega⟩]
  exact select_if _ _ _

theorem zero_bits : Ideal.ofBits .f32 0#32 = (0 : EReal) := by
  simp [Ideal.ofBits, Ideal.ieee]

theorem low_select {w : ℕ} (b : BitVec 1) (t : (EReal → EReal) → Fin 8192 → Fin 64 → EReal) (r : Fin 8192) (l : Fin 128)
    (h : b = if (inHead l).val % (2 * w) < w then 1#1 else 0#1) : Scalar.select b (-t Ideal.sin r (inHead l)) (Ideal.ofBits .f32 0#32) = lowT w t r l := by
  rw [h, zero_bits]; exact select_if _ _ _
theorem high_select {w : ℕ} (b : BitVec 1) (t : (EReal → EReal) → Fin 8192 → Fin 64 → EReal) (r : Fin 8192) (l : Fin 128)
    (h : b = if (inHead l).val % (2 * w) < w then 1#1 else 0#1) : Scalar.select b (Ideal.ofBits .f32 0#32) (t Ideal.sin r (inHead l)) = highT w t r l := by
  rw [h, zero_bits]; exact select_if _ _ _

/-- Every angle is real, and so are its cosine and sine. -/
theorem ang_re (n d : BitVec 32) (hd : d = 0x42000000#32 ∨ d = 0x42800000#32) (j : ℕ) : ∃ x : ℝ, ang n d j = x := by
  have h2 : Ideal.ofBits .f32 0x40000000#32 = ((2 : ℝ) : EReal) := by
    simp [Ideal.ofBits, Ideal.ieee]
    first | done | (refine (EReal.coe_mul _ _).symm.trans ?_; norm_num)
  have ht : ∃ a : ℝ, Ideal.ofBits .f32 0x461C4000#32 = (a : EReal) := by
    simp [Ideal.ofBits, Ideal.ieee]
    exact ⟨_, (EReal.coe_mul _ _).symm⟩
  have hdd : ∃ a : ℝ, a ≠ 0 ∧ Ideal.ofBits .f32 d = (a : EReal) := by
    rcases hd with rfl | rfl
    · refine ⟨32, by norm_num, ?_⟩
      simp [Ideal.ofBits, Ideal.ieee]
      refine (EReal.coe_mul _ _).symm.trans ?_
      norm_num
    · exact ⟨64, by norm_num, W_real⟩
  obtain ⟨a, ha⟩ := ht
  obtain ⟨e, he, hd'⟩ := hdd
  have hn : ∀ b : BitVec 32, FloatOps.sitofp (F := Ideal) .f32 b = ((b.toInt : ℝ) : EReal) := fun _ => rfl
  refine ⟨n.toInt * Real.rpow a (-(2 * (BitVec.ofNat 32 j).toInt) / e), ?_⟩
  unfold ang
  rw [hn, hn, h2, ha, hd', ← EReal.coe_mul, ← EReal.coe_neg, div_real _ _ he, EReal.coe_mul]
  rfl

theorem tabA_re (f : EReal → EReal) (hf : ∀ x : ℝ, Re (f x)) (r : Fin 8192) (j : Fin 64) : Re (tabA f r j) := by
  have h : ∀ n i, Re (f (ang n 0x42000000#32 i)) := fun n i => by
    obtain ⟨x, e⟩ := ang_re n 0x42000000#32 (Or.inl rfl) i
    rw [e]; exact hf x
  unfold tabA angRow angCol
  split_ifs <;> exact h _ _

theorem cos_re (x : ℝ) : Re (Ideal.cos x) := ⟨Real.cos x, rfl⟩
theorem sin_re (x : ℝ) : Re (Ideal.sin x) := ⟨Real.sin x, rfl⟩

end Cert.Proof.QkMath
-- ==== Proof.QkHost.lean ====
module

public import proofs.«01_k».proof.Proof.QkRun
public import proofs.«01_k».proof.Proof.QkTables
public import Idealize.ShloMosaic.Lib.StableHlo.ReadAt

@[expose] public section

set_option maxRecDepth 16384

noncomputable section

namespace Cert.Kernel7Ideal.Qk

open Cert.Kernel7Ideal Cert.Kernel7Ideal.Gen Idealize.ShloMosaic Idealize.ShloMosaic.TcCoe Idealize.SL.Sem

/-! The blocks the grid points read, in terms of the arguments: the arrays as the host lays them out, and the tables of the two rotations. -/

open Cert.Proof.QkMath
open Idealize.ShloMosaic.Pipeline (Dat)

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![t.val, 0] ∧ win0_7.index t = ![t.val, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![0, 0] :=
  (by decide +kernel : ∀ t : Fin grid0.N, _)

theorem N16 (t : Fin cfg0.N) : t.val < 16 := lt_of_lt_of_eq t.isLt Gen.N_0

/-- Row `p` of the block of rows at grid point `t`, as a row of the whole array. -/
def row (t : Fin cfg0.N) (p : Fin 512) : Fin 8192 := ⟨t.val * 512 + p.val, by have := N16 t; omega⟩

/-- The argument arrays of device `c`. -/
abbrev qaA (c : Dev nD) : FVec Ideal S1x8192x512 .f32 := m ((c.tc : Thread nD τ).loc main_arg0)
abbrev kaA (c : Dev nD) : FVec Ideal S1x8192x128 .f32 := m ((c.tc : Thread nD τ).loc main_arg1)
abbrev gqA (c : Dev nD) : FVec Ideal S1x64 .f32 := m ((c.tc : Thread nD τ).loc main_arg2)
abbrev gkA (c : Dev nD) : FVec Ideal S1x64 .f32 := m ((c.tc : Thread nD τ).loc main_arg3)
abbrev dqA (c : Dev nD) : FVec Ideal S1x8192x8x64 .f32 := m ((c.tc : Thread nD τ).loc main_arg4)
abbrev dkA (c : Dev nD) : FVec Ideal S1x8192x2x64 .f32 := m ((c.tc : Thread nD τ).loc main_arg5)
abbrev dvA (c : Dev nD) : FVec Ideal S1x8192x2x64 .f32 := m ((c.tc : Thread nD τ).loc main_arg6)
abbrev dqbA (c : Dev nD) : FVec Ideal S1x8192x8x64 .f32 := m ((c.tc : Thread nD τ).loc main_arg7)
abbrev dkbA (c : Dev nD) : FVec Ideal S1x8192x2x64 .f32 := m ((c.tc : Thread nD τ).loc main_arg8)
abbrev dvbA (c : Dev nD) : FVec Ideal S1x8192x2x64 .f32 := m ((c.tc : Thread nD τ).loc main_arg9)
abbrev gaA (c : Dev nD) : FVec Ideal S1x8192x1024 .f32 := m ((c.tc : Thread nD τ).loc main_arg10)
abbrev gbA (c : Dev nD) : FVec Ideal S1x8192x1024 .f32 := m ((c.tc : Thread nD τ).loc main_arg11)

theorem blk0 (c : Dev nD) (t : Fin cfg0.N) (h : Fin 8) (p : Fin 512) (j : Fin 64) : (iblk m c 0 t (ix3 h p j) : EReal) = dqA m c (ix4 0 (row t p) h j) := by
  blk_simp [iblk]
  unfold V
  after_reads_at
  blk_point [idx t, row]

theorem blk1 (c : Dev nD) (t : Fin cfg0.N) (h : Fin 2) (p : Fin 512) (j : Fin 64) : (iblk m c 1 t (ix3 h p j) : EReal) = dkA m c (ix4 0 (row t p) h j) := by
  blk_simp [iblk]
  unfold V
  after_reads_at
  blk_point [idx t, row]

theorem blk2 (c : Dev nD) (t : Fin cfg0.N) (h : Fin 2) (p : Fin 512) (j : Fin 64) : (iblk m c 2 t (ix3 h p j) : EReal) = dvA m c (ix4 0 (row t p) h j) := by
  blk_simp [iblk]
  unfold V
  after_reads_at
  blk_point [idx t, row]

theorem blk3 (c : Dev nD) (t : Fin cfg0.N) (h : Fin 8) (p : Fin 512) (j : Fin 64) : (iblk m c 3 t (ix3 h p j) : EReal) = dqbA m c (ix4 0 (row t p) h j) := by
  blk_simp [iblk]
  unfold V
  after_reads_at
  blk_point [idx t, row]

theorem blk4 (c : Dev nD) (t : Fin cfg0.N) (h : Fin 2) (p : Fin 512) (j : Fin 64) : (iblk m c 4 t (ix3 h p j) : EReal) = dkbA m c (ix4 0 (row t p) h j) := by
  blk_simp [iblk]
  unfold V
  after_reads_at
  blk_point [idx t, row]

theorem blk5 (c : Dev nD) (t : Fin cfg0.N) (h : Fin 2) (p : Fin 512) (j : Fin 64) : (iblk m c 5 t (ix3 h p j) : EReal) = dvbA m c (ix4 0 (row t p) h j) := by
  blk_simp [iblk]
  unfold V
  after_reads_at
  blk_point [idx t, row]

/-- The arrays the host joins, and the six tables. -/
theorem raw_arr (c : Dev nD) (r : Fin 8192) (q : Fin 640) : (V m c main_v8 (ix2 r q) : EReal)
    = if h : q.val < 512 then qaA m c (ix3 0 r ⟨q.val, h⟩) else kaA m c (ix3 0 r ⟨q.val - 512, by omega⟩) := by
  unfold V
  after_reads_at

theorem gate_arr (c : Dev nD) (r : Fin 8192) (q : Fin 2048) : (V m c main_v12 (ix2 r q) : EReal)
    = if h : q.val < 1024 then gaA m c (ix3 0 r ⟨q.val, h⟩) else gbA m c (ix3 0 r ⟨q.val - 1024, by omega⟩) := by
  unfold V
  after_reads_at
  after_reads_at

theorem gq_arr (c : Dev nD) (l : Fin 128) : (V m c main_v2 (ix2 0 l) : EReal) = gqA m c (ix2 0 (inHead l)) := by
  unfold V
  after_reads_at
  rfl

theorem gk_arr (c : Dev nD) (l : Fin 128) : (V m c main_v5 (ix2 0 l) : EReal) = gkA m c (ix2 0 (inHead l)) := by
  unfold V
  after_reads_at
  rfl

theorem bd_arr (c : Dev nD) (k l : Fin 128) : (V m c main_v36 (ix2 k l) : EReal) = bd k l := by
  refine Eq.trans ?_ (bd_select k l)
  unfold V
  after_reads_at
  rfl

theorem ca_arr (c : Dev nD) (r : Fin 8192) (l : Fin 128) : (V m c main_v80 (ix2 r l) : EReal) = cosT tabA r l := by
  unfold V
  after_reads_at
  after_reads_at
  rfl

theorem la_arr (c : Dev nD) (r : Fin 8192) (l : Fin 128) : (V m c main_v118 (ix2 r l) : EReal) = lowT 16 tabA r l := by
  refine Eq.trans ?_ (low_select (w := 16) _ tabA r l (first32 l))
  unfold V
  after_reads_at
  after_reads_at
  refine congr (congr (congrArg _ ?_) ?_) ?_
  · rfl
  · rfl
  · simp only [id]; pointwise

theorem ha_arr (c : Dev nD) (r : Fin 8192) (l : Fin 128) : (V m c main_v119 (ix2 r l) : EReal) = highT 16 tabA r l := by
  refine Eq.trans ?_ (high_select (w := 16) _ tabA r l (first32 l))
  unfold V
  after_reads_at
  after_reads_at
  refine congr (congr (congrArg _ ?_) ?_) ?_
  · rfl
  · simp only [id]; pointwise
  · rfl

theorem cb_arr (c : Dev nD) (r : Fin 8192) (l : Fin 128) : (V m c main_v109 (ix2 r l) : EReal) = cosT tabB r l := by
  unfold V
  after_reads_at
  after_reads_at
  rfl

theorem lb_arr (c : Dev nD) (r : Fin 8192) (l : Fin 128) : (V m c main_v121 (ix2 r l) : EReal) = lowT 32 tabB r l := by
  refine Eq.trans ?_ (low_select (w := 32) _ tabB r l (first64 l))
  unfold V
  after_reads_at
  after_reads_at
  refine congr (congr (congrArg _ ?_) ?_) ?_
  · rfl
  · rfl
  · simp only [id]; pointwise

theorem hb_arr (c : Dev nD) (r : Fin 8192) (l : Fin 128) : (V m c main_v122 (ix2 r l) : EReal) = highT 32 tabB r l := by
  refine Eq.trans ?_ (high_select (w := 32) _ tabB r l (first64 l))
  unfold V
  after_reads_at
  after_reads_at
  refine congr (congr (congrArg _ ?_) ?_) ?_
  · rfl
  · simp only [id]; pointwise
  · rfl

theorem blk6 (c : Dev nD) (t : Fin cfg0.N) (p : Fin 512) (q : Fin 640) : (iblk m c 6 t (ix2 p q) : EReal) = V m c main_v8 (ix2 (row t p) q) := by
  blk_simp [iblk]
  show (V m c main_v8 _ : EReal) = V m c main_v8 _
  refine congrArg _ ?_
  blk_ext [idx t, row]

theorem blk7 (c : Dev nD) (t : Fin cfg0.N) (p : Fin 512) (q : Fin 2048) : (iblk m c 7 t (ix2 p q) : EReal) = V m c main_v12 (ix2 (row t p) q) := by
  blk_simp [iblk]
  show (V m c main_v12 _ : EReal) = V m c main_v12 _
  refine congrArg _ ?_
  blk_ext [idx t, row]

theorem blk8 (c : Dev nD) (t : Fin cfg0.N) (l : Fin 128) : (iblk m c 8 t (ix2 0 l) : EReal) = V m c main_v2 (ix2 0 l) := by
  blk_simp [iblk]
  show (V m c main_v2 _ : EReal) = V m c main_v2 _
  refine congrArg _ ?_
  blk_ext [idx t, row]

theorem blk9 (c : Dev nD) (t : Fin cfg0.N) (l : Fin 128) : (iblk m c 9 t (ix2 0 l) : EReal) = V m c main_v5 (ix2 0 l) := by
  blk_simp [iblk]
  show (V m c main_v5 _ : EReal) = V m c main_v5 _
  refine congrArg _ ?_
  blk_ext [idx t, row]

theorem blk10 (c : Dev nD) (t : Fin cfg0.N) (k l : Fin 128) : (iblk m c 10 t (ix2 k l) : EReal) = V m c main_v36 (ix2 k l) := by
  blk_simp [iblk]
  show (V m c main_v36 _ : EReal) = V m c main_v36 _
  refine congrArg _ ?_
  blk_ext [idx t, row]

theorem blk11 (c : Dev nD) (t : Fin cfg0.N) (p : Fin 512) (l : Fin 128) : (iblk m c 11 t (ix2 p l) : EReal) = V m c main_v80 (ix2 (row t p) l) := by
  blk_simp [iblk]
  show (V m c main_v80 _ : EReal) = V m c main_v80 _
  refine congrArg _ ?_
  blk_ext [idx t, row]

theorem blk12 (c : Dev nD) (t : Fin cfg0.N) (p : Fin 512) (l : Fin 128) : (iblk m c 12 t (ix2 p l) : EReal) = V m c main_v118 (ix2 (row t p) l) := by
  blk_simp [iblk]
  show (V m c main_v118 _ : EReal) = V m c main_v118 _
  refine congrArg _ ?_
  blk_ext [idx t, row]

theorem blk13 (c : Dev nD) (t : Fin cfg0.N) (p : Fin 512) (l : Fin 128) : (iblk m c 13 t (ix2 p l) : EReal) = V m c main_v119 (ix2 (row t p) l) := by
  blk_simp [iblk]
  show (V m c main_v119 _ : EReal) = V m c main_v119 _
  refine congrArg _ ?_
  blk_ext [idx t, row]

theorem blk14 (c : Dev nD) (t : Fin cfg0.N) (p : Fin 512) (l : Fin 128) : (iblk m c 14 t (ix2 p l) : EReal) = V m c main_v109 (ix2 (row t p) l) := by
  blk_simp [iblk]
  show (V m c main_v109 _ : EReal) = V m c main_v109 _
  refine congrArg _ ?_
  blk_ext [idx t, row]

theorem blk15 (c : Dev nD) (t : Fin cfg0.N) (p : Fin 512) (l : Fin 128) : (iblk m c 15 t (ix2 p l) : EReal) = V m c main_v121 (ix2 (row t p) l) := by
  blk_simp [iblk]
  show (V m c main_v121 _ : EReal) = V m c main_v121 _
  refine congrArg _ ?_
  blk_ext [idx t, row]

theorem blk16 (c : Dev nD) (t : Fin cfg0.N) (p : Fin 512) (l : Fin 128) : (iblk m c 16 t (ix2 p l) : EReal) = V m c main_v122 (ix2 (row t p) l) := by
  blk_simp [iblk]
  show (V m c main_v122 _ : EReal) = V m c main_v122 _
  refine congrArg _ ?_
  blk_ext [idx t, row]

end Cert.Kernel7Ideal.Qk
-- ==== Proof.QkFinal.lean ====
module

public import proofs.«01_k».proof.Proof.QkHost

@[expose] public section

set_option maxRecDepth 16384

noncomputable section

namespace Cert.Kernel7Ideal.Qk

open Cert.Kernel7Ideal Cert.Kernel7Ideal.Gen Idealize.ShloMosaic Idealize.ShloMosaic.TcCoe Idealize.SL.Sem

/-! The two arrays the kernel returns, as functions of its arguments: the columns' gradient row by row, and the sums over all rows. -/

open Cert.Proof.QkMath
open Idealize.ShloMosaic.Pipeline (Dat)

variable (m : (ℓ : Loc nD τ sig) → Buf (Elt Ideal) ℓ)

/-- A row of the argument arrays. -/
def rowA (c : Dev nD) (r : Fin 8192) : Row where
  B := bd
  dq := fun h j => dqA m c (ix4 0 r h j)
  dk := fun h j => dkA m c (ix4 0 r h j)
  dv := fun h j => dvA m c (ix4 0 r h j)
  dqb := fun h j => dqbA m c (ix4 0 r h j)
  dkb := fun h j => dkbA m c (ix4 0 r h j)
  dvb := fun h j => dvbA m c (ix4 0 r h j)
  raw := fun q => if h : q.val < 512 then qaA m c (ix3 0 r ⟨q.val, h⟩) else kaA m c (ix3 0 r ⟨q.val - 512, by omega⟩)
  gt := fun q => if h : q.val < 1024 then gaA m c (ix3 0 r ⟨q.val, h⟩) else gbA m c (ix3 0 r ⟨q.val - 1024, by omega⟩)
  gq := fun l => gqA m c (ix2 0 (inHead l))
  gk := fun l => gkA m c (ix2 0 (inHead l))
  ca := cosT tabA r
  la := lowT 16 tabA r
  ha := highT 16 tabA r
  cb := cosT tabB r
  lb := lowT 32 tabB r
  hb := highT 32 tabB r

theorem row_eq (c : Dev nD) (t : Fin cfg0.N) (p : Fin 512) : rowB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p = rowA m c (row t p) := by
  unfold rowB rowA
  rw [Row.mk.injEq]
  refine ⟨?_, ?_, ?_, ?_, ?_, ?_, ?_, ?_, ?_, ?_, ?_, ?_, ?_, ?_, ?_, ?_, ?_⟩
  · exact funext fun k => funext fun l => (blk10 m c t k l).trans (bd_arr m c k l)
  · exact funext fun h => funext fun j => blk0 m c t h p j
  · exact funext fun h => funext fun j => blk1 m c t h p j
  · exact funext fun h => funext fun j => blk2 m c t h p j
  · exact funext fun h => funext fun j => blk3 m c t h p j
  · exact funext fun h => funext fun j => blk4 m c t h p j
  · exact funext fun h => funext fun j => blk5 m c t h p j
  · exact funext fun q => (blk6 m c t p q).trans (raw_arr m c _ q)
  · exact funext fun q => (blk7 m c t p q).trans (gate_arr m c _ q)
  · exact funext fun l => (blk8 m c t l).trans (gq_arr m c l)
  · exact funext fun l => (blk9 m c t l).trans (gk_arr m c l)
  · exact funext fun l => (blk11 m c t p l).trans (ca_arr m c _ l)
  · exact funext fun l => (blk12 m c t p l).trans (la_arr m c _ l)
  · exact funext fun l => (blk13 m c t p l).trans (ha_arr m c _ l)
  · exact funext fun l => (blk14 m c t p l).trans (cb_arr m c _ l)
  · exact funext fun l => (blk15 m c t p l).trans (lb_arr m c _ l)
  · exact funext fun l => (blk16 m c t p l).trans (hb_arr m c _ l)

def G17 (c : Dev nD) : S8192x3584.Idx → EReal := fun y => (rowA m c (y 0)).col (y 1)
def G18 (c : Dev nD) : S8x128.Idx → EReal := fun y => ∑ s : Fin 16, ∑ p : Fin 512, (rowA m c ⟨s.val * 512 + p.val, by omega⟩).sums (y 0) (y 1)

theorem col_out (c : Dev nD) (t : Fin cfg0.N) (p : Fin 512) (q : Fin 3584) : (outsAt0 m c t.val t.isLt).1 (ix2 p q) = G17 m c (ix2 (row t p) q) := by
  show _ = (rowA m c (row t p)).col q
  by_cases h0 : t.val % 16 = 0
  · rw [outsAt0_A m c t h0]
    dsimp only
    rw [out_A_17]
    exact congrArg (fun R => Row.col R q) (row_eq m c t p)
  · rw [outsAt0_B m c t h0]
    dsimp only
    rw [out_B_17]
    exact congrArg (fun R => Row.col R q) (row_eq m c t p)

theorem final17 (c : Dev nD) : (dats m 0 c).arrAt 17 cfg0.N = G17 m c := by
  refine (dats m 0 c).arrAt_eq_of_covers 17 _ (by decide +kernel) fun t _ y => ?_
  blk_simp
  rw [after0_17]
  idx_vars y
  refine (col_out m c t y0 y1).trans (show G17 m c (ix2 (row t y0) y1) = _ from ?_)
  blk_ext [idx t, row]

theorem pt_lt (t : Fin cfg0.N) (s : Fin 16) : 16 * (t.val / 16) + s.val < cfg0.N := by
  have := N16 t
  exact lt_of_lt_of_eq (by omega : 16 * (t.val / 16) + s.val < 16) Gen.N_0.symm

/-- The points of the run that ends at the point where the sums are written back. -/
def pt (t : Fin cfg0.N) (s : Fin 16) : Fin cfg0.N := ⟨16 * (t.val / 16) + s.val, pt_lt t s⟩

theorem pt_row (t : Fin cfg0.N) (s : Fin 16) (p : Fin 512) : row (pt t s) p = ⟨s.val * 512 + p.val, by omega⟩ := by
  have := N16 t
  exact Fin.ext (by simp only [row, pt]; omega)

/-- What a point adds to the sums. -/
def step (c : Dev nD) (t : Fin cfg0.N) (y : S8x128.Idx) : EReal := ∑ p : Fin 512, (rowA m c (row t p)).sums (y 0) (y 1)

theorem step_eq (c : Dev nD) (t : Fin cfg0.N) (y : S8x128.Idx) : ∑ p, (rowB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p).sums (y 0) (y 1) = step m c t y :=
  Finset.sum_congr rfl fun p _ => congrArg (fun R => Row.sums R (y 0) (y 1)) (row_eq m c t p)

theorem after18_sum (c : Dev nD) (t : Fin cfg0.N) (hf : (cfg0.win 18).flush t = true) (y : S8x128.Idx) :
    (outsAt0 m c t.val t.isLt).2 y = ∑ s : Fin 16, step m c (pt t s) y := by
  rw [Pipeline.eq_sum_fin_of_reset_step_apply_of_flush (fun n h => (outsAt0 m c n h).2) 16 (fun _ => 0) (fun t => step m c t)
    (fun t h j => by rw [outsAt0_A m c t h]; dsimp only; rw [out_A_18, zero_add]; exact step_eq m c t j)
    (fun t h j => by rw [outsAt0_B m c t h]; dsimp only; rw [out_B_18]; exact congrArg _ (step_eq m c t j)) t ((flush0_18 t).mp hf) y, zero_add]
  rfl

theorem final18 (c : Dev nD) : (dats m 0 c).arrAt 18 cfg0.N = G18 m c := by
  refine (dats m 0 c).arrAt_eq_of_covers 18 _ (by decide +kernel) fun t hf y => ?_
  blk_simp
  rw [after0_18]
  idx_vars y
  rw [after18_sum m c t hf]
  simp only [step, pt_row]
  refine (show G18 m c (ix2 y0 y1) = _ from ?_)
  blk_ext [idx t]

end Cert.Kernel7Ideal.Qk
-- ==== Proof.QkPads.lean ====
module

public import proofs.«01_k».proof.Proof.QkTables

@[expose] public section

set_option maxRecDepth 16384

noncomputable section

/-! The derivative of the two rotations, as sums of padded halves, is the row turned back. -/

namespace Cert.Proof.QkMath

open Idealize.ShloMosaic

/-- Entry number `i` of a head's row. -/
def at64 (z : Fin 64 → EReal) (i : ℕ) : EReal := if h : i < 64 then z ⟨i, h⟩ else 0

theorem at64_val (z : Fin 64 → EReal) (i : Fin 64) : at64 z i.val = z i := dif_pos i.isLt

/-- The row turned back, its entries named by their numbers. -/
theorem unrope_nat (w : ℕ) (z c s : Fin 64 → EReal) (j : Fin 64) :
    unrope w z c s j = if j.val % (2 * w) < w then z j * c j + at64 z ((j.val + w) % 64) * s j else z j * c j + -at64 z ((j.val + 64 - w) % 64) * s j := by
  unfold unrope at64
  rw [dif_pos (Nat.mod_lt _ (by decide)), dif_pos (Nat.mod_lt _ (by decide))]

theorem two_pads (z : Fin 64 → EReal) (r : Fin 8192) (a b : ℕ) (hab : a < b) (j : Fin 64) :
    ((if h : a < b ∧ 32 ≤ j.val ∧ j.val - 32 < 32 then
        (if h' : a < b ∧ 16 ≤ j.val - 32 ∧ j.val - 32 - 16 < 16 then
            at64 z (48 + (j.val - 32 - 16)) * Ideal.cos (angCol r (j.val - 32 - 16)) + -at64 z (32 + (j.val - 32 - 16)) * Ideal.sin (angCol r (j.val - 32 - 16)) else 0) +
          (if h' : a < b ∧ j.val - 32 < 16 then
            at64 z (48 + (j.val - 32)) * Ideal.sin (angCol r (j.val - 32)) + at64 z (32 + (j.val - 32)) * Ideal.cos (angCol r (j.val - 32)) else 0)
      else 0) +
      (if h : a < b ∧ j.val < 32 then
        (if h' : a < b ∧ 16 ≤ j.val ∧ j.val - 16 < 16 then
            at64 z (16 + (j.val - 16)) * Ideal.cos (angRow r (j.val - 16)) + -at64 z (0 + (j.val - 16)) * Ideal.sin (angRow r (j.val - 16)) else 0) +
          (if h' : a < b ∧ j.val < 16 then
            at64 z (16 + j.val) * Ideal.sin (angRow r j.val) + at64 z (0 + j.val) * Ideal.cos (angRow r j.val) else 0)
      else 0) : EReal)
    = unrope 16 z (tabA Ideal.cos r) (tabA Ideal.sin r) j := by
  have hj := j.isLt
  rw [unrope_nat 16]
  unfold tabA
  rcases (by omega : j.val < 16 ∨ (16 ≤ j.val ∧ j.val < 32) ∨ (32 ≤ j.val ∧ j.val < 48) ∨ 48 ≤ j.val) with h | h | h | h
  · rw [dif_neg (by omega), dif_pos (by omega), dif_neg (by omega), dif_pos (by omega), if_pos (by omega), if_pos (by omega), if_pos (by omega),
      zero_add, zero_add, add_comm, show 0 + j.val = j.val by omega, at64_val, show 16 + j.val = (j.val + 16) % 64 by omega]
  · rw [dif_neg (by omega), dif_pos (by omega), dif_pos (by omega), dif_neg (by omega), if_neg (by omega), if_neg (by omega), if_pos (by omega), if_neg (by omega), if_pos (by omega),
      zero_add, add_zero, show 16 + (j.val - 16) = j.val by omega, at64_val, show 0 + (j.val - 16) = (j.val + 64 - 16) % 64 by omega]
  · rw [dif_pos (by omega), dif_neg (by omega), dif_pos (by omega), dif_neg (by omega), if_pos (by omega), if_neg (by omega), if_neg (by omega), if_pos (by omega), if_neg (by omega), if_neg (by omega), if_pos (by omega),
      zero_add, add_zero, add_comm, show 32 + (j.val - 32) = j.val by omega, at64_val, show 48 + (j.val - 32) = (j.val + 16) % 64 by omega, show j.val - 16 - 16 = j.val - 32 by omega]
  · rw [dif_pos (by omega), dif_pos (by omega), dif_neg (by omega), dif_neg (by omega), if_neg (by omega), if_neg (by omega), if_neg (by omega), if_neg (by omega), if_neg (by omega), if_neg (by omega), if_neg (by omega),
      add_zero, add_zero, show 48 + (j.val - 32 - 16) = j.val by omega, at64_val, show 32 + (j.val - 32 - 16) = (j.val + 64 - 16) % 64 by omega, show j.val - 16 - 16 - 16 = j.val - 32 - 16 by omega]

theorem one_pad (z : Fin 64 → EReal) (r : Fin 8192) (a b : ℕ) (hab : a < b) (j : Fin 64) :
    ((if h : a < b ∧ 32 ≤ j.val ∧ j.val - 32 < 32 then
        at64 z (32 + (j.val - 32)) * Ideal.cos (angOne r (j.val - 32)) + -at64 z (0 + (j.val - 32)) * Ideal.sin (angOne r (j.val - 32)) else 0) +
      (if h : a < b ∧ j.val < 32 then at64 z (32 + j.val) * Ideal.sin (angOne r j.val) + at64 z (0 + j.val) * Ideal.cos (angOne r j.val) else 0) : EReal)
    = unrope 32 z (tabB Ideal.cos r) (tabB Ideal.sin r) j := by
  have hj := j.isLt
  rw [unrope_nat 32]
  unfold tabB
  rcases (by omega : j.val < 32 ∨ 32 ≤ j.val) with h | h
  · rw [dif_neg (by omega), dif_pos (by omega), if_pos (by omega), if_pos (by omega), if_pos (by omega),
      zero_add, add_comm, show 0 + j.val = j.val by omega, at64_val, show 32 + j.val = (j.val + 32) % 64 by omega]
  · rw [dif_pos (by omega), dif_neg (by omega), if_neg (by omega), if_neg (by omega), if_neg (by omega),
      add_zero, show 32 + (j.val - 32) = j.val by omega, at64_val, show 0 + (j.val - 32) = (j.val + 64 - 32) % 64 by omega]

end Cert.Proof.QkMath
-- ==== Proof.QkSums.lean ====
module

public import Idealize.ShloMosaic.PureOps
public import Idealize.ShloMosaic.Lib.Pointwise

@[expose] public section

noncomputable section

/-! Sums over several axes of an array of rank five: over axes of length one, and over two axes at once. -/

namespace Cert.Proof.QkSums

open Idealize.ShloMosaic

theorem parts {a b c d e : ℕ} (x : (⟨5, ![a, b, c, d, e]⟩ : Shape).Idx) :
    ∃ (i : Fin a) (j : Fin b) (k : Fin c) (l : Fin d) (o : Fin e), x = ix5 i j k l o :=
  ⟨x 0, x 1, x 2, x 3, x 4, by funext z; fin_cases z <;> rfl⟩

/-- A sum with one term. -/
theorem single {s t : Shape} {ax : List (Fin s.rank)} (h : s.ReducesTo ax t) (l : s.Idx → EReal) (i : t.Idx) (x : s.Idx)
    (hx : ∀ y, h.drop y = i ↔ y = x) : Ideal.hostReduceAdd h l 0 i = l x := by
  have hf : (Finset.univ.filter fun y : s.Idx => h.drop y = i) = {x} := by
    ext y
    simp only [Finset.mem_filter, Finset.mem_univ, true_and, Finset.mem_singleton]
    exact hx y
  show (0 : EReal) + _ = _
  rw [hf, Finset.sum_singleton, zero_add]

variable {n p q r : ℕ}

theorem ends (h : (⟨5, ![1, n, p, q, 1]⟩ : Shape).ReducesTo [0, 4] ⟨3, ![n, p, q]⟩) (l : (⟨5, ![1, n, p, q, 1]⟩ : Shape).Idx → EReal) (i : Fin n) (j : Fin p) (k : Fin q) :
    Ideal.hostReduceAdd h l 0 (ix3 i j k) = l (ix5 0 i j k 0) := by
  refine single h l _ _ fun y => ?_
  obtain ⟨y0, y1, y2, y3, y4, rfl⟩ := parts y
  constructor
  · intro e
    have e1 : y1 = i := congrFun e 0
    have e2 : y2 = j := congrFun e 1
    have e3 : y3 = k := congrFun e 2
    obtain rfl : y0 = 0 := Subsingleton.elim _ _
    obtain rfl : y4 = 0 := Subsingleton.elim _ _
    rw [e1, e2, e3]
  · intro e
    rw [e]
    funext b
    fin_cases b <;> rfl

theorem gaps (h : (⟨5, ![1, n, 1, q, 1]⟩ : Shape).ReducesTo [0, 2, 4] ⟨2, ![n, q]⟩) (l : (⟨5, ![1, n, 1, q, 1]⟩ : Shape).Idx → EReal) (i : Fin n) (k : Fin q) :
    Ideal.hostReduceAdd h l 0 (ix2 i k) = l (ix5 0 i 0 k 0) := by
  refine single h l _ _ fun y => ?_
  obtain ⟨y0, y1, y2, y3, y4, rfl⟩ := parts y
  constructor
  · intro e
    have e1 : y1 = i := congrFun e 0
    have e3 : y3 = k := congrFun e 1
    obtain rfl : y0 = 0 := Subsingleton.elim _ _
    obtain rfl : y2 = 0 := Subsingleton.elim _ _
    obtain rfl : y4 = 0 := Subsingleton.elim _ _
    rw [e1, e3]
  · intro e
    rw [e]
    funext b
    fin_cases b <;> rfl

theorem front (h : (⟨5, ![1, 1, 1, q, r]⟩ : Shape).ReducesTo [0, 1, 2] ⟨2, ![q, r]⟩) (l : (⟨5, ![1, 1, 1, q, r]⟩ : Shape).Idx → EReal) (i : Fin q) (k : Fin r) :
    Ideal.hostReduceAdd h l 0 (ix2 i k) = l (ix5 0 0 0 i k) := by
  refine single h l _ _ fun y => ?_
  obtain ⟨y0, y1, y2, y3, y4, rfl⟩ := parts y
  constructor
  · intro e
    have e1 : y3 = i := congrFun e 0
    have e3 : y4 = k := congrFun e 1
    obtain rfl : y0 = 0 := Subsingleton.elim _ _
    obtain rfl : y1 = 0 := Subsingleton.elim _ _
    obtain rfl : y2 = 0 := Subsingleton.elim _ _
    rw [e1, e3]
  · intro e
    rw [e]
    funext b
    fin_cases b <;> rfl

/-- A sum over the second and the third axis. -/
theorem middle (h : (⟨5, ![1, n, p, q, r]⟩ : Shape).ReducesTo [1, 2] ⟨3, ![1, q, r]⟩) (l : (⟨5, ![1, n, p, q, r]⟩ : Shape).Idx → EReal) (i : Fin q) (k : Fin r) :
    Ideal.hostReduceAdd h l 0 (ix3 0 i k) = ∑ a : Fin n, ∑ b : Fin p, l (ix5 0 a b i k) := by
  show (0 : EReal) + _ = _
  rw [zero_add, ← Finset.sum_product']
  refine Finset.sum_nbij' (fun x => ((x 1 : Fin n), (x 2 : Fin p))) (fun ab => ix5 0 ab.1 ab.2 i k) ?_ ?_ ?_ ?_ ?_
  · exact fun _ _ => Finset.mem_product.mpr ⟨Finset.mem_univ _, Finset.mem_univ _⟩
  · intro ab _
    simp only [Finset.mem_filter, Finset.mem_univ, true_and]
    funext b
    fin_cases b <;> rfl
  · intro x hx
    simp only [Finset.mem_filter, Finset.mem_univ, true_and] at hx
    obtain ⟨y0, y1, y2, y3, y4, rfl⟩ := parts x
    have e1 : y3 = i := congrFun hx 1
    have e2 : y4 = k := congrFun hx 2
    obtain rfl : y0 = 0 := Subsingleton.elim _ _
    rw [e1, e2]
    rfl
  · exact fun _ _ => rfl
  · intro x hx
    simp only [Finset.mem_filter, Finset.mem_univ, true_and] at hx
    obtain ⟨y0, y1, y2, y3, y4, rfl⟩ := parts x
    have e1 : y3 = i := congrFun hx 1
    have e2 : y4 = k := congrFun hx 2
    obtain rfl : y0 = 0 := Subsingleton.elim _ _
    rw [e1, e2]
    rfl

end Cert.Proof.QkSums
-- ==== Proof.QkRef.lean ====
module

public import proofs.«01_k».proof.Proof.QkPads
public import proofs.«01_k».proof.Proof.Gen.Reference7Ideal.Run
public import Idealize.ShloMosaic.Lib.Pointwise
public import Idealize.ShloMosaic.Lib.Tactic.CleanTypes
public import proofs.«01_k».proof.Proof.QkSums

@[expose] public section

set_option maxRecDepth 16384

noncomputable section

namespace Cert.Reference7Ideal.Qk

open Cert.Reference7Ideal Cert.Reference7Ideal.Gen Cert.Reference7Ideal.Value Idealize.ShloMosaic Idealize.ShloMosaic.TcCoe Idealize.SL.Sem Idealize.ShloMosaic.StableHlo

open Cert.Proof.QkMath

variable (V0 : Valuation τ sig (Elt Ideal))

/-- The arguments. -/
abbrev qaA : FVec Ideal S1x8192x512 .f32 := V0 (Proc.devRef .tc main_arg0)
abbrev kaA : FVec Ideal S1x8192x128 .f32 := V0 (Proc.devRef .tc main_arg1)
abbrev gqA : FVec Ideal S1x64 .f32 := V0 (Proc.devRef .tc main_arg2)
abbrev gkA : FVec Ideal S1x64 .f32 := V0 (Proc.devRef .tc main_arg3)
abbrev dqA : FVec Ideal S1x8192x8x64 .f32 := V0 (Proc.devRef .tc main_arg4)
abbrev dkA : FVec Ideal S1x8192x2x64 .f32 := V0 (Proc.devRef .tc main_arg5)
abbrev dvA : FVec Ideal S1x8192x2x64 .f32 := V0 (Proc.devRef .tc main_arg6)
abbrev dqbA : FVec Ideal S1x8192x8x64 .f32 := V0 (Proc.devRef .tc main_arg7)
abbrev dkbA : FVec Ideal S1x8192x2x64 .f32 := V0 (Proc.devRef .tc main_arg8)
abbrev dvbA : FVec Ideal S1x8192x2x64 .f32 := V0 (Proc.devRef .tc main_arg9)
abbrev gaA : FVec Ideal S1x8192x1024 .f32 := V0 (Proc.devRef .tc main_arg10)
abbrev gbA : FVec Ideal S1x8192x1024 .f32 := V0 (Proc.devRef .tc main_arg11)

theorem one_at (r : Fin 8192) (j : Fin 32) : (res_main_v16 V0 (ix2 r j) : EReal) = angOne r j.val := by
  unfold res_main_v16 res_main_v0
  pointwise
  rfl

theorem row_at (r : Fin 8192) (j : Fin 16) : (res_main_v57 V0 (ix2 r j) : EReal) = angRow r j.val := by
  unfold res_main_v57 res_main_call0_v2 res_main_call0_v0 res_main_v0
  pointwise
  rfl

theorem col_at (r : Fin 8192) (j : Fin 16) : (res_main_v75 V0 (ix2 r j) : EReal) = angCol r j.val := by
  unfold res_main_v75 res_main_call1_v4 res_main_call1_v2 res_main_call1_v0 res_main_v0
  pointwise
  rfl

/-- The cotangents of a head's row, the queries' scaled. -/
def zq (r : Fin 8192) (h : Fin 8) (i : Fin 64) : EReal := dqA V0 (ix4 0 r h i) * S
def zk (r : Fin 8192) (h : Fin 2) (i : Fin 64) : EReal := dkA V0 (ix4 0 r h i)
def zqb (r : Fin 8192) (h : Fin 8) (i : Fin 64) : EReal := dqbA V0 (ix4 0 r h i) * S
def zkb (r : Fin 8192) (h : Fin 2) (i : Fin 64) : EReal := dkbA V0 (ix4 0 r h i)

theorem at64_of (z : Fin 64 → EReal) (n i : ℕ) (h : n + i < 64) : at64 z (n + i) = z ⟨n + i, h⟩ := dif_pos h

theorem c81 (r : Fin 8192) (i : Fin 16) : (res_main_v81 V0 (ix4 0 r 0 i) : EReal) = Ideal.cos (angRow r i.val) := by
  rw [← row_at V0]; unfold res_main_v81; generalize res_main_v57 V0 = a; pointwise
theorem c82 (r : Fin 8192) (i : Fin 16) : (res_main_v82 V0 (ix4 0 r 0 i) : EReal) = Ideal.sin (angRow r i.val) := by
  rw [← row_at V0]; unfold res_main_v82; generalize res_main_v57 V0 = a; pointwise
theorem c97 (r : Fin 8192) (i : Fin 16) : (res_main_v97 V0 (ix4 0 r 0 i) : EReal) = Ideal.cos (angCol r i.val) := by
  rw [← col_at V0]; unfold res_main_v97; generalize res_main_v75 V0 = a; pointwise
theorem c98 (r : Fin 8192) (i : Fin 16) : (res_main_v98 V0 (ix4 0 r 0 i) : EReal) = Ideal.sin (angCol r i.val) := by
  rw [← col_at V0]; unfold res_main_v98; generalize res_main_v75 V0 = a; pointwise
theorem c330 (r : Fin 8192) (i : Fin 32) : (res_main_v330 V0 (ix4 0 r 0 i) : EReal) = Ideal.cos (angOne r i.val) := by
  rw [← one_at V0]; unfold res_main_v330 res_main_v17; generalize res_main_v16 V0 = a; pointwise
theorem c331 (r : Fin 8192) (i : Fin 32) : (res_main_v331 V0 (ix4 0 r 0 i) : EReal) = Ideal.sin (angOne r i.val) := by
  rw [← one_at V0]; unfold res_main_v331 res_main_v18; generalize res_main_v16 V0 = a; pointwise

theorem z118 (r : Fin 8192) (h : Fin 8) (i : Fin 16) : (res_main_v118 V0 (ix4 0 r h i) : EReal) = at64 (zq V0 r h) (48 + i.val) := by
  rw [show 48 + i.val = 32 + (16 + i.val) by omega, at64_of _ _ _ (by omega)]; unfold res_main_v118 res_main_v116 res_main_v114 zq S; pointwise
theorem z117 (r : Fin 8192) (h : Fin 8) (i : Fin 16) : (res_main_v117 V0 (ix4 0 r h i) : EReal) = at64 (zq V0 r h) (32 + i.val) := by
  rw [at64_of _ _ _ (by omega)]; unfold res_main_v117 res_main_v116 res_main_v114 zq S; pointwise
theorem z135 (r : Fin 8192) (h : Fin 8) (i : Fin 16) : (res_main_v135 V0 (ix4 0 r h i) : EReal) = at64 (zq V0 r h) (16 + i.val) := by
  rw [at64_of _ _ _ (by omega)]; unfold res_main_v135 res_main_v115 res_main_v114 zq S; pointwise
theorem z134 (r : Fin 8192) (h : Fin 8) (i : Fin 16) : (res_main_v134 V0 (ix4 0 r h i) : EReal) = at64 (zq V0 r h) (0 + i.val) := by
  rw [at64_of _ _ _ (by omega)]; unfold res_main_v134 res_main_v115 res_main_v114 zq S; pointwise

theorem un_q (r : Fin 8192) (k : Fin 4) (h : Fin 2) (j : Fin 64) :
    (res_main_v152 V0 (ix5 0 r k h j) : EReal) = unrope 16 (zq V0 r ⟨k.val * 2 + h.val, by omega⟩) (tabA Ideal.cos r) (tabA Ideal.sin r) j := by
  unfold res_main_v152
  clean_types
  pointwise
  simp only [z118, z117, z135, z134, c81, c82, c97, c98]
  exact two_pads (zq V0 r ⟨k.val * 2 + h.val, by omega⟩) r (k.val * 2 + h.val) 8 (by omega) j

theorem x_q (r : Fin 8192) (k : Fin 4) (h : Fin 2) (j : Fin 64) :
    (res_main_v22 V0 (ix5 0 r k h j) : EReal) = qaA V0 (ix3 0 r ⟨k.val * 128 + h.val * 64 + j.val, by omega⟩) := by
  unfold res_main_v22
  pointwise

theorem ms_q (r : Fin 8192) (k : Fin 4) (h : Fin 2) :
    (res_main_v29 V0 (ix5 0 r k h 0) : EReal) = msq (fun j => res_main_v22 V0 (ix5 0 r k h j)) := by
  unfold res_main_v29
  pointwise
  rfl

theorem rs_q (r : Fin 8192) (k : Fin 4) (h : Fin 2) :
    (res_main_v30 V0 (ix5 0 r k h 0) : EReal) = rs (fun j => res_main_v22 V0 (ix5 0 r k h j)) := by
  unfold rs
  rw [← ms_q]
  rfl

theorem g_q (h : Fin 2) (j : Fin 64) : (res_main_v36 V0 (ix5 0 0 0 h j) : EReal) = gqA V0 (ix2 0 j) := by
  unfold res_main_v36
  pointwise

theorem d_q (r : Fin 8192) (k : Fin 4) (h : Fin 2) (j : Fin 64) :
    (res_main_v157 V0 (ix5 0 r k h j) : EReal) = unrope 16 (zq V0 r ⟨k.val * 2 + h.val, by omega⟩) (tabA Ideal.cos r) (tabA Ideal.sin r) j * gqA V0 (ix2 0 j) := by
  rw [← g_q V0 h j, ← un_q]
  unfold res_main_v157
  generalize res_main_v152 V0 = a
  generalize res_main_v36 V0 = b
  pointwise

theorem half_q (r : Fin 8192) (k : Fin 4) (h : Fin 2) (j : Fin 64) :
    (res_main_v169 V0 (ix5 0 r k h j) : EReal) = half (fun j => res_main_v22 V0 (ix5 0 r k h j)) (fun j => res_main_v157 V0 (ix5 0 r k h j)) := by
  unfold half
  rw [← rs_q, ← ms_q]
  unfold res_main_v169
  generalize res_main_v30 V0 = a
  generalize res_main_v29 V0 = b
  generalize res_main_v157 V0 = d
  generalize res_main_v22 V0 = x
  unfold W Cert.Proof.NormMath.H
  pointwise
  rw [Cert.Proof.QkSums.ends]
  pointwise

theorem c237 (r : Fin 8192) (i : Fin 16) : (res_main_v237 V0 (ix4 0 r 0 i) : EReal) = Ideal.cos (angRow r i.val) := c81 V0 r i
theorem c238 (r : Fin 8192) (i : Fin 16) : (res_main_v238 V0 (ix4 0 r 0 i) : EReal) = Ideal.sin (angRow r i.val) := c82 V0 r i
theorem c253 (r : Fin 8192) (i : Fin 16) : (res_main_v253 V0 (ix4 0 r 0 i) : EReal) = Ideal.cos (angCol r i.val) := c97 V0 r i
theorem c254 (r : Fin 8192) (i : Fin 16) : (res_main_v254 V0 (ix4 0 r 0 i) : EReal) = Ideal.sin (angCol r i.val) := c98 V0 r i
theorem c366 (r : Fin 8192) (i : Fin 32) : (res_main_v366 V0 (ix4 0 r 0 i) : EReal) = Ideal.cos (angOne r i.val) := c330 V0 r i
theorem c367 (r : Fin 8192) (i : Fin 32) : (res_main_v367 V0 (ix4 0 r 0 i) : EReal) = Ideal.sin (angOne r i.val) := c331 V0 r i

theorem z270 (r : Fin 8192) (h : Fin 2) (i : Fin 16) : (res_main_v270 V0 (ix4 0 r h i) : EReal) = at64 (zk V0 r h) (48 + i.val) := by
  rw [show 48 + i.val = 32 + (16 + i.val) by omega, at64_of _ _ _ (by omega)]; unfold res_main_v270 res_main_v268 zk; pointwise
theorem z269 (r : Fin 8192) (h : Fin 2) (i : Fin 16) : (res_main_v269 V0 (ix4 0 r h i) : EReal) = at64 (zk V0 r h) (32 + i.val) := by
  rw [at64_of _ _ _ (by omega)]; unfold res_main_v269 res_main_v268 zk; pointwise
theorem z287 (r : Fin 8192) (h : Fin 2) (i : Fin 16) : (res_main_v287 V0 (ix4 0 r h i) : EReal) = at64 (zk V0 r h) (16 + i.val) := by
  rw [at64_of _ _ _ (by omega)]; unfold res_main_v287 res_main_v267 zk; pointwise
theorem z286 (r : Fin 8192) (h : Fin 2) (i : Fin 16) : (res_main_v286 V0 (ix4 0 r h i) : EReal) = at64 (zk V0 r h) (0 + i.val) := by
  rw [at64_of _ _ _ (by omega)]; unfold res_main_v286 res_main_v267 zk; pointwise

theorem un_k (r : Fin 8192) (h : Fin 2) (j : Fin 64) :
    (res_main_v304 V0 (ix5 0 r 0 h j) : EReal) = unrope 16 (zk V0 r h) (tabA Ideal.cos r) (tabA Ideal.sin r) j := by
  unfold res_main_v304
  clean_types
  pointwise
  simp only [z270, z269, z287, z286, c237, c238, c253, c254]
  simpa only [h.isLt, true_and] using two_pads (zk V0 r h) r h.val 2 h.isLt j

theorem x_k (r : Fin 8192) (h : Fin 2) (j : Fin 64) :
    (res_main_v178 V0 (ix5 0 r 0 h j) : EReal) = kaA V0 (ix3 0 r ⟨h.val * 64 + j.val, by omega⟩) := by
  unfold res_main_v178
  pointwise

theorem ms_k (r : Fin 8192) (h : Fin 2) :
    (res_main_v185 V0 (ix5 0 r 0 h 0) : EReal) = msq (fun j => res_main_v178 V0 (ix5 0 r 0 h j)) := by
  unfold res_main_v185
  pointwise
  rfl

theorem rs_k (r : Fin 8192) (h : Fin 2) :
    (res_main_v186 V0 (ix5 0 r 0 h 0) : EReal) = rs (fun j => res_main_v178 V0 (ix5 0 r 0 h j)) := by
  unfold rs
  rw [← ms_k]
  rfl

theorem g_k (h : Fin 2) (j : Fin 64) : (res_main_v192 V0 (ix5 0 0 0 h j) : EReal) = gkA V0 (ix2 0 j) := by
  unfold res_main_v192
  pointwise

theorem d_k (r : Fin 8192) (h : Fin 2) (j : Fin 64) :
    (res_main_v309 V0 (ix5 0 r 0 h j) : EReal) = unrope 16 (zk V0 r h) (tabA Ideal.cos r) (tabA Ideal.sin r) j * gkA V0 (ix2 0 j) := by
  rw [← g_k V0 h j, ← un_k]
  unfold res_main_v309
  generalize res_main_v304 V0 = a
  generalize res_main_v192 V0 = b
  pointwise

theorem half_k (r : Fin 8192) (h : Fin 2) (j : Fin 64) :
    (res_main_v321 V0 (ix5 0 r 0 h j) : EReal) = half (fun j => res_main_v178 V0 (ix5 0 r 0 h j)) (fun j => res_main_v309 V0 (ix5 0 r 0 h j)) := by
  unfold half
  rw [← rs_k, ← ms_k]
  unfold res_main_v321
  generalize res_main_v186 V0 = a
  generalize res_main_v185 V0 = b
  generalize res_main_v309 V0 = d
  generalize res_main_v178 V0 = x
  unfold W Cert.Proof.NormMath.H
  pointwise
  rw [Cert.Proof.QkSums.gaps]
  pointwise

theorem z348 (r : Fin 8192) (h : Fin 8) (i : Fin 32) : (res_main_v348 V0 (ix4 0 r h i) : EReal) = at64 (zqb V0 r h) (32 + i.val) := by
  rw [at64_of _ _ _ (by omega)]; unfold res_main_v348 res_main_v346 zqb S; pointwise
theorem z347 (r : Fin 8192) (h : Fin 8) (i : Fin 32) : (res_main_v347 V0 (ix4 0 r h i) : EReal) = at64 (zqb V0 r h) (0 + i.val) := by
  rw [at64_of _ _ _ (by omega)]; unfold res_main_v347 res_main_v346 zqb S; pointwise
theorem z380 (r : Fin 8192) (h : Fin 2) (i : Fin 32) : (res_main_v380 V0 (ix4 0 r h i) : EReal) = at64 (zkb V0 r h) (32 + i.val) := by
  rw [at64_of _ _ _ (by omega)]; unfold res_main_v380 zkb; pointwise
theorem z379 (r : Fin 8192) (h : Fin 2) (i : Fin 32) : (res_main_v379 V0 (ix4 0 r h i) : EReal) = at64 (zkb V0 r h) (0 + i.val) := by
  rw [at64_of _ _ _ (by omega)]; unfold res_main_v379 zkb; pointwise

/-- The eight parts of the columns, and the two rows of sums. -/
def partQ : FVec Ideal S8192x512 .f32 := (shapeCast _ (shapeCast _ (addf (addf (mulf (res_main_v157 V0) (broadcastInDim S1x8192x4x2x64 ![0, 1, 2, 3, 4] bcast_S1x8192x4x2x1_S1x8192x4x2x64_0_1_2_3_4 (res_main_v30 V0))) (mulf (res_main_v22 V0) (res_main_v169 V0))) (mulf (res_main_v169 V0) (res_main_v22 V0))) shapeCasts_S1x8192x4x2x64_S1x8192x512) shapeCasts_S1x8192x512_S8192x512)
def partK : FVec Ideal S8192x128 .f32 := (shapeCast _ (shapeCast _ (addf (addf (mulf (res_main_v309 V0) (broadcastInDim S1x8192x1x2x64 ![0, 1, 2, 3, 4] bcast_S1x8192x1x2x1_S1x8192x1x2x64_0_1_2_3_4 (res_main_v186 V0))) (mulf (res_main_v178 V0) (res_main_v321 V0))) (mulf (res_main_v321 V0) (res_main_v178 V0))) shapeCasts_S1x8192x1x2x64_S1x8192x128) shapeCasts_S1x8192x128_S8192x128)
def partV : FVec Ideal S8192x128 .f32 := (shapeCast _ (V0 (Proc.devRef .tc main_arg6)) shapeCasts_S1x8192x2x64_S8192x128)
def partQb : FVec Ideal S8192x512 .f32 := (shapeCast _ (addf (pad S1x8192x8x64 ![0, 0, 0, 32] ![0, 0, 0, 0] ![0, 0, 0, 0] (addf (mulf (res_main_v348 V0) (broadcastInDim S1x8192x8x32 ![0, 1, 2, 3] bcast_S1x8192x1x32_S1x8192x8x32_0_1_2_3 (res_main_v330 V0))) (mulf (Host.negf (res_main_v347 V0)) (broadcastInDim S1x8192x8x32 ![0, 1, 2, 3] bcast_S1x8192x1x32_S1x8192x8x32_0_1_2_3 (res_main_v331 V0)))) (constant S_ .f32 0x00000000#32) pads_S1x8192x8x32_S1x8192x8x64_000_000_000_3200 h_S_) (pad S1x8192x8x64 ![0, 0, 0, 0] ![0, 0, 0, 32] ![0, 0, 0, 0] (addf (mulf (res_main_v348 V0) (broadcastInDim S1x8192x8x32 ![0, 1, 2, 3] bcast_S1x8192x1x32_S1x8192x8x32_0_1_2_3 (res_main_v331 V0))) (mulf (res_main_v347 V0) (broadcastInDim S1x8192x8x32 ![0, 1, 2, 3] bcast_S1x8192x1x32_S1x8192x8x32_0_1_2_3 (res_main_v330 V0)))) (constant S_ .f32 0x00000000#32) pads_S1x8192x8x32_S1x8192x8x64_000_000_000_0320 h_S_)) shapeCasts_S1x8192x8x64_S8192x512)
def partKb : FVec Ideal S8192x128 .f32 := (shapeCast _ (addf (pad S1x8192x2x64 ![0, 0, 0, 32] ![0, 0, 0, 0] ![0, 0, 0, 0] (addf (mulf (res_main_v380 V0) (broadcastInDim S1x8192x2x32 ![0, 1, 2, 3] bcast_S1x8192x1x32_S1x8192x2x32_0_1_2_3 (res_main_v366 V0))) (mulf (Host.negf (res_main_v379 V0)) (broadcastInDim S1x8192x2x32 ![0, 1, 2, 3] bcast_S1x8192x1x32_S1x8192x2x32_0_1_2_3 (res_main_v367 V0)))) (constant S_ .f32 0x00000000#32) pads_S1x8192x2x32_S1x8192x2x64_000_000_000_3200 h_S_) (pad S1x8192x2x64 ![0, 0, 0, 0] ![0, 0, 0, 32] ![0, 0, 0, 0] (addf (mulf (res_main_v380 V0) (broadcastInDim S1x8192x2x32 ![0, 1, 2, 3] bcast_S1x8192x1x32_S1x8192x2x32_0_1_2_3 (res_main_v367 V0))) (mulf (res_main_v379 V0) (broadcastInDim S1x8192x2x32 ![0, 1, 2, 3] bcast_S1x8192x1x32_S1x8192x2x32_0_1_2_3 (res_main_v366 V0)))) (constant S_ .f32 0x00000000#32) pads_S1x8192x2x32_S1x8192x2x64_000_000_000_0320 h_S_)) shapeCasts_S1x8192x2x64_S8192x128)
def partVb : FVec Ideal S8192x128 .f32 := (shapeCast _ (V0 (Proc.devRef .tc main_arg9)) shapeCasts_S1x8192x2x64_S8192x128)
def partGa : FVec Ideal S8192x1024 .f32 := (shapeCast _ (V0 (Proc.devRef .tc main_arg10)) shapeCasts_S1x8192x1024_S8192x1024)
def partGb : FVec Ideal S8192x1024 .f32 := (shapeCast _ (V0 (Proc.devRef .tc main_arg11)) shapeCasts_S1x8192x1024_S8192x1024)
def sumQ : FVec Ideal S1x128 .f32 := (shapeCast _ (Host.reduceAdd (shapeCast _ (Host.reduceAdd (mulf (res_main_v35 V0) (res_main_v152 V0)) (constant S_ .f32 0x00000000#32) reducesTo_S1x8192x4x2x64_S1x2x64_d1_2 h_S_) shapeCasts_S1x2x64_S1x1x1x2x64) (constant S_ .f32 0x00000000#32) reducesTo_S1x1x1x2x64_S2x64_d0_1_2 h_S_) shapeCasts_S2x64_S1x128)
def sumK : FVec Ideal S1x128 .f32 := (shapeCast _ (Host.reduceAdd (shapeCast _ (Host.reduceAdd (mulf (res_main_v191 V0) (res_main_v304 V0)) (constant S_ .f32 0x00000000#32) reducesTo_S1x8192x1x2x64_S1x1x2x64_d1 h_S_) shapeCasts_S1x1x2x64_S1x1x1x2x64) (constant S_ .f32 0x00000000#32) reducesTo_S1x1x1x2x64_S2x64_d0_1_2 h_S_) shapeCasts_S2x64_S1x128)

/-- The queries' part. -/
theorem part_q (r : Fin 8192) (k : Fin 4) (h : Fin 2) (j : Fin 64) :
    (partQ V0 (ix2 r ⟨k.val * 128 + h.val * 64 + j.val, by omega⟩) : EReal)
    = plain (fun j => res_main_v22 V0 (ix5 0 r k h j)) (fun j => res_main_v157 V0 (ix5 0 r k h j)) j := by
  unfold partQ
  unfold plain
  rw [← rs_q, ← half_q V0 r k h j]
  generalize res_main_v30 V0 = a
  generalize res_main_v169 V0 = b
  generalize res_main_v157 V0 = d
  generalize res_main_v22 V0 = x
  pointwise

/-- The keys' part. -/
theorem part_k (r : Fin 8192) (h : Fin 2) (j : Fin 64) :
    (partK V0 (ix2 r ⟨h.val * 64 + j.val, by omega⟩) : EReal)
    = plain (fun j => res_main_v178 V0 (ix5 0 r 0 h j)) (fun j => res_main_v309 V0 (ix5 0 r 0 h j)) j := by
  unfold partK
  unfold plain
  rw [← rs_k, ← half_k V0 r h j]
  generalize res_main_v186 V0 = a
  generalize res_main_v321 V0 = b
  generalize res_main_v309 V0 = d
  generalize res_main_v178 V0 = x
  pointwise

theorem part_v (r : Fin 8192) (h : Fin 2) (j : Fin 64) : (partV V0 (ix2 r ⟨h.val * 64 + j.val, by omega⟩) : EReal) = dvA V0 (ix4 0 r h j) := by
  unfold partV
  pointwise

theorem part_vb (r : Fin 8192) (h : Fin 2) (j : Fin 64) : (partVb V0 (ix2 r ⟨h.val * 64 + j.val, by omega⟩) : EReal) = dvbA V0 (ix4 0 r h j) := by
  unfold partVb
  pointwise

theorem part_ga (r : Fin 8192) (q : Fin 1024) : (partGa V0 (ix2 r q) : EReal) = gaA V0 (ix3 0 r q) := by
  unfold partGa
  pointwise

theorem part_gb (r : Fin 8192) (q : Fin 1024) : (partGb V0 (ix2 r q) : EReal) = gbA V0 (ix3 0 r q) := by
  unfold partGb
  pointwise

/-- The second attention's rotations. -/
theorem part_qb (r : Fin 8192) (h : Fin 8) (j : Fin 64) :
    (partQb V0 (ix2 r ⟨h.val * 64 + j.val, by omega⟩) : EReal)
    = unrope 32 (zqb V0 r h) (tabB Ideal.cos r) (tabB Ideal.sin r) j := by
  unfold partQb
  clean_types
  pointwise
  simp only [z347, z348, c330, c331]
  simpa only [h.isLt, true_and] using one_pad (zqb V0 r h) r h.val 8 h.isLt j

theorem part_kb (r : Fin 8192) (h : Fin 2) (j : Fin 64) :
    (partKb V0 (ix2 r ⟨h.val * 64 + j.val, by omega⟩) : EReal)
    = unrope 32 (zkb V0 r h) (tabB Ideal.cos r) (tabB Ideal.sin r) j := by
  unfold partKb
  clean_types
  pointwise
  simp only [z379, z380, c366, c367]
  simpa only [h.isLt, true_and] using one_pad (zkb V0 r h) r h.val 2 h.isLt j

theorem v35_at (r : Fin 8192) (k : Fin 4) (h : Fin 2) (j : Fin 64) :
    (res_main_v35 V0 (ix5 0 r k h j) : EReal) = qaA V0 (ix3 0 r ⟨k.val * 128 + h.val * 64 + j.val, by omega⟩) * rs (fun j => res_main_v22 V0 (ix5 0 r k h j)) := by
  rw [← rs_q, ← x_q]
  unfold res_main_v35
  generalize res_main_v22 V0 = a
  generalize res_main_v30 V0 = b
  pointwise

theorem v191_at (r : Fin 8192) (h : Fin 2) (j : Fin 64) :
    (res_main_v191 V0 (ix5 0 r 0 h j) : EReal) = kaA V0 (ix3 0 r ⟨h.val * 64 + j.val, by omega⟩) * rs (fun j => res_main_v178 V0 (ix5 0 r 0 h j)) := by
  rw [← rs_k, ← x_k]
  unfold res_main_v191
  generalize res_main_v178 V0 = a
  generalize res_main_v186 V0 = b
  pointwise

/-- The gains' sums over the rows, and the queries' over their four groups. -/
theorem sum_q (h : Fin 2) (j : Fin 64) :
    (sumQ V0 (ix2 0 ⟨h.val * 64 + j.val, by omega⟩) : EReal)
    = ∑ r : Fin 8192, ∑ k : Fin 4, qaA V0 (ix3 0 r ⟨k.val * 128 + h.val * 64 + j.val, by omega⟩) * rs (fun j => res_main_v22 V0 (ix5 0 r k h j))
        * unrope 16 (zq V0 r ⟨k.val * 2 + h.val, by omega⟩) (tabA Ideal.cos r) (tabA Ideal.sin r) j := by
  simp only [← v35_at, ← un_q]
  unfold sumQ
  generalize res_main_v35 V0 = a
  generalize res_main_v152 V0 = b
  pointwise
  rw [Cert.Proof.QkSums.front]
  pointwise
  rw [Cert.Proof.QkSums.middle]
  pointwise

theorem sum_k (h : Fin 2) (j : Fin 64) :
    (sumK V0 (ix2 0 ⟨h.val * 64 + j.val, by omega⟩) : EReal)
    = ∑ r : Fin 8192, kaA V0 (ix3 0 r ⟨h.val * 64 + j.val, by omega⟩) * rs (fun j => res_main_v178 V0 (ix5 0 r 0 h j))
        * unrope 16 (zk V0 r h) (tabA Ideal.cos r) (tabA Ideal.sin r) j := by
  simp only [← v191_at, ← un_k]
  unfold sumK
  generalize res_main_v191 V0 = a
  generalize res_main_v304 V0 = b
  pointwise
  rw [Cert.Proof.QkSums.front]
  pointwise

/-- The two results. -/
def wide : FVec Ideal S8192x3584 .bf16 :=
  truncf .bf16 (concatenate S8192x3584 1 [⟨S8192x512, partQ V0⟩, ⟨S8192x128, partK V0⟩, ⟨S8192x128, partV V0⟩, ⟨S8192x512, partQb V0⟩, ⟨S8192x128, partKb V0⟩,
    ⟨S8192x128, partVb V0⟩, ⟨S8192x1024, partGa V0⟩, ⟨S8192x1024, partGb V0⟩]
    concatenates_S8192x512_S8192x128_S8192x128_S8192x512_S8192x128_S8192x128_S8192x1024_S8192x1024_S8192x3584_d1 : FVec Ideal S8192x3584 .f32) bitsLt_bf16_f32
def gains : FVec Ideal S8x128 .f32 :=
  concatenate S8x128 0 [⟨S1x128, sumQ V0⟩, ⟨S1x128, sumK V0⟩, ⟨S6x128, (broadcastInDim S6x128 ![] bcast_S_S6x128 (constant S_ .f32 0x00000000#32) : FVec Ideal S6x128 .f32)⟩]
    concatenates_S1x128_S1x128_S6x128_S8x128_d0

theorem at_eq {n k : ℕ} (r : Fin n) (x y : ℕ) (hx : x < k) (e : x = y) : ix2 r (⟨x, hx⟩ : Fin k) = ix2 r ⟨y, e ▸ hx⟩ := by subst e; rfl

/-- A column of the first result, by the part in which it lies, and a row of the second. -/
theorem wide_at (r : Fin 8192) (q : Fin 3584) : (wide V0 (ix2 r q) : EReal)
    = if h : q.val < 512 then partQ V0 (ix2 r ⟨q.val, h⟩) else if h : q.val < 640 then partK V0 (ix2 r ⟨q.val - 512, by omega⟩)
      else if h : q.val < 768 then partV V0 (ix2 r ⟨q.val - 640, by omega⟩) else if h : q.val < 1280 then partQb V0 (ix2 r ⟨q.val - 768, by omega⟩)
      else if h : q.val < 1408 then partKb V0 (ix2 r ⟨q.val - 1280, by omega⟩) else if h : q.val < 1536 then partVb V0 (ix2 r ⟨q.val - 1408, by omega⟩)
      else if h : q.val < 2560 then partGa V0 (ix2 r ⟨q.val - 1536, by omega⟩) else partGb V0 (ix2 r ⟨q.val - 2560, by omega⟩) := by
  unfold wide
  generalize partQ V0 = a
  generalize partK V0 = b
  generalize partV V0 = c
  generalize partQb V0 = d
  generalize partKb V0 = e
  generalize partVb V0 = f
  generalize partGa V0 = g
  generalize partGb V0 = i
  pointwise
  by_cases h0 : q.val < 512
  · refine Eq.trans (dif_pos h0) (Eq.symm ?_)
    exact dif_pos h0
  refine (dif_neg (show ¬q.val < 512 by omega)).trans (Eq.trans ?_ (dif_neg h0).symm)
  by_cases h1 : q.val < 640
  · refine (dif_pos (show q.val - 512 < 128 by omega)).trans ((congrArg b (at_eq r (q.val - 512) (q.val - 512) (by omega) (by omega))).trans (Eq.symm ?_))
    exact dif_pos h1
  refine (dif_neg (show ¬q.val - 512 < 128 by omega)).trans (Eq.trans ?_ (dif_neg h1).symm)
  by_cases h2 : q.val < 768
  · refine (dif_pos (show q.val - 512 - 128 < 128 by omega)).trans ((congrArg c (at_eq r (q.val - 512 - 128) (q.val - 640) (by omega) (by omega))).trans (Eq.symm ?_))
    exact dif_pos h2
  refine (dif_neg (show ¬q.val - 512 - 128 < 128 by omega)).trans (Eq.trans ?_ (dif_neg h2).symm)
  by_cases h3 : q.val < 1280
  · refine (dif_pos (show q.val - 512 - 128 - 128 < 512 by omega)).trans ((congrArg d (at_eq r (q.val - 512 - 128 - 128) (q.val - 768) (by omega) (by omega))).trans (Eq.symm ?_))
    exact dif_pos h3
  refine (dif_neg (show ¬q.val - 512 - 128 - 128 < 512 by omega)).trans (Eq.trans ?_ (dif_neg h3).symm)
  by_cases h4 : q.val < 1408
  · refine (dif_pos (show q.val - 512 - 128 - 128 - 512 < 128 by omega)).trans ((congrArg e (at_eq r (q.val - 512 - 128 - 128 - 512) (q.val - 1280) (by omega) (by omega))).trans (Eq.symm ?_))
    exact dif_pos h4
  refine (dif_neg (show ¬q.val - 512 - 128 - 128 - 512 < 128 by omega)).trans (Eq.trans ?_ (dif_neg h4).symm)
  by_cases h5 : q.val < 1536
  · refine (dif_pos (show q.val - 512 - 128 - 128 - 512 - 128 < 128 by omega)).trans ((congrArg f (at_eq r (q.val - 512 - 128 - 128 - 512 - 128) (q.val - 1408) (by omega) (by omega))).trans (Eq.symm ?_))
    exact dif_pos h5
  refine (dif_neg (show ¬q.val - 512 - 128 - 128 - 512 - 128 < 128 by omega)).trans (Eq.trans ?_ (dif_neg h5).symm)
  by_cases h6 : q.val < 2560
  · refine (dif_pos (show q.val - 512 - 128 - 128 - 512 - 128 - 128 < 1024 by omega)).trans ((congrArg g (at_eq r (q.val - 512 - 128 - 128 - 512 - 128 - 128) (q.val - 1536) (by omega) (by omega))).trans (Eq.symm ?_))
    exact dif_pos h6
  refine (dif_neg (show ¬q.val - 512 - 128 - 128 - 512 - 128 - 128 < 1024 by omega)).trans (Eq.trans ?_ (dif_neg h6).symm)
  exact congrArg i (at_eq r (q.val - 512 - 128 - 128 - 512 - 128 - 128 - 1024) (q.val - 2560) (by omega) (by omega))

theorem gains_at (a : Fin 8) (l : Fin 128) : (gains V0 (ix2 a l) : EReal)
    = if a.val = 0 then sumQ V0 (ix2 0 l) else if a.val = 1 then sumK V0 (ix2 0 l) else 0 := by
  unfold gains
  generalize sumQ V0 = b
  generalize sumK V0 = c
  pointwise
  by_cases h0 : a.val = 0
  · exact (dif_pos (show a.val < 1 by omega)).trans ((congrArg (fun x => b (ix2 x l)) (Fin.ext h0)).trans (if_pos h0).symm)
  refine (dif_neg (show ¬a.val < 1 by omega)).trans (Eq.trans ?_ (if_neg h0).symm)
  by_cases h1 : a.val = 1
  · exact (dif_pos (show a.val - 1 < 1 by omega)).trans ((congrArg (fun x => c (ix2 x l)) (Fin.ext (show a.val - 1 = 0 by omega))).trans (if_pos h1).symm)
  exact (dif_neg (show ¬a.val - 1 < 1 by omega)).trans (if_neg h1).symm

end Cert.Reference7Ideal.Qk
-- ==== Proof.QkClaim.lean ====
module

public import proofs.«01_k».proof.Defs
public import proofs.«01_k».proof.Proof.Finite
public import proofs.«01_k».proof.Proof.QkFinal
public import proofs.«01_k».proof.Proof.QkRef
public import proofs.«01_k».proof.Proof.Gen.Pre_finite_qk
public import Idealize.ShloMosaic.Lib.Claim

@[expose] public section

set_option maxRecDepth 16384

noncomputable section

/-! The backward call of the two attentions' norms and rotations computes, at finite arguments, the derivative of the forward lines. -/

namespace Cert.Proof.Qk

open Idealize.ShloMosaic Idealize.ShloMosaic.TcCoe Idealize.SL.Sem Cert.Kernel7Ideal Cert.Kernel7Ideal.Qk Cert.Proof.Finite Cert.Proof.QkMath
open Cert.Reference7Ideal.Qk (wide gains wide_at gains_at)

variable (m : (ℓ : Loc nD τ sig) → Buf (Elt Ideal) ℓ) (c : Dev nD)
variable (V0 : Valuation Cert.Reference7Ideal.τ Cert.Reference7Ideal.sig (Elt Ideal))

/-- The two programs have the same arguments. -/
structure Same : Prop where
  qa : Cert.Reference7Ideal.Qk.qaA V0 = qaA m c
  ka : Cert.Reference7Ideal.Qk.kaA V0 = kaA m c
  gq : Cert.Reference7Ideal.Qk.gqA V0 = gqA m c
  gk : Cert.Reference7Ideal.Qk.gkA V0 = gkA m c
  dq : Cert.Reference7Ideal.Qk.dqA V0 = dqA m c
  dk : Cert.Reference7Ideal.Qk.dkA V0 = dkA m c
  dv : Cert.Reference7Ideal.Qk.dvA V0 = dvA m c
  dqb : Cert.Reference7Ideal.Qk.dqbA V0 = dqbA m c
  dkb : Cert.Reference7Ideal.Qk.dkbA V0 = dkbA m c
  dvb : Cert.Reference7Ideal.Qk.dvbA V0 = dvbA m c
  ga : Cert.Reference7Ideal.Qk.gaA V0 = gaA m c
  gb : Cert.Reference7Ideal.Qk.gbA V0 = gbA m c

variable (r : Fin 8192)

section Rows

/-- A row's entries before the norm, and its gains. -/
theorem rawq_lane (k : Fin 4) (h : Fin 2) (j : Fin 64) : (rowA m c r).rawq k (lane h j) = qaA m c (ix3 0 r ⟨k.val * 128 + h.val * 64 + j.val, by omega⟩) := by
  unfold Row.rawq
  exact (dif_pos (show k.val * 128 + (h.val * 64 + j.val) < 512 by omega)).trans (congrArg (fun x => qaA m c (ix3 0 r x)) (Fin.ext (by show k.val * 128 + (h.val * 64 + j.val) = k.val * 128 + h.val * 64 + j.val; omega)))

theorem rawk_lane (h : Fin 2) (j : Fin 64) : (rowA m c r).rawk (lane h j) = kaA m c (ix3 0 r ⟨h.val * 64 + j.val, by omega⟩) := by
  unfold Row.rawk
  exact (dif_neg (show ¬512 + (h.val * 64 + j.val) < 512 by omega)).trans (congrArg (fun x => kaA m c (ix3 0 r x)) (Fin.ext (by show 512 + (h.val * 64 + j.val) - 512 = h.val * 64 + j.val; omega)))

theorem gq_lane (h : Fin 2) (j : Fin 64) : (rowA m c r).gq (lane h j) = gqA m c (ix2 0 j) := congrArg (fun x => gqA m c (ix2 0 x)) (inHead_lane h j)
theorem gk_lane (h : Fin 2) (j : Fin 64) : (rowA m c r).gk (lane h j) = gkA m c (ix2 0 j) := congrArg (fun x => gkA m c (ix2 0 x)) (inHead_lane h j)

/-- The rotations back. -/
theorem back (w n : ℕ) (hw : w = 16 ∧ n = 112 ∨ w = 32 ∧ n = 96) (z : Fin 128 → EReal) (t : (EReal → EReal) → Fin 8192 → Fin 64 → EReal) (h : Fin 2) (j : Fin 64) :
    ropeK n w z (cosT t r) (lowT w t r) (highT w t r) (lane h j) = unrope w (fun i => z (lane h i)) (t Ideal.cos r) (t Ideal.sin r) j :=
  rope_eq w n hw z _ _ _ _ _ (fun h j => by unfold cosT; rw [inHead_lane]) (fun h j => by unfold lowT; rw [inHead_lane]) (fun h j => by unfold highT; rw [inHead_lane]) h j

theorem zq_lane (k : Fin 4) (h : Fin 2) (j : Fin 64) :
    (rowA m c r).zq k (lane h j) = unrope 16 (fun i => dqA m c (ix4 0 r ⟨k.val * 2 + h.val, by omega⟩ i) * S) (tabA Ideal.cos r) (tabA Ideal.sin r) j := by
  unfold Row.zq
  refine (back r 16 112 (Or.inl ⟨rfl, rfl⟩) _ tabA h j).trans ?_
  congr 1
  funext i
  rw [pair8_lane]
  exact congrArg (fun x => dqA m c (ix4 0 r x i) * S) (Fin.ext (by show 2 * k.val + h.val = k.val * 2 + h.val; omega))

theorem zk_lane (h : Fin 2) (j : Fin 64) :
    (rowA m c r).zk (lane h j) = unrope 16 (fun i => dkA m c (ix4 0 r h i)) (tabA Ideal.cos r) (tabA Ideal.sin r) j := by
  unfold Row.zk
  refine (back r 16 112 (Or.inl ⟨rfl, rfl⟩) _ tabA h j).trans ?_
  congr 1
  funext i
  exact pair2_lane _ h i

theorem zqb_lane (k : Fin 4) (h : Fin 2) (j : Fin 64) :
    ropeK 96 32 (fun l => pair8 (rowA m c r).dqb k l * S) (rowA m c r).cb (rowA m c r).lb (rowA m c r).hb (lane h j)
    = unrope 32 (fun i => dqbA m c (ix4 0 r ⟨k.val * 2 + h.val, by omega⟩ i) * S) (tabB Ideal.cos r) (tabB Ideal.sin r) j := by
  refine (back r 32 96 (Or.inr ⟨rfl, rfl⟩) _ tabB h j).trans ?_
  congr 1
  funext i
  rw [pair8_lane]
  exact congrArg (fun x => dqbA m c (ix4 0 r x i) * S) (Fin.ext (by show 2 * k.val + h.val = k.val * 2 + h.val; omega))

theorem zkb_lane (h : Fin 2) (j : Fin 64) :
    ropeK 96 32 (pair2 (rowA m c r).dkb) (rowA m c r).cb (rowA m c r).lb (rowA m c r).hb (lane h j)
    = unrope 32 (fun i => dkbA m c (ix4 0 r h i)) (tabB Ideal.cos r) (tabB Ideal.sin r) j := by
  refine (back r 32 96 (Or.inr ⟨rfl, rfl⟩) _ tabB h j).trans ?_
  congr 1
  funext i
  exact pair2_lane _ h i

end Rows

section Finite

variable (h : Cert.Pre_Kernel7Ideal_finite_qk (hPre_finite_qk := Cert.Pre_finite_qk.Gen.facts) m)

include h in
theorem fin_qa (i : S1x8192x512.Idx) : Re (qaA m c i) := re_of_lt (qaA m c) _ (fun _ => rfl) (h c).1 _
include h in
theorem fin_ka (i : S1x8192x128.Idx) : Re (kaA m c i) := re_of_lt (kaA m c) _ (fun _ => rfl) (h c).2.1 _
include h in
theorem fin_gq (i : S1x64.Idx) : Re (gqA m c i) := re_of_lt (gqA m c) _ (fun _ => rfl) (h c).2.2.1 _
include h in
theorem fin_gk (i : S1x64.Idx) : Re (gkA m c i) := re_of_lt (gkA m c) _ (fun _ => rfl) (h c).2.2.2.1 _
include h in
theorem fin_dq (i : S1x8192x8x64.Idx) : Re (dqA m c i) := re_of_lt (dqA m c) _ (fun _ => rfl) (h c).2.2.2.2.1 _
include h in
theorem fin_dk (i : S1x8192x2x64.Idx) : Re (dkA m c i) := re_of_lt (dkA m c) _ (fun _ => rfl) (h c).2.2.2.2.2 _

theorem S_re : Re S := by
  refine ⟨1 / 8, ?_⟩
  simp [S, Ideal.ofBits, Ideal.ieee]
  refine (EReal.coe_mul _ _).symm.trans ?_
  norm_num

include h in
theorem rawq_re (k : Fin 4) (l : Fin 128) : Re ((rowA m c r).rawq k l) := by
  obtain ⟨g, j, rfl⟩ := lane_split l
  rw [rawq_lane]
  exact fin_qa m c h _

include h in
theorem rawk_re (l : Fin 128) : Re ((rowA m c r).rawk l) := by
  obtain ⟨g, j, rfl⟩ := lane_split l
  rw [rawk_lane]
  exact fin_ka m c h _

include h in
theorem dq_re (k : Fin 4) (l : Fin 128) : Re ((rowA m c r).zq k l * (rowA m c r).gq l) := by
  obtain ⟨g, j, rfl⟩ := lane_split l
  rw [zq_lane, gq_lane]
  exact (unrope_re 16 _ _ _ (fun _ => (fin_dq m c h _).mul S_re) (tabA_re _ cos_re r) (tabA_re _ sin_re r) j).mul (fin_gq m c h _)

include h in
theorem dk_re (l : Fin 128) : Re ((rowA m c r).zk l * (rowA m c r).gk l) := by
  obtain ⟨g, j, rfl⟩ := lane_split l
  rw [zk_lane, gk_lane]
  exact (unrope_re 16 _ _ _ (fun _ => fin_dk m c h _) (tabA_re _ cos_re r) (tabA_re _ sin_re r) j).mul (fin_gk m c h _)

variable (e : Same m c V0)

include e in
theorem xq_eq (k : Fin 4) (g : Fin 2) : (fun j => (Cert.Reference7Ideal.Value.res_main_v22 V0 (ix5 0 r k g j) : EReal)) = fun j => (rowA m c r).rawq k (lane g j) := by
  funext j
  rw [rawq_lane, ← e.qa]
  exact Cert.Reference7Ideal.Qk.x_q V0 r k g j

include e in
theorem xk_eq (g : Fin 2) : (fun j => (Cert.Reference7Ideal.Value.res_main_v178 V0 (ix5 0 r 0 g j) : EReal)) = fun j => (rowA m c r).rawk (lane g j) := by
  funext j
  rw [rawk_lane, ← e.ka]
  exact Cert.Reference7Ideal.Qk.x_k V0 r g j

include e in
theorem dq_eq (k : Fin 4) (g : Fin 2) : (fun j => (Cert.Reference7Ideal.Value.res_main_v157 V0 (ix5 0 r k g j) : EReal)) = fun j => (rowA m c r).zq k (lane g j) * (rowA m c r).gq (lane g j) := by
  funext j
  rw [zq_lane, gq_lane, ← e.gq, ← e.dq]
  exact Cert.Reference7Ideal.Qk.d_q V0 r k g j

include e in
theorem dk_eq (g : Fin 2) : (fun j => (Cert.Reference7Ideal.Value.res_main_v309 V0 (ix5 0 r 0 g j) : EReal)) = fun j => (rowA m c r).zk (lane g j) * (rowA m c r).gk (lane g j) := by
  funext j
  rw [zk_lane, gk_lane, ← e.gk, ← e.dk]
  exact Cert.Reference7Ideal.Qk.d_k V0 r g j

include e h in
theorem q_eq (k : Fin 4) (l : Fin 128) (q : Fin 3584) (hq : q.val = k.val * 128 + l.val) : (Cert.Reference7Ideal.Qk.partQ V0 (ix2 r ⟨q.val, by omega⟩) : EReal) = (rowA m c r).col q := by
  rw [Row.col_q _ k l q hq]
  obtain ⟨g, j, rfl⟩ := lane_split l
  refine Eq.trans ?_ (kern_plain _ _ g j (rawq_re m c r h k) (dq_re m c r h k)).symm
  rw [← xq_eq m c V0 r e k g, ← dq_eq m c V0 r e k g, ← Cert.Reference7Ideal.Qk.part_q]
  exact congrArg (fun x => (Cert.Reference7Ideal.Qk.partQ V0 (ix2 r x) : EReal)) (Fin.ext (by show q.val = k.val * 128 + g.val * 64 + j.val; rw [hq]; show k.val * 128 + (g.val * 64 + j.val) = _; omega))

include e h in
theorem k_eq (l : Fin 128) (q : Fin 3584) (hq : q.val = 512 + l.val) : (Cert.Reference7Ideal.Qk.partK V0 (ix2 r ⟨q.val - 512, by omega⟩) : EReal) = (rowA m c r).col q := by
  rw [Row.col_k _ l q hq]
  obtain ⟨g, j, rfl⟩ := lane_split l
  refine Eq.trans ?_ (kern_plain _ _ g j (rawk_re m c r h) (dk_re m c r h)).symm
  rw [← xk_eq m c V0 r e g, ← dk_eq m c V0 r e g, ← Cert.Reference7Ideal.Qk.part_k]
  exact congrArg (fun x => (Cert.Reference7Ideal.Qk.partK V0 (ix2 r x) : EReal)) (Fin.ext (by show q.val - 512 = g.val * 64 + j.val; rw [hq]; exact Nat.add_sub_cancel_left _ _))

include e in
theorem v_eq (l : Fin 128) (q : Fin 3584) (hq : q.val = 640 + l.val) : (Cert.Reference7Ideal.Qk.partV V0 (ix2 r ⟨q.val - 640, by omega⟩) : EReal) = (rowA m c r).col q := by
  rw [Row.col_v _ l q hq]
  obtain ⟨g, j, rfl⟩ := lane_split l
  refine Eq.trans ?_ ((Cert.Reference7Ideal.Qk.part_v V0 r g j).trans ((congrFun e.dv _).trans (pair2_lane (rowA m c r).dv g j).symm))
  exact congrArg (fun x => (Cert.Reference7Ideal.Qk.partV V0 (ix2 r x) : EReal)) (Fin.ext (by show q.val - 640 = g.val * 64 + j.val; rw [hq]; exact Nat.add_sub_cancel_left _ _))

include e in
theorem vb_eq (l : Fin 128) (q : Fin 3584) (hq : q.val = 1408 + l.val) : (Cert.Reference7Ideal.Qk.partVb V0 (ix2 r ⟨q.val - 1408, by omega⟩) : EReal) = (rowA m c r).col q := by
  rw [Row.col_vb _ l q hq]
  obtain ⟨g, j, rfl⟩ := lane_split l
  refine Eq.trans ?_ ((Cert.Reference7Ideal.Qk.part_vb V0 r g j).trans ((congrFun e.dvb _).trans (pair2_lane (rowA m c r).dvb g j).symm))
  exact congrArg (fun x => (Cert.Reference7Ideal.Qk.partVb V0 (ix2 r x) : EReal)) (Fin.ext (by show q.val - 1408 = g.val * 64 + j.val; rw [hq]; exact Nat.add_sub_cancel_left _ _))

include e in
theorem qb_eq (k : Fin 4) (l : Fin 128) (q : Fin 3584) (hq : q.val = 768 + (k.val * 128 + l.val)) : (Cert.Reference7Ideal.Qk.partQb V0 (ix2 r ⟨q.val - 768, by omega⟩) : EReal) = (rowA m c r).col q := by
  rw [Row.col_qb _ k l q hq]
  obtain ⟨g, j, rfl⟩ := lane_split l
  rw [zqb_lane, ← e.dqb]
  refine Eq.trans ?_ (Cert.Reference7Ideal.Qk.part_qb V0 r ⟨k.val * 2 + g.val, by omega⟩ j)
  exact congrArg (fun x => (Cert.Reference7Ideal.Qk.partQb V0 (ix2 r x) : EReal)) (Fin.ext (by show q.val - 768 = (k.val * 2 + g.val) * 64 + j.val; rw [hq]; show 768 + (k.val * 128 + (g.val * 64 + j.val)) - 768 = _; omega))

include e in
theorem kb_eq (l : Fin 128) (q : Fin 3584) (hq : q.val = 1280 + l.val) : (Cert.Reference7Ideal.Qk.partKb V0 (ix2 r ⟨q.val - 1280, by omega⟩) : EReal) = (rowA m c r).col q := by
  rw [Row.col_kb _ l q hq]
  obtain ⟨g, j, rfl⟩ := lane_split l
  rw [zkb_lane, ← e.dkb]
  refine Eq.trans ?_ (Cert.Reference7Ideal.Qk.part_kb V0 r g j)
  exact congrArg (fun x => (Cert.Reference7Ideal.Qk.partKb V0 (ix2 r x) : EReal)) (Fin.ext (by show q.val - 1280 = g.val * 64 + j.val; rw [hq]; exact Nat.add_sub_cancel_left _ _))

include e h in
/-- The first result: every column of every row. -/
theorem ref17 : wide V0 = G17 m c := by
  funext y; idx_vars y
  refine (wide_at V0 y0 y1).trans (show _ = (rowA m c y0).col y1 from ?_)
  split_ifs with h0 h1 h2 h3 h4 h5 h6
  · exact q_eq m c V0 y0 h e ⟨y1.val / 128, by omega⟩ ⟨y1.val % 128, by omega⟩ y1 (by show y1.val = y1.val / 128 * 128 + y1.val % 128; omega)
  · exact k_eq m c V0 y0 h e ⟨y1.val - 512, by omega⟩ y1 (by show y1.val = 512 + (y1.val - 512); omega)
  · exact v_eq m c V0 y0 e ⟨y1.val - 640, by omega⟩ y1 (by show y1.val = 640 + (y1.val - 640); omega)
  · exact qb_eq m c V0 y0 e ⟨(y1.val - 768) / 128, by omega⟩ ⟨(y1.val - 768) % 128, by omega⟩ y1 (by show y1.val = 768 + ((y1.val - 768) / 128 * 128 + (y1.val - 768) % 128); omega)
  · exact kb_eq m c V0 y0 e ⟨y1.val - 1280, by omega⟩ y1 (by show y1.val = 1280 + (y1.val - 1280); omega)
  · exact vb_eq m c V0 y0 e ⟨y1.val - 1408, by omega⟩ y1 (by show y1.val = 1408 + (y1.val - 1408); omega)
  · rw [Row.col_g _ ⟨y1.val - 1536, by omega⟩ y1 (by show y1.val = 1536 + (y1.val - 1536); omega)]
    refine Eq.trans ?_ (dif_pos (show y1.val - 1536 < 1024 by omega)).symm
    exact (Cert.Reference7Ideal.Qk.part_ga V0 y0 _).trans (congrFun e.ga _)
  · rw [Row.col_g _ ⟨y1.val - 1536, by omega⟩ y1 (by show y1.val = 1536 + (y1.val - 1536); omega)]
    refine Eq.trans ?_ (dif_neg (show ¬y1.val - 1536 < 1024 by omega)).symm
    refine (Cert.Reference7Ideal.Qk.part_gb V0 y0 _).trans ((congrFun e.gb _).trans ?_)
    exact congrArg (fun x => gbA m c (ix3 0 y0 x)) (Fin.ext (by show y1.val - 2560 = y1.val - 1536 - 1024; omega))

include e h in
/-- What a row adds to the gains' gradients. -/
theorem gainq_lane (k : Fin 4) (g : Fin 2) (j : Fin 64) : (rowA m c r).gainq k (lane g j)
    = Cert.Reference7Ideal.Qk.qaA V0 (ix3 0 r ⟨k.val * 128 + g.val * 64 + j.val, by omega⟩) * rs (fun j => (Cert.Reference7Ideal.Value.res_main_v22 V0 (ix5 0 r k g j) : EReal))
        * unrope 16 (Cert.Reference7Ideal.Qk.zq V0 r ⟨k.val * 2 + g.val, by omega⟩) (tabA Ideal.cos r) (tabA Ideal.sin r) j := by
  unfold Row.gainq
  rw [xq_eq m c V0 r e k g, zq_lane, show (rowA m c r).B = bd from rfl, rk_eq _ g j (rawq_re m c r h k), rawq_lane, mul_comm, e.qa, ← e.dq]
  rfl

include e h in
theorem gaink_lane (g : Fin 2) (j : Fin 64) : (rowA m c r).gaink (lane g j)
    = Cert.Reference7Ideal.Qk.kaA V0 (ix3 0 r ⟨g.val * 64 + j.val, by omega⟩) * rs (fun j => (Cert.Reference7Ideal.Value.res_main_v178 V0 (ix5 0 r 0 g j) : EReal))
        * unrope 16 (Cert.Reference7Ideal.Qk.zk V0 r g) (tabA Ideal.cos r) (tabA Ideal.sin r) j := by
  unfold Row.gaink
  rw [xk_eq m c V0 r e g, zk_lane, show (rowA m c r).B = bd from rfl, rk_eq _ g j (rawk_re m c r h), rawk_lane, mul_comm, e.ka, ← e.dk]
  rfl

include e h in
/-- The second result: the two gains' sums over all rows, and zeros. -/
theorem ref18 : gains V0 = G18 m c := by
  funext y; idx_vars y
  refine (gains_at V0 y0 y1).trans (show _ = ∑ s : Fin 16, ∑ p : Fin 512, (rowA m c ⟨s.val * 512 + p.val, by omega⟩).sums y0 y1 from ?_)
  refine Eq.trans ?_ (Fin.sum_univ_tiles 16 512 rfl (fun r => (rowA m c r).sums y0 y1))
  obtain ⟨g, j, rfl⟩ := lane_split y1
  unfold Row.sums
  by_cases h0 : y0.val = 0
  · simp only [h0, if_true]
    refine (Cert.Reference7Ideal.Qk.sum_q V0 g j).trans (Finset.sum_congr rfl fun r _ => Finset.sum_congr rfl fun k _ => ?_)
    exact (gainq_lane m c V0 r h e k g j).symm
  simp only [if_neg h0]
  by_cases h1 : y0.val = 1
  · simp only [if_pos h1]
    refine (Cert.Reference7Ideal.Qk.sum_k V0 g j).trans (Finset.sum_congr rfl fun r _ => ?_)
    exact (gaink_lane m c V0 r h e g j).symm
  simp only [if_neg h1]
  exact Finset.sum_const_zero.symm

end Finite

theorem algebraic : Cert.algebraic_Kernel7Ideal_Reference7Ideal_pre_finite_qk (hKernel7Ideal := Cert.Kernel7Ideal.Gen.facts)
    (hReference7Ideal := Cert.Reference7Ideal.Gen.facts) (hPre_finite_qk := Cert.Pre_finite_qk.Gen.facts) := by
  intro m g m' g' hp hm
  refine ⟨fun c => G17 m c, fun c => G18 m c, ?_, ?_⟩
  · refine (θ_run _ _ _).mono (fun r h c => ?_) (Cert.Kernel7Ideal.Value.run_blocks (F := Ideal) m g)
    obtain ⟨h7, h8, hargs⟩ := h c
    exact ⟨h7.trans (final17 m c), h8.trans (final18 m c), hargs⟩
  · refine (θ_run _ _ _).mono (fun r h c => ?_) (Cert.Reference7Ideal.Value.run (F := Ideal) m' g')
    obtain ⟨h7, h8, hargs⟩ := h c
    obtain ⟨a0, a1, a2, a3, a4, a5, a6, a7, a8, a9, a10, a11⟩ := hm c
    have e : Same m c (StableHlo.launchContents m' c) := ⟨a0, a1, a2, a3, a4, a5, a6, a7, a8, a9, a10, a11⟩
    exact ⟨h7.trans (ref17 m c _ hp e), h8.trans (ref18 m c _ hp e), hargs⟩

end Cert.Proof.Qk
-- ==== Proof.Merge.lean ====
module

public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Merge

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0, 0] ∧ win0_6.index t = ![t.val, 0]
    ∧ win0_7.index t = ![t.val, 0] ∧ win0_8.index t = ![t.val, 0] ∧ win0_9.index t = ![0, t.val, 0] ∧ win0_10.index t = ![0, t.val, 0] :=
  (by decide +kernel : ∀ t : Fin grid0.N, _)

theorem N16 (t : Fin cfg0.N) : t.val < 16 := lt_of_lt_of_eq t.isLt Gen.N_0

/-- Row `p` of the block of rows at grid point `t`, as a row of the whole array. -/
def row (t : Fin cfg0.N) (p : Fin 512) : Fin 8192 := ⟨t.val * 512 + p.val, by have := N16 t; omega⟩

/-- The argument arrays of device `c`. -/
abbrev gaA (c : Dev nD) : FVec Ideal S1x8192x1024 .f32 := m ((c.tc : Thread nD τ).loc main_arg0)
abbrev gbA (c : Dev nD) : FVec Ideal S1x8192x1024 .f32 := m ((c.tc : Thread nD τ).loc main_arg1)
abbrev yaA (c : Dev nD) : FVec Ideal S1x8192x512 .f32 := m ((c.tc : Thread nD τ).loc main_arg2)
abbrev ybA (c : Dev nD) : FVec Ideal S1x8192x512 .f32 := m ((c.tc : Thread nD τ).loc main_arg3)
abbrev wbA (c : Dev nD) : FVec Ideal S1x2x512x1024 .f32 := m ((c.tc : Thread nD τ).loc main_arg4)
abbrev woA (c : Dev nD) : FVec Ideal S1x1024x1024 .f32 := m ((c.tc : Thread nD τ).loc main_arg5)
abbrev ctA (c : Dev nD) : FVec Ideal S1x8192x1024 .f32 := m ((c.tc : Thread nD τ).loc main_arg6)

theorem blk0 (c : Dev nD) (t : Fin cfg0.N) (p : Fin 512) (q : Fin 1024) :
    iblk m c 0 t (ix2 p q) = ctA m c (ix3 0 (row t p) q) := by
  blk_simp [iblk]
  entry_read
  pointwise
  blk_point [idx t, row]

theorem emb1 (t : Fin cfg0.N) (y : S512x2048.Idx) : (((View.whole main_v3).slice (win0_1.rect t)).emb y 1).val = (y 1).val := by
  blk_simp [idx t]

theorem blk1a (c : Dev nD) (t : Fin cfg0.N) (p : Fin 512) (q : Fin 1024) :
    iblk m c 1 t (ix2 p ⟨q.val, by omega⟩) = gaA m c (ix3 0 (row t p) q) := by
  blk_simp [iblk]
  entry_read
  pointwise
  blk_point [idx t, row]
  · exfalso; have h1 := emb1 t (ix2 p ⟨q.val, by omega⟩); have h2 : ((ix2 p ⟨q.val, by omega⟩ : S512x2048.Idx) 1).val = q.val := rfl; omega

theorem blk1b (c : Dev nD) (t : Fin cfg0.N) (p : Fin 512) (q : Fin 1024) :
    iblk m c 1 t (ix2 p ⟨1024 + q.val, by omega⟩) = gbA m c (ix3 0 (row t p) q) := by
  blk_simp [iblk]
  entry_read
  pointwise
  blk_point [idx t, row]
  · exfalso; have h1 := emb1 t (ix2 p ⟨1024 + q.val, by omega⟩); have h2 : ((ix2 p ⟨1024 + q.val, by omega⟩ : S512x2048.Idx) 1).val = 1024 + q.val := rfl; omega

theorem blk2 (c : Dev nD) (t : Fin cfg0.N) (p : Fin 512) (q : Fin 1024) :
    iblk m c 2 t (ix2 p q) = ∑ k : Fin 512, yaA m c (ix3 0 (row t p) k) * wbA m c (ix4 0 0 k q) := by
  blk_simp [iblk]
  entry_read
  pointwise
  blk_point [idx t, row]

theorem blk5 (c : Dev nD) (t : Fin cfg0.N) (j : Fin 4) (b : Fin 2) (k : Fin 512) (q : Fin 256) :
    iblk m c 5 t (ix4 j b k q) = wbA m c (ix4 0 b k ⟨j.val * 256 + q.val, by omega⟩) := by
  blk_simp [iblk]
  entry_read
  pointwise
  blk_point [idx t, row]

theorem blk3 (c : Dev nD) (t : Fin cfg0.N) (p : Fin 512) (q : Fin 1024) :
    iblk m c 3 t (ix2 p q) = ∑ k : Fin 512, ybA m c (ix3 0 (row t p) k) * wbA m c (ix4 0 1 k q) := by
  blk_simp [iblk]
  entry_read
  pointwise
  blk_point [idx t, row]

theorem blk4 (c : Dev nD) (t : Fin cfg0.N) (p : Fin 1024) (q : Fin 1024) :
    iblk m c 4 t (ix2 p q) = woA m c (ix3 0 p q) := by
  blk_simp [iblk]
  entry_read
  pointwise
  blk_point [idx t, row]

/-- The printed word of one half. -/
theorem half_word : Ideal.ofBits FTy.f32 0x3F000000#32 = (((1 : ℝ) / 2 : ℝ) : EReal) := by
  simp [Ideal.ofBits, Ideal.ieee]
  refine (EReal.coe_mul _ _).symm.trans ?_
  norm_num

/-- `0.5 * tanh (0.5 * z) + 0.5` is the logistic function, at the infinities too. -/
theorem half_tanh (z : EReal) :
    Ideal.ofBits FTy.f32 0x3F000000#32 * Ideal.tanh (Ideal.ofBits FTy.f32 0x3F000000#32 * z) + Ideal.ofBits FTy.f32 0x3F000000#32
      = Ideal.logistic z := by
  rw [half_word]
  have hpos : (0 : ℝ) < 1 / 2 := by norm_num
  induction z with
  | bot =>
    rw [EReal.coe_mul_bot_of_pos hpos, Ideal.tanh_bot, Ideal.logistic_bot, ← EReal.coe_one, ← EReal.coe_neg, ← EReal.coe_mul,
      ← EReal.coe_add]
    norm_num
  | top =>
    rw [EReal.coe_mul_top_of_pos hpos, Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add, EReal.coe_eq_coe_iff]
    have hc := Real.cosh_pos (1 / 2 * r)
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    have h3 := Real.exp_pos (1 / 2 * r)
    have h4 := Real.exp_pos (-(1 / 2 * r))
    rw [Real.tanh_eq_sinh_div_cosh, Real.sinh_eq, Real.cosh_eq, h1]
    generalize Real.exp (1 / 2 * r) = a at *
    generalize Real.exp (-(1 / 2 * r)) = b at *
    have h5 : a + b ≠ 0 := by positivity
    have h6 : 1 + b * b ≠ 0 := by positivity
    field_simp
    nlinarith

theorem pay9_at (v : Vec Ideal S512x1024 .bf16) (p : Fin 512) (q : Fin 1024) :
    k0_pay9 v (ix2 p q) = Ideal.logistic (v (ix2 p q)) := by
  pointwise [k0_pay9]
  exact half_tanh _

theorem pay23_at (v : Vec Ideal S512x1024 .bf16) (p : Fin 512) (q : Fin 1024) :
    k0_pay23 v (ix2 p q) = Ideal.logistic (v (ix2 p q)) := by
  pointwise [k0_pay23]
  exact half_tanh _

/-- One branch's product with its weight, the four column blocks of the weight one after another. -/
theorem pay34_at (x0 : Vec Ideal S512x1024 .bf16) (x1 : Vec Ideal S512x2048 .bf16) (x2 x3 : Vec Ideal S512x1024 .bf16)
    (x4 : Vec Ideal S1024x1024 .bf16) (x5 : Vec Ideal S4x2x512x256 .bf16) (p k : Fin 512) :
    k0_pay34 x0 x1 x2 x3 x4 x5 (ix2 p k)
      = ∑ j : Fin 4, ∑ q : Fin 256, k0_pay31 x0 x1 x2 x3 x4 x5 (ix2 p ⟨j.val * 256 + q.val, by omega⟩) * x5 (ix4 j 0 k q) := by
  rw [Fin.sum_univ_four]
  pointwise [k0_pay34, k0_pay14, k0_pay32, k0_pay33, k0_pay12, k0_pay13]
  rfl

theorem pay36_at (x0 : Vec Ideal S512x1024 .bf16) (x1 : Vec Ideal S512x2048 .bf16) (x2 x3 : Vec Ideal S512x1024 .bf16)
    (x4 : Vec Ideal S1024x1024 .bf16) (x5 : Vec Ideal S4x2x512x256 .bf16) (p k : Fin 512) :
    k0_pay36 x0 x1 x2 x3 x4 x5 (ix2 p k)
      = ∑ j : Fin 4, ∑ q : Fin 256, k0_pay35 x0 x1 x2 x3 x4 x5 (ix2 p ⟨j.val * 256 + q.val, by omega⟩) * x5 (ix4 j 1 k q) := by
  rw [Fin.sum_univ_four]
  pointwise [k0_pay36, k0_pay27]

/-- The head-major blocks: head `h` holds 64 columns of the branch's gradient. -/
theorem out9_at (x0 : Vec Ideal S512x1024 .bf16) (x1 : Vec Ideal S512x2048 .bf16) (x2 x3 : Vec Ideal S512x1024 .bf16)
    (x4 : Vec Ideal S1024x1024 .bf16) (x5 : Vec Ideal S4x2x512x256 .bf16) (y : S8x512x64.Idx) (i : S512x512.Idx)
    (hi0 : (i 0 : ℕ) = (y 1 : ℕ)) (hi1 : (i 1 : ℕ) = (y 0 : ℕ) * 64 + (y 2 : ℕ)) :
    out0_9 x0 x1 x2 x3 x4 x5 y = k0_pay34 x0 x1 x2 x3 x4 x5 i := by
  unfold out0_9
  canon_tiles x h
  all_goals (simp only [k0_pay34, k0_pay15, k0_pay16, k0_pay17, k0_pay18, k0_pay19, k0_pay20, k0_pay21, k0_pay22]; pointwise; blk_ext)

theorem out10_at (x0 : Vec Ideal S512x1024 .bf16) (x1 : Vec Ideal S512x2048 .bf16) (x2 x3 : Vec Ideal S512x1024 .bf16)
    (x4 : Vec Ideal S1024x1024 .bf16) (x5 : Vec Ideal S4x2x512x256 .bf16) (y : S8x512x64.Idx) (i : S512x512.Idx)
    (hi0 : (i 0 : ℕ) = (y 1 : ℕ)) (hi1 : (i 1 : ℕ) = (y 0 : ℕ) * 64 + (y 2 : ℕ)) :
    out0_10 x0 x1 x2 x3 x4 x5 y = k0_pay36 x0 x1 x2 x3 x4 x5 i := by
  unfold out0_10
  canon_tiles x h
  all_goals (simp only [k0_pay36, k0_pay1, k0_pay2, k0_pay3, k0_pay4, k0_pay5, k0_pay6, k0_pay7, k0_pay28, k0_pay29]; pointwise; blk_ext)

/-- The gate gradients' block: the first gate's columns, then the second's. -/
theorem out8_at (x0 : Vec Ideal S512x1024 .bf16) (x1 : Vec Ideal S512x2048 .bf16) (x2 x3 : Vec Ideal S512x1024 .bf16)
    (x4 : Vec Ideal S1024x1024 .bf16) (x5 : Vec Ideal S4x2x512x256 .bf16) (y : S512x2048.Idx) (i : S512x1024.Idx) (hi0 : (y 0 : ℕ) = (i 0 : ℕ)) (hi1 : (y 1 : ℕ) = (i 1 : ℕ)) :
    out0_8 x0 x1 x2 x3 x4 x5 y = k0_pay11 (View.ld x0 r0_0) (View.ld x4 r0_1) (View.ld x1 r0_2) (View.ld x2 r0_0) i := by
  have hb : (i 1 : ℕ) < 1024 := (i 1).isLt
  unfold out0_8
  canon_tiles x h
  · omega
  · blk_ext

theorem out8_at' (x0 : Vec Ideal S512x1024 .bf16) (x1 : Vec Ideal S512x2048 .bf16) (x2 x3 : Vec Ideal S512x1024 .bf16)
    (x4 : Vec Ideal S1024x1024 .bf16) (x5 : Vec Ideal S4x2x512x256 .bf16) (y : S512x2048.Idx) (i : S512x1024.Idx) (hi0 : (y 0 : ℕ) = (i 0 : ℕ)) (hi1 : (y 1 : ℕ) = 1024 + (i 1 : ℕ)) :
    out0_8 x0 x1 x2 x3 x4 x5 y = k0_pay26 (k0_pay23 (View.ld x1 r0_15)) (k0_pay25 (k0_pay30 x0 x1 x2 x3 x4 x5) (View.ld x1 r0_15) (View.ld x3 r0_0)) i := by
  unfold out0_8
  canon_tiles x h
  · blk_ext
  · omega

/-- The gradient of the merged rows: the cotangent times the output weight transposed. -/
def dMrg (c : Dev nD) (r : Fin 8192) (d : Fin 1024) : EReal := ∑ e : Fin 1024, ctA m c (ix3 0 r e) * woA m c (ix3 0 d e)

/-- The gradients of the two branch products. -/
def dUa (c : Dev nD) (r : Fin 8192) (d : Fin 1024) : EReal := dMrg m c r d * Ideal.logistic (gaA m c (ix3 0 r d))
def dUb (c : Dev nD) (r : Fin 8192) (d : Fin 1024) : EReal := dMrg m c r d * Ideal.logistic (gbA m c (ix3 0 r d))

/-- A branch product at a row and a column. -/
def uA (c : Dev nD) (r : Fin 8192) (d : Fin 1024) : EReal := ∑ k : Fin 512, yaA m c (ix3 0 r k) * wbA m c (ix4 0 0 k d)
def uB (c : Dev nD) (r : Fin 8192) (d : Fin 1024) : EReal := ∑ k : Fin 512, ybA m c (ix3 0 r k) * wbA m c (ix4 0 1 k d)

/-- The gradients of the two gates. -/
def dGa (c : Dev nD) (r : Fin 8192) (d : Fin 1024) : EReal :=
  dMrg m c r d * uA m c r d * Ideal.logistic (gaA m c (ix3 0 r d)) * (1 - Ideal.logistic (gaA m c (ix3 0 r d)))
def dGb (c : Dev nD) (r : Fin 8192) (d : Fin 1024) : EReal :=
  dMrg m c r d * uB m c r d * Ideal.logistic (gbA m c (ix3 0 r d)) * (1 - Ideal.logistic (gbA m c (ix3 0 r d)))

/-- The five results, as arrays. -/
def G6 (c : Dev nD) : S8192x1024.Idx → EReal := fun i => dUa m c (i 0) (i 1)
def G7 (c : Dev nD) : S8192x1024.Idx → EReal := fun i => dUb m c (i 0) (i 1)
def G8 (c : Dev nD) : S8192x2048.Idx → EReal := fun i =>
  if h : (i 1).val < 1024 then dGa m c (i 0) ⟨(i 1).val, h⟩
  else dGb m c (i 0) ⟨(i 1).val - 1024, by have : (i 1).val < 2048 := (i 1).isLt; omega⟩
def G9 (c : Dev nD) : S8x8192x64.Idx → EReal := fun i =>
  ∑ j : Fin 4, ∑ q : Fin 256, dUa m c (i 1) ⟨j.val * 256 + q.val, by omega⟩
    * wbA m c (ix4 0 0 ⟨(i 0).val * 64 + (i 2).val, by have : (i 0).val < 8 := (i 0).isLt; have : (i 2).val < 64 := (i 2).isLt; omega⟩ ⟨j.val * 256 + q.val, by omega⟩)
def G10 (c : Dev nD) : S8x8192x64.Idx → EReal := fun i =>
  ∑ j : Fin 4, ∑ q : Fin 256, dUb m c (i 1) ⟨j.val * 256 + q.val, by omega⟩
    * wbA m c (ix4 0 1 ⟨(i 0).val * 64 + (i 2).val, by have : (i 0).val < 8 := (i 0).isLt; have : (i 2).val < 64 := (i 2).isLt; omega⟩ ⟨j.val * 256 + q.val, by omega⟩)

theorem du6 (c : Dev nD) (t : Fin cfg0.N) (p : Fin 512) (q : Fin 1024) :
    k0_pay10 (iblk m c 0 t) (iblk m c 4 t) (View.ld (iblk m c 1 t) r0_2) (ix2 p q) = dUa m c (row t p) q := by
  pointwise [k0_pay10, k0_pay8, pay9_at, dUa, dMrg, blk0, blk4]
  rw [blk1a]

theorem du6' (c : Dev nD) (t : Fin cfg0.N) (p : Fin 512) (q : Fin 1024) :
    k0_pay31 (iblk m c 0 t) (iblk m c 1 t) (iblk m c 2 t) (iblk m c 3 t) (iblk m c 4 t) (iblk m c 5 t) (ix2 p q) = dUa m c (row t p) q := by
  pointwise [k0_pay31, k0_pay10, k0_pay8, pay9_at, dUa, dMrg, blk0, blk4]
  rw [blk1a]

theorem du7 (c : Dev nD) (t : Fin cfg0.N) (p : Fin 512) (q : Fin 1024) :
    k0_pay35 (iblk m c 0 t) (iblk m c 1 t) (iblk m c 2 t) (iblk m c 3 t) (iblk m c 4 t) (iblk m c 5 t) (ix2 p q) = dUb m c (row t p) q := by
  pointwise [k0_pay35, k0_pay24, k0_pay30, k0_pay8, pay23_at, dUb, dMrg, blk0, blk4]
  rw [blk1b]

theorem final6 (c : Dev nD) : (dats m 0 c).arrAt 6 (cfgs 0).N = G6 m c := by
  refine (dats m 0 c).arrAt_eq_of_covers 6 _ (by decide +kernel) fun t _ y => ?_
  blk_simp
  rw [after0_6]; frame_out
  idx_vars y
  refine (du6 m c t y0 y1).trans (show G6 m c (ix2 (row t y0) y1) = _ from ?_)
  blk_ext [idx t, row]

theorem final7 (c : Dev nD) : (dats m 0 c).arrAt 7 (cfgs 0).N = G7 m c := by
  refine (dats m 0 c).arrAt_eq_of_covers 7 _ (by decide +kernel) fun t _ y => ?_
  blk_simp
  rw [after0_7]; frame_out
  idx_vars y
  refine (du7 m c t y0 y1).trans (show G7 m c (ix2 (row t y0) y1) = _ from ?_)
  blk_ext [idx t, row]

theorem final9 (c : Dev nD) : (dats m 0 c).arrAt 9 (cfgs 0).N = G9 m c := by
  refine (dats m 0 c).arrAt_eq_of_covers 9 _ (by decide +kernel) fun t _ y => ?_
  blk_simp
  rw [after0_9]
  idx_vars y
  refine (out9_at _ _ _ _ _ _ (ix3 y0 y1 y2) (ix2 y1 ⟨y0.val * 64 + y2.val, by omega⟩) rfl rfl).trans ?_
  rw [pay34_at]
  simp only [du6', blk5]
  refine (show G9 m c (ix3 y0 (row t y1) y2) = _ from ?_)
  blk_ext [idx t, row]

theorem final10 (c : Dev nD) : (dats m 0 c).arrAt 10 (cfgs 0).N = G10 m c := by
  refine (dats m 0 c).arrAt_eq_of_covers 10 _ (by decide +kernel) fun t _ y => ?_
  blk_simp
  rw [after0_10]
  idx_vars y
  refine (out10_at _ _ _ _ _ _ (ix3 y0 y1 y2) (ix2 y1 ⟨y0.val * 64 + y2.val, by omega⟩) rfl rfl).trans ?_
  rw [pay36_at]
  simp only [du7, blk5]
  refine (show G10 m c (ix3 y0 (row t y1) y2) = _ from ?_)
  blk_ext [idx t, row]

theorem final8 (c : Dev nD) : (dats m 0 c).arrAt 8 (cfgs 0).N = G8 m c := by
  refine (dats m 0 c).arrAt_eq_of_covers 8 _ (by decide +kernel) fun t _ y => ?_
  blk_simp
  rw [after0_8]
  idx_vars y
  refine Eq.trans ?_ (show G8 m c (ix2 (row t y0) y1) = _ from by blk_ext [idx t, row])
  by_cases h : y1.val < 1024
  · refine (out8_at _ _ _ _ _ _ (ix2 y0 y1) (ix2 y0 ⟨y1.val, h⟩) rfl rfl).trans ?_
    have hG : G8 m c (ix2 (row t y0) y1) = dGa m c (row t y0) ⟨y1.val, h⟩ := dif_pos h
    rw [hG]
    pointwise [k0_pay11, k0_pay8, pay9_at, dGa, dMrg, uA, blk0, blk2, blk4]
    rw [show iblk m c 1 t (ix2 y0 y1) = _ from blk1a m c t y0 ⟨y1.val, h⟩]
  · refine (out8_at' _ _ _ _ _ _ (ix2 y0 y1) (ix2 y0 ⟨y1.val - 1024, by omega⟩) rfl (by show y1.val = 1024 + (y1.val - 1024); omega)).trans ?_
    have hG : G8 m c (ix2 (row t y0) y1) = dGb m c (row t y0) ⟨y1.val - 1024, by omega⟩ := dif_neg h
    rw [hG]
    pointwise [k0_pay26, k0_pay25, k0_pay30, k0_pay8, pay23_at, dGb, dMrg, uB, blk0, blk3, blk4]
    rw [blk1b m c t y0 ⟨y1.val - 1024, by omega⟩]
end Cert.KernelIdeal.Merge
-- ==== Proof.MergeRef.lean ====
module

public import proofs.«01_k».proof.Proof.Gen.ReferenceIdeal.Run
public import Idealize.ShloMosaic.Lib.Pointwise

@[expose] public section

set_option maxRecDepth 16384

noncomputable section

/-! The merge's reference: its five results named by their shared parts, and each read at an index. -/

namespace Cert.ReferenceIdeal.Merge

open Cert.ReferenceIdeal Cert.ReferenceIdeal.Gen Idealize.ShloMosaic Idealize.ShloMosaic.TcCoe Idealize.SL.Sem

/-- The array of ones. -/
abbrev ones : FVec Ideal S1x8192x1024 .f32 := broadcastInDim S1x8192x1024 ![] bcast_S_S1x8192x1024 (constant S_ .f32 0x3F800000#32)

/-- The logistic function of a gate. -/
abbrev sig (g : FVec Ideal S1x8192x1024 .f32) : FVec Ideal S1x8192x1024 .f32 := Host.divf ones (addf ones (Host.exp (Host.negf g)))

/-- The merged rows' gradient. -/
abbrev dm (wo : FVec Ideal S1x1024x1024 .f32) (ct : FVec Ideal S1x8192x1024 .f32) : FVec Ideal S1x8192x1024 .f32 :=
  Host.dotGeneral dot_S1x8192x1024_S1024x1024_S1x8192x1024_2_1_01_0_n_n none ct (shapeCast _ wo shapeCasts_S1x1024x1024_S1024x1024)

/-- The two branches' weights. -/
abbrev wa (w : FVec Ideal S1x2x512x1024 .f32) : FVec Ideal S512x1024 .f32 :=
  shapeCast _ (extractStridedSlice S1x1x512x1024 ![0, 0, 0, 0] w slices_S1x2x512x1024_S1x1x512x1024_0_0_0_0) shapeCasts_S1x1x512x1024_S512x1024
abbrev wb (w : FVec Ideal S1x2x512x1024 .f32) : FVec Ideal S512x1024 .f32 :=
  shapeCast _ (extractStridedSlice S1x1x512x1024 ![0, 1, 0, 0] w slices_S1x2x512x1024_S1x1x512x1024_0_1_0_0) shapeCasts_S1x1x512x1024_S512x1024

/-- A branch product's gradient, a gate's gradient, and a branch's gradient by heads. -/
def DU (g : FVec Ideal S1x8192x1024 .f32) (wo : FVec Ideal S1x1024x1024 .f32) (ct : FVec Ideal S1x8192x1024 .f32) : FVec Ideal S8192x1024 .bf16 :=
  truncf .bf16 (shapeCast _ (mulf (sig g) (dm wo ct)) shapeCasts_S1x8192x1024_S8192x1024) bitsLt_bf16_f32

abbrev dg (g : FVec Ideal S1x8192x1024 .f32) (y : FVec Ideal S1x8192x512 .f32) (w : FVec Ideal S512x1024 .f32)
    (wo : FVec Ideal S1x1024x1024 .f32) (ct : FVec Ideal S1x8192x1024 .f32) : FVec Ideal S8192x1024 .f32 :=
  shapeCast _ (mulf (mulf (dm wo ct) (Host.dotGeneral dot_S1x8192x512_S512x1024_S1x8192x1024_2_0_01_1_n_n none y w))
    (mulf (sig g) (subf ones (sig g)))) shapeCasts_S1x8192x1024_S8192x1024

def DG (ga gb : FVec Ideal S1x8192x1024 .f32) (ya yb : FVec Ideal S1x8192x512 .f32) (w : FVec Ideal S1x2x512x1024 .f32)
    (wo : FVec Ideal S1x1024x1024 .f32) (ct : FVec Ideal S1x8192x1024 .f32) : FVec Ideal S8192x2048 .bf16 :=
  truncf .bf16 (concatenate S8192x2048 1 [⟨S8192x1024, dg ga ya (wa w) wo ct⟩, ⟨S8192x1024, dg gb yb (wb w) wo ct⟩]
    concatenates_S8192x1024_S8192x1024_S8192x2048_d1) bitsLt_bf16_f32

def DY (g : FVec Ideal S1x8192x1024 .f32) (w : FVec Ideal S512x1024 .f32) (wo : FVec Ideal S1x1024x1024 .f32)
    (ct : FVec Ideal S1x8192x1024 .f32) : FVec Ideal S8x8192x64 .bf16 :=
  truncf .bf16 (transpose S8x8192x64 [1, 0, 2] (shapeCast _ (shapeCast _
    (Host.dotGeneral dot_S1x8192x1024_S512x1024_S1x8192x512_2_1_01_0_n_n none (mulf (sig g) (dm wo ct)) w)
    shapeCasts_S1x8192x512_S8192x512) shapeCasts_S8192x512_S8192x8x64) transposes_S8192x8x64_S8x8192x64_1_0_2) bitsLt_bf16_f32

theorem DU_at (g : FVec Ideal S1x8192x1024 .f32) (wo : FVec Ideal S1x1024x1024 .f32) (ct : FVec Ideal S1x8192x1024 .f32)
    (r : Fin 8192) (d : Fin 1024) :
    DU g wo ct (ix2 r d) = Ideal.logistic (g (ix3 0 r d)) * ∑ e : Fin 1024, ct (ix3 0 r e) * wo (ix3 0 d e) := by
  pointwise [DU, Ideal.logistic]

theorem DY_a (g : FVec Ideal S1x8192x1024 .f32) (w : FVec Ideal S1x2x512x1024 .f32) (wo : FVec Ideal S1x1024x1024 .f32)
    (ct : FVec Ideal S1x8192x1024 .f32) (h : Fin 8) (r : Fin 8192) (k : Fin 64) :
    DY g (wa w) wo ct (ix3 h r k) = ∑ d : Fin 1024, (Ideal.logistic (g (ix3 0 r d)) * ∑ e : Fin 1024, ct (ix3 0 r e) * wo (ix3 0 d e))
      * w (ix4 0 0 ⟨h.val * 64 + k.val, by omega⟩ d) := by
  pointwise [DY, Ideal.logistic]

theorem DY_b (g : FVec Ideal S1x8192x1024 .f32) (w : FVec Ideal S1x2x512x1024 .f32) (wo : FVec Ideal S1x1024x1024 .f32)
    (ct : FVec Ideal S1x8192x1024 .f32) (h : Fin 8) (r : Fin 8192) (k : Fin 64) :
    DY g (wb w) wo ct (ix3 h r k) = ∑ d : Fin 1024, (Ideal.logistic (g (ix3 0 r d)) * ∑ e : Fin 1024, ct (ix3 0 r e) * wo (ix3 0 d e))
      * w (ix4 0 1 ⟨h.val * 64 + k.val, by omega⟩ d) := by
  pointwise [DY, Ideal.logistic]

theorem DG_at (ga gb : FVec Ideal S1x8192x1024 .f32) (ya yb : FVec Ideal S1x8192x512 .f32) (w : FVec Ideal S1x2x512x1024 .f32)
    (wo : FVec Ideal S1x1024x1024 .f32) (ct : FVec Ideal S1x8192x1024 .f32) (r : Fin 8192) (q : Fin 2048) :
    DG ga gb ya yb w wo ct (ix2 r q) = if h : q.val < 1024 then dg ga ya (wa w) wo ct (ix2 r ⟨q.val, h⟩)
      else dg gb yb (wb w) wo ct (ix2 r ⟨q.val - 1024, by omega⟩) := by
  unfold DG
  generalize dg ga ya (wa w) wo ct = A
  generalize dg gb yb (wb w) wo ct = B
  pointwise

theorem dg_a (g : FVec Ideal S1x8192x1024 .f32) (y : FVec Ideal S1x8192x512 .f32) (w : FVec Ideal S1x2x512x1024 .f32)
    (wo : FVec Ideal S1x1024x1024 .f32) (ct : FVec Ideal S1x8192x1024 .f32) (r : Fin 8192) (d : Fin 1024) :
    dg g y (wa w) wo ct (ix2 r d) = ((∑ e : Fin 1024, ct (ix3 0 r e) * wo (ix3 0 d e)) * ∑ k : Fin 512, y (ix3 0 r k) * w (ix4 0 0 k d))
      * (Ideal.logistic (g (ix3 0 r d)) * (1 - Ideal.logistic (g (ix3 0 r d)))) := by
  pointwise [Ideal.logistic]

theorem dg_b (g : FVec Ideal S1x8192x1024 .f32) (y : FVec Ideal S1x8192x512 .f32) (w : FVec Ideal S1x2x512x1024 .f32)
    (wo : FVec Ideal S1x1024x1024 .f32) (ct : FVec Ideal S1x8192x1024 .f32) (r : Fin 8192) (d : Fin 1024) :
    dg g y (wb w) wo ct (ix2 r d) = ((∑ e : Fin 1024, ct (ix3 0 r e) * wo (ix3 0 d e)) * ∑ k : Fin 512, y (ix3 0 r k) * w (ix4 0 1 k d))
      * (Ideal.logistic (g (ix3 0 r d)) * (1 - Ideal.logistic (g (ix3 0 r d)))) := by
  pointwise [Ideal.logistic]

end Cert.ReferenceIdeal.Merge
-- ==== Proof.MergeClaim.lean ====
module

public import proofs.«01_k».proof.Defs
public import proofs.«01_k».proof.Proof.Merge
public import proofs.«01_k».proof.Proof.MergeRef

@[expose] public section

set_option maxRecDepth 16384

noncomputable section

/-! The merge's backward call computes the derivative of the forward lines. -/

namespace Cert.Proof.Merge

open Idealize.ShloMosaic Idealize.ShloMosaic.TcCoe Idealize.SL.Sem Cert.KernelIdeal Cert.KernelIdeal.Merge

variable (m : (ℓ : Loc nD τ sig) → Buf (Elt Ideal) ℓ) (c : Dev nD)

theorem ref6 : Cert.ReferenceIdeal.Merge.DU (gaA m c) (woA m c) (ctA m c) = G6 m c := by
  funext j; idx_vars j
  exact (Cert.ReferenceIdeal.Merge.DU_at _ _ _ _ _).trans (mul_comm _ _)

theorem ref7 : Cert.ReferenceIdeal.Merge.DU (gbA m c) (woA m c) (ctA m c) = G7 m c := by
  funext j; idx_vars j
  exact (Cert.ReferenceIdeal.Merge.DU_at _ _ _ _ _).trans (mul_comm _ _)

theorem ref8 : Cert.ReferenceIdeal.Merge.DG (gaA m c) (gbA m c) (yaA m c) (ybA m c) (wbA m c) (woA m c) (ctA m c) = G8 m c := by
  funext j; idx_vars j
  refine (Cert.ReferenceIdeal.Merge.DG_at _ _ _ _ _ _ _ _ _).trans ?_
  by_cases h : j1.val < 1024
  · refine (dif_pos h).trans (Eq.trans ?_ (dif_pos h : G8 m c (ix2 j0 j1) = dGa m c j0 ⟨j1.val, h⟩).symm)
    exact (Cert.ReferenceIdeal.Merge.dg_a _ _ _ _ _ _ _).trans (mul_assoc _ _ _).symm
  · refine (dif_neg h).trans (Eq.trans ?_ (dif_neg h : G8 m c (ix2 j0 j1) = dGb m c j0 ⟨j1.val - 1024, by omega⟩).symm)
    exact (Cert.ReferenceIdeal.Merge.dg_b _ _ _ _ _ _ _).trans (mul_assoc _ _ _).symm

theorem ref9 : Cert.ReferenceIdeal.Merge.DY (gaA m c) (Cert.ReferenceIdeal.Merge.wa (wbA m c)) (woA m c) (ctA m c) = G9 m c := by
  funext j; idx_vars j
  refine (Cert.ReferenceIdeal.Merge.DY_a _ _ _ _ _ _ _).trans ?_
  rw [Fin.sum_univ_tiles 4 256 rfl]
  exact Fin.sum_fin_congr fun a => Fin.sum_fin_congr fun b => congrArg (· * _) (mul_comm _ _)

theorem ref10 : Cert.ReferenceIdeal.Merge.DY (gbA m c) (Cert.ReferenceIdeal.Merge.wb (wbA m c)) (woA m c) (ctA m c) = G10 m c := by
  funext j; idx_vars j
  refine (Cert.ReferenceIdeal.Merge.DY_b _ _ _ _ _ _ _).trans ?_
  rw [Fin.sum_univ_tiles 4 256 rfl]
  exact Fin.sum_fin_congr fun a => Fin.sum_fin_congr fun b => congrArg (· * _) (mul_comm _ _)

theorem algebraic : Cert.algebraic_KernelIdeal_ReferenceIdeal (hKernelIdeal := Cert.KernelIdeal.Gen.facts) (hReferenceIdeal := Cert.ReferenceIdeal.Gen.facts) := by
  intro m g m' g' _ hm
  refine ⟨fun c => G6 m c, fun c => G7 m c, fun c => G8 m c, fun c => G9 m c, fun c => G10 m c, ?_, ?_⟩
  · refine (θ_run _ _ _).mono (fun r h c => ?_) (Cert.KernelIdeal.Value.run_blocks (F := Ideal) m g)
    obtain ⟨h6, h7, h8, h9, h10, hargs⟩ := h c
    exact ⟨h6.trans (final6 m c), h7.trans (final7 m c), h8.trans (final8 m c), h9.trans (final9 m c), h10.trans (final10 m c), hargs⟩
  · refine (θ_run _ _ _).mono (fun r h c => ?_) (Cert.ReferenceIdeal.Value.run (F := Ideal) m' g')
    obtain ⟨h6, h7, h8, h9, h10, hargs⟩ := h c
    obtain ⟨a0, a1, a2, a3, a4, a5, a6⟩ := hm c
    have e6 := ref6 m c; have e7 := ref7 m c; have e8 := ref8 m c; have e9 := ref9 m c; have e10 := ref10 m c
    unfold gaA at *; unfold gbA at *; unfold yaA ybA wbA woA ctA at *
    rw [← a0, ← a5, ← a6] at e6
    rw [← a1, ← a5, ← a6] at e7
    rw [← a0, ← a1, ← a2, ← a3, ← a4, ← a5, ← a6] at e8
    rw [← a0, ← a4, ← a5, ← a6] at e9
    rw [← a1, ← a4, ← a5, ← a6] at e10
    exact ⟨h6.trans e6, h7.trans e7, h8.trans e8, h9.trans e9, h10.trans e10, hargs⟩

end Cert.Proof.Merge
-- ==== Proof.AttnTile.lean ====
module

public import proofs.«01_k».proof.Proof.Gen.Kernel2Ideal.Value
public import Idealize.ShloMosaic.Lib.Pipeline.ValueKit
public import Idealize.ShloMosaic.Lib.Pointwise

@[expose] public section

set_option maxRecDepth 16384

noncomputable section

/-! One tile of 512 keys against a block of 256 queries of four heads: the gradient of the scores there, and what the tile
    adds to each of the three gradients, read at an index. -/

namespace Cert.Kernel2Ideal.Attn

open Cert.Kernel2Ideal Cert.Kernel2Ideal.Gen Idealize.ShloMosaic Idealize.ShloMosaic.TcCoe Idealize.SL.Sem

variable (x0 x3 x4 : Vec Ideal S1x4x256x64 .bf16) (x5 : Vec Ideal S1x4x256x1 .f32)

/-- A tile's weights. -/
def pT (kt : Vec Ideal S1x512x64 .bf16) : FVec Ideal S1024x512 .bf16 := k0_pay14 (k0_pay7 x5) (k0_pay11 (k0_pay10 x0 kt))

/-- A tile's gradient of the scores. -/
def dsT (kt vt : Vec Ideal S1x512x64 .bf16) : FVec Ideal S1024x512 .bf16 :=
  k0_pay15 (k0_pay7 x5) (k0_pay8 x4 x3) (k0_pay11 (k0_pay10 x0 kt)) (k0_pay12 (k0_pay6 x4) vt)

/-- The values' gradient of the tile, added to what was there. -/
def dvT (kt : Vec Ideal S1x512x64 .bf16) (acc : Vec Ideal S1x512x64 .f32) : FVec Ideal S1x512x64 .f32 := k0_pay18 (k0_pay6 x4) acc (pT x0 x5 kt)

/-- The keys' gradient of the tile, added to what was there. -/
def dkT (kt vt : Vec Ideal S1x512x64 .bf16) (acc : Vec Ideal S1x512x64 .f32) : FVec Ideal S1x512x64 .f32 :=
  k0_pay20 (k0_pay19 (k0_pay5 x0) acc (dsT x0 x3 x4 x5 kt vt))

/-- The queries' gradient, with the tile's part added. -/
def dqT (kt vt : Vec Ideal S1x512x64 .bf16) (acc : Vec Ideal S1024x64 .f32) : FVec Ideal S1024x64 .f32 := k0_pay21 acc (dsT x0 x3 x4 x5 kt vt) kt

/-- The head and the query of a row of the block. -/
def hd (R : Fin 1024) : Fin 4 := ⟨R.val / 256, by omega⟩
def qr (R : Fin 1024) : Fin 256 := ⟨R.val % 256, by omega⟩

/-- The weight of a row and a key of the tile. -/
def pAt (kt : Vec Ideal S1x512x64 .bf16) (h : Fin 4) (r : Fin 256) (p : Fin 512) : EReal :=
  Ideal.exp ((∑ d : Fin 64, x0 (ix4 0 h r d) * kt (ix3 0 p d)) - x5 (ix4 0 h r 0))

/-- The gradient of the score of a row and a key of the tile. -/
def dsAt (kt vt : Vec Ideal S1x512x64 .bf16) (h : Fin 4) (r : Fin 256) (p : Fin 512) : EReal :=
  pAt x0 x5 kt h r p * ((∑ d : Fin 64, x4 (ix4 0 h r d) * vt (ix3 0 p d)) - ∑ d : Fin 64, x4 (ix4 0 h r d) * x3 (ix4 0 h r d))

theorem s_at (kt : Vec Ideal S1x512x64 .bf16) (R : Fin 1024) (p : Fin 512) :
    k0_pay11 (k0_pay10 x0 kt) (ix2 R p) = ∑ d : Fin 64, x0 (ix4 0 (hd R) (qr R) d) * kt (ix3 0 p d) := by
  pointwise [k0_pay11, k0_pay10, k0_pay5]
  rfl

theorem dp_at (vt : Vec Ideal S1x512x64 .bf16) (R : Fin 1024) (p : Fin 512) :
    k0_pay12 (k0_pay6 x4) vt (ix2 R p) = ∑ d : Fin 64, x4 (ix4 0 (hd R) (qr R) d) * vt (ix3 0 p d) := by
  pointwise [k0_pay12, k0_pay6]
  rfl

theorem lse_col_at (R : Fin 1024) : k0_pay7 x5 (ix2 R 0) = x5 (ix4 0 (hd R) (qr R) 0) := by
  pointwise [k0_pay7]
  rfl

theorem dl_at (R : Fin 1024) : k0_pay8 x4 x3 (ix2 R 0) = ∑ d : Fin 64, x4 (ix4 0 (hd R) (qr R) d) * x3 (ix4 0 (hd R) (qr R) d) := by
  pointwise [k0_pay8, k0_pay6]
  rfl

theorem exp_at (l : FVec Ideal S1024x1 .f32) (s : Vec Ideal S1024x512 .f32) (R : Fin 1024) (p : Fin 512) :
    k0_pay13 l s (ix2 R p) = Ideal.exp (s (ix2 R p) - l (ix2 R 0)) := by
  pointwise [k0_pay13]

theorem pT_at (kt : Vec Ideal S1x512x64 .bf16) (R : Fin 1024) (p : Fin 512) : pT x0 x5 kt (ix2 R p) = pAt x0 x5 kt (hd R) (qr R) p := by
  unfold pT pAt
  rw [← s_at, ← lse_col_at x5]
  generalize k0_pay11 (k0_pay10 x0 kt) = s
  generalize k0_pay7 x5 = l
  pointwise [k0_pay14, exp_at]

theorem dsT_at (kt vt : Vec Ideal S1x512x64 .bf16) (R : Fin 1024) (p : Fin 512) :
    dsT x0 x3 x4 x5 kt vt (ix2 R p) = dsAt x0 x3 x4 x5 kt vt (hd R) (qr R) p := by
  unfold dsT dsAt pAt
  rw [← s_at, ← lse_col_at x5, ← dp_at, ← dl_at x3 x4]
  generalize k0_pay11 (k0_pay10 x0 kt) = s
  generalize k0_pay7 x5 = l
  generalize k0_pay12 (k0_pay6 x4) vt = u
  generalize k0_pay8 x4 x3 = w
  pointwise [k0_pay15, exp_at]

theorem dv_at (acc : Vec Ideal S1x512x64 .f32) (w : Vec Ideal S1024x512 .bf16) (p : Fin 512) (d : Fin 64) :
    k0_pay18 (k0_pay6 x4) acc w (ix3 0 p d) = acc (ix3 0 p d) + ∑ R : Fin 1024, w (ix2 R p) * x4 (ix4 0 (hd R) (qr R) d) := by
  pointwise [k0_pay18, k0_pay6]
  rfl

theorem dk_at (acc : Vec Ideal S1x512x64 .f32) (w : Vec Ideal S1024x512 .bf16) (p : Fin 512) (d : Fin 64) :
    k0_pay20 (k0_pay19 (k0_pay5 x0) acc w) (ix3 0 p d) = acc (ix3 0 p d) + ∑ R : Fin 1024, w (ix2 R p) * x0 (ix4 0 (hd R) (qr R) d) := by
  pointwise [k0_pay20, k0_pay19, k0_pay5]
  rfl

theorem dq_at (kt : Vec Ideal S1x512x64 .bf16) (acc : Vec Ideal S1024x64 .f32) (w : Vec Ideal S1024x512 .bf16) (R : Fin 1024) (d : Fin 64) :
    k0_pay21 acc w kt (ix2 R d) = acc (ix2 R d) + ∑ p : Fin 512, w (ix2 R p) * kt (ix3 0 p d) := by
  pointwise [k0_pay21]

/-- A sum over the rows of the block is one over its heads and queries. -/
theorem sum_rows (f : Fin 4 → Fin 256 → EReal) : ∑ R : Fin 1024, f (hd R) (qr R) = ∑ h : Fin 4, ∑ r : Fin 256, f h r := by
  rw [← Fintype.sum_prod_type']
  refine Fintype.sum_bijective (fun R : Fin 1024 => (hd R, qr R)) ⟨fun a b e => ?_, fun b => ?_⟩ _ _ fun _ => rfl
  · have e1 := congrArg (fun z : Fin 4 × Fin 256 => z.1.val) e
    have e2 := congrArg (fun z : Fin 4 × Fin 256 => z.2.val) e
    simp only [hd, qr] at e1 e2
    exact Fin.ext (by omega)
  · refine ⟨⟨b.1.val * 256 + b.2.val, by omega⟩, Prod.ext (Fin.ext ?_) (Fin.ext ?_)⟩ <;> simp only [hd, qr] <;> omega

theorem dvT_at (kt : Vec Ideal S1x512x64 .bf16) (acc : Vec Ideal S1x512x64 .f32) (p : Fin 512) (d : Fin 64) :
    dvT x0 x4 x5 kt acc (ix3 0 p d) = acc (ix3 0 p d) + ∑ h : Fin 4, ∑ r : Fin 256, pAt x0 x5 kt h r p * x4 (ix4 0 h r d) := by
  rw [dvT, dv_at, ← sum_rows fun h r => pAt x0 x5 kt h r p * x4 (ix4 0 h r d)]
  simp only [pT_at]

theorem dkT_at (kt vt : Vec Ideal S1x512x64 .bf16) (acc : Vec Ideal S1x512x64 .f32) (p : Fin 512) (d : Fin 64) :
    dkT x0 x3 x4 x5 kt vt acc (ix3 0 p d) = acc (ix3 0 p d) + ∑ h : Fin 4, ∑ r : Fin 256, dsAt x0 x3 x4 x5 kt vt h r p * x0 (ix4 0 h r d) := by
  rw [dkT, dk_at, ← sum_rows fun h r => dsAt x0 x3 x4 x5 kt vt h r p * x0 (ix4 0 h r d)]
  simp only [dsT_at]

theorem dqT_at (kt vt : Vec Ideal S1x512x64 .bf16) (acc : Vec Ideal S1024x64 .f32) (R : Fin 1024) (d : Fin 64) :
    dqT x0 x3 x4 x5 kt vt acc (ix2 R d) = acc (ix2 R d) + ∑ p : Fin 512, dsAt x0 x3 x4 x5 kt vt (hd R) (qr R) p * kt (ix3 0 p d) := by
  rw [dqT, dq_at]
  simp only [dsT_at]

theorem zero_at (R : Fin 1024) (d : Fin 64) : (k0_pay9 (F := Ideal)) (ix2 R d) = 0 := by
  pointwise [k0_pay9]

theorem zero3_at (i : S1x8192x64.Idx) : (k0_pay3 (F := Ideal)) i = 0 := by
  idx_vars i
  pointwise [k0_pay3]

theorem zero4_at (i : S1x8192x64.Idx) : (k0_pay4 (F := Ideal)) i = 0 := by
  idx_vars i
  pointwise [k0_pay4]

theorem last_at (w : Vec Ideal S1024x64 .f32) (h : Fin 4) (r : Fin 256) (d : Fin 64) :
    k0_pay2 w (ix4 0 h r d) = w (ix2 ⟨h.val * 256 + r.val, by omega⟩ d) := by
  pointwise [k0_pay2]

end Cert.Kernel2Ideal.Attn
-- ==== Proof.AttnRun.lean ====
module

public import proofs.«01_k».proof.Proof.Gen.Kernel2Ideal.Value
public import Idealize.ShloMosaic.Lib.Pipeline.ValueKit
public import proofs.«01_k».proof.Proof.AttnTile
public import Idealize.ShloMosaic.Lib.Pipeline.ReadBack
public import Idealize.ShloMosaic.Lib.Pointwise

@[expose] public section

set_option maxRecDepth 16384

noncomputable section

/-! What one grid point leaves in its three result blocks, over whatever its six argument blocks hold: it adds, tile after
    tile of 512 keys, to what the blocks of the keys' and the values' gradients held before, and sums the queries' gradient. -/

namespace Cert.Kernel2Ideal.Attn

open Cert.Kernel2Ideal Cert.Kernel2Ideal.Gen Idealize.ShloMosaic Idealize.ShloMosaic.TcCoe Idealize.SL.Sem

variable (x0 : Vec Ideal S1x4x256x64 .bf16) (x1 : Vec Ideal S1x8192x64 .bf16) (x2 : Vec Ideal S1x8192x128 .bf16) (x3 x4 : Vec Ideal S1x4x256x64 .bf16)
  (x5 : Vec Ideal S1x4x256x1 .f32)

/-- The weight of a query of the block and a key. -/
def pB (h : Fin 4) (r : Fin 256) (j : Fin 8192) : EReal :=
  Ideal.exp ((∑ d : Fin 64, x0 (ix4 0 h r d) * x1 (ix3 0 j d)) - x5 (ix4 0 h r 0))

/-- The gradient of the score of a query of the block and a key. -/
def dsB (h : Fin 4) (r : Fin 256) (j : Fin 8192) : EReal :=
  pB x0 x1 x5 h r j * ((∑ d : Fin 64, x4 (ix4 0 h r d) * x2 (ix3 0 j ⟨d.val, by omega⟩)) - ∑ d : Fin 64, x4 (ix4 0 h r d) * x3 (ix4 0 h r d))

/-- What the block adds to the keys' gradient, and to the values'. -/
def dkB (y : S1x8192x64.Idx) : EReal := ∑ h : Fin 4, ∑ r : Fin 256, dsB x0 x1 x2 x3 x4 x5 h r (y 1) * x0 (ix4 0 h r (y 2))
def dvB (y : S1x8192x64.Idx) : EReal := ∑ h : Fin 4, ∑ r : Fin 256, pB x0 x1 x5 h r (y 1) * x4 (ix4 0 h r (y 2))

section Tile

variable (off : ℕ) (hk : ∀ a, (![0, off, 0] : Fin 3 → ℕ) a + (![1, 512, 64] : Fin 3 → ℕ) a ≤ S1x8192x64.size a)
  (hv : ∀ a, (![0, off, 0] : Fin 3 → ℕ) a + (![1, 512, 64] : Fin 3 → ℕ) a ≤ S1x8192x128.size a)

/-- A tile of 512 rows of an array of 8192 rows reads it from its first row on. -/
theorem tile_at {e : EltTy} (X : Vec Ideal S1x8192x64 e) (p : Fin 512) (d : Fin 64) (j : Fin 8192) (hj : j.val = off + p.val) :
    View.ld X (Rect.unit (s := S1x8192x64) ![0, off, 0] ![1, 512, 64] hk) (ix3 0 p d) = X (ix3 0 j d) := by
  refine congrArg X (funext fun a => ?_)
  fin_cases a <;> refine Fin.ext ?_
  · rfl
  · simp [Rect.emb, Rect.unit, hj]
  · simp [Rect.emb, Rect.unit]

theorem vtile_at (p : Fin 512) (d : Fin 64) (j : Fin 8192) (hj : j.val = off + p.val) :
    View.ld x2 (Rect.unit (s := S1x8192x128) ![0, off, 0] ![1, 512, 64] hv) (ix3 0 p d) = x2 (ix3 0 j ⟨d.val, by omega⟩) := by
  refine congrArg x2 (funext fun a => ?_)
  fin_cases a <;> refine Fin.ext ?_
  · rfl
  · simp [Rect.emb, Rect.unit, hj]
  · simp [Rect.emb, Rect.unit]

theorem pAt_tile (h : Fin 4) (r : Fin 256) (p : Fin 512) (j : Fin 8192) (hj : j.val = off + p.val) :
    pAt x0 x5 (View.ld x1 (Rect.unit (s := S1x8192x64) ![0, off, 0] ![1, 512, 64] hk)) h r p = pB x0 x1 x5 h r j := by
  unfold pAt pB
  simp only [tile_at off hk x1 p _ j hj]

theorem dsAt_tile (h : Fin 4) (r : Fin 256) (p : Fin 512) (j : Fin 8192) (hj : j.val = off + p.val) :
    dsAt x0 x3 x4 x5 (View.ld x1 (Rect.unit (s := S1x8192x64) ![0, off, 0] ![1, 512, 64] hk))
      (View.ld x2 (Rect.unit (s := S1x8192x128) ![0, off, 0] ![1, 512, 64] hv)) h r p = dsB x0 x1 x2 x3 x4 x5 h r j := by
  unfold dsAt dsB
  rw [pAt_tile x0 x1 x5 off hk h r p j hj]
  simp only [vtile_at x2 off hv p _ j hj]

/-- A stored tile of the keys' gradient is the whole block's function at the place it is stored to. -/
theorem dk_piece (xo : Vec Ideal S1x8192x64 .f32) (y : S1x8192x64.Idx) (x : S1x512x64.Idx)
    (h1 : (y 1).val = off + (x 1).val) (h2 : (y 2).val = (x 2).val) :
    dkT x0 x3 x4 x5 (View.ld x1 (Rect.unit (s := S1x8192x64) ![0, off, 0] ![1, 512, 64] hk))
      (View.ld x2 (Rect.unit (s := S1x8192x128) ![0, off, 0] ![1, 512, 64] hv))
      (View.ld xo (Rect.unit (s := S1x8192x64) ![0, off, 0] ![1, 512, 64] hk)) x = xo y + dkB x0 x1 x2 x3 x4 x5 y := by
  obtain ⟨p, d, rfl⟩ : ∃ (p : Fin 512) (d : Fin 64), x = ix3 0 p d := ⟨x 1, x 2, by blk_ext⟩
  obtain ⟨j, d', rfl⟩ : ∃ (j : Fin 8192) (d' : Fin 64), y = ix3 0 j d' := ⟨y 1, y 2, by blk_ext⟩
  obtain rfl : d' = d := Fin.ext h2
  have hj : j.val = off + p.val := h1
  rw [dkT_at, tile_at off hk xo p _ j hj]
  simp only [dsAt_tile x0 x1 x2 x3 x4 x5 off hk hv _ _ p j hj]
  rfl

theorem dv_piece (xo : Vec Ideal S1x8192x64 .f32) (y : S1x8192x64.Idx) (x : S1x512x64.Idx)
    (h1 : (y 1).val = off + (x 1).val) (h2 : (y 2).val = (x 2).val) :
    dvT x0 x4 x5 (View.ld x1 (Rect.unit (s := S1x8192x64) ![0, off, 0] ![1, 512, 64] hk))
      (View.ld xo (Rect.unit (s := S1x8192x64) ![0, off, 0] ![1, 512, 64] hk)) x = xo y + dvB x0 x1 x4 x5 y := by
  obtain ⟨p, d, rfl⟩ : ∃ (p : Fin 512) (d : Fin 64), x = ix3 0 p d := ⟨x 1, x 2, by blk_ext⟩
  obtain ⟨j, d', rfl⟩ : ∃ (j : Fin 8192) (d' : Fin 64), y = ix3 0 j d' := ⟨y 1, y 2, by blk_ext⟩
  obtain rfl : d' = d := Fin.ext h2
  have hj : j.val = off + p.val := h1
  rw [dvT_at, tile_at off hk xo p _ j hj]
  simp only [pAt_tile x0 x1 x5 off hk _ _ p j hj]
  rfl

/-- Tiles lie inside the block. -/
theorem tile_in (n : ℕ) (h : n + 1 ≤ 16) (w : ℕ) (hw : 64 ≤ w) :
    ∀ a, (![0, 512 * n, 0] : Fin 3 → ℕ) a + (![1, 512, 64] : Fin 3 → ℕ) a ≤ (![1, 8192, w] : Fin 3 → ℕ) a := by
  intro a
  fin_cases a <;> simp <;> omega

/-- The queries' gradient summed over the first `n` tiles of keys. -/
def dqAcc : (n : ℕ) → n ≤ 16 → FVec Ideal S1024x64 .f32
  | 0, _ => k0_pay9
  | n + 1, h => dqT x0 x3 x4 x5 (View.ld x1 (Rect.unit (s := S1x8192x64) ![0, 512 * n, 0] ![1, 512, 64] (tile_in n h 64 (by decide))))
      (View.ld x2 (Rect.unit (s := S1x8192x128) ![0, 512 * n, 0] ![1, 512, 64] (tile_in n h 128 (by decide)))) (dqAcc n (by omega))

/-- One term of that sum, at any natural number of key. -/
def dqTerm (R : Fin 1024) (d : Fin 64) (j : ℕ) : EReal :=
  if h : j < 8192 then dsB x0 x1 x2 x3 x4 x5 (hd R) (qr R) ⟨j, h⟩ * x1 (ix3 0 ⟨j, h⟩ d) else 0

theorem dqAcc_at (R : Fin 1024) (d : Fin 64) : ∀ (n : ℕ) (h : n ≤ 16),
    dqAcc x0 x1 x2 x3 x4 x5 n h (ix2 R d) = ∑ j ∈ Finset.range (512 * n), dqTerm x0 x1 x2 x3 x4 x5 R d j
  | 0, h => by rw [Nat.mul_zero, Finset.sum_range_zero]; exact zero_at R d
  | n + 1, h => by
    rw [dqAcc, dqT_at, dqAcc_at R d n (by omega), Nat.mul_succ, Finset.sum_range_add]
    refine congrArg _ ((Finset.sum_congr rfl fun p _ => ?_).trans (Finset.sum_range fun p => dqTerm x0 x1 x2 x3 x4 x5 R d (512 * n + p)).symm)
    have hj : 512 * n + p.val < 8192 := by omega
    rw [dqTerm, dif_pos hj, tile_at _ _ x1 p d ⟨_, hj⟩ rfl, dsAt_tile x0 x1 x2 x3 x4 x5 _ _ _ _ _ p ⟨_, hj⟩ rfl]

theorem dqAll_at (h : Fin 4) (r : Fin 256) (d : Fin 64) :
    k0_pay2 (F := Ideal) (dqAcc x0 x1 x2 x3 x4 x5 16 (le_refl 16)) (ix4 0 h r d) = ∑ j : Fin 8192, dsB x0 x1 x2 x3 x4 x5 h r j * x1 (ix3 0 j d) := by
  rw [last_at, dqAcc_at, Finset.sum_range]
  refine Finset.sum_congr rfl fun j _ => ?_
  rw [dqTerm, dif_pos j.isLt]
  have e1 : hd ⟨h.val * 256 + r.val, by omega⟩ = h := Fin.ext (by simp only [hd]; omega)
  have e2 : qr ⟨h.val * 256 + r.val, by omega⟩ = r := Fin.ext (by simp only [qr]; omega)
  rw [e1, e2]

end Tile

/-- Where all stores but the first made one cover an index, the first one does not show there. -/
theorem canon_dropLast {S : Shape} {e : EltTy} (y : S.Idx) : ∀ L : List (View.Piece (Elt Ideal) S e), (∃ p ∈ L.dropLast, y ∈ p.1.set) →
    View.canon L y = View.canon L.dropLast y
  | [], h => by simp at h
  | [p], h => by simp at h
  | p :: q :: L, h => by
    by_cases hm : y ∈ p.1.set
    · obtain ⟨x, rfl⟩ := p.1.exists_idx_of_mem hm
      exact (View.canon_cons_emb ..).trans (View.canon_cons_emb ..).symm
    · rw [View.canon_cons_of_not_mem _ _ hm, List.dropLast_cons₂, View.canon_cons_of_not_mem _ _ hm]
      refine canon_dropLast y (q :: L) ?_
      obtain ⟨t, ht, hyt⟩ := h
      rw [List.dropLast_cons₂] at ht
      rcases List.mem_cons.mp ht with rfl | ht'
      · exact absurd hyt hm
      · exact ⟨t, ht', hyt⟩

section Points

variable (c : Dev nD) (i : grid0.Coords) (arg2 : Memref sig .tc .vmem S1x4x256x64 .bf16) (harg2 : arg2.IsWhole) (arg3 : Memref sig .tc .vmem S1x8192x64 .bf16) (harg3 : arg3.IsWhole) (arg4 : Memref sig .tc .vmem S1x8192x128 .bf16) (harg4 : arg4.IsWhole) (arg5 : Memref sig .tc .vmem S1x4x256x64 .bf16) (harg5 : arg5.IsWhole) (arg6 : Memref sig .tc .vmem S1x4x256x64 .bf16) (harg6 : arg6.IsWhole) (arg7 : Memref sig .tc .vmem S1x4x256x1 .f32) (harg7 : arg7.IsWhole) (arg8 : Memref sig .tc .vmem S1x4x256x64 .bf16) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S1024x64 .f32) (harg19 : arg19.IsWhole)
  (xo7 xo8 : Vec Ideal S1x8192x64 .f32)

theorem out_B_7 (hc0 : ¬cond0_0 i) (y : S1x8192x64.Idx) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xo7 xo8 y = xo7 y + dkB x0 x1 x2 x3 x4 x5 y := by
  frame_out
  canon_tiles x h
  all_goals first | exact dk_piece x0 x1 x2 x3 x4 x5 _ (by decide) (by decide) xo7 y x h1 h2 | exact dk_piece x0 x1 x2 x3 x4 x5 0 (by decide) (by decide) xo7 y x (by omega) h2

theorem out_A_7 (hc0 : cond0_0 i) (y : S1x8192x64.Idx) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 y = dkB x0 x1 x2 x3 x4 x5 y := by
  frame_open
  simp (disch := decide) only [↓ View.readCov_skip, ↓ View.readCov_cons_toLoadRect, ↓ View.readCov_fill]
  frame_out
  refine (canon_dropLast y _ (View.cover_of_tiledL _ ![1, 512, 64] (by sl_kernel_rfl) y)).trans ?_
  simp only [List.dropLast]
  canon_tiles x h
  all_goals
    rw [← zero_add (dkB x0 x1 x2 x3 x4 x5 y), ← zero3_at y]
    first | exact dk_piece x0 x1 x2 x3 x4 x5 _ (by decide) (by decide) (k0_pay3 (F := Ideal)) y x h1 h2 | exact dk_piece x0 x1 x2 x3 x4 x5 0 (by decide) (by decide) (k0_pay3 (F := Ideal)) y x (by omega) h2

theorem out_B_6 (hc0 : ¬cond0_0 i) (h : Fin 4) (r : Fin 256) (d : Fin 64) :
    out0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xo7 xo8 (ix4 0 h r d) = ∑ j : Fin 8192, dsB x0 x1 x2 x3 x4 x5 h r j * x1 (ix3 0 j d) := by
  refine Eq.trans ?_ (dqAll_at x0 x1 x2 x3 x4 x5 h r d)
  frame_out
  rfl

theorem out_A_6 (hc0 : cond0_0 i) (h : Fin 4) (r : Fin 256) (d : Fin 64) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 (ix4 0 h r d) = ∑ j : Fin 8192, dsB x0 x1 x2 x3 x4 x5 h r j * x1 (ix3 0 j d) := by
  refine Eq.trans ?_ (dqAll_at x0 x1 x2 x3 x4 x5 h r d)
  frame_out
  rfl

theorem out_B_8 (hc0 : ¬cond0_0 i) (y : S1x8192x64.Idx) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xo7 xo8 y = xo8 y + dvB x0 x1 x4 x5 y := by
  frame_out
  canon_tiles x h
  all_goals first | exact dv_piece x0 x1 x4 x5 _ (by decide) xo8 y x h1 h2 | exact dv_piece x0 x1 x4 x5 0 (by decide) xo8 y x (by omega) h2

theorem out_A_8 (hc0 : cond0_0 i) (y : S1x8192x64.Idx) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 y = dvB x0 x1 x4 x5 y := by
  frame_open
  simp (disch := decide) only [↓ View.readCov_skip, ↓ View.readCov_cons_toLoadRect, ↓ View.readCov_fill]
  frame_out
  refine (canon_dropLast y _ (View.cover_of_tiledL _ ![1, 512, 64] (by sl_kernel_rfl) y)).trans ?_
  simp only [List.dropLast]
  canon_tiles x h
  all_goals
    rw [← zero_add (dvB x0 x1 x4 x5 y), ← zero4_at y]
    first | exact dv_piece x0 x1 x4 x5 _ (by decide) (k0_pay4 (F := Ideal)) y x h1 h2 | exact dv_piece x0 x1 x4 x5 0 (by decide) (k0_pay4 (F := Ideal)) y x (by omega) h2

end Points

end Cert.Kernel2Ideal.Attn
-- ==== Proof.AttnHost.lean ====
module

public import proofs.«01_k».proof.Proof.Gen.Kernel2Ideal.Value
public import Idealize.ShloMosaic.Lib.Pipeline.ValueKit
public import Idealize.ShloMosaic.Lib.Pointwise
public import proofs.«01_k».proof.Proof.AttnMath

@[expose] public section

set_option maxRecDepth 16384

noncomputable section

/-! The full attention's kernel program before its call: the scaled queries, the scores, and what the forward pass saves
    of them, named and read at an index, and the blocks the call's grid points are given. -/

namespace Cert.Kernel2Ideal.Attn

open Cert.Kernel2Ideal Cert.Kernel2Ideal.Gen Idealize.ShloMosaic Idealize.ShloMosaic.TcCoe Idealize.SL.Sem

/-- The scaled queries by head. -/
def qs (q : FVec Ideal S1x8192x8x64 .f32) : FVec Ideal S2x4x8192x64 .f32 :=
  shapeCast S2x4x8192x64 (transpose S8x8192x64 [1, 0, 2] (mulf (shapeCast S8192x8x64 q shapeCasts_S1x8192x8x64_S8192x8x64) (broadcastInDim S8192x8x64 ![] bcast_S_S8192x8x64 (constant S_ .f32 0x3E000000#32))) transposes_S8192x8x64_S8x8192x64_1_0_2) shapeCasts_S8x8192x64_S2x4x8192x64

/-- The keys, or the values, by head. -/
def heads (k : FVec Ideal S1x8192x2x64 .f32) : FVec Ideal S2x8192x64 .f32 :=
  transpose S2x8192x64 [1, 0, 2] (shapeCast S8192x2x64 k shapeCasts_S1x8192x2x64_S8192x2x64) transposes_S8192x2x64_S2x8192x64_1_0_2

/-- The scores. -/
def scores (qh : FVec Ideal S2x4x8192x64 .f32) (kh : FVec Ideal S2x8192x64 .f32) : FVec Ideal S2x4x8192x8192 .f32 :=
  Host.dotGeneral dot_S2x4x8192x64_S2x8192x64_S2x4x8192x8192_3_2_12_1_0_0 none qh kh

/-- Each row's largest score. -/
def rowTop (s : FVec Ideal S2x4x8192x8192 .f32) : FVec Ideal S2x4x8192 .f32 :=
  Host.reduce FloatOps.maximumf s (constant S_ .f32 0xFF800000#32) reducesTo_S2x4x8192x8192_S2x4x8192_d3 h_S_

/-- A number per row as a column. -/
def col (x : FVec Ideal S2x4x8192 .f32) : FVec Ideal S2x4x8192x1 .f32 :=
  broadcastInDim S2x4x8192x1 ![0, 1, 2] bcast_S2x4x8192_S2x4x8192x1_0_1_2 x

/-- The exponentials of the scores less a number per row. -/
def expo (s : FVec Ideal S2x4x8192x8192 .f32) (mx : FVec Ideal S2x4x8192 .f32) : FVec Ideal S2x4x8192x8192 .f32 :=
  Host.exp (subf s (broadcastInDim S2x4x8192x8192 ![0, 1, 2, 3] bcast_S2x4x8192x1_S2x4x8192x8192_0_1_2_3 (col mx)))

/-- Each row's sum. -/
def rowAdd (e : FVec Ideal S2x4x8192x8192 .f32) : FVec Ideal S2x4x8192 .f32 :=
  Host.reduceAdd e (constant S_ .f32 0x00000000#32) reducesTo_S2x4x8192x8192_S2x4x8192_d3 h_S_

/-- The saved logarithm of each row's sum. -/
def lse (mx l : FVec Ideal S2x4x8192 .f32) : FVec Ideal S2x4x8192x1 .f32 :=
  addf (col mx) (Host.log (col l))

/-- The saved output. -/
def out (e : FVec Ideal S2x4x8192x8192 .f32) (l : FVec Ideal S2x4x8192 .f32) (vh : FVec Ideal S2x8192x64 .f32) : FVec Ideal S2x4x8192x64 .bf16 :=
  truncf .bf16 (Host.divf (Host.dotGeneral dot_S2x4x8192x8192_S2x8192x64_S2x4x8192x64_3_1_12_2_0_0 none e vh) (broadcastInDim S2x4x8192x64 ![0, 1, 2, 3] bcast_S2x4x8192x1_S2x4x8192x64_0_1_2_3 (col l))) bitsLt_bf16_f32

theorem qs_at (q : FVec Ideal S1x8192x8x64 .f32) (g : Fin 2) (h : Fin 4) (i : Fin 8192) (d : Fin 64) :
    qs q (ix4 g h i d) = q (ix4 0 i ⟨g.val * 4 + h.val, by omega⟩ d) * Ideal.ofBits .f32 0x3E000000#32 := by
  pointwise [qs]
  blk_ext

theorem heads_at (k : FVec Ideal S1x8192x2x64 .f32) (g : Fin 2) (j : Fin 8192) (d : Fin 64) : heads k (ix3 g j d) = k (ix4 0 j g d) := by
  pointwise [heads]

/-- The values beside a column of ones. -/
def v1 (v : FVec Ideal S1x8192x2x64 .f32) : FVec Ideal S2x8192x128 .bf16 :=
  truncf .bf16 (concatenate S2x8192x128 2 [⟨S2x8192x64, heads v⟩, ⟨S2x8192x64, broadcastInDim S2x8192x64 ![] bcast_S_S2x8192x64 (constant S_ .f32 0x3F800000#32)⟩] concatenates_S2x8192x64_S2x8192x64_S2x8192x128_d2) bitsLt_bf16_f32

theorem v1_at (v : FVec Ideal S1x8192x2x64 .f32) (g : Fin 2) (j : Fin 8192) (d : Fin 64) :
    v1 v (ix3 g j ⟨d.val, by omega⟩) = heads v (ix3 g j d) := by
  pointwise [v1]

theorem scores_at (qh : FVec Ideal S2x4x8192x64 .f32) (kh : FVec Ideal S2x8192x64 .f32) (g : Fin 2) (h : Fin 4) (i j : Fin 8192) :
    scores qh kh (ix4 g h i j) = ∑ d : Fin 64, qh (ix4 g h i d) * kh (ix3 g j d) := by
  pointwise [scores]

theorem rowTop_at (s : FVec Ideal S2x4x8192x8192 .f32) (g : Fin 2) (h : Fin 4) (i : Fin 8192) :
    rowTop s (ix3 g h i) = Finset.univ.fold (FloatOps.maximumf (F := Ideal) (φ := .f32)) (FloatOps.ofBits .f32 0xFF800000#32) (fun k : Fin 8192 => s (ix4 g h i k)) := by
  pointwise [rowTop]

theorem expo_at (s : FVec Ideal S2x4x8192x8192 .f32) (mx : FVec Ideal S2x4x8192 .f32) (g : Fin 2) (h : Fin 4) (i j : Fin 8192) :
    expo s mx (ix4 g h i j) = Ideal.exp (s (ix4 g h i j) - mx (ix3 g h i)) := by
  pointwise [expo, col]

theorem rowAdd_at (e : FVec Ideal S2x4x8192x8192 .f32) (g : Fin 2) (h : Fin 4) (i : Fin 8192) : rowAdd e (ix3 g h i) = ∑ j : Fin 8192, e (ix4 g h i j) := by
  pointwise [rowAdd]

theorem lse_at (mx l : FVec Ideal S2x4x8192 .f32) (g : Fin 2) (h : Fin 4) (i : Fin 8192) : lse mx l (ix4 g h i 0) = mx (ix3 g h i) + Ideal.log (l (ix3 g h i)) := by
  pointwise [lse, col]

theorem out_at (e : FVec Ideal S2x4x8192x8192 .f32) (l : FVec Ideal S2x4x8192 .f32) (vh : FVec Ideal S2x8192x64 .f32) (g : Fin 2) (h : Fin 4) (i : Fin 8192) (d : Fin 64) :
    out e l vh (ix4 g h i d) = Ideal.div (∑ j : Fin 8192, e (ix4 g h i j) * vh (ix3 g j d)) (l (ix3 g h i)) := by
  pointwise [out, col]

/-- The largest score of a row of real scores is real. -/
theorem rowTop_real (s : FVec Ideal S2x4x8192x8192 .f32) (g : Fin 2) (h : Fin 4) (i : Fin 8192) (r : Fin 8192 → ℝ)
    (hr : ∀ j, s (ix4 g h i j) = (r j : EReal)) : ∃ M : ℝ, rowTop s (ix3 g h i) = (M : EReal) := by
  obtain ⟨M, hM⟩ := Cert.Proof.AttnMath.fold_max_real r
  refine ⟨M, ?_⟩
  rw [rowTop_at, ← hM, max_eq_right bot_le]
  simp only [hr]
  exact congrArg (fun z => Finset.univ.fold max z fun j => (r j : EReal)) Cert.Proof.AttnMath.negInf

section Blocks

variable (m : (ℓ : Loc nD τ sig) → Buf (Elt Ideal) ℓ)

abbrev argQ (c : Dev nD) : FVec Ideal S1x8192x8x64 .f32 := m ((c : Thread nD τ).loc main_arg0)
abbrev argK (c : Dev nD) : FVec Ideal S1x8192x2x64 .f32 := m ((c : Thread nD τ).loc main_arg1)
abbrev argV (c : Dev nD) : FVec Ideal S1x8192x2x64 .f32 := m ((c : Thread nD τ).loc main_arg2)
abbrev argC (c : Dev nD) : FVec Ideal S1x8192x512 .f32 := m ((c : Thread nD τ).loc main_arg3)

theorem idx : ∀ t : Fin cfg0.N, win0_0.index t = ![t.val / 32, 0, t.val % 32, 0] ∧ win0_1.index t = ![t.val / 32, 0, 0] ∧ win0_2.index t = ![t.val / 32, 0, 0]
    ∧ win0_3.index t = ![t.val / 32, 0, t.val % 32, 0] ∧ win0_4.index t = ![t.val / 32, 0, t.val % 32, 0] ∧ win0_5.index t = ![t.val / 32, 0, t.val % 32, 0]
    ∧ win0_6.index t = ![t.val / 32, 0, t.val % 32, 0] ∧ win0_7.index t = ![t.val / 32, 0, 0] ∧ win0_8.index t = ![t.val / 32, 0, 0] :=
  (by decide +kernel : ∀ t : Fin grid0.N, _)

theorem N64 (t : Fin cfg0.N) : t.val < 64 := lt_of_lt_of_eq t.isLt Gen.N_0

/-- The key head of a point, and the rows of its query block. -/
def grp (t : Fin cfg0.N) : Fin 2 := ⟨t.val / 32, by have := N64 t; omega⟩
def row (t : Fin cfg0.N) (r : Fin 256) : Fin 8192 := ⟨t.val % 32 * 256 + r.val, by omega⟩

/-- The saved maxima, exponentials and sums of the arguments. -/
def hS (c : Dev nD) := scores (qs (argQ m c)) (heads (argK m c))
def hE (c : Dev nD) := expo (hS m c) (rowTop (hS m c))

theorem blk0 (c : Dev nD) (t : Fin cfg0.N) (h : Fin 4) (r : Fin 256) (d : Fin 64) :
    iblk m c 0 t (ix4 0 h r d) = qs (argQ m c) (ix4 (grp t) h (row t r) d) := by
  blk_simp [iblk]
  entry_read
  show qs (argQ m c) _ = _
  blk_ext [idx t, row, grp]

theorem blk1 (c : Dev nD) (t : Fin cfg0.N) (j : Fin 8192) (d : Fin 64) :
    iblk m c 1 t (ix3 0 j d) = heads (argK m c) (ix3 (grp t) j d) := by
  blk_simp [iblk]
  entry_read
  show heads (argK m c) _ = _
  blk_ext [idx t, row, grp]

theorem blk2 (c : Dev nD) (t : Fin cfg0.N) (j : Fin 8192) (d : Fin 64) :
    iblk m c 2 t (ix3 0 j ⟨d.val, by omega⟩) = heads (argV m c) (ix3 (grp t) j d) := by
  blk_simp [iblk]
  entry_read
  show v1 (argV m c) _ = _
  rw [← v1_at]
  blk_ext [idx t, row, grp]

theorem blk3 (c : Dev nD) (t : Fin cfg0.N) (h : Fin 4) (r : Fin 256) (d : Fin 64) :
    iblk m c 3 t (ix4 0 h r d) = out (hE m c) (rowAdd (hE m c)) (heads (argV m c)) (ix4 (grp t) h (row t r) d) := by
  blk_simp [iblk]
  entry_read
  show out (hE m c) (rowAdd (hE m c)) (heads (argV m c)) _ = _
  blk_ext [idx t, row, grp]

theorem blk4 (c : Dev nD) (t : Fin cfg0.N) (h : Fin 4) (r : Fin 256) (d : Fin 64) :
    iblk m c 4 t (ix4 0 h r d) = argC m c (ix3 0 (row t r) ⟨(grp t).val * 256 + h.val * 64 + d.val, by omega⟩) := by
  blk_simp [iblk]
  entry_read
  pointwise
  blk_point [idx t, row, grp]

theorem entry_lse (c : Dev nD) (i : S2x4x8192x1.Idx) :
    (V m c main_v27 : FVec Ideal S2x4x8192x1 .f32) i = lse (rowTop (hS m c)) (rowAdd (hE m c)) i := by
  entry_read
  unfold lse rowAdd hE rowTop expo hS col scores qs heads
  rfl

theorem blk5_of (c : Dev nD) (t : Fin cfg0.N) (h : Fin 4) (r : Fin 256) (Z : FVec Ideal S2x4x8192x1 .f32)
    (hZ : ∀ i, (V m c main_v27 : FVec Ideal S2x4x8192x1 .f32) i = Z i) :
    iblk m c 5 t (ix4 0 h r 0) = Z (((View.whole main_v27).slice (win0_5.rect t)).emb (ix4 0 h r 0)) := by
  unfold iblk
  have e : V m c (Pipeline.arrRef spec0 5) = Z := funext hZ
  rw [e]
  rfl

theorem blk5 (c : Dev nD) (t : Fin cfg0.N) (h : Fin 4) (r : Fin 256) :
    iblk m c 5 t (ix4 0 h r 0) = lse (rowTop (hS m c)) (rowAdd (hE m c)) (ix4 (grp t) h (row t r) 0) := by
  have e : ((View.whole main_v27).slice (win0_5.rect t)).emb (ix4 0 h r 0) = ix4 (grp t) h (row t r) 0 := by
    blk_ext [idx t, row, grp]
  exact (blk5_of m c t h r _ (entry_lse m c)).trans (congrArg (lse (rowTop (hS m c)) (rowAdd (hE m c))) e)

end Blocks

end Cert.Kernel2Ideal.Attn
-- ==== Proof.AttnFinal.lean ====
module

public import proofs.«01_k».proof.Proof.Gen.Kernel2Ideal.Value
public import Idealize.ShloMosaic.Lib.Pipeline.ValueKit
public import proofs.«01_k».proof.Proof.AttnRun
public import proofs.«01_k».proof.Proof.AttnHost
public import Idealize.ShloMosaic.Lib.Pointwise

@[expose] public section

set_option maxRecDepth 16384

noncomputable section

/-! The three arrays the kernel returns, as functions of its arguments: the gradient of the queries is a sum over the keys, those of the
    keys and of the values are sums over the 32 blocks of queries, the four heads and the 256 rows of a block. -/

namespace Cert.Kernel2Ideal.Attn

open Idealize.ShloMosaic.Pipeline (Dat)

open Cert.Kernel2Ideal Cert.Kernel2Ideal.Gen Idealize.ShloMosaic Idealize.ShloMosaic.TcCoe Idealize.SL.Sem

variable (m : (ℓ : Loc nD τ sig) → Buf (Elt Ideal) ℓ)

/-- The column of the attention's output that a head and a coordinate have. -/
def lane (g : Fin 2) (h : Fin 4) (d : Fin 64) : Fin 512 := ⟨g.val * 256 + h.val * 64 + d.val, by omega⟩

/-- The weight of a key, and the gradient of its score, from what the forward pass saved. -/
def wt (c : Dev nD) (g : Fin 2) (h : Fin 4) (i j : Fin 8192) : EReal :=
  Ideal.exp ((∑ d : Fin 64, qs (argQ m c) (ix4 g h i d) * heads (argK m c) (ix3 g j d)) - lse (rowTop (hS m c)) (rowAdd (hE m c)) (ix4 g h i 0))
def gd (c : Dev nD) (g : Fin 2) (h : Fin 4) (i j : Fin 8192) : EReal :=
  wt m c g h i j * ((∑ d : Fin 64, argC m c (ix3 0 i (lane g h d)) * heads (argV m c) (ix3 g j d))
    - ∑ d : Fin 64, argC m c (ix3 0 i (lane g h d)) * out (hE m c) (rowAdd (hE m c)) (heads (argV m c)) (ix4 g h i d))

/-- A query of the array from its block and its row there. -/
def qrow (s : Fin 32) (r : Fin 256) : Fin 8192 := ⟨s.val * 256 + r.val, by omega⟩

def G6 (c : Dev nD) : S2x4x8192x64.Idx → EReal := fun i => ∑ j : Fin 8192, gd m c (i 0) (i 1) (i 2) j * heads (argK m c) (ix3 (i 0) j (i 3))
def G7 (c : Dev nD) : S2x8192x64.Idx → EReal := fun y =>
  ∑ s : Fin 32, ∑ h : Fin 4, ∑ r : Fin 256, gd m c (y 0) h (qrow s r) (y 1) * qs (argQ m c) (ix4 (y 0) h (qrow s r) (y 2))
def G8 (c : Dev nD) : S2x8192x64.Idx → EReal := fun y =>
  ∑ s : Fin 32, ∑ h : Fin 4, ∑ r : Fin 256, wt m c (y 0) h (qrow s r) (y 1) * argC m c (ix3 0 (qrow s r) (lane (y 0) h (y 2)))

theorem pB_at (c : Dev nD) (t : Fin cfg0.N) (h : Fin 4) (r : Fin 256) (j : Fin 8192) :
    pB (iblk m c 0 t) (iblk m c 1 t) (iblk m c 5 t) h r j = wt m c (grp t) h (row t r) j := by
  unfold pB wt
  rw [blk5]
  simp only [blk0, blk1]

theorem dsB_at (c : Dev nD) (t : Fin cfg0.N) (h : Fin 4) (r : Fin 256) (j : Fin 8192) :
    dsB (iblk m c 0 t) (iblk m c 1 t) (iblk m c 2 t) (iblk m c 3 t) (iblk m c 4 t) (iblk m c 5 t) h r j = gd m c (grp t) h (row t r) j := by
  unfold dsB gd
  rw [pB_at]
  simp only [blk2, blk3, blk4]
  rfl

theorem dq_out (c : Dev nD) (t : Fin cfg0.N) (h : Fin 4) (r : Fin 256) (d : Fin 64) :
    (outsAt0 m c t.val t.isLt).1 (ix4 0 h r d) = G6 m c (ix4 (grp t) h (row t r) d) := by
  show _ = ∑ j : Fin 8192, gd m c (grp t) h (row t r) j * heads (argK m c) (ix3 (grp t) j d)
  by_cases h0 : t.val % 32 = 0
  · rw [outsAt0_A m c t h0]
    dsimp only
    rw [out_A_6]
    simp only [dsB_at, blk1]
  · rw [outsAt0_B m c t h0]
    dsimp only
    rw [out_B_6]
    simp only [dsB_at, blk1]

theorem final6 (c : Dev nD) : (dats m 0 c).arrAt 6 cfg0.N = G6 m c := by
  refine (dats m 0 c).arrAt_eq_of_covers 6 _ (by decide +kernel) fun t _ y => ?_
  blk_simp
  rw [after0_6]
  idx_vars y
  obtain rfl : y0 = 0 := Subsingleton.elim _ _
  refine (dq_out m c t y1 y2 y3).trans (show G6 m c (ix4 (grp t) y1 (row t y2) y3) = _ from ?_)
  blk_ext [idx t, row, grp]

theorem dk_out (c : Dev nD) (t : Fin cfg0.N) (j : Fin 8192) (d : Fin 64) :
    dkB (iblk m c 0 t) (iblk m c 1 t) (iblk m c 2 t) (iblk m c 3 t) (iblk m c 4 t) (iblk m c 5 t) (ix3 0 j d)
      = ∑ h : Fin 4, ∑ r : Fin 256, gd m c (grp t) h (row t r) j * qs (argQ m c) (ix4 (grp t) h (row t r) d) := by
  show ∑ h : Fin 4, ∑ r : Fin 256, dsB (iblk m c 0 t) (iblk m c 1 t) (iblk m c 2 t) (iblk m c 3 t) (iblk m c 4 t) (iblk m c 5 t) h r j
    * iblk m c 0 t (ix4 0 h r d) = _
  simp only [dsB_at, blk0]

theorem dv_out (c : Dev nD) (t : Fin cfg0.N) (j : Fin 8192) (d : Fin 64) :
    dvB (iblk m c 0 t) (iblk m c 1 t) (iblk m c 4 t) (iblk m c 5 t) (ix3 0 j d)
      = ∑ h : Fin 4, ∑ r : Fin 256, wt m c (grp t) h (row t r) j * argC m c (ix3 0 (row t r) (lane (grp t) h d)) := by
  show ∑ h : Fin 4, ∑ r : Fin 256, pB (iblk m c 0 t) (iblk m c 1 t) (iblk m c 5 t) h r j * iblk m c 4 t (ix4 0 h r d) = _
  simp only [pB_at, blk4]
  rfl

/-- The points of the run that ends at a point where the block is written back. -/
theorem pt_lt (t : Fin cfg0.N) (s : Fin 32) : 32 * (t.val / 32) + s.val < cfg0.N := by
  have := N64 t
  exact lt_of_lt_of_eq (by omega : 32 * (t.val / 32) + s.val < 64) Gen.N_0.symm

def pt (t : Fin cfg0.N) (s : Fin 32) : Fin cfg0.N := ⟨32 * (t.val / 32) + s.val, pt_lt t s⟩

theorem pt_grp (t : Fin cfg0.N) (s : Fin 32) : grp (pt t s) = grp t := Fin.ext (by simp only [grp, pt]; omega)
theorem pt_row (t : Fin cfg0.N) (s : Fin 32) (r : Fin 256) : row (pt t s) r = qrow s r := Fin.ext (by simp only [row, pt, qrow]; omega)

theorem after7_sum (c : Dev nD) (t : Fin cfg0.N) (hf : (cfg0.win 7).flush t = true) (y : S1x8192x64.Idx) :
    (outsAt0 m c t.val t.isLt).2.1 y = ∑ s : Fin 32, dkB (iblk m c 0 (pt t s)) (iblk m c 1 (pt t s)) (iblk m c 2 (pt t s)) (iblk m c 3 (pt t s))
      (iblk m c 4 (pt t s)) (iblk m c 5 (pt t s)) y := by
  rw [Pipeline.eq_sum_fin_of_reset_step_apply_of_flush (fun n h => (outsAt0 m c n h).2.1) 32 (fun _ => 0)
    (fun t => dkB (iblk m c 0 t) (iblk m c 1 t) (iblk m c 2 t) (iblk m c 3 t) (iblk m c 4 t) (iblk m c 5 t))
    (fun t h j => by rw [outsAt0_A m c t h]; dsimp only; rw [out_A_7, zero_add]) (fun t h j => by rw [outsAt0_B m c t h]; dsimp only; rw [out_B_7]) t ((flush0_7 t).mp hf) y, zero_add]
  rfl

theorem after8_sum (c : Dev nD) (t : Fin cfg0.N) (hf : (cfg0.win 8).flush t = true) (y : S1x8192x64.Idx) :
    (outsAt0 m c t.val t.isLt).2.2 y = ∑ s : Fin 32, dvB (iblk m c 0 (pt t s)) (iblk m c 1 (pt t s)) (iblk m c 4 (pt t s)) (iblk m c 5 (pt t s)) y := by
  rw [Pipeline.eq_sum_fin_of_reset_step_apply_of_flush (fun n h => (outsAt0 m c n h).2.2) 32 (fun _ => 0)
    (fun t => dvB (iblk m c 0 t) (iblk m c 1 t) (iblk m c 4 t) (iblk m c 5 t))
    (fun t h j => by rw [outsAt0_A m c t h]; dsimp only; rw [out_A_8, zero_add]) (fun t h j => by rw [outsAt0_B m c t h]; dsimp only; rw [out_B_8]) t ((flush0_8 t).mp hf) y, zero_add]
  rfl

theorem final7 (c : Dev nD) : (dats m 0 c).arrAt 7 cfg0.N = G7 m c := by
  refine (dats m 0 c).arrAt_eq_of_covers 7 _ (by decide +kernel) fun t hf y => ?_
  blk_simp
  rw [after0_7]
  idx_vars y
  obtain rfl : y0 = 0 := Subsingleton.elim _ _
  rw [after7_sum m c t hf]
  simp only [dk_out, pt_grp, pt_row]
  refine (show G7 m c (ix3 (grp t) y1 y2) = _ from ?_)
  blk_ext [idx t, grp]

theorem final8 (c : Dev nD) : (dats m 0 c).arrAt 8 cfg0.N = G8 m c := by
  refine (dats m 0 c).arrAt_eq_of_covers 8 _ (by decide +kernel) fun t hf y => ?_
  blk_simp
  rw [after0_8]
  idx_vars y
  obtain rfl : y0 = 0 := Subsingleton.elim _ _
  rw [after8_sum m c t hf]
  simp only [dv_out, pt_grp, pt_row]
  refine (show G8 m c (ix3 (grp t) y1 y2) = _ from ?_)
  blk_ext [idx t, grp]

end Cert.Kernel2Ideal.Attn
-- ==== Proof.AttnSpec.lean ====
module

public import proofs.«01_k».proof.Proof.AttnMath

@[expose] public section

set_option maxRecDepth 16384

noncomputable section

/-! The gradient of the full attention over the reals: one key head serves four query heads, the scores are scaled by an eighth. -/

namespace Cert.Proof.AttnSpec

open Cert.Proof.AttnMath

variable (q : Fin 8192 → Fin 8 → Fin 64 → ℝ) (k v : Fin 8192 → Fin 2 → Fin 64 → ℝ) (ct : Fin 8192 → Fin 512 → ℝ)

/-- A query head's number, and its coordinate's column in the attention's output. -/
def qh (g : Fin 2) (h : Fin 4) : Fin 8 := ⟨g.val * 4 + h.val, by omega⟩
def col (g : Fin 2) (h : Fin 4) (d : Fin 64) : Fin 512 := ⟨g.val * 256 + h.val * 64 + d.val, by omega⟩

/-- The score of query `i` and key `j`, and the gradient of its weight. -/
def sR (g : Fin 2) (h : Fin 4) (i j : Fin 8192) : ℝ := ∑ d : Fin 64, q i (qh g h) d * (1 / 8) * k j g d
def xR (g : Fin 2) (h : Fin 4) (i j : Fin 8192) : ℝ := ∑ d : Fin 64, ct i (col g h d) * v j g d

/-- The weight, and the gradient of the score. -/
def wR (g : Fin 2) (h : Fin 4) (i j : Fin 8192) : ℝ := weight (sR q k g h i) j
def gR (g : Fin 2) (h : Fin 4) (i j : Fin 8192) : ℝ := grad (sR q k g h i) (xR v ct g h i) j

/-- The gradients of the scaled queries, of the keys and of the values. -/
def dqR (g : Fin 2) (h : Fin 4) (i : Fin 8192) (d : Fin 64) : ℝ := ∑ j : Fin 8192, gR q k v ct g h i j * k j g d
def dkR (g : Fin 2) (j : Fin 8192) (d : Fin 64) : ℝ := ∑ i : Fin 8192, ∑ h : Fin 4, gR q k v ct g h i j * (q i (qh g h) d * (1 / 8))
def dvR (g : Fin 2) (j : Fin 8192) (d : Fin 64) : ℝ := ∑ i : Fin 8192, ∑ h : Fin 4, wR q k g h i j * ct i (col g h d)

end Cert.Proof.AttnSpec
-- ==== Proof.AttnValue.lean ====
module

public import proofs.«01_k».proof.Proof.AttnFinal
public import proofs.«01_k».proof.Proof.AttnSpec
public import Idealize.ShloMosaic.Lib.Pointwise

@[expose] public section

set_option maxRecDepth 16384

noncomputable section

/-! The kernel's three results at finite arguments are the real gradients. -/

namespace Cert.Kernel2Ideal.Attn

open Cert.Proof.AttnMath Cert.Proof.AttnSpec Cert.Kernel2Ideal Cert.Kernel2Ideal.Gen Idealize.ShloMosaic Idealize.ShloMosaic.TcCoe Idealize.SL.Sem

variable (m : (ℓ : Loc nD τ sig) → Buf (Elt Ideal) ℓ) (c : Dev nD)
  (q : Fin 8192 → Fin 8 → Fin 64 → ℝ) (k v : Fin 8192 → Fin 2 → Fin 64 → ℝ) (ct : Fin 8192 → Fin 512 → ℝ)
  (hq : ∀ i n d, argQ m c (ix4 0 i n d) = (q i n d : EReal)) (hk : ∀ j g d, argK m c (ix4 0 j g d) = (k j g d : EReal))
  (hv : ∀ j g d, argV m c (ix4 0 j g d) = (v j g d : EReal)) (hc : ∀ i n, argC m c (ix3 0 i n) = (ct i n : EReal))

include hq in
theorem qs_real (g : Fin 2) (h : Fin 4) (i : Fin 8192) (d : Fin 64) : qs (argQ m c) (ix4 g h i d) = ((q i (qh g h) d * (1 / 8) : ℝ) : EReal) := by
  rw [qs_at, hq, eighth, ← EReal.coe_mul]
  rfl

include hq hk in
theorem score_real (g : Fin 2) (h : Fin 4) (i j : Fin 8192) :
    ∑ d : Fin 64, qs (argQ m c) (ix4 g h i d) * heads (argK m c) (ix3 g j d) = (sR q k g h i j : EReal) := by
  simp only [qs_real m c q hq, heads_at, hk, ← EReal.coe_mul, coe_sum]
  rfl

include hq hk in
theorem hS_real (g : Fin 2) (h : Fin 4) (i j : Fin 8192) : hS m c (ix4 g h i j) = (sR q k g h i j : EReal) := by
  rw [hS, scores_at, score_real m c q k hq hk]

include hq hk in
theorem hE_real (g : Fin 2) (h : Fin 4) (i : Fin 8192) : ∃ M : ℝ, rowTop (hS m c) (ix3 g h i) = (M : EReal) ∧
    ∀ j, hE m c (ix4 g h i j) = Ideal.exp ((sR q k g h i j : EReal) - (M : EReal)) := by
  obtain ⟨M, hM⟩ := rowTop_real (hS m c) g h i _ (hS_real m c q k hq hk g h i)
  refine ⟨M, hM, fun j => ?_⟩
  rw [hE, expo_at, hM, hS_real m c q k hq hk]

include hq hk in
theorem wt_real (g : Fin 2) (h : Fin 4) (i j : Fin 8192) : wt m c g h i j = (wR q k g h i j : EReal) := by
  obtain ⟨M, hM, hE⟩ := hE_real m c q k hq hk g h i
  rw [wt, score_real m c q k hq hk, lse_at, hM, rowAdd_at]
  simp only [hE]
  exact saved_weight _ M j

include hq hk hv hc in
theorem gd_real (g : Fin 2) (h : Fin 4) (i j : Fin 8192) : gd m c g h i j = (gR q k v ct g h i j : EReal) := by
  obtain ⟨M, hM, hE⟩ := hE_real m c q k hq hk g h i
  rw [gd, wt_real m c q k hq hk]
  simp only [out_at, rowAdd_at, hE, heads_at, hv, hc]
  exact saved_grad (sR q k g h i) (fun j d => v j g d) (fun d => ct i (lane g h d)) M j

/-- The queries of the array are the rows of its 32 blocks. -/
theorem sum_qrow (f : Fin 8192 → ℝ) : ∑ s : Fin 32, ∑ r : Fin 256, f (qrow s r) = ∑ i : Fin 8192, f i := by
  rw [← Fintype.sum_prod_type']
  refine Fintype.sum_bijective (fun z : Fin 32 × Fin 256 => qrow z.1 z.2) ⟨fun a b e => ?_, fun i => ?_⟩ _ _ fun _ => rfl
  · have e' := congrArg Fin.val e
    simp only [qrow] at e'
    exact Prod.ext (Fin.ext (by omega)) (Fin.ext (by omega))
  · exact ⟨(⟨i.val / 256, by omega⟩, ⟨i.val % 256, by omega⟩), Fin.ext (by simp only [qrow]; omega)⟩

theorem sum_blocks (f : Fin 8192 → Fin 4 → ℝ) : ∑ s : Fin 32, ∑ h : Fin 4, ∑ r : Fin 256, f (qrow s r) h = ∑ i : Fin 8192, ∑ h : Fin 4, f i h := by
  rw [← sum_qrow fun i => ∑ h : Fin 4, f i h]
  exact Finset.sum_congr rfl fun s _ => Finset.sum_comm

include hq hk hv hc in
theorem G6_real (g : Fin 2) (h : Fin 4) (i : Fin 8192) (d : Fin 64) : G6 m c (ix4 g h i d) = (dqR q k v ct g h i d : EReal) := by
  show ∑ j : Fin 8192, gd m c g h i j * heads (argK m c) (ix3 g j d) = _
  simp only [gd_real m c q k v ct hq hk hv hc, heads_at, hk, ← EReal.coe_mul, coe_sum]
  rfl

include hq hk hv hc in
theorem G7_real (g : Fin 2) (j : Fin 8192) (d : Fin 64) : G7 m c (ix3 g j d) = (dkR q k v ct g j d : EReal) := by
  show ∑ s : Fin 32, ∑ h : Fin 4, ∑ r : Fin 256, gd m c g h (qrow s r) j * qs (argQ m c) (ix4 g h (qrow s r) d) = _
  simp only [gd_real m c q k v ct hq hk hv hc, qs_real m c q hq, ← EReal.coe_mul, coe_sum]
  rw [sum_blocks fun i h => gR q k v ct g h i j * (q i (qh g h) d * (1 / 8))]
  rfl

include hq hk hc in
theorem G8_real (g : Fin 2) (j : Fin 8192) (d : Fin 64) : G8 m c (ix3 g j d) = (dvR q k ct g j d : EReal) := by
  show ∑ s : Fin 32, ∑ h : Fin 4, ∑ r : Fin 256, wt m c g h (qrow s r) j * argC m c (ix3 0 (qrow s r) (lane g h d)) = _
  simp only [wt_real m c q k hq hk, hc, ← EReal.coe_mul, coe_sum]
  rw [sum_blocks fun i h => wR q k g h i j * ct i (lane g h d)]
  rfl

end Cert.Kernel2Ideal.Attn
-- ==== Proof.AttnRef.lean ====
module

public import proofs.«01_k».proof.Proof.Gen.Reference2Ideal.Run
public import proofs.«01_k».proof.Proof.AttnMath
public import Idealize.ShloMosaic.Lib.Pointwise
public import Idealize.ShloMosaic.Lib.Pipeline.ValueKit

@[expose] public section

set_option maxRecDepth 16384

noncomputable section

/-! The full attention's reference: its three results named by their shared parts, and each part read at an index. -/

namespace Cert.Reference2Ideal.Attn

open Cert.Proof.AttnMath Cert.Reference2Ideal Cert.Reference2Ideal.Gen Idealize.ShloMosaic Idealize.ShloMosaic.TcCoe Idealize.SL.Sem

/-- The scaled scores, key head by query head by query by key. -/
def scores (q : FVec Ideal S1x8192x8x64 .f32) (k : FVec Ideal S1x8192x2x64 .f32) : FVec Ideal S1x2x4x8192x8192 .f32 :=
  mulf (transpose S1x2x4x8192x8192 [0, 1, 4, 3, 2] (Host.dotGeneral dot_S1x8192x2x64_S1x8192x2x4x64_S1x2x8192x8192x4_3_4_1_13_02_02 none k (shapeCast _ q shapeCasts_S1x8192x8x64_S1x8192x2x4x64)) transposes_S1x2x8192x8192x4_S1x2x4x8192x8192_0_1_4_3_2) (broadcastInDim S1x2x4x8192x8192 ![] bcast_S_S1x2x4x8192x8192 (constant S_ .f32 0x3E000000#32))

/-- Each row's largest score. -/
def rowTop (s : FVec Ideal S1x2x4x8192x8192 .f32) : FVec Ideal S1x2x4x8192 .f32 :=
  Host.reduce FloatOps.maximumf s (constant S_ .f32 0xFF800000#32) reducesTo_S1x2x4x8192x8192_S1x2x4x8192_d4 h_S_

/-- … not below −∞, as the softmax takes it. -/
def rowMax (s : FVec Ideal S1x2x4x8192x8192 .f32) : FVec Ideal S1x2x4x8192 .f32 :=
  maximumf (broadcastInDim S1x2x4x8192 ![] bcast_S_S1x2x4x8192 (constant S_ .f32 0xFF800000#32)) (rowTop s)

/-- A row's number repeated along the row. -/
def along (l : FVec Ideal S1x2x4x8192x1 .f32) : FVec Ideal S1x2x4x8192x8192 .f32 :=
  broadcastInDim S1x2x4x8192x8192 ![0, 1, 2, 3, 4] bcast_S1x2x4x8192x1_S1x2x4x8192x8192_0_1_2_3_4 l

/-- The exponentials of the scores less a number per row. -/
def expo (s : FVec Ideal S1x2x4x8192x8192 .f32) (mx : FVec Ideal S1x2x4x8192 .f32) : FVec Ideal S1x2x4x8192x8192 .f32 :=
  Host.exp (subf s (along (broadcastInDim S1x2x4x8192x1 ![0, 1, 2, 3] bcast_S1x2x4x8192_S1x2x4x8192x1_0_1_2_3 mx)))

/-- Each row's sum. -/
def rowAdd (e : FVec Ideal S1x2x4x8192x8192 .f32) : FVec Ideal S1x2x4x8192 .f32 :=
  Host.reduceAdd e (constant S_ .f32 0x00000000#32) reducesTo_S1x2x4x8192x8192_S1x2x4x8192_d4 h_S_

def rowSum (e : FVec Ideal S1x2x4x8192x8192 .f32) : FVec Ideal S1x2x4x8192x1 .f32 :=
  broadcastInDim S1x2x4x8192x1 ![0, 1, 2, 3] bcast_S1x2x4x8192_S1x2x4x8192x1_0_1_2_3 (rowAdd e)

/-- The cotangent by head. -/
def ctHeads (ct : FVec Ideal S1x8192x512 .f32) : FVec Ideal S1x2x64x4x8192 .f32 :=
  transpose S1x2x64x4x8192 [0, 2, 4, 3, 1] (shapeCast _ ct shapeCasts_S1x8192x512_S1x8192x2x4x64) transposes_S1x8192x2x4x64_S1x2x64x4x8192_0_2_4_3_1

/-- The weights' gradient. -/
def dP (v : FVec Ideal S1x8192x2x64 .f32) (ct : FVec Ideal S1x8192x512 .f32) : FVec Ideal S1x2x4x8192x8192 .f32 :=
  Host.dotGeneral dot_S1x2x64x4x8192_S1x8192x2x64_S1x2x4x8192x8192_2_3_34_1_01_02 none (ctHeads ct) v

/-- What the rows' sums receive. -/
def dL (dp e : FVec Ideal S1x2x4x8192x8192 .f32) (l : FVec Ideal S1x2x4x8192x1 .f32) : FVec Ideal S1x2x4x8192x1 .f32 :=
  Host.negf (shapeCast _ (rowAdd (mulf (mulf dp (along (Host.divf (broadcastInDim S1x2x4x8192x1 ![] bcast_S_S1x2x4x8192x1 (constant S_ .f32 0x3F800000#32)) (mulf l l)))) e)) shapeCasts_S1x2x4x8192_S1x2x4x8192x1)

/-- The scores' gradient before the scale, from the weights' gradient, the exponentials and their sums. -/
def dE (dp e : FVec Ideal S1x2x4x8192x8192 .f32) (l dl : FVec Ideal S1x2x4x8192x1 .f32) : FVec Ideal S1x2x4x8192x8192 .f32 :=
  mulf (addf (Host.divf dp (along l)) (broadcastInDim S1x2x4x8192x8192 ![0, 1, 2, 3] bcast_S1x2x4x8192_S1x2x4x8192x8192_0_1_2_3 (broadcastInDim S1x2x4x8192 ![1, 2, 3] bcast_S2x4x8192_S1x2x4x8192_1_2_3 (Host.reduceAdd dl (constant S_ .f32 0x00000000#32) reducesTo_S1x2x4x8192x1_S2x4x8192_d0_4 h_S_)))) e

/-- The products' gradient, key by query. -/
def dS (de : FVec Ideal S1x2x4x8192x8192 .f32) : FVec Ideal S1x2x8192x8192x4 .f32 :=
  transpose S1x2x8192x8192x4 [0, 1, 4, 3, 2] (mulf de (broadcastInDim S1x2x4x8192x8192 ![] bcast_S_S1x2x4x8192x8192 (constant S_ .f32 0x3E000000#32))) transposes_S1x2x4x8192x8192_S1x2x8192x8192x4_0_1_4_3_2

def dQ (ds : FVec Ideal S1x2x8192x8192x4 .f32) (k : FVec Ideal S1x8192x2x64 .f32) : FVec Ideal S2x4x8192x64 .bf16 :=
  truncf .bf16 (transpose S2x4x8192x64 [1, 2, 0, 3] (shapeCast _ (Host.divf (shapeCast _ (transpose S1x8192x2x4x64 [0, 2, 1, 3, 4] (Host.dotGeneral dot_S1x2x8192x8192x4_S1x8192x2x64_S1x2x8192x4x64_2_1_34_3_01_02 none ds k) transposes_S1x2x8192x4x64_S1x8192x2x4x64_0_2_1_3_4) shapeCasts_S1x8192x2x4x64_S1x8192x8x64) (broadcastInDim S1x8192x8x64 ![] bcast_S_S1x8192x8x64 (constant S_ .f32 0x3E000000#32))) shapeCasts_S1x8192x8x64_S8192x2x4x64) transposes_S8192x2x4x64_S2x4x8192x64_1_2_0_3) bitsLt_bf16_f32

def dK (ds : FVec Ideal S1x2x8192x8192x4 .f32) (q : FVec Ideal S1x8192x8x64 .f32) : FVec Ideal S2x8192x64 .f32 :=
  transpose S2x8192x64 [1, 0, 2] (shapeCast _ (transpose S1x8192x2x64 [0, 2, 1, 3] (Host.dotGeneral dot_S1x2x8192x8192x4_S1x8192x2x4x64_S1x2x8192x64_34_13_2_4_01_02 none ds (shapeCast _ q shapeCasts_S1x8192x8x64_S1x8192x2x4x64)) transposes_S1x2x8192x64_S1x8192x2x64_0_2_1_3) shapeCasts_S1x8192x2x64_S8192x2x64) transposes_S8192x2x64_S2x8192x64_1_0_2

def dV (p : FVec Ideal S1x2x4x8192x8192 .f32) (ct : FVec Ideal S1x8192x512 .f32) : FVec Ideal S2x8192x64 .f32 :=
  transpose S2x8192x64 [1, 0, 2] (shapeCast _ (transpose S1x8192x2x64 [0, 3, 1, 2] (Host.dotGeneral dot_S1x2x64x4x8192_S1x2x4x8192x8192_S1x2x64x8192_34_23_2_4_01_01 none (ctHeads ct) p) transposes_S1x2x64x8192_S1x8192x2x64_0_3_1_2) shapeCasts_S1x8192x2x64_S8192x2x64) transposes_S8192x2x64_S2x8192x64_1_0_2

theorem scores_at (q : FVec Ideal S1x8192x8x64 .f32) (k : FVec Ideal S1x8192x2x64 .f32) (g : Fin 2) (h : Fin 4) (i j : Fin 8192) :
    scores q k (ix5 0 g h i j) = (∑ d : Fin 64, k (ix4 0 j g d) * q (ix4 0 i ⟨g.val * 4 + h.val, by omega⟩ d)) * Ideal.ofBits .f32 0x3E000000#32 := by
  pointwise [scores]
  blk_ext

theorem rowTop_at (s : FVec Ideal S1x2x4x8192x8192 .f32) (g : Fin 2) (h : Fin 4) (i : Fin 8192) :
    rowTop s (ix4 0 g h i)
      = Finset.univ.fold (FloatOps.maximumf (F := Ideal) (φ := .f32)) (FloatOps.ofBits .f32 0xFF800000#32) (fun k : Fin 8192 => s (ix5 0 g h i k)) := by
  pointwise [rowTop]

theorem atLeast_at (z : FVec Ideal S1x2x4x8192 .f32) (i : S1x2x4x8192.Idx) :
    maximumf (broadcastInDim S1x2x4x8192 ![] bcast_S_S1x2x4x8192 (constant S_ .f32 0xFF800000#32)) z i = max (Ideal.ofBits .f32 0xFF800000#32) (z i) := by
  pointwise

/-- The largest score of a row of real scores is real. -/
theorem rowMax_real (s : FVec Ideal S1x2x4x8192x8192 .f32) (g : Fin 2) (h : Fin 4) (i : Fin 8192) (r : Fin 8192 → ℝ)
    (hr : ∀ j, s (ix5 0 g h i j) = (r j : EReal)) : ∃ M : ℝ, rowMax s (ix4 0 g h i) = (M : EReal) := by
  obtain ⟨M, hM⟩ := Cert.Proof.AttnMath.fold_max_real r
  refine ⟨M, ?_⟩
  unfold rowMax
  rw [atLeast_at, rowTop_at, ← hM, negInf]
  simp only [hr]
  exact congrArg (fun z => max ⊥ (Finset.univ.fold max z fun j => (r j : EReal))) negInf

theorem unit_axes (l : S1x2x4x8192x1.Idx → EReal) (g : Fin 2) (h : Fin 4) (i : Fin 8192) :
    Ideal.hostReduceAdd reducesTo_S1x2x4x8192x1_S2x4x8192_d0_4 l 0 (ix3 g h i) = l (ix5 0 g h i 0) := by
  have hf : (Finset.univ.filter fun x : S1x2x4x8192x1.Idx => reducesTo_S1x2x4x8192x1_S2x4x8192_d0_4.drop x = ix3 g h i) = {ix5 0 g h i 0} := by
    ext x
    idx_vars x
    simp only [Finset.mem_filter, Finset.mem_univ, true_and, Finset.mem_singleton]
    constructor
    · intro e
      have e1 : x1 = g := congrFun e 0
      have e2 : x2 = h := congrFun e 1
      have e3 : x3 = i := congrFun e 2
      obtain rfl : x0 = 0 := Subsingleton.elim _ _
      obtain rfl : x4 = 0 := Subsingleton.elim _ _
      rw [e1, e2, e3]
    · intro e
      rw [e]
      funext b
      fin_cases b <;> rfl
  show (0 : EReal) + _ = _
  rw [hf, Finset.sum_singleton, zero_add]

theorem expo_at (s : FVec Ideal S1x2x4x8192x8192 .f32) (mx : FVec Ideal S1x2x4x8192 .f32) (g : Fin 2) (h : Fin 4) (i j : Fin 8192) :
    expo s mx (ix5 0 g h i j) = Ideal.exp (s (ix5 0 g h i j) - mx (ix4 0 g h i)) := by
  pointwise [expo, along]

theorem rowAdd_at (e : FVec Ideal S1x2x4x8192x8192 .f32) (g : Fin 2) (h : Fin 4) (i : Fin 8192) :
    rowAdd e (ix4 0 g h i) = ∑ j : Fin 8192, e (ix5 0 g h i j) := by
  pointwise [rowAdd]

theorem dP_at (v : FVec Ideal S1x8192x2x64 .f32) (ct : FVec Ideal S1x8192x512 .f32) (g : Fin 2) (h : Fin 4) (i j : Fin 8192) :
    dP v ct (ix5 0 g h i j) = ∑ d : Fin 64, ct (ix3 0 i ⟨g.val * 256 + h.val * 64 + d.val, by omega⟩) * v (ix4 0 j g d) := by
  pointwise [dP, ctHeads]
  blk_ext

theorem dL_at (dp e : FVec Ideal S1x2x4x8192x8192 .f32) (l : FVec Ideal S1x2x4x8192x1 .f32) (g : Fin 2) (h : Fin 4) (i : Fin 8192) :
    dL dp e l (ix5 0 g h i 0) = -∑ j : Fin 8192, dp (ix5 0 g h i j) * Ideal.div 1 (l (ix5 0 g h i 0) * l (ix5 0 g h i 0)) * e (ix5 0 g h i j) := by
  pointwise [dL, rowAdd, along]

theorem dE_at (dp e : FVec Ideal S1x2x4x8192x8192 .f32) (l dl : FVec Ideal S1x2x4x8192x1 .f32) (g : Fin 2) (h : Fin 4) (i j : Fin 8192) :
    dE dp e l dl (ix5 0 g h i j) = (Ideal.div (dp (ix5 0 g h i j)) (l (ix5 0 g h i 0)) + dl (ix5 0 g h i 0)) * e (ix5 0 g h i j) := by
  pointwise [dE, along]
  rw [unit_axes]

theorem dS_at (de : FVec Ideal S1x2x4x8192x8192 .f32) (g : Fin 2) (h : Fin 4) (i j : Fin 8192) :
    dS de (ix5 0 g j i h) = de (ix5 0 g h i j) * Ideal.ofBits .f32 0x3E000000#32 := by
  pointwise [dS]

theorem dQ_at (ds : FVec Ideal S1x2x8192x8192x4 .f32) (k : FVec Ideal S1x8192x2x64 .f32) (g : Fin 2) (h : Fin 4) (i : Fin 8192) (d : Fin 64) :
    dQ ds k (ix4 g h i d) = Ideal.div (∑ j : Fin 8192, ds (ix5 0 g j i h) * k (ix4 0 j g d)) (Ideal.ofBits .f32 0x3E000000#32) := by
  pointwise [dQ]
  blk_ext

theorem dK_at (ds : FVec Ideal S1x2x8192x8192x4 .f32) (q : FVec Ideal S1x8192x8x64 .f32) (g : Fin 2) (j : Fin 8192) (d : Fin 64) :
    dK ds q (ix3 g j d) = ∑ i : Fin 8192, ∑ h : Fin 4, ds (ix5 0 g j i h) * q (ix4 0 i ⟨g.val * 4 + h.val, by omega⟩ d) := by
  pointwise [dK]
  blk_ext

theorem dV_at (p : FVec Ideal S1x2x4x8192x8192 .f32) (ct : FVec Ideal S1x8192x512 .f32) (g : Fin 2) (j : Fin 8192) (d : Fin 64) :
    dV p ct (ix3 g j d) = ∑ h : Fin 4, ∑ i : Fin 8192, ct (ix3 0 i ⟨g.val * 256 + h.val * 64 + d.val, by omega⟩) * p (ix5 0 g h i j) := by
  pointwise [dV, ctHeads]
  blk_ext

end Cert.Reference2Ideal.Attn
-- ==== Proof.AttnRefValue.lean ====
module

public import proofs.«01_k».proof.Proof.AttnRef
public import proofs.«01_k».proof.Proof.AttnSpec
public import Idealize.ShloMosaic.Lib.Pointwise

@[expose] public section

set_option maxRecDepth 16384

noncomputable section

/-! The reference's three results at finite arguments are the real gradients. -/

namespace Cert.Reference2Ideal.Attn

open Cert.Proof.AttnMath Cert.Proof.AttnSpec Cert.Reference2Ideal Cert.Reference2Ideal.Gen Idealize.ShloMosaic Idealize.ShloMosaic.TcCoe Idealize.SL.Sem

theorem rowSum_at (e : FVec Ideal S1x2x4x8192x8192 .f32) (g : Fin 2) (h : Fin 4) (i : Fin 8192) :
    rowSum e (ix5 0 g h i 0) = ∑ j : Fin 8192, e (ix5 0 g h i j) := by
  rw [← rowAdd_at]
  unfold rowSum
  generalize rowAdd e = z
  pointwise

theorem over_at (e : FVec Ideal S1x2x4x8192x8192 .f32) (l : FVec Ideal S1x2x4x8192x1 .f32) (g : Fin 2) (h : Fin 4) (i j : Fin 8192) :
    Host.divf e (along l) (ix5 0 g h i j) = Ideal.div (e (ix5 0 g h i j)) (l (ix5 0 g h i 0)) := by
  pointwise [along]

variable (Q : FVec Ideal S1x8192x8x64 .f32) (K V : FVec Ideal S1x8192x2x64 .f32) (C : FVec Ideal S1x8192x512 .f32)
  (q : Fin 8192 → Fin 8 → Fin 64 → ℝ) (k v : Fin 8192 → Fin 2 → Fin 64 → ℝ) (ct : Fin 8192 → Fin 512 → ℝ)
  (hq : ∀ i n d, Q (ix4 0 i n d) = (q i n d : EReal)) (hk : ∀ j g d, K (ix4 0 j g d) = (k j g d : EReal))
  (hv : ∀ j g d, V (ix4 0 j g d) = (v j g d : EReal)) (hc : ∀ i n, C (ix3 0 i n) = (ct i n : EReal))

/-- The exponentials and their sums, of the arguments. -/
def eOf : FVec Ideal S1x2x4x8192x8192 .f32 := expo (scores Q K) (rowMax (scores Q K))
def dsOf : FVec Ideal S1x2x8192x8192x4 .f32 := dS (dE (dP V C) (eOf Q K) (rowSum (eOf Q K)) (dL (dP V C) (eOf Q K) (rowSum (eOf Q K))))

include hq hk in
theorem score_real (g : Fin 2) (h : Fin 4) (i j : Fin 8192) : scores Q K (ix5 0 g h i j) = (sR q k g h i j : EReal) := by
  rw [scores_at, eighth]
  simp only [hq, hk, ← EReal.coe_mul, coe_sum, Finset.sum_mul]
  refine congrArg _ (Finset.sum_congr rfl fun d _ => ?_)
  rw [mul_comm (k j g d), mul_right_comm]
  rfl

include hv hc in
theorem dp_real (g : Fin 2) (h : Fin 4) (i j : Fin 8192) : dP V C (ix5 0 g h i j) = (xR v ct g h i j : EReal) := by
  rw [dP_at]
  simp only [hv, hc, ← EReal.coe_mul, coe_sum]
  rfl

include hq hk in
theorem e_real (g : Fin 2) (h : Fin 4) (i : Fin 8192) :
    ∃ M : ℝ, ∀ j, eOf Q K (ix5 0 g h i j) = Ideal.exp ((sR q k g h i j : EReal) - (M : EReal)) := by
  obtain ⟨M, hM⟩ := rowMax_real (scores Q K) g h i _ (score_real Q K q k hq hk g h i)
  refine ⟨M, fun j => ?_⟩
  rw [eOf, expo_at, hM, score_real Q K q k hq hk]

include hq hk in
theorem p_real (g : Fin 2) (h : Fin 4) (i j : Fin 8192) :
    Host.divf (eOf Q K) (along (rowSum (eOf Q K))) (ix5 0 g h i j) = (wR q k g h i j : EReal) := by
  obtain ⟨M, hM⟩ := e_real Q K q k hq hk g h i
  rw [over_at, rowSum_at]
  simp only [hM]
  exact plain_weight _ M j

include hq hk hv hc in
theorem ds_real (g : Fin 2) (h : Fin 4) (i j : Fin 8192) : dsOf Q K V C (ix5 0 g j i h) = ((gR q k v ct g h i j * (1 / 8) : ℝ) : EReal) := by
  obtain ⟨M, hM⟩ := e_real Q K q k hq hk g h i
  rw [dsOf, dS_at, dE_at, dL_at, rowSum_at, eighth, EReal.coe_mul]
  simp only [hM, dp_real V C v ct hv hc]
  rw [plain_grad (sR q k g h i) (xR v ct g h i) M j]
  rfl

include hq hk hv hc in
theorem dQ_real (g : Fin 2) (h : Fin 4) (i : Fin 8192) (d : Fin 64) : dQ (dsOf Q K V C) K (ix4 g h i d) = (dqR q k v ct g h i d : EReal) := by
  rw [dQ_at, eighth]
  simp only [ds_real Q K V C q k v ct hq hk hv hc, hk, ← EReal.coe_mul, coe_sum]
  rw [Ideal.div_coe (by norm_num), ← EReal.coe_mul, dqR, Finset.sum_mul]
  refine congrArg _ (Finset.sum_congr rfl fun j _ => ?_)
  ring

include hq hk hv hc in
theorem dK_real (g : Fin 2) (j : Fin 8192) (d : Fin 64) : dK (dsOf Q K V C) Q (ix3 g j d) = (dkR q k v ct g j d : EReal) := by
  rw [dK_at]
  simp only [ds_real Q K V C q k v ct hq hk hv hc, hq, ← EReal.coe_mul, coe_sum]
  refine congrArg _ (Finset.sum_congr rfl fun i _ => Finset.sum_congr rfl fun h _ => ?_)
  rw [mul_assoc, mul_comm (1 / 8 : ℝ)]
  rfl

include hq hk hc in
theorem dV_real (g : Fin 2) (j : Fin 8192) (d : Fin 64) :
    dV (Host.divf (eOf Q K) (along (rowSum (eOf Q K)))) C (ix3 g j d) = (dvR q k ct g j d : EReal) := by
  rw [dV_at]
  simp only [p_real Q K q k hq hk, hc, ← EReal.coe_mul, coe_sum]
  rw [dvR, Finset.sum_comm]
  refine congrArg _ (Finset.sum_congr rfl fun i _ => Finset.sum_congr rfl fun h _ => ?_)
  rw [mul_comm]
  rfl

end Cert.Reference2Ideal.Attn
-- ==== Proof.AttnClaim.lean ====
module

public import proofs.«01_k».proof.Defs
public import proofs.«01_k».proof.Proof.Finite
public import proofs.«01_k».proof.Proof.AttnValue
public import proofs.«01_k».proof.Proof.AttnRefValue
public import proofs.«01_k».proof.Proof.Gen.Pre_finite
public import Idealize.ShloMosaic.Lib.Claim

@[expose] public section

set_option maxRecDepth 16384

noncomputable section

/-! The full attention's backward call computes, at finite arguments, the derivative of the forward lines. -/

namespace Cert.Proof.Attn

open Idealize.ShloMosaic Idealize.ShloMosaic.TcCoe Idealize.SL.Sem Cert.Kernel2Ideal Cert.Kernel2Ideal.Attn Cert.Proof.AttnSpec

variable (m : (ℓ : Loc nD τ sig) → Buf (Elt Ideal) ℓ) (c : Dev nD)

/-- The arguments' real entries. -/
def qr : Fin 8192 → Fin 8 → Fin 64 → ℝ := fun i n d => EReal.toReal (argQ m c (ix4 0 i n d))
def kr : Fin 8192 → Fin 2 → Fin 64 → ℝ := fun j g d => EReal.toReal (argK m c (ix4 0 j g d))
def vr : Fin 8192 → Fin 2 → Fin 64 → ℝ := fun j g d => EReal.toReal (argV m c (ix4 0 j g d))
def cr : Fin 8192 → Fin 512 → ℝ := fun i n => EReal.toReal (argC m c (ix3 0 i n))

section Finite

variable (h : Cert.Pre_Kernel2Ideal_finite (hPre_finite := Cert.Pre_finite.Gen.facts) m)

include h in
theorem fin_q (i : Fin 8192) (n : Fin 8) (d : Fin 64) : argQ m c (ix4 0 i n d) = (qr m c i n d : EReal) :=
  Finite.real_of_lt (argQ m c) _ (fun _ => rfl) (h c).1 _

include h in
theorem fin_k (j : Fin 8192) (g : Fin 2) (d : Fin 64) : argK m c (ix4 0 j g d) = (kr m c j g d : EReal) :=
  Finite.real_of_lt (argK m c) _ (fun _ => rfl) (h c).2.1 _

include h in
theorem fin_v (j : Fin 8192) (g : Fin 2) (d : Fin 64) : argV m c (ix4 0 j g d) = (vr m c j g d : EReal) :=
  Finite.real_of_lt (argV m c) _ (fun _ => rfl) (h c).2.2.1 _

include h in
theorem fin_c (i : Fin 8192) (n : Fin 512) : argC m c (ix3 0 i n) = (cr m c i n : EReal) :=
  Finite.real_of_lt (argC m c) _ (fun _ => rfl) (h c).2.2.2 _

include h in
theorem ref6 : Cert.Reference2Ideal.Attn.dQ (Cert.Reference2Ideal.Attn.dsOf (argQ m c) (argK m c) (argV m c) (argC m c)) (argK m c) = G6 m c := by
  funext y; idx_vars y
  exact (Cert.Reference2Ideal.Attn.dQ_real _ _ _ _ _ _ _ _ (fin_q m c h) (fin_k m c h) (fin_v m c h) (fin_c m c h) _ _ _ _).trans
    (G6_real m c _ _ _ _ (fin_q m c h) (fin_k m c h) (fin_v m c h) (fin_c m c h) _ _ _ _).symm

include h in
theorem ref7 : Cert.Reference2Ideal.Attn.dK (Cert.Reference2Ideal.Attn.dsOf (argQ m c) (argK m c) (argV m c) (argC m c)) (argQ m c) = G7 m c := by
  funext y; idx_vars y
  exact (Cert.Reference2Ideal.Attn.dK_real _ _ _ _ _ _ _ _ (fin_q m c h) (fin_k m c h) (fin_v m c h) (fin_c m c h) _ _ _).trans
    (G7_real m c _ _ _ _ (fin_q m c h) (fin_k m c h) (fin_v m c h) (fin_c m c h) _ _ _).symm

include h in
theorem ref8 : Cert.Reference2Ideal.Attn.dV (Host.divf (Cert.Reference2Ideal.Attn.eOf (argQ m c) (argK m c))
    (Cert.Reference2Ideal.Attn.along (Cert.Reference2Ideal.Attn.rowSum (Cert.Reference2Ideal.Attn.eOf (argQ m c) (argK m c))))) (argC m c) = G8 m c := by
  funext y; idx_vars y
  exact (Cert.Reference2Ideal.Attn.dV_real _ _ _ _ _ _ (fin_q m c h) (fin_k m c h) (fin_c m c h) _ _ _).trans
    (G8_real m c _ _ _ (fin_q m c h) (fin_k m c h) (fin_c m c h) _ _ _).symm

end Finite

theorem algebraic : Cert.algebraic_Kernel2Ideal_Reference2Ideal_pre_finite (hKernel2Ideal := Cert.Kernel2Ideal.Gen.facts)
    (hReference2Ideal := Cert.Reference2Ideal.Gen.facts) (hPre_finite := Cert.Pre_finite.Gen.facts) := by
  intro m g m' g' hp hm
  refine ⟨fun c => G6 m c, fun c => G7 m c, fun c => G8 m c, ?_, ?_⟩
  · refine (θ_run _ _ _).mono (fun r h c => ?_) (Cert.Kernel2Ideal.Value.run_blocks (F := Ideal) m g)
    obtain ⟨h6, h7, h8, hargs⟩ := h c
    exact ⟨h6.trans (final6 m c), h7.trans (final7 m c), h8.trans (final8 m c), hargs⟩
  · refine (θ_run _ _ _).mono (fun r h c => ?_) (Cert.Reference2Ideal.Value.run (F := Ideal) m' g')
    obtain ⟨h6, h7, h8, hargs⟩ := h c
    obtain ⟨a0, a1, a2, a3⟩ := hm c
    have e6 := ref6 m c hp; have e7 := ref7 m c hp; have e8 := ref8 m c hp
    unfold argQ argK argV argC at e6 e7
    unfold argQ argK argC at e8
    rw [← a0, ← a1, ← a2, ← a3] at e6 e7
    rw [← a0, ← a1, ← a3] at e8
    exact ⟨h6.trans e6, h7.trans e7, h8.trans e8, hargs⟩

end Cert.Proof.Attn
-- ==== Proof.InRun.lean ====
module

public import proofs.«01_k».proof.Proof.Gen.Kernel3Ideal.Value
public import Idealize.ShloMosaic.Lib.Pipeline.ValueKit
public import Idealize.ShloMosaic.Lib.Pointwise
public import proofs.«01_k».proof.Proof.NormMath
public import proofs.«01_k».proof.Proof.RowStores
public import Idealize.ShloMosaic.Lib.Pipeline.ReadBack

@[expose] public section

set_option maxRecDepth 16384

noncomputable section

namespace Cert.Kernel3Ideal.InProj

open Cert.Kernel3Ideal Cert.Kernel3Ideal.Gen Idealize.ShloMosaic Idealize.ShloMosaic.TcCoe Idealize.SL.Sem

open Cert.Proof.NormMath

variable (x0 : Vec Ideal S512x3584 .bf16) (x1 x2 : Vec Ideal S512x1024 .f32) (x3 : Vec Ideal S6x1024 .f32) (x4 : Vec Ideal S1x1024 .f32)
  (x5 : Vec Ideal S4x1024x896 .bf16)

/-- The gradient of the normalised rows of a block: the four column blocks of the product one after another. -/
def dh (p : Fin 512) (q : Fin 1024) : EReal := ∑ j : Fin 4, ∑ k : Fin 896, x0 (ix2 p ⟨j.val * 896 + k.val, by omega⟩) * x5 (ix3 j q k)

theorem pay4_at (p : Fin 512) (q : Fin 1024) :
    k0_pay4 (View.ld x0 (Rect.unit (s := S512x3584) ![0, 0] S512x896.size inb_S512x3584_S512x896_0_0)) (View.ld x5 (Rect.unit (s := S4x1024x896) ![0, 0, 0] S1x1024x896.size inb_S4x1024x896_S1x1024x896_0_0_0))
      (View.ld x0 (Rect.unit (s := S512x3584) ![0, 896] S512x896.size inb_S512x3584_S512x896_0_896)) (View.ld x5 (Rect.unit (s := S4x1024x896) ![1, 0, 0] S1x1024x896.size inb_S4x1024x896_S1x1024x896_1_0_0))
      (View.ld x0 (Rect.unit (s := S512x3584) ![0, 1792] S512x896.size inb_S512x3584_S512x896_0_1792)) (View.ld x5 (Rect.unit (s := S4x1024x896) ![2, 0, 0] S1x1024x896.size inb_S4x1024x896_S1x1024x896_2_0_0))
      (View.ld x0 (Rect.unit (s := S512x3584) ![0, 2688] S512x896.size inb_S512x3584_S512x896_0_2688)) (View.ld x5 (Rect.unit (s := S4x1024x896) ![3, 0, 0] S1x1024x896.size inb_S4x1024x896_S1x1024x896_3_0_0)) (ix2 p q)
      = dh x0 x5 p q := by
  unfold dh
  rw [Fin.sum_univ_four]
  pointwise [k0_pay4]

variable (v22 v24 v61 : Vec Ideal S512x1024 .f32) (v25 v27 : Vec Ideal S1x1024 .f32)

theorem pay8_at (p : Fin 512) : k0_pay8 (k0_pay7 v24) (ix2 p 0) = rs fun k => v24 (ix2 p k) := by
  unfold rs msq W E
  pointwise [k0_pay8, k0_pay7, k0_pay5]

theorem pay9_at (p : Fin 512) (q : Fin 1024) : k0_pay9 (k0_pay5 v24) (k0_pay7 v24) (ix2 p q) = v24 (ix2 p q) * rs fun k => v24 (ix2 p k) := by
  rw [← pay8_at]
  pointwise [k0_pay9, k0_pay5]

theorem pay12_at (p : Fin 512) (q : Fin 1024) : k0_pay12 v22 (k0_pay5 v24) v25 v27 (k0_pay7 v24) v61 (ix2 p q)
    = kern (fun k => v24 (ix2 p k)) (fun k => v22 (ix2 p k) * (v25 (ix2 0 k) * (O + v27 (ix2 0 k)))) (v61 (ix2 p q)) q := by
  unfold kern O W
  pointwise [k0_pay12]
  simp only [pay9_at, pay8_at]

theorem pay1_at (v : Vec Ideal S1x1024 .f32) (q : Fin 1024) :
    k0_pay1 (k0_pay14 v) (k0_pay15 v22) (ix2 0 q) = v (ix2 0 q) + ∑ p : Fin 512, v22 (ix2 p q) := by
  pointwise [k0_pay1, k0_pay14, k0_pay15]

theorem pay2_at (v : Vec Ideal S1x1024 .f32) (q : Fin 1024) : k0_pay2 (k0_pay10 v22 (k0_pay5 v24) v25 (k0_pay7 v24)) v (ix2 0 q)
    = v (ix2 0 q) + ∑ p : Fin 512, v22 (ix2 p q) * (v24 (ix2 p q) * rs fun k => v24 (ix2 p k)) * v25 (ix2 0 q) := by
  pointwise [k0_pay2, k0_pay10]
  simp only [pay9_at]

theorem pay3_at (v : Vec Ideal S1x1024 .f32) (q : Fin 1024) : k0_pay3 (k0_pay11 v22 (k0_pay5 v24) v27 (k0_pay7 v24)) v (ix2 0 q)
    = v (ix2 0 q) + ∑ p : Fin 512, v22 (ix2 p q) * (v24 (ix2 p q) * rs fun k => v24 (ix2 p k)) * (O + v27 (ix2 0 q)) := by
  unfold O
  pointwise [k0_pay3, k0_pay11]
  simp only [pay9_at]

/-- What a block adds to the eight rows of column sums: the shift's, the scale's and the gain's gradients, and nothing to the others. -/
def stepAt (a : Fin 8) (q : Fin 1024) : EReal :=
  if a.val = 0 then ∑ p : Fin 512, dh x0 x5 p q
  else if a.val = 1 then ∑ p : Fin 512, dh x0 x5 p q * (x1 (ix2 p q) * rs fun k => x1 (ix2 p k)) * x4 (ix2 0 q)
  else if a.val = 2 then ∑ p : Fin 512, dh x0 x5 p q * (x1 (ix2 p q) * rs fun k => x1 (ix2 p k)) * (O + x3 (ix2 1 q))
  else 0

def step (y : S8x1024.Idx) : EReal := stepAt x0 x1 x3 x4 x5 (y 0) (y 1)

variable (c : Dev nD) (i : grid0.Coords) (arg1 : Memref sig .tc .vmem S512x3584 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S4x1024x896 .bf16) (harg6 : arg6.IsWhole) (arg7 : Memref sig .tc .vmem S512x1024 .f32) (harg7 : arg7.IsWhole) (arg8 : Memref sig .tc .vmem S8x1024 .f32) (harg8 : arg8.IsWhole)
  (xo7 : Vec Ideal S8x1024 .f32)

theorem out_B_6 (hc0 : ¬cond0_0 i) (p : Fin 512) (q : Fin 1024) :
    out0_B_6 c i arg1 harg1 arg2 harg2 arg3 harg3 arg4 harg4 arg5 harg5 arg6 harg6 arg7 harg7 arg8 harg8 hc0 x0 x1 x2 x3 x4 x5 xo7 (ix2 p q)
      = kern (fun k => x1 (ix2 p k)) (fun k => dh x0 x5 p k * (x4 (ix2 0 k) * (O + x3 (ix2 1 k)))) (x2 (ix2 p q)) q := by
  frame_out
  rw [pay12_at]
  simp only [pay4_at]
  pointwise [k0_pay6]

theorem out_A_6 (hc0 : cond0_0 i) (p : Fin 512) (q : Fin 1024) :
    out0_A_6 c i arg1 harg1 arg2 harg2 arg3 harg3 arg4 harg4 arg5 harg5 arg6 harg6 arg7 harg7 arg8 harg8 hc0 x0 x1 x2 x3 x4 x5 (ix2 p q)
      = kern (fun k => x1 (ix2 p k)) (fun k => dh x0 x5 p k * (x4 (ix2 0 k) * (O + x3 (ix2 1 k)))) (x2 (ix2 p q)) q := by
  frame_out
  rw [pay12_at]
  simp only [pay4_at]
  pointwise [k0_pay6]

theorem out_B_7 (hc0 : ¬cond0_0 i) (y : S8x1024.Idx) :
    out0_B_7 c i arg1 harg1 arg2 harg2 arg3 harg3 arg4 harg4 arg5 harg5 arg6 harg6 arg7 harg7 arg8 harg8 hc0 x0 x1 x2 x3 x4 x5 xo7 y = xo7 y + step x0 x1 x3 x4 x5 y := by
  frame_out
  idx_vars y
  simp only [Cert.Proof.RowStores.read_row]
  rw [pay3_at, pay2_at, pay1_at]
  simp only [pay4_at]
  rw [View.writes_nil, harg8.read_unread]
  show _ = xo7 (ix2 y0 y1) + stepAt x0 x1 x3 x4 x5 y0 y1
  unfold stepAt
  pointwise [k0_pay6]
  by_cases h2 : y0.val = 2
  · obtain rfl : y0 = 2 := Fin.ext h2
    rfl
  by_cases h1 : y0.val = 1
  · obtain rfl : y0 = 1 := Fin.ext h1
    rfl
  by_cases h3 : y0.val = 0
  · obtain rfl : y0 = 0 := Fin.ext h3
    rfl
  simp only [h1, h2, h3, if_false, add_zero]

theorem out_A_7 (hc0 : cond0_0 i) (y : S8x1024.Idx) :
    out0_A_7 c i arg1 harg1 arg2 harg2 arg3 harg3 arg4 harg4 arg5 harg5 arg6 harg6 arg7 harg7 arg8 harg8 hc0 x0 x1 x2 x3 x4 x5 y = step x0 x1 x3 x4 x5 y := by
  frame_open
  simp (disch := decide) only [↓ View.readCov_skip, ↓ View.readCov_cons_toLoadRect, ↓ View.readCov_fill]
  frame_out
  idx_vars y
  rw [← View.read_writes_junk_eq_canon VO0_7]
  simp only [Cert.Proof.RowStores.read_row]
  rw [pay3_at, pay2_at, pay1_at]
  simp only [pay4_at]
  rw [Cert.Proof.RowStores.read_fill]
  show _ = stepAt x0 x1 x3 x4 x5 y0 y1
  unfold stepAt
  pointwise [k0_pay6, k0_pay13]
  by_cases h2 : y0.val = 2
  · rw [if_pos h2, if_neg (by omega), if_neg (by omega), if_pos h2]
  by_cases h1 : y0.val = 1
  · rw [if_neg h2, if_pos h1, if_neg (by omega), if_pos h1]
  · rw [if_neg h2, if_neg h1]
    by_cases h3 : y0.val = 0
    · rw [if_pos h3, if_pos h3]
    · rw [if_neg h3, if_neg h3, if_neg h1, if_neg h2]

end Cert.Kernel3Ideal.InProj
-- ==== Proof.InFinal.lean ====
module

public import proofs.«01_k».proof.Proof.Gen.Kernel3Ideal.Value
public import Idealize.ShloMosaic.Lib.Pipeline.ValueKit
public import Idealize.ShloMosaic.Lib.Pointwise
public import proofs.«01_k».proof.Proof.InRun

@[expose] public section

set_option maxRecDepth 16384

noncomputable section

namespace Cert.Kernel3Ideal.InProj

open Cert.Kernel3Ideal Cert.Kernel3Ideal.Gen Idealize.ShloMosaic Idealize.ShloMosaic.TcCoe Idealize.SL.Sem

/-! The two arrays the kernel returns, as functions of its arguments: the rows' gradient, and the sums over all rows. -/

open Cert.Proof.NormMath
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0] ∧ win0_6.index t = ![t.val, 0] ∧ win0_7.index t = ![0, 0] :=
  (by decide +kernel : ∀ t : Fin grid0.N, _)

theorem N16 (t : Fin cfg0.N) : t.val < 16 := lt_of_lt_of_eq t.isLt Gen.N_0

/-- Row `p` of the block of rows at grid point `t`, as a row of the whole array. -/
def row (t : Fin cfg0.N) (p : Fin 512) : Fin 8192 := ⟨t.val * 512 + p.val, by have := N16 t; omega⟩

/-- The argument arrays of device `c`. -/
abbrev xA (c : Dev nD) : FVec Ideal S1x8192x1024 .f32 := m ((c.tc : Thread nD τ).loc main_arg0)
abbrev pA (c : Dev nD) : FVec Ideal S1x8192x3584 .f32 := m ((c.tc : Thread nD τ).loc main_arg1)
abbrev bA (c : Dev nD) : FVec Ideal S1x8192x1024 .f32 := m ((c.tc : Thread nD τ).loc main_arg2)
abbrev mA (c : Dev nD) : FVec Ideal S1x6144 .f32 := m ((c.tc : Thread nD τ).loc main_arg3)
abbrev gA (c : Dev nD) : FVec Ideal S1x1024 .f32 := m ((c.tc : Thread nD τ).loc main_arg4)
abbrev wA (c : Dev nD) : FVec Ideal S1x1024x3584 .f32 := m ((c.tc : Thread nD τ).loc main_arg5)

theorem blk0 (c : Dev nD) (t : Fin cfg0.N) (p : Fin 512) (q : Fin 3584) : iblk m c 0 t (ix2 p q) = pA m c (ix3 0 (row t p) q) := by
  blk_simp [iblk]
  entry_read
  pointwise
  blk_point [idx t, row]

theorem blk1 (c : Dev nD) (t : Fin cfg0.N) (p : Fin 512) (q : Fin 1024) : iblk m c 1 t (ix2 p q) = xA m c (ix3 0 (row t p) q) := by
  blk_simp [iblk]
  entry_read
  pointwise
  blk_point [idx t, row]

theorem blk2 (c : Dev nD) (t : Fin cfg0.N) (p : Fin 512) (q : Fin 1024) : iblk m c 2 t (ix2 p q) = bA m c (ix3 0 (row t p) q) := by
  blk_simp [iblk]
  entry_read
  pointwise
  blk_point [idx t, row]

theorem blk3 (c : Dev nD) (t : Fin cfg0.N) (a : Fin 6) (q : Fin 1024) : iblk m c 3 t (ix2 a q) = mA m c (ix2 0 ⟨a.val * 1024 + q.val, by omega⟩) := by
  blk_simp [iblk]
  entry_read
  pointwise
  blk_point [idx t]

theorem blk4 (c : Dev nD) (t : Fin cfg0.N) (q : Fin 1024) : iblk m c 4 t (ix2 0 q) = gA m c (ix2 0 q) := by
  blk_simp [iblk]
  entry_read
  pointwise
  blk_point [idx t]

theorem blk5 (c : Dev nD) (t : Fin cfg0.N) (j : Fin 4) (q : Fin 1024) (k : Fin 896) :
    iblk m c 5 t (ix3 j q k) = wA m c (ix3 0 q ⟨j.val * 896 + k.val, by omega⟩) := by
  blk_simp [iblk]
  entry_read
  pointwise
  blk_point [idx t]

/-- The gradient of the normalised rows, and the rows of the three arrays that scale them. -/
def DH (c : Dev nD) (r : Fin 8192) (q : Fin 1024) : EReal :=
  ∑ j : Fin 4, ∑ k : Fin 896, pA m c (ix3 0 r ⟨j.val * 896 + k.val, by omega⟩) * wA m c (ix3 0 q ⟨j.val * 896 + k.val, by omega⟩)
def X (c : Dev nD) (r : Fin 8192) (q : Fin 1024) : EReal := xA m c (ix3 0 r q)
def G (c : Dev nD) (q : Fin 1024) : EReal := gA m c (ix2 0 q)
def S (c : Dev nD) (q : Fin 1024) : EReal := O + mA m c (ix2 0 ⟨1024 + q.val, by omega⟩)

def G6 (c : Dev nD) : S8192x1024.Idx → EReal := fun y =>
  kern (X m c (y 0)) (fun k => DH m c (y 0) k * (G m c k * S m c k)) (bA m c (ix3 0 (y 0) (y 1))) (y 1)

/-- What row `r` adds to the eight rows of sums. -/
def term (c : Dev nD) (a : Fin 8) (q : Fin 1024) (r : Fin 8192) : EReal :=
  if a.val = 0 then DH m c r q
  else if a.val = 1 then DH m c r q * (X m c r q * rs (X m c r)) * G m c q
  else if a.val = 2 then DH m c r q * (X m c r q * rs (X m c r)) * S m c q
  else 0

def G7 (c : Dev nD) : S8x1024.Idx → EReal := fun y => ∑ s : Fin 16, ∑ p : Fin 512, term m c (y 0) (y 1) ⟨s.val * 512 + p.val, by omega⟩

theorem dh_at (c : Dev nD) (t : Fin cfg0.N) (p : Fin 512) (q : Fin 1024) : dh (iblk m c 0 t) (iblk m c 5 t) p q = DH m c (row t p) q := by
  unfold dh DH
  simp only [blk0, blk5]

theorem gx_out (c : Dev nD) (t : Fin cfg0.N) (p : Fin 512) (q : Fin 1024) : (outsAt0 m c t.val t.isLt).1 (ix2 p q) = G6 m c (ix2 (row t p) q) := by
  show _ = kern (X m c (row t p)) (fun k => DH m c (row t p) k * (G m c k * S m c k)) (bA m c (ix3 0 (row t p) q)) q
  by_cases h0 : t.val % 16 = 0
  · rw [outsAt0_A m c t h0]
    dsimp only
    rw [out_A_6]
    simp only [dh_at, blk1, blk2, blk3, blk4]
    rfl
  · rw [outsAt0_B m c t h0]
    dsimp only
    rw [out_B_6]
    simp only [dh_at, blk1, blk2, blk3, blk4]
    rfl

theorem final6 (c : Dev nD) : (dats m 0 c).arrAt 6 cfg0.N = G6 m c := by
  refine (dats m 0 c).arrAt_eq_of_covers 6 _ (by decide +kernel) fun t _ y => ?_
  blk_simp
  rw [after0_6]
  idx_vars y
  refine (gx_out m c t y0 y1).trans (show G6 m c (ix2 (row t y0) y1) = _ from ?_)
  blk_ext [idx t, row]

theorem step_at (c : Dev nD) (t : Fin cfg0.N) (a : Fin 8) (q : Fin 1024) :
    step (iblk m c 0 t) (iblk m c 1 t) (iblk m c 3 t) (iblk m c 4 t) (iblk m c 5 t) (ix2 a q) = ∑ p : Fin 512, term m c a q (row t p) := by
  show stepAt (iblk m c 0 t) (iblk m c 1 t) (iblk m c 3 t) (iblk m c 4 t) (iblk m c 5 t) a q = _
  unfold stepAt term
  simp only [dh_at, blk1, blk3, blk4]
  split_ifs
  · rfl
  · rfl
  · rfl
  · exact Finset.sum_const_zero.symm

theorem pt_lt (t : Fin cfg0.N) (s : Fin 16) : 16 * (t.val / 16) + s.val < cfg0.N := by
  have := N16 t
  exact lt_of_lt_of_eq (by omega : 16 * (t.val / 16) + s.val < 16) Gen.N_0.symm

/-- The points of the run that ends at the point where the sums are written back. -/
def pt (t : Fin cfg0.N) (s : Fin 16) : Fin cfg0.N := ⟨16 * (t.val / 16) + s.val, pt_lt t s⟩

theorem pt_row (t : Fin cfg0.N) (s : Fin 16) (p : Fin 512) : row (pt t s) p = ⟨s.val * 512 + p.val, by omega⟩ := by
  have := N16 t
  exact Fin.ext (by simp only [row, pt]; omega)

theorem after7_sum (c : Dev nD) (t : Fin cfg0.N) (hf : (cfg0.win 7).flush t = true) (y : S8x1024.Idx) :
    (outsAt0 m c t.val t.isLt).2 y = ∑ s : Fin 16, step (iblk m c 0 (pt t s)) (iblk m c 1 (pt t s)) (iblk m c 3 (pt t s)) (iblk m c 4 (pt t s))
      (iblk m c 5 (pt t s)) y := by
  rw [Pipeline.eq_sum_fin_of_reset_step_apply_of_flush (fun n h => (outsAt0 m c n h).2) 16 (fun _ => 0)
    (fun t => step (iblk m c 0 t) (iblk m c 1 t) (iblk m c 3 t) (iblk m c 4 t) (iblk m c 5 t))
    (fun t h j => by rw [outsAt0_A m c t h]; dsimp only; rw [out_A_7, zero_add]) (fun t h j => by rw [outsAt0_B m c t h]; dsimp only; rw [out_B_7]) t ((flush0_7 t).mp hf) y, zero_add]
  rfl

theorem final7 (c : Dev nD) : (dats m 0 c).arrAt 7 cfg0.N = G7 m c := by
  refine (dats m 0 c).arrAt_eq_of_covers 7 _ (by decide +kernel) fun t hf y => ?_
  blk_simp
  rw [after0_7]
  idx_vars y
  rw [after7_sum m c t hf]
  simp only [step_at, pt_row]
  refine (show G7 m c (ix2 y0 y1) = _ from ?_)
  blk_ext [idx t]

end Cert.Kernel3Ideal.InProj
-- ==== Proof.UnitAxes.lean ====
module

public import Idealize.ShloMosaic.PureOps
public import Idealize.ShloMosaic.Lib.Pointwise

@[expose] public section

noncomputable section

/-! A sum over two axes of length one reads the one entry there is. -/

namespace Cert.Proof.UnitAxes

open Idealize.ShloMosaic

variable {n : ℕ}

theorem outer (h : (⟨3, ![1, n, 1]⟩ : Shape).ReducesTo [0, 2] ⟨1, ![n]⟩) (l : (⟨3, ![1, n, 1]⟩ : Shape).Idx → EReal) (i : Fin n) :
    Ideal.hostReduceAdd h l 0 (ix1 i) = l (ix3 0 i 0) := by
  have hf : (Finset.univ.filter fun x : (⟨3, ![1, n, 1]⟩ : Shape).Idx => h.drop x = ix1 i) = {ix3 0 i 0} := by
    ext x
    obtain ⟨x0, x1, x2, rfl⟩ : ∃ (a : Fin 1) (b : Fin n) (c : Fin 1), x = ix3 a b c := ⟨x 0, x 1, x 2, by funext b; fin_cases b <;> rfl⟩
    simp only [Finset.mem_filter, Finset.mem_univ, true_and, Finset.mem_singleton]
    constructor
    · intro e
      have e1 : x1 = i := congrFun e 0
      obtain rfl : x0 = 0 := Subsingleton.elim _ _
      obtain rfl : x2 = 0 := Subsingleton.elim _ _
      rw [e1]
    · intro e
      rw [e]
      funext b
      fin_cases b
      rfl
  show (0 : EReal) + _ = _
  rw [hf, Finset.sum_singleton, zero_add]

theorem first (h : (⟨3, ![1, 1, n]⟩ : Shape).ReducesTo [0, 1] ⟨1, ![n]⟩) (l : (⟨3, ![1, 1, n]⟩ : Shape).Idx → EReal) (i : Fin n) :
    Ideal.hostReduceAdd h l 0 (ix1 i) = l (ix3 0 0 i) := by
  have hf : (Finset.univ.filter fun x : (⟨3, ![1, 1, n]⟩ : Shape).Idx => h.drop x = ix1 i) = {ix3 0 0 i} := by
    ext x
    obtain ⟨x0, x1, x2, rfl⟩ : ∃ (a : Fin 1) (b : Fin 1) (c : Fin n), x = ix3 a b c := ⟨x 0, x 1, x 2, by funext b; fin_cases b <;> rfl⟩
    simp only [Finset.mem_filter, Finset.mem_univ, true_and, Finset.mem_singleton]
    constructor
    · intro e
      have e1 : x2 = i := congrFun e 0
      obtain rfl : x0 = 0 := Subsingleton.elim _ _
      obtain rfl : x1 = 0 := Subsingleton.elim _ _
      rw [e1]
    · intro e
      rw [e]
      funext b
      fin_cases b
      rfl
  show (0 : EReal) + _ = _
  rw [hf, Finset.sum_singleton, zero_add]

end Cert.Proof.UnitAxes
-- ==== Proof.InRef.lean ====
module

public import proofs.«01_k».proof.Proof.Gen.Reference3Ideal.Run
public import proofs.«01_k».proof.Proof.NormMath
public import proofs.«01_k».proof.Proof.UnitAxes
public import Idealize.ShloMosaic.Lib.Pointwise

@[expose] public section

set_option maxRecDepth 16384

noncomputable section

/-! The derivative of the input projection's forward lines, read entry by entry. -/

namespace Cert.Reference3Ideal.InProj

open Cert.Reference3Ideal Cert.Reference3Ideal.Gen Idealize.ShloMosaic Idealize.ShloMosaic.TcCoe Idealize.SL.Sem
open Cert.Proof.NormMath

variable (x b : FVec Ideal S1x8192x1024 .f32) (p : FVec Ideal S1x8192x3584 .f32) (mo : FVec Ideal S1x6144 .f32) (g : FVec Ideal S1x1024 .f32)
  (w : FVec Ideal S1x1024x3584 .f32)

/-- The modulated rows' gradient, one plus the scale, and the gain. -/
abbrev dhT : FVec Ideal S1x8192x1024 .f32 := Host.dotGeneral dot_S1x8192x3584_S1024x3584_S1x8192x1024_2_1_01_0_n_n none p (shapeCast _ w shapeCasts_S1x1024x3584_S1024x3584)
abbrev sT : FVec Ideal S1x1x1024 .f32 := addf (broadcastInDim S1x1x1024 ![] bcast_S_S1x1x1024 (constant S_ .f32 0x3F800000#32))
  (broadcastInDim S1x1x1024 ![0, 2] bcast_S1x1024_S1x1x1024_0_2 (extractStridedSlice S1x1024 ![0, 1024] mo slices_S1x6144_S1x1024_0_1024))
abbrev gT : FVec Ideal S1x1x1024 .f32 := broadcastInDim S1x1x1024 ![2] bcast_S1024_S1x1x1024_2 (shapeCast _ g shapeCasts_S1x1024_S1024)
abbrev down (z : FVec Ideal S1x1x1024 .f32) : FVec Ideal S1x8192x1024 .f32 := broadcastInDim S1x8192x1024 ![0, 1, 2] bcast_S1x1x1024_S1x8192x1024_0_1_2 z

/-- The mean square of every row, and the norm's factor. -/
abbrev vT : FVec Ideal S1x8192x1 .f32 := addf (Host.divf (broadcastInDim S1x8192x1 ![0, 1] bcast_S1x8192_S1x8192x1_0_1
    (Host.reduceAdd (mulf x x) (constant S_ .f32 0x00000000#32) reducesTo_S1x8192x1024_S1x8192_d2 h_S_))
    (broadcastInDim S1x8192x1 ![] bcast_S_S1x8192x1 (constant S_ .f32 0x44800000#32)))
  (broadcastInDim S1x8192x1 ![] bcast_S_S1x8192x1 (constant S_ .f32 0x358637BD#32))
abbrev rT : FVec Ideal S1x8192x1 .f32 := Host.rsqrt (vT x)
abbrev wide (z : FVec Ideal S1x8192x1 .f32) : FVec Ideal S1x8192x1024 .f32 := broadcastInDim S1x8192x1024 ![0, 1, 2] bcast_S1x8192x1_S1x8192x1024_0_1_2 z

/-- What the norm's factor passes on to each of the two factors of the row's square. -/
abbrev tT (x d : FVec Ideal S1x8192x1024 .f32) : FVec Ideal S1x8192x1024 .f32 :=
  broadcastInDim S1x8192x1024 ![0, 1] bcast_S1x8192_S1x8192x1024_0_1 (broadcastInDim S1x8192 ![1] bcast_S8192_S1x8192_1
    (Host.reduceAdd (Host.divf (mulf (shapeCast _ (Host.reduceAdd (mulf x d) (constant S_ .f32 0x00000000#32) reducesTo_S1x8192x1024_S1x8192_d2 h_S_) shapeCasts_S1x8192_S1x8192x1)
      (mulf (broadcastInDim S1x8192x1 ![] bcast_S_S1x8192x1 (constant S_ .f32 0xBF000000#32)) (Host.divf (rT x) (vT x))))
      (broadcastInDim S1x8192x1 ![] bcast_S_S1x8192x1 (constant S_ .f32 0x44800000#32))) (constant S_ .f32 0x00000000#32) reducesTo_S1x8192x1_S8192_d0_2 h_S_))

/-- The rows' gradient, from the gradient `d` of the normalised rows. -/
abbrev GX (x d b : FVec Ideal S1x8192x1024 .f32) : FVec Ideal S8192x1024 .f32 :=
  shapeCast _ (addf (addf (addf b (mulf d (wide (rT x)))) (mulf x (tT x d))) (mulf (tT x d) x)) shapeCasts_S1x8192x1024_S8192x1024

/-- A sum over all rows, and the eight rows of such sums. -/
abbrev col (z : FVec Ideal S1x8192x1024 .f32) : FVec Ideal S1x1024 .f32 := broadcastInDim S1x1024 ![1] bcast_S1024_S1x1024_1
  (Host.reduceAdd (shapeCast _ (Host.reduceAdd z (constant S_ .f32 0x00000000#32) reducesTo_S1x8192x1024_S1x1024_d1 h_S_) shapeCasts_S1x1024_S1x1x1024)
    (constant S_ .f32 0x00000000#32) reducesTo_S1x1x1024_S1024_d0_1 h_S_)
abbrev ACC (a0 a1 a2 : FVec Ideal S1x1024 .f32) : FVec Ideal S8x1024 .f32 :=
  concatenate S8x1024 0 [⟨S1x1024, a0⟩, ⟨S1x1024, a1⟩, ⟨S1x1024, a2⟩, ⟨S5x1024, broadcastInDim S5x1024 ![] bcast_S_S5x1024 (constant S_ .f32 0x00000000#32)⟩]
    concatenates_S1x1024_S1x1024_S1x1024_S5x1024_S8x1024_d0

/-- The two results, of the arguments. -/
def gx : FVec Ideal S8192x1024 .f32 := GX x (mulf (mulf (dhT p w) (down (sT mo))) (down (gT g))) b
def acc : FVec Ideal S8x1024 .f32 := ACC (col (dhT p w)) (col (mulf (mulf (mulf x (wide (rT x))) (down (gT g))) (dhT p w)))
  (col (mulf (mulf x (wide (rT x))) (mulf (dhT p w) (down (sT mo)))))

theorem dhT_at (i : Fin 8192) (q : Fin 1024) : dhT p w (ix3 0 i q) = ∑ k : Fin 3584, p (ix3 0 i k) * w (ix3 0 q k) := by pointwise

theorem down_s (i : Fin 8192) (q : Fin 1024) : down (sT mo) (ix3 0 i q) = O + mo (ix2 0 ⟨1024 + q.val, by omega⟩) := by
  unfold O
  pointwise

theorem down_g (i : Fin 8192) (q : Fin 1024) : down (gT g) (ix3 0 i q) = g (ix2 0 q) := by pointwise

theorem vT_at (i : Fin 8192) : vT x (ix3 0 i 0) = msq fun k => x (ix3 0 i k) := by
  unfold msq W E
  pointwise

theorem rT_at (i : Fin 8192) : rT x (ix3 0 i 0) = rs fun k => x (ix3 0 i k) := by
  rw [rs, ← vT_at]
  show Host.rsqrt (vT x) (ix3 0 i 0) = _
  generalize vT x = z
  rfl

theorem wide_at (z : FVec Ideal S1x8192x1 .f32) (i : Fin 8192) (q : Fin 1024) : wide z (ix3 0 i q) = z (ix3 0 i 0) := by pointwise

theorem tT_at (d : FVec Ideal S1x8192x1024 .f32) (i : Fin 8192) (q : Fin 1024) :
    tT x d (ix3 0 i q) = half (fun k => x (ix3 0 i k)) fun k => d (ix3 0 i k) := by
  unfold half
  rw [← rT_at, ← vT_at]
  unfold tT
  generalize rT x = r
  generalize vT x = v
  unfold W H
  pointwise
  rw [Cert.Proof.UnitAxes.outer]
  pointwise

theorem GX_at (d : FVec Ideal S1x8192x1024 .f32) (i : Fin 8192) (q : Fin 1024) :
    GX x d b (ix2 i q) = plain (fun k => x (ix3 0 i k)) (fun k => d (ix3 0 i k)) (b (ix3 0 i q)) q := by
  unfold plain
  rw [← rT_at, ← tT_at x d i q, ← wide_at (rT x) i q]
  unfold GX
  generalize tT x d = t
  generalize wide (rT x) = r
  pointwise

theorem col_at (z : FVec Ideal S1x8192x1024 .f32) (q : Fin 1024) : col z (ix2 0 q) = ∑ i : Fin 8192, z (ix3 0 i q) := by
  pointwise
  rw [Cert.Proof.UnitAxes.first]
  pointwise

theorem ACC_at (a0 a1 a2 : FVec Ideal S1x1024 .f32) (a : Fin 8) (q : Fin 1024) : ACC a0 a1 a2 (ix2 a q)
    = if a.val = 0 then a0 (ix2 0 q) else if a.val = 1 then a1 (ix2 0 q) else if a.val = 2 then a2 (ix2 0 q) else 0 := by
  pointwise
  by_cases h0 : a.val = 0
  · rw [dif_pos (by omega), if_pos h0]
    exact congrArg (fun z => a0 (ix2 z q)) (Subsingleton.elim _ _)
  rw [dif_neg (by omega), if_neg h0]
  by_cases h1 : a.val = 1
  · rw [dif_pos (by omega), if_pos h1]
    exact congrArg (fun z => a1 (ix2 z q)) (Subsingleton.elim _ _)
  rw [dif_neg (by omega), if_neg h1]
  by_cases h2 : a.val = 2
  · rw [dif_pos (by omega), if_pos h2]
    exact congrArg (fun z => a2 (ix2 z q)) (Subsingleton.elim _ _)
  rw [dif_neg (by omega), if_neg h2]

end Cert.Reference3Ideal.InProj
-- ==== Proof.InClaim.lean ====
module

public import proofs.«01_k».proof.Defs
public import proofs.«01_k».proof.Proof.Finite
public import proofs.«01_k».proof.Proof.InFinal
public import proofs.«01_k».proof.Proof.InRef
public import proofs.«01_k».proof.Proof.Gen.Pre_finite_in
public import Idealize.ShloMosaic.Lib.Claim

@[expose] public section

set_option maxRecDepth 16384

noncomputable section

/-! The input projection's backward call computes, at finite arguments, the derivative of the forward lines. -/

namespace Cert.Proof.InProj

open Idealize.ShloMosaic Idealize.ShloMosaic.TcCoe Idealize.SL.Sem Cert.Kernel3Ideal Cert.Kernel3Ideal.InProj Cert.Proof.NormMath Cert.Proof.Finite
open Cert.Reference3Ideal.InProj (gx acc dhT_at down_s down_g rT_at wide_at GX_at col_at ACC_at)

variable (m : (ℓ : Loc nD τ sig) → Buf (Elt Ideal) ℓ) (c : Dev nD)

/-- The two programs' sums for the modulated rows' gradient agree, and so do the scale and the gain. -/
theorem dh_eq (i : Fin 8192) (q : Fin 1024) : Cert.Reference3Ideal.InProj.dhT (pA m c) (wA m c) (ix3 0 i q) = DH m c i q := by
  rw [dhT_at, Fin.sum_univ_tiles 4 896 rfl]
  rfl

theorem s_eq (i : Fin 8192) (q : Fin 1024) : Cert.Reference3Ideal.InProj.down (Cert.Reference3Ideal.InProj.sT (mA m c)) (ix3 0 i q) = S m c q := down_s _ _ _
theorem g_eq (i : Fin 8192) (q : Fin 1024) : Cert.Reference3Ideal.InProj.down (Cert.Reference3Ideal.InProj.gT (gA m c)) (ix3 0 i q) = G m c q := down_g _ _ _
theorem r_eq (i : Fin 8192) (q : Fin 1024) : Cert.Reference3Ideal.InProj.wide (Cert.Reference3Ideal.InProj.rT (xA m c)) (ix3 0 i q) = rs (X m c i) :=
  (wide_at _ _ _).trans (rT_at _ _)

/-- The sums over all rows. -/
theorem ref7 : acc (xA m c) (pA m c) (mA m c) (gA m c) (wA m c) = G7 m c := by
  funext y; idx_vars y
  unfold acc
  rw [ACC_at]
  show _ = ∑ s : Fin 16, ∑ p : Fin 512, term m c y0 y1 ⟨s.val * 512 + p.val, by omega⟩
  refine Eq.trans ?_ (Fin.sum_univ_tiles 16 512 rfl (fun r => term m c y0 y1 r))
  unfold term
  by_cases h0 : y0.val = 0
  · simp only [h0, if_true]
    rw [col_at]
    exact Finset.sum_congr rfl fun i _ => dh_eq m c i y1
  rw [if_neg h0]
  by_cases h1 : y0.val = 1
  · rw [if_pos h1, col_at]
    refine Finset.sum_congr rfl fun i _ => ?_
    rw [if_neg h0, if_pos h1, ← dh_eq, ← r_eq m c i y1, ← g_eq m c i y1]
    exact (mul_comm _ _).trans (mul_assoc _ _ _).symm
  rw [if_neg h1]
  by_cases h2 : y0.val = 2
  · rw [if_pos h2, col_at]
    refine Finset.sum_congr rfl fun i _ => ?_
    rw [if_neg h0, if_neg h1, if_pos h2, ← dh_eq, ← r_eq m c i y1, ← s_eq m c i y1]
    exact (mul_left_comm _ _ _).trans (mul_assoc _ _ _).symm
  rw [if_neg h2]
  exact (Finset.sum_eq_zero fun i _ => by rw [if_neg h0, if_neg h1, if_neg h2]).symm

section Finite

variable (h : Cert.Pre_Kernel3Ideal_finite_in (hPre_finite_in := Cert.Pre_finite_in.Gen.facts) m)

include h in
theorem fin_x (i : S1x8192x1024.Idx) : Re (xA m c i) := re_of_lt (xA m c) _ (fun _ => rfl) (h c).1 _
include h in
theorem fin_p (i : S1x8192x3584.Idx) : Re (pA m c i) := re_of_lt (pA m c) _ (fun _ => rfl) (h c).2.1 _
include h in
theorem fin_m (i : S1x6144.Idx) : Re (mA m c i) := re_of_lt (mA m c) _ (fun _ => rfl) (h c).2.2.1 _
include h in
theorem fin_g (i : S1x1024.Idx) : Re (gA m c i) := re_of_lt (gA m c) _ (fun _ => rfl) (h c).2.2.2.1 _
include h in
theorem fin_w (i : S1x1024x3584.Idx) : Re (wA m c i) := re_of_lt (wA m c) _ (fun _ => rfl) (h c).2.2.2.2 _

include h in
/-- The normalised rows' gradient is real. -/
theorem D_re (i : Fin 8192) (q : Fin 1024) : Re (DH m c i q * (G m c q * S m c q)) :=
  (Re.sum _ _ fun j => Re.sum _ _ fun k => (fin_p m c h _).mul (fin_w m c h _)).mul ((fin_g m c h _).mul (O_re.add (fin_m m c h _)))

include h in
theorem ref6 : gx (xA m c) (bA m c) (pA m c) (mA m c) (gA m c) (wA m c) = G6 m c := by
  funext y; idx_vars y
  unfold gx
  rw [GX_at]
  have e : (fun k => mulf (mulf (Cert.Reference3Ideal.InProj.dhT (pA m c) (wA m c)) (Cert.Reference3Ideal.InProj.down (Cert.Reference3Ideal.InProj.sT (mA m c))))
      (Cert.Reference3Ideal.InProj.down (Cert.Reference3Ideal.InProj.gT (gA m c))) (ix3 0 y0 k)) = fun k => DH m c y0 k * (G m c k * S m c k) := by
    funext k
    rw [← dh_eq, ← s_eq m c y0 k, ← g_eq m c y0 k]
    exact (mul_assoc _ _ _).trans (congrArg _ (mul_comm _ _))
  rw [e]
  exact plain_kern (X m c y0) _ _ _ (fun k => fin_x m c h _) fun k => D_re m c h _ _

end Finite

theorem algebraic : Cert.algebraic_Kernel3Ideal_Reference3Ideal_pre_finite_in (hKernel3Ideal := Cert.Kernel3Ideal.Gen.facts)
    (hReference3Ideal := Cert.Reference3Ideal.Gen.facts) (hPre_finite_in := Cert.Pre_finite_in.Gen.facts) := by
  intro m g m' g' hp hm
  refine ⟨fun c => G6 m c, fun c => G7 m c, ?_, ?_⟩
  · refine (θ_run _ _ _).mono (fun r h c => ?_) (Cert.Kernel3Ideal.Value.run_blocks (F := Ideal) m g)
    obtain ⟨h6, h7, hargs⟩ := h c
    exact ⟨h6.trans (final6 m c), h7.trans (final7 m c), hargs⟩
  · refine (θ_run _ _ _).mono (fun r h c => ?_) (Cert.Reference3Ideal.Value.run (F := Ideal) m' g')
    obtain ⟨h6, h7, hargs⟩ := h c
    obtain ⟨a0, a1, a2, a3, a4, a5⟩ := hm c
    have e6 := ref6 m c hp; have e7 := ref7 m c
    unfold xA pA mA gA wA at e6 e7
    unfold bA at e6
    rw [← a0, ← a1, ← a3, ← a4, ← a5] at e6 e7
    rw [← a2] at e6
    exact ⟨h6.trans e6, h7.trans e7, hargs⟩

end Cert.Proof.InProj
-- ==== Proof.MlpRun.lean ====
module

public import proofs.«01_k».proof.Proof.Gen.Kernel4Ideal.Value
public import Idealize.ShloMosaic.Lib.Pipeline.ValueKit
public import Idealize.ShloMosaic.Lib.Pointwise
public import proofs.«01_k».proof.Proof.NormMath
public import proofs.«01_k».proof.Proof.RowStores
public import Idealize.ShloMosaic.Lib.Pipeline.ReadBack

@[expose] public section

set_option maxRecDepth 16384

noncomputable section

namespace Cert.Kernel4Ideal.Mlp

open Cert.Kernel4Ideal Cert.Kernel4Ideal.Gen Idealize.ShloMosaic Idealize.ShloMosaic.TcCoe Idealize.SL.Sem

open Cert.Proof.NormMath

variable (x0 : Vec Ideal S512x4096 .bf16) (x1 x2 : Vec Ideal S512x1024 .f32) (x3 : Vec Ideal S512x1024 .bf16) (x4 : Vec Ideal S6x1024 .f32)
  (x5 : Vec Ideal S1x1024 .f32) (x6 : Vec Ideal S4x1024x1024 .bf16)

/-- The gradient of the normalised rows of a block: the four column blocks of the product one after another. -/
def dh (p : Fin 512) (q : Fin 1024) : EReal := ∑ j : Fin 4, ∑ k : Fin 1024, x0 (ix2 p ⟨j.val * 1024 + k.val, by omega⟩) * x6 (ix3 j q k)

theorem pay1_at (p : Fin 512) (q : Fin 1024) :
    k0_pay1 (View.ld x0 (Rect.unit (s := S512x4096) ![0, 0] S512x1024.size inb_S512x4096_S512x1024_0_0)) (View.ld x6 (Rect.unit (s := S4x1024x1024) ![0, 0, 0] S1x1024x1024.size inb_S4x1024x1024_S1x1024x1024_0_0_0))
      (View.ld x0 (Rect.unit (s := S512x4096) ![0, 1024] S512x1024.size inb_S512x4096_S512x1024_0_1024)) (View.ld x6 (Rect.unit (s := S4x1024x1024) ![1, 0, 0] S1x1024x1024.size inb_S4x1024x1024_S1x1024x1024_1_0_0))
      (View.ld x0 (Rect.unit (s := S512x4096) ![0, 2048] S512x1024.size inb_S512x4096_S512x1024_0_2048)) (View.ld x6 (Rect.unit (s := S4x1024x1024) ![2, 0, 0] S1x1024x1024.size inb_S4x1024x1024_S1x1024x1024_2_0_0))
      (View.ld x0 (Rect.unit (s := S512x4096) ![0, 3072] S512x1024.size inb_S512x4096_S512x1024_0_3072)) (View.ld x6 (Rect.unit (s := S4x1024x1024) ![3, 0, 0] S1x1024x1024.size inb_S4x1024x1024_S1x1024x1024_3_0_0)) (ix2 p q)
      = dh x0 x6 p q := by
  unfold dh
  rw [Fin.sum_univ_four]
  pointwise [k0_pay1]

variable (v22 v24 v61 : Vec Ideal S512x1024 .f32) (v25 v27 v65 v : Vec Ideal S1x1024 .f32) (v71 : Vec Ideal S512x1024 .bf16)

theorem pay5_at (p : Fin 512) : k0_pay5 (k0_pay4 v24) (ix2 p 0) = rs fun k => v24 (ix2 p k) := by
  unfold rs msq W E
  pointwise [k0_pay5, k0_pay4, k0_pay2]

theorem pay6_at (p : Fin 512) (q : Fin 1024) : k0_pay6 (k0_pay2 v24) (k0_pay4 v24) (ix2 p q) = v24 (ix2 p q) * rs fun k => v24 (ix2 p k) := by
  rw [← pay5_at]
  pointwise [k0_pay6, k0_pay2]

theorem pay9_at (p : Fin 512) (q : Fin 1024) : k0_pay9 v22 (k0_pay2 v24) v25 v27 (k0_pay4 v24) v61 (ix2 p q)
    = kern (fun k => v24 (ix2 p k)) (fun k => v22 (ix2 p k) * (v25 (ix2 0 k) * (O + v27 (ix2 0 k)))) (v61 (ix2 p q)) q := by
  unfold kern O W
  pointwise [k0_pay9]
  simp only [pay6_at, pay5_at]

theorem pay10_at (p : Fin 512) (q : Fin 1024) : k0_pay10 v22 (k0_pay2 v24) v25 v27 (k0_pay4 v24) v61 v65 (ix2 p q)
    = kern (fun k => v24 (ix2 p k)) (fun k => v22 (ix2 p k) * (v25 (ix2 0 k) * (O + v27 (ix2 0 k)))) (v61 (ix2 p q)) q * v65 (ix2 0 q) := by
  rw [← pay9_at]
  pointwise [k0_pay10]

theorem pay12_at (q : Fin 1024) : k0_pay12 v22 v (ix2 0 q) = v (ix2 0 q) + ∑ p : Fin 512, v22 (ix2 p q) := by
  pointwise [k0_pay12]

theorem pay13_at (q : Fin 1024) : k0_pay13 (k0_pay7 v22 (k0_pay2 v24) v25 (k0_pay4 v24)) v (ix2 0 q)
    = v (ix2 0 q) + ∑ p : Fin 512, v22 (ix2 p q) * (v24 (ix2 p q) * rs fun k => v24 (ix2 p k)) * v25 (ix2 0 q) := by
  pointwise [k0_pay13, k0_pay7]
  simp only [pay6_at]

theorem pay14_at (q : Fin 1024) : k0_pay14 (k0_pay8 v22 (k0_pay2 v24) v27 (k0_pay4 v24)) v (ix2 0 q)
    = v (ix2 0 q) + ∑ p : Fin 512, v22 (ix2 p q) * (v24 (ix2 p q) * rs fun k => v24 (ix2 p k)) * (O + v27 (ix2 0 q)) := by
  unfold O
  pointwise [k0_pay14, k0_pay8]
  simp only [pay6_at]

theorem pay15_at (q : Fin 1024) : k0_pay15 (k0_pay9 v22 (k0_pay2 v24) v25 v27 (k0_pay4 v24) v61) v71 v (ix2 0 q)
    = v (ix2 0 q) + ∑ p : Fin 512, kern (fun k => v24 (ix2 p k)) (fun k => v22 (ix2 p k) * (v25 (ix2 0 k) * (O + v27 (ix2 0 k)))) (v61 (ix2 p q)) q * v71 (ix2 p q) := by
  simp only [← pay9_at]
  pointwise [k0_pay15]

/-- The gradient of a block's rows before the norm. -/
def dx (p : Fin 512) (q : Fin 1024) : EReal := kern (fun k => x1 (ix2 p k)) (fun k => dh x0 x6 p k * (x5 (ix2 0 k) * (O + x4 (ix2 4 k)))) (x2 (ix2 p q)) q

/-- What a block adds to the eight rows of column sums: the shift's, the scale's, the gain's and the gate's gradients, and nothing to the others. -/
def stepAt (a : Fin 8) (q : Fin 1024) : EReal :=
  if a.val = 0 then ∑ p : Fin 512, dh x0 x6 p q
  else if a.val = 1 then ∑ p : Fin 512, dh x0 x6 p q * (x1 (ix2 p q) * rs fun k => x1 (ix2 p k)) * x5 (ix2 0 q)
  else if a.val = 2 then ∑ p : Fin 512, dh x0 x6 p q * (x1 (ix2 p q) * rs fun k => x1 (ix2 p k)) * (O + x4 (ix2 4 q))
  else if a.val = 3 then ∑ p : Fin 512, dx x0 x1 x2 x4 x5 x6 p q * x3 (ix2 p q)
  else 0

def step (y : S8x1024.Idx) : EReal := stepAt x0 x1 x2 x3 x4 x5 x6 (y 0) (y 1)

variable (c : Dev nD) (i : grid0.Coords) (arg1 : Memref sig .tc .vmem S512x4096 .bf16) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S6x1024 .f32) (harg5 : arg5.IsWhole) (arg6 : Memref sig .tc .vmem S1x1024 .f32) (harg6 : arg6.IsWhole) (arg7 : Memref sig .tc .vmem S4x1024x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S8x1024 .f32) (harg10 : arg10.IsWhole)
  (xo9 : Vec Ideal S8x1024 .f32)

theorem out_B_7 (hc0 : ¬cond0_0 i) (p : Fin 512) (q : Fin 1024) :
    out0_B_7 c i arg1 harg1 arg2 harg2 arg3 harg3 arg4 harg4 arg5 harg5 arg6 harg6 arg7 harg7 arg8 harg8 arg9 harg9 arg10 harg10 hc0 x0 x1 x2 x3 x4 x5 x6 xo9 (ix2 p q) = dx x0 x1 x2 x4 x5 x6 p q := by
  unfold dx
  frame_out
  rw [pay9_at]
  simp only [pay1_at]
  pointwise [k0_pay3]

theorem out_A_7 (hc0 : cond0_0 i) (p : Fin 512) (q : Fin 1024) :
    out0_A_7 c i arg1 harg1 arg2 harg2 arg3 harg3 arg4 harg4 arg5 harg5 arg6 harg6 arg7 harg7 arg8 harg8 arg9 harg9 arg10 harg10 hc0 x0 x1 x2 x3 x4 x5 x6 (ix2 p q) = dx x0 x1 x2 x4 x5 x6 p q := by
  unfold dx
  frame_out
  rw [pay9_at]
  simp only [pay1_at]
  pointwise [k0_pay3]

theorem out_B_8 (hc0 : ¬cond0_0 i) (p : Fin 512) (q : Fin 1024) :
    out0_B_8 c i arg1 harg1 arg2 harg2 arg3 harg3 arg4 harg4 arg5 harg5 arg6 harg6 arg7 harg7 arg8 harg8 arg9 harg9 arg10 harg10 hc0 x0 x1 x2 x3 x4 x5 x6 xo9 (ix2 p q) = dx x0 x1 x2 x4 x5 x6 p q * x4 (ix2 2 q) := by
  unfold dx
  frame_out
  rw [pay10_at]
  simp only [pay1_at]
  pointwise [k0_pay3]

theorem out_A_8 (hc0 : cond0_0 i) (p : Fin 512) (q : Fin 1024) :
    out0_A_8 c i arg1 harg1 arg2 harg2 arg3 harg3 arg4 harg4 arg5 harg5 arg6 harg6 arg7 harg7 arg8 harg8 arg9 harg9 arg10 harg10 hc0 x0 x1 x2 x3 x4 x5 x6 (ix2 p q) = dx x0 x1 x2 x4 x5 x6 p q * x4 (ix2 2 q) := by
  unfold dx
  frame_out
  rw [pay10_at]
  simp only [pay1_at]
  pointwise [k0_pay3]

theorem out_B_9 (hc0 : ¬cond0_0 i) (y : S8x1024.Idx) :
    out0_B_9 c i arg1 harg1 arg2 harg2 arg3 harg3 arg4 harg4 arg5 harg5 arg6 harg6 arg7 harg7 arg8 harg8 arg9 harg9 arg10 harg10 hc0 x0 x1 x2 x3 x4 x5 x6 xo9 y = xo9 y + step x0 x1 x2 x3 x4 x5 x6 y := by
  frame_out
  idx_vars y
  simp only [Cert.Proof.RowStores.read_row]
  rw [pay15_at, pay14_at, pay13_at, pay12_at]
  simp only [pay1_at]
  rw [View.writes_nil, harg10.read_unread]
  show _ = xo9 (ix2 y0 y1) + stepAt x0 x1 x2 x3 x4 x5 x6 y0 y1
  unfold stepAt dx
  pointwise [k0_pay3]
  by_cases h3 : y0.val = 3
  · obtain rfl : y0 = 3 := Fin.ext h3
    rfl
  by_cases h2 : y0.val = 2
  · obtain rfl : y0 = 2 := Fin.ext h2
    rfl
  by_cases h1 : y0.val = 1
  · obtain rfl : y0 = 1 := Fin.ext h1
    rfl
  by_cases h0 : y0.val = 0
  · obtain rfl : y0 = 0 := Fin.ext h0
    rfl
  simp only [h0, h1, h2, h3, if_false, add_zero]

theorem out_A_9 (hc0 : cond0_0 i) (y : S8x1024.Idx) :
    out0_A_9 c i arg1 harg1 arg2 harg2 arg3 harg3 arg4 harg4 arg5 harg5 arg6 harg6 arg7 harg7 arg8 harg8 arg9 harg9 arg10 harg10 hc0 x0 x1 x2 x3 x4 x5 x6 y = step x0 x1 x2 x3 x4 x5 x6 y := by
  frame_open
  simp (disch := decide) only [↓ View.readCov_skip, ↓ View.readCov_cons_toLoadRect, ↓ View.readCov_fill]
  frame_out
  idx_vars y
  rw [← View.read_writes_junk_eq_canon VO0_9]
  simp only [Cert.Proof.RowStores.read_row]
  rw [pay15_at, pay14_at, pay13_at, pay12_at]
  simp only [pay1_at]
  rw [Cert.Proof.RowStores.read_fill]
  show _ = stepAt x0 x1 x2 x3 x4 x5 x6 y0 y1
  unfold stepAt dx
  pointwise [k0_pay3, k0_pay11]
  by_cases h3 : y0.val = 3
  · rw [if_pos h3, if_neg (by omega), if_neg (by omega), if_neg (by omega), if_pos h3]
  rw [if_neg h3]
  by_cases h2 : y0.val = 2
  · rw [if_pos h2, if_neg (by omega), if_neg (by omega), if_pos h2]
  rw [if_neg h2]
  by_cases h1 : y0.val = 1
  · rw [if_pos h1, if_neg (by omega), if_pos h1]
  rw [if_neg h1]
  by_cases h0 : y0.val = 0
  · rw [if_pos h0, if_pos h0]
  · rw [if_neg h0, if_neg h0, if_neg h1, if_neg h2, if_neg h3]

end Cert.Kernel4Ideal.Mlp
-- ==== Proof.MlpFinal.lean ====
module

public import proofs.«01_k».proof.Proof.Gen.Kernel4Ideal.Value
public import Idealize.ShloMosaic.Lib.Pipeline.ValueKit
public import Idealize.ShloMosaic.Lib.Pointwise
public import proofs.«01_k».proof.Proof.MlpRun

@[expose] public section

set_option maxRecDepth 16384

noncomputable section

namespace Cert.Kernel4Ideal.Mlp

open Cert.Kernel4Ideal Cert.Kernel4Ideal.Gen Idealize.ShloMosaic Idealize.ShloMosaic.TcCoe Idealize.SL.Sem

/-! The three arrays the kernel returns, as functions of its arguments: the two gradients of the rows, and the sums over all rows. -/

open Cert.Proof.NormMath
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0, 0] ∧ win0_7.index t = ![t.val, 0] ∧ win0_8.index t = ![t.val, 0]
    ∧ win0_9.index t = ![0, 0] :=
  (by decide +kernel : ∀ t : Fin grid0.N, _)

theorem N16 (t : Fin cfg0.N) : t.val < 16 := lt_of_lt_of_eq t.isLt Gen.N_0

/-- Row `p` of the block of rows at grid point `t`, as a row of the whole array. -/
def row (t : Fin cfg0.N) (p : Fin 512) : Fin 8192 := ⟨t.val * 512 + p.val, by have := N16 t; omega⟩

/-- The argument arrays of device `c`. -/
abbrev xA (c : Dev nD) : FVec Ideal S1x8192x1024 .f32 := m ((c.tc : Thread nD τ).loc main_arg0)
abbrev oA (c : Dev nD) : FVec Ideal S1x8192x1024 .f32 := m ((c.tc : Thread nD τ).loc main_arg1)
abbrev pA (c : Dev nD) : FVec Ideal S1x8192x4096 .f32 := m ((c.tc : Thread nD τ).loc main_arg2)
abbrev bA (c : Dev nD) : FVec Ideal S1x8192x1024 .f32 := m ((c.tc : Thread nD τ).loc main_arg3)
abbrev mA (c : Dev nD) : FVec Ideal S1x6144 .f32 := m ((c.tc : Thread nD τ).loc main_arg4)
abbrev gA (c : Dev nD) : FVec Ideal S1x1024 .f32 := m ((c.tc : Thread nD τ).loc main_arg5)
abbrev wA (c : Dev nD) : FVec Ideal S1x1024x4096 .f32 := m ((c.tc : Thread nD τ).loc main_arg6)

/-- The gradient of the normalised rows, the rows themselves, and the rows of the arrays that scale them. -/
def DH (c : Dev nD) (r : Fin 8192) (q : Fin 1024) : EReal :=
  ∑ j : Fin 4, ∑ k : Fin 1024, pA m c (ix3 0 r ⟨j.val * 1024 + k.val, by omega⟩) * wA m c (ix3 0 q ⟨j.val * 1024 + k.val, by omega⟩)
def X (c : Dev nD) (r : Fin 8192) (q : Fin 1024) : EReal := xA m c (ix3 0 r q) + mA m c (ix2 0 ⟨2048 + q.val, by omega⟩) * oA m c (ix3 0 r q)
def G (c : Dev nD) (q : Fin 1024) : EReal := gA m c (ix2 0 q)
def S (c : Dev nD) (q : Fin 1024) : EReal := O + mA m c (ix2 0 ⟨4096 + q.val, by omega⟩)
def T (c : Dev nD) (q : Fin 1024) : EReal := mA m c (ix2 0 ⟨2048 + q.val, by omega⟩)

theorem blk0 (c : Dev nD) (t : Fin cfg0.N) (p : Fin 512) (q : Fin 4096) : iblk m c 0 t (ix2 p q) = pA m c (ix3 0 (row t p) q) := by
  blk_simp [iblk]
  entry_read
  pointwise
  blk_point [idx t, row]

theorem blk1 (c : Dev nD) (t : Fin cfg0.N) (p : Fin 512) (q : Fin 1024) : iblk m c 1 t (ix2 p q) = X m c (row t p) q := by
  unfold X
  blk_simp [iblk]
  entry_read
  pointwise
  blk_point [idx t, row]

theorem blk2 (c : Dev nD) (t : Fin cfg0.N) (p : Fin 512) (q : Fin 1024) : iblk m c 2 t (ix2 p q) = bA m c (ix3 0 (row t p) q) := by
  blk_simp [iblk]
  entry_read
  pointwise
  blk_point [idx t, row]

theorem blk3 (c : Dev nD) (t : Fin cfg0.N) (p : Fin 512) (q : Fin 1024) : iblk m c 3 t (ix2 p q) = oA m c (ix3 0 (row t p) q) := by
  blk_simp [iblk]
  entry_read
  pointwise
  blk_point [idx t, row]

theorem blk4 (c : Dev nD) (t : Fin cfg0.N) (a : Fin 6) (q : Fin 1024) : iblk m c 4 t (ix2 a q) = mA m c (ix2 0 ⟨a.val * 1024 + q.val, by omega⟩) := by
  blk_simp [iblk]
  entry_read
  pointwise
  blk_point [idx t]

theorem blk5 (c : Dev nD) (t : Fin cfg0.N) (q : Fin 1024) : iblk m c 5 t (ix2 0 q) = gA m c (ix2 0 q) := by
  blk_simp [iblk]
  entry_read
  pointwise
  blk_point [idx t]

theorem blk6 (c : Dev nD) (t : Fin cfg0.N) (j : Fin 4) (q : Fin 1024) (k : Fin 1024) :
    iblk m c 6 t (ix3 j q k) = wA m c (ix3 0 q ⟨j.val * 1024 + k.val, by omega⟩) := by
  blk_simp [iblk]
  entry_read
  pointwise
  blk_point [idx t]

/-- The rows' gradient, and that of what was added to them. -/
def D1 (c : Dev nD) (r : Fin 8192) (q : Fin 1024) : EReal := kern (X m c r) (fun k => DH m c r k * (G m c k * S m c k)) (bA m c (ix3 0 r q)) q
def G7 (c : Dev nD) : S8192x1024.Idx → EReal := fun y => D1 m c (y 0) (y 1)
def G8 (c : Dev nD) : S8192x1024.Idx → EReal := fun y => D1 m c (y 0) (y 1) * T m c (y 1)

/-- What row `r` adds to the eight rows of sums. -/
def term (c : Dev nD) (a : Fin 8) (q : Fin 1024) (r : Fin 8192) : EReal :=
  if a.val = 0 then DH m c r q
  else if a.val = 1 then DH m c r q * (X m c r q * rs (X m c r)) * G m c q
  else if a.val = 2 then DH m c r q * (X m c r q * rs (X m c r)) * S m c q
  else if a.val = 3 then D1 m c r q * oA m c (ix3 0 r q)
  else 0

def G9 (c : Dev nD) : S8x1024.Idx → EReal := fun y => ∑ s : Fin 16, ∑ p : Fin 512, term m c (y 0) (y 1) ⟨s.val * 512 + p.val, by omega⟩

theorem dh_at (c : Dev nD) (t : Fin cfg0.N) (p : Fin 512) (q : Fin 1024) : dh (iblk m c 0 t) (iblk m c 6 t) p q = DH m c (row t p) q := by
  unfold dh DH
  simp only [blk0, blk6]

theorem dx_at (c : Dev nD) (t : Fin cfg0.N) (p : Fin 512) (q : Fin 1024) :
    dx (iblk m c 0 t) (iblk m c 1 t) (iblk m c 2 t) (iblk m c 4 t) (iblk m c 5 t) (iblk m c 6 t) p q = D1 m c (row t p) q := by
  unfold dx D1
  simp only [dh_at, blk1, blk2, blk4, blk5]
  rfl

theorem gx_out (c : Dev nD) (t : Fin cfg0.N) (p : Fin 512) (q : Fin 1024) : (outsAt0 m c t.val t.isLt).1 (ix2 p q) = G7 m c (ix2 (row t p) q) := by
  show _ = D1 m c (row t p) q
  by_cases h0 : t.val % 16 = 0
  · rw [outsAt0_A m c t h0]
    dsimp only
    rw [out_A_7, dx_at]
  · rw [outsAt0_B m c t h0]
    dsimp only
    rw [out_B_7, dx_at]

theorem go_out (c : Dev nD) (t : Fin cfg0.N) (p : Fin 512) (q : Fin 1024) : (outsAt0 m c t.val t.isLt).2.1 (ix2 p q) = G8 m c (ix2 (row t p) q) := by
  show _ = D1 m c (row t p) q * T m c q
  by_cases h0 : t.val % 16 = 0
  · rw [outsAt0_A m c t h0]
    dsimp only
    rw [out_A_8, dx_at, blk4]
    rfl
  · rw [outsAt0_B m c t h0]
    dsimp only
    rw [out_B_8, dx_at, blk4]
    rfl

theorem final7 (c : Dev nD) : (dats m 0 c).arrAt 7 cfg0.N = G7 m c := by
  refine (dats m 0 c).arrAt_eq_of_covers 7 _ (by decide +kernel) fun t _ y => ?_
  blk_simp
  rw [after0_7]
  idx_vars y
  refine (gx_out m c t y0 y1).trans (show G7 m c (ix2 (row t y0) y1) = _ from ?_)
  blk_ext [idx t, row]

theorem final8 (c : Dev nD) : (dats m 0 c).arrAt 8 cfg0.N = G8 m c := by
  refine (dats m 0 c).arrAt_eq_of_covers 8 _ (by decide +kernel) fun t _ y => ?_
  blk_simp
  rw [after0_8]
  idx_vars y
  refine (go_out m c t y0 y1).trans (show G8 m c (ix2 (row t y0) y1) = _ from ?_)
  blk_ext [idx t, row]

theorem step_at (c : Dev nD) (t : Fin cfg0.N) (a : Fin 8) (q : Fin 1024) :
    step (iblk m c 0 t) (iblk m c 1 t) (iblk m c 2 t) (iblk m c 3 t) (iblk m c 4 t) (iblk m c 5 t) (iblk m c 6 t) (ix2 a q)
      = ∑ p : Fin 512, term m c a q (row t p) := by
  show stepAt (iblk m c 0 t) (iblk m c 1 t) (iblk m c 2 t) (iblk m c 3 t) (iblk m c 4 t) (iblk m c 5 t) (iblk m c 6 t) a q = _
  unfold stepAt term
  simp only [dh_at, dx_at, blk1, blk3, blk4, blk5]
  split_ifs
  · rfl
  · rfl
  · rfl
  · rfl
  · exact Finset.sum_const_zero.symm

theorem pt_lt (t : Fin cfg0.N) (s : Fin 16) : 16 * (t.val / 16) + s.val < cfg0.N := by
  have := N16 t
  exact lt_of_lt_of_eq (by omega : 16 * (t.val / 16) + s.val < 16) Gen.N_0.symm

/-- The points of the run that ends at the point where the sums are written back. -/
def pt (t : Fin cfg0.N) (s : Fin 16) : Fin cfg0.N := ⟨16 * (t.val / 16) + s.val, pt_lt t s⟩

theorem pt_row (t : Fin cfg0.N) (s : Fin 16) (p : Fin 512) : row (pt t s) p = ⟨s.val * 512 + p.val, by omega⟩ := by
  have := N16 t
  exact Fin.ext (by simp only [row, pt]; omega)

theorem after9_sum (c : Dev nD) (t : Fin cfg0.N) (hf : (cfg0.win 9).flush t = true) (y : S8x1024.Idx) :
    (outsAt0 m c t.val t.isLt).2.2 y = ∑ s : Fin 16, step (iblk m c 0 (pt t s)) (iblk m c 1 (pt t s)) (iblk m c 2 (pt t s)) (iblk m c 3 (pt t s))
      (iblk m c 4 (pt t s)) (iblk m c 5 (pt t s)) (iblk m c 6 (pt t s)) y := by
  rw [Pipeline.eq_sum_fin_of_reset_step_apply_of_flush (fun n h => (outsAt0 m c n h).2.2) 16 (fun _ => 0)
    (fun t => step (iblk m c 0 t) (iblk m c 1 t) (iblk m c 2 t) (iblk m c 3 t) (iblk m c 4 t) (iblk m c 5 t) (iblk m c 6 t))
    (fun t h j => by rw [outsAt0_A m c t h]; dsimp only; rw [out_A_9, zero_add]) (fun t h j => by rw [outsAt0_B m c t h]; dsimp only; rw [out_B_9]) t ((flush0_9 t).mp hf) y, zero_add]
  rfl

theorem final9 (c : Dev nD) : (dats m 0 c).arrAt 9 cfg0.N = G9 m c := by
  refine (dats m 0 c).arrAt_eq_of_covers 9 _ (by decide +kernel) fun t hf y => ?_
  blk_simp
  rw [after0_9]
  idx_vars y
  rw [after9_sum m c t hf]
  simp only [step_at, pt_row]
  refine (show G9 m c (ix2 y0 y1) = _ from ?_)
  blk_ext [idx t]

end Cert.Kernel4Ideal.Mlp
-- ==== Proof.MlpRef.lean ====
module

public import proofs.«01_k».proof.Proof.Gen.Reference4Ideal.Run
public import proofs.«01_k».proof.Proof.NormMath
public import proofs.«01_k».proof.Proof.UnitAxes
public import Idealize.ShloMosaic.Lib.Pointwise

@[expose] public section

set_option maxRecDepth 16384

noncomputable section

/-! The derivative of the channel mixer's first lines, read entry by entry. -/

namespace Cert.Reference4Ideal.Mlp

open Cert.Reference4Ideal Cert.Reference4Ideal.Gen Idealize.ShloMosaic Idealize.ShloMosaic.TcCoe Idealize.SL.Sem
open Cert.Proof.NormMath

variable (x o b : FVec Ideal S1x8192x1024 .f32) (p : FVec Ideal S1x8192x4096 .f32) (mo : FVec Ideal S1x6144 .f32) (g : FVec Ideal S1x1024 .f32)
  (w : FVec Ideal S1x1024x4096 .f32)

/-- The modulated rows' gradient, one plus the scale, and the gain. -/
abbrev dhT : FVec Ideal S1x8192x1024 .f32 := Host.dotGeneral dot_S1x8192x4096_S1024x4096_S1x8192x1024_2_1_01_0_n_n none p (shapeCast _ w shapeCasts_S1x1024x4096_S1024x4096)
abbrev sT : FVec Ideal S1x1x1024 .f32 := addf (broadcastInDim S1x1x1024 ![] bcast_S_S1x1x1024 (constant S_ .f32 0x3F800000#32))
  (broadcastInDim S1x1x1024 ![0, 2] bcast_S1x1024_S1x1x1024_0_2 (extractStridedSlice S1x1024 ![0, 4096] mo slices_S1x6144_S1x1024_0_4096))
abbrev gT : FVec Ideal S1x1x1024 .f32 := broadcastInDim S1x1x1024 ![2] bcast_S1024_S1x1x1024_2 (shapeCast _ g shapeCasts_S1x1024_S1024)
abbrev down (z : FVec Ideal S1x1x1024 .f32) : FVec Ideal S1x8192x1024 .f32 := broadcastInDim S1x8192x1024 ![0, 1, 2] bcast_S1x1x1024_S1x8192x1024_0_1_2 z

/-- The gate, and the rows after what it lets through is added. -/
abbrev tT0 : FVec Ideal S1x1x1024 .f32 := broadcastInDim S1x1x1024 ![0, 2] bcast_S1x1024_S1x1x1024_0_2 (extractStridedSlice S1x1024 ![0, 2048] mo slices_S1x6144_S1x1024_0_2048)
abbrev x1T : FVec Ideal S1x8192x1024 .f32 := addf x (mulf (down (tT0 mo)) o)

/-- The mean square of every row, and the norm's factor. -/
abbrev vT : FVec Ideal S1x8192x1 .f32 := addf (Host.divf (broadcastInDim S1x8192x1 ![0, 1] bcast_S1x8192_S1x8192x1_0_1
    (Host.reduceAdd (mulf x x) (constant S_ .f32 0x00000000#32) reducesTo_S1x8192x1024_S1x8192_d2 h_S_))
    (broadcastInDim S1x8192x1 ![] bcast_S_S1x8192x1 (constant S_ .f32 0x44800000#32)))
  (broadcastInDim S1x8192x1 ![] bcast_S_S1x8192x1 (constant S_ .f32 0x358637BD#32))
abbrev rT : FVec Ideal S1x8192x1 .f32 := Host.rsqrt (vT x)
abbrev wide (z : FVec Ideal S1x8192x1 .f32) : FVec Ideal S1x8192x1024 .f32 := broadcastInDim S1x8192x1024 ![0, 1, 2] bcast_S1x8192x1_S1x8192x1024_0_1_2 z

/-- What the norm's factor passes on to each of the two factors of the row's square. -/
abbrev tT (x d : FVec Ideal S1x8192x1024 .f32) : FVec Ideal S1x8192x1024 .f32 :=
  broadcastInDim S1x8192x1024 ![0, 1] bcast_S1x8192_S1x8192x1024_0_1 (broadcastInDim S1x8192 ![1] bcast_S8192_S1x8192_1
    (Host.reduceAdd (Host.divf (mulf (shapeCast _ (Host.reduceAdd (mulf x d) (constant S_ .f32 0x00000000#32) reducesTo_S1x8192x1024_S1x8192_d2 h_S_) shapeCasts_S1x8192_S1x8192x1)
      (mulf (broadcastInDim S1x8192x1 ![] bcast_S_S1x8192x1 (constant S_ .f32 0xBF000000#32)) (Host.divf (rT x) (vT x))))
      (broadcastInDim S1x8192x1 ![] bcast_S_S1x8192x1 (constant S_ .f32 0x44800000#32))) (constant S_ .f32 0x00000000#32) reducesTo_S1x8192x1_S8192_d0_2 h_S_))

/-- The rows' gradient, from the gradient `d` of the normalised rows. -/
abbrev GX (x d b : FVec Ideal S1x8192x1024 .f32) : FVec Ideal S1x8192x1024 .f32 :=
  addf (addf (addf b (mulf d (wide (rT x)))) (mulf x (tT x d))) (mulf (tT x d) x)

/-- A sum over all rows, and the eight rows of such sums. -/
abbrev col (z : FVec Ideal S1x8192x1024 .f32) : FVec Ideal S1x1024 .f32 := broadcastInDim S1x1024 ![1] bcast_S1024_S1x1024_1
  (Host.reduceAdd (shapeCast _ (Host.reduceAdd z (constant S_ .f32 0x00000000#32) reducesTo_S1x8192x1024_S1x1024_d1 h_S_) shapeCasts_S1x1024_S1x1x1024)
    (constant S_ .f32 0x00000000#32) reducesTo_S1x1x1024_S1024_d0_1 h_S_)
abbrev ACC (a0 a1 a2 a3 : FVec Ideal S1x1024 .f32) : FVec Ideal S8x1024 .f32 :=
  concatenate S8x1024 0 [⟨S1x1024, a0⟩, ⟨S1x1024, a1⟩, ⟨S1x1024, a2⟩, ⟨S1x1024, a3⟩, ⟨S4x1024, broadcastInDim S4x1024 ![] bcast_S_S4x1024 (constant S_ .f32 0x00000000#32)⟩]
    concatenates_S1x1024_S1x1024_S1x1024_S1x1024_S4x1024_S8x1024_d0

/-- The gradient of the rows, as a block of the step. -/
abbrev dT : FVec Ideal S1x8192x1024 .f32 := GX (x1T x o mo) (mulf (mulf (dhT p w) (down (sT mo))) (down (gT g))) b

/-- The three results, of the arguments. -/
def gx : FVec Ideal S8192x1024 .f32 := shapeCast _ (dT x o b p mo g w) shapeCasts_S1x8192x1024_S8192x1024
def go : FVec Ideal S8192x1024 .bf16 := truncf .bf16 (shapeCast _ (mulf (down (tT0 mo)) (shapeCast _ (dT x o b p mo g w) shapeCasts_S1x8192x1024_S1x8192x1024))
  shapeCasts_S1x8192x1024_S8192x1024) bitsLt_bf16_f32
def acc : FVec Ideal S8x1024 .f32 := ACC (col (dhT p w)) (col (mulf (mulf (mulf (x1T x o mo) (wide (rT (x1T x o mo)))) (down (gT g))) (dhT p w)))
  (col (mulf (mulf (x1T x o mo) (wide (rT (x1T x o mo)))) (mulf (dhT p w) (down (sT mo)))))
  (col (mulf (shapeCast _ (dT x o b p mo g w) shapeCasts_S1x8192x1024_S1x8192x1024) o))

theorem dhT_at (i : Fin 8192) (q : Fin 1024) : dhT p w (ix3 0 i q) = ∑ k : Fin 4096, p (ix3 0 i k) * w (ix3 0 q k) := by pointwise

theorem down_s (i : Fin 8192) (q : Fin 1024) : down (sT mo) (ix3 0 i q) = O + mo (ix2 0 ⟨4096 + q.val, by omega⟩) := by
  unfold O
  pointwise

theorem down_g (i : Fin 8192) (q : Fin 1024) : down (gT g) (ix3 0 i q) = g (ix2 0 q) := by pointwise

theorem down_t (i : Fin 8192) (q : Fin 1024) : down (tT0 mo) (ix3 0 i q) = mo (ix2 0 ⟨2048 + q.val, by omega⟩) := by pointwise

theorem x1T_at (i : Fin 8192) (q : Fin 1024) : x1T x o mo (ix3 0 i q) = x (ix3 0 i q) + mo (ix2 0 ⟨2048 + q.val, by omega⟩) * o (ix3 0 i q) := by
  rw [← down_t mo i q]
  unfold x1T
  generalize down (tT0 mo) = t
  pointwise

theorem vT_at (i : Fin 8192) : vT x (ix3 0 i 0) = msq fun k => x (ix3 0 i k) := by
  unfold msq W E
  pointwise

theorem rT_at (i : Fin 8192) : rT x (ix3 0 i 0) = rs fun k => x (ix3 0 i k) := by
  rw [rs, ← vT_at]
  show Host.rsqrt (vT x) (ix3 0 i 0) = _
  generalize vT x = z
  rfl

theorem wide_at (z : FVec Ideal S1x8192x1 .f32) (i : Fin 8192) (q : Fin 1024) : wide z (ix3 0 i q) = z (ix3 0 i 0) := by pointwise

theorem tT_at (d : FVec Ideal S1x8192x1024 .f32) (i : Fin 8192) (q : Fin 1024) :
    tT x d (ix3 0 i q) = half (fun k => x (ix3 0 i k)) fun k => d (ix3 0 i k) := by
  unfold half
  rw [← rT_at, ← vT_at]
  unfold tT
  generalize rT x = r
  generalize vT x = v
  unfold W H
  pointwise
  rw [Cert.Proof.UnitAxes.outer]
  pointwise

theorem GX_at (d : FVec Ideal S1x8192x1024 .f32) (i : Fin 8192) (q : Fin 1024) :
    GX x d b (ix3 0 i q) = plain (fun k => x (ix3 0 i k)) (fun k => d (ix3 0 i k)) (b (ix3 0 i q)) q := by
  unfold plain
  rw [← rT_at, ← tT_at x d i q, ← wide_at (rT x) i q]
  unfold GX
  generalize tT x d = t
  generalize wide (rT x) = r
  pointwise

theorem col_at (z : FVec Ideal S1x8192x1024 .f32) (q : Fin 1024) : col z (ix2 0 q) = ∑ i : Fin 8192, z (ix3 0 i q) := by
  pointwise
  rw [Cert.Proof.UnitAxes.first]
  pointwise

theorem ACC_at (a0 a1 a2 a3 : FVec Ideal S1x1024 .f32) (a : Fin 8) (q : Fin 1024) : ACC a0 a1 a2 a3 (ix2 a q)
    = if a.val = 0 then a0 (ix2 0 q) else if a.val = 1 then a1 (ix2 0 q) else if a.val = 2 then a2 (ix2 0 q) else if a.val = 3 then a3 (ix2 0 q) else 0 := by
  pointwise
  by_cases h0 : a.val = 0
  · rw [dif_pos (by omega), if_pos h0]
    exact congrArg (fun z => a0 (ix2 z q)) (Subsingleton.elim _ _)
  rw [dif_neg (by omega), if_neg h0]
  by_cases h1 : a.val = 1
  · rw [dif_pos (by omega), if_pos h1]
    exact congrArg (fun z => a1 (ix2 z q)) (Subsingleton.elim _ _)
  rw [dif_neg (by omega), if_neg h1]
  by_cases h2 : a.val = 2
  · rw [dif_pos (by omega), if_pos h2]
    exact congrArg (fun z => a2 (ix2 z q)) (Subsingleton.elim _ _)
  rw [dif_neg (by omega), if_neg h2]
  by_cases h3 : a.val = 3
  · rw [dif_pos (by omega), if_pos h3]
    exact congrArg (fun z => a3 (ix2 z q)) (Subsingleton.elim _ _)
  rw [dif_neg (by omega), if_neg h3]

/-- The entries of the three results, of the pieces' entries. -/
theorem gx_at (i : Fin 8192) (q : Fin 1024) : gx x o b p mo g w (ix2 i q) = dT x o b p mo g w (ix3 0 i q) := by
  unfold gx
  generalize dT x o b p mo g w = d
  pointwise

theorem go_at (i : Fin 8192) (q : Fin 1024) : go x o b p mo g w (ix2 i q) = down (tT0 mo) (ix3 0 i q) * dT x o b p mo g w (ix3 0 i q) := by
  unfold go
  generalize dT x o b p mo g w = d
  generalize down (tT0 mo) = t
  pointwise

theorem same_at (d : FVec Ideal S1x8192x1024 .f32) (i : Fin 8192) (q : Fin 1024) :
    mulf (shapeCast _ d shapeCasts_S1x8192x1024_S1x8192x1024) o (ix3 0 i q) = d (ix3 0 i q) * o (ix3 0 i q) := by pointwise

end Cert.Reference4Ideal.Mlp
-- ==== Proof.MlpClaim.lean ====
module

public import proofs.«01_k».proof.Defs
public import proofs.«01_k».proof.Proof.Finite
public import proofs.«01_k».proof.Proof.MlpFinal
public import proofs.«01_k».proof.Proof.MlpRef
public import proofs.«01_k».proof.Proof.Gen.Pre_finite_mlp
public import Idealize.ShloMosaic.Lib.Claim

@[expose] public section

set_option maxRecDepth 16384

noncomputable section

/-! The backward call of the channel mixer's first half computes, at finite arguments, the derivative of the forward lines. -/

namespace Cert.Proof.Mlp

open Idealize.ShloMosaic Idealize.ShloMosaic.TcCoe Idealize.SL.Sem Cert.Kernel4Ideal Cert.Kernel4Ideal.Mlp Cert.Proof.NormMath Cert.Proof.Finite
open Cert.Reference4Ideal.Mlp (gx go acc dhT sT gT tT0 x1T down wide rT dT dhT_at down_s down_g down_t x1T_at rT_at wide_at GX_at col_at ACC_at gx_at go_at same_at)

variable (m : (ℓ : Loc nD τ sig) → Buf (Elt Ideal) ℓ) (c : Dev nD)

/-- The two programs' sums for the modulated rows' gradient agree, and so do the rows, the scale, the gain and the gate. -/
theorem dh_eq (i : Fin 8192) (q : Fin 1024) : dhT (pA m c) (wA m c) (ix3 0 i q) = DH m c i q := by
  rw [dhT_at, Fin.sum_univ_tiles 4 1024 rfl]
  rfl

theorem s_eq (i : Fin 8192) (q : Fin 1024) : down (sT (mA m c)) (ix3 0 i q) = S m c q := down_s _ _ _
theorem g_eq (i : Fin 8192) (q : Fin 1024) : down (gT (gA m c)) (ix3 0 i q) = G m c q := down_g _ _ _
theorem t_eq (i : Fin 8192) (q : Fin 1024) : down (tT0 (mA m c)) (ix3 0 i q) = T m c q := down_t _ _ _
theorem x_eq (i : Fin 8192) (q : Fin 1024) : x1T (xA m c) (oA m c) (mA m c) (ix3 0 i q) = X m c i q := x1T_at _ _ _ _ _
theorem r_eq (i : Fin 8192) (q : Fin 1024) : wide (rT (x1T (xA m c) (oA m c) (mA m c))) (ix3 0 i q) = rs (X m c i) :=
  ((wide_at _ _ _).trans (rT_at _ _)).trans (congrArg rs (funext fun k => x_eq m c i k))

section Finite

variable (h : Cert.Pre_Kernel4Ideal_finite_mlp (hPre_finite_mlp := Cert.Pre_finite_mlp.Gen.facts) m)

include h in
theorem fin_x (i : S1x8192x1024.Idx) : Re (xA m c i) := re_of_lt (xA m c) _ (fun _ => rfl) (h c).1 _
include h in
theorem fin_o (i : S1x8192x1024.Idx) : Re (oA m c i) := re_of_lt (oA m c) _ (fun _ => rfl) (h c).2.1 _
include h in
theorem fin_p (i : S1x8192x4096.Idx) : Re (pA m c i) := re_of_lt (pA m c) _ (fun _ => rfl) (h c).2.2.1 _
include h in
theorem fin_m (i : S1x6144.Idx) : Re (mA m c i) := re_of_lt (mA m c) _ (fun _ => rfl) (h c).2.2.2.2.1 _
include h in
theorem fin_g (i : S1x1024.Idx) : Re (gA m c i) := re_of_lt (gA m c) _ (fun _ => rfl) (h c).2.2.2.2.2.1 _
include h in
theorem fin_w (i : S1x1024x4096.Idx) : Re (wA m c i) := re_of_lt (wA m c) _ (fun _ => rfl) (h c).2.2.2.2.2.2 _

include h in
/-- The rows and the normalised rows' gradient are real. -/
theorem X_re (i : Fin 8192) (q : Fin 1024) : Re (X m c i q) := (fin_x m c h _).add ((fin_m m c h _).mul (fin_o m c h _))
include h in
theorem D_re (i : Fin 8192) (q : Fin 1024) : Re (DH m c i q * (G m c q * S m c q)) :=
  (Re.sum _ _ fun j => Re.sum _ _ fun k => (fin_p m c h _).mul (fin_w m c h _)).mul ((fin_g m c h _).mul (O_re.add (fin_m m c h _)))

include h in
/-- The gradient of the rows. -/
theorem d_eq (i : Fin 8192) (q : Fin 1024) : dT (xA m c) (oA m c) (bA m c) (pA m c) (mA m c) (gA m c) (wA m c) (ix3 0 i q) = D1 m c i q := by
  unfold dT
  rw [GX_at]
  have e : (fun k => mulf (mulf (dhT (pA m c) (wA m c)) (down (sT (mA m c)))) (down (gT (gA m c))) (ix3 0 i k)) = fun k => DH m c i k * (G m c k * S m c k) := by
    funext k
    rw [← dh_eq, ← s_eq m c i k, ← g_eq m c i k]
    exact (mul_assoc _ _ _).trans (congrArg _ (mul_comm _ _))
  have e' : (fun k => x1T (xA m c) (oA m c) (mA m c) (ix3 0 i k)) = X m c i := funext fun k => x_eq m c i k
  rw [e, e']
  exact plain_kern (X m c i) _ _ _ (fun k => X_re m c h _ _) fun k => D_re m c h _ _

include h in
theorem ref7 : gx (xA m c) (oA m c) (bA m c) (pA m c) (mA m c) (gA m c) (wA m c) = G7 m c := by
  funext y; idx_vars y
  exact (gx_at _ _ _ _ _ _ _ _ _).trans (d_eq m c h y0 y1)

include h in
theorem ref8 : go (xA m c) (oA m c) (bA m c) (pA m c) (mA m c) (gA m c) (wA m c) = G8 m c := by
  funext y; idx_vars y
  rw [go_at, d_eq m c h, t_eq]
  exact mul_comm _ _

include h in
/-- The sums over all rows. -/
theorem ref9 : acc (xA m c) (oA m c) (bA m c) (pA m c) (mA m c) (gA m c) (wA m c) = G9 m c := by
  funext y; idx_vars y
  unfold acc
  rw [ACC_at]
  show _ = ∑ s : Fin 16, ∑ p : Fin 512, term m c y0 y1 ⟨s.val * 512 + p.val, by omega⟩
  refine Eq.trans ?_ (Fin.sum_univ_tiles 16 512 rfl (fun r => term m c y0 y1 r))
  unfold term
  by_cases h0 : y0.val = 0
  · simp only [h0, if_true]
    rw [col_at]
    exact Finset.sum_congr rfl fun i _ => dh_eq m c i y1
  rw [if_neg h0]
  by_cases h1 : y0.val = 1
  · rw [if_pos h1, col_at]
    refine Finset.sum_congr rfl fun i _ => ?_
    rw [if_neg h0, if_pos h1, ← dh_eq, ← r_eq m c i y1, ← g_eq m c i y1, ← x_eq]
    exact (mul_comm _ _).trans (mul_assoc _ _ _).symm
  rw [if_neg h1]
  by_cases h2 : y0.val = 2
  · rw [if_pos h2, col_at]
    refine Finset.sum_congr rfl fun i _ => ?_
    rw [if_neg h0, if_neg h1, if_pos h2, ← dh_eq, ← r_eq m c i y1, ← s_eq m c i y1, ← x_eq]
    exact (mul_left_comm _ _ _).trans (mul_assoc _ _ _).symm
  rw [if_neg h2]
  by_cases h3 : y0.val = 3
  · rw [if_pos h3, col_at]
    refine Finset.sum_congr rfl fun i _ => ?_
    rw [if_neg h0, if_neg h1, if_neg h2, if_pos h3, same_at, d_eq m c h]
  rw [if_neg h3]
  exact (Finset.sum_eq_zero fun i _ => by rw [if_neg h0, if_neg h1, if_neg h2, if_neg h3]).symm

end Finite

theorem algebraic : Cert.algebraic_Kernel4Ideal_Reference4Ideal_pre_finite_mlp (hKernel4Ideal := Cert.Kernel4Ideal.Gen.facts)
    (hReference4Ideal := Cert.Reference4Ideal.Gen.facts) (hPre_finite_mlp := Cert.Pre_finite_mlp.Gen.facts) := by
  intro m g m' g' hp hm
  refine ⟨fun c => G7 m c, fun c => G8 m c, fun c => G9 m c, ?_, ?_⟩
  · refine (θ_run _ _ _).mono (fun r h c => ?_) (Cert.Kernel4Ideal.Value.run_blocks (F := Ideal) m g)
    obtain ⟨h7, h8, h9, hargs⟩ := h c
    exact ⟨h7.trans (final7 m c), h8.trans (final8 m c), h9.trans (final9 m c), hargs⟩
  · refine (θ_run _ _ _).mono (fun r h c => ?_) (Cert.Reference4Ideal.Value.run (F := Ideal) m' g')
    obtain ⟨h7, h8, h9, hargs⟩ := h c
    obtain ⟨a0, a1, a2, a3, a4, a5, a6⟩ := hm c
    have e7 := ref7 m c hp; have e8 := ref8 m c hp; have e9 := ref9 m c hp
    unfold xA oA bA pA mA gA wA at e7 e8 e9
    rw [← a0, ← a1, ← a2, ← a3, ← a4, ← a5, ← a6] at e7 e8 e9
    exact ⟨h7.trans e7, h8.trans e8, h9.trans e9, hargs⟩

end Cert.Proof.Mlp
-- ==== Proof.LossRun.lean ====
module

public import proofs.«01_k».proof.Proof.Gen.Kernel5Ideal.Value
public import Idealize.ShloMosaic.Lib.Pipeline.ValueKit
public import Idealize.ShloMosaic.Lib.Pointwise
public import proofs.«01_k».proof.Proof.NormMath
public import proofs.«01_k».proof.Proof.RowStores
public import Idealize.ShloMosaic.Lib.Pipeline.ReadBack

@[expose] public section

set_option maxRecDepth 16384

noncomputable section

namespace Cert.Kernel5Ideal.Loss

open Cert.Kernel5Ideal Cert.Kernel5Ideal.Gen Idealize.ShloMosaic Idealize.ShloMosaic.TcCoe Idealize.SL.Sem

open Cert.Proof.NormMath

/-- One over the number of columns, and two. -/
def C : EReal := Ideal.ofBits .f32 0x3A800000#32
def Two : EReal := Ideal.ofBits .f32 0x40000000#32

/-! One block's values, of a block of squared activations `v0`, the weights `v2`, the gate `v5`, the rows `v7`, the gain (twice) and the targets. -/

variable (v0 : Vec Ideal S512x4096 .bf16) (v2 : Vec Ideal S4096x1024 .bf16) (v5 : Vec Ideal S1x1024 .f32) (v7 : Vec Ideal S512x1024 .f32)
  (v22 : Vec Ideal S1x1024 .f32) (v26 : Vec Ideal S512x1024 .f32) (v31 v : Vec Ideal S1x1024 .f32)
  (v53 : Vec Ideal S512x4096 .bf16)

def mm (p : Fin 512) (q : Fin 1024) : EReal := ∑ k : Fin 4096, v0 (ix2 p k) * v2 (ix2 k q)
def xx (p : Fin 512) (q : Fin 1024) : EReal := v7 (ix2 p q) + v5 (ix2 0 q) * mm v0 v2 p q
def er (p : Fin 512) (q : Fin 1024) : EReal := xx v0 v2 v5 v7 p q * rs (xx v0 v2 v5 v7 p) * v22 (ix2 0 q) - v26 (ix2 p q)
def dd (p : Fin 512) (q : Fin 1024) : EReal := er v0 v2 v5 v7 v22 v26 p q * C * v31 (ix2 0 q)
def dx (p : Fin 512) (q : Fin 1024) : EReal := kern (xx v0 v2 v5 v7 p) (dd v0 v2 v5 v7 v22 v26 v31 p) 0 q

theorem pay3_at (p : Fin 512) (q : Fin 1024) : k0_pay3 v0 v2 (ix2 p q) = mm v0 v2 p q := by
  unfold mm
  pointwise [k0_pay3]

theorem pay5_at (p : Fin 512) (q : Fin 1024) : k0_pay5 v0 v2 v5 v7 (ix2 p q) = xx v0 v2 v5 v7 p q := by
  unfold xx
  rw [← pay3_at]
  pointwise [k0_pay5, k0_pay4]

theorem pay6_at (p : Fin 512) : k0_pay6 v0 v2 v5 v7 (ix2 p 0) = rs (xx v0 v2 v5 v7 p) := by
  unfold rs msq W E
  simp only [← pay5_at]
  pointwise [k0_pay6]

theorem pay7_at (p : Fin 512) (q : Fin 1024) : k0_pay7 v0 v2 v5 v7 (ix2 p q) = xx v0 v2 v5 v7 p q * rs (xx v0 v2 v5 v7 p) := by
  rw [← pay6_at, ← pay5_at]
  pointwise [k0_pay7]

theorem pay8_at (p : Fin 512) (q : Fin 1024) : k0_pay8 v0 v2 v5 v7 v22 v26 (ix2 p q) = er v0 v2 v5 v7 v22 v26 p q := by
  unfold er
  rw [← pay7_at]
  pointwise [k0_pay8]

theorem pay9_at (p : Fin 512) (q : Fin 1024) : k0_pay9 v0 v2 v5 v7 v22 v26 (ix2 p q) = er v0 v2 v5 v7 v22 v26 p q * C := by
  unfold C
  rw [← pay8_at]
  pointwise [k0_pay9]

theorem pay10_at (p : Fin 512) (q : Fin 1024) : k0_pay10 v0 v2 v5 v7 v22 v26 v31 (ix2 p q) = dd v0 v2 v5 v7 v22 v26 v31 p q := by
  unfold dd
  rw [← pay9_at]
  pointwise [k0_pay10]

theorem pay11_at (p : Fin 512) : k0_pay11 v0 v2 v5 v7 v22 v26 v31 (ix2 p 0) = ∑ q : Fin 1024, dd v0 v2 v5 v7 v22 v26 v31 p q * (xx v0 v2 v5 v7 p q * rs (xx v0 v2 v5 v7 p)) := by
  simp only [← pay10_at, ← pay7_at]
  pointwise [k0_pay11]

theorem pay12_at (p : Fin 512) (q : Fin 1024) : k0_pay12 (k0_pay6 v0 v2 v5 v7) (k0_pay7 v0 v2 v5 v7) (k0_pay10 v0 v2 v5 v7 v22 v26 v31) (k0_pay11 v0 v2 v5 v7 v22 v26 v31) (Scalar.ofBits .f32 0x44800000#32) (ix2 p q) = dx v0 v2 v5 v7 v22 v26 v31 p q := by
  unfold dx kern W
  rw [zero_add, ← pay11_at, ← pay10_at, ← pay7_at, ← pay6_at]
  pointwise [k0_pay12]

theorem pay13_at (p : Fin 512) (q : Fin 1024) : k0_pay13 (k0_pay4 v5) (k0_pay6 v0 v2 v5 v7) (k0_pay7 v0 v2 v5 v7) (k0_pay10 v0 v2 v5 v7 v22 v26 v31) (k0_pay11 v0 v2 v5 v7 v22 v26 v31) (Scalar.ofBits .f32 0x44800000#32) (ix2 p q) = dx v0 v2 v5 v7 v22 v26 v31 p q * v5 (ix2 0 q) := by
  rw [← pay12_at]
  pointwise [k0_pay13, k0_pay4]

theorem pay14_at (p : Fin 512) (n : Fin 4096) : k0_pay14 (k0_pay4 v5) (k0_pay6 v0 v2 v5 v7) (k0_pay7 v0 v2 v5 v7) (k0_pay10 v0 v2 v5 v7 v22 v26 v31) (k0_pay11 v0 v2 v5 v7 v22 v26 v31) (Scalar.ofBits .f32 0x44800000#32) v2 v53 (ix2 p n)
    = (∑ q : Fin 1024, dx v0 v2 v5 v7 v22 v26 v31 p q * v5 (ix2 0 q) * v2 (ix2 n q)) * (Two * max (v53 (ix2 p n)) 0) := by
  unfold Two
  pointwise [k0_pay14]
  exact congrArg (· * _) (Finset.sum_congr rfl fun q _ => congrArg (· * v2 (ix2 n q)) (pay13_at v0 v2 v5 v7 v22 v26 v31 p q))

theorem pay18_at (q : Fin 1024) : k0_pay18 (k0_pay8 v0 v2 v5 v7 v22 v26) v (ix2 0 q)
    = v (ix2 0 q) + ∑ p : Fin 512, er v0 v2 v5 v7 v22 v26 p q * er v0 v2 v5 v7 v22 v26 p q := by
  simp only [← pay8_at]
  pointwise [k0_pay18]

theorem pay1_at (q : Fin 1024) : k0_pay1 (k0_pay15 (k0_pay7 v0 v2 v5 v7) (k0_pay9 v0 v2 v5 v7 v22 v26)) v (ix2 0 q)
    = v (ix2 0 q) + ∑ p : Fin 512, er v0 v2 v5 v7 v22 v26 p q * C * (xx v0 v2 v5 v7 p q * rs (xx v0 v2 v5 v7 p)) := by
  simp only [← pay9_at, ← pay7_at]
  pointwise [k0_pay1, k0_pay15]

theorem pay2_at (q : Fin 1024) : k0_pay2 (k0_pay16 (k0_pay3 v0 v2) (k0_pay6 v0 v2 v5 v7) (k0_pay7 v0 v2 v5 v7) (k0_pay10 v0 v2 v5 v7 v22 v26 v31) (k0_pay11 v0 v2 v5 v7 v22 v26 v31) (Scalar.ofBits .f32 0x44800000#32)) v (ix2 0 q)
    = v (ix2 0 q) + ∑ p : Fin 512, dx v0 v2 v5 v7 v22 v26 v31 p q * mm v0 v2 p q := by
  simp only [← pay12_at, ← pay3_at]
  pointwise [k0_pay2, k0_pay16]

/-! The same of the kernel's blocks: the gate is row 5 of the six rows of the modulation. -/

variable (x0 : Vec Ideal S512x4096 .bf16) (x1 : Vec Ideal S512x1024 .f32) (x2 : Vec Ideal S512x4096 .bf16) (x3 : Vec Ideal S512x1024 .f32)
  (x4 : Vec Ideal S6x1024 .f32) (x5 : Vec Ideal S1x1024 .f32) (x6 : Vec Ideal S4096x1024 .bf16)

/-- The gate's row. -/
abbrev g5 : Vec Ideal S1x1024 .f32 := View.ld x4 (Rect.unit (s := S6x1024) ![5, 0] S1x1024.size inb_S6x1024_S1x1024_5_0)

theorem g5_at (q : Fin 1024) : g5 x4 (ix2 0 q) = x4 (ix2 5 q) := by
  unfold g5
  pointwise

/-- What a block adds to the eight rows of column sums: the squared errors, the gain's and the gate's gradients, and nothing to the others. -/
def stepAt (a : Fin 8) (q : Fin 1024) : EReal :=
  if a.val = 0 then ∑ p : Fin 512, er x0 x6 (g5 x4) x1 x5 x3 p q * er x0 x6 (g5 x4) x1 x5 x3 p q
  else if a.val = 1 then ∑ p : Fin 512, er x0 x6 (g5 x4) x1 x5 x3 p q * C * (xx x0 x6 (g5 x4) x1 p q * rs (xx x0 x6 (g5 x4) x1 p))
  else if a.val = 2 then ∑ p : Fin 512, dx x0 x6 (g5 x4) x1 x5 x3 x5 p q * mm x0 x6 p q
  else 0

def step (y : S8x1024.Idx) : EReal := stepAt x0 x1 x3 x4 x5 x6 (y 0) (y 1)

variable (c : Dev nD) (i : grid0.Coords) (arg1 : Memref sig .tc .vmem S512x4096 .bf16) (harg1 : arg1.IsWhole) (arg2 : Memref sig .tc .vmem S512x1024 .f32) (harg2 : arg2.IsWhole) (arg3 : Memref sig .tc .vmem S512x4096 .bf16) (harg3 : arg3.IsWhole) (arg4 : Memref sig .tc .vmem S512x1024 .f32) (harg4 : arg4.IsWhole) (arg5 : Memref sig .tc .vmem S6x1024 .f32) (harg5 : arg5.IsWhole) (arg6 : Memref sig .tc .vmem S1x1024 .f32) (harg6 : arg6.IsWhole) (arg7 : Memref sig .tc .vmem S4096x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x4096 .bf16) (harg10 : arg10.IsWhole) (arg11 : Memref sig .tc .vmem S8x1024 .f32) (harg11 : arg11.IsWhole)
  (xo10 : Vec Ideal S8x1024 .f32)

theorem out_B_7 (hc0 : ¬cond0_0 i) (p : Fin 512) (q : Fin 1024) :
    out0_B_7 c i arg1 harg1 arg2 harg2 arg3 harg3 arg4 harg4 arg5 harg5 arg6 harg6 arg7 harg7 arg8 harg8 arg9 harg9 arg10 harg10 arg11 harg11 hc0 x0 x1 x2 x3 x4 x5 x6 xo10 (ix2 p q) = dx x0 x6 (g5 x4) x1 x5 x3 x5 p q := by
  frame_out
  exact pay12_at x0 x6 (g5 x4) x1 x5 x3 x5 p q

theorem out_A_7 (hc0 : cond0_0 i) (p : Fin 512) (q : Fin 1024) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6 (ix2 p q) = dx x0 x6 (g5 x4) x1 x5 x3 x5 p q := by
  frame_out
  exact pay12_at x0 x6 (g5 x4) x1 x5 x3 x5 p q

theorem out_B_8 (hc0 : ¬cond0_0 i) (p : Fin 512) (q : Fin 1024) :
    out0_B_8 c i arg1 harg1 arg2 harg2 arg3 harg3 arg4 harg4 arg5 harg5 arg6 harg6 arg7 harg7 arg8 harg8 arg9 harg9 arg10 harg10 arg11 harg11 hc0 x0 x1 x2 x3 x4 x5 x6 xo10 (ix2 p q) = dx x0 x6 (g5 x4) x1 x5 x3 x5 p q * g5 x4 (ix2 0 q) := by
  frame_out
  exact pay13_at x0 x6 (g5 x4) x1 x5 x3 x5 p q

theorem out_A_8 (hc0 : cond0_0 i) (p : Fin 512) (q : Fin 1024) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 (ix2 p q) = dx x0 x6 (g5 x4) x1 x5 x3 x5 p q * g5 x4 (ix2 0 q) := by
  frame_out
  exact pay13_at x0 x6 (g5 x4) x1 x5 x3 x5 p q

theorem out_B_9 (hc0 : ¬cond0_0 i) (p : Fin 512) (n : Fin 4096) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 xo10 (ix2 p n)
      = (∑ q : Fin 1024, dx x0 x6 (g5 x4) x1 x5 x3 x5 p q * g5 x4 (ix2 0 q) * x6 (ix2 n q)) * (Two * max (x2 (ix2 p n)) 0) := by
  frame_out
  exact pay14_at x0 x6 (g5 x4) x1 x5 x3 x5 x2 p n

theorem out_A_9 (hc0 : cond0_0 i) (p : Fin 512) (n : Fin 4096) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 (ix2 p n)
      = (∑ q : Fin 1024, dx x0 x6 (g5 x4) x1 x5 x3 x5 p q * g5 x4 (ix2 0 q) * x6 (ix2 n q)) * (Two * max (x2 (ix2 p n)) 0) := by
  frame_out
  exact pay14_at x0 x6 (g5 x4) x1 x5 x3 x5 x2 p n

theorem out_B_10 (hc0 : ¬cond0_0 i) (y : S8x1024.Idx) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 xo10 y = xo10 y + step x0 x1 x3 x4 x5 x6 y := by
  frame_out
  idx_vars y
  simp only [Cert.Proof.RowStores.read_row]
  rw [pay2_at, pay1_at, pay18_at]
  rw [View.writes_nil, harg11.read_unread]
  show _ = xo10 (ix2 y0 y1) + stepAt x0 x1 x3 x4 x5 x6 y0 y1
  unfold stepAt
  pointwise
  by_cases h2 : y0.val = 2
  · obtain rfl : y0 = 2 := Fin.ext h2
    rfl
  by_cases h1 : y0.val = 1
  · obtain rfl : y0 = 1 := Fin.ext h1
    rfl
  by_cases h0 : y0.val = 0
  · obtain rfl : y0 = 0 := Fin.ext h0
    rfl
  simp only [h0, h1, h2, if_false, add_zero]

theorem out_A_10 (hc0 : cond0_0 i) (y : S8x1024.Idx) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 y = step x0 x1 x3 x4 x5 x6 y := by
  frame_open
  simp (disch := decide) only [↓ View.readCov_skip, ↓ View.readCov_cons_toLoadRect, ↓ View.readCov_fill]
  frame_out
  idx_vars y
  rw [← View.read_writes_junk_eq_canon VO0_10]
  simp only [Cert.Proof.RowStores.read_row]
  rw [pay2_at, pay1_at, pay18_at]
  rw [Cert.Proof.RowStores.read_fill]
  show _ = stepAt x0 x1 x3 x4 x5 x6 y0 y1
  unfold stepAt
  pointwise [k0_pay17]
  by_cases h2 : y0.val = 2
  · rw [if_pos h2, if_neg (by omega), if_neg (by omega), if_pos h2]
  rw [if_neg h2]
  by_cases h1 : y0.val = 1
  · rw [if_pos h1, if_neg (by omega), if_pos h1]
  rw [if_neg h1]
  by_cases h0 : y0.val = 0
  · rw [if_pos h0, if_pos h0]
  · rw [if_neg h0, if_neg h0, if_neg h1, if_neg h2]

end Cert.Kernel5Ideal.Loss
-- ==== Proof.LossFinal.lean ====
module

public import proofs.«01_k».proof.Proof.Gen.Kernel5Ideal.Value
public import Idealize.ShloMosaic.Lib.Pipeline.ValueKit
public import Idealize.ShloMosaic.Lib.Pointwise
public import proofs.«01_k».proof.Proof.LossRun

@[expose] public section

set_option maxRecDepth 16384

noncomputable section

namespace Cert.Kernel5Ideal.Loss

open Cert.Kernel5Ideal Cert.Kernel5Ideal.Gen Idealize.ShloMosaic Idealize.ShloMosaic.TcCoe Idealize.SL.Sem

/-! The four arrays the kernel returns, as functions of its arguments: the three gradients of rows, and the sums over all rows. -/

open Cert.Proof.NormMath
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![0, 0] :=
  (by decide +kernel : ∀ t : Fin grid0.N, _)

theorem N16 (t : Fin cfg0.N) : t.val < 16 := lt_of_lt_of_eq t.isLt Gen.N_0

/-- Row `p` of the block of rows at grid point `t`, as a row of the whole array. -/
def row (t : Fin cfg0.N) (p : Fin 512) : Fin 8192 := ⟨t.val * 512 + p.val, by have := N16 t; omega⟩

/-- The argument arrays of device `c`. -/
abbrev xA (c : Dev nD) : FVec Ideal S1x8192x1024 .f32 := m ((c.tc : Thread nD τ).loc main_arg0)
abbrev aA (c : Dev nD) : FVec Ideal S1x8192x4096 .f32 := m ((c.tc : Thread nD τ).loc main_arg1)
abbrev tA (c : Dev nD) : FVec Ideal S1x8192x1024 .f32 := m ((c.tc : Thread nD τ).loc main_arg2)
abbrev mA (c : Dev nD) : FVec Ideal S1x6144 .f32 := m ((c.tc : Thread nD τ).loc main_arg3)
abbrev gA (c : Dev nD) : FVec Ideal S1024 .f32 := m ((c.tc : Thread nD τ).loc main_arg4)
abbrev wA (c : Dev nD) : FVec Ideal S1x4096x1024 .f32 := m ((c.tc : Thread nD τ).loc main_arg5)

/-- The squared activations, their product with the weights, the gate and the gain. -/
def Hd (c : Dev nD) (r : Fin 8192) (k : Fin 4096) : EReal := max (aA m c (ix3 0 r k)) 0 * max (aA m c (ix3 0 r k)) 0
def M (c : Dev nD) (r : Fin 8192) (q : Fin 1024) : EReal := ∑ k : Fin 4096, Hd m c r k * wA m c (ix3 0 k q)
def T (c : Dev nD) (q : Fin 1024) : EReal := mA m c (ix2 0 ⟨5120 + q.val, by omega⟩)
def G (c : Dev nD) (q : Fin 1024) : EReal := gA m c (ix1 q)

/-- The rows the loss is of, their errors, the gradient of the normalised rows and that of the rows. -/
def X (c : Dev nD) (r : Fin 8192) (q : Fin 1024) : EReal := xA m c (ix3 0 r q) + T m c q * M m c r q
def Er (c : Dev nD) (r : Fin 8192) (q : Fin 1024) : EReal := X m c r q * rs (X m c r) * G m c q - tA m c (ix3 0 r q)
def D (c : Dev nD) (r : Fin 8192) (q : Fin 1024) : EReal := Er m c r q * C * G m c q
def D2 (c : Dev nD) (r : Fin 8192) (q : Fin 1024) : EReal := kern (X m c r) (D m c r) 0 q

theorem blk0 (c : Dev nD) (t : Fin cfg0.N) (p : Fin 512) (k : Fin 4096) : iblk m c 0 t (ix2 p k) = Hd m c (row t p) k := by
  unfold Hd
  blk_simp [iblk]
  entry_read
  pointwise
  blk_point [idx t, row]

theorem blk1 (c : Dev nD) (t : Fin cfg0.N) (p : Fin 512) (q : Fin 1024) : iblk m c 1 t (ix2 p q) = xA m c (ix3 0 (row t p) q) := by
  blk_simp [iblk]
  entry_read
  pointwise
  blk_point [idx t, row]

theorem blk2 (c : Dev nD) (t : Fin cfg0.N) (p : Fin 512) (k : Fin 4096) : iblk m c 2 t (ix2 p k) = aA m c (ix3 0 (row t p) k) := by
  blk_simp [iblk]
  entry_read
  pointwise
  blk_point [idx t, row]

theorem blk3 (c : Dev nD) (t : Fin cfg0.N) (p : Fin 512) (q : Fin 1024) : iblk m c 3 t (ix2 p q) = tA m c (ix3 0 (row t p) q) := by
  blk_simp [iblk]
  entry_read
  pointwise
  blk_point [idx t, row]

theorem blk4 (c : Dev nD) (t : Fin cfg0.N) (a : Fin 6) (q : Fin 1024) : iblk m c 4 t (ix2 a q) = mA m c (ix2 0 ⟨a.val * 1024 + q.val, by omega⟩) := by
  blk_simp [iblk]
  entry_read
  pointwise
  blk_point [idx t]

theorem blk5 (c : Dev nD) (t : Fin cfg0.N) (q : Fin 1024) : iblk m c 5 t (ix2 0 q) = gA m c (ix1 q) := by
  blk_simp [iblk]
  entry_read
  pointwise
  blk_point [idx t]

theorem blk6 (c : Dev nD) (t : Fin cfg0.N) (k : Fin 4096) (q : Fin 1024) : iblk m c 6 t (ix2 k q) = wA m c (ix3 0 k q) := by
  blk_simp [iblk]
  entry_read
  pointwise
  blk_point [idx t]

def G7 (c : Dev nD) : S8192x1024.Idx → EReal := fun y => D2 m c (y 0) (y 1)
def G8 (c : Dev nD) : S8192x1024.Idx → EReal := fun y => D2 m c (y 0) (y 1) * T m c (y 1)
def G9 (c : Dev nD) : S8192x4096.Idx → EReal := fun y =>
  (∑ q : Fin 1024, D2 m c (y 0) q * T m c q * wA m c (ix3 0 (y 1) q)) * (Two * max (aA m c (ix3 0 (y 0) (y 1))) 0)

/-- What row `r` adds to the eight rows of sums. -/
def term (c : Dev nD) (a : Fin 8) (q : Fin 1024) (r : Fin 8192) : EReal :=
  if a.val = 0 then Er m c r q * Er m c r q
  else if a.val = 1 then Er m c r q * C * (X m c r q * rs (X m c r))
  else if a.val = 2 then D2 m c r q * M m c r q
  else 0

def G10 (c : Dev nD) : S8x1024.Idx → EReal := fun y => ∑ s : Fin 16, ∑ p : Fin 512, term m c (y 0) (y 1) ⟨s.val * 512 + p.val, by omega⟩

theorem gate_at (c : Dev nD) (t : Fin cfg0.N) (q : Fin 1024) : g5 (iblk m c 4 t) (ix2 0 q) = T m c q := by
  rw [g5_at, blk4]
  rfl

theorem mm_at (c : Dev nD) (t : Fin cfg0.N) (p : Fin 512) (q : Fin 1024) : mm (iblk m c 0 t) (iblk m c 6 t) p q = M m c (row t p) q := by
  unfold mm M
  simp only [blk0, blk6]

theorem xx_at (c : Dev nD) (t : Fin cfg0.N) (p : Fin 512) : xx (iblk m c 0 t) (iblk m c 6 t) (g5 (iblk m c 4 t)) (iblk m c 1 t) p = X m c (row t p) := by
  funext q
  unfold xx X
  rw [mm_at, gate_at, blk1]

theorem er_at (c : Dev nD) (t : Fin cfg0.N) (p : Fin 512) (q : Fin 1024) :
    er (iblk m c 0 t) (iblk m c 6 t) (g5 (iblk m c 4 t)) (iblk m c 1 t) (iblk m c 5 t) (iblk m c 3 t) p q = Er m c (row t p) q := by
  unfold er Er
  rw [xx_at, blk5, blk3]
  rfl

theorem dx_at (c : Dev nD) (t : Fin cfg0.N) (p : Fin 512) (q : Fin 1024) :
    dx (iblk m c 0 t) (iblk m c 6 t) (g5 (iblk m c 4 t)) (iblk m c 1 t) (iblk m c 5 t) (iblk m c 3 t) (iblk m c 5 t) p q = D2 m c (row t p) q := by
  have e : dd (iblk m c 0 t) (iblk m c 6 t) (g5 (iblk m c 4 t)) (iblk m c 1 t) (iblk m c 5 t) (iblk m c 3 t) (iblk m c 5 t) p = D m c (row t p) := by
    funext k
    unfold dd D
    rw [er_at, blk5]
    rfl
  unfold dx D2
  rw [xx_at, e]

theorem out7 (c : Dev nD) (t : Fin cfg0.N) (p : Fin 512) (q : Fin 1024) : (outsAt0 m c t.val t.isLt).1 (ix2 p q) = G7 m c (ix2 (row t p) q) := by
  show _ = D2 m c (row t p) q
  by_cases h0 : t.val % 16 = 0
  · rw [outsAt0_A m c t h0]
    dsimp only
    rw [out_A_7, dx_at]
  · rw [outsAt0_B m c t h0]
    dsimp only
    rw [out_B_7, dx_at]

theorem out8 (c : Dev nD) (t : Fin cfg0.N) (p : Fin 512) (q : Fin 1024) : (outsAt0 m c t.val t.isLt).2.1 (ix2 p q) = G8 m c (ix2 (row t p) q) := by
  show _ = D2 m c (row t p) q * T m c q
  by_cases h0 : t.val % 16 = 0
  · rw [outsAt0_A m c t h0]
    dsimp only
    rw [out_A_8, dx_at, gate_at]
  · rw [outsAt0_B m c t h0]
    dsimp only
    rw [out_B_8, dx_at, gate_at]

theorem out9 (c : Dev nD) (t : Fin cfg0.N) (p : Fin 512) (n : Fin 4096) : (outsAt0 m c t.val t.isLt).2.2.1 (ix2 p n) = G9 m c (ix2 (row t p) n) := by
  show _ = (∑ q : Fin 1024, D2 m c (row t p) q * T m c q * wA m c (ix3 0 n q)) * (Two * max (aA m c (ix3 0 (row t p) n)) 0)
  by_cases h0 : t.val % 16 = 0
  · rw [outsAt0_A m c t h0]
    dsimp only
    rw [out_A_9, blk2]
    simp only [dx_at, gate_at, blk6]
  · rw [outsAt0_B m c t h0]
    dsimp only
    rw [out_B_9, blk2]
    simp only [dx_at, gate_at, blk6]

theorem final7 (c : Dev nD) : (dats m 0 c).arrAt 7 cfg0.N = G7 m c := by
  refine (dats m 0 c).arrAt_eq_of_covers 7 _ (by decide +kernel) fun t _ y => ?_
  blk_simp
  rw [after0_7]
  idx_vars y
  refine (out7 m c t y0 y1).trans (show G7 m c (ix2 (row t y0) y1) = _ from ?_)
  blk_ext [idx t, row]

theorem final8 (c : Dev nD) : (dats m 0 c).arrAt 8 cfg0.N = G8 m c := by
  refine (dats m 0 c).arrAt_eq_of_covers 8 _ (by decide +kernel) fun t _ y => ?_
  blk_simp
  rw [after0_8]
  idx_vars y
  refine (out8 m c t y0 y1).trans (show G8 m c (ix2 (row t y0) y1) = _ from ?_)
  blk_ext [idx t, row]

theorem final9 (c : Dev nD) : (dats m 0 c).arrAt 9 cfg0.N = G9 m c := by
  refine (dats m 0 c).arrAt_eq_of_covers 9 _ (by decide +kernel) fun t _ y => ?_
  blk_simp
  rw [after0_9]
  idx_vars y
  refine (out9 m c t y0 y1).trans (show G9 m c (ix2 (row t y0) y1) = _ from ?_)
  blk_ext [idx t, row]

theorem step_at (c : Dev nD) (t : Fin cfg0.N) (a : Fin 8) (q : Fin 1024) :
    step (iblk m c 0 t) (iblk m c 1 t) (iblk m c 3 t) (iblk m c 4 t) (iblk m c 5 t) (iblk m c 6 t) (ix2 a q)
      = ∑ p : Fin 512, term m c a q (row t p) := by
  show stepAt (iblk m c 0 t) (iblk m c 1 t) (iblk m c 3 t) (iblk m c 4 t) (iblk m c 5 t) (iblk m c 6 t) a q = _
  unfold stepAt term
  simp only [er_at, dx_at, xx_at, mm_at]
  split_ifs
  · rfl
  · rfl
  · rfl
  · exact Finset.sum_const_zero.symm

theorem pt_lt (t : Fin cfg0.N) (s : Fin 16) : 16 * (t.val / 16) + s.val < cfg0.N := by
  have := N16 t
  exact lt_of_lt_of_eq (by omega : 16 * (t.val / 16) + s.val < 16) Gen.N_0.symm

/-- The points of the run that ends at the point where the sums are written back. -/
def pt (t : Fin cfg0.N) (s : Fin 16) : Fin cfg0.N := ⟨16 * (t.val / 16) + s.val, pt_lt t s⟩

theorem pt_row (t : Fin cfg0.N) (s : Fin 16) (p : Fin 512) : row (pt t s) p = ⟨s.val * 512 + p.val, by omega⟩ := by
  have := N16 t
  exact Fin.ext (by simp only [row, pt]; omega)

theorem after10_sum (c : Dev nD) (t : Fin cfg0.N) (hf : (cfg0.win 10).flush t = true) (y : S8x1024.Idx) :
    (outsAt0 m c t.val t.isLt).2.2.2 y = ∑ s : Fin 16, step (iblk m c 0 (pt t s)) (iblk m c 1 (pt t s)) (iblk m c 3 (pt t s))
      (iblk m c 4 (pt t s)) (iblk m c 5 (pt t s)) (iblk m c 6 (pt t s)) y := by
  rw [Pipeline.eq_sum_fin_of_reset_step_apply_of_flush (fun n h => (outsAt0 m c n h).2.2.2) 16 (fun _ => 0)
    (fun t => step (iblk m c 0 t) (iblk m c 1 t) (iblk m c 3 t) (iblk m c 4 t) (iblk m c 5 t) (iblk m c 6 t))
    (fun t h j => by rw [outsAt0_A m c t h]; dsimp only; rw [out_A_10, zero_add]) (fun t h j => by rw [outsAt0_B m c t h]; dsimp only; rw [out_B_10]) t ((flush0_10 t).mp hf) y, zero_add]
  rfl

theorem final10 (c : Dev nD) : (dats m 0 c).arrAt 10 cfg0.N = G10 m c := by
  refine (dats m 0 c).arrAt_eq_of_covers 10 _ (by decide +kernel) fun t hf y => ?_
  blk_simp
  rw [after0_10]
  idx_vars y
  rw [after10_sum m c t hf]
  simp only [step_at, pt_row]
  refine (show G10 m c (ix2 y0 y1) = _ from ?_)
  blk_ext [idx t]

end Cert.Kernel5Ideal.Loss
-- ==== Proof.LossRef.lean ====
module

public import proofs.«01_k».proof.Proof.Gen.Reference5Ideal.Run
public import proofs.«01_k».proof.Proof.NormMath
public import proofs.«01_k».proof.Proof.UnitAxes
public import Idealize.ShloMosaic.Lib.Pointwise

@[expose] public section

set_option maxRecDepth 16384

noncomputable section

/-! The derivative of the loss and of the channel mixer's second half, read entry by entry. -/

namespace Cert.Reference5Ideal.Loss

open Cert.Reference5Ideal Cert.Reference5Ideal.Gen Idealize.ShloMosaic Idealize.ShloMosaic.TcCoe Idealize.SL.Sem
open Cert.Proof.NormMath

variable (x : FVec Ideal S1x8192x1024 .f32) (a : FVec Ideal S1x8192x4096 .f32) (t : FVec Ideal S1x8192x1024 .f32) (mo : FVec Ideal S1x6144 .f32)
  (g : FVec Ideal S1024 .f32) (w : FVec Ideal S1x4096x1024 .f32)

/-- Zero, in every entry, and the larger of it and the activations. -/
abbrev zT : FVec Ideal S1x8192x4096 .f32 := broadcastInDim S1x8192x4096 ![] bcast_S_S1x8192x4096 (constant S_ .f32 0x00000000#32)
abbrev aT : FVec Ideal S1x8192x4096 .f32 := maximumf a zT

/-- The product of the squared activations with the weights, the gate, the gain, and the rows the loss is of. -/
abbrev mT : FVec Ideal S1x8192x1024 .f32 := Host.dotGeneral dot_S1x8192x4096_S4096x1024_S1x8192x1024_2_0_01_1_n_n none (mulf (aT a) (aT a)) (shapeCast _ w shapeCasts_S1x4096x1024_S4096x1024)
abbrev down (z : FVec Ideal S1x1x1024 .f32) : FVec Ideal S1x8192x1024 .f32 := broadcastInDim S1x8192x1024 ![0, 1, 2] bcast_S1x1x1024_S1x8192x1024_0_1_2 z
abbrev tT0 : FVec Ideal S1x1x1024 .f32 := broadcastInDim S1x1x1024 ![0, 2] bcast_S1x1024_S1x1x1024_0_2 (extractStridedSlice S1x1024 ![0, 5120] mo slices_S1x6144_S1x1024_0_5120)
abbrev gT : FVec Ideal S1x1x1024 .f32 := broadcastInDim S1x1x1024 ![2] bcast_S1024_S1x1x1024_2 g
abbrev x2T : FVec Ideal S1x8192x1024 .f32 := addf x (mulf (down (tT0 mo)) (mT a w))

/-- The mean square of every row, and the norm's factor. -/
abbrev vT : FVec Ideal S1x8192x1 .f32 := addf (Host.divf (broadcastInDim S1x8192x1 ![0, 1] bcast_S1x8192_S1x8192x1_0_1
    (Host.reduceAdd (mulf x x) (constant S_ .f32 0x00000000#32) reducesTo_S1x8192x1024_S1x8192_d2 h_S_))
    (broadcastInDim S1x8192x1 ![] bcast_S_S1x8192x1 (constant S_ .f32 0x44800000#32)))
  (broadcastInDim S1x8192x1 ![] bcast_S_S1x8192x1 (constant S_ .f32 0x358637BD#32))
abbrev rT : FVec Ideal S1x8192x1 .f32 := Host.rsqrt (vT x)
abbrev wide (z : FVec Ideal S1x8192x1 .f32) : FVec Ideal S1x8192x1024 .f32 := broadcastInDim S1x8192x1024 ![0, 1, 2] bcast_S1x8192x1_S1x8192x1024_0_1_2 z

/-- What the norm's factor passes on to each of the two factors of the row's square. -/
abbrev tT (x d : FVec Ideal S1x8192x1024 .f32) : FVec Ideal S1x8192x1024 .f32 :=
  broadcastInDim S1x8192x1024 ![0, 1] bcast_S1x8192_S1x8192x1024_0_1 (broadcastInDim S1x8192 ![1] bcast_S8192_S1x8192_1
    (Host.reduceAdd (Host.divf (mulf (shapeCast _ (Host.reduceAdd (mulf x d) (constant S_ .f32 0x00000000#32) reducesTo_S1x8192x1024_S1x8192_d2 h_S_) shapeCasts_S1x8192_S1x8192x1)
      (mulf (broadcastInDim S1x8192x1 ![] bcast_S_S1x8192x1 (constant S_ .f32 0xBF000000#32)) (Host.divf (rT x) (vT x))))
      (broadcastInDim S1x8192x1 ![] bcast_S_S1x8192x1 (constant S_ .f32 0x44800000#32))) (constant S_ .f32 0x00000000#32) reducesTo_S1x8192x1_S8192_d0_2 h_S_))

/-- The rows' errors, and their gradient: half of one over the number of columns, times two, times the error. -/
abbrev erT (x : FVec Ideal S1x8192x1024 .f32) : FVec Ideal S1x8192x1024 .f32 := subf (mulf (mulf x (wide (rT x))) (down (gT g))) t
abbrev dyT (e : FVec Ideal S1x8192x1024 .f32) : FVec Ideal S1x8192x1024 .f32 :=
  mulf (broadcastInDim S1x8192x1024 ![0, 1] bcast_S1x8192_S1x8192x1024_0_1 (Host.divf (broadcastInDim S1x8192 ![] bcast_S_S1x8192
    (mulf (constant S_ .f32 0x3F000000#32) (constant S_ .f32 0x3F800000#32))) (broadcastInDim S1x8192 ![] bcast_S_S1x8192 (constant S_ .f32 0x44800000#32))))
    (mulf (broadcastInDim S1x8192x1024 ![] bcast_S_S1x8192x1024 (constant S_ .f32 0x40000000#32)) e)

/-- The rows' gradient, from the gradient `d` of the normalised rows. -/
abbrev GX (x d : FVec Ideal S1x8192x1024 .f32) : FVec Ideal S1x8192x1024 .f32 := addf (addf (mulf d (wide (rT x))) (mulf x (tT x d))) (mulf (tT x d) x)

/-- A sum over all rows, and the eight rows of such sums. -/
abbrev col (z : FVec Ideal S1x8192x1024 .f32) : FVec Ideal S1x1024 .f32 := broadcastInDim S1x1024 ![1] bcast_S1024_S1x1024_1
  (Host.reduceAdd (shapeCast _ (Host.reduceAdd z (constant S_ .f32 0x00000000#32) reducesTo_S1x8192x1024_S1x1024_d1 h_S_) shapeCasts_S1x1024_S1x1x1024)
    (constant S_ .f32 0x00000000#32) reducesTo_S1x1x1024_S1024_d0_1 h_S_)
abbrev ACC (a0 a1 a2 : FVec Ideal S1x1024 .f32) : FVec Ideal S8x1024 .f32 :=
  concatenate S8x1024 0 [⟨S1x1024, a0⟩, ⟨S1x1024, a1⟩, ⟨S1x1024, a2⟩, ⟨S5x1024, broadcastInDim S5x1024 ![] bcast_S_S5x1024 (constant S_ .f32 0x00000000#32)⟩]
    concatenates_S1x1024_S1x1024_S1x1024_S5x1024_S8x1024_d0

/-- The other two ways the sums over all rows are written. -/
abbrev colE (z : FVec Ideal S1x8192x1024 .f32) : FVec Ideal S1x1024 .f32 := broadcastInDim S1x1024 ![1] bcast_S1024_S1x1024_1
  (Host.reduceAdd (shapeCast S8192x1024 z shapeCasts_S1x8192x1024_S8192x1024) (constant S_ .f32 0x00000000#32) reducesTo_S8192x1024_S1024_d0 h_S_)
abbrev colG (z : FVec Ideal S1x8192x1024 .f32) : FVec Ideal S1x1024 .f32 := shapeCast _
  (Host.reduceAdd (shapeCast _ (Host.reduceAdd z (constant S_ .f32 0x00000000#32) reducesTo_S1x8192x1024_S1x1024_d1 h_S_) shapeCasts_S1x1024_S1x1x1024)
    (constant S_ .f32 0x00000000#32) reducesTo_S1x1x1024_S1024_d0_1 h_S_) shapeCasts_S1024_S1x1024

/-- The gradient of the rows the loss is of, and that of the activations from it. -/
abbrev dT : FVec Ideal S1x8192x1024 .f32 := GX (x2T x a mo w) (mulf (dyT (erT t g (x2T x a mo w))) (down (gT g)))
abbrev daT (z : FVec Ideal S1x8192x1024 .f32) : FVec Ideal S1x8192x4096 .f32 := select (cmpf .ogt a zT)
  (mulf (Host.dotGeneral dot_S1x8192x1024_S4096x1024_S1x8192x4096_2_1_01_0_n_n none z (shapeCast _ w shapeCasts_S1x4096x1024_S4096x1024))
    (mulf (broadcastInDim S1x8192x4096 ![] bcast_S_S1x8192x4096 (constant S_ .f32 0x40000000#32)) (aT a))) zT

/-- The four results, of the arguments. -/
def gx : FVec Ideal S8192x1024 .f32 := shapeCast _ (dT x a t mo g w) shapeCasts_S1x8192x1024_S8192x1024
def gm : FVec Ideal S8192x1024 .bf16 := truncf .bf16 (shapeCast _ (mulf (down (tT0 mo)) (dT x a t mo g w)) shapeCasts_S1x8192x1024_S8192x1024) bitsLt_bf16_f32
def ga : FVec Ideal S8192x4096 .bf16 := truncf .bf16 (shapeCast _ (daT a w (mulf (down (tT0 mo)) (dT x a t mo g w))) shapeCasts_S1x8192x4096_S8192x4096) bitsLt_bf16_f32
def acc : FVec Ideal S8x1024 .f32 := ACC (colE (mulf (erT t g (x2T x a mo w)) (erT t g (x2T x a mo w))))
  (colG (mulf (mulf (x2T x a mo w) (wide (rT (x2T x a mo w)))) (dyT (erT t g (x2T x a mo w)))))
  (col (mulf (dT x a t mo g w) (mT a w)))

theorem mT_at (i : Fin 8192) (q : Fin 1024) : mT a w (ix3 0 i q) = ∑ k : Fin 4096, max (a (ix3 0 i k)) 0 * max (a (ix3 0 i k)) 0 * w (ix3 0 k q) := by pointwise

theorem down_g (i : Fin 8192) (q : Fin 1024) : down (gT g) (ix3 0 i q) = g (ix1 q) := by pointwise

theorem down_t (i : Fin 8192) (q : Fin 1024) : down (tT0 mo) (ix3 0 i q) = mo (ix2 0 ⟨5120 + q.val, by omega⟩) := by pointwise

theorem x2T_at (i : Fin 8192) (q : Fin 1024) : x2T x a mo w (ix3 0 i q) = x (ix3 0 i q) + down (tT0 mo) (ix3 0 i q) * mT a w (ix3 0 i q) := by
  unfold x2T
  generalize down (tT0 mo) = t
  generalize mT a w = b
  pointwise

theorem vT_at (i : Fin 8192) : vT x (ix3 0 i 0) = msq fun k => x (ix3 0 i k) := by
  unfold msq W E
  pointwise

theorem rT_at (i : Fin 8192) : rT x (ix3 0 i 0) = rs fun k => x (ix3 0 i k) := by
  rw [rs, ← vT_at]
  show Host.rsqrt (vT x) (ix3 0 i 0) = _
  generalize vT x = z
  rfl

theorem wide_at (z : FVec Ideal S1x8192x1 .f32) (i : Fin 8192) (q : Fin 1024) : wide z (ix3 0 i q) = z (ix3 0 i 0) := by pointwise

theorem tT_at (d : FVec Ideal S1x8192x1024 .f32) (i : Fin 8192) (q : Fin 1024) :
    tT x d (ix3 0 i q) = half (fun k => x (ix3 0 i k)) fun k => d (ix3 0 i k) := by
  unfold half
  rw [← rT_at, ← vT_at]
  unfold tT
  generalize rT x = r
  generalize vT x = v
  unfold W H
  pointwise
  rw [Cert.Proof.UnitAxes.outer]
  pointwise

theorem erT_at (i : Fin 8192) (q : Fin 1024) : erT t g x (ix3 0 i q) = x (ix3 0 i q) * wide (rT x) (ix3 0 i q) * down (gT g) (ix3 0 i q) - t (ix3 0 i q) := by
  unfold erT
  generalize down (gT g) = b
  generalize wide (rT x) = r
  pointwise

/-- Half, one over the number of columns, and two, as numbers. -/
theorem half_real : Ideal.ofBits .f32 0x3F000000#32 = ((1 / 2 : ℝ) : EReal) := by
  simp [Ideal.ofBits, Ideal.ieee]
  refine (EReal.coe_mul _ _).symm.trans ?_
  norm_num

theorem two_real : Ideal.ofBits .f32 0x40000000#32 = ((2 : ℝ) : EReal) := by
  simp [Ideal.ofBits, Ideal.ieee]
  refine (EReal.coe_mul _ _).symm.trans ?_
  norm_num

theorem inv_real : Ideal.ofBits .f32 0x3A800000#32 = ((1 / 1024 : ℝ) : EReal) := by
  simp [Ideal.ofBits, Ideal.ieee]
  refine (EReal.coe_mul _ _).symm.trans ?_
  norm_num

theorem mean_two (e : EReal) : Ideal.div (Ideal.ofBits .f32 0x3F000000#32 * O) W * (Ideal.ofBits .f32 0x40000000#32 * e) = e * Ideal.ofBits .f32 0x3A800000#32 := by
  rw [half_real, two_real, inv_real, O_real, W_real, ← EReal.coe_mul, div_real _ _ (by norm_num), ← mul_assoc, ← EReal.coe_mul, mul_comm]
  exact congrArg (fun z : ℝ => e * (z : EReal)) (by norm_num)

theorem dyT_at (e : FVec Ideal S1x8192x1024 .f32) (i : Fin 8192) (q : Fin 1024) : dyT e (ix3 0 i q) = e (ix3 0 i q) * Ideal.ofBits .f32 0x3A800000#32 := by
  rw [← mean_two]
  unfold O W
  pointwise

theorem GX_at (d : FVec Ideal S1x8192x1024 .f32) (i : Fin 8192) (q : Fin 1024) :
    GX x d (ix3 0 i q) = plain (fun k => x (ix3 0 i k)) (fun k => d (ix3 0 i k)) 0 q := by
  unfold plain
  rw [zero_add, ← rT_at, ← tT_at x d i q, ← wide_at (rT x) i q]
  unfold GX
  generalize tT x d = t
  generalize wide (rT x) = r
  pointwise

theorem col_at (z : FVec Ideal S1x8192x1024 .f32) (q : Fin 1024) : col z (ix2 0 q) = ∑ i : Fin 8192, z (ix3 0 i q) := by
  pointwise
  rw [Cert.Proof.UnitAxes.first]
  pointwise

theorem colE_at (z : FVec Ideal S1x8192x1024 .f32) (q : Fin 1024) : colE z (ix2 0 q) = ∑ i : Fin 8192, z (ix3 0 i q) := by
  pointwise

theorem colG_at (z : FVec Ideal S1x8192x1024 .f32) (q : Fin 1024) : colG z (ix2 0 q) = ∑ i : Fin 8192, z (ix3 0 i q) := by
  pointwise
  rw [Cert.Proof.UnitAxes.first]
  pointwise

theorem ACC_at (a0 a1 a2 : FVec Ideal S1x1024 .f32) (b : Fin 8) (q : Fin 1024) : ACC a0 a1 a2 (ix2 b q)
    = if b.val = 0 then a0 (ix2 0 q) else if b.val = 1 then a1 (ix2 0 q) else if b.val = 2 then a2 (ix2 0 q) else 0 := by
  pointwise
  by_cases h0 : b.val = 0
  · rw [dif_pos (by omega), if_pos h0]
    exact congrArg (fun z => a0 (ix2 z q)) (Subsingleton.elim _ _)
  rw [dif_neg (by omega), if_neg h0]
  by_cases h1 : b.val = 1
  · rw [dif_pos (by omega), if_pos h1]
    exact congrArg (fun z => a1 (ix2 z q)) (Subsingleton.elim _ _)
  rw [dif_neg (by omega), if_neg h1]
  by_cases h2 : b.val = 2
  · rw [dif_pos (by omega), if_pos h2]
    exact congrArg (fun z => a2 (ix2 z q)) (Subsingleton.elim _ _)
  rw [dif_neg (by omega), if_neg h2]

/-- Where the activation is not above zero the factor is zero, so the choice changes nothing. -/
theorem choose_max (u v z : EReal) : (if 0 < u then v * (z * max u 0) else 0) = v * (z * max u 0) := by
  by_cases h : 0 < u
  · exact if_pos h
  · rw [if_neg h, max_eq_right (not_lt.mp h), mul_zero, mul_zero]

theorem daT_at (z : FVec Ideal S1x8192x1024 .f32) (i : Fin 8192) (n : Fin 4096) : daT a w z (ix3 0 i n)
    = (∑ q : Fin 1024, z (ix3 0 i q) * w (ix3 0 n q)) * (Ideal.ofBits .f32 0x40000000#32 * max (a (ix3 0 i n)) 0) := by
  rw [← choose_max]
  pointwise

/-- The entries of the first three results, of the pieces' entries. -/
theorem gx_at (i : Fin 8192) (q : Fin 1024) : gx x a t mo g w (ix2 i q) = dT x a t mo g w (ix3 0 i q) := by
  unfold gx
  generalize dT x a t mo g w = d
  pointwise

theorem gm_at (i : Fin 8192) (q : Fin 1024) : gm x a t mo g w (ix2 i q) = down (tT0 mo) (ix3 0 i q) * dT x a t mo g w (ix3 0 i q) := by
  unfold gm
  generalize dT x a t mo g w = d
  generalize down (tT0 mo) = t
  pointwise

theorem ga_at (i : Fin 8192) (n : Fin 4096) : ga x a t mo g w (ix2 i n) = daT a w (mulf (down (tT0 mo)) (dT x a t mo g w)) (ix3 0 i n) := by
  unfold ga
  generalize daT a w (mulf (down (tT0 mo)) (dT x a t mo g w)) = d
  pointwise

end Cert.Reference5Ideal.Loss
-- ==== Proof.LossClaim.lean ====
module

public import proofs.«01_k».proof.Defs
public import proofs.«01_k».proof.Proof.Finite
public import proofs.«01_k».proof.Proof.LossFinal
public import proofs.«01_k».proof.Proof.LossRef
public import proofs.«01_k».proof.Proof.Gen.Pre_finite_loss
public import Idealize.ShloMosaic.Lib.Claim

@[expose] public section

set_option maxRecDepth 16384

noncomputable section

/-! The loss call computes, at finite arguments, the squared errors' sums and the derivative of the loss and of the channel mixer's second half. -/

namespace Cert.Proof.Loss

open Idealize.ShloMosaic Idealize.ShloMosaic.TcCoe Idealize.SL.Sem Cert.Kernel5Ideal Cert.Kernel5Ideal.Loss Cert.Proof.NormMath Cert.Proof.Finite
open Cert.Reference5Ideal.Loss (gx gm ga acc mT gT tT0 x2T down wide rT erT dyT dT mT_at down_g down_t x2T_at rT_at wide_at erT_at dyT_at GX_at col_at colE_at colG_at
  ACC_at gx_at gm_at ga_at daT_at)

variable (m : (ℓ : Loc nD τ sig) → Buf (Elt Ideal) ℓ) (c : Dev nD)

/-- The rows the loss is of in the reference, and their errors. -/
abbrev x2 : FVec Ideal S1x8192x1024 .f32 := x2T (xA m c) (aA m c) (mA m c) (wA m c)
abbrev er2 : FVec Ideal S1x8192x1024 .f32 := erT (tA m c) (gA m c) (x2 m c)

theorem m_eq (i : Fin 8192) (q : Fin 1024) : mT (aA m c) (wA m c) (ix3 0 i q) = M m c i q := mT_at _ _ _ _
theorem g_eq (i : Fin 8192) (q : Fin 1024) : down (gT (gA m c)) (ix3 0 i q) = G m c q := down_g _ _ _
theorem t_eq (i : Fin 8192) (q : Fin 1024) : down (tT0 (mA m c)) (ix3 0 i q) = T m c q := down_t _ _ _
theorem x_eq (i : Fin 8192) (q : Fin 1024) : x2 m c (ix3 0 i q) = X m c i q := by
  unfold x2
  rw [x2T_at, t_eq, m_eq]
  rfl
theorem r_eq (i : Fin 8192) (q : Fin 1024) : wide (rT (x2 m c)) (ix3 0 i q) = rs (X m c i) :=
  ((wide_at _ _ _).trans (rT_at _ _)).trans (congrArg rs (funext fun k => x_eq m c i k))
theorem e_eq (i : Fin 8192) (q : Fin 1024) : er2 m c (ix3 0 i q) = Er m c i q := by
  unfold er2
  rw [erT_at, x_eq, r_eq, g_eq]
  rfl

section Finite

variable (h : Cert.Pre_Kernel5Ideal_finite_loss (hPre_finite_loss := Cert.Pre_finite_loss.Gen.facts) m)

include h in
theorem fin_x (i : S1x8192x1024.Idx) : Re (xA m c i) := re_of_lt (xA m c) _ (fun _ => rfl) (h c).1 _
include h in
theorem fin_a (i : S1x8192x4096.Idx) : Re (aA m c i) := re_of_lt (aA m c) _ (fun _ => rfl) (h c).2.1 _
include h in
theorem fin_t (i : S1x8192x1024.Idx) : Re (tA m c i) := re_of_lt (tA m c) _ (fun _ => rfl) (h c).2.2.1 _
include h in
theorem fin_m (i : S1x6144.Idx) : Re (mA m c i) := re_of_lt (mA m c) _ (fun _ => rfl) (h c).2.2.2.1 _
include h in
theorem fin_g (i : S1024.Idx) : Re (gA m c i) := re_of_lt (gA m c) _ (fun _ => rfl) (h c).2.2.2.2.1 _
include h in
theorem fin_w (i : S1x4096x1024.Idx) : Re (wA m c i) := re_of_lt (wA m c) _ (fun _ => rfl) (h c).2.2.2.2.2 _

theorem C_re : Re C := ⟨_, Cert.Reference5Ideal.Loss.inv_real⟩
theorem zero_re : Re 0 := ⟨0, rfl⟩

include h in
/-- The rows and the normalised rows' gradient are real. -/
theorem X_re (i : Fin 8192) (q : Fin 1024) : Re (X m c i q) := (fin_x m c h _).add ((fin_m m c h _).mul (Re.sum _ _ fun k =>
  (((fin_a m c h _).max zero_re).mul ((fin_a m c h _).max zero_re)).mul (fin_w m c h _)))
include h in
theorem D_re (i : Fin 8192) (q : Fin 1024) : Re (D m c i q) :=
  (((((X_re m c h i q).mul (rs_re _ (X_re m c h i))).mul (fin_g m c h _)).sub (fin_t m c h _)).mul C_re).mul (fin_g m c h _)

include h in
/-- The gradient of the rows. -/
theorem d_eq (i : Fin 8192) (q : Fin 1024) : dT (xA m c) (aA m c) (tA m c) (mA m c) (gA m c) (wA m c) (ix3 0 i q) = D2 m c i q := by
  unfold dT
  rw [GX_at]
  have e : (fun k => mulf (dyT (er2 m c)) (down (gT (gA m c))) (ix3 0 i k)) = D m c i := by
    funext k
    refine Eq.trans (b := dyT (er2 m c) (ix3 0 i k) * down (gT (gA m c)) (ix3 0 i k)) rfl ?_
    rw [dyT_at, e_eq, g_eq]
    rfl
  have e' : (fun k => x2 m c (ix3 0 i k)) = X m c i := funext fun k => x_eq m c i k
  rw [e, e']
  exact plain_kern (X m c i) _ _ _ (fun k => X_re m c h _ _) fun k => D_re m c h _ _

include h in
theorem ref7 : gx (xA m c) (aA m c) (tA m c) (mA m c) (gA m c) (wA m c) = G7 m c := by
  funext y; idx_vars y
  exact (gx_at _ _ _ _ _ _ _ _).trans (d_eq m c h y0 y1)

include h in
theorem ref8 : gm (xA m c) (aA m c) (tA m c) (mA m c) (gA m c) (wA m c) = G8 m c := by
  funext y; idx_vars y
  rw [gm_at, d_eq m c h, t_eq]
  exact mul_comm _ _

include h in
theorem ref9 : ga (xA m c) (aA m c) (tA m c) (mA m c) (gA m c) (wA m c) = G9 m c := by
  funext y; idx_vars y
  rw [ga_at, daT_at]
  refine congrArg (· * _) (Finset.sum_congr rfl fun q _ => congrArg (· * _) ?_)
  refine Eq.trans (b := down (tT0 (mA m c)) (ix3 0 y0 q) * dT (xA m c) (aA m c) (tA m c) (mA m c) (gA m c) (wA m c) (ix3 0 y0 q)) rfl ?_
  rw [d_eq m c h, t_eq]
  exact mul_comm _ _

include h in
/-- The sums over all rows. -/
theorem ref10 : acc (xA m c) (aA m c) (tA m c) (mA m c) (gA m c) (wA m c) = G10 m c := by
  funext y; idx_vars y
  unfold acc
  rw [ACC_at]
  show _ = ∑ s : Fin 16, ∑ p : Fin 512, term m c y0 y1 ⟨s.val * 512 + p.val, by omega⟩
  refine Eq.trans ?_ (Fin.sum_univ_tiles 16 512 rfl (fun r => term m c y0 y1 r))
  unfold term
  by_cases h0 : y0.val = 0
  · rw [if_pos h0, colE_at]
    refine Finset.sum_congr rfl fun i _ => ?_
    rw [if_pos h0, ← e_eq]
    rfl
  rw [if_neg h0]
  by_cases h1 : y0.val = 1
  · rw [if_pos h1, colG_at]
    refine Finset.sum_congr rfl fun i _ => ?_
    rw [if_neg h0, if_pos h1]
    refine Eq.trans (b := x2 m c (ix3 0 i y1) * wide (rT (x2 m c)) (ix3 0 i y1) * dyT (er2 m c) (ix3 0 i y1)) rfl ?_
    rw [dyT_at, x_eq, r_eq, e_eq]
    exact mul_comm _ _
  rw [if_neg h1]
  by_cases h2 : y0.val = 2
  · rw [if_pos h2, col_at]
    refine Finset.sum_congr rfl fun i _ => ?_
    rw [if_neg h0, if_neg h1, if_pos h2, ← d_eq m c h, ← m_eq]
    rfl
  rw [if_neg h2]
  exact (Finset.sum_eq_zero fun i _ => by rw [if_neg h0, if_neg h1, if_neg h2]).symm

end Finite

theorem algebraic : Cert.algebraic_Kernel5Ideal_Reference5Ideal_pre_finite_loss (hKernel5Ideal := Cert.Kernel5Ideal.Gen.facts)
    (hReference5Ideal := Cert.Reference5Ideal.Gen.facts) (hPre_finite_loss := Cert.Pre_finite_loss.Gen.facts) := by
  intro m g m' g' hp hm
  refine ⟨fun c => G7 m c, fun c => G8 m c, fun c => G9 m c, fun c => G10 m c, ?_, ?_⟩
  · refine (θ_run _ _ _).mono (fun r h c => ?_) (Cert.Kernel5Ideal.Value.run_blocks (F := Ideal) m g)
    obtain ⟨h7, h8, h9, h10, hargs⟩ := h c
    exact ⟨h7.trans (final7 m c), h8.trans (final8 m c), h9.trans (final9 m c), h10.trans (final10 m c), hargs⟩
  · refine (θ_run _ _ _).mono (fun r h c => ?_) (Cert.Reference5Ideal.Value.run (F := Ideal) m' g')
    obtain ⟨h7, h8, h9, h10, hargs⟩ := h c
    obtain ⟨a0, a1, a2, a3, a4, a5⟩ := hm c
    have e7 := ref7 m c hp; have e8 := ref8 m c hp; have e9 := ref9 m c hp; have e10 := ref10 m c hp
    unfold xA aA tA mA gA wA at e7 e8 e9 e10
    rw [← a0, ← a1, ← a2, ← a3, ← a4, ← a5] at e7 e8 e9 e10
    exact ⟨h7.trans e7, h8.trans e8, h9.trans e9, h10.trans e10, hargs⟩

end Cert.Proof.Loss
-- ==== Proof.FwdTile.lean ====
module

public import proofs.«01_k».proof.Proof.Gen.Kernel6Ideal.Value
public import Idealize.ShloMosaic.Lib.Pipeline.ValueKit
public import Idealize.ShloMosaic.Lib.Pointwise
public import proofs.«01_k».proof.Proof.AttnMath

@[expose] public section

set_option maxRecDepth 16384

noncomputable section

/-! The full attention's forward call, one block of 256 queries of four heads: tile after tile of 2048 keys, each row keeps its largest score so far
    and the sums of its exponentials with the values, scaled to that score. Over real entries the scale drops out. -/

namespace Cert.Kernel6Ideal.Fwd

open Cert.Kernel6Ideal Cert.Kernel6Ideal.Gen Idealize.ShloMosaic Idealize.ShloMosaic.TcCoe Idealize.SL.Sem

open Cert.Proof.AttnMath

variable (x0 : Vec Ideal S1x4x256x64 .bf16) (x1 : Vec Ideal S1x8192x64 .bf16) (x2 : Vec Ideal S1x8192x128 .bf16)

/-- The head and the query of a row of the block. -/
def hd (R : Fin 1024) : Fin 4 := ⟨R.val / 256, by omega⟩
def qr (R : Fin 1024) : Fin 256 := ⟨R.val % 256, by omega⟩

/-- A tile's scores; the rows' largest scores, the factor for what came before, and the exponentials; the new sums. -/
def sT (kt : Vec Ideal S1x2048x64 .bf16) : FVec Ideal S1024x2048 .f32 := k0_pay8 x0 kt
def topT (s : Vec Ideal S1024x2048 .f32) (m : Vec Ideal S1024x1 .f32) : FVec Ideal S1024x1 .f32 := k0_pay10 s m
def facT (s : Vec Ideal S1024x2048 .f32) (m : Vec Ideal S1024x1 .f32) : FVec Ideal S1024x1 .f32 := k0_pay12 (k0_pay11 s m)
def expT (s : Vec Ideal S1024x2048 .f32) (m : Vec Ideal S1024x1 .f32) : FVec Ideal S1024x2048 .bf16 := k0_pay13 s (k0_pay9 s m)
def sumT (a : Vec Ideal S1024x1 .f32) (acc : Vec Ideal S1024x128 .f32) (p : Vec Ideal S1024x2048 .bf16) (vt : Vec Ideal S1x2048x128 .bf16) :
    FVec Ideal S1024x128 .f32 := k0_pay16 (k0_pay15 a acc p vt)

theorem sT_at (kt : Vec Ideal S1x2048x64 .bf16) (R : Fin 1024) (p : Fin 2048) :
    sT x0 kt (ix2 R p) = ∑ d : Fin 64, x0 (ix4 0 (hd R) (qr R) d) * kt (ix3 0 p d) := by
  pointwise [sT, k0_pay8, k0_pay5]
  rfl

theorem top_at (s : Vec Ideal S1024x2048 .f32) (m : Vec Ideal S1024x1 .f32) (R : Fin 1024) :
    topT s m (ix2 R 0) = max (m (ix2 R 0)) (Finset.univ.fold max (Ideal.ofBits .f32 0xFF800000#32) fun p : Fin 2048 => s (ix2 R p)) := by
  pointwise [topT, k0_pay10, k0_pay9]

theorem top9_at (s : Vec Ideal S1024x2048 .f32) (m : Vec Ideal S1024x1 .f32) (R : Fin 1024) :
    k0_pay9 s m (ix2 R 0) = topT s m (ix2 R 0) := by
  unfold topT k0_pay10
  generalize k0_pay9 s m = z
  pointwise

theorem fac_at (s : Vec Ideal S1024x2048 .f32) (m : Vec Ideal S1024x1 .f32) (R : Fin 1024) :
    facT s m (ix2 R 0) = Ideal.exp (m (ix2 R 0) - topT s m (ix2 R 0)) := by
  rw [← top9_at]
  unfold facT k0_pay12 k0_pay11
  generalize k0_pay9 s m = z
  pointwise

theorem exp_at (s : Vec Ideal S1024x2048 .f32) (m : Vec Ideal S1024x1 .f32) (R : Fin 1024) (p : Fin 2048) :
    expT s m (ix2 R p) = Ideal.exp (s (ix2 R p) - topT s m (ix2 R 0)) := by
  rw [← top9_at]
  unfold expT
  generalize k0_pay9 s m = z
  pointwise [k0_pay13]

theorem sum_at (a : Vec Ideal S1024x1 .f32) (acc : Vec Ideal S1024x128 .f32) (p : Vec Ideal S1024x2048 .bf16) (vt : Vec Ideal S1x2048x128 .bf16)
    (R : Fin 1024) (d : Fin 128) :
    sumT a acc p vt (ix2 R d) = a (ix2 R 0) * acc (ix2 R d) + ∑ j : Fin 2048, p (ix2 R j) * vt (ix3 0 j d) := by
  pointwise [sumT, k0_pay16, k0_pay15]

theorem start_at (R : Fin 1024) : (k0_pay6 (F := Ideal)) (ix2 R 0) = Ideal.ofBits .f32 0xF149F2CA#32 := by
  pointwise [k0_pay6]

theorem zero_at (R : Fin 1024) (d : Fin 128) : (k0_pay7 (F := Ideal)) (ix2 R d) = 0 := by
  pointwise [k0_pay7]

/-- The first score a row is compared with is a real number. -/
theorem start_real : ∃ r : ℝ, Ideal.ofBits .f32 0xF149F2CA#32 = (r : EReal) := by
  refine ⟨_, (?_ : _ = ((-1000000015047466219876688855040 : ℝ) : EReal))⟩
  simp [Ideal.ofBits, Ideal.ieee]
  refine (EReal.coe_mul _ _).symm.trans ?_
  norm_num

/-- One tile over the reals: the sums so far, scaled from the old largest score to the new one, and the tile's part. -/
theorem step_real {J : Type} [Fintype J] (S V s : ℝ) (M N : ℝ) (e v : J → ℝ) (hS : S = Real.exp (-M) * V) :
    Ideal.exp ((M : EReal) - (N : EReal)) * (S : EReal) + ∑ j, Ideal.exp ((e j : EReal) - (N : EReal)) * (v j : EReal)
      = ((Real.exp (-N) * (V + ∑ j, Real.exp (e j) * v j) : ℝ) : EReal) := by
  simp only [← EReal.coe_sub, Ideal.exp_coe, ← EReal.coe_mul, coe_sum, ← EReal.coe_add]
  refine congrArg _ ?_
  rw [hS, mul_add, Finset.mul_sum, ← mul_assoc, ← Real.exp_add]
  refine congrArg₂ _ (by congr 2; ring) (Finset.sum_congr rfl fun j _ => ?_)
  rw [← mul_assoc, ← Real.exp_add]
  congr 2; ring

section Tile

variable (off : ℕ) (hk : ∀ a, (![0, off, 0] : Fin 3 → ℕ) a + (![1, 2048, 64] : Fin 3 → ℕ) a ≤ S1x8192x64.size a)
  (hv : ∀ a, (![0, off, 0] : Fin 3 → ℕ) a + (![1, 2048, 128] : Fin 3 → ℕ) a ≤ S1x8192x128.size a)

/-- A tile of 2048 rows reads the block from its first row on. -/
theorem ktile_at (p : Fin 2048) (d : Fin 64) (j : Fin 8192) (hj : j.val = off + p.val) :
    View.ld x1 (Rect.unit (s := S1x8192x64) ![0, off, 0] ![1, 2048, 64] hk) (ix3 0 p d) = x1 (ix3 0 j d) := by
  refine congrArg x1 (funext fun a => ?_)
  fin_cases a <;> refine Fin.ext ?_
  · rfl
  · simp [Rect.emb, Rect.unit, hj]
  · simp [Rect.emb, Rect.unit]

theorem vtile_at (p : Fin 2048) (d : Fin 128) (j : Fin 8192) (hj : j.val = off + p.val) :
    View.ld x2 (Rect.unit (s := S1x8192x128) ![0, off, 0] ![1, 2048, 128] hv) (ix3 0 p d) = x2 (ix3 0 j d) := by
  refine congrArg x2 (funext fun a => ?_)
  fin_cases a <;> refine Fin.ext ?_
  · rfl
  · simp [Rect.emb, Rect.unit, hj]
  · simp [Rect.emb, Rect.unit]

end Tile

/-- Tiles lie inside the block. -/
theorem tile_in (n : ℕ) (h : n + 1 ≤ 4) (w : ℕ) :
    ∀ a, (![0, 2048 * n, 0] : Fin 3 → ℕ) a + (![1, 2048, w] : Fin 3 → ℕ) a ≤ (![1, 8192, w] : Fin 3 → ℕ) a := by
  intro a
  fin_cases a <;> simp <;> omega

/-- A tile of the keys, and of the values. -/
def ktile (n : ℕ) (h : n + 1 ≤ 4) : Vec Ideal S1x2048x64 .bf16 := View.ld x1 (Rect.unit (s := S1x8192x64) ![0, 2048 * n, 0] ![1, 2048, 64] (tile_in n h 64))
def vtile (n : ℕ) (h : n + 1 ≤ 4) : Vec Ideal S1x2048x128 .bf16 := View.ld x2 (Rect.unit (s := S1x8192x128) ![0, 2048 * n, 0] ![1, 2048, 128] (tile_in n h 128))

/-- The rows' largest scores, and their sums, after `n` tiles. -/
def tops : (n : ℕ) → n ≤ 4 → FVec Ideal S1024x1 .f32
  | 0, _ => k0_pay6
  | n + 1, h => topT (sT x0 (ktile x1 n h)) (tops n (by omega))
def sums : (n : ℕ) → n ≤ 4 → FVec Ideal S1024x128 .f32
  | 0, _ => k0_pay7
  | n + 1, h => sumT (facT (sT x0 (ktile x1 n h)) (tops x0 x1 n (by omega))) (sums n (by omega))
      (expT (sT x0 (ktile x1 n h)) (tops x0 x1 n (by omega))) (vtile x2 n h)

section Row

variable (R : Fin 1024) (s : ℕ → ℝ) (v : ℕ → Fin 128 → ℝ)
  (hs : ∀ j : Fin 8192, ∑ d : Fin 64, x0 (ix4 0 (hd R) (qr R) d) * x1 (ix3 0 j d) = (s j.val : EReal))
  (hv : ∀ (j : Fin 8192) (d : Fin 128), x2 (ix3 0 j d) = (v j.val d : EReal))

include hs in
theorem sT_real (n : ℕ) (h : n + 1 ≤ 4) (p : Fin 2048) : sT x0 (ktile x1 n h) (ix2 R p) = (s (2048 * n + p.val) : EReal) := by
  rw [sT_at, ← hs ⟨2048 * n + p.val, by omega⟩]
  exact Finset.sum_congr rfl fun d _ => congrArg _ (ktile_at x1 _ _ p d _ rfl)

include hs in
/-- A row's largest score after some tiles is real. -/
theorem tops_real : ∀ (n : ℕ) (h : n ≤ 4), ∃ M : ℝ, tops x0 x1 n h (ix2 R 0) = (M : EReal)
  | 0, h => ⟨_, (start_at R).trans start_real.choose_spec⟩
  | n + 1, h => by
    obtain ⟨M, hM⟩ := tops_real n (by omega)
    obtain ⟨N, hN⟩ := fold_max_real fun p : Fin 2048 => s (2048 * n + p.val)
    refine ⟨max M N, ?_⟩
    rw [tops, top_at, hM, negInf]
    simp only [sT_real x0 x1 R s hs n h]
    rw [max_eq_right bot_le] at hN
    rw [hN]
    exact (EReal.coe_strictMono.monotone.map_max (a := M) (b := N)).symm

include hs hv in
/-- A row's sums after some tiles, at whatever real number its largest score is. -/
theorem sums_real (d : Fin 128) : ∀ (n : ℕ) (h : n ≤ 4) (M : ℝ), tops x0 x1 n h (ix2 R 0) = (M : EReal) →
    sums x0 x1 x2 n h (ix2 R d) = ((Real.exp (-M) * ∑ j ∈ Finset.range (2048 * n), Real.exp (s j) * v j d : ℝ) : EReal)
  | 0, h, M, hM => by
    rw [Nat.mul_zero, Finset.sum_range_zero, mul_zero]
    exact zero_at R d
  | n + 1, h, N, hN => by
    obtain ⟨M, hM⟩ := tops_real x0 x1 R s hs n (by omega)
    have hN' : topT (sT x0 (ktile x1 n h)) (tops x0 x1 n (by omega)) (ix2 R 0) = (N : EReal) := hN
    rw [sums, sum_at, fac_at, hN', hM, sums_real d n (by omega) M hM]
    simp only [exp_at, hN', sT_real x0 x1 R s hs n h]
    have hvt : ∀ p : Fin 2048, vtile x2 n h (ix3 0 p d) = (v (2048 * n + p.val) d : EReal) := fun p =>
      (vtile_at x2 _ _ p d ⟨2048 * n + p.val, by omega⟩ rfl).trans (hv _ d)
    simp only [hvt]
    rw [step_real _ (∑ j ∈ Finset.range (2048 * n), Real.exp (s j) * v j d) 0 M N _ _ rfl, Nat.mul_succ, Finset.sum_range_add]
    refine congrArg _ (congrArg _ (congrArg _ ?_))
    exact (Finset.sum_range fun p => Real.exp (s (2048 * n + p)) * v (2048 * n + p) d).symm

end Row

end Cert.Kernel6Ideal.Fwd
-- ==== Proof.FwdRun.lean ====
module

public import proofs.«01_k».proof.Proof.Gen.Kernel6Ideal.Value
public import Idealize.ShloMosaic.Lib.Pipeline.ValueKit
public import Idealize.ShloMosaic.Lib.Pointwise
public import proofs.«01_k».proof.Proof.FwdTile
public import Idealize.ShloMosaic.Lib.Pipeline.ReadBack

@[expose] public section

set_option maxRecDepth 16384

noncomputable section

/-! What one grid point of the forward call leaves in its three result blocks, over whatever its argument blocks hold: the sums with
    the values over the sum of the exponentials, by columns and by heads, and the logarithm of that sum. -/

namespace Cert.Kernel6Ideal.Fwd

open Cert.Kernel6Ideal Cert.Kernel6Ideal.Gen Idealize.ShloMosaic Idealize.ShloMosaic.TcCoe Idealize.SL.Sem

variable (x0 : Vec Ideal S1x4x256x64 .bf16) (x1 : Vec Ideal S1x8192x64 .bf16) (x2 : Vec Ideal S1x8192x128 .bf16)

/-- The row of a head and a query of the block. -/
def rowOf (h : Fin 4) (r : Fin 256) : Fin 1024 := ⟨h.val * 256 + r.val, by omega⟩

/-- The block's output, and the logarithm of its rows' sums. -/
def oB (h : Fin 4) (r : Fin 256) (d : Fin 64) : EReal :=
  Ideal.div (sums x0 x1 x2 4 (le_refl 4) (ix2 (rowOf h r) ⟨d.val, by omega⟩)) (sums x0 x1 x2 4 (le_refl 4) (ix2 (rowOf h r) 64))
def lB (h : Fin 4) (r : Fin 256) : EReal :=
  tops x0 x1 4 (le_refl 4) (ix2 (rowOf h r) 0) + Ideal.log (sums x0 x1 x2 4 (le_refl 4) (ix2 (rowOf h r) 64))

theorem quot_at (l : Vec Ideal S1024x1 .f32) (a : Vec Ideal S1024x64 .f32) (R : Fin 1024) (d : Fin 64) :
    k0_pay34 l a (ix2 R d) = Ideal.div (a (ix2 R d)) (l (ix2 R 0)) := by
  pointwise [k0_pay34]

theorem heads_at (o : FVec Ideal S1024x64 .bf16) (h : Fin 4) (r : Fin 256) (d : Fin 64) : k0_pay3 o (ix4 0 h r d) = o (ix2 (rowOf h r) d) := by
  pointwise [k0_pay3]
  rfl

theorem log_at (l mx : Vec Ideal S1024x1 .f32) (h : Fin 4) (r : Fin 256) :
    k0_pay4 l mx (ix4 0 h r 0) = mx (ix2 (rowOf h r) 0) + Ideal.log (l (ix2 (rowOf h r) 0)) := by
  pointwise [k0_pay4]
  rfl

/-- A read of the leading lanes of an array of sums just written whole, and of its lane 64. -/
theorem lanes_at {sig : RefSig} {κ : Kind} {sp : Space} (v : View sig κ sp S1024x128 .f32) (P : Vec Ideal S1024x128 .f32)
    (L : List (View.Piece (Elt Ideal) S1024x128 .f32)) (inb : ∀ a, (![0, 0] : Fin 2 → ℕ) a + S1024x128.size a ≤ S1024x128.size a)
    (inb' : ∀ a, (![0, 0] : Fin 2 → ℕ) a + (![1024, 64] : Fin 2 → ℕ) a ≤ S1024x128.size a) (R : Fin 1024) (d : Fin 64) :
    v.readCov ((⟨Rect.unit ![0, 0] S1024x128.size inb, P⟩ : View.Piece (Elt Ideal) S1024x128 .f32) :: L) (Rect.unit (s := S1024x128) ![0, 0] ![1024, 64] inb').toLoadRect (ix2 R d : S1024x64.Idx) = P (ix2 R ⟨d.val, by omega⟩) := by
  rw [View.readCov_eq_canon']
  dsimp only
  rw [View.canon_cons_unit_zero (by funext a; fin_cases a <;> rfl)]
  refine congrArg P (funext fun a => ?_)
  fin_cases a
  · exact Fin.ext (by show 0 + 1 * R.val = R.val; omega)
  · exact Fin.ext (by show 0 + 1 * d.val = d.val; omega)

theorem lane_at {sig : RefSig} {κ : Kind} {sp : Space} (v : View sig κ sp S1024x128 .f32) (P : Vec Ideal S1024x128 .f32)
    (L : List (View.Piece (Elt Ideal) S1024x128 .f32)) (inb : ∀ a, (![0, 0] : Fin 2 → ℕ) a + S1024x128.size a ≤ S1024x128.size a)
    (inb' : ∀ a, (![0, 64] : Fin 2 → ℕ) a + (![1024, 1] : Fin 2 → ℕ) a ≤ S1024x128.size a) (R : Fin 1024) :
    v.readCov ((⟨Rect.unit ![0, 0] S1024x128.size inb, P⟩ : View.Piece (Elt Ideal) S1024x128 .f32) :: L) (Rect.unit (s := S1024x128) ![0, 64] ![1024, 1] inb').toLoadRect (ix2 R 0 : S1024x1.Idx) = P (ix2 R 64) := by
  rw [View.readCov_eq_canon']
  dsimp only
  rw [View.canon_cons_unit_zero (by funext a; fin_cases a <;> rfl)]
  refine congrArg P (funext fun a => ?_)
  fin_cases a
  · exact Fin.ext (by show 0 + 1 * R.val = R.val; omega)
  · rfl

/-- The output by columns: head `C / 64`, lane `C % 64`. -/
def colB (y : S256x256.Idx) : EReal :=
  oB x0 x1 x2 ⟨(y 1).val / 64, by have : (y 1).val < 256 := (y 1).isLt; omega⟩ (y 0) ⟨(y 1).val % 64, by omega⟩

theorem colB_eq (y : S256x256.Idx) (x : S256x64.Idx) (h : Fin 4) (h0 : (y 0).val = (x 0).val) (h1 : (y 1).val = 64 * h.val + (x 1).val) :
    colB x0 x1 x2 y = oB x0 x1 x2 h (x 0) (x 1) := by
  have hx : (x 1).val < 64 := (x 1).isLt
  unfold colB
  congr 1
  · exact Fin.ext (by show (y 1).val / 64 = h.val; omega)
  · exact Fin.ext h0
  · exact Fin.ext (by show (y 1).val % 64 = (x 1).val; omega)

theorem slice_at (o : FVec Ideal S1024x64 .bf16) (off : ℕ) (hs : S1024x64.Slices ![off, 0] S256x64) (x : S256x64.Idx) (h : Fin 4)
    (ho : off = h.val * 256) : extractStridedSlice S256x64 ![off, 0] o hs x = o (ix2 (rowOf h (x 0)) (x 1)) := by
  subst ho
  refine congrArg o (funext fun a => ?_)
  fin_cases a
  · rfl
  · exact Fin.ext (by show 0 + (x 1).val = (x 1).val; omega)

theorem split (x : S256x64.Idx) : ∃ (a : Fin 256) (b : Fin 64), x = ix2 a b := ⟨x 0, x 1, by funext k; fin_cases k <;> rfl⟩

theorem tile3_at (o : FVec Ideal S1024x64 .bf16) (a : Fin 256) (b : Fin 64) : k0_pay2 o (ix2 a b) = o (ix2 (rowOf 3 a) b) := by
  unfold k0_pay2
  exact slice_at _ 768 _ (ix2 a b) 3 rfl

theorem tile2_at (o : FVec Ideal S1024x64 .bf16) (a : Fin 256) (b : Fin 64) : k0_pay1 o (ix2 a b) = o (ix2 (rowOf 2 a) b) := by
  unfold k0_pay1
  exact slice_at _ 512 _ (ix2 a b) 2 rfl

theorem tile1_at (l : Vec Ideal S1024x1 .f32) (w : Vec Ideal S1024x64 .f32) (a : Fin 256) (b : Fin 64) : k0_pay36 l w (ix2 a b) = k0_pay34 l w (ix2 (rowOf 1 a) b) := by
  unfold k0_pay36
  exact slice_at _ 256 _ (ix2 a b) 1 rfl

theorem tile0_at (l : Vec Ideal S1024x1 .f32) (w : Vec Ideal S1024x64 .f32) (a : Fin 256) (b : Fin 64) : k0_pay35 l w (ix2 a b) = k0_pay34 l w (ix2 (rowOf 0 a) b) := by
  unfold k0_pay35
  exact slice_at _ 0 _ (ix2 a b) 0 rfl

section Points

variable (c : Dev nD) (i : grid0.Coords) (arg2 : Memref sig .tc .vmem S1x4x256x64 .bf16) (harg2 : arg2.IsWhole) (arg3 : Memref sig .tc .vmem S1x8192x64 .bf16) (harg3 : arg3.IsWhole) (arg4 : Memref sig .tc .vmem S1x8192x128 .bf16) (harg4 : arg4.IsWhole) (arg5 : Memref sig .tc .vmem S256x256 .bf16) (harg5 : arg5.IsWhole) (arg6 : Memref sig .tc .vmem S1x4x256x64 .bf16) (harg6 : arg6.IsWhole) (arg7 : Memref sig .tc .vmem S1x4x256x1 .f32) (harg7 : arg7.IsWhole) (arg8 : Memref sig .tc .vmem S1024x2048 .f32) (harg8 : arg8.IsWhole) (arg9 : Memref sig .tc .vmem S1024x2048 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x128 .f32) (harg14 : arg14.IsWhole)

theorem out_4 (h : Fin 4) (r : Fin 256) (d : Fin 64) :
    out0_A_4 c i arg2 harg2 arg3 harg3 arg4 harg4 arg5 harg5 arg6 harg6 arg7 harg7 arg8 harg8 arg9 harg9 arg10 harg10 arg11 harg11 arg12 harg12 arg13 harg13 arg14 harg14 x0 x1 x2 (ix4 0 h r d) = oB x0 x1 x2 h r d := by
  frame_out
  rw [heads_at, quot_at]
  rw [lanes_at, lane_at]
  rfl

theorem out_5 (h : Fin 4) (r : Fin 256) :
    out0_A_5 c i arg2 harg2 arg3 harg3 arg4 harg4 arg5 harg5 arg6 harg6 arg7 harg7 arg8 harg8 arg9 harg9 arg10 harg10 arg11 harg11 arg12 harg12 arg13 harg13 arg14 harg14 x0 x1 x2 (ix4 0 h r 0) = lB x0 x1 x2 h r := by
  frame_out
  rw [log_at, lane_at]
  rfl

theorem out_3 (y : S256x256.Idx) :
    out0_A_3 c i arg2 harg2 arg3 harg3 arg4 harg4 arg5 harg5 arg6 harg6 arg7 harg7 arg8 harg8 arg9 harg9 arg10 harg10 arg11 harg11 arg12 harg12 arg13 harg13 arg14 harg14 x0 x1 x2 y = colB x0 x1 x2 y := by
  frame_out
  canon_tiles x h
  · rw [colB_eq x0 x1 x2 y x 3 (by omega) (by first | exact h1 | (show (y 1).val = 192 + (x 1).val; omega))]
    obtain ⟨a, b, rfl⟩ := split x
    rw [tile3_at, quot_at, lanes_at, lane_at]
    rfl
  · rw [colB_eq x0 x1 x2 y x 2 (by omega) (by first | exact h1 | (show (y 1).val = 128 + (x 1).val; omega))]
    obtain ⟨a, b, rfl⟩ := split x
    rw [tile2_at, quot_at, lanes_at, lane_at]
    rfl
  · rw [colB_eq x0 x1 x2 y x 1 (by omega) (by first | exact h1 | (show (y 1).val = 64 + (x 1).val; omega))]
    obtain ⟨a, b, rfl⟩ := split x
    rw [tile1_at, quot_at, lanes_at, lane_at]
    rfl
  · rw [colB_eq x0 x1 x2 y x 0 (by omega) (by first | exact h1 | (show (y 1).val = 0 + (x 1).val; omega))]
    obtain ⟨a, b, rfl⟩ := split x
    rw [tile0_at, quot_at, lanes_at, lane_at]
    rfl

end Points

end Cert.Kernel6Ideal.Fwd
-- ==== Proof.FwdValue.lean ====
module

public import proofs.«01_k».proof.Proof.Gen.Kernel6Ideal.Value
public import Idealize.ShloMosaic.Lib.Pipeline.ValueKit
public import Idealize.ShloMosaic.Lib.Pointwise
public import proofs.«01_k».proof.Proof.FwdRun
public import proofs.«01_k».proof.Proof.AttnHost
public import proofs.«01_k».proof.Proof.AttnSpec

@[expose] public section

set_option maxRecDepth 16384

noncomputable section

/-! The three arrays the forward call returns, at finite arguments: the softmax's weights times the values, by columns and by heads,
    and the logarithm of each row's sum of exponentials. -/

namespace Cert.Kernel6Ideal.Fwd

open Cert.Kernel6Ideal Cert.Kernel6Ideal.Gen Idealize.ShloMosaic Idealize.ShloMosaic.TcCoe Idealize.SL.Sem

open Idealize.ShloMosaic.Pipeline (Dat)
open Cert.Kernel2Ideal.Attn (qs heads v1)
open Cert.Proof.AttnMath Cert.Proof.AttnSpec

/-- The other lanes of the values' block are ones. -/
theorem ones_at (v : FVec Ideal S1x8192x2x64 .f32) (g : Fin 2) (j : Fin 8192) (d : Fin 64) : v1 v (ix3 g j ⟨64 + d.val, by omega⟩) = 1 := by
  pointwise [v1]

section Spec

variable (q : Fin 8192 → Fin 8 → Fin 64 → ℝ) (k v : Fin 8192 → Fin 2 → Fin 64 → ℝ)

/-- The attention's output, and the logarithm of a row's sum, over the reals. -/
def oR (g : Fin 2) (h : Fin 4) (i : Fin 8192) (d : Fin 64) : ℝ := ∑ j : Fin 8192, wR q k g h i j * v j g d
def lR (g : Fin 2) (h : Fin 4) (i : Fin 8192) : ℝ := Real.log (∑ j : Fin 8192, Real.exp (sR q k g h i j))

end Spec

/-- A function on the first 8192 numbers, continued by zero. -/
def ext (f : Fin 8192 → ℝ) (n : ℕ) : ℝ := if h : n < 8192 then f ⟨n, h⟩ else 0

theorem ext_val (f : Fin 8192 → ℝ) (j : Fin 8192) : ext f j.val = f j := dif_pos j.isLt

theorem ext_sum (f g : Fin 8192 → ℝ) :
    ∑ j ∈ Finset.range (2048 * 4), Real.exp (ext f j) * ext g j = ∑ j : Fin 8192, Real.exp (f j) * g j := by
  rw [← Fin.sum_univ_eq_sum_range (fun j => Real.exp (ext f j) * ext g j)]
  exact Finset.sum_congr rfl fun j _ => by rw [ext_val, ext_val]

/-- A block's output and its rows' logarithms from the scores `s` and the values `v` of a row. -/
theorem block_real (x0 : Vec Ideal S1x4x256x64 .bf16) (x1 : Vec Ideal S1x8192x64 .bf16) (x2 : Vec Ideal S1x8192x128 .bf16) (h : Fin 4) (r : Fin 256)
    (s : Fin 8192 → ℝ) (v : Fin 8192 → Fin 64 → ℝ) (w : Fin 8192 → Fin 128 → ℝ)
    (hs : ∀ j : Fin 8192, ∑ d : Fin 64, x0 (ix4 0 h r d) * x1 (ix3 0 j d) = (s j : EReal))
    (hw : ∀ (j : Fin 8192) (d : Fin 128), x2 (ix3 0 j d) = (w j d : EReal)) (hv : ∀ (j : Fin 8192) (d : Fin 64), w j ⟨d.val, by omega⟩ = v j d)
    (h1 : ∀ j : Fin 8192, w j 64 = 1) :
    (∀ d : Fin 64, oB x0 x1 x2 h r d = ((∑ j, weight s j * v j d : ℝ) : EReal))
      ∧ lB x0 x1 x2 h r = ((Real.log (∑ j, Real.exp (s j)) : ℝ) : EReal) := by
  have hrow : hd (rowOf h r) = h := Fin.ext (by show (h.val * 256 + r.val) / 256 = h.val; omega)
  have hcol : Fwd.qr (rowOf h r) = r := Fin.ext (by show (h.val * 256 + r.val) % 256 = r.val; omega)
  have hs' : ∀ j : Fin 8192, ∑ d : Fin 64, x0 (ix4 0 (hd (rowOf h r)) (Fwd.qr (rowOf h r)) d) * x1 (ix3 0 j d) = (ext s j.val : EReal) := fun j => by
    rw [hrow, hcol, ext_val]; exact hs j
  obtain ⟨M, hM⟩ := tops_real x0 x1 (rowOf h r) (ext s) hs' 4 (le_refl 4)
  have hp : 0 < ∑ j, Real.exp (s j) := Finset.sum_pos (fun _ _ => Real.exp_pos _) Finset.univ_nonempty
  have hL : sums x0 x1 x2 4 (le_refl 4) (ix2 (rowOf h r) 64) = ((Real.exp (-M) * ∑ j, Real.exp (s j) : ℝ) : EReal) := by
    rw [sums_real x0 x1 x2 (rowOf h r) (ext s) (fun n d => ext (fun j => w j d) n) hs' (fun j d => by rw [ext_val]; exact hw j d) 64 4 (le_refl 4) M hM, ext_sum]
    simp only [h1, mul_one]
  refine ⟨fun d => ?_, ?_⟩
  · unfold oB
    rw [hL, sums_real x0 x1 x2 (rowOf h r) (ext s) (fun n d => ext (fun j => w j d) n) hs' (fun j d => by rw [ext_val]; exact hw j d) ⟨d.val, by omega⟩ 4 (le_refl 4) M hM, ext_sum,
      Ideal.div_coe (mul_pos (Real.exp_pos _) hp).ne', ← EReal.coe_mul]
    refine congrArg _ ?_
    simp only [hv]
    rw [mul_one_div, mul_div_mul_left _ _ (Real.exp_pos _).ne', Finset.sum_div]
    exact Finset.sum_congr rfl fun j _ => by rw [weight]; ring
  · unfold lB
    rw [hL, hM, Ideal.log_coe, if_neg (mul_pos (Real.exp_pos _) hp).not_ge, ← EReal.coe_add]
    refine congrArg _ ?_
    rw [Real.log_mul (Real.exp_pos _).ne' hp.ne', Real.log_exp]
    ring

/-- The real values beside ones. -/
def lanes (v : Fin 8192 → Fin 2 → Fin 64 → ℝ) (g : Fin 2) (j : Fin 8192) (d : Fin 128) : ℝ := if h : d.val < 64 then v j g ⟨d.val, h⟩ else 1

theorem lanes_real (V : FVec Ideal S1x8192x2x64 .f32) (v : Fin 8192 → Fin 2 → Fin 64 → ℝ) (hv : ∀ j g d, V (ix4 0 j g d) = (v j g d : EReal))
    (g : Fin 2) (j : Fin 8192) (d : Fin 128) : v1 V (ix3 g j d) = (lanes v g j d : EReal) := by
  unfold lanes
  by_cases h : d.val < 64
  · rw [dif_pos h]
    exact (Cert.Kernel2Ideal.Attn.v1_at V g j ⟨d.val, h⟩).trans ((Cert.Kernel2Ideal.Attn.heads_at V g j _).trans (hv _ _ _))
  · rw [dif_neg h, EReal.coe_one, ← ones_at V g j ⟨d.val - 64, by omega⟩]
    congr 2
    exact Fin.ext (by show d.val = 64 + (d.val - 64); omega)

section Blocks

variable (m : (ℓ : Loc nD τ sig) → Buf (Elt Ideal) ℓ)

abbrev argQ (c : Dev nD) : FVec Ideal S1x8192x8x64 .f32 := m ((c : Thread nD τ).loc main_arg0)
abbrev argK (c : Dev nD) : FVec Ideal S1x8192x2x64 .f32 := m ((c : Thread nD τ).loc main_arg1)
abbrev argV (c : Dev nD) : FVec Ideal S1x8192x2x64 .f32 := m ((c : Thread nD τ).loc main_arg2)

theorem idx : ∀ t : Fin cfg0.N, win0_0.index t = ![t.val / 32, 0, t.val % 32, 0] ∧ win0_1.index t = ![t.val / 32, 0, 0] ∧ win0_2.index t = ![t.val / 32, 0, 0]
    ∧ win0_3.index t = ![t.val % 32, t.val / 32] ∧ win0_4.index t = ![t.val / 32, 0, t.val % 32, 0] ∧ win0_5.index t = ![t.val / 32, 0, t.val % 32, 0] :=
  (by decide +kernel : ∀ t : Fin grid0.N, _)

theorem N64 (t : Fin cfg0.N) : t.val < 64 := lt_of_lt_of_eq t.isLt Gen.N_0

/-- The key head of a point, and the rows of its query block. -/
def grp (t : Fin cfg0.N) : Fin 2 := ⟨t.val / 32, by have := N64 t; omega⟩
def row (t : Fin cfg0.N) (r : Fin 256) : Fin 8192 := ⟨t.val % 32 * 256 + r.val, by omega⟩

theorem blk0 (c : Dev nD) (t : Fin cfg0.N) (h : Fin 4) (r : Fin 256) (d : Fin 64) :
    iblk m c 0 t (ix4 0 h r d) = qs (argQ m c) (ix4 (grp t) h (row t r) d) := by
  blk_simp [iblk]
  entry_read
  show qs (argQ m c) _ = _
  blk_ext [idx t, row, grp]

theorem blk1 (c : Dev nD) (t : Fin cfg0.N) (j : Fin 8192) (d : Fin 64) :
    iblk m c 1 t (ix3 0 j d) = heads (argK m c) (ix3 (grp t) j d) := by
  blk_simp [iblk]
  entry_read
  show heads (argK m c) _ = _
  blk_ext [idx t, row, grp]

theorem blk2 (c : Dev nD) (t : Fin cfg0.N) (j : Fin 8192) (d : Fin 128) :
    iblk m c 2 t (ix3 0 j d) = v1 (argV m c) (ix3 (grp t) j d) := by
  blk_simp [iblk]
  entry_read
  show v1 (argV m c) _ = _
  blk_ext [idx t, row, grp]

variable (q : Fin 8192 → Fin 8 → Fin 64 → ℝ) (k v : Fin 8192 → Fin 2 → Fin 64 → ℝ) (c : Dev nD)
  (hq : ∀ i n d, argQ m c (ix4 0 i n d) = (q i n d : EReal)) (hk : ∀ j g d, argK m c (ix4 0 j g d) = (k j g d : EReal))
  (hv : ∀ j g d, argV m c (ix4 0 j g d) = (v j g d : EReal))

include hq hk in
theorem score_of (x0 : Vec Ideal S1x4x256x64 .bf16) (x1 : Vec Ideal S1x8192x64 .bf16) (t : Fin cfg0.N) (h : Fin 4) (r : Fin 256) (j : Fin 8192)
    (h0 : ∀ d, x0 (ix4 0 h r d) = qs (argQ m c) (ix4 (grp t) h (row t r) d)) (h1 : ∀ d, x1 (ix3 0 j d) = heads (argK m c) (ix3 (grp t) j d)) :
    ∑ d : Fin 64, x0 (ix4 0 h r d) * x1 (ix3 0 j d) = (sR q k (grp t) h (row t r) j : EReal) := by
  rw [sR, ← coe_sum]
  refine Finset.sum_congr rfl fun d _ => ?_
  rw [h0, h1, Cert.Kernel2Ideal.Attn.qs_at, Cert.Kernel2Ideal.Attn.heads_at]
  refine (congrArg₂ (· * ·) (congrArg₂ (· * ·) (hq _ _ _) eighth) (hk _ _ _)).trans ?_
  rw [EReal.coe_mul, EReal.coe_mul]
  rfl

include hq hk hv in
theorem point_real (t : Fin cfg0.N) (h : Fin 4) (r : Fin 256) :
    (∀ d : Fin 64, oB (iblk m c 0 t) (iblk m c 1 t) (iblk m c 2 t) h r d = (oR q k v (grp t) h (row t r) d : EReal))
      ∧ lB (iblk m c 0 t) (iblk m c 1 t) (iblk m c 2 t) h r = (lR q k (grp t) h (row t r) : EReal) :=
  block_real _ _ _ h r (sR q k (grp t) h (row t r)) (fun j d => v j (grp t) d) (lanes v (grp t)) (fun j => score_of m q k c hq hk _ _ t h r j (blk0 m c t h r) (blk1 m c t j))
    (fun j d => by rw [blk2]; exact lanes_real (argV m c) v hv (grp t) j d)
    (fun j d => dif_pos d.isLt) (fun j => dif_neg (by decide))

def G3 : S8192x512.Idx → EReal := fun y =>
  (oR q k v ⟨(y 1).val / 256, by have : (y 1).val < 512 := (y 1).isLt; omega⟩ ⟨(y 1).val / 64 % 4, by omega⟩ (y 0) ⟨(y 1).val % 64, by omega⟩ : EReal)
def G4 : S2x4x8192x64.Idx → EReal := fun y => (oR q k v (y 0) (y 1) (y 2) (y 3) : EReal)
def G5 : S2x4x8192x1.Idx → EReal := fun y => (lR q k (y 0) (y 1) (y 2) : EReal)

include hq hk hv in
theorem final4 : (dats m 0 c).arrAt 4 cfg0.N = G4 q k v := by
  refine (dats m 0 c).arrAt_eq_of_covers 4 _ (by decide +kernel) fun t _ y => ?_
  blk_simp
  rw [after0_4]
  idx_vars y
  obtain rfl : y0 = 0 := Subsingleton.elim _ _
  unfold outsAt0
  dsimp only
  refine (out_4 _ _ _ _ _ _ _ _ _ _ _ _ _ _ _ _ _ _ _ _ _ _ _ _ _ _ _ _ _ _ _ y1 y2 y3).trans (((point_real m q k v c hq hk hv t y1 y2).1 y3).trans ?_)
  refine (show G4 q k v (ix4 (grp t) y1 (row t y2) y3) = _ from ?_)
  blk_ext [idx t, row, grp]

include hq hk hv in
theorem final5 : (dats m 0 c).arrAt 5 cfg0.N = G5 q k := by
  refine (dats m 0 c).arrAt_eq_of_covers 5 _ (by decide +kernel) fun t _ y => ?_
  blk_simp
  rw [after0_5]
  idx_vars y
  obtain rfl : y0 = 0 := Subsingleton.elim _ _
  obtain rfl : y3 = 0 := Subsingleton.elim _ _
  unfold outsAt0
  dsimp only
  refine (out_5 _ _ _ _ _ _ _ _ _ _ _ _ _ _ _ _ _ _ _ _ _ _ _ _ _ _ _ _ _ _ _ y1 y2).trans ((point_real m q k v c hq hk hv t y1 y2).2.trans ?_)
  refine (show G5 q k (ix4 (grp t) y1 (row t y2) 0) = _ from ?_)
  blk_ext [idx t, row, grp]

theorem G3_at (t : Fin cfg0.N) (r C : Fin 256) (z : S8192x512.Idx) (h0 : (z 0).val = t.val % 32 * 256 + r.val) (h1 : (z 1).val = t.val / 32 * 256 + C.val) :
    G3 q k v z = (oR q k v (grp t) ⟨C.val / 64, by omega⟩ (row t r) ⟨C.val % 64, by omega⟩ : EReal) := by
  have := N64 t
  unfold G3
  congr 2
  · exact Fin.ext (by show (z 1).val / 256 = t.val / 32; omega)
  · exact Fin.ext (by show (z 1).val / 64 % 4 = C.val / 64; omega)
  · exact Fin.ext h0
  · exact Fin.ext (by show (z 1).val % 64 = C.val % 64; omega)

include hq hk hv in
theorem final3 : (dats m 0 c).arrAt 3 cfg0.N = G3 q k v := by
  refine (dats m 0 c).arrAt_eq_of_covers 3 _ (by decide +kernel) fun t _ y => ?_
  blk_simp
  rw [after0_3]
  unfold outsAt0
  dsimp only
  idx_vars y
  have e : ((View.whole main_v14_0).slice (win0_3.rect t)).emb (ix2 y0 y1) = ix2 (row t y0) ⟨t.val / 32 * 256 + y1.val, by have := N64 t; omega⟩ := by
    blk_ext [idx t, row]
  refine (out_3 _ _ _ _ _ _ _ _ _ _ _ _ _ _ _ _ _ _ _ _ _ _ _ _ _ _ _ _ _ _ _ (ix2 y0 y1)).trans (((point_real m q k v c hq hk hv t _ _).1 _).trans ?_)
  refine Eq.trans ?_ (congrArg (G3 q k v) e).symm
  exact (G3_at q k v t y0 y1 _ rfl rfl).symm

end Blocks

end Cert.Kernel6Ideal.Fwd
-- ==== Proof.FwdRef.lean ====
module

public import proofs.«01_k».proof.Proof.Gen.Reference6Ideal.Run
public import proofs.«01_k».proof.Proof.AttnRefValue
public import proofs.«01_k».proof.Proof.FwdValue
public import Idealize.ShloMosaic.Lib.Pointwise
public import Idealize.ShloMosaic.Lib.Pipeline.ValueKit

@[expose] public section

set_option maxRecDepth 16384

noncomputable section

/-! The reference of the forward call: its three results named by their shared parts and read at finite arguments. -/

namespace Cert.Reference6Ideal.Fwd

open Cert.Proof.AttnMath Cert.Proof.AttnSpec Cert.Reference6Ideal Cert.Reference6Ideal.Gen Idealize.ShloMosaic Idealize.ShloMosaic.TcCoe Idealize.SL.Sem
open Cert.Reference2Ideal.Attn (scores eOf along rowSum rowAdd)
open Cert.Kernel6Ideal.Fwd (oR lR G3 G4 G5)

/-- The weights. -/
def wts (q : FVec Ideal S1x8192x8x64 .f32) (k : FVec Ideal S1x8192x2x64 .f32) : FVec Ideal S1x2x4x8192x8192 .f32 :=
  Host.divf (eOf q k) (along (rowSum (eOf q k)))

/-- The weights' sums of the values. -/
def mix (v : FVec Ideal S1x8192x2x64 .f32) (p : FVec Ideal S1x2x4x8192x8192 .f32) : FVec Ideal S1x8192x2x4x64 .f32 :=
  transpose S1x8192x2x4x64 [0, 4, 1, 3, 2] (Host.dotGeneral dot_S1x8192x2x64_S1x2x4x8192x8192_S1x2x64x4x8192_1_4_3_23_02_01 none v p) transposes_S1x2x64x4x8192_S1x8192x2x4x64_0_4_1_3_2

/-- They, by columns and by heads. -/
def byCol (o : FVec Ideal S1x8192x2x4x64 .f32) : FVec Ideal S8192x512 .bf16 := truncf .bf16 (shapeCast _ o shapeCasts_S1x8192x2x4x64_S8192x512) bitsLt_bf16_f32
def byHead (o : FVec Ideal S1x8192x2x4x64 .f32) : FVec Ideal S2x4x8192x64 .bf16 :=
  truncf .bf16 (transpose S2x4x8192x64 [1, 2, 0, 3] (shapeCast _ o shapeCasts_S1x8192x2x4x64_S8192x2x4x64) transposes_S8192x2x4x64_S2x4x8192x64_1_2_0_3) bitsLt_bf16_f32

/-- The logarithm of each row's sum of exponentials. -/
def logs (l : FVec Ideal S1x2x4x8192x1 .f32) : FVec Ideal S2x4x8192x1 .f32 := shapeCast _ (Host.log l) shapeCasts_S1x2x4x8192x1_S2x4x8192x1

theorem mix_at (v : FVec Ideal S1x8192x2x64 .f32) (p : FVec Ideal S1x2x4x8192x8192 .f32) (i : Fin 8192) (g : Fin 2) (h : Fin 4) (d : Fin 64) :
    mix v p (ix5 0 i g h d) = ∑ j : Fin 8192, v (ix4 0 j g d) * p (ix5 0 g h i j) := by
  pointwise [mix]

theorem byHead_at (o : FVec Ideal S1x8192x2x4x64 .f32) (g : Fin 2) (h : Fin 4) (i : Fin 8192) (d : Fin 64) : byHead o (ix4 g h i d) = o (ix5 0 i g h d) := by
  pointwise [byHead]

theorem byCol_at (o : FVec Ideal S1x8192x2x4x64 .f32) (i : Fin 8192) (n : Fin 512) :
    byCol o (ix2 i n) = o (ix5 0 i ⟨n.val / 256, by omega⟩ ⟨n.val / 64 % 4, by omega⟩ ⟨n.val % 64, by omega⟩) := by
  pointwise [byCol]
  blk_ext

theorem logs_at (l : FVec Ideal S1x2x4x8192x1 .f32) (g : Fin 2) (h : Fin 4) (i : Fin 8192) : logs l (ix4 g h i 0) = Ideal.log (l (ix5 0 g h i 0)) := by
  pointwise [logs]

theorem exp_at (s : FVec Ideal S1x2x4x8192x8192 .f32) (y : S1x2x4x8192x8192.Idx) : Host.exp s y = Ideal.exp (s y) := by
  pointwise

section Real

variable (Q : FVec Ideal S1x8192x8x64 .f32) (K V : FVec Ideal S1x8192x2x64 .f32)
  (q : Fin 8192 → Fin 8 → Fin 64 → ℝ) (k v : Fin 8192 → Fin 2 → Fin 64 → ℝ)
  (hq : ∀ i n d, Q (ix4 0 i n d) = (q i n d : EReal)) (hk : ∀ j g d, K (ix4 0 j g d) = (k j g d : EReal)) (hv : ∀ j g d, V (ix4 0 j g d) = (v j g d : EReal))

include hq hk hv in
theorem mix_real (i : Fin 8192) (g : Fin 2) (h : Fin 4) (d : Fin 64) : mix V (wts Q K) (ix5 0 i g h d) = (oR q k v g h i d : EReal) := by
  rw [mix_at, oR, ← coe_sum]
  refine Finset.sum_congr rfl fun j _ => ?_
  rw [hv, EReal.coe_mul, mul_comm]
  exact congrArg (· * (v j g d : EReal)) (Cert.Reference2Ideal.Attn.p_real Q K q k hq hk g h i j)

include hq hk hv in
theorem col_real : byCol (mix V (wts Q K)) = G3 q k v := by
  funext y; idx_vars y
  rw [byCol_at]
  exact mix_real Q K V q k v hq hk hv _ _ _ _

include hq hk hv in
theorem head_real : byHead (mix V (wts Q K)) = G4 q k v := by
  funext y; idx_vars y
  rw [byHead_at]
  exact mix_real Q K V q k v hq hk hv _ _ _ _

include hq hk in
theorem log_real : logs (rowSum (Host.exp (scores Q K))) = G5 q k := by
  funext y; idx_vars y
  obtain rfl : y3 = 0 := Subsingleton.elim _ _
  have hp : 0 < ∑ j, Real.exp (sR q k y0 y1 y2 j) := Finset.sum_pos (fun _ _ => Real.exp_pos _) Finset.univ_nonempty
  have e : rowSum (Host.exp (scores Q K)) (ix5 0 y0 y1 y2 0) = ((∑ j, Real.exp (sR q k y0 y1 y2 j) : ℝ) : EReal) := by
    rw [Cert.Reference2Ideal.Attn.rowSum_at, ← coe_sum]
    exact Finset.sum_congr rfl fun j _ =>
      (exp_at _ _).trans ((congrArg Ideal.exp (Cert.Reference2Ideal.Attn.score_real Q K q k hq hk y0 y1 y2 j)).trans (Ideal.exp_coe _))
  refine (logs_at _ y0 y1 y2).trans ((congrArg Ideal.log e).trans ?_)
  rw [Ideal.log_coe, if_neg hp.not_ge]
  rfl

end Real

end Cert.Reference6Ideal.Fwd
-- ==== Proof.FwdClaim.lean ====
module

public import proofs.«01_k».proof.Defs
public import proofs.«01_k».proof.Proof.Finite
public import proofs.«01_k».proof.Proof.FwdRef
public import proofs.«01_k».proof.Proof.Gen.Pre_finite_fwd
public import Idealize.ShloMosaic.Lib.Claim

@[expose] public section

set_option maxRecDepth 16384

noncomputable section

/-! The full attention's forward call computes, at finite arguments, the attention and the logarithms of its rows' sums. -/

namespace Cert.Proof.Fwd

open Idealize.ShloMosaic Idealize.ShloMosaic.TcCoe Idealize.SL.Sem Cert.Kernel6Ideal Cert.Kernel6Ideal.Fwd Cert.Proof.AttnSpec

variable (m : (ℓ : Loc nD τ sig) → Buf (Elt Ideal) ℓ) (c : Dev nD)

/-- The arguments' real entries. -/
def qr : Fin 8192 → Fin 8 → Fin 64 → ℝ := fun i n d => EReal.toReal (argQ m c (ix4 0 i n d))
def kr : Fin 8192 → Fin 2 → Fin 64 → ℝ := fun j g d => EReal.toReal (argK m c (ix4 0 j g d))
def vr : Fin 8192 → Fin 2 → Fin 64 → ℝ := fun j g d => EReal.toReal (argV m c (ix4 0 j g d))

section Finite

variable (h : Cert.Pre_Kernel6Ideal_finite_fwd (hPre_finite_fwd := Cert.Pre_finite_fwd.Gen.facts) m)

include h in
theorem fin_q (i : Fin 8192) (n : Fin 8) (d : Fin 64) : argQ m c (ix4 0 i n d) = (qr m c i n d : EReal) :=
  Finite.real_of_lt (argQ m c) _ (fun _ => rfl) (h c).1 _

include h in
theorem fin_k (j : Fin 8192) (g : Fin 2) (d : Fin 64) : argK m c (ix4 0 j g d) = (kr m c j g d : EReal) :=
  Finite.real_of_lt (argK m c) _ (fun _ => rfl) (h c).2.1 _

include h in
theorem fin_v (j : Fin 8192) (g : Fin 2) (d : Fin 64) : argV m c (ix4 0 j g d) = (vr m c j g d : EReal) :=
  Finite.real_of_lt (argV m c) _ (fun _ => rfl) (h c).2.2 _

end Finite

theorem algebraic : Cert.algebraic_Kernel6Ideal_Reference6Ideal_pre_finite_fwd (hKernel6Ideal := Cert.Kernel6Ideal.Gen.facts)
    (hReference6Ideal := Cert.Reference6Ideal.Gen.facts) (hPre_finite_fwd := Cert.Pre_finite_fwd.Gen.facts) := by
  intro m g m' g' hp hm
  refine ⟨fun c => G3 (qr m c) (kr m c) (vr m c), fun c => G4 (qr m c) (kr m c) (vr m c), fun c => G5 (qr m c) (kr m c), ?_, ?_⟩
  · refine (θ_run _ _ _).mono (fun r h c => ?_) (Cert.Kernel6Ideal.Value.run_blocks (F := Ideal) m g)
    obtain ⟨h3, h4, h5, hargs⟩ := h c
    exact ⟨h3.trans (final3 m _ _ _ c (fin_q m c hp) (fin_k m c hp) (fin_v m c hp)), h4.trans (final4 m _ _ _ c (fin_q m c hp) (fin_k m c hp) (fin_v m c hp)),
      h5.trans (final5 m _ _ (vr m c) c (fin_q m c hp) (fin_k m c hp) (fin_v m c hp)), hargs⟩
  · refine (θ_run _ _ _).mono (fun r h c => ?_) (Cert.Reference6Ideal.Value.run (F := Ideal) m' g')
    obtain ⟨h3, h4, h5, hargs⟩ := h c
    obtain ⟨a0, a1, a2⟩ := hm c
    have e3 := Cert.Reference6Ideal.Fwd.col_real (argQ m c) (argK m c) (argV m c) _ _ _ (fin_q m c hp) (fin_k m c hp) (fin_v m c hp)
    have e4 := Cert.Reference6Ideal.Fwd.head_real (argQ m c) (argK m c) (argV m c) _ _ _ (fin_q m c hp) (fin_k m c hp) (fin_v m c hp)
    have e5 := Cert.Reference6Ideal.Fwd.log_real (argQ m c) (argK m c) _ _ (fin_q m c hp) (fin_k m c hp)
    unfold argQ argK argV at e3 e4
    unfold argQ argK at e5
    rw [← a0, ← a1, ← a2] at e3 e4
    rw [← a0, ← a1] at e5
    exact ⟨h3.trans e3, h4.trans e4, h5.trans e5, hargs⟩

end Cert.Proof.Fwd
-- ==== Proof.PostFinal.lean ====
module

public import proofs.«01_k».proof.Proof.Gen.Kernel8Ideal.Value
public import proofs.«01_k».proof.Proof.Merge
public import Idealize.ShloMosaic.Lib.Pipeline.ValueKit
public import Idealize.ShloMosaic.Lib.Pointwise

@[expose] public section

set_option maxRecDepth 16384

noncomputable section

/-! The forward merge: the two branch products, the gated sum, its product with the output weight, and the residual rows. -/

namespace Cert.Kernel8Ideal.Post

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

theorem N16 (t : Fin cfg0.N) : t.val < 16 := lt_of_lt_of_eq t.isLt Gen.N_0

/-- Row `p` of the block of rows at grid point `t`, as a row of the whole array. -/
def row (t : Fin cfg0.N) (p : Fin 512) : Fin 8192 := ⟨t.val * 512 + p.val, by have := N16 t; omega⟩

/-- The argument arrays of device `c`. -/
abbrev yaA (c : Dev nD) : FVec Ideal S1x8192x512 .f32 := m ((c.tc : Thread nD τ).loc main_arg0)
abbrev ybA (c : Dev nD) : FVec Ideal S1x8192x512 .f32 := m ((c.tc : Thread nD τ).loc main_arg1)
abbrev gaA (c : Dev nD) : FVec Ideal S1x8192x1024 .f32 := m ((c.tc : Thread nD τ).loc main_arg2)
abbrev gbA (c : Dev nD) : FVec Ideal S1x8192x1024 .f32 := m ((c.tc : Thread nD τ).loc main_arg3)
abbrev xA (c : Dev nD) : FVec Ideal S1x8192x1024 .f32 := m ((c.tc : Thread nD τ).loc main_arg4)
abbrev mA (c : Dev nD) : FVec Ideal S1x6144 .f32 := m ((c.tc : Thread nD τ).loc main_arg5)
abbrev wbA (c : Dev nD) : FVec Ideal S1x2x512x1024 .f32 := m ((c.tc : Thread nD τ).loc main_arg6)
abbrev woA (c : Dev nD) : FVec Ideal S1x1024x1024 .f32 := m ((c.tc : Thread nD τ).loc main_arg7)

theorem blk0 (c : Dev nD) (t : Fin cfg0.N) (p : Fin 512) (q : Fin 512) : iblk m c 0 t (ix2 p q) = yaA m c (ix3 0 (row t p) q) := by
  blk_simp [iblk]
  entry_read
  pointwise
  blk_point [idx t, row]

theorem blk1 (c : Dev nD) (t : Fin cfg0.N) (p : Fin 512) (q : Fin 512) : iblk m c 1 t (ix2 p q) = ybA m c (ix3 0 (row t p) q) := by
  blk_simp [iblk]
  entry_read
  pointwise
  blk_point [idx t, row]

theorem emb2 (t : Fin cfg0.N) (y : S512x2048.Idx) : (((View.whole main_v3).slice (win0_2.rect t)).emb y 1).val = (y 1).val := by
  blk_simp [idx t]

theorem blk2a (c : Dev nD) (t : Fin cfg0.N) (p : Fin 512) (q : Fin 1024) :
    iblk m c 2 t (ix2 p ⟨q.val, by omega⟩) = gaA m c (ix3 0 (row t p) q) := by
  blk_simp [iblk]
  entry_read
  pointwise
  blk_point [idx t, row]
  · exfalso; have h1 := emb2 t (ix2 p ⟨q.val, by omega⟩); have h2 : ((ix2 p ⟨q.val, by omega⟩ : S512x2048.Idx) 1).val = q.val := rfl; omega

theorem blk2b (c : Dev nD) (t : Fin cfg0.N) (p : Fin 512) (q : Fin 1024) :
    iblk m c 2 t (ix2 p ⟨1024 + q.val, by omega⟩) = gbA m c (ix3 0 (row t p) q) := by
  blk_simp [iblk]
  entry_read
  pointwise
  blk_point [idx t, row]
  · exfalso; have h1 := emb2 t (ix2 p ⟨1024 + q.val, by omega⟩); have h2 : ((ix2 p ⟨1024 + q.val, by omega⟩ : S512x2048.Idx) 1).val = 1024 + q.val := rfl; omega

theorem blk3 (c : Dev nD) (t : Fin cfg0.N) (p : Fin 512) (q : Fin 1024) : iblk m c 3 t (ix2 p q) = xA m c (ix3 0 (row t p) q) := by
  blk_simp [iblk]
  entry_read
  pointwise
  blk_point [idx t, row]

theorem blk4 (c : Dev nD) (t : Fin cfg0.N) (a : Fin 6) (q : Fin 1024) : iblk m c 4 t (ix2 a q) = mA m c (ix2 0 ⟨a.val * 1024 + q.val, by omega⟩) := by
  blk_simp [iblk]
  entry_read
  pointwise
  blk_point [idx t]

theorem blk5 (c : Dev nD) (t : Fin cfg0.N) (j : Fin 4) (b : Fin 2) (k : Fin 512) (q : Fin 256) :
    iblk m c 5 t (ix4 j b k q) = wbA m c (ix4 0 b k ⟨j.val * 256 + q.val, by omega⟩) := by
  blk_simp [iblk]
  entry_read
  pointwise
  blk_point [idx t, row]

theorem blk6 (c : Dev nD) (t : Fin cfg0.N) (p : Fin 1024) (q : Fin 1024) : iblk m c 6 t (ix2 p q) = woA m c (ix3 0 p q) := by
  blk_simp [iblk]
  entry_read
  pointwise
  blk_point [idx t]

section Block
variable (x0 x1 : Vec Ideal S512x512 .bf16) (x2 : Vec Ideal S512x2048 .bf16) (x3 : Vec Ideal S512x1024 .f32) (x4 : Vec Ideal S6x1024 .f32)
  (x5 : Vec Ideal S4x2x512x256 .bf16) (x6 : Vec Ideal S1024x1024 .bf16)

/-- A branch's product: the four column blocks of the weight side by side are the whole weight `w`. -/
theorem ua_at (w : Fin 512 → Fin 1024 → EReal) (hw : ∀ (j : Fin 4) (k : Fin 512) (r : Fin 256), x5 (ix4 j 0 k r) = w k ⟨j.val * 256 + r.val, by omega⟩)
    (p : Fin 512) (q : Fin 1024) : k0_pay13 x0 x1 x2 x3 x4 x5 x6 (ix2 p q) = ∑ k : Fin 512, x0 (ix2 p k) * w k q := by
  pointwise [k0_pay13, k0_pay5, hw]
  split_ifs
  all_goals (refine Finset.sum_congr rfl fun k _ => congrArg (_ * w k ·) (Fin.ext ?_); simp; try omega)

/-- The second branch's product, as the body names it. -/
abbrev ubv : FVec Ideal S512x1024 .f32 :=
  k0_pay8 (k0_pay12 x0 x1 x2 x3 x4 x5 x6) (k0_pay14 x0 x1 x2 x3 x4 x5 x6) (k0_pay15 x0 x1 x2 x3 x4 x5 x6) (View.ld x5 r0_7) (View.ld x5 r0_8)

theorem ub_at (w : Fin 512 → Fin 1024 → EReal) (hw : ∀ (j : Fin 4) (k : Fin 512) (r : Fin 256), x5 (ix4 j 1 k r) = w k ⟨j.val * 256 + r.val, by omega⟩)
    (p : Fin 512) (q : Fin 1024) : ubv x0 x1 x2 x3 x4 x5 x6 (ix2 p q) = ∑ k : Fin 512, x1 (ix2 p k) * w k q := by
  pointwise [ubv, k0_pay8, k0_pay12, k0_pay14, k0_pay15, k0_pay4, k0_pay6, k0_pay7, hw]
  split_ifs
  all_goals (refine Finset.sum_congr rfl fun k _ => congrArg (_ * w k ·) (Fin.ext ?_); simp; try omega)

/-- The gated sum. -/
theorem gated_at (v3 : FVec Ideal S512x512 .bf16) (v16 : FVec Ideal S512x1024 .f32) (v19 v22 : FVec Ideal S512x256 .f32)
    (v23 v26 : Vec Ideal S1x1x512x256 .bf16) (v30 v33 : Vec Ideal S512x1024 .bf16) (p : Fin 512) (q : Fin 1024) :
    k0_pay9 v3 v16 v19 v22 v23 v26 v30 v33 (ix2 p q)
      = Ideal.logistic (v30 (ix2 p q)) * v16 (ix2 p q) + Ideal.logistic (v33 (ix2 p q)) * k0_pay8 v3 v19 v22 v23 v26 (ix2 p q) := by
  unfold k0_pay9
  generalize k0_pay8 v3 v19 v22 v23 v26 = u
  rw [← Cert.KernelIdeal.Merge.half_tanh, ← Cert.KernelIdeal.Merge.half_tanh]
  pointwise

/-- The gated sum, as the body names it. -/
abbrev mgv : FVec Ideal S512x1024 .bf16 :=
  k0_pay9 (k0_pay12 x0 x1 x2 x3 x4 x5 x6) (k0_pay13 x0 x1 x2 x3 x4 x5 x6) (k0_pay14 x0 x1 x2 x3 x4 x5 x6) (k0_pay15 x0 x1 x2 x3 x4 x5 x6)
    (View.ld x5 r0_7) (View.ld x5 r0_8) (View.ld x2 r0_9) (View.ld x2 r0_10)

theorem o_at (p : Fin 512) (q : Fin 1024) :
    k0_pay16 x0 x1 x2 x3 x4 x5 x6 (ix2 p q) = ∑ k : Fin 1024, mgv x0 x1 x2 x3 x4 x5 x6 (ix2 p k) * x6 (ix2 k q) := by
  unfold k0_pay16 k0_pay10
  rw [show (k0_pay9 (k0_pay12 x0 x1 x2 x3 x4 x5 x6) (k0_pay13 x0 x1 x2 x3 x4 x5 x6) (k0_pay14 x0 x1 x2 x3 x4 x5 x6) (k0_pay15 x0 x1 x2 x3 x4 x5 x6)
    (View.ld x5 r0_7) (View.ld x5 r0_8) (View.ld x2 r0_9) (View.ld x2 r0_10)) = mgv x0 x1 x2 x3 x4 x5 x6 from rfl]
  generalize mgv x0 x1 x2 x3 x4 x5 x6 = u
  pointwise

end Block

/-- The branch products, the gated sum, its product with the output weight, and the residual rows. -/
def UA (c : Dev nD) (r : Fin 8192) (d : Fin 1024) : EReal := ∑ k : Fin 512, yaA m c (ix3 0 r k) * wbA m c (ix4 0 0 k d)
def UB (c : Dev nD) (r : Fin 8192) (d : Fin 1024) : EReal := ∑ k : Fin 512, ybA m c (ix3 0 r k) * wbA m c (ix4 0 1 k d)
def MG (c : Dev nD) (r : Fin 8192) (d : Fin 1024) : EReal :=
  Ideal.logistic (gaA m c (ix3 0 r d)) * UA m c r d + Ideal.logistic (gbA m c (ix3 0 r d)) * UB m c r d
def OO (c : Dev nD) (r : Fin 8192) (d : Fin 1024) : EReal := ∑ k : Fin 1024, MG m c r k * woA m c (ix3 0 k d)
def X1 (c : Dev nD) (r : Fin 8192) (d : Fin 1024) : EReal := xA m c (ix3 0 r d) + mA m c (ix2 0 ⟨2048 + d.val, by omega⟩) * OO m c r d

def G7 (c : Dev nD) : S8192x1024.Idx → EReal := fun y => UA m c (y 0) (y 1)
def G8 (c : Dev nD) : S8192x1024.Idx → EReal := fun y => UB m c (y 0) (y 1)
def G9 (c : Dev nD) : S8192x1024.Idx → EReal := fun y => MG m c (y 0) (y 1)
def G10 (c : Dev nD) : S8192x1024.Idx → EReal := fun y => OO m c (y 0) (y 1)
def G11 (c : Dev nD) : S8192x1024.Idx → EReal := fun y => X1 m c (y 0) (y 1)

theorem ua_eq (c : Dev nD) (t : Fin cfg0.N) (p : Fin 512) (q : Fin 1024) :
    k0_pay13 (iblk m c 0 t) (iblk m c 1 t) (iblk m c 2 t) (iblk m c 3 t) (iblk m c 4 t) (iblk m c 5 t) (iblk m c 6 t) (ix2 p q) = UA m c (row t p) q := by
  refine (ua_at _ _ _ _ _ _ _ (fun k d => wbA m c (ix4 0 0 k d)) (fun j k r => blk5 m c t j 0 k r) p q).trans ?_
  exact Finset.sum_congr rfl fun k _ => congrArg (· * _) (blk0 m c t p k)

theorem ub_eq (c : Dev nD) (t : Fin cfg0.N) (p : Fin 512) (q : Fin 1024) :
    ubv (iblk m c 0 t) (iblk m c 1 t) (iblk m c 2 t) (iblk m c 3 t) (iblk m c 4 t) (iblk m c 5 t) (iblk m c 6 t) (ix2 p q) = UB m c (row t p) q := by
  refine (ub_at _ _ _ _ _ _ _ (fun k d => wbA m c (ix4 0 1 k d)) (fun j k r => blk5 m c t j 1 k r) p q).trans ?_
  exact Finset.sum_congr rfl fun k _ => congrArg (· * _) (blk1 m c t p k)

theorem ldA (x2 : Vec Ideal S512x2048 .bf16) (p : Fin 512) (q : Fin 1024) : View.ld x2 r0_9 (ix2 p q) = x2 (ix2 p ⟨q.val, by omega⟩) := by
  pointwise

theorem ldB (x2 : Vec Ideal S512x2048 .bf16) (p : Fin 512) (q : Fin 1024) : View.ld x2 r0_10 (ix2 p q) = x2 (ix2 p ⟨1024 + q.val, by omega⟩) := by
  pointwise

theorem mg_eq (c : Dev nD) (t : Fin cfg0.N) (p : Fin 512) (q : Fin 1024) :
    mgv (iblk m c 0 t) (iblk m c 1 t) (iblk m c 2 t) (iblk m c 3 t) (iblk m c 4 t) (iblk m c 5 t) (iblk m c 6 t) (ix2 p q) = MG m c (row t p) q := by
  refine (gated_at _ _ _ _ _ _ _ _ p q).trans ?_
  exact congrArg₂ (· + ·)
    (congrArg₂ (· * ·) (congrArg Ideal.logistic ((ldA _ p q).trans (blk2a m c t p q))) (ua_eq m c t p q))
    (congrArg₂ (· * ·) (congrArg Ideal.logistic ((ldB _ p q).trans (blk2b m c t p q))) (ub_eq m c t p q))

theorem o_eq (c : Dev nD) (t : Fin cfg0.N) (p : Fin 512) (q : Fin 1024) :
    k0_pay16 (iblk m c 0 t) (iblk m c 1 t) (iblk m c 2 t) (iblk m c 3 t) (iblk m c 4 t) (iblk m c 5 t) (iblk m c 6 t) (ix2 p q) = OO m c (row t p) q := by
  refine (o_at _ _ _ _ _ _ _ p q).trans ?_
  exact Finset.sum_congr rfl fun k _ => congrArg₂ (· * ·) (mg_eq m c t p k) (blk6 m c t k q)

theorem x1_at (u v : FVec Ideal S512x1024 .f32) (x4 : Vec Ideal S6x1024 .f32) (p : Fin 512) (q : Fin 1024) :
    k0_pay3 u v (View.ld x4 r0_13) (ix2 p q) = v (ix2 p q) + x4 (ix2 2 q) * u (ix2 p q) := by
  pointwise [k0_pay3]

theorem final7 (c : Dev nD) : (dats m 0 c).arrAt 7 (cfgs 0).N = G7 m c := by
  refine (dats m 0 c).arrAt_eq_of_covers 7 _ (by decide +kernel) fun t _ y => ?_
  blk_simp
  rw [after0_7]; frame_out
  idx_vars y
  refine (ua_eq m c t y0 y1).trans (show G7 m c (ix2 (row t y0) y1) = _ from ?_)
  blk_ext [idx t, row]

theorem final8 (c : Dev nD) : (dats m 0 c).arrAt 8 (cfgs 0).N = G8 m c := by
  refine (dats m 0 c).arrAt_eq_of_covers 8 _ (by decide +kernel) fun t _ y => ?_
  blk_simp
  rw [after0_8]; frame_out
  idx_vars y
  refine (ub_eq m c t y0 y1).trans (show G8 m c (ix2 (row t y0) y1) = _ from ?_)
  blk_ext [idx t, row]

theorem final9 (c : Dev nD) : (dats m 0 c).arrAt 9 (cfgs 0).N = G9 m c := by
  refine (dats m 0 c).arrAt_eq_of_covers 9 _ (by decide +kernel) fun t _ y => ?_
  blk_simp
  rw [after0_9]; frame_out
  idx_vars y
  refine (mg_eq m c t y0 y1).trans (show G9 m c (ix2 (row t y0) y1) = _ from ?_)
  blk_ext [idx t, row]

theorem final10 (c : Dev nD) : (dats m 0 c).arrAt 10 (cfgs 0).N = G10 m c := by
  refine (dats m 0 c).arrAt_eq_of_covers 10 _ (by decide +kernel) fun t _ y => ?_
  blk_simp
  rw [after0_10]; frame_out
  idx_vars y
  refine (o_eq m c t y0 y1).trans (show G10 m c (ix2 (row t y0) y1) = _ from ?_)
  blk_ext [idx t, row]

theorem final11 (c : Dev nD) : (dats m 0 c).arrAt 11 (cfgs 0).N = G11 m c := by
  refine (dats m 0 c).arrAt_eq_of_covers 11 _ (by decide +kernel) fun t _ y => ?_
  blk_simp
  rw [after0_11]; frame_out
  idx_vars y
  refine (x1_at _ _ _ y0 y1).trans (Eq.trans ?_ (show G11 m c (ix2 (row t y0) y1) = _ from ?_))
  · exact congrArg₂ (· + ·) (blk3 m c t y0 y1) (congrArg₂ (· * ·) (blk4 m c t 2 y1) (o_eq m c t y0 y1))
  · blk_ext [idx t, row]

end Cert.Kernel8Ideal.Post
-- ==== Proof.PostRef.lean ====
module

public import proofs.«01_k».proof.Proof.Gen.Reference8Ideal.Run
public import Idealize.ShloMosaic.Lib.Pointwise

@[expose] public section

set_option maxRecDepth 16384

noncomputable section

/-! The forward merge's reference: its five results named by their shared parts, and each read at an index. -/

namespace Cert.Reference8Ideal.Post

open Cert.Reference8Ideal Cert.Reference8Ideal.Gen Idealize.ShloMosaic Idealize.ShloMosaic.TcCoe Idealize.SL.Sem

abbrev ones : FVec Ideal S1x8192x1024 .f32 := broadcastInDim S1x8192x1024 ![] bcast_S_S1x8192x1024 (constant S_ .f32 0x3F800000#32)

/-- The logistic function of a gate. -/
def sig (g : FVec Ideal S1x8192x1024 .f32) : FVec Ideal S1x8192x1024 .f32 := Host.divf ones (addf ones (Host.exp (Host.negf g)))

/-- A branch's product with its half of the weight. -/
def ua (y : FVec Ideal S1x8192x512 .f32) (w : FVec Ideal S1x2x512x1024 .f32) : FVec Ideal S1x8192x1024 .f32 :=
  Host.dotGeneral dot_S1x8192x512_S512x1024_S1x8192x1024_2_0_01_1_n_n none y (shapeCast _ (extractStridedSlice S1x1x512x1024 ![0, 0, 0, 0] w
    slices_S1x2x512x1024_S1x1x512x1024_0_0_0_0) shapeCasts_S1x1x512x1024_S512x1024)
def ub (y : FVec Ideal S1x8192x512 .f32) (w : FVec Ideal S1x2x512x1024 .f32) : FVec Ideal S1x8192x1024 .f32 :=
  Host.dotGeneral dot_S1x8192x512_S512x1024_S1x8192x1024_2_0_01_1_n_n none y (shapeCast _ (extractStridedSlice S1x1x512x1024 ![0, 1, 0, 0] w
    slices_S1x2x512x1024_S1x1x512x1024_0_1_0_0) shapeCasts_S1x1x512x1024_S512x1024)

/-- The gated sum, its product with the output weight, and the residual rows. -/
def mg (ga gb ua ub : FVec Ideal S1x8192x1024 .f32) : FVec Ideal S1x8192x1024 .f32 := addf (mulf (sig ga) ua) (mulf (sig gb) ub)
def oo (g : FVec Ideal S1x8192x1024 .f32) (w : FVec Ideal S1x1024x1024 .f32) : FVec Ideal S1x8192x1024 .f32 :=
  Host.dotGeneral dot_S1x8192x1024_S1024x1024_S1x8192x1024_2_0_01_1_n_n none g (shapeCast _ w shapeCasts_S1x1024x1024_S1024x1024)
def xx (x o : FVec Ideal S1x8192x1024 .f32) (s : FVec Ideal S1x6144 .f32) : FVec Ideal S8192x1024 .f32 :=
  shapeCast _ (addf x (mulf (broadcastInDim S1x8192x1024 ![0, 1, 2] bcast_S1x1x1024_S1x8192x1024_0_1_2 (broadcastInDim S1x1x1024 ![0, 2]
    bcast_S1x1024_S1x1x1024_0_2 (extractStridedSlice S1x1024 ![0, 2048] s slices_S1x6144_S1x1024_0_2048))) o)) shapeCasts_S1x8192x1024_S8192x1024

/-- An array of rows as it is returned. -/
def ret (z : FVec Ideal S1x8192x1024 .f32) : FVec Ideal S8192x1024 .bf16 := truncf .bf16 (shapeCast _ z shapeCasts_S1x8192x1024_S8192x1024) bitsLt_bf16_f32

theorem ret_at (z : FVec Ideal S1x8192x1024 .f32) (r : Fin 8192) (d : Fin 1024) : ret z (ix2 r d) = z (ix3 0 r d) := by
  pointwise [ret]

theorem sig_at (g : FVec Ideal S1x8192x1024 .f32) (r : Fin 8192) (d : Fin 1024) : sig g (ix3 0 r d) = Ideal.logistic (g (ix3 0 r d)) := by
  pointwise [sig, Ideal.logistic]

theorem ua_at (y : FVec Ideal S1x8192x512 .f32) (w : FVec Ideal S1x2x512x1024 .f32) (r : Fin 8192) (d : Fin 1024) :
    ua y w (ix3 0 r d) = ∑ k : Fin 512, y (ix3 0 r k) * w (ix4 0 0 k d) := by
  pointwise [ua]

theorem ub_at (y : FVec Ideal S1x8192x512 .f32) (w : FVec Ideal S1x2x512x1024 .f32) (r : Fin 8192) (d : Fin 1024) :
    ub y w (ix3 0 r d) = ∑ k : Fin 512, y (ix3 0 r k) * w (ix4 0 1 k d) := by
  pointwise [ub]

theorem mg_at (ga gb u v : FVec Ideal S1x8192x1024 .f32) (r : Fin 8192) (d : Fin 1024) :
    mg ga gb u v (ix3 0 r d) = sig ga (ix3 0 r d) * u (ix3 0 r d) + sig gb (ix3 0 r d) * v (ix3 0 r d) := by
  unfold mg
  generalize sig ga = a
  generalize sig gb = b
  pointwise

theorem oo_at (g : FVec Ideal S1x8192x1024 .f32) (w : FVec Ideal S1x1024x1024 .f32) (r : Fin 8192) (d : Fin 1024) :
    oo g w (ix3 0 r d) = ∑ k : Fin 1024, g (ix3 0 r k) * w (ix3 0 k d) := by
  pointwise [oo]

theorem xx_at (x o : FVec Ideal S1x8192x1024 .f32) (s : FVec Ideal S1x6144 .f32) (r : Fin 8192) (d : Fin 1024) :
    xx x o s (ix2 r d) = x (ix3 0 r d) + s (ix2 0 ⟨2048 + d.val, by omega⟩) * o (ix3 0 r d) := by
  pointwise [xx]

end Cert.Reference8Ideal.Post
-- ==== Proof.PostClaim.lean ====
module

public import proofs.«01_k».proof.Defs
public import proofs.«01_k».proof.Proof.PostFinal
public import proofs.«01_k».proof.Proof.PostRef

@[expose] public section

set_option maxRecDepth 16384

noncomputable section

/-! The forward merge computes the forward lines. -/

namespace Cert.Proof.Post

open Idealize.ShloMosaic Idealize.ShloMosaic.TcCoe Idealize.SL.Sem Cert.Kernel8Ideal Cert.Kernel8Ideal.Post
open Cert.Reference8Ideal.Post (ret ret_at sig sig_at ua ua_at ub ub_at mg mg_at oo oo_at xx xx_at)

variable (m : (ℓ : Loc nD τ sig) → Buf (Elt Ideal) ℓ) (c : Dev nD)

theorem ref7 : ret (ua (yaA m c) (wbA m c)) = G7 m c := by
  funext j; idx_vars j
  exact (ret_at _ _ _).trans (ua_at _ _ _ _)

theorem ref8 : ret (ub (ybA m c) (wbA m c)) = G8 m c := by
  funext j; idx_vars j
  exact (ret_at _ _ _).trans (ub_at _ _ _ _)

theorem mg_eq' (r : Fin 8192) (d : Fin 1024) :
    mg (gaA m c) (gbA m c) (ua (yaA m c) (wbA m c)) (ub (ybA m c) (wbA m c)) (ix3 0 r d) = MG m c r d :=
  (mg_at _ _ _ _ _ _).trans (congrArg₂ (· + ·) (congrArg₂ (· * ·) (sig_at _ _ _) (ua_at _ _ _ _))
    (congrArg₂ (· * ·) (sig_at _ _ _) (ub_at _ _ _ _)))

theorem oo_eq' (r : Fin 8192) (d : Fin 1024) :
    oo (mg (gaA m c) (gbA m c) (ua (yaA m c) (wbA m c)) (ub (ybA m c) (wbA m c))) (woA m c) (ix3 0 r d) = OO m c r d :=
  (oo_at _ _ _ _).trans (Finset.sum_congr rfl fun k _ => congrArg (· * _) (mg_eq' m c r k))

theorem ref9 : ret (mg (gaA m c) (gbA m c) (ua (yaA m c) (wbA m c)) (ub (ybA m c) (wbA m c))) = G9 m c := by
  funext j; idx_vars j
  exact (ret_at _ _ _).trans (mg_eq' m c _ _)

theorem ref10 : ret (oo (mg (gaA m c) (gbA m c) (ua (yaA m c) (wbA m c)) (ub (ybA m c) (wbA m c))) (woA m c)) = G10 m c := by
  funext j; idx_vars j
  exact (ret_at _ _ _).trans (oo_eq' m c _ _)

theorem ref11 : xx (xA m c) (oo (mg (gaA m c) (gbA m c) (ua (yaA m c) (wbA m c)) (ub (ybA m c) (wbA m c))) (woA m c)) (mA m c) = G11 m c := by
  funext j; idx_vars j
  exact (xx_at _ _ _ _ _).trans (congrArg (_ + _ * ·) (oo_eq' m c _ _))

theorem algebraic : Cert.algebraic_Kernel8Ideal_Reference8Ideal (hKernel8Ideal := Cert.Kernel8Ideal.Gen.facts)
    (hReference8Ideal := Cert.Reference8Ideal.Gen.facts) := by
  intro m g m' g' _ hm
  refine ⟨fun c => G7 m c, fun c => G8 m c, fun c => G9 m c, fun c => G10 m c, fun c => G11 m c, ?_, ?_⟩
  · refine (θ_run _ _ _).mono (fun r h c => ?_) (Cert.Kernel8Ideal.Value.run_blocks (F := Ideal) m g)
    obtain ⟨h7, h8, h9, h10, h11, hargs⟩ := h c
    exact ⟨h7.trans (final7 m c), h8.trans (final8 m c), h9.trans (final9 m c), h10.trans (final10 m c), h11.trans (final11 m c), hargs⟩
  · refine (θ_run _ _ _).mono (fun r h c => ?_) (Cert.Reference8Ideal.Value.run (F := Ideal) m' g')
    obtain ⟨h7, h8, h9, h10, h11, hargs⟩ := h c
    obtain ⟨a0, a1, a2, a3, a4, a5, a6, a7⟩ := hm c
    have e7 := ref7 m c; have e8 := ref8 m c; have e9 := ref9 m c; have e10 := ref10 m c; have e11 := ref11 m c
    unfold yaA wbA at e7
    unfold ybA wbA at e8
    unfold yaA ybA gaA gbA wbA at e9 e10 e11
    unfold woA at e10 e11
    unfold xA mA at e11
    rw [← a0, ← a6] at e7
    rw [← a1, ← a6] at e8
    rw [← a0, ← a1, ← a2, ← a3, ← a6] at e9 e10 e11
    rw [← a7] at e10 e11
    rw [← a4, ← a5] at e11
    exact ⟨h7.trans e7, h8.trans e8, h9.trans e9, h10.trans e10, h11.trans e11, hargs⟩

end Cert.Proof.Post
-- ==== Proof.MixFinal.lean ====
module

public import proofs.«01_k».proof.Proof.Gen.Kernel9Ideal.Value
public import proofs.«01_k».proof.Proof.NormMath
public import Idealize.ShloMosaic.Lib.Pipeline.ValueKit
public import Idealize.ShloMosaic.Lib.Pointwise

@[expose] public section

set_option maxRecDepth 16384

noncomputable section

/-! The channel mix's first half: the normalised and modulated rows, their product with the weight, and its squared positive part. -/

namespace Cert.Kernel9Ideal.Mix

open Cert.Kernel9Ideal Cert.Kernel9Ideal.Gen Idealize.ShloMosaic Idealize.ShloMosaic.TcCoe Idealize.SL.Sem
open Cert.Proof.NormMath
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0, 0] ∧ win0_4.index t = ![t.val, 0] ∧ win0_5.index t = ![t.val, 0] ∧ win0_6.index t = ![t.val, 0] :=
  (by decide +kernel : ∀ t : Fin grid0.N, _)

theorem N16 (t : Fin cfg0.N) : t.val < 16 := lt_of_lt_of_eq t.isLt Gen.N_0

/-- Row `p` of the block of rows at grid point `t`, as a row of the whole array. -/
def row (t : Fin cfg0.N) (p : Fin 512) : Fin 8192 := ⟨t.val * 512 + p.val, by have := N16 t; omega⟩

/-- The argument arrays of device `c`. -/
abbrev xA (c : Dev nD) : FVec Ideal S1x8192x1024 .f32 := m ((c.tc : Thread nD τ).loc main_arg0)
abbrev mA (c : Dev nD) : FVec Ideal S1x6144 .f32 := m ((c.tc : Thread nD τ).loc main_arg1)
abbrev gA (c : Dev nD) : FVec Ideal S1x1024 .f32 := m ((c.tc : Thread nD τ).loc main_arg2)
abbrev wA (c : Dev nD) : FVec Ideal S1x1024x4096 .f32 := m ((c.tc : Thread nD τ).loc main_arg3)

theorem blk0 (c : Dev nD) (t : Fin cfg0.N) (p : Fin 512) (q : Fin 1024) : iblk m c 0 t (ix2 p q) = xA m c (ix3 0 (row t p) q) := by
  blk_simp [iblk]
  entry_read
  pointwise
  blk_point [idx t, row]

theorem blk1 (c : Dev nD) (t : Fin cfg0.N) (a : Fin 6) (q : Fin 1024) : iblk m c 1 t (ix2 a q) = mA m c (ix2 0 ⟨a.val * 1024 + q.val, by omega⟩) := by
  blk_simp [iblk]
  entry_read
  pointwise
  blk_point [idx t]

theorem blk2 (c : Dev nD) (t : Fin cfg0.N) (q : Fin 1024) : iblk m c 2 t (ix2 0 q) = gA m c (ix2 0 q) := by
  blk_simp [iblk]
  entry_read
  pointwise
  blk_point [idx t]

theorem blk3 (c : Dev nD) (t : Fin cfg0.N) (j : Fin 4) (q : Fin 1024) (k : Fin 1024) :
    iblk m c 3 t (ix3 j q k) = wA m c (ix3 0 q ⟨j.val * 1024 + k.val, by omega⟩) := by
  blk_simp [iblk]
  entry_read
  pointwise
  blk_point [idx t]

section Block
variable (x0 : Vec Ideal S512x1024 .f32) (x1 : Vec Ideal S6x1024 .f32) (x2 : Vec Ideal S1x1024 .f32) (x3 : Vec Ideal S4x1024x1024 .bf16)

/-- A row's norm, gain, scale and shift. -/
theorem h_at (p : Fin 512) (q : Fin 1024) :
    k0_pay7 x0 x1 x2 x3 (ix2 p q)
      = x0 (ix2 p q) * rs (fun k : Fin 1024 => x0 (ix2 p k)) * x2 (ix2 0 q) * (O + x1 (ix2 4 q)) + x1 (ix2 3 q) := by
  pointwise [k0_pay7, k0_pay4, rs, msq, W, E, O]

/-- The same where the row block and the gain are named themselves. -/
theorem h_at' (p : Fin 512) (q : Fin 1024) :
    k0_pay4 x0 x2 (View.ld x1 r0_2) (View.ld x1 r0_3) (ix2 p q)
      = x0 (ix2 p q) * rs (fun k : Fin 1024 => x0 (ix2 p k)) * x2 (ix2 0 q) * (O + x1 (ix2 4 q)) + x1 (ix2 3 q) := by
  pointwise [k0_pay4, rs, msq, W, E, O]

theorem pay5_at (v0 : Vec Ideal S512x1024 .f32) (v12 v15 v21 : Vec Ideal S1x1024 .f32) (v27 : Vec Ideal S1x1024x1024 .bf16) (p : Fin 512) (q : Fin 1024) :
    k0_pay5 v0 v12 v15 v21 v27 (ix2 p q) = ∑ k : Fin 1024, k0_pay4 v0 v12 v15 v21 (ix2 p k) * v27 (ix3 0 k q) := by
  unfold k0_pay5
  generalize k0_pay4 v0 v12 v15 v21 = u
  pointwise

theorem pay6_at (v0 : Vec Ideal S512x1024 .f32) (v12 v15 v21 : Vec Ideal S1x1024 .f32) (v27 : Vec Ideal S1x1024x1024 .bf16) (p : Fin 512) (q : Fin 1024) :
    k0_pay6 v0 v12 v15 v21 v27 (ix2 p q) = ∑ k : Fin 1024, k0_pay4 v0 v12 v15 v21 (ix2 p k) * v27 (ix3 0 k q) := by
  unfold k0_pay6
  generalize k0_pay4 v0 v12 v15 v21 = u
  pointwise

theorem pay8_at (p : Fin 512) (q : Fin 1024) :
    k0_pay8 x0 x1 x2 x3 (ix2 p q) = ∑ k : Fin 1024, k0_pay7 x0 x1 x2 x3 (ix2 p k) * x3 (ix3 0 k q) := by
  refine (pay5_at _ _ _ _ _ p q).trans ?_
  refine Finset.sum_congr rfl fun k _ => congrArg (k0_pay7 x0 x1 x2 x3 (ix2 p k) * ·) ?_
  pointwise

theorem pay9_at (p : Fin 512) (q : Fin 1024) :
    k0_pay9 x0 x1 x2 x3 (ix2 p q) = ∑ k : Fin 1024, k0_pay7 x0 x1 x2 x3 (ix2 p k) * x3 (ix3 1 k q) := by
  refine (pay6_at _ _ _ _ _ p q).trans ?_
  refine Finset.sum_congr rfl fun k _ => congrArg (k0_pay7 x0 x1 x2 x3 (ix2 p k) * ·) ?_
  pointwise

/-- The product, as the body names it: the four column blocks of the weight side by side are the whole weight `w`. -/
abbrev av : FVec Ideal S512x4096 .f32 :=
  k0_pay1 (k0_pay7 x0 x1 x2 x3) (k0_pay8 x0 x1 x2 x3) (k0_pay9 x0 x1 x2 x3) (View.ld x3 r0_6) (View.ld x3 r0_7)

theorem a_at (w : Fin 1024 → Fin 4096 → EReal) (hw : ∀ (j : Fin 4) (k : Fin 1024) (r : Fin 1024), x3 (ix3 j k r) = w k ⟨j.val * 1024 + r.val, by omega⟩)
    (p : Fin 512) (q : Fin 4096) : av x0 x1 x2 x3 (ix2 p q) = ∑ k : Fin 1024, k0_pay7 x0 x1 x2 x3 (ix2 p k) * w k q := by
  have h8 := pay8_at x0 x1 x2 x3
  have h9 := pay9_at x0 x1 x2 x3
  unfold av
  generalize k0_pay8 x0 x1 x2 x3 = u8 at *
  generalize k0_pay9 x0 x1 x2 x3 = u9 at *
  generalize k0_pay7 x0 x1 x2 x3 = u7 at *
  pointwise [k0_pay1, h8, h9, hw]
  split_ifs
  all_goals (refine Finset.sum_congr rfl fun k _ => congrArg (_ * w k ·) (Fin.ext ?_); simp; try omega)

theorem hid_at (v25 : FVec Ideal S512x1024 .bf16) (v29 v32 : FVec Ideal S512x1024 .f32) (v33 v36 : Vec Ideal S1x1024x1024 .bf16) (p : Fin 512) (q : Fin 4096) :
    k0_pay3 v25 v29 v32 v33 v36 (ix2 p q) = max (k0_pay1 v25 v29 v32 v33 v36 (ix2 p q)) 0 * max (k0_pay1 v25 v29 v32 v33 v36 (ix2 p q)) 0 := by
  unfold k0_pay3
  generalize k0_pay1 v25 v29 v32 v33 v36 = u
  pointwise

end Block

/-- The modulated rows, their product, and its squared positive part. -/
def HH (c : Dev nD) (r : Fin 8192) (d : Fin 1024) : EReal :=
  xA m c (ix3 0 r d) * rs (fun k : Fin 1024 => xA m c (ix3 0 r k)) * gA m c (ix2 0 d) * (O + mA m c (ix2 0 ⟨4096 + d.val, by omega⟩))
    + mA m c (ix2 0 ⟨3072 + d.val, by omega⟩)
def AA (c : Dev nD) (r : Fin 8192) (d : Fin 4096) : EReal := ∑ k : Fin 1024, HH m c r k * wA m c (ix3 0 k d)

def G4 (c : Dev nD) : S8192x1024.Idx → EReal := fun y => HH m c (y 0) (y 1)
def G5 (c : Dev nD) : S8192x4096.Idx → EReal := fun y => AA m c (y 0) (y 1)
def G6 (c : Dev nD) : S8192x4096.Idx → EReal := fun y => max (AA m c (y 0) (y 1)) 0 * max (AA m c (y 0) (y 1)) 0

theorem h_eq (c : Dev nD) (t : Fin cfg0.N) (p : Fin 512) (q : Fin 1024) :
    k0_pay7 (iblk m c 0 t) (iblk m c 1 t) (iblk m c 2 t) (iblk m c 3 t) (ix2 p q) = HH m c (row t p) q := by
  refine (h_at _ _ _ _ p q).trans ?_
  simp only [blk0, blk2]
  exact congrArg₂ (fun a b => _ * (O + a) + b) (blk1 m c t 4 q) (blk1 m c t 3 q)

theorem a_eq (c : Dev nD) (t : Fin cfg0.N) (p : Fin 512) (q : Fin 4096) :
    av (iblk m c 0 t) (iblk m c 1 t) (iblk m c 2 t) (iblk m c 3 t) (ix2 p q) = AA m c (row t p) q := by
  refine (a_at _ _ _ _ (fun k d => wA m c (ix3 0 k d)) (fun j k r => blk3 m c t j k r) p q).trans ?_
  exact Finset.sum_congr rfl fun k _ => congrArg (· * _) (h_eq m c t p k)

theorem final4 (c : Dev nD) : (dats m 0 c).arrAt 4 (cfgs 0).N = G4 m c := by
  refine (dats m 0 c).arrAt_eq_of_covers 4 _ (by decide +kernel) fun t _ y => ?_
  blk_simp
  rw [after0_4]; frame_out
  idx_vars y
  refine (((h_at' _ _ _ y0 y1).trans (h_at _ _ _ (iblk m c 3 t) y0 y1).symm).trans (h_eq m c t y0 y1)).trans (show G4 m c (ix2 (row t y0) y1) = _ from ?_)
  blk_ext [idx t, row]

theorem final5 (c : Dev nD) : (dats m 0 c).arrAt 5 (cfgs 0).N = G5 m c := by
  refine (dats m 0 c).arrAt_eq_of_covers 5 _ (by decide +kernel) fun t _ y => ?_
  blk_simp
  rw [after0_5]; frame_out
  idx_vars y
  refine (a_eq m c t y0 y1).trans (show G5 m c (ix2 (row t y0) y1) = _ from ?_)
  blk_ext [idx t, row]

theorem final6 (c : Dev nD) : (dats m 0 c).arrAt 6 (cfgs 0).N = G6 m c := by
  refine (dats m 0 c).arrAt_eq_of_covers 6 _ (by decide +kernel) fun t _ y => ?_
  blk_simp
  rw [after0_6]; frame_out
  idx_vars y
  refine (hid_at _ _ _ _ _ y0 y1).trans (Eq.trans ?_ (show G6 m c (ix2 (row t y0) y1) = _ from ?_))
  · exact congrArg (fun a : EReal => max a 0 * max a 0) (a_eq m c t y0 y1)
  · blk_ext [idx t, row]

end Cert.Kernel9Ideal.Mix
-- ==== Proof.MixRef.lean ====
module

public import proofs.«01_k».proof.Proof.Gen.Reference9Ideal.Run
public import proofs.«01_k».proof.Proof.NormMath
public import Idealize.ShloMosaic.Lib.Pointwise

@[expose] public section

set_option maxRecDepth 16384

noncomputable section

/-! The channel mix's reference: its three results named by their shared parts, and each read at an index. -/

namespace Cert.Reference9Ideal.Mix

open Cert.Reference9Ideal Cert.Reference9Ideal.Gen Idealize.ShloMosaic Idealize.ShloMosaic.TcCoe Idealize.SL.Sem
open Cert.Proof.NormMath

/-- The factor of a row's norm. -/
def fac (x : FVec Ideal S1x8192x1024 .f32) : FVec Ideal S1x8192x1 .f32 :=
  Host.rsqrt (addf (Host.divf (broadcastInDim S1x8192x1 ![0, 1] bcast_S1x8192_S1x8192x1_0_1 (Host.reduceAdd (mulf x x)
    (constant S_ .f32 0x00000000#32) reducesTo_S1x8192x1024_S1x8192_d2 h_S_)) (broadcastInDim S1x8192x1 ![] bcast_S_S1x8192x1 (constant S_ .f32 0x44800000#32)))
    (broadcastInDim S1x8192x1 ![] bcast_S_S1x8192x1 (constant S_ .f32 0x358637BD#32)))

/-- The modulated rows. -/
def hh (x : FVec Ideal S1x8192x1024 .f32) (f : FVec Ideal S1x8192x1 .f32) (s : FVec Ideal S1x6144 .f32) (g : FVec Ideal S1x1024 .f32) :
    FVec Ideal S1x8192x1024 .f32 :=
  addf (mulf (mulf (mulf x (broadcastInDim S1x8192x1024 ![0, 1, 2] bcast_S1x8192x1_S1x8192x1024_0_1_2 f))
      (broadcastInDim S1x8192x1024 ![0, 1, 2] bcast_S1x1x1024_S1x8192x1024_0_1_2 (broadcastInDim S1x1x1024 ![2] bcast_S1024_S1x1x1024_2
        (shapeCast _ g shapeCasts_S1x1024_S1024))))
      (broadcastInDim S1x8192x1024 ![0, 1, 2] bcast_S1x1x1024_S1x8192x1024_0_1_2 (addf (broadcastInDim S1x1x1024 ![] bcast_S_S1x1x1024
        (constant S_ .f32 0x3F800000#32)) (broadcastInDim S1x1x1024 ![0, 2] bcast_S1x1024_S1x1x1024_0_2
          (extractStridedSlice S1x1024 ![0, 4096] s slices_S1x6144_S1x1024_0_4096)))))
    (broadcastInDim S1x8192x1024 ![0, 1, 2] bcast_S1x1x1024_S1x8192x1024_0_1_2 (broadcastInDim S1x1x1024 ![0, 2] bcast_S1x1024_S1x1x1024_0_2
      (extractStridedSlice S1x1024 ![0, 3072] s slices_S1x6144_S1x1024_0_3072)))

/-- Their product with the weight, and its squared positive part. -/
def aa (h : FVec Ideal S1x8192x1024 .f32) (w : FVec Ideal S1x1024x4096 .f32) : FVec Ideal S1x8192x4096 .f32 :=
  Host.dotGeneral dot_S1x8192x1024_S1024x4096_S1x8192x4096_2_0_01_1_n_n none h (shapeCast _ w shapeCasts_S1x1024x4096_S1024x4096)
def pp (a : FVec Ideal S1x8192x4096 .f32) : FVec Ideal S1x8192x4096 .f32 :=
  maximumf a (broadcastInDim S1x8192x4096 ![] bcast_S_S1x8192x4096 (constant S_ .f32 0x00000000#32))

/-- The arrays as they are returned. -/
def ret (z : FVec Ideal S1x8192x1024 .f32) : FVec Ideal S8192x1024 .bf16 := truncf .bf16 (shapeCast _ z shapeCasts_S1x8192x1024_S8192x1024) bitsLt_bf16_f32
def retw (z : FVec Ideal S1x8192x4096 .f32) : FVec Ideal S8192x4096 .bf16 := truncf .bf16 (shapeCast _ z shapeCasts_S1x8192x4096_S8192x4096) bitsLt_bf16_f32

theorem ret_at (z : FVec Ideal S1x8192x1024 .f32) (r : Fin 8192) (d : Fin 1024) : ret z (ix2 r d) = z (ix3 0 r d) := by
  pointwise [ret]

theorem retw_at (z : FVec Ideal S1x8192x4096 .f32) (r : Fin 8192) (d : Fin 4096) : retw z (ix2 r d) = z (ix3 0 r d) := by
  pointwise [retw]

theorem fac_at (x : FVec Ideal S1x8192x1024 .f32) (r : Fin 8192) : fac x (ix3 0 r 0) = rs (fun k : Fin 1024 => x (ix3 0 r k)) := by
  pointwise [fac, rs, msq, W, E]

theorem hh_at (x : FVec Ideal S1x8192x1024 .f32) (f : FVec Ideal S1x8192x1 .f32) (s : FVec Ideal S1x6144 .f32) (g : FVec Ideal S1x1024 .f32)
    (r : Fin 8192) (d : Fin 1024) :
    hh x f s g (ix3 0 r d) = x (ix3 0 r d) * f (ix3 0 r 0) * g (ix2 0 d) * (O + s (ix2 0 ⟨4096 + d.val, by omega⟩)) + s (ix2 0 ⟨3072 + d.val, by omega⟩) := by
  pointwise [hh, O]

theorem aa_at (h : FVec Ideal S1x8192x1024 .f32) (w : FVec Ideal S1x1024x4096 .f32) (r : Fin 8192) (d : Fin 4096) :
    aa h w (ix3 0 r d) = ∑ k : Fin 1024, h (ix3 0 r k) * w (ix3 0 k d) := by
  pointwise [aa]

theorem pp_at (a : FVec Ideal S1x8192x4096 .f32) (r : Fin 8192) (d : Fin 4096) :
    mulf (pp a) (pp a) (ix3 0 r d) = max (a (ix3 0 r d)) 0 * max (a (ix3 0 r d)) 0 := by
  pointwise [pp]

end Cert.Reference9Ideal.Mix
-- ==== Proof.MixClaim.lean ====
module

public import proofs.«01_k».proof.Defs
public import proofs.«01_k».proof.Proof.MixFinal
public import proofs.«01_k».proof.Proof.MixRef

@[expose] public section

set_option maxRecDepth 16384

noncomputable section

/-! The channel mix's first half computes the forward lines. -/

namespace Cert.Proof.Mix

open Idealize.ShloMosaic Idealize.ShloMosaic.TcCoe Idealize.SL.Sem Cert.Kernel9Ideal Cert.Kernel9Ideal.Mix
open Cert.Reference9Ideal.Mix (ret ret_at retw retw_at fac fac_at hh hh_at aa aa_at pp pp_at)
open Cert.Proof.NormMath

variable (m : (ℓ : Loc nD τ sig) → Buf (Elt Ideal) ℓ) (c : Dev nD)

theorem hh_eq (r : Fin 8192) (d : Fin 1024) : hh (xA m c) (fac (xA m c)) (mA m c) (gA m c) (ix3 0 r d) = HH m c r d :=
  (hh_at _ _ _ _ _ _).trans (congrArg (fun f : EReal => _ * f * _ * _ + _) (fac_at _ _))

theorem aa_eq (r : Fin 8192) (d : Fin 4096) : aa (hh (xA m c) (fac (xA m c)) (mA m c) (gA m c)) (wA m c) (ix3 0 r d) = AA m c r d :=
  (aa_at _ _ _ _).trans (Finset.sum_congr rfl fun k _ => congrArg (· * _) (hh_eq m c r k))

theorem ref4 : ret (hh (xA m c) (fac (xA m c)) (mA m c) (gA m c)) = G4 m c := by
  funext j; idx_vars j
  exact (ret_at _ _ _).trans (hh_eq m c _ _)

theorem ref5 : retw (aa (hh (xA m c) (fac (xA m c)) (mA m c) (gA m c)) (wA m c)) = G5 m c := by
  funext j; idx_vars j
  exact (retw_at _ _ _).trans (aa_eq m c _ _)

theorem ref6 : retw (mulf (pp (aa (hh (xA m c) (fac (xA m c)) (mA m c) (gA m c)) (wA m c))) (pp (aa (hh (xA m c) (fac (xA m c)) (mA m c) (gA m c)) (wA m c)))) = G6 m c := by
  funext j; idx_vars j
  exact (retw_at _ _ _).trans ((pp_at _ _ _).trans (congrArg (fun a : EReal => max a 0 * max a 0) (aa_eq m c _ _)))

theorem algebraic : Cert.algebraic_Kernel9Ideal_Reference9Ideal (hKernel9Ideal := Cert.Kernel9Ideal.Gen.facts)
    (hReference9Ideal := Cert.Reference9Ideal.Gen.facts) := by
  intro m g m' g' _ hm
  refine ⟨fun c => G4 m c, fun c => G5 m c, fun c => G6 m c, ?_, ?_⟩
  · refine (θ_run _ _ _).mono (fun r h c => ?_) (Cert.Kernel9Ideal.Value.run_blocks (F := Ideal) m g)
    obtain ⟨h4, h5, h6, hargs⟩ := h c
    exact ⟨h4.trans (final4 m c), h5.trans (final5 m c), h6.trans (final6 m c), hargs⟩
  · refine (θ_run _ _ _).mono (fun r h c => ?_) (Cert.Reference9Ideal.Value.run (F := Ideal) m' g')
    obtain ⟨h4, h5, h6, hargs⟩ := h c
    obtain ⟨a0, a1, a2, a3⟩ := hm c
    have e4 := ref4 m c; have e5 := ref5 m c; have e6 := ref6 m c
    unfold xA mA gA at e4 e5 e6
    unfold wA at e5 e6
    rw [← a0, ← a1, ← a2] at e4 e5 e6
    rw [← a3] at e5 e6
    exact ⟨h4.trans e4, h5.trans e5, h6.trans e6, hargs⟩

end Cert.Proof.Mix
-- ==== Proof.ProjMath.lean ====
module

public import proofs.«01_k».proof.Proof.QkPads

@[expose] public section

set_option maxRecDepth 16384

noncomputable section

/-! The forward pass of a row of queries and keys: each head normalised by its root mean square, times the gain, turned by position. -/

namespace Cert.Proof.QkMath

open Idealize.ShloMosaic Cert.Proof.AttnMath Cert.Proof.Finite
open Cert.Proof.NormMath (E O)

theorem O_one : O = 1 := by
  simp [O, Ideal.ofBits, Ideal.ieee]
  first | done | (refine (EReal.coe_mul _ _).symm.trans ?_; norm_num)

/-- A row turned by the angles of its lanes: the kernel's form, of the row and of its copies turned by `n` and `n'` lanes, and one head's
    as the rotation of pairs of lanes `w` apart. -/
def ropeF (n n' : ℕ) (z c a b : Fin 128 → EReal) (l : Fin 128) : EReal := z l * c l + O * (z (roll n l) * a l + z (roll n' l) * b l)
def turn (w : ℕ) (z c s : Fin 64 → EReal) (j : Fin 64) : EReal :=
  if j.val % (2 * w) < w then z j * c j - z ⟨(j.val + w) % 64, Nat.mod_lt _ (by decide)⟩ * s j
  else z ⟨(j.val + 64 - w) % 64, Nat.mod_lt _ (by decide)⟩ * s j + z j * c j

theorem turn_eq (w n : ℕ) (hw : w = 16 ∧ n = 112 ∨ w = 32 ∧ n = 96) (z c a b : Fin 128 → EReal) (c' s : Fin 64 → EReal)
    (hc : ∀ h j, c (lane h j) = c' j) (ha : ∀ h j, a (lane h j) = if j.val % (2 * w) < w then -s j else 0)
    (hb : ∀ h j, b (lane h j) = if j.val % (2 * w) < w then 0 else s j) (h : Fin 2) (j : Fin 64) :
    ropeF n w z c a b (lane h j) = turn w (fun i => z (lane h i)) c' s j := by
  unfold ropeF turn
  rw [O_one, hc, ha, hb, one_mul]
  by_cases hj : j.val % (2 * w) < w
  · simp only [if_pos hj]
    have e : roll n (lane h j) = lane h ⟨(j.val + w) % 64, Nat.mod_lt _ (by decide)⟩ := Fin.ext (by
      show (h.val * 64 + j.val + 128 - n) % 128 = h.val * 64 + (j.val + w) % 64
      rcases hw with ⟨rfl, rfl⟩ | ⟨rfl, rfl⟩ <;> omega)
    rw [e, mul_zero, add_zero, mul_neg, sub_eq_add_neg]
  · simp only [if_neg hj]
    have e : roll w (lane h j) = lane h ⟨(j.val + 64 - w) % 64, Nat.mod_lt _ (by decide)⟩ := Fin.ext (by
      show (h.val * 64 + j.val + 128 - w) % 128 = h.val * 64 + (j.val + 64 - w) % 64
      rcases hw with ⟨rfl, rfl⟩ | ⟨rfl, rfl⟩ <;> omega)
    rw [e, mul_zero, zero_add, add_comm]

theorem turn_nat (w : ℕ) (z c s : Fin 64 → EReal) (j : Fin 64) :
    turn w z c s j = if j.val % (2 * w) < w then z j * c j - at64 z ((j.val + w) % 64) * s j else at64 z ((j.val + 64 - w) % 64) * s j + z j * c j := by
  unfold turn at64
  rw [dif_pos (Nat.mod_lt _ (by decide)), dif_pos (Nat.mod_lt _ (by decide))]

/-- The turned row as the reference joins it: four pieces of sixteen lanes, and two of thirty-two. -/
theorem four_cat (z : Fin 64 → EReal) (r : Fin 8192) (j : Fin 64) :
    ((if h : j.val < 32 then
        (if h' : j.val < 16 then
            at64 z (0 + j.val) * Ideal.cos (angRow r j.val) - at64 z (16 + j.val) * Ideal.sin (angRow r j.val)
          else at64 z (0 + (j.val - 16)) * Ideal.sin (angRow r (j.val - 16)) + at64 z (16 + (j.val - 16)) * Ideal.cos (angRow r (j.val - 16)))
      else (if h' : j.val - 32 < 16 then
            at64 z (32 + (j.val - 32)) * Ideal.cos (angCol r (j.val - 32)) - at64 z (48 + (j.val - 32)) * Ideal.sin (angCol r (j.val - 32))
          else at64 z (32 + (j.val - 32 - 16)) * Ideal.sin (angCol r (j.val - 32 - 16)) + at64 z (48 + (j.val - 32 - 16)) * Ideal.cos (angCol r (j.val - 32 - 16)))) : EReal)
    = turn 16 z (tabA Ideal.cos r) (tabA Ideal.sin r) j := by
  have hj := j.isLt
  rw [turn_nat 16]
  unfold tabA
  rcases (by omega : j.val < 16 ∨ (16 ≤ j.val ∧ j.val < 32) ∨ (32 ≤ j.val ∧ j.val < 48) ∨ 48 ≤ j.val) with h | h | h | h
  · rw [dif_pos (by omega), dif_pos (by omega), if_pos (by omega), if_pos (by omega), if_pos (by omega),
      show 0 + j.val = j.val by omega, at64_val, show 16 + j.val = (j.val + 16) % 64 by omega]
  · rw [dif_pos (by omega), dif_neg (by omega), if_neg (by omega), if_neg (by omega), if_pos (by omega), if_neg (by omega), if_pos (by omega),
      show 16 + (j.val - 16) = j.val by omega, at64_val, show 0 + (j.val - 16) = (j.val + 64 - 16) % 64 by omega]
  · rw [dif_neg (by omega), dif_pos (by omega), if_pos (by omega), if_neg (by omega), if_neg (by omega), if_pos (by omega), if_neg (by omega), if_neg (by omega), if_pos (by omega),
      show 32 + (j.val - 32) = j.val by omega, at64_val, show 48 + (j.val - 32) = (j.val + 16) % 64 by omega, show j.val - 16 - 16 = j.val - 32 by omega]
  · rw [dif_neg (by omega), dif_neg (by omega), if_neg (by omega), if_neg (by omega), if_neg (by omega), if_neg (by omega), if_neg (by omega), if_neg (by omega), if_neg (by omega),
      show 48 + (j.val - 32 - 16) = j.val by omega, at64_val, show 32 + (j.val - 32 - 16) = (j.val + 64 - 16) % 64 by omega, show j.val - 16 - 16 - 16 = j.val - 32 - 16 by omega]

theorem two_cat (z : Fin 64 → EReal) (r : Fin 8192) (j : Fin 64) :
    ((if h : j.val < 32 then
        at64 z (0 + j.val) * Ideal.cos (angOne r j.val) - at64 z (32 + j.val) * Ideal.sin (angOne r j.val)
      else at64 z (0 + (j.val - 32)) * Ideal.sin (angOne r (j.val - 32)) + at64 z (32 + (j.val - 32)) * Ideal.cos (angOne r (j.val - 32))) : EReal)
    = turn 32 z (tabB Ideal.cos r) (tabB Ideal.sin r) j := by
  have hj := j.isLt
  rw [turn_nat 32]
  unfold tabB
  by_cases h : j.val < 32
  · rw [dif_pos (by omega), if_pos (by omega), if_pos (by omega), if_pos (by omega),
      show 0 + j.val = j.val by omega, at64_val, show 32 + j.val = (j.val + 32) % 64 by omega]
  · rw [dif_neg (by omega), if_neg (by omega), if_neg (by omega), if_neg (by omega),
      show 32 + (j.val - 32) = j.val by omega, at64_val, show 0 + (j.val - 32) = (j.val + 64 - 32) % 64 by omega]

/-- The normalised row times the gain: of two heads side by side with the mean taken by a matrix, and of one head. -/
def nrm (B : Fin 128 → Fin 128 → EReal) (x g : Fin 128 → EReal) (l : Fin 128) : EReal := x l * rk B x l * g l
def nrm1 (x g : Fin 64 → EReal) (j : Fin 64) : EReal := x j * rs x * g j

theorem nrm_eq (x g : Fin 128 → EReal) (h : Fin 2) (hx : ∀ k, Re (x k)) :
    (fun j => nrm bd x g (lane h j)) = nrm1 (fun j => x (lane h j)) fun j => g (lane h j) := by
  funext j
  unfold nrm nrm1
  rw [rk_eq x h j hx]

/-- What a bfloat one is. -/
def one : EReal := Ideal.ofBits .bf16 0x3F80#16

theorem one_one : one = 1 := by
  simp [one, Ideal.ofBits, Ideal.ieee]
  first | done | (refine (EReal.coe_mul _ _).symm.trans ?_; norm_num)

/-- A row of the product and of what turns it: the columns, the mean's matrix, the gains and the six tables' rows. -/
structure InRow where
  col : Fin 3584 → EReal
  B : Fin 128 → Fin 128 → EReal
  gq : Fin 128 → EReal
  gk : Fin 128 → EReal
  ca : Fin 128 → EReal
  la : Fin 128 → EReal
  ha : Fin 128 → EReal
  cb : Fin 128 → EReal
  lb : Fin 128 → EReal
  hb : Fin 128 → EReal

namespace InRow

variable (R : InRow)

/-- The columns of two neighbouring heads. -/
def seg (k : Fin 28) (l : Fin 128) : EReal := R.col ⟨k.val * 128 + l.val, by omega⟩

/-- The heads of the queries, keys and values of the first attention, and of the second. -/
def qa (h : Fin 8) (j : Fin 64) : EReal :=
  ropeF 112 16 (nrm R.B (R.seg ⟨h.val / 2, by omega⟩) R.gq) R.ca R.la R.ha (lane ⟨h.val % 2, by omega⟩ j) * S
def ka (h : Fin 2) (j : Fin 64) : EReal := ropeF 112 16 (nrm R.B (R.seg 4) R.gk) R.ca R.la R.ha (lane h j)
def qb (h : Fin 8) (j : Fin 64) : EReal :=
  ropeF 96 32 (R.seg ⟨6 + h.val / 2, by omega⟩) R.cb R.lb R.hb (lane ⟨h.val % 2, by omega⟩ j) * S
def kb (h : Fin 2) (j : Fin 64) : EReal := ropeF 96 32 (R.seg 10) R.cb R.lb R.hb (lane h j)
def va (h : Fin 2) (l : Fin 128) : EReal := if l.val < 64 then R.col ⟨640 + h.val * 64 + l.val % 64, by omega⟩ else one
def vb (h : Fin 2) (l : Fin 128) : EReal := if l.val < 64 then R.col ⟨1408 + h.val * 64 + l.val % 64, by omega⟩ else one

/-- The same heads, their columns and their half named from outside. -/
theorem qa_of (h : Fin 8) (j : Fin 64) (k : Fin 28) (d : Fin 2) (hk : k.val = h.val / 2) (hd : d.val = h.val % 2) :
    R.qa h j = ropeF 112 16 (nrm R.B (R.seg k) R.gq) R.ca R.la R.ha (lane d j) * S := by
  unfold qa
  rw [show (⟨h.val / 2, by omega⟩ : Fin 28) = k from Fin.ext hk.symm, show (⟨h.val % 2, by omega⟩ : Fin 2) = d from Fin.ext hd.symm]
theorem qb_of (h : Fin 8) (j : Fin 64) (k : Fin 28) (d : Fin 2) (hk : k.val = 6 + h.val / 2) (hd : d.val = h.val % 2) :
    R.qb h j = ropeF 96 32 (R.seg k) R.cb R.lb R.hb (lane d j) * S := by
  unfold qb
  rw [show (⟨6 + h.val / 2, by omega⟩ : Fin 28) = k from Fin.ext hk.symm, show (⟨h.val % 2, by omega⟩ : Fin 2) = d from Fin.ext hd.symm]
theorem ka_of (h : Fin 2) (j : Fin 64) (k : Fin 28) (hk : k.val = 4) :
    R.ka h j = ropeF 112 16 (nrm R.B (R.seg k) R.gk) R.ca R.la R.ha (lane h j) := by
  obtain rfl : k = 4 := Fin.ext hk
  rfl

end InRow

end Cert.Proof.QkMath
-- ==== Proof.ProjTile.lean ====
module

public import proofs.«01_k».proof.Proof.Gen.Kernel10Ideal.Skeleton
public import proofs.«01_k».proof.Proof.ProjMath
public import Idealize.ShloMosaic.Lib.Pipeline.ValueKit
public import Idealize.ShloMosaic.Lib.Pointwise

@[expose] public section

set_option maxRecDepth 16384

noncomputable section

/-! The pieces of a block of rows of the first attention's projection, read at a place: the product's columns normalised and turned. -/

namespace Cert.Kernel10Ideal.Proj

open Cert.Kernel10Ideal Cert.Kernel10Ideal.Gen Idealize.ShloMosaic Idealize.ShloMosaic.TcCoe Idealize.SL.Sem
open Cert.Proof.QkMath

section Parts
variable (v : FVec Ideal S512x3584 .f32) (w : FVec Ideal S128x128 .bf16) (z c a b : FVec Ideal S512x128 .f32) (g : FVec Ideal S1x128 .f32)

/-- Columns normalised head by head and times the gain. -/
def zn : FVec Ideal S512x128 .f32 :=
  let s := truncf .bf16 (mulf z z) bitsLt_bf16_f32
  let d := truncf .bf16 (subf (mulf z z) (extf .f32 s bitsLt_bf16_f32)) bitsLt_bf16_f32
  let o := constant S512x128 .f32 0x00000000#32
  let mean := addf (matmul dot_S512x128_S128x128_S512x128_1_0_0_1_n_n none s w o) (matmul dot_S512x128_S128x128_S512x128_1_0_0_1_n_n none d w o)
  mulf (mulf z (rsqrt (addf mean (broadcast S512x128 (Scalar.ofBits .f32 0x358637BD#32))))) (broadcastTo S512x128 g broadcasts_S1x128_S512x128)

theorem zn_at (p : Fin 512) (l : Fin 128) : zn w z g (ix2 p l) = nrm (fun k l => w (ix2 k l)) (fun k => z (ix2 p k)) (fun k => g (ix2 0 k)) l := by
  unfold nrm rk hm Cert.Proof.NormMath.E
  pointwise [zn]

/-- Turned and scaled. -/
theorem pay20_at (p : Fin 512) (l : Fin 128) : (k0_pay20 c a b z 112#32 (ix2 p l) : EReal)
    = ropeF 112 16 (fun k => z (ix2 p k)) (fun k => c (ix2 p k)) (fun k => a (ix2 p k)) (fun k => b (ix2 p k)) l * S := by
  unfold ropeF roll S Cert.Proof.NormMath.O
  pointwise [k0_pay20]

/-- Turned alone. -/
def tn : FVec Ideal S512x128 .bf16 :=
  truncf .bf16 (addf (mulf z c) (mulf (broadcast S512x128 (Scalar.ofBits .f32 0x3F800000#32))
    (addf (mulf (dynamicRotate 1 112#32 none z rotates_S512x128_d1) a) (mulf (dynamicRotate 1 16#32 none z rotates_S512x128_d1) b)))) bitsLt_bf16_f32

theorem tn_at (p : Fin 512) (l : Fin 128) : (tn z c a b (ix2 p l) : EReal)
    = ropeF 112 16 (fun k => z (ix2 p k)) (fun k => c (ix2 p k)) (fun k => a (ix2 p k)) (fun k => b (ix2 p k)) l := by
  unfold ropeF roll Cert.Proof.NormMath.O
  pointwise [tn]

/-- The four pieces of queries and the keys, in these words. -/
theorem q1 : k0_pay19 v w g = zn w (extractStridedSlice S512x128 ![0, 128] v slices_S512x3584_o0_128_S512x128) g := rfl
theorem q2 : k0_pay26 (k0_pay24 v w c g) (k0_pay25 v w a b g)
    = k0_pay20 c a b (zn w (extractStridedSlice S512x128 ![0, 256] v slices_S512x3584_o0_256_S512x128) g) 112#32 := rfl
theorem q3 : k0_pay30 (k0_pay29 v w c a b g)
    = k0_pay20 c a b (zn w (extractStridedSlice S512x128 ![0, 384] v slices_S512x3584_o0_384_S512x128) g) 112#32 := rfl
theorem kk : k0_pay33 v w c a b g = tn (zn w (extractStridedSlice S512x128 ![0, 512] v slices_S512x3584_o0_512_S512x128) g) c a b := rfl

/-- The second attention's, scaled and not. -/
def sb : FVec Ideal S512x128 .bf16 := k0_pay52 (mulf z c)
  (addf (mulf (dynamicRotate 1 96#32 none z rotates_S512x128_d1) a) (mulf (dynamicRotate 1 32#32 none z rotates_S512x128_d1) b)) k0_pay51

theorem sb_at (p : Fin 512) (l : Fin 128) : (sb z c a b (ix2 p l) : EReal)
    = ropeF 96 32 (fun k => z (ix2 p k)) (fun k => c (ix2 p k)) (fun k => a (ix2 p k)) (fun k => b (ix2 p k)) l * S := by
  unfold ropeF roll S Cert.Proof.NormMath.O
  pointwise [sb, k0_pay52, k0_pay51]

theorem b0 : k0_pay42 v c a b = sb (extractStridedSlice S512x128 ![0, 768] v slices_S512x3584_o0_768_S512x128) c a b := rfl
theorem b1 : k0_pay45 v c a b = sb (extractStridedSlice S512x128 ![0, 896] v slices_S512x3584_o0_896_S512x128) c a b := rfl
theorem b2 : k0_pay52 (k0_pay49 v c) (k0_pay50 v a b) k0_pay51 = sb (extractStridedSlice S512x128 ![0, 1024] v slices_S512x3584_o0_1024_S512x128) c a b := rfl
theorem b3 : k0_pay55 v c a b = sb (extractStridedSlice S512x128 ![0, 1152] v slices_S512x3584_o0_1152_S512x128) c a b := rfl

theorem kb_at (p : Fin 512) (l : Fin 128) : (k0_pay61 c a b (k0_pay58 v) (k0_pay59 v) (k0_pay60 v) (ix2 p l) : EReal)
    = ropeF 96 32 (fun k => v (ix2 p ⟨1280 + k.val, by omega⟩)) (fun k => c (ix2 p k)) (fun k => a (ix2 p k)) (fun k => b (ix2 p k)) l := by
  unfold ropeF roll Cert.Proof.NormMath.O
  pointwise [k0_pay61, k0_pay58, k0_pay59, k0_pay60]

end Parts

end Cert.Kernel10Ideal.Proj
-- ==== Proof.ProjRun.lean ====
module

public import proofs.«01_k».proof.Proof.Gen.Kernel10Ideal.Value
public import proofs.«01_k».proof.Proof.ProjTile

@[expose] public section

set_option maxRecDepth 16384

noncomputable section

/-! The nine blocks a grid point writes, as functions of the blocks it reads. -/

namespace Cert.Kernel10Ideal.Proj

open Cert.Kernel10Ideal Cert.Kernel10Ideal.Gen Idealize.ShloMosaic Idealize.ShloMosaic.TcCoe Idealize.SL.Sem
open Cert.Proof.QkMath
open Cert.Proof.NormMath (O)

variable (x0 : Vec Ideal S512x1024 .f32) (x1 : Vec Ideal S6x1024 .f32) (x2 : Vec Ideal S1x1024 .f32) (x3 : Vec Ideal S4x1024x896 .bf16) (x4 x5 : Vec Ideal S1x128 .f32)
  (x6 : Vec Ideal S128x128 .bf16) (x7 x8 x9 x10 x11 x12 : Vec Ideal S512x128 .f32)

/-- The modulated rows of a block. -/
def hB (p : Fin 512) (d : Fin 1024) : EReal :=
  x0 (ix2 p d) * Cert.Proof.NormMath.rs (fun k : Fin 1024 => x0 (ix2 p k)) * x2 (ix2 0 d) * (O + x1 (ix2 1 d)) + x1 (ix2 0 d)

theorem h_at (p : Fin 512) (d : Fin 1024) : (k0_pay2 x0 x2 (View.ld x1 r0_2) (View.ld x1 r0_3) (ix2 p d) : EReal) = hB x0 x1 x2 p d := by
  pointwise [k0_pay2, hB, Cert.Proof.NormMath.rs, Cert.Proof.NormMath.msq, Cert.Proof.NormMath.W, Cert.Proof.NormMath.E, Cert.Proof.NormMath.O]

/-- A row of the product with what turns it. -/
def rowB (p : Fin 512) : InRow where
  col := fun q => k0_pay72 x0 x1 x2 x3 x4 x5 x6 x7 x8 x9 x10 x11 x12 (ix2 p q)
  B := fun k l => x6 (ix2 k l)
  gq := fun l => x4 (ix2 0 l)
  gk := fun l => x5 (ix2 0 l)
  ca := fun l => x7 (ix2 p l)
  la := fun l => x8 (ix2 p l)
  ha := fun l => x9 (ix2 p l)
  cb := fun l => x10 (ix2 p l)
  lb := fun l => x11 (ix2 p l)
  hb := fun l => x12 (ix2 p l)

section Heads
variable (v : FVec Ideal S512x3584 .f32) (w : FVec Ideal S128x128 .bf16) (c a b : FVec Ideal S512x128 .f32) (g : Vec Ideal S1x128 .f32)
  (d : FVec Ideal S512x1024 .bf16) (e f : FVec Ideal S512x896 .f32) (y z : Vec Ideal S1x1024x896 .bf16)

/-- Every head the body stores is the lower or the upper half of such a block. -/
theorem qa0 : k0_pay17 c a b (k0_pay14 d e f y z) g (k0_pay15 d e f y z w) (Scalar.ofBits (F := Ideal) .f32 0x358637BD#32) = k0_pay43 (k0_pay20 c a b (zn (k0_pay7 w) (extractStridedSlice S512x128 ![0, 0] (k0_pay5 d e f y z) slices_S512x3584_o0_0_S512x128) g) 112#32) := rfl
theorem qa1 : k0_pay18 c a b (k0_pay14 d e f y z) g (k0_pay15 d e f y z w) (Scalar.ofBits (F := Ideal) .f32 0x358637BD#32) = k0_pay44 (k0_pay20 c a b (zn (k0_pay7 w) (extractStridedSlice S512x128 ![0, 0] (k0_pay5 d e f y z) slices_S512x3584_o0_0_S512x128) g) 112#32) := rfl
theorem qa2 : k0_pay21 c a b (k0_pay19 v w g) 112#32 = k0_pay43 (k0_pay20 c a b (zn w (extractStridedSlice S512x128 ![0, 128] v slices_S512x3584_o0_128_S512x128) g) 112#32) := rfl
theorem qa3 : k0_pay22 c a b (k0_pay19 v w g) 112#32 = k0_pay44 (k0_pay20 c a b (zn w (extractStridedSlice S512x128 ![0, 128] v slices_S512x3584_o0_128_S512x128) g) 112#32) := rfl
theorem qa4 : k0_pay27 (k0_pay24 v w c g) (k0_pay25 v w a b g) = k0_pay43 (k0_pay20 c a b (zn w (extractStridedSlice S512x128 ![0, 256] v slices_S512x3584_o0_256_S512x128) g) 112#32) := rfl
theorem qa5 : k0_pay28 (k0_pay24 v w c g) (k0_pay25 v w a b g) = k0_pay44 (k0_pay20 c a b (zn w (extractStridedSlice S512x128 ![0, 256] v slices_S512x3584_o0_256_S512x128) g) 112#32) := rfl
theorem qa6 : k0_pay31 (k0_pay29 v w c a b g) = k0_pay43 (k0_pay20 c a b (zn w (extractStridedSlice S512x128 ![0, 384] v slices_S512x3584_o0_384_S512x128) g) 112#32) := rfl
theorem qa7 : k0_pay32 (k0_pay29 v w c a b g) = k0_pay44 (k0_pay20 c a b (zn w (extractStridedSlice S512x128 ![0, 384] v slices_S512x3584_o0_384_S512x128) g) 112#32) := rfl
theorem ka0 : k0_pay34 v w c a b g = k0_pay43 (tn (zn w (extractStridedSlice S512x128 ![0, 512] v slices_S512x3584_o0_512_S512x128) g) c a b) := rfl
theorem ka1 : k0_pay36 (k0_pay35 v w c a b g) = k0_pay44 (tn (zn w (extractStridedSlice S512x128 ![0, 512] v slices_S512x3584_o0_512_S512x128) g) c a b) := rfl
theorem qb0 : k0_pay43 (k0_pay42 v c a b) = k0_pay43 (sb (extractStridedSlice S512x128 ![0, 768] v slices_S512x3584_o0_768_S512x128) c a b) := rfl
theorem qb1 : k0_pay44 (k0_pay42 v c a b) = k0_pay44 (sb (extractStridedSlice S512x128 ![0, 768] v slices_S512x3584_o0_768_S512x128) c a b) := rfl
theorem qb2 : k0_pay46 v c a b = k0_pay43 (sb (extractStridedSlice S512x128 ![0, 896] v slices_S512x3584_o0_896_S512x128) c a b) := rfl
theorem qb3 : k0_pay47 v c a b = k0_pay44 (sb (extractStridedSlice S512x128 ![0, 896] v slices_S512x3584_o0_896_S512x128) c a b) := rfl
theorem qb4 : k0_pay53 (k0_pay49 v c) (k0_pay50 v a b) k0_pay51 = k0_pay43 (sb (extractStridedSlice S512x128 ![0, 1024] v slices_S512x3584_o0_1024_S512x128) c a b) := rfl
theorem qb5 : k0_pay54 (k0_pay49 v c) (k0_pay50 v a b) k0_pay51 = k0_pay44 (sb (extractStridedSlice S512x128 ![0, 1024] v slices_S512x3584_o0_1024_S512x128) c a b) := rfl
theorem qb6 : k0_pay56 v c a b = k0_pay43 (sb (extractStridedSlice S512x128 ![0, 1152] v slices_S512x3584_o0_1152_S512x128) c a b) := rfl
theorem qb7 : k0_pay57 v c a b = k0_pay44 (sb (extractStridedSlice S512x128 ![0, 1152] v slices_S512x3584_o0_1152_S512x128) c a b) := rfl

end Heads

/-- The lower and the upper head of a block of two. -/
theorem low_at (T : FVec Ideal S512x128 .bf16) (p : Fin 512) (j : Fin 64) : k0_pay43 T (ix3 0 p j) = T (ix2 p (lane 0 j)) := by
  pointwise [k0_pay43]
  blk_ext [lane]
theorem high_at (T : FVec Ideal S512x128 .bf16) (p : Fin 512) (j : Fin 64) : k0_pay44 T (ix3 0 p j) = T (ix2 p (lane 1 j)) := by
  pointwise [k0_pay44]
  blk_ext [lane]

theorem place (x : S1x512x64.Idx) (p : Fin 512) (j : Fin 64) (h1 : p.val = (x 1).val) (h2 : j.val = (x 2).val) : x = ix3 0 p j := by
  idx_vars x
  obtain rfl : p = x1 := Fin.ext h1
  obtain rfl : j = x2 := Fin.ext h2
  obtain rfl : x0 = 0 := Fin.ext (by omega)
  rfl

/-- The blocks of the tables as the body names them. -/
theorem B_at (k l : Fin 128) : (k0_pay73 x0 x1 x2 x3 x4 x5 x6 x7 x8 x9 x10 x11 x12) (ix2 k l) = x6 (ix2 k l) := by
  unfold k0_pay73
  pointwise [k0_pay7]
theorem t74_at (p : Fin 512) (l : Fin 128) : (k0_pay74 x0 x1 x2 x3 x4 x5 x6 x7 x8 x9 x10 x11 x12) (ix2 p l) = x7 (ix2 p l) := by
  unfold k0_pay74
  pointwise [k0_pay8]
theorem t75_at (p : Fin 512) (l : Fin 128) : (k0_pay75 x0 x1 x2 x3 x4 x5 x6 x7 x8 x9 x10 x11 x12) (ix2 p l) = x8 (ix2 p l) := by
  unfold k0_pay75
  pointwise [k0_pay9]
theorem t76_at (p : Fin 512) (l : Fin 128) : (k0_pay76 x0 x1 x2 x3 x4 x5 x6 x7 x8 x9 x10 x11 x12) (ix2 p l) = x9 (ix2 p l) := by
  unfold k0_pay76
  pointwise [k0_pay10]
theorem t77_at (p : Fin 512) (l : Fin 128) : (k0_pay77 x0 x1 x2 x3 x4 x5 x6 x7 x8 x9 x10 x11 x12) (ix2 p l) = x10 (ix2 p l) := by
  unfold k0_pay77
  pointwise [k0_pay11]
theorem t78_at (p : Fin 512) (l : Fin 128) : (k0_pay78 x0 x1 x2 x3 x4 x5 x6 x7 x8 x9 x10 x11 x12) (ix2 p l) = x11 (ix2 p l) := by
  unfold k0_pay78
  pointwise [k0_pay12]
theorem t79_at (p : Fin 512) (l : Fin 128) : (k0_pay79 x0 x1 x2 x3 x4 x5 x6 x7 x8 x9 x10 x11 x12) (ix2 p l) = x12 (ix2 p l) := by
  unfold k0_pay79
  pointwise [k0_pay13]
theorem gq_at (l : Fin 128) : View.ld x4 r0_11 (ix2 0 l) = x4 (ix2 0 l) := by pointwise

/-- Two heads' columns, normalised, turned, and for the queries scaled. -/
theorem tq_at (X : FVec Ideal S512x128 .f32) (k : Fin 28) (p : Fin 512) (hX : ∀ l, X (ix2 p l) = (rowB x0 x1 x2 x3 x4 x5 x6 x7 x8 x9 x10 x11 x12 p).seg k l) (l : Fin 128) :
    (k0_pay20 (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (zn (k0_pay73 x0 x1 x2 x3 x4 x5 x6 x7 x8 x9 x10 x11 x12) X (View.ld x4 r0_11)) 112#32 (ix2 p l) : EReal)
      = ropeF 112 16 (nrm (rowB x0 x1 x2 x3 x4 x5 x6 x7 x8 x9 x10 x11 x12 p).B ((rowB x0 x1 x2 x3 x4 x5 x6 x7 x8 x9 x10 x11 x12 p).seg k) (rowB x0 x1 x2 x3 x4 x5 x6 x7 x8 x9 x10 x11 x12 p).gq) (rowB x0 x1 x2 x3 x4 x5 x6 x7 x8 x9 x10 x11 x12 p).ca (rowB x0 x1 x2 x3 x4 x5 x6 x7 x8 x9 x10 x11 x12 p).la (rowB x0 x1 x2 x3 x4 x5 x6 x7 x8 x9 x10 x11 x12 p).ha l * S := by
  rw [pay20_at]
  simp only [zn_at, t74_at, t75_at, t76_at, B_at, hX]
  exact congrArg (fun g => ropeF 112 16 (nrm _ _ g) _ _ _ l * S) (funext fun k => gq_at x4 k)

theorem tk_at (X : FVec Ideal S512x128 .f32) (k : Fin 28) (p : Fin 512) (hX : ∀ l, X (ix2 p l) = (rowB x0 x1 x2 x3 x4 x5 x6 x7 x8 x9 x10 x11 x12 p).seg k l) (l : Fin 128) :
    (tn (zn (k0_pay73 x0 x1 x2 x3 x4 x5 x6 x7 x8 x9 x10 x11 x12) X (View.ld x5 r0_11)) (k0_pay74 x0 x1 x2 x3 x4 x5 x6 x7 x8 x9 x10 x11 x12) (k0_pay75 x0 x1 x2 x3 x4 x5 x6 x7 x8 x9 x10 x11 x12) (k0_pay76 x0 x1 x2 x3 x4 x5 x6 x7 x8 x9 x10 x11 x12) (ix2 p l) : EReal)
      = ropeF 112 16 (nrm (rowB x0 x1 x2 x3 x4 x5 x6 x7 x8 x9 x10 x11 x12 p).B ((rowB x0 x1 x2 x3 x4 x5 x6 x7 x8 x9 x10 x11 x12 p).seg k) (rowB x0 x1 x2 x3 x4 x5 x6 x7 x8 x9 x10 x11 x12 p).gk) (rowB x0 x1 x2 x3 x4 x5 x6 x7 x8 x9 x10 x11 x12 p).ca (rowB x0 x1 x2 x3 x4 x5 x6 x7 x8 x9 x10 x11 x12 p).la (rowB x0 x1 x2 x3 x4 x5 x6 x7 x8 x9 x10 x11 x12 p).ha l := by
  rw [tn_at]
  simp only [zn_at, t74_at, t75_at, t76_at, B_at, hX]
  exact congrArg (fun g => ropeF 112 16 (nrm _ _ g) _ _ _ l) (funext fun k => gq_at x5 k)

theorem tb_at (X : FVec Ideal S512x128 .f32) (k : Fin 28) (p : Fin 512) (hX : ∀ l, X (ix2 p l) = (rowB x0 x1 x2 x3 x4 x5 x6 x7 x8 x9 x10 x11 x12 p).seg k l) (l : Fin 128) :
    (sb X (k0_pay77 x0 x1 x2 x3 x4 x5 x6 x7 x8 x9 x10 x11 x12) (k0_pay78 x0 x1 x2 x3 x4 x5 x6 x7 x8 x9 x10 x11 x12) (k0_pay79 x0 x1 x2 x3 x4 x5 x6 x7 x8 x9 x10 x11 x12) (ix2 p l) : EReal)
      = ropeF 96 32 ((rowB x0 x1 x2 x3 x4 x5 x6 x7 x8 x9 x10 x11 x12 p).seg k) (rowB x0 x1 x2 x3 x4 x5 x6 x7 x8 x9 x10 x11 x12 p).cb (rowB x0 x1 x2 x3 x4 x5 x6 x7 x8 x9 x10 x11 x12 p).lb (rowB x0 x1 x2 x3 x4 x5 x6 x7 x8 x9 x10 x11 x12 p).hb l * S := by
  rw [sb_at]
  simp only [t77_at, t78_at, t79_at, hX]
  rfl

/-- The columns of two heads. -/
theorem cut_at (v : FVec Ideal S512x3584 .f32) (o : ℕ) (ho : o + 128 ≤ 3584) (h : S512x3584.Slices ![0, o] S512x128) (p : Fin 512) (l : Fin 128) :
    extractStridedSlice S512x128 ![0, o] v h (ix2 p l) = v (ix2 p ⟨o + l.val, by omega⟩) := by
  pointwise

theorem seg_at (k : Fin 28) (o : ℕ) (ho : o = k.val * 128) (h : S512x3584.Slices ![0, o] S512x128) (p : Fin 512) (l : Fin 128) :
    extractStridedSlice S512x128 ![0, o] (k0_pay72 x0 x1 x2 x3 x4 x5 x6 x7 x8 x9 x10 x11 x12) h (ix2 p l) = (rowB x0 x1 x2 x3 x4 x5 x6 x7 x8 x9 x10 x11 x12 p).seg k l := by
  subst ho
  refine (cut_at _ (k.val * 128) (by omega) h p l).trans ?_
  rfl

theorem out15_at (h : Fin 8) (p : Fin 512) (j : Fin 64) :
    out0_15 x0 x1 x2 x3 x4 x5 x6 x7 x8 x9 x10 x11 x12 (ix3 h p j) = (rowB x0 x1 x2 x3 x4 x5 x6 x7 x8 x9 x10 x11 x12 p).qa h j := by
  unfold out0_15
  canon_tiles x hh
  · obtain rfl : h = 7 := Fin.ext (by simp at hh0; omega)
    obtain rfl : x = ix3 0 p j := place x p j hh1 hh2
    unfold k0_pay85
    refine (congrFun (qa7 _ _ _ _ _ _ ) _).trans ((high_at _ p j).trans ?_)
    rw [InRow.qa_of _ _ _ 3 1 rfl rfl]
    exact tq_at x0 x1 x2 x3 x4 x5 x6 x7 x8 x9 x10 x11 x12 _ _ p (seg_at x0 x1 x2 x3 x4 x5 x6 x7 x8 x9 x10 x11 x12 3 384 rfl _ p) _
  · obtain rfl : h = 6 := Fin.ext (by simp at hh0; omega)
    obtain rfl : x = ix3 0 p j := place x p j hh1 hh2
    unfold k0_pay85
    refine (congrFun (qa6 _ _ _ _ _ _ ) _).trans ((low_at _ p j).trans ?_)
    rw [InRow.qa_of _ _ _ 3 0 rfl rfl]
    exact tq_at x0 x1 x2 x3 x4 x5 x6 x7 x8 x9 x10 x11 x12 _ _ p (seg_at x0 x1 x2 x3 x4 x5 x6 x7 x8 x9 x10 x11 x12 3 384 rfl _ p) _
  · obtain rfl : h = 5 := Fin.ext (by simp at hh0; omega)
    obtain rfl : x = ix3 0 p j := place x p j hh1 hh2
    unfold k0_pay83 k0_pay84
    refine (congrFun (qa5 _ _ _ _ _ _ ) _).trans ((high_at _ p j).trans ?_)
    rw [InRow.qa_of _ _ _ 2 1 rfl rfl]
    exact tq_at x0 x1 x2 x3 x4 x5 x6 x7 x8 x9 x10 x11 x12 _ _ p (seg_at x0 x1 x2 x3 x4 x5 x6 x7 x8 x9 x10 x11 x12 2 256 rfl _ p) _
  · obtain rfl : h = 4 := Fin.ext (by simp at hh0; omega)
    obtain rfl : x = ix3 0 p j := place x p j hh1 hh2
    unfold k0_pay83 k0_pay84
    refine (congrFun (qa4 _ _ _ _ _ _ ) _).trans ((low_at _ p j).trans ?_)
    rw [InRow.qa_of _ _ _ 2 0 rfl rfl]
    exact tq_at x0 x1 x2 x3 x4 x5 x6 x7 x8 x9 x10 x11 x12 _ _ p (seg_at x0 x1 x2 x3 x4 x5 x6 x7 x8 x9 x10 x11 x12 2 256 rfl _ p) _
  · obtain rfl : h = 3 := Fin.ext (by simp at hh0; omega)
    obtain rfl : x = ix3 0 p j := place x p j hh1 hh2
    unfold k0_pay82
    refine (congrFun (qa3 _ _ _ _ _ _ ) _).trans ((high_at _ p j).trans ?_)
    rw [InRow.qa_of _ _ _ 1 1 rfl rfl]
    exact tq_at x0 x1 x2 x3 x4 x5 x6 x7 x8 x9 x10 x11 x12 _ _ p (seg_at x0 x1 x2 x3 x4 x5 x6 x7 x8 x9 x10 x11 x12 1 128 rfl _ p) _
  · obtain rfl : h = 2 := Fin.ext (by simp at hh0; omega)
    obtain rfl : x = ix3 0 p j := place x p j hh1 hh2
    unfold k0_pay82
    refine (congrFun (qa2 _ _ _ _ _ _ ) _).trans ((low_at _ p j).trans ?_)
    rw [InRow.qa_of _ _ _ 1 0 rfl rfl]
    exact tq_at x0 x1 x2 x3 x4 x5 x6 x7 x8 x9 x10 x11 x12 _ _ p (seg_at x0 x1 x2 x3 x4 x5 x6 x7 x8 x9 x10 x11 x12 1 128 rfl _ p) _
  · obtain rfl : h = 1 := Fin.ext (by simp at hh0; omega)
    obtain rfl : x = ix3 0 p j := place x p j hh1 hh2
    unfold k0_pay80 k0_pay81
    refine (congrFun (qa1 _ _ _ _ _ _ _ _ _ _ ) _).trans ((high_at _ p j).trans ?_)
    rw [InRow.qa_of _ _ _ 0 1 rfl rfl]
    exact tq_at x0 x1 x2 x3 x4 x5 x6 x7 x8 x9 x10 x11 x12 _ _ p (seg_at x0 x1 x2 x3 x4 x5 x6 x7 x8 x9 x10 x11 x12 0 0 rfl _ p) _
  · obtain rfl : h = 0 := Fin.ext (by simp at hh0; omega)
    obtain rfl : x = ix3 0 p j := place x p j hh1 hh2
    unfold k0_pay80 k0_pay81
    refine (congrFun (qa0 _ _ _ _ _ _ _ _ _ _ ) _).trans ((low_at _ p j).trans ?_)
    rw [InRow.qa_of _ _ _ 0 0 rfl rfl]
    exact tq_at x0 x1 x2 x3 x4 x5 x6 x7 x8 x9 x10 x11 x12 _ _ p (seg_at x0 x1 x2 x3 x4 x5 x6 x7 x8 x9 x10 x11 x12 0 0 rfl _ p) _

theorem out16_at (h : Fin 2) (p : Fin 512) (j : Fin 64) :
    out0_16 x0 x1 x2 x3 x4 x5 x6 x7 x8 x9 x10 x11 x12 (ix3 h p j) = (rowB x0 x1 x2 x3 x4 x5 x6 x7 x8 x9 x10 x11 x12 p).ka h j := by
  unfold out0_16
  canon_tiles x hh
  · obtain rfl : h = 1 := Fin.ext (by simp at hh0; omega)
    obtain rfl : x = ix3 0 p j := place x p j hh1 hh2
    refine (congrFun (ka1 _ _ _ _ _ _ ) _).trans ((high_at _ p j).trans ?_)
    rw [InRow.ka_of _ _ _ 4 rfl]
    exact tk_at x0 x1 x2 x3 x4 x5 x6 x7 x8 x9 x10 x11 x12 _ _ p (seg_at x0 x1 x2 x3 x4 x5 x6 x7 x8 x9 x10 x11 x12 4 512 rfl _ p) _
  · obtain rfl : h = 0 := Fin.ext (by simp at hh0; omega)
    obtain rfl : x = ix3 0 p j := place x p j hh1 hh2
    refine (congrFun (ka0 _ _ _ _ _ _ ) _).trans ((low_at _ p j).trans ?_)
    rw [InRow.ka_of _ _ _ 4 rfl]
    exact tk_at x0 x1 x2 x3 x4 x5 x6 x7 x8 x9 x10 x11 x12 _ _ p (seg_at x0 x1 x2 x3 x4 x5 x6 x7 x8 x9 x10 x11 x12 4 512 rfl _ p) _

theorem out18_at (h : Fin 8) (p : Fin 512) (j : Fin 64) :
    out0_18 x0 x1 x2 x3 x4 x5 x6 x7 x8 x9 x10 x11 x12 (ix3 h p j) = (rowB x0 x1 x2 x3 x4 x5 x6 x7 x8 x9 x10 x11 x12 p).qb h j := by
  unfold out0_18
  canon_tiles x hh
  · obtain rfl : h = 7 := Fin.ext (by simp at hh0; omega)
    obtain rfl : x = ix3 0 p j := place x p j hh1 hh2
    refine (congrFun (qb7 _ _ _ _ ) _).trans ((high_at _ p j).trans ?_)
    rw [InRow.qb_of _ _ _ 9 1 rfl rfl]
    exact tb_at x0 x1 x2 x3 x4 x5 x6 x7 x8 x9 x10 x11 x12 _ _ p (seg_at x0 x1 x2 x3 x4 x5 x6 x7 x8 x9 x10 x11 x12 9 1152 rfl _ p) _
  · obtain rfl : h = 6 := Fin.ext (by simp at hh0; omega)
    obtain rfl : x = ix3 0 p j := place x p j hh1 hh2
    refine (congrFun (qb6 _ _ _ _ ) _).trans ((low_at _ p j).trans ?_)
    rw [InRow.qb_of _ _ _ 9 0 rfl rfl]
    exact tb_at x0 x1 x2 x3 x4 x5 x6 x7 x8 x9 x10 x11 x12 _ _ p (seg_at x0 x1 x2 x3 x4 x5 x6 x7 x8 x9 x10 x11 x12 9 1152 rfl _ p) _
  · obtain rfl : h = 5 := Fin.ext (by simp at hh0; omega)
    obtain rfl : x = ix3 0 p j := place x p j hh1 hh2
    unfold k0_pay87 k0_pay88 k0_pay89
    refine (congrFun (qb5 _ _ _ _ ) _).trans ((high_at _ p j).trans ?_)
    rw [InRow.qb_of _ _ _ 8 1 rfl rfl]
    exact tb_at x0 x1 x2 x3 x4 x5 x6 x7 x8 x9 x10 x11 x12 _ _ p (seg_at x0 x1 x2 x3 x4 x5 x6 x7 x8 x9 x10 x11 x12 8 1024 rfl _ p) _
  · obtain rfl : h = 4 := Fin.ext (by simp at hh0; omega)
    obtain rfl : x = ix3 0 p j := place x p j hh1 hh2
    unfold k0_pay87 k0_pay88 k0_pay89
    refine (congrFun (qb4 _ _ _ _ ) _).trans ((low_at _ p j).trans ?_)
    rw [InRow.qb_of _ _ _ 8 0 rfl rfl]
    exact tb_at x0 x1 x2 x3 x4 x5 x6 x7 x8 x9 x10 x11 x12 _ _ p (seg_at x0 x1 x2 x3 x4 x5 x6 x7 x8 x9 x10 x11 x12 8 1024 rfl _ p) _
  · obtain rfl : h = 3 := Fin.ext (by simp at hh0; omega)
    obtain rfl : x = ix3 0 p j := place x p j hh1 hh2
    refine (congrFun (qb3 _ _ _ _ ) _).trans ((high_at _ p j).trans ?_)
    rw [InRow.qb_of _ _ _ 7 1 rfl rfl]
    exact tb_at x0 x1 x2 x3 x4 x5 x6 x7 x8 x9 x10 x11 x12 _ _ p (seg_at x0 x1 x2 x3 x4 x5 x6 x7 x8 x9 x10 x11 x12 7 896 rfl _ p) _
  · obtain rfl : h = 2 := Fin.ext (by simp at hh0; omega)
    obtain rfl : x = ix3 0 p j := place x p j hh1 hh2
    refine (congrFun (qb2 _ _ _ _ ) _).trans ((low_at _ p j).trans ?_)
    rw [InRow.qb_of _ _ _ 7 0 rfl rfl]
    exact tb_at x0 x1 x2 x3 x4 x5 x6 x7 x8 x9 x10 x11 x12 _ _ p (seg_at x0 x1 x2 x3 x4 x5 x6 x7 x8 x9 x10 x11 x12 7 896 rfl _ p) _
  · obtain rfl : h = 1 := Fin.ext (by simp at hh0; omega)
    obtain rfl : x = ix3 0 p j := place x p j hh1 hh2
    unfold k0_pay86
    refine (congrFun (qb1 _ _ _ _ ) _).trans ((high_at _ p j).trans ?_)
    rw [InRow.qb_of _ _ _ 6 1 rfl rfl]
    exact tb_at x0 x1 x2 x3 x4 x5 x6 x7 x8 x9 x10 x11 x12 _ _ p (seg_at x0 x1 x2 x3 x4 x5 x6 x7 x8 x9 x10 x11 x12 6 768 rfl _ p) _
  · obtain rfl : h = 0 := Fin.ext (by simp at hh0; omega)
    obtain rfl : x = ix3 0 p j := place x p j hh1 hh2
    unfold k0_pay86
    refine (congrFun (qb0 _ _ _ _ ) _).trans ((low_at _ p j).trans ?_)
    rw [InRow.qb_of _ _ _ 6 0 rfl rfl]
    exact tb_at x0 x1 x2 x3 x4 x5 x6 x7 x8 x9 x10 x11 x12 _ _ p (seg_at x0 x1 x2 x3 x4 x5 x6 x7 x8 x9 x10 x11 x12 6 768 rfl _ p) _

theorem kbs_at (p : Fin 512) (l : Fin 128) :
    (k0_pay61 (k0_pay77 x0 x1 x2 x3 x4 x5 x6 x7 x8 x9 x10 x11 x12) (k0_pay78 x0 x1 x2 x3 x4 x5 x6 x7 x8 x9 x10 x11 x12) (k0_pay79 x0 x1 x2 x3 x4 x5 x6 x7 x8 x9 x10 x11 x12) (k0_pay90 x0 x1 x2 x3 x4 x5 x6 x7 x8 x9 x10 x11 x12) (k0_pay91 x0 x1 x2 x3 x4 x5 x6 x7 x8 x9 x10 x11 x12) (k0_pay92 x0 x1 x2 x3 x4 x5 x6 x7 x8 x9 x10 x11 x12) (ix2 p l) : EReal)
      = ropeF 96 32 ((rowB x0 x1 x2 x3 x4 x5 x6 x7 x8 x9 x10 x11 x12 p).seg 10) (rowB x0 x1 x2 x3 x4 x5 x6 x7 x8 x9 x10 x11 x12 p).cb (rowB x0 x1 x2 x3 x4 x5 x6 x7 x8 x9 x10 x11 x12 p).lb (rowB x0 x1 x2 x3 x4 x5 x6 x7 x8 x9 x10 x11 x12 p).hb l := by
  refine (kb_at (k0_pay72 x0 x1 x2 x3 x4 x5 x6 x7 x8 x9 x10 x11 x12) (k0_pay77 x0 x1 x2 x3 x4 x5 x6 x7 x8 x9 x10 x11 x12) (k0_pay78 x0 x1 x2 x3 x4 x5 x6 x7 x8 x9 x10 x11 x12) (k0_pay79 x0 x1 x2 x3 x4 x5 x6 x7 x8 x9 x10 x11 x12) p l).trans ?_
  simp only [t77_at, t78_at, t79_at]
  rfl

theorem out19_at (h : Fin 2) (p : Fin 512) (j : Fin 64) :
    out0_19 x0 x1 x2 x3 x4 x5 x6 x7 x8 x9 x10 x11 x12 (ix3 h p j) = (rowB x0 x1 x2 x3 x4 x5 x6 x7 x8 x9 x10 x11 x12 p).kb h j := by
  unfold out0_19
  canon_tiles x hh
  · obtain rfl : h = 1 := Fin.ext (by simp at hh0; omega)
    obtain rfl : x = ix3 0 p j := place x p j hh1 hh2
    refine (show _ = k0_pay44 (k0_pay61 (k0_pay77 x0 x1 x2 x3 x4 x5 x6 x7 x8 x9 x10 x11 x12) (k0_pay78 x0 x1 x2 x3 x4 x5 x6 x7 x8 x9 x10 x11 x12) (k0_pay79 x0 x1 x2 x3 x4 x5 x6 x7 x8 x9 x10 x11 x12) (k0_pay90 x0 x1 x2 x3 x4 x5 x6 x7 x8 x9 x10 x11 x12) (k0_pay91 x0 x1 x2 x3 x4 x5 x6 x7 x8 x9 x10 x11 x12) (k0_pay92 x0 x1 x2 x3 x4 x5 x6 x7 x8 x9 x10 x11 x12)) (ix3 0 p j) from rfl).trans ((high_at _ p j).trans ?_)
    exact kbs_at x0 x1 x2 x3 x4 x5 x6 x7 x8 x9 x10 x11 x12 p _
  · obtain rfl : h = 0 := Fin.ext (by simp at hh0; omega)
    obtain rfl : x = ix3 0 p j := place x p j hh1 hh2
    refine (show _ = k0_pay43 (k0_pay61 (k0_pay77 x0 x1 x2 x3 x4 x5 x6 x7 x8 x9 x10 x11 x12) (k0_pay78 x0 x1 x2 x3 x4 x5 x6 x7 x8 x9 x10 x11 x12) (k0_pay79 x0 x1 x2 x3 x4 x5 x6 x7 x8 x9 x10 x11 x12) (k0_pay90 x0 x1 x2 x3 x4 x5 x6 x7 x8 x9 x10 x11 x12) (k0_pay91 x0 x1 x2 x3 x4 x5 x6 x7 x8 x9 x10 x11 x12) (k0_pay92 x0 x1 x2 x3 x4 x5 x6 x7 x8 x9 x10 x11 x12)) (ix3 0 p j) from rfl).trans ((low_at _ p j).trans ?_)
    exact kbs_at x0 x1 x2 x3 x4 x5 x6 x7 x8 x9 x10 x11 x12 p _

theorem out17_at (h : Fin 2) (p : Fin 512) (l : Fin 128) :
    out0_17 x0 x1 x2 x3 x4 x5 x6 x7 x8 x9 x10 x11 x12 (ix3 h p l) = (rowB x0 x1 x2 x3 x4 x5 x6 x7 x8 x9 x10 x11 x12 p).va h l := by
  unfold out0_17
  canon_tiles x hh
  · unfold InRow.va
    rw [if_neg (by simp at hh2; omega)]
    idx_vars x
    pointwise [k0_pay41]
    exact one_one.symm
  · obtain rfl : h = 1 := Fin.ext (by simp at hh0; omega)
    have hl : l.val < 64 := by simp at hh2; omega
    obtain rfl : x = ix3 0 p ⟨l.val, hl⟩ := place x p _ hh1 hh2
    refine (show _ = k0_pay44 (k0_pay37 (k0_pay72 x0 x1 x2 x3 x4 x5 x6 x7 x8 x9 x10 x11 x12)) (ix3 0 p ⟨l.val, hl⟩) from rfl).trans ((high_at _ p _).trans ?_)
    unfold InRow.va rowB
    rw [if_pos hl]
    generalize (k0_pay72 x0 x1 x2 x3 x4 x5 x6 x7 x8 x9 x10 x11 x12) = v
    pointwise [k0_pay37]
    blk_ext [lane]
  · unfold InRow.va
    rw [if_neg (by simp at hh2; omega)]
    idx_vars x
    pointwise [k0_pay39]
    exact one_one.symm
  · obtain rfl : h = 0 := Fin.ext (by simp at hh0; omega)
    have hl : l.val < 64 := by simp at hh2; omega
    obtain rfl : x = ix3 0 p ⟨l.val, hl⟩ := place x p _ hh1 hh2
    refine (show _ = k0_pay43 (k0_pay37 (k0_pay72 x0 x1 x2 x3 x4 x5 x6 x7 x8 x9 x10 x11 x12)) (ix3 0 p ⟨l.val, hl⟩) from rfl).trans ((low_at _ p _).trans ?_)
    unfold InRow.va rowB
    rw [if_pos hl]
    generalize (k0_pay72 x0 x1 x2 x3 x4 x5 x6 x7 x8 x9 x10 x11 x12) = v
    pointwise [k0_pay37]
    blk_ext [lane]

theorem out20_at (h : Fin 2) (p : Fin 512) (l : Fin 128) :
    out0_20 x0 x1 x2 x3 x4 x5 x6 x7 x8 x9 x10 x11 x12 (ix3 h p l) = (rowB x0 x1 x2 x3 x4 x5 x6 x7 x8 x9 x10 x11 x12 p).vb h l := by
  unfold out0_20
  canon_tiles x hh
  · unfold InRow.vb
    rw [if_neg (by simp at hh2; omega)]
    idx_vars x
    pointwise [k0_pay68]
    exact one_one.symm
  · obtain rfl : h = 1 := Fin.ext (by simp at hh0; omega)
    have hl : l.val < 64 := by simp at hh2; omega
    obtain rfl : x = ix3 0 p ⟨l.val, hl⟩ := place x p _ hh1 hh2
    refine (show _ = k0_pay44 (k0_pay64 (k0_pay72 x0 x1 x2 x3 x4 x5 x6 x7 x8 x9 x10 x11 x12)) (ix3 0 p ⟨l.val, hl⟩) from rfl).trans ((high_at _ p _).trans ?_)
    unfold InRow.vb rowB
    rw [if_pos hl]
    generalize (k0_pay72 x0 x1 x2 x3 x4 x5 x6 x7 x8 x9 x10 x11 x12) = v
    pointwise [k0_pay64]
    blk_ext [lane]
  · unfold InRow.vb
    rw [if_neg (by simp at hh2; omega)]
    idx_vars x
    pointwise [k0_pay66]
    exact one_one.symm
  · obtain rfl : h = 0 := Fin.ext (by simp at hh0; omega)
    have hl : l.val < 64 := by simp at hh2; omega
    obtain rfl : x = ix3 0 p ⟨l.val, hl⟩ := place x p _ hh1 hh2
    refine (show _ = k0_pay43 (k0_pay64 (k0_pay72 x0 x1 x2 x3 x4 x5 x6 x7 x8 x9 x10 x11 x12)) (ix3 0 p ⟨l.val, hl⟩) from rfl).trans ((low_at _ p _).trans ?_)
    unfold InRow.vb rowB
    rw [if_pos hl]
    generalize (k0_pay72 x0 x1 x2 x3 x4 x5 x6 x7 x8 x9 x10 x11 x12) = v
    pointwise [k0_pay64]
    blk_ext [lane]

end Cert.Kernel10Ideal.Proj
-- ==== Proof.ProjHost.lean ====
module

public import proofs.«01_k».proof.Proof.ProjRun
public import proofs.«01_k».proof.Proof.QkTables
public import Idealize.ShloMosaic.Lib.StableHlo.ReadAt

@[expose] public section

set_option maxRecDepth 16384

noncomputable section

namespace Cert.Kernel10Ideal.Proj

open Cert.Kernel10Ideal Cert.Kernel10Ideal.Gen Idealize.ShloMosaic Idealize.ShloMosaic.TcCoe Idealize.SL.Sem

/-! The blocks the first projection's grid points read, in terms of the arguments: rows, weight and gains as the host lays them out, and the tables of the two rotations. -/

open Cert.Proof.QkMath
open Idealize.ShloMosaic.Pipeline (Dat)

variable (m : (ℓ : Loc nD τ sig) → Buf (Elt Ideal) ℓ)

theorem idx : ∀ t : Fin cfg0.N, win0_0.index t = ![t.val, 0]
    ∧ win0_1.index t = ![0, 0]
    ∧ win0_2.index t = ![0, 0]
    ∧ win0_3.index t = ![0, 0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![0, t.val, 0]
    ∧ win0_16.index t = ![0, t.val, 0]
    ∧ win0_17.index t = ![0, t.val, 0]
    ∧ win0_18.index t = ![0, t.val, 0]
    ∧ win0_19.index t = ![0, t.val, 0]
    ∧ win0_20.index t = ![0, t.val, 0]
    ∧ win0_21.index t = ![t.val, 0] :=
  (by decide +kernel : ∀ t : Fin grid0.N, _)

theorem N16 (t : Fin cfg0.N) : t.val < 16 := lt_of_lt_of_eq t.isLt Gen.N_0

/-- Row `p` of the block of rows at grid point `t`, as a row of the whole array. -/
def row (t : Fin cfg0.N) (p : Fin 512) : Fin 8192 := ⟨t.val * 512 + p.val, by have := N16 t; omega⟩

/-- The argument arrays of device `c`. -/
abbrev xA (c : Dev nD) : FVec Ideal S1x8192x1024 .f32 := m ((c.tc : Thread nD τ).loc main_arg0)
abbrev mA (c : Dev nD) : FVec Ideal S1x6144 .f32 := m ((c.tc : Thread nD τ).loc main_arg1)
abbrev gA (c : Dev nD) : FVec Ideal S1x1024 .f32 := m ((c.tc : Thread nD τ).loc main_arg2)
abbrev wA (c : Dev nD) : FVec Ideal S1x1024x3584 .f32 := m ((c.tc : Thread nD τ).loc main_arg3)
abbrev gqA (c : Dev nD) : FVec Ideal S1x64 .f32 := m ((c.tc : Thread nD τ).loc main_arg4)
abbrev gkA (c : Dev nD) : FVec Ideal S1x64 .f32 := m ((c.tc : Thread nD τ).loc main_arg5)

theorem blk0 (c : Dev nD) (t : Fin cfg0.N) (p : Fin 512) (q : Fin 1024) : (iblk m c 0 t (ix2 p q) : EReal) = xA m c (ix3 0 (row t p) q) := by
  blk_simp [iblk]
  unfold V
  after_reads_at
  blk_point [idx t, row]

theorem blk1 (c : Dev nD) (t : Fin cfg0.N) (a : Fin 6) (q : Fin 1024) : (iblk m c 1 t (ix2 a q) : EReal) = mA m c (ix2 0 ⟨a.val * 1024 + q.val, by omega⟩) := by
  blk_simp [iblk]
  unfold V
  after_reads_at
  blk_point [idx t]

theorem blk2 (c : Dev nD) (t : Fin cfg0.N) (q : Fin 1024) : (iblk m c 2 t (ix2 0 q) : EReal) = gA m c (ix2 0 q) := by
  blk_simp [iblk]
  unfold V
  after_reads_at
  blk_point [idx t]

theorem blk3 (c : Dev nD) (t : Fin cfg0.N) (j : Fin 4) (k : Fin 1024) (r : Fin 896) :
    (iblk m c 3 t (ix3 j k r) : EReal) = wA m c (ix3 0 k ⟨j.val * 896 + r.val, by omega⟩) := by
  blk_simp [iblk]
  unfold V
  after_reads_at
  blk_point [idx t]

/-- The gains of two heads, the block diagonal matrix and the six tables. -/
theorem gq_arr (c : Dev nD) (l : Fin 128) : (V m c main_v6 (ix2 0 l) : EReal) = gqA m c (ix2 0 (inHead l)) := by
  unfold V
  after_reads_at
  rfl

theorem gk_arr (c : Dev nD) (l : Fin 128) : (V m c main_v9 (ix2 0 l) : EReal) = gkA m c (ix2 0 (inHead l)) := by
  unfold V
  after_reads_at
  rfl

theorem bd_arr (c : Dev nD) (k l : Fin 128) : (V m c main_v21 (ix2 k l) : EReal) = bd k l := by
  refine Eq.trans ?_ (bd_select k l)
  unfold V
  after_reads_at
  rfl

theorem ca_arr (c : Dev nD) (r : Fin 8192) (l : Fin 128) : (V m c main_v65 (ix2 r l) : EReal) = cosT tabA r l := by
  unfold V
  after_reads_at
  after_reads_at
  rfl

theorem la_arr (c : Dev nD) (r : Fin 8192) (l : Fin 128) : (V m c main_v103 (ix2 r l) : EReal) = lowT 16 tabA r l := by
  refine Eq.trans ?_ (low_select (w := 16) _ tabA r l (first32 l))
  unfold V
  after_reads_at
  after_reads_at
  refine congr (congr (congrArg _ ?_) ?_) ?_
  · rfl
  · rfl
  · simp only [id]; pointwise

theorem ha_arr (c : Dev nD) (r : Fin 8192) (l : Fin 128) : (V m c main_v104 (ix2 r l) : EReal) = highT 16 tabA r l := by
  refine Eq.trans ?_ (high_select (w := 16) _ tabA r l (first32 l))
  unfold V
  after_reads_at
  after_reads_at
  refine congr (congr (congrArg _ ?_) ?_) ?_
  · rfl
  · simp only [id]; pointwise
  · rfl

theorem cb_arr (c : Dev nD) (r : Fin 8192) (l : Fin 128) : (V m c main_v94 (ix2 r l) : EReal) = cosT tabB r l := by
  unfold V
  after_reads_at
  after_reads_at
  rfl

theorem lb_arr (c : Dev nD) (r : Fin 8192) (l : Fin 128) : (V m c main_v106 (ix2 r l) : EReal) = lowT 32 tabB r l := by
  refine Eq.trans ?_ (low_select (w := 32) _ tabB r l (first64 l))
  unfold V
  after_reads_at
  after_reads_at
  refine congr (congr (congrArg _ ?_) ?_) ?_
  · rfl
  · rfl
  · simp only [id]; pointwise

theorem hb_arr (c : Dev nD) (r : Fin 8192) (l : Fin 128) : (V m c main_v107 (ix2 r l) : EReal) = highT 32 tabB r l := by
  refine Eq.trans ?_ (high_select (w := 32) _ tabB r l (first64 l))
  unfold V
  after_reads_at
  after_reads_at
  refine congr (congr (congrArg _ ?_) ?_) ?_
  · rfl
  · simp only [id]; pointwise
  · rfl

theorem blk4 (c : Dev nD) (t : Fin cfg0.N) (l : Fin 128) : (iblk m c 4 t (ix2 0 l) : EReal) = V m c main_v6 (ix2 0 l) := by
  blk_simp [iblk]
  show (V m c main_v6 _ : EReal) = V m c main_v6 _
  refine congrArg _ ?_
  blk_ext [idx t, row]

theorem blk5 (c : Dev nD) (t : Fin cfg0.N) (l : Fin 128) : (iblk m c 5 t (ix2 0 l) : EReal) = V m c main_v9 (ix2 0 l) := by
  blk_simp [iblk]
  show (V m c main_v9 _ : EReal) = V m c main_v9 _
  refine congrArg _ ?_
  blk_ext [idx t, row]

theorem blk6 (c : Dev nD) (t : Fin cfg0.N) (k l : Fin 128) : (iblk m c 6 t (ix2 k l) : EReal) = V m c main_v21 (ix2 k l) := by
  blk_simp [iblk]
  show (V m c main_v21 _ : EReal) = V m c main_v21 _
  refine congrArg _ ?_
  blk_ext [idx t, row]

theorem blk7 (c : Dev nD) (t : Fin cfg0.N) (p : Fin 512) (l : Fin 128) : (iblk m c 7 t (ix2 p l) : EReal) = V m c main_v65 (ix2 (row t p) l) := by
  blk_simp [iblk]
  show (V m c main_v65 _ : EReal) = V m c main_v65 _
  refine congrArg _ ?_
  blk_ext [idx t, row]

theorem blk8 (c : Dev nD) (t : Fin cfg0.N) (p : Fin 512) (l : Fin 128) : (iblk m c 8 t (ix2 p l) : EReal) = V m c main_v103 (ix2 (row t p) l) := by
  blk_simp [iblk]
  show (V m c main_v103 _ : EReal) = V m c main_v103 _
  refine congrArg _ ?_
  blk_ext [idx t, row]

theorem blk9 (c : Dev nD) (t : Fin cfg0.N) (p : Fin 512) (l : Fin 128) : (iblk m c 9 t (ix2 p l) : EReal) = V m c main_v104 (ix2 (row t p) l) := by
  blk_simp [iblk]
  show (V m c main_v104 _ : EReal) = V m c main_v104 _
  refine congrArg _ ?_
  blk_ext [idx t, row]

theorem blk10 (c : Dev nD) (t : Fin cfg0.N) (p : Fin 512) (l : Fin 128) : (iblk m c 10 t (ix2 p l) : EReal) = V m c main_v94 (ix2 (row t p) l) := by
  blk_simp [iblk]
  show (V m c main_v94 _ : EReal) = V m c main_v94 _
  refine congrArg _ ?_
  blk_ext [idx t, row]

theorem blk11 (c : Dev nD) (t : Fin cfg0.N) (p : Fin 512) (l : Fin 128) : (iblk m c 11 t (ix2 p l) : EReal) = V m c main_v106 (ix2 (row t p) l) := by
  blk_simp [iblk]
  show (V m c main_v106 _ : EReal) = V m c main_v106 _
  refine congrArg _ ?_
  blk_ext [idx t, row]

theorem blk12 (c : Dev nD) (t : Fin cfg0.N) (p : Fin 512) (l : Fin 128) : (iblk m c 12 t (ix2 p l) : EReal) = V m c main_v107 (ix2 (row t p) l) := by
  blk_simp [iblk]
  show (V m c main_v107 _ : EReal) = V m c main_v107 _
  refine congrArg _ ?_
  blk_ext [idx t, row]

end Cert.Kernel10Ideal.Proj
-- ==== Proof.ProjFinal.lean ====
module

public import proofs.«01_k».proof.Proof.ProjHost

@[expose] public section

set_option maxRecDepth 16384

noncomputable section

namespace Cert.Kernel10Ideal.Proj

open Cert.Kernel10Ideal Cert.Kernel10Ideal.Gen Idealize.ShloMosaic Idealize.ShloMosaic.TcCoe Idealize.SL.Sem

/-! The nine arrays the first projection returns, as functions of its arguments. -/

open Cert.Proof.QkMath
open Cert.Proof.NormMath (O)
open Idealize.ShloMosaic.Pipeline (Dat)

section Block
variable (x0 : Vec Ideal S512x1024 .f32) (x1 : Vec Ideal S6x1024 .f32) (x2 : Vec Ideal S1x1024 .f32) (x3 : Vec Ideal S4x1024x896 .bf16) (x4 x5 : Vec Ideal S1x128 .f32)
  (x6 : Vec Ideal S128x128 .bf16) (x7 x8 x9 x10 x11 x12 : Vec Ideal S512x128 .f32)

/-- The product of a block of rows with the weight, whose four column blocks are side by side the whole `w`. -/
theorem p69_at (p : Fin 512) (k : Fin 1024) : (k0_pay69 x0 x1 x2 x3 x4 x5 x6 x7 x8 x9 x10 x11 x12 (ix2 p k) : EReal) = hB x0 x1 x2 p k := by
  refine Eq.trans ?_ (h_at x0 x1 x2 p k)
  unfold k0_pay69
  pointwise [k0_pay2]

theorem pay3_at (v0 : Vec Ideal S512x1024 .f32) (v12 v15 v21 : Vec Ideal S1x1024 .f32) (v27 : Vec Ideal S1x1024x896 .bf16) (p : Fin 512) (q : Fin 896) :
    k0_pay3 v0 v12 v15 v21 v27 (ix2 p q) = ∑ k : Fin 1024, k0_pay2 v0 v12 v15 v21 (ix2 p k) * v27 (ix3 0 k q) := by
  unfold k0_pay3
  generalize k0_pay2 v0 v12 v15 v21 = u
  pointwise

theorem pay4_at (v0 : Vec Ideal S512x1024 .f32) (v12 v15 v21 : Vec Ideal S1x1024 .f32) (v27 : Vec Ideal S1x1024x896 .bf16) (p : Fin 512) (q : Fin 896) :
    k0_pay4 v0 v12 v15 v21 v27 (ix2 p q) = ∑ k : Fin 1024, k0_pay2 v0 v12 v15 v21 (ix2 p k) * v27 (ix3 0 k q) := by
  unfold k0_pay4
  generalize k0_pay2 v0 v12 v15 v21 = u
  pointwise

theorem p70_at (p : Fin 512) (q : Fin 896) :
    k0_pay70 x0 x1 x2 x3 x4 x5 x6 x7 x8 x9 x10 x11 x12 (ix2 p q) = ∑ k : Fin 1024, k0_pay69 x0 x1 x2 x3 x4 x5 x6 x7 x8 x9 x10 x11 x12 (ix2 p k) * x3 (ix3 0 k q) := by
  refine (pay3_at _ _ _ _ _ p q).trans ?_
  refine Finset.sum_congr rfl fun k _ => congrArg (k0_pay69 x0 x1 x2 x3 x4 x5 x6 x7 x8 x9 x10 x11 x12 (ix2 p k) * ·) ?_
  pointwise

theorem p71_at (p : Fin 512) (q : Fin 896) :
    k0_pay71 x0 x1 x2 x3 x4 x5 x6 x7 x8 x9 x10 x11 x12 (ix2 p q) = ∑ k : Fin 1024, k0_pay69 x0 x1 x2 x3 x4 x5 x6 x7 x8 x9 x10 x11 x12 (ix2 p k) * x3 (ix3 1 k q) := by
  refine (pay4_at _ _ _ _ _ p q).trans ?_
  refine Finset.sum_congr rfl fun k _ => congrArg (k0_pay69 x0 x1 x2 x3 x4 x5 x6 x7 x8 x9 x10 x11 x12 (ix2 p k) * ·) ?_
  pointwise

theorem p72_at (w : Fin 1024 → Fin 3584 → EReal) (hw : ∀ (j : Fin 4) (k : Fin 1024) (r : Fin 896), x3 (ix3 j k r) = w k ⟨j.val * 896 + r.val, by omega⟩)
    (p : Fin 512) (q : Fin 3584) : k0_pay72 x0 x1 x2 x3 x4 x5 x6 x7 x8 x9 x10 x11 x12 (ix2 p q) = ∑ k : Fin 1024, hB x0 x1 x2 p k * w k q := by
  simp only [← p69_at x0 x1 x2 x3 x4 x5 x6 x7 x8 x9 x10 x11 x12]
  have h8 := p70_at x0 x1 x2 x3 x4 x5 x6 x7 x8 x9 x10 x11 x12
  have h9 := p71_at x0 x1 x2 x3 x4 x5 x6 x7 x8 x9 x10 x11 x12
  unfold k0_pay72
  generalize k0_pay70 x0 x1 x2 x3 x4 x5 x6 x7 x8 x9 x10 x11 x12 = u8 at *
  generalize k0_pay71 x0 x1 x2 x3 x4 x5 x6 x7 x8 x9 x10 x11 x12 = u9 at *
  generalize k0_pay69 x0 x1 x2 x3 x4 x5 x6 x7 x8 x9 x10 x11 x12 = u7 at *
  pointwise [k0_pay5, h8, h9, hw]
  split_ifs
  all_goals (refine Finset.sum_congr rfl fun k _ => congrArg (_ * w k ·) (Fin.ext ?_); simp; try omega)

theorem out14_at (p : Fin 512) (q : Fin 640) :
    k0_pay6 (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12) (View.ld x3 r0_6) (View.ld x3 r0_7) (ix2 p q) = (rowB x0 x1 x2 x3 x4 x5 x6 x7 x8 x9 x10 x11 x12 p).col ⟨q.val, by omega⟩ := by
  show _ = k0_pay72 x0 x1 x2 x3 x4 x5 x6 x7 x8 x9 x10 x11 x12 (ix2 p ⟨q.val, by omega⟩)
  unfold k0_pay6 k0_pay72
  generalize k0_pay5 (k0_pay69 x0 x1 x2 x3 x4 x5 x6 x7 x8 x9 x10 x11 x12) (k0_pay70 x0 x1 x2 x3 x4 x5 x6 x7 x8 x9 x10 x11 x12) (k0_pay71 x0 x1 x2 x3 x4 x5 x6 x7 x8 x9 x10 x11 x12) (View.ld x3 r0_6) (View.ld x3 r0_7) = u
  pointwise

theorem out21_at (p : Fin 512) (q : Fin 2048) : k0_pay1 (k0_pay72 x0 x1 x2 x3 x4 x5 x6 x7 x8 x9 x10 x11 x12) (ix2 p q) = (rowB x0 x1 x2 x3 x4 x5 x6 x7 x8 x9 x10 x11 x12 p).col ⟨1536 + q.val, by omega⟩ := by
  show _ = k0_pay72 x0 x1 x2 x3 x4 x5 x6 x7 x8 x9 x10 x11 x12 (ix2 p ⟨1536 + q.val, by omega⟩)
  generalize k0_pay72 x0 x1 x2 x3 x4 x5 x6 x7 x8 x9 x10 x11 x12 = u
  pointwise [k0_pay1]

/-- A block's row by its ten parts. -/
theorem row_of (p : Fin 512) (col : Fin 3584 → EReal) (B : Fin 128 → Fin 128 → EReal) (gq gk ca la ha cb lb hb : Fin 128 → EReal)
    (h0 : ∀ q, k0_pay72 x0 x1 x2 x3 x4 x5 x6 x7 x8 x9 x10 x11 x12 (ix2 p q) = col q) (h1 : ∀ k l, x6 (ix2 k l) = B k l) (h2 : ∀ l, x4 (ix2 0 l) = gq l) (h3 : ∀ l, x5 (ix2 0 l) = gk l)
    (h4 : ∀ l, x7 (ix2 p l) = ca l) (h5 : ∀ l, x8 (ix2 p l) = la l) (h6 : ∀ l, x9 (ix2 p l) = ha l) (h7 : ∀ l, x10 (ix2 p l) = cb l) (h8 : ∀ l, x11 (ix2 p l) = lb l) (h9 : ∀ l, x12 (ix2 p l) = hb l) :
    rowB x0 x1 x2 x3 x4 x5 x6 x7 x8 x9 x10 x11 x12 p = ⟨col, B, gq, gk, ca, la, ha, cb, lb, hb⟩ := by
  obtain rfl := funext h0
  obtain rfl := funext fun k => funext (h1 k)
  obtain rfl := funext h2
  obtain rfl := funext h3
  obtain rfl := funext h4
  obtain rfl := funext h5
  obtain rfl := funext h6
  obtain rfl := funext h7
  obtain rfl := funext h8
  obtain rfl := funext h9
  rfl

end Block

variable (m : (ℓ : Loc nD τ sig) → Buf (Elt Ideal) ℓ)

/-- The modulated rows, and a row of their product with what turns it. -/
def HH (c : Dev nD) (r : Fin 8192) (d : Fin 1024) : EReal :=
  xA m c (ix3 0 r d) * Cert.Proof.NormMath.rs (fun k : Fin 1024 => xA m c (ix3 0 r k)) * gA m c (ix2 0 d) * (O + mA m c (ix2 0 ⟨1024 + d.val, by omega⟩))
    + mA m c (ix2 0 ⟨d.val, by omega⟩)

def rowA (c : Dev nD) (r : Fin 8192) : InRow where
  col := fun q => ∑ k : Fin 1024, HH m c r k * wA m c (ix3 0 k q)
  B := bd
  gq := fun l => gqA m c (ix2 0 (inHead l))
  gk := fun l => gkA m c (ix2 0 (inHead l))
  ca := cosT tabA r
  la := lowT 16 tabA r
  ha := highT 16 tabA r
  cb := cosT tabB r
  lb := lowT 32 tabB r
  hb := highT 32 tabB r

theorem scale_eq (c : Dev nD) (t : Fin cfg0.N) (q : Fin 1024) : (iblk m c 1 t (ix2 1 q) : EReal) = mA m c (ix2 0 ⟨1024 + q.val, by omega⟩) :=
  (blk1 m c t 1 q).trans (congrArg (fun x => mA m c (ix2 0 x)) (Fin.ext (by show 1 * 1024 + q.val = 1024 + q.val; omega)))
theorem shift_eq (c : Dev nD) (t : Fin cfg0.N) (q : Fin 1024) : (iblk m c 1 t (ix2 0 q) : EReal) = mA m c (ix2 0 ⟨q.val, by omega⟩) :=
  (blk1 m c t 0 q).trans (congrArg (fun x => mA m c (ix2 0 x)) (Fin.ext (by show 0 * 1024 + q.val = q.val; omega)))

theorem h_cong (r g a b r' g' a' b' : EReal) (f f' : Fin 1024 → EReal) (hf : ∀ k, f k = f' k) (h1 : r = r') (h2 : g = g') (h3 : a = a') (h4 : b = b') :
    r * Cert.Proof.NormMath.rs f * g * (O + a) + b = r' * Cert.Proof.NormMath.rs f' * g' * (O + a') + b' := by
  obtain rfl : f = f' := funext hf
  subst h1 h2 h3 h4
  rfl

theorem h_eq (c : Dev nD) (t : Fin cfg0.N) (p : Fin 512) (q : Fin 1024) : hB (iblk m c 0 t) (iblk m c 1 t) (iblk m c 2 t) p q = HH m c (row t p) q :=
  h_cong _ _ _ _ _ _ _ _ _ _ (fun k => blk0 m c t p k) (blk0 m c t p q) (blk2 m c t q) (scale_eq m c t q) (shift_eq m c t q)

theorem sum_cong (f g w : Fin 1024 → EReal) (h : ∀ k, f k = g k) : ∑ k, f k * w k = ∑ k, g k * w k := by
  obtain rfl : f = g := funext h
  rfl

theorem col_eq (c : Dev nD) (t : Fin cfg0.N) (p : Fin 512) (q : Fin 3584) :
    (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q) : EReal) = ∑ k : Fin 1024, HH m c (row t p) k * wA m c (ix3 0 k q) :=
  (p72_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun k d => wA m c (ix3 0 k d)) (fun j k r => blk3 m c t j k r) p q).trans
    (sum_cong _ _ (fun k => wA m c (ix3 0 k q)) fun k => h_eq m c t p k)

theorem row_eq (c : Dev nD) (t : Fin cfg0.N) (p : Fin 512) : rowB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p = rowA m c (row t p) := by
  have h := row_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p _ _ _ _ _ _ _ _ _ _ (fun q => col_eq m c t p q)
    (fun k l => (blk6 m c t k l).trans (bd_arr m c k l)) (fun l => (blk4 m c t l).trans (gq_arr m c l)) (fun l => (blk5 m c t l).trans (gk_arr m c l))
    (fun l => (blk7 m c t p l).trans (ca_arr m c _ l)) (fun l => (blk8 m c t p l).trans (la_arr m c _ l)) (fun l => (blk9 m c t p l).trans (ha_arr m c _ l))
    (fun l => (blk10 m c t p l).trans (cb_arr m c _ l)) (fun l => (blk11 m c t p l).trans (lb_arr m c _ l)) (fun l => (blk12 m c t p l).trans (hb_arr m c _ l))
  exact h

def G13 (c : Dev nD) : S8192x1024.Idx → EReal := fun y => HH m c (y 0) (y 1)
def G14 (c : Dev nD) : S8192x640.Idx → EReal := fun y => (rowA m c (y 0)).col ⟨(y 1).val, lt_of_lt_of_le (y 1).isLt (by decide)⟩
def G15 (c : Dev nD) : S8x8192x64.Idx → EReal := fun y => (rowA m c (y 1)).qa (y 0) (y 2)
def G16 (c : Dev nD) : S2x8192x64.Idx → EReal := fun y => (rowA m c (y 1)).ka (y 0) (y 2)
def G17 (c : Dev nD) : S2x8192x128.Idx → EReal := fun y => (rowA m c (y 1)).va (y 0) (y 2)
def G18 (c : Dev nD) : S8x8192x64.Idx → EReal := fun y => (rowA m c (y 1)).qb (y 0) (y 2)
def G19 (c : Dev nD) : S2x8192x64.Idx → EReal := fun y => (rowA m c (y 1)).kb (y 0) (y 2)
def G20 (c : Dev nD) : S2x8192x128.Idx → EReal := fun y => (rowA m c (y 1)).vb (y 0) (y 2)
def G21 (c : Dev nD) : S8192x2048.Idx → EReal := fun y => (rowA m c (y 0)).col ⟨1536 + (y 1).val, Nat.add_lt_add_left (show (y 1).val < 2048 from (y 1).isLt) 1536⟩

theorem final13 (c : Dev nD) : (dats m 0 c).arrAt 13 (cfgs 0).N = G13 m c := by
  refine (dats m 0 c).arrAt_eq_of_covers 13 _ (by decide +kernel) fun t _ y => ?_
  blk_simp
  rw [after0_13]; frame_out
  idx_vars y
  refine ((h_at _ _ _ y0 y1).trans (h_eq m c t y0 y1)).trans (show G13 m c (ix2 (row t y0) y1) = _ from ?_)
  blk_ext [idx t, row]

theorem final14 (c : Dev nD) : (dats m 0 c).arrAt 14 (cfgs 0).N = G14 m c := by
  refine (dats m 0 c).arrAt_eq_of_covers 14 _ (by decide +kernel) fun t _ y => ?_
  blk_simp
  rw [after0_14]; frame_out
  idx_vars y
  refine ((out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y0 y1).trans (congrArg (fun R => InRow.col R _) (row_eq m c t y0))).trans (show G14 m c (ix2 (row t y0) y1) = _ from ?_)
  blk_ext [idx t, row]

theorem final21 (c : Dev nD) : (dats m 0 c).arrAt 21 (cfgs 0).N = G21 m c := by
  refine (dats m 0 c).arrAt_eq_of_covers 21 _ (by decide +kernel) fun t _ y => ?_
  blk_simp
  rw [after0_21]; frame_out
  idx_vars y
  refine ((out21_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y0 y1).trans (congrArg (fun R => InRow.col R _) (row_eq m c t y0))).trans (show G21 m c (ix2 (row t y0) y1) = _ from ?_)
  blk_ext [idx t, row]

theorem final15 (c : Dev nD) : (dats m 0 c).arrAt 15 (cfgs 0).N = G15 m c := by
  refine (dats m 0 c).arrAt_eq_of_covers 15 _ (by decide +kernel) fun t _ y => ?_
  blk_simp
  rw [after0_15]
  idx_vars y
  refine ((out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y0 y1 y2).trans (congrArg (fun R => InRow.qa R y0 y2) (row_eq m c t y1))).trans (show G15 m c (ix3 y0 (row t y1) y2) = _ from ?_)
  blk_ext [idx t, row]

theorem final16 (c : Dev nD) : (dats m 0 c).arrAt 16 (cfgs 0).N = G16 m c := by
  refine (dats m 0 c).arrAt_eq_of_covers 16 _ (by decide +kernel) fun t _ y => ?_
  blk_simp
  rw [after0_16]
  idx_vars y
  refine ((out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y0 y1 y2).trans (congrArg (fun R => InRow.ka R y0 y2) (row_eq m c t y1))).trans (show G16 m c (ix3 y0 (row t y1) y2) = _ from ?_)
  blk_ext [idx t, row]

theorem final17 (c : Dev nD) : (dats m 0 c).arrAt 17 (cfgs 0).N = G17 m c := by
  refine (dats m 0 c).arrAt_eq_of_covers 17 _ (by decide +kernel) fun t _ y => ?_
  blk_simp
  rw [after0_17]
  idx_vars y
  refine ((out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y0 y1 y2).trans (congrArg (fun R => InRow.va R y0 y2) (row_eq m c t y1))).trans (show G17 m c (ix3 y0 (row t y1) y2) = _ from ?_)
  blk_ext [idx t, row]

theorem final18 (c : Dev nD) : (dats m 0 c).arrAt 18 (cfgs 0).N = G18 m c := by
  refine (dats m 0 c).arrAt_eq_of_covers 18 _ (by decide +kernel) fun t _ y => ?_
  blk_simp
  rw [after0_18]
  idx_vars y
  refine ((out18_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y0 y1 y2).trans (congrArg (fun R => InRow.qb R y0 y2) (row_eq m c t y1))).trans (show G18 m c (ix3 y0 (row t y1) y2) = _ from ?_)
  blk_ext [idx t, row]

theorem final19 (c : Dev nD) : (dats m 0 c).arrAt 19 (cfgs 0).N = G19 m c := by
  refine (dats m 0 c).arrAt_eq_of_covers 19 _ (by decide +kernel) fun t _ y => ?_
  blk_simp
  rw [after0_19]
  idx_vars y
  refine ((out19_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y0 y1 y2).trans (congrArg (fun R => InRow.kb R y0 y2) (row_eq m c t y1))).trans (show G19 m c (ix3 y0 (row t y1) y2) = _ from ?_)
  blk_ext [idx t, row]

theorem final20 (c : Dev nD) : (dats m 0 c).arrAt 20 (cfgs 0).N = G20 m c := by
  refine (dats m 0 c).arrAt_eq_of_covers 20 _ (by decide +kernel) fun t _ y => ?_
  blk_simp
  rw [after0_20]
  idx_vars y
  refine ((out20_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y0 y1 y2).trans (congrArg (fun R => InRow.vb R y0 y2) (row_eq m c t y1))).trans (show G20 m c (ix3 y0 (row t y1) y2) = _ from ?_)
  blk_ext [idx t, row]

end Cert.Kernel10Ideal.Proj
-- ==== Proof.ProjRef.lean ====
module

public import proofs.«01_k».proof.Proof.ProjMath
public import proofs.«01_k».proof.Proof.Gen.Reference10Ideal.Run
public import Idealize.ShloMosaic.Lib.Pipeline.ValueKit
public import Idealize.ShloMosaic.Lib.Pointwise
public import Idealize.ShloMosaic.Lib.Tactic.CleanTypes

@[expose] public section

set_option maxRecDepth 16384

noncomputable section

/-! The reference's nine results at a place: the modulated rows, their product with the weight, and its columns head by head. -/

namespace Cert.Reference10Ideal.Proj

open Cert.Reference10Ideal Cert.Reference10Ideal.Gen Cert.Reference10Ideal.Value Idealize.ShloMosaic Idealize.ShloMosaic.TcCoe Idealize.SL.Sem Idealize.ShloMosaic.StableHlo

open Cert.Proof.QkMath

variable (V0 : Valuation τ sig (Elt Ideal))

/-- The arguments. -/
abbrev xA : FVec Ideal S1x8192x1024 .f32 := V0 (Proc.devRef .tc main_arg0)
abbrev mA : FVec Ideal S1x6144 .f32 := V0 (Proc.devRef .tc main_arg1)
abbrev gA : FVec Ideal S1x1024 .f32 := V0 (Proc.devRef .tc main_arg2)
abbrev wA : FVec Ideal S1x1024x3584 .f32 := V0 (Proc.devRef .tc main_arg3)
abbrev gqA : FVec Ideal S1x64 .f32 := V0 (Proc.devRef .tc main_arg4)
abbrev gkA : FVec Ideal S1x64 .f32 := V0 (Proc.devRef .tc main_arg5)

theorem one_at (r : Fin 8192) (j : Fin 32) : (res_main_v16 V0 (ix2 r j) : EReal) = angOne r j.val := by
  unfold res_main_v16 res_main_v0
  pointwise
  rfl
theorem rowq_at (r : Fin 8192) (j : Fin 16) : (res_main_v94 V0 (ix2 r j) : EReal) = angRow r j.val := by
  unfold res_main_v94 res_main_call0_v2 res_main_call0_v0 res_main_v0
  pointwise
  rfl
theorem colq_at (r : Fin 8192) (j : Fin 16) : (res_main_v112 V0 (ix2 r j) : EReal) = angCol r j.val := by
  unfold res_main_v112 res_main_call1_v4 res_main_call1_v2 res_main_call1_v0 res_main_v0
  pointwise
  rfl
theorem rowk_at (r : Fin 8192) (j : Fin 16) : (res_main_v185 V0 (ix2 r j) : EReal) = angRow r j.val := rowq_at V0 r j
theorem colk_at (r : Fin 8192) (j : Fin 16) : (res_main_v203 V0 (ix2 r j) : EReal) = angCol r j.val := colq_at V0 r j

theorem at64_of (z : Fin 64 → EReal) (n i : ℕ) (h : n + i < 64) : at64 z (n + i) = z ⟨n + i, h⟩ := dif_pos h

theorem c118 (r : Fin 8192) (i : Fin 16) : (res_main_v118 V0 (ix4 0 r 0 i) : EReal) = Ideal.cos (angRow r i.val) := by
  rw [← rowq_at V0]; unfold res_main_v118; generalize res_main_v94 V0 = a; pointwise
theorem c119 (r : Fin 8192) (i : Fin 16) : (res_main_v119 V0 (ix4 0 r 0 i) : EReal) = Ideal.sin (angRow r i.val) := by
  rw [← rowq_at V0]; unfold res_main_v119; generalize res_main_v94 V0 = a; pointwise
theorem c134 (r : Fin 8192) (i : Fin 16) : (res_main_v134 V0 (ix4 0 r 0 i) : EReal) = Ideal.cos (angCol r i.val) := by
  rw [← colq_at V0]; unfold res_main_v134; generalize res_main_v112 V0 = a; pointwise
theorem c135 (r : Fin 8192) (i : Fin 16) : (res_main_v135 V0 (ix4 0 r 0 i) : EReal) = Ideal.sin (angCol r i.val) := by
  rw [← colq_at V0]; unfold res_main_v135; generalize res_main_v112 V0 = a; pointwise
theorem c209 (r : Fin 8192) (i : Fin 16) : (res_main_v209 V0 (ix4 0 r 0 i) : EReal) = Ideal.cos (angRow r i.val) := c118 V0 r i
theorem c210 (r : Fin 8192) (i : Fin 16) : (res_main_v210 V0 (ix4 0 r 0 i) : EReal) = Ideal.sin (angRow r i.val) := c119 V0 r i
theorem c225 (r : Fin 8192) (i : Fin 16) : (res_main_v225 V0 (ix4 0 r 0 i) : EReal) = Ideal.cos (angCol r i.val) := c134 V0 r i
theorem c226 (r : Fin 8192) (i : Fin 16) : (res_main_v226 V0 (ix4 0 r 0 i) : EReal) = Ideal.sin (angCol r i.val) := c135 V0 r i
theorem c250 (r : Fin 8192) (i : Fin 32) : (res_main_v250 V0 (ix4 0 r 0 i) : EReal) = Ideal.cos (angOne r i.val) := by
  rw [← one_at V0]; unfold res_main_v250 res_main_v17; generalize res_main_v16 V0 = a; pointwise
theorem c251 (r : Fin 8192) (i : Fin 32) : (res_main_v251 V0 (ix4 0 r 0 i) : EReal) = Ideal.sin (angOne r i.val) := by
  rw [← one_at V0]; unfold res_main_v251 res_main_v18; generalize res_main_v16 V0 = a; pointwise
theorem c271 (r : Fin 8192) (i : Fin 32) : (res_main_v271 V0 (ix4 0 r 0 i) : EReal) = Ideal.cos (angOne r i.val) := c250 V0 r i
theorem c272 (r : Fin 8192) (i : Fin 32) : (res_main_v272 V0 (ix4 0 r 0 i) : EReal) = Ideal.sin (angOne r i.val) := c251 V0 r i

/-- The modulated rows and the product's columns. -/
def hid (r : Fin 8192) (d : Fin 1024) : EReal :=
  xA V0 (ix3 0 r d) * Cert.Proof.NormMath.rs (fun k : Fin 1024 => xA V0 (ix3 0 r k)) * gA V0 (ix2 0 d) * (Cert.Proof.NormMath.O + mA V0 (ix2 0 ⟨1024 + d.val, by omega⟩))
    + mA V0 (ix2 0 ⟨d.val, by omega⟩)
def prod (r : Fin 8192) (q : Fin 3584) : EReal := ∑ k : Fin 1024, hid V0 r k * wA V0 (ix3 0 k q)

theorem hid_at (r : Fin 8192) (d : Fin 1024) : (res_main_v46 V0 (ix3 0 r d) : EReal) = hid V0 r d := by
  unfold res_main_v46
  pointwise [hid, Cert.Proof.NormMath.rs, Cert.Proof.NormMath.msq, Cert.Proof.NormMath.W, Cert.Proof.NormMath.E, Cert.Proof.NormMath.O]

theorem prod_at (r : Fin 8192) (q : Fin 3584) : (res_main_v48 V0 (ix3 0 r q) : EReal) = prod V0 r q := by
  unfold prod
  simp only [← hid_at]
  unfold res_main_v48
  generalize res_main_v46 V0 = h
  pointwise

/-- The heads before the turn. -/
def zq (r : Fin 8192) (h : Fin 8) : Fin 64 → EReal := nrm1 (fun j => prod V0 r ⟨h.val * 64 + j.val, by omega⟩) fun j => gqA V0 (ix2 0 j)
def zk (r : Fin 8192) (h : Fin 2) : Fin 64 → EReal := nrm1 (fun j => prod V0 r ⟨512 + h.val * 64 + j.val, by omega⟩) fun j => gkA V0 (ix2 0 j)
def zqb (r : Fin 8192) (h : Fin 8) (j : Fin 64) : EReal := prod V0 r ⟨768 + h.val * 64 + j.val, by omega⟩
def zkb (r : Fin 8192) (h : Fin 2) (j : Fin 64) : EReal := prod V0 r ⟨1280 + h.val * 64 + j.val, by omega⟩

theorem raw_q (r : Fin 8192) (h : Fin 8) (j : Fin 64) : (res_main_v62 V0 (ix4 0 r h j) : EReal) = prod V0 r ⟨h.val * 64 + j.val, by omega⟩ := by
  rw [← prod_at]
  unfold res_main_v62 res_main_v49
  generalize res_main_v48 V0 = a
  pointwise
theorem raw_k (r : Fin 8192) (h : Fin 2) (j : Fin 64) : (res_main_v153 V0 (ix4 0 r h j) : EReal) = prod V0 r ⟨512 + h.val * 64 + j.val, by omega⟩ := by
  rw [← prod_at]
  unfold res_main_v153 res_main_v50
  generalize res_main_v48 V0 = a
  pointwise
  blk_ext
theorem raw_qb (r : Fin 8192) (h : Fin 8) (j : Fin 64) : (res_main_v247 V0 (ix4 0 r h j) : EReal) = zqb V0 r h j := by
  unfold zqb
  rw [← prod_at]
  unfold res_main_v247
  generalize res_main_v48 V0 = a
  pointwise
  blk_ext
theorem raw_kb (r : Fin 8192) (h : Fin 2) (j : Fin 64) : (res_main_v268 V0 (ix4 0 r h j) : EReal) = zkb V0 r h j := by
  unfold zkb
  rw [← prod_at]
  unfold res_main_v268
  generalize res_main_v48 V0 = a
  pointwise
  blk_ext

theorem z_q (r : Fin 8192) (h : Fin 8) (j : Fin 64) : (res_main_v76 V0 (ix4 0 r h j) : EReal) = zq V0 r h j := by
  unfold zq nrm1 rs msq W Cert.Proof.NormMath.E
  simp only [← raw_q]
  unfold res_main_v76
  generalize res_main_v62 V0 = a
  pointwise
theorem z_k (r : Fin 8192) (h : Fin 2) (j : Fin 64) : (res_main_v167 V0 (ix4 0 r h j) : EReal) = zk V0 r h j := by
  unfold zk nrm1 rs msq W Cert.Proof.NormMath.E
  simp only [← raw_k]
  unfold res_main_v167
  generalize res_main_v153 V0 = a
  pointwise

theorem z116 (r : Fin 8192) (h : Fin 8) (i : Fin 16) : (res_main_v116 V0 (ix4 0 r h i) : EReal) = at64 (zq V0 r h) (0 + i.val) := by
  rw [at64_of _ _ _ (by omega)]; rw [← z_q]; unfold res_main_v116 res_main_v115; generalize res_main_v76 V0 = a; pointwise
theorem z117 (r : Fin 8192) (h : Fin 8) (i : Fin 16) : (res_main_v117 V0 (ix4 0 r h i) : EReal) = at64 (zq V0 r h) (16 + i.val) := by
  rw [at64_of _ _ _ (by omega)]; rw [← z_q]; unfold res_main_v117 res_main_v115; generalize res_main_v76 V0 = a; pointwise
theorem z132 (r : Fin 8192) (h : Fin 8) (i : Fin 16) : (res_main_v132 V0 (ix4 0 r h i) : EReal) = at64 (zq V0 r h) (32 + i.val) := by
  rw [at64_of _ _ _ (by omega)]; rw [← z_q]; unfold res_main_v132 res_main_v131; generalize res_main_v76 V0 = a; pointwise
theorem z133 (r : Fin 8192) (h : Fin 8) (i : Fin 16) : (res_main_v133 V0 (ix4 0 r h i) : EReal) = at64 (zq V0 r h) (48 + i.val) := by
  rw [show 48 + i.val = 32 + (16 + i.val) by omega, at64_of _ _ _ (by omega)]; rw [← z_q]; unfold res_main_v133 res_main_v131; generalize res_main_v76 V0 = a; pointwise
theorem z207 (r : Fin 8192) (h : Fin 2) (i : Fin 16) : (res_main_v207 V0 (ix4 0 r h i) : EReal) = at64 (zk V0 r h) (0 + i.val) := by
  rw [at64_of _ _ _ (by omega)]; rw [← z_k]; unfold res_main_v207 res_main_v206; generalize res_main_v167 V0 = a; pointwise
theorem z208 (r : Fin 8192) (h : Fin 2) (i : Fin 16) : (res_main_v208 V0 (ix4 0 r h i) : EReal) = at64 (zk V0 r h) (16 + i.val) := by
  rw [at64_of _ _ _ (by omega)]; rw [← z_k]; unfold res_main_v208 res_main_v206; generalize res_main_v167 V0 = a; pointwise
theorem z223 (r : Fin 8192) (h : Fin 2) (i : Fin 16) : (res_main_v223 V0 (ix4 0 r h i) : EReal) = at64 (zk V0 r h) (32 + i.val) := by
  rw [at64_of _ _ _ (by omega)]; rw [← z_k]; unfold res_main_v223 res_main_v222; generalize res_main_v167 V0 = a; pointwise
theorem z224 (r : Fin 8192) (h : Fin 2) (i : Fin 16) : (res_main_v224 V0 (ix4 0 r h i) : EReal) = at64 (zk V0 r h) (48 + i.val) := by
  rw [show 48 + i.val = 32 + (16 + i.val) by omega, at64_of _ _ _ (by omega)]; rw [← z_k]; unfold res_main_v224 res_main_v222; generalize res_main_v167 V0 = a; pointwise
theorem z248 (r : Fin 8192) (h : Fin 8) (i : Fin 32) : (res_main_v248 V0 (ix4 0 r h i) : EReal) = at64 (zqb V0 r h) (0 + i.val) := by
  rw [at64_of _ _ _ (by omega)]; rw [← raw_qb]; unfold res_main_v248; generalize res_main_v247 V0 = a; pointwise
theorem z249 (r : Fin 8192) (h : Fin 8) (i : Fin 32) : (res_main_v249 V0 (ix4 0 r h i) : EReal) = at64 (zqb V0 r h) (32 + i.val) := by
  rw [at64_of _ _ _ (by omega)]; rw [← raw_qb]; unfold res_main_v249; generalize res_main_v247 V0 = a; pointwise
theorem z269 (r : Fin 8192) (h : Fin 2) (i : Fin 32) : (res_main_v269 V0 (ix4 0 r h i) : EReal) = at64 (zkb V0 r h) (0 + i.val) := by
  rw [at64_of _ _ _ (by omega)]; rw [← raw_kb]; unfold res_main_v269; generalize res_main_v268 V0 = a; pointwise
theorem z270 (r : Fin 8192) (h : Fin 2) (i : Fin 32) : (res_main_v270 V0 (ix4 0 r h i) : EReal) = at64 (zkb V0 r h) (32 + i.val) := by
  rw [at64_of _ _ _ (by omega)]; rw [← raw_kb]; unfold res_main_v270; generalize res_main_v268 V0 = a; pointwise

/-- The nine results. -/
def resQa : FVec Ideal S8x8192x64 .bf16 := truncf .bf16 (transpose S8x8192x64 [1, 0, 2] (shapeCast _ (mulf (concatenate S1x8192x8x64 3 [⟨S1x8192x8x32, (concatenate S1x8192x8x32 3 [⟨S1x8192x8x16, (subf (mulf (res_main_v116 V0) (broadcastInDim S1x8192x8x16 ![0, 1, 2, 3] bcast_S1x8192x1x16_S1x8192x8x16_0_1_2_3 (res_main_v118 V0))) (mulf (res_main_v117 V0) (broadcastInDim S1x8192x8x16 ![0, 1, 2, 3] bcast_S1x8192x1x16_S1x8192x8x16_0_1_2_3 (res_main_v119 V0))))⟩, ⟨S1x8192x8x16, (addf (mulf (res_main_v116 V0) (broadcastInDim S1x8192x8x16 ![0, 1, 2, 3] bcast_S1x8192x1x16_S1x8192x8x16_0_1_2_3 (res_main_v119 V0))) (mulf (res_main_v117 V0) (broadcastInDim S1x8192x8x16 ![0, 1, 2, 3] bcast_S1x8192x1x16_S1x8192x8x16_0_1_2_3 (res_main_v118 V0))))⟩] concatenates_S1x8192x8x16_S1x8192x8x16_S1x8192x8x32_d3)⟩, ⟨S1x8192x8x32, (concatenate S1x8192x8x32 3 [⟨S1x8192x8x16, (subf (mulf (res_main_v132 V0) (broadcastInDim S1x8192x8x16 ![0, 1, 2, 3] bcast_S1x8192x1x16_S1x8192x8x16_0_1_2_3 (res_main_v134 V0))) (mulf (res_main_v133 V0) (broadcastInDim S1x8192x8x16 ![0, 1, 2, 3] bcast_S1x8192x1x16_S1x8192x8x16_0_1_2_3 (res_main_v135 V0))))⟩, ⟨S1x8192x8x16, (addf (mulf (res_main_v132 V0) (broadcastInDim S1x8192x8x16 ![0, 1, 2, 3] bcast_S1x8192x1x16_S1x8192x8x16_0_1_2_3 (res_main_v135 V0))) (mulf (res_main_v133 V0) (broadcastInDim S1x8192x8x16 ![0, 1, 2, 3] bcast_S1x8192x1x16_S1x8192x8x16_0_1_2_3 (res_main_v134 V0))))⟩] concatenates_S1x8192x8x16_S1x8192x8x16_S1x8192x8x32_d3)⟩] concatenates_S1x8192x8x32_S1x8192x8x32_S1x8192x8x64_d3) (broadcastInDim S1x8192x8x64 ![] bcast_S_S1x8192x8x64 (constant S_ .f32 0x3E000000#32))) shapeCasts_S1x8192x8x64_S8192x8x64) transposes_S8192x8x64_S8x8192x64_1_0_2) bitsLt_bf16_f32
def resKa : FVec Ideal S2x8192x64 .bf16 := truncf .bf16 (transpose S2x8192x64 [1, 0, 2] (shapeCast _ (concatenate S1x8192x2x64 3 [⟨S1x8192x2x32, (concatenate S1x8192x2x32 3 [⟨S1x8192x2x16, (subf (mulf (res_main_v207 V0) (broadcastInDim S1x8192x2x16 ![0, 1, 2, 3] bcast_S1x8192x1x16_S1x8192x2x16_0_1_2_3 (res_main_v209 V0))) (mulf (res_main_v208 V0) (broadcastInDim S1x8192x2x16 ![0, 1, 2, 3] bcast_S1x8192x1x16_S1x8192x2x16_0_1_2_3 (res_main_v210 V0))))⟩, ⟨S1x8192x2x16, (addf (mulf (res_main_v207 V0) (broadcastInDim S1x8192x2x16 ![0, 1, 2, 3] bcast_S1x8192x1x16_S1x8192x2x16_0_1_2_3 (res_main_v210 V0))) (mulf (res_main_v208 V0) (broadcastInDim S1x8192x2x16 ![0, 1, 2, 3] bcast_S1x8192x1x16_S1x8192x2x16_0_1_2_3 (res_main_v209 V0))))⟩] concatenates_S1x8192x2x16_S1x8192x2x16_S1x8192x2x32_d3)⟩, ⟨S1x8192x2x32, (concatenate S1x8192x2x32 3 [⟨S1x8192x2x16, (subf (mulf (res_main_v223 V0) (broadcastInDim S1x8192x2x16 ![0, 1, 2, 3] bcast_S1x8192x1x16_S1x8192x2x16_0_1_2_3 (res_main_v225 V0))) (mulf (res_main_v224 V0) (broadcastInDim S1x8192x2x16 ![0, 1, 2, 3] bcast_S1x8192x1x16_S1x8192x2x16_0_1_2_3 (res_main_v226 V0))))⟩, ⟨S1x8192x2x16, (addf (mulf (res_main_v223 V0) (broadcastInDim S1x8192x2x16 ![0, 1, 2, 3] bcast_S1x8192x1x16_S1x8192x2x16_0_1_2_3 (res_main_v226 V0))) (mulf (res_main_v224 V0) (broadcastInDim S1x8192x2x16 ![0, 1, 2, 3] bcast_S1x8192x1x16_S1x8192x2x16_0_1_2_3 (res_main_v225 V0))))⟩] concatenates_S1x8192x2x16_S1x8192x2x16_S1x8192x2x32_d3)⟩] concatenates_S1x8192x2x32_S1x8192x2x32_S1x8192x2x64_d3) shapeCasts_S1x8192x2x64_S8192x2x64) transposes_S8192x2x64_S2x8192x64_1_0_2) bitsLt_bf16_f32
def resVa : FVec Ideal S2x8192x128 .bf16 := truncf .bf16 (transpose S2x8192x128 [1, 0, 2] (shapeCast _ (concatenate S1x8192x2x128 3 [⟨S1x8192x2x64, (shapeCast _ (extractStridedSlice S1x8192x128 ![0, 0, 640] (res_main_v48 V0) slices_S1x8192x3584_S1x8192x128_0_0_640) shapeCasts_S1x8192x128_S1x8192x2x64)⟩, ⟨S1x8192x2x64, (res_main_v56 V0)⟩] concatenates_S1x8192x2x64_S1x8192x2x64_S1x8192x2x128_d3) shapeCasts_S1x8192x2x128_S8192x2x128) transposes_S8192x2x128_S2x8192x128_1_0_2) bitsLt_bf16_f32
def resQb : FVec Ideal S8x8192x64 .bf16 := truncf .bf16 (transpose S8x8192x64 [1, 0, 2] (shapeCast _ (mulf (concatenate S1x8192x8x64 3 [⟨S1x8192x8x32, (subf (mulf (res_main_v248 V0) (broadcastInDim S1x8192x8x32 ![0, 1, 2, 3] bcast_S1x8192x1x32_S1x8192x8x32_0_1_2_3 (res_main_v250 V0))) (mulf (res_main_v249 V0) (broadcastInDim S1x8192x8x32 ![0, 1, 2, 3] bcast_S1x8192x1x32_S1x8192x8x32_0_1_2_3 (res_main_v251 V0))))⟩, ⟨S1x8192x8x32, (addf (mulf (res_main_v248 V0) (broadcastInDim S1x8192x8x32 ![0, 1, 2, 3] bcast_S1x8192x1x32_S1x8192x8x32_0_1_2_3 (res_main_v251 V0))) (mulf (res_main_v249 V0) (broadcastInDim S1x8192x8x32 ![0, 1, 2, 3] bcast_S1x8192x1x32_S1x8192x8x32_0_1_2_3 (res_main_v250 V0))))⟩] concatenates_S1x8192x8x32_S1x8192x8x32_S1x8192x8x64_d3) (broadcastInDim S1x8192x8x64 ![] bcast_S_S1x8192x8x64 (constant S_ .f32 0x3E000000#32))) shapeCasts_S1x8192x8x64_S8192x8x64) transposes_S8192x8x64_S8x8192x64_1_0_2) bitsLt_bf16_f32
def resKb : FVec Ideal S2x8192x64 .bf16 := truncf .bf16 (transpose S2x8192x64 [1, 0, 2] (shapeCast _ (concatenate S1x8192x2x64 3 [⟨S1x8192x2x32, (subf (mulf (res_main_v269 V0) (broadcastInDim S1x8192x2x32 ![0, 1, 2, 3] bcast_S1x8192x1x32_S1x8192x2x32_0_1_2_3 (res_main_v271 V0))) (mulf (res_main_v270 V0) (broadcastInDim S1x8192x2x32 ![0, 1, 2, 3] bcast_S1x8192x1x32_S1x8192x2x32_0_1_2_3 (res_main_v272 V0))))⟩, ⟨S1x8192x2x32, (addf (mulf (res_main_v269 V0) (broadcastInDim S1x8192x2x32 ![0, 1, 2, 3] bcast_S1x8192x1x32_S1x8192x2x32_0_1_2_3 (res_main_v272 V0))) (mulf (res_main_v270 V0) (broadcastInDim S1x8192x2x32 ![0, 1, 2, 3] bcast_S1x8192x1x32_S1x8192x2x32_0_1_2_3 (res_main_v271 V0))))⟩] concatenates_S1x8192x2x32_S1x8192x2x32_S1x8192x2x64_d3) shapeCasts_S1x8192x2x64_S8192x2x64) transposes_S8192x2x64_S2x8192x64_1_0_2) bitsLt_bf16_f32
def resVb : FVec Ideal S2x8192x128 .bf16 := truncf .bf16 (transpose S2x8192x128 [1, 0, 2] (shapeCast _ (concatenate S1x8192x2x128 3 [⟨S1x8192x2x64, (shapeCast _ (extractStridedSlice S1x8192x128 ![0, 0, 1408] (res_main_v48 V0) slices_S1x8192x3584_S1x8192x128_0_0_1408) shapeCasts_S1x8192x128_S1x8192x2x64)⟩, ⟨S1x8192x2x64, (res_main_v56 V0)⟩] concatenates_S1x8192x2x64_S1x8192x2x64_S1x8192x2x128_d3) shapeCasts_S1x8192x2x128_S8192x2x128) transposes_S8192x2x128_S2x8192x128_1_0_2) bitsLt_bf16_f32
def resG : FVec Ideal S8192x2048 .bf16 := truncf .bf16 (shapeCast _ (extractStridedSlice S1x8192x2048 ![0, 0, 1536] (res_main_v48 V0) slices_S1x8192x3584_S1x8192x2048_0_0_1536) shapeCasts_S1x8192x2048_S8192x2048) bitsLt_bf16_f32
def resH : FVec Ideal S8192x1024 .bf16 := truncf .bf16 (shapeCast _ (res_main_v46 V0) shapeCasts_S1x8192x1024_S8192x1024) bitsLt_bf16_f32
def resRaw : FVec Ideal S8192x640 .f32 := concatenate S8192x640 1 [⟨S8192x512, (shapeCast _ (res_main_v49 V0) shapeCasts_S1x8192x512_S8192x512)⟩, ⟨S8192x128, (shapeCast _ (res_main_v50 V0) shapeCasts_S1x8192x128_S8192x128)⟩] concatenates_S8192x512_S8192x128_S8192x640_d1

theorem resH_at (r : Fin 8192) (d : Fin 1024) : (resH V0 (ix2 r d) : EReal) = hid V0 r d := by
  rw [← hid_at]
  unfold resH
  generalize res_main_v46 V0 = a
  pointwise

theorem resRaw_at (r : Fin 8192) (q : Fin 640) : (resRaw V0 (ix2 r q) : EReal) = prod V0 r ⟨q.val, by omega⟩ := by
  rw [← prod_at]
  unfold resRaw res_main_v49 res_main_v50
  generalize res_main_v48 V0 = a
  pointwise
  split_ifs
  all_goals blk_ext

theorem resG_at (r : Fin 8192) (q : Fin 2048) : (resG V0 (ix2 r q) : EReal) = prod V0 r ⟨1536 + q.val, by omega⟩ := by
  rw [← prod_at]
  unfold resG
  generalize res_main_v48 V0 = a
  pointwise

theorem resQa_at (h : Fin 8) (r : Fin 8192) (j : Fin 64) :
    (resQa V0 (ix3 h r j) : EReal) = turn 16 (zq V0 r h) (tabA Ideal.cos r) (tabA Ideal.sin r) j * S := by
  rw [← four_cat]
  unfold resQa S
  clean_types
  pointwise
  simp only [z116, z117, z132, z133, c118, c119, c134, c135, Nat.zero_add]

theorem resKa_at (h : Fin 2) (r : Fin 8192) (j : Fin 64) :
    (resKa V0 (ix3 h r j) : EReal) = turn 16 (zk V0 r h) (tabA Ideal.cos r) (tabA Ideal.sin r) j := by
  rw [← four_cat]
  unfold resKa
  clean_types
  pointwise
  simp only [z207, z208, z223, z224, c209, c210, c225, c226, Nat.zero_add]

theorem resQb_at (h : Fin 8) (r : Fin 8192) (j : Fin 64) :
    (resQb V0 (ix3 h r j) : EReal) = turn 32 (zqb V0 r h) (tabB Ideal.cos r) (tabB Ideal.sin r) j * S := by
  rw [← two_cat]
  unfold resQb S
  clean_types
  pointwise
  simp only [z248, z249, c250, c251, Nat.zero_add]

theorem resKb_at (h : Fin 2) (r : Fin 8192) (j : Fin 64) :
    (resKb V0 (ix3 h r j) : EReal) = turn 32 (zkb V0 r h) (tabB Ideal.cos r) (tabB Ideal.sin r) j := by
  rw [← two_cat]
  unfold resKb
  clean_types
  pointwise
  simp only [z269, z270, c271, c272, Nat.zero_add]

/-- A bfloat one and a float one are the same number. -/
theorem one_bits : Ideal.ofBits .f32 0x3F800000#32 = one := O_one.trans one_one.symm

theorem resVa_at (h : Fin 2) (r : Fin 8192) (l : Fin 128) :
    (resVa V0 (ix3 h r l) : EReal) = if l.val < 64 then prod V0 r ⟨640 + h.val * 64 + l.val % 64, by omega⟩ else one := by
  rw [← prod_at, ← one_bits]
  unfold resVa res_main_v56
  clean_types
  generalize res_main_v48 V0 = a
  pointwise
  split_ifs with h1
  · blk_ext
  · rfl

theorem resVb_at (h : Fin 2) (r : Fin 8192) (l : Fin 128) :
    (resVb V0 (ix3 h r l) : EReal) = if l.val < 64 then prod V0 r ⟨1408 + h.val * 64 + l.val % 64, by omega⟩ else one := by
  rw [← prod_at, ← one_bits]
  unfold resVb res_main_v56
  clean_types
  generalize res_main_v48 V0 = a
  pointwise
  split_ifs with h1
  · blk_ext
  · rfl

end Cert.Reference10Ideal.Proj
-- ==== Proof.ProjClaim.lean ====
module

public import proofs.«01_k».proof.Defs
public import proofs.«01_k».proof.Proof.Finite
public import proofs.«01_k».proof.Proof.ProjFinal
public import proofs.«01_k».proof.Proof.ProjRef
public import proofs.«01_k».proof.Proof.Gen.Pre_finite_inproj
public import Idealize.ShloMosaic.Lib.Claim

@[expose] public section

set_option maxRecDepth 16384

noncomputable section

/-! The first projection, with its norms and rotations, computes at finite arguments what the forward lines compute. -/

namespace Cert.Proof.Proj

open Idealize.ShloMosaic Idealize.ShloMosaic.TcCoe Idealize.SL.Sem Cert.Kernel10Ideal Cert.Kernel10Ideal.Proj Cert.Proof.Finite Cert.Proof.QkMath

variable (m : (ℓ : Loc nD τ sig) → Buf (Elt Ideal) ℓ) (c : Dev nD)
variable (V0 : Valuation Cert.Reference10Ideal.τ Cert.Reference10Ideal.sig (Elt Ideal))

/-- The two programs have the same arguments. -/
structure Same : Prop where
  x : Cert.Reference10Ideal.Proj.xA V0 = xA m c
  md : Cert.Reference10Ideal.Proj.mA V0 = mA m c
  g : Cert.Reference10Ideal.Proj.gA V0 = gA m c
  w : Cert.Reference10Ideal.Proj.wA V0 = wA m c
  gq : Cert.Reference10Ideal.Proj.gqA V0 = gqA m c
  gk : Cert.Reference10Ideal.Proj.gkA V0 = gkA m c

variable (r : Fin 8192)

/-- Two heads' columns, a head at a time, and the gains. -/
theorem seg_lane (k : Fin 28) (g : Fin 2) (j : Fin 64) (q : Fin 3584) (hq : q.val = k.val * 128 + g.val * 64 + j.val) :
    (rowA m c r).seg k (lane g j) = (rowA m c r).col q :=
  congrArg (rowA m c r).col (Fin.ext (by show k.val * 128 + (g.val * 64 + j.val) = q.val; omega))

theorem gq_lane (h : Fin 2) (j : Fin 64) : (rowA m c r).gq (lane h j) = gqA m c (ix2 0 j) := congrArg (fun x => gqA m c (ix2 0 x)) (inHead_lane h j)
theorem gk_lane (h : Fin 2) (j : Fin 64) : (rowA m c r).gk (lane h j) = gkA m c (ix2 0 j) := congrArg (fun x => gkA m c (ix2 0 x)) (inHead_lane h j)

/-- The rotations. -/
theorem turned (w n : ℕ) (hw : w = 16 ∧ n = 112 ∨ w = 32 ∧ n = 96) (z : Fin 128 → EReal) (t : (EReal → EReal) → Fin 8192 → Fin 64 → EReal) (h : Fin 2) (j : Fin 64) :
    ropeF n w z (cosT t r) (lowT w t r) (highT w t r) (lane h j) = turn w (fun i => z (lane h i)) (t Ideal.cos r) (t Ideal.sin r) j :=
  turn_eq w n hw z _ _ _ _ _ (fun h j => by unfold cosT; rw [inHead_lane]) (fun h j => by unfold lowT; rw [inHead_lane]) (fun h j => by unfold highT; rw [inHead_lane]) h j

section Finite

variable (h : Cert.Pre_Kernel10Ideal_finite_inproj (hPre_finite_inproj := Cert.Pre_finite_inproj.Gen.facts) m)

include h in
theorem fin_x (i : S1x8192x1024.Idx) : Re (xA m c i) := re_of_lt (xA m c) _ (fun _ => rfl) (h c).1 _
include h in
theorem fin_m (i : S1x6144.Idx) : Re (mA m c i) := re_of_lt (mA m c) _ (fun _ => rfl) (h c).2.1 _
include h in
theorem fin_g (i : S1x1024.Idx) : Re (gA m c i) := re_of_lt (gA m c) _ (fun _ => rfl) (h c).2.2.1 _
include h in
theorem fin_w (i : S1x1024x3584.Idx) : Re (wA m c i) := re_of_lt (wA m c) _ (fun _ => rfl) (h c).2.2.2 _

include h in
theorem hid_re (d : Fin 1024) : Re (HH m c r d) :=
  ((((fin_x m c h _).mul (NormMath.rs_re _ fun _ => fin_x m c h _)).mul (fin_g m c h _)).mul (NormMath.O_re.add (fin_m m c h _))).add (fin_m m c h _)

include h in
theorem col_re (q : Fin 3584) : Re ((rowA m c r).col q) := by
  show Re (∑ k : Fin 1024, HH m c r k * wA m c (ix3 0 k q))
  exact Re.sum _ _ fun k => (hid_re m c r h k).mul (fin_w m c h _)

variable (e : Same m c V0)

include e in
theorem hid_eq (d : Fin 1024) : Cert.Reference10Ideal.Proj.hid V0 r d = HH m c r d := by
  unfold Cert.Reference10Ideal.Proj.hid HH
  rw [e.x, e.md, e.g]

include e in
theorem col_eq (q : Fin 3584) : Cert.Reference10Ideal.Proj.prod V0 r q = (rowA m c r).col q := by
  unfold Cert.Reference10Ideal.Proj.prod
  refine (Finset.sum_congr rfl fun k _ => ?_ : _ = ∑ k : Fin 1024, HH m c r k * wA m c (ix3 0 k q))
  rw [hid_eq m c V0 r e, e.w]

include e h in
theorem zq_eq (k : Fin 28) (g : Fin 2) (i : Fin 8) (hi : i.val = k.val * 2 + g.val) :
    (fun j => nrm bd ((rowA m c r).seg k) (rowA m c r).gq (lane g j)) = Cert.Reference10Ideal.Proj.zq V0 r i := by
  rw [nrm_eq ((rowA m c r).seg k) (rowA m c r).gq g (fun l => col_re m c r h _)]
  unfold Cert.Reference10Ideal.Proj.zq
  refine congrArg₂ nrm1 (funext fun j => ?_) (funext fun j => ?_)
  · rw [col_eq m c V0 r e]
    exact seg_lane m c r k g j _ (by show i.val * 64 + j.val = _; omega)
  · rw [gq_lane, e.gq]

include e h in
theorem zk_eq (g : Fin 2) :
    (fun j => nrm bd ((rowA m c r).seg 4) (rowA m c r).gk (lane g j)) = Cert.Reference10Ideal.Proj.zk V0 r g := by
  rw [nrm_eq ((rowA m c r).seg 4) (rowA m c r).gk g (fun l => col_re m c r h _)]
  unfold Cert.Reference10Ideal.Proj.zk
  refine congrArg₂ nrm1 (funext fun j => ?_) (funext fun j => ?_)
  · rw [col_eq m c V0 r e]
    exact seg_lane m c r 4 g j _ (by show 512 + g.val * 64 + j.val = 4 * 128 + g.val * 64 + j.val; omega)
  · rw [gk_lane, e.gk]

include e in
theorem zqb_eq (k : Fin 28) (g : Fin 2) (i : Fin 8) (hi : 12 + i.val = k.val * 2 + g.val) :
    (fun j => (rowA m c r).seg k (lane g j)) = Cert.Reference10Ideal.Proj.zqb V0 r i := by
  funext j
  unfold Cert.Reference10Ideal.Proj.zqb
  rw [col_eq m c V0 r e]
  exact seg_lane m c r k g j _ (by show 768 + i.val * 64 + j.val = _; omega)

include e in
theorem zkb_eq (g : Fin 2) : (fun j => (rowA m c r).seg 10 (lane g j)) = Cert.Reference10Ideal.Proj.zkb V0 r g := by
  funext j
  unfold Cert.Reference10Ideal.Proj.zkb
  rw [col_eq m c V0 r e]
  exact seg_lane m c r 10 g j _ (by show 1280 + g.val * 64 + j.val = 10 * 128 + g.val * 64 + j.val; omega)

/-! The nine results. -/

include e in
theorem ref13 : Cert.Reference10Ideal.Proj.resH V0 = G13 m c := by
  funext y; idx_vars y
  exact (Cert.Reference10Ideal.Proj.resH_at V0 y0 y1).trans (hid_eq m c V0 y0 e y1)

include e in
theorem ref14 : Cert.Reference10Ideal.Proj.resRaw V0 = G14 m c := by
  funext y; idx_vars y
  exact (Cert.Reference10Ideal.Proj.resRaw_at V0 y0 y1).trans (col_eq m c V0 y0 e _)

include e h in
theorem ref15 : Cert.Reference10Ideal.Proj.resQa V0 = G15 m c := by
  funext y; idx_vars y
  refine (Cert.Reference10Ideal.Proj.resQa_at V0 y0 y1 y2).trans (Eq.symm ?_)
  show (rowA m c y1).qa y0 y2 = _
  unfold InRow.qa
  refine congrArg (· * S) ((turned y1 16 112 (Or.inl ⟨rfl, rfl⟩) _ tabA _ y2).trans ?_)
  rw [← zq_eq m c V0 y1 h e ⟨y0.val / 2, by omega⟩ ⟨y0.val % 2, by omega⟩ y0 (by show y0.val = y0.val / 2 * 2 + y0.val % 2; omega)]
  rfl

include e h in
theorem ref16 : Cert.Reference10Ideal.Proj.resKa V0 = G16 m c := by
  funext y; idx_vars y
  refine (Cert.Reference10Ideal.Proj.resKa_at V0 y0 y1 y2).trans (Eq.symm ?_)
  show (rowA m c y1).ka y0 y2 = _
  unfold InRow.ka
  refine (turned y1 16 112 (Or.inl ⟨rfl, rfl⟩) _ tabA _ y2).trans ?_
  rw [← zk_eq m c V0 y1 h e y0]
  rfl

include e in
theorem ref17 : Cert.Reference10Ideal.Proj.resVa V0 = G17 m c := by
  funext y; idx_vars y
  refine (Cert.Reference10Ideal.Proj.resVa_at V0 y0 y1 y2).trans (Eq.symm ?_)
  show (rowA m c y1).va y0 y2 = _
  unfold InRow.va
  rw [col_eq m c V0 y1 e]

include e in
theorem ref20 : Cert.Reference10Ideal.Proj.resVb V0 = G20 m c := by
  funext y; idx_vars y
  refine (Cert.Reference10Ideal.Proj.resVb_at V0 y0 y1 y2).trans (Eq.symm ?_)
  show (rowA m c y1).vb y0 y2 = _
  unfold InRow.vb
  rw [col_eq m c V0 y1 e]

include e in
theorem ref18 : Cert.Reference10Ideal.Proj.resQb V0 = G18 m c := by
  funext y; idx_vars y
  refine (Cert.Reference10Ideal.Proj.resQb_at V0 y0 y1 y2).trans (Eq.symm ?_)
  show (rowA m c y1).qb y0 y2 = _
  unfold InRow.qb
  refine congrArg (· * S) ((turned y1 32 96 (Or.inr ⟨rfl, rfl⟩) _ tabB _ y2).trans ?_)
  rw [← zqb_eq m c V0 y1 e ⟨6 + y0.val / 2, by omega⟩ ⟨y0.val % 2, by omega⟩ y0 (by show 12 + y0.val = (6 + y0.val / 2) * 2 + y0.val % 2; omega)]

include e in
theorem ref19 : Cert.Reference10Ideal.Proj.resKb V0 = G19 m c := by
  funext y; idx_vars y
  refine (Cert.Reference10Ideal.Proj.resKb_at V0 y0 y1 y2).trans (Eq.symm ?_)
  show (rowA m c y1).kb y0 y2 = _
  unfold InRow.kb
  refine (turned y1 32 96 (Or.inr ⟨rfl, rfl⟩) _ tabB _ y2).trans ?_
  rw [← zkb_eq m c V0 y1 e y0]

include e in
theorem ref21 : Cert.Reference10Ideal.Proj.resG V0 = G21 m c := by
  funext y; idx_vars y
  exact (Cert.Reference10Ideal.Proj.resG_at V0 y0 y1).trans (col_eq m c V0 y0 e _)

end Finite

theorem algebraic : Cert.algebraic_Kernel10Ideal_Reference10Ideal_pre_finite_inproj (hKernel10Ideal := Cert.Kernel10Ideal.Gen.facts)
    (hReference10Ideal := Cert.Reference10Ideal.Gen.facts) (hPre_finite_inproj := Cert.Pre_finite_inproj.Gen.facts) := by
  intro m g m' g' hp hm
  refine ⟨fun c => G13 m c, fun c => G14 m c, fun c => G15 m c, fun c => G16 m c, fun c => G17 m c, fun c => G18 m c, fun c => G19 m c, fun c => G20 m c, fun c => G21 m c, ?_, ?_⟩
  · refine (θ_run _ _ _).mono (fun r h c => ?_) (Cert.Kernel10Ideal.Value.run_blocks (F := Ideal) m g)
    obtain ⟨h13, h14, h15, h16, h17, h18, h19, h20, h21, hargs⟩ := h c
    exact ⟨h13.trans (final13 m c), h14.trans (final14 m c), h15.trans (final15 m c), h16.trans (final16 m c), h17.trans (final17 m c), h18.trans (final18 m c), h19.trans (final19 m c), h20.trans (final20 m c), h21.trans (final21 m c), hargs⟩
  · refine (θ_run _ _ _).mono (fun r h c => ?_) (Cert.Reference10Ideal.Value.run (F := Ideal) m' g')
    obtain ⟨h13, h14, h15, h16, h17, h18, h19, h20, h21, hargs⟩ := h c
    obtain ⟨a0, a1, a2, a3, a4, a5⟩ := hm c
    have e : Same m c (StableHlo.launchContents m' c) := ⟨a0, a1, a2, a3, a4, a5⟩
    exact ⟨h13.trans (ref13 m c _ e), h14.trans (ref14 m c _ e), h15.trans (ref15 m c _ hp e), h16.trans (ref16 m c _ hp e), h17.trans (ref17 m c _ e), h18.trans (ref18 m c _ e), h19.trans (ref19 m c _ e), h20.trans (ref20 m c _ e), h21.trans (ref21 m c _ e), hargs⟩

end Cert.Proof.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite
public import proofs.«01_k».proof.Proof.Gen.Pre_finite_qk
public import proofs.«01_k».proof.Proof.Gen.Pre_finite_inproj
public import proofs.«01_k».proof.Proof.QkClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_in
public import proofs.«01_k».proof.Proof.Gen.Pre_finite_mlp
public import proofs.«01_k».proof.Proof.Gen.Pre_finite_loss
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite_fwd
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.MergeClaim
public import proofs.«01_k».proof.Proof.AttnClaim
public import proofs.«01_k».proof.Proof.InClaim
public import proofs.«01_k».proof.Proof.MlpClaim
public import proofs.«01_k».proof.Proof.LossClaim
public import proofs.«01_k».proof.Proof.FwdClaim
public import proofs.«01_k».proof.Proof.PostClaim
public import proofs.«01_k».proof.Proof.MixClaim
public import proofs.«01_k».proof.Proof.ProjClaim
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_Reference : Cert.quiescent_ReferenceIdeal (hReferenceIdeal := Cert.ReferenceIdeal.Gen.facts) := by
  intro m g _
  refine (θ_run _ _ _).mono (fun r h => ⟨fun c => ?_, sem_eq_zero_of_no_sems (by decide) r.2⟩) (Cert.ReferenceIdeal.Value.run m g)
  exact (h c).2.2.2.2.2

theorem frame_Reference2 : Cert.quiescent_Reference2Ideal (hReference2Ideal := Cert.Reference2Ideal.Gen.facts) := by
  intro m g _
  refine (θ_run _ _ _).mono (fun r h => ⟨fun c => ?_, sem_eq_zero_of_no_sems (by decide) r.2⟩) (Cert.Reference2Ideal.Value.run m g)
  exact (h c).2.2.2

theorem frame_Reference3 : Cert.quiescent_Reference3Ideal (hReference3Ideal := Cert.Reference3Ideal.Gen.facts) := by
  intro m g _
  refine (θ_run _ _ _).mono (fun r h => ⟨fun c => ?_, sem_eq_zero_of_no_sems (by decide) r.2⟩) (Cert.Reference3Ideal.Value.run m g)
  exact (h c).2.2

theorem frame_Reference4 : Cert.quiescent_Reference4Ideal (hReference4Ideal := Cert.Reference4Ideal.Gen.facts) := by
  intro m g _
  refine (θ_run _ _ _).mono (fun r h => ⟨fun c => ?_, sem_eq_zero_of_no_sems (by decide) r.2⟩) (Cert.Reference4Ideal.Value.run m g)
  exact (h c).2.2.2

theorem frame_Reference5 : Cert.quiescent_Reference5Ideal (hReference5Ideal := Cert.Reference5Ideal.Gen.facts) := by
  intro m g _
  refine (θ_run _ _ _).mono (fun r h => ⟨fun c => ?_, sem_eq_zero_of_no_sems (by decide) r.2⟩) (Cert.Reference5Ideal.Value.run m g)
  exact (h c).2.2.2.2

theorem frame_Reference6 : Cert.quiescent_Reference6Ideal (hReference6Ideal := Cert.Reference6Ideal.Gen.facts) := by
  intro m g _
  refine (θ_run _ _ _).mono (fun r h => ⟨fun c => ?_, sem_eq_zero_of_no_sems (by decide) r.2⟩) (Cert.Reference6Ideal.Value.run m g)
  exact (h c).2.2.2

theorem frame_Reference7 : Cert.quiescent_Reference7Ideal (hReference7Ideal := Cert.Reference7Ideal.Gen.facts) := by
  intro m g _
  refine (θ_run _ _ _).mono (fun r h => ⟨fun c => ?_, sem_eq_zero_of_no_sems (by decide) r.2⟩) (Cert.Reference7Ideal.Value.run m g)
  exact (h c).2.2

theorem frame_Reference8 : Cert.quiescent_Reference8Ideal (hReference8Ideal := Cert.Reference8Ideal.Gen.facts) := by
  intro m g _
  refine (θ_run _ _ _).mono (fun r h => ⟨fun c => ?_, sem_eq_zero_of_no_sems (by decide) r.2⟩) (Cert.Reference8Ideal.Value.run m g)
  exact (h c).2.2.2.2.2

theorem frame_Reference9 : Cert.quiescent_Reference9Ideal (hReference9Ideal := Cert.Reference9Ideal.Gen.facts) := by
  intro m g _
  refine (θ_run _ _ _).mono (fun r h => ⟨fun c => ?_, sem_eq_zero_of_no_sems (by decide) r.2⟩) (Cert.Reference9Ideal.Value.run m g)
  exact (h c).2.2.2

theorem frame_Reference10 : Cert.quiescent_Reference10Ideal (hReference10Ideal := Cert.Reference10Ideal.Gen.facts) := by
  intro m g _
  refine (θ_run _ _ _).mono (fun r h => ⟨fun c => ?_, sem_eq_zero_of_no_sems (by decide) r.2⟩) (Cert.Reference10Ideal.Value.run m g)
  exact (h c).2.2.2.2.2.2.2.2.2

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Pre_finite.Gen.facts,
  Cert.Pre_finite_in.Gen.facts,
  Cert.Pre_finite_mlp.Gen.facts,
  Cert.Pre_finite_loss.Gen.facts,
  Cert.Pre_finite_fwd.Gen.facts,
  Cert.Pre_finite_qk.Gen.facts,
  Cert.Pre_finite_inproj.Gen.facts,
  fun m ρ _ => Cert.Kernel.Gen.frame m ρ,
  fun m ρ _ => Cert.KernelIdeal.Gen.frame m ρ,
  frame_Reference,
  fun m ρ _ => Cert.Kernel2.Gen.frame m ρ,
  fun m ρ _ => Cert.Kernel2Ideal.Gen.frame m ρ,
  fun m ρ _ => Cert.Kernel2Ideal.Gen.frame m ρ,
  frame_Reference2,
  fun m ρ _ => frame_Reference2 m ρ trivial,
  fun m ρ _ => Cert.Kernel3.Gen.frame m ρ,
  fun m ρ _ => Cert.Kernel3Ideal.Gen.frame m ρ,
  fun m ρ _ => Cert.Kernel3Ideal.Gen.frame m ρ,
  frame_Reference3,
  fun m ρ _ => frame_Reference3 m ρ trivial,
  fun m ρ _ => Cert.Kernel4.Gen.frame m ρ,
  fun m ρ _ => Cert.Kernel4Ideal.Gen.frame m ρ,
  fun m ρ _ => Cert.Kernel4Ideal.Gen.frame m ρ,
  frame_Reference4,
  fun m ρ _ => frame_Reference4 m ρ trivial,
  fun m ρ _ => Cert.Kernel5.Gen.frame m ρ,
  fun m ρ _ => Cert.Kernel5Ideal.Gen.frame m ρ,
  fun m ρ _ => Cert.Kernel5Ideal.Gen.frame m ρ,
  frame_Reference5,
  fun m ρ _ => frame_Reference5 m ρ trivial,
  fun m ρ _ => Cert.Kernel6.Gen.frame m ρ,
  fun m ρ _ => Cert.Kernel6Ideal.Gen.frame m ρ,
  fun m ρ _ => Cert.Kernel6Ideal.Gen.frame m ρ,
  frame_Reference6,
  fun m ρ _ => frame_Reference6 m ρ trivial,
  fun m ρ _ => Cert.Kernel7.Gen.frame m ρ,
  fun m ρ _ => Cert.Kernel7Ideal.Gen.frame m ρ,
  fun m ρ _ => Cert.Kernel7Ideal.Gen.frame m ρ,
  frame_Reference7,
  fun m ρ _ => frame_Reference7 m ρ trivial,
  fun m ρ _ => Cert.Kernel8.Gen.frame m ρ,
  fun m ρ _ => Cert.Kernel8Ideal.Gen.frame m ρ,
  frame_Reference8,
  fun m ρ _ => Cert.Kernel9.Gen.frame m ρ,
  fun m ρ _ => Cert.Kernel9Ideal.Gen.frame m ρ,
  frame_Reference9,
  fun m ρ _ => Cert.Kernel10.Gen.frame m ρ,
  fun m ρ _ => Cert.Kernel10Ideal.Gen.frame m ρ,
  fun m ρ _ => Cert.Kernel10Ideal.Gen.frame m ρ,
  frame_Reference10,
  fun m ρ _ => frame_Reference10 m ρ trivial,
  trivial, Cert.Proof.Merge.algebraic,
  trivial, Cert.Proof.Attn.algebraic,
  trivial, Cert.Proof.InProj.algebraic,
  trivial, Cert.Proof.Mlp.algebraic,
  trivial, Cert.Proof.Loss.algebraic,
  trivial, Cert.Proof.Fwd.algebraic,
  trivial, Cert.Proof.Qk.algebraic,
  trivial, Cert.Proof.Post.algebraic,
  trivial, Cert.Proof.Mix.algebraic,
  trivial, Cert.Proof.Proj.algebraic⟩

end Cert.Proof

end
